-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "fifth" .f32 0x3E4CCCCD#32 ((5⁻¹ : ℝ) : EReal)

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_apart : Cert.Pre_apart.Facts),
    quiescent_Kernel (hKernel := hKernel) (hPre_in_range := hPre_in_range)
    ∧ quiescent_KernelIdeal (hKernelIdeal := hKernelIdeal) (hPre_in_range := hPre_in_range)
    ∧ quiescent_KernelIdeal_pre_apart (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal_pre_apart (hKernelIdeal := hKernelIdeal) (hReferenceIdeal := hReferenceIdeal) (hPre_apart := hPre_apart)
-- ==== Pre_apart.lean ====
abbrev S100000x2 : Shape := ⟨2, ![100000, 2]⟩
abbrev S100x12 : Shape := ⟨2, ![100, 12]⟩
abbrev S3200000x2 : Shape := ⟨2, ![3200000, 2]⟩
abbrev S3200000 : Shape := ⟨1, ![3200000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S3200000x2 : S_.BroadcastsInDim S3200000x2 (![] : Fin 0 → Fin S3200000x2.rank)
  reducesTo_S3200000x2_S_d0_1 : S3200000x2.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg3 : FVec F S3200000 .f32) (main_v14 : IVec S_ 1) (main_cst : FVec F S_ .f32) : IVec S_ 1 :=
  let main_v15 : FVec F S3200000 .f32 := broadcastInDim S3200000 ![] bcast_S_S3200000 main_cst
  let main_v16 : IVec S3200000 1 := cmpf .une main_arg3 main_v15
  let main_c_7 : IVec S_ 1 := constantI S_ 1 1#1
  let main_v17 : IVec S_ 1 := (fun x v => Host.reduce IntOp.andi x v reducesTo_S3200000_S_d0 h_S_) main_v16 main_c_7
  let main_v18 : IVec S_ 1 := andi main_v14 main_v17
  main_v18

def fn {F : FTy → Type} [FloatOps F] (main_arg0 : IVec S100000x2 32) (main_arg1 : FVec F S100x12 .f32) (main_arg2 : IVec S3200000x2 32) (main_arg3 : FVec F S3200000 .f32) : IVec S_ 1 :=
  let main_c : IVec S_ 32 := constantI S_ 32 0#32
  let main_v0 : IVec S100000x2 32 := broadcastInDim S100000x2 ![] bcast_S_S100000x2 main_c
  let main_v1 : IVec S100000x2 1 := cmpi .sge main_arg0 main_v0
  let main_c_0 : IVec S_ 1 := constantI S_ 1 1#1
  let main_v2 : IVec S_ 1 := (fun x v => Host.reduce IntOp.andi x v reducesTo_S100000x2_S_d0_1 h_S_) main_v1 main_c_0
  let main_c_1 : IVec S_ 32 := constantI S_ 32 100#32
  let main_v3 : IVec S100000x2 32 := broadcastInDim S100000x2 ![] bcast_S_S100000x2 main_c_1
  let main_v4 : IVec S100000x2 1 := cmpi .slt main_arg0 main_v3
  let main_c_2 : IVec S_ 1 := constantI S_ 1 1#1
  let main_v5 : IVec S_ 1 := (fun x v => Host.reduce IntOp.andi x v reducesTo_S100000x2_S_d0_1 h_S_) main_v4 main_c_2
  let main_v6 : IVec S_ 1 := andi main_v2 main_v5
  let main_c_3 : IVec S_ 32 := constantI S_ 32 0#32
  let main_v7 : IVec S3200000x2 32 := broadcastInDim S3200000x2 ![] bcast_S_S3200000x2 main_c_3
  let main_v8 : IVec S3200000x2 1 := cmpi .sge main_arg2 main_v7
  let main_c_4 : IVec S_ 1 := constantI S_ 1 1#1
  let main_v9 : IVec S_ 1 := (fun x v => Host.reduce IntOp.andi x v reducesTo_S3200000x2_S_d0_1 h_S_) main_v8 main_c_4
  let main_v10 : IVec S_ 1 := andi main_v6 main_v9
  let main_c_5 : IVec S_ 32 := constantI S_ 32 100000#32
  let main_v11 : IVec S3200000x2 32 := broadcastInDim S3200000x2 ![] bcast_S_S3200000x2 main_c_5
  let main_v12 : IVec S3200000x2 1 := cmpi .slt main_arg2 main_v11
  let main_c_6 : IVec S_ 1 := constantI S_ 1 1#1
  let main_v13 : IVec S_ 1 := (fun x v => Host.reduce IntOp.andi x v reducesTo_S3200000x2_S_d0_1 h_S_) main_v12 main_c_6
  let main_v14 : IVec S_ 1 := andi main_v10 main_v13
  let main_cst : FVec F S_ .f32 := constant S_ .f32 0x00000000#32
  fn_part1 (F := F) main_arg3 main_v14 main_cst
-- ==== Pre_in_range.lean ====
abbrev S100000x2 : Shape := ⟨2, ![100000, 2]⟩
abbrev S100x12 : Shape := ⟨2, ![100, 12]⟩
abbrev S3200000x2 : Shape := ⟨2, ![3200000, 2]⟩
abbrev S3200000 : Shape := ⟨1, ![3200000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S3200000x2 : S_.BroadcastsInDim S3200000x2 (![] : Fin 0 → Fin S3200000x2.rank)
  reducesTo_S3200000x2_S_d0_1 : S3200000x2.ReducesTo [0, 1] S_

variable [Facts]

def fn {F : FTy → Type} [FloatOps F] (main_arg0 : IVec S100000x2 32) (main_arg1 : FVec F S100x12 .f32) (main_arg2 : IVec S3200000x2 32) (main_arg3 : FVec F S3200000 .f32) : IVec S_ 1 :=
  let main_c : IVec S_ 32 := constantI S_ 32 0#32
  let main_v0 : IVec S100000x2 32 := broadcastInDim S100000x2 ![] bcast_S_S100000x2 main_c
  let main_v1 : IVec S100000x2 1 := cmpi .sge main_arg0 main_v0
  let main_c_0 : IVec S_ 1 := constantI S_ 1 1#1
  let main_v2 : IVec S_ 1 := (fun x v => Host.reduce IntOp.andi x v reducesTo_S100000x2_S_d0_1 h_S_) main_v1 main_c_0
  let main_c_1 : IVec S_ 32 := constantI S_ 32 100#32
  let main_v3 : IVec S100000x2 32 := broadcastInDim S100000x2 ![] bcast_S_S100000x2 main_c_1
  let main_v4 : IVec S100000x2 1 := cmpi .slt main_arg0 main_v3
  let main_c_2 : IVec S_ 1 := constantI S_ 1 1#1
  let main_v5 : IVec S_ 1 := (fun x v => Host.reduce IntOp.andi x v reducesTo_S100000x2_S_d0_1 h_S_) main_v4 main_c_2
  let main_v6 : IVec S_ 1 := andi main_v2 main_v5
  let main_c_3 : IVec S_ 32 := constantI S_ 32 0#32
  let main_v7 : IVec S3200000x2 32 := broadcastInDim S3200000x2 ![] bcast_S_S3200000x2 main_c_3
  let main_v8 : IVec S3200000x2 1 := cmpi .sge main_arg2 main_v7
  let main_c_4 : IVec S_ 1 := constantI S_ 1 1#1
  let main_v9 : IVec S_ 1 := (fun x v => Host.reduce IntOp.andi x v reducesTo_S3200000x2_S_d0_1 h_S_) main_v8 main_c_4
  let main_v10 : IVec S_ 1 := andi main_v6 main_v9
  let main_c_5 : IVec S_ 32 := constantI S_ 32 100000#32
  let main_v11 : IVec S3200000x2 32 := broadcastInDim S3200000x2 ![] bcast_S_S3200000x2 main_c_5
  let main_v12 : IVec S3200000x2 1 := cmpi .slt main_arg2 main_v11
  let main_c_6 : IVec S_ 1 := constantI S_ 1 1#1
  let main_v13 : IVec S_ 1 := (fun x v => Host.reduce IntOp.andi x v reducesTo_S3200000x2_S_d0_1 h_S_) main_v12 main_c_6
  let main_v14 : IVec S_ 1 := andi main_v10 main_v13
  main_v14
-- ==== Kernel.lean ====
abbrev S100000x2 : Shape := ⟨2, ![100000, 2]⟩
abbrev S100x12 : Shape := ⟨2, ![100, 12]⟩
abbrev S3200000x2 : Shape := ⟨2, ![3200000, 2]⟩
abbrev S3200000 : Shape := ⟨1, ![3200000]⟩
abbrev S100000x1 : Shape := ⟨2, ![100000, 1]⟩
abbrev S100000 : Shape := ⟨1, ![100000]⟩
abbrev S_ : Shape := ⟨0, ![]⟩
abbrev S100352 : Shape := ⟨1, ![100352]⟩
abbrev S1x100352 : Shape := ⟨2, ![1, 100352]⟩
abbrev S100x16 : Shape := ⟨2, ![100, 16]⟩
abbrev S3200000x1 : Shape := ⟨2, ![3200000, 1]⟩
abbrev S1x3200000 : Shape := ⟨2, ![1, 3200000]⟩
abbrev S100352x16 : Shape := ⟨2, ![100352, 16]⟩
abbrev S2x1x512 : Shape := ⟨3, ![2, 1, 512]⟩
abbrev S2 : Shape := ⟨1, ![2]⟩
abbrev S2x512x16 : Shape := ⟨3, ![2, 512, 16]⟩
abbrev S1x1x512 : Shape := ⟨3, ![1, 1, 512]⟩
abbrev S1x512 : Shape := ⟨2, ![1, 512]⟩
abbrev S1 : Shape := ⟨1, ![1]⟩
abbrev S1x512x16 : Shape := ⟨3, ![1, 512, 16]⟩
abbrev S512x16 : Shape := ⟨2, ![512, 16]⟩
abbrev S512 : Shape := ⟨1, ![512]⟩
abbrev S1x640000 : Shape := ⟨2, ![1, 640000]⟩
abbrev S640000x27 : Shape := ⟨2, ![640000, 27]⟩
abbrev S1024x16 : Shape := ⟨2, ![1024, 16]⟩
abbrev S1024 : Shape := ⟨1, ![1024]⟩
abbrev S16 : Shape := ⟨1, ![16]⟩
abbrev S2x1x1024 : Shape := ⟨3, ![2, 1, 1024]⟩
abbrev S2x1024x27 : Shape := ⟨3, ![2, 1024, 27]⟩
abbrev S1x1x1024 : Shape := ⟨3, ![1, 1, 1024]⟩
abbrev S1x1024 : Shape := ⟨2, ![1, 1024]⟩
abbrev S1x1024x27 : Shape := ⟨3, ![1, 1024, 27]⟩
abbrev S1024x27 : Shape := ⟨2, ![1024, 27]⟩
abbrev S3200000x27 : Shape := ⟨2, ![3200000, 27]⟩

abbrev nBuf : Table → Nat
  | .hbm => 44
  | .local .scVector .vmem => 37
  | _ => 0

abbrev bufTy : (tb : Table) → Fin (nBuf tb) → BufTy
  | .hbm, ⟨0, _⟩ => ⟨S100000x2, .i32⟩
  | .hbm, ⟨1, _⟩ => ⟨S100x12, .f32⟩
  | .hbm, ⟨2, _⟩ => ⟨S3200000x2, .i32⟩
  | .hbm, ⟨3, _⟩ => ⟨S3200000, .f32⟩
  | .hbm, ⟨4, _⟩ => ⟨S100000x1, .i32⟩
  | .hbm, ⟨5, _⟩ => ⟨S100000, .i32⟩
  | .hbm, ⟨6, _⟩ => ⟨S_, .i32⟩
  | .hbm, ⟨7, _⟩ => ⟨S_, .i32⟩
  | .hbm, ⟨8, _⟩ => ⟨S100352, .i32⟩
  | .hbm, ⟨9, _⟩ => ⟨S1x100352, .i32⟩
  | .hbm, ⟨10, _⟩ => ⟨S_, .i32⟩
  | .hbm, ⟨11, _⟩ => ⟨S_, .f32⟩
  | .hbm, ⟨12, _⟩ => ⟨S100x16, .f32⟩
  | .hbm, ⟨13, _⟩ => ⟨S3200000x1, .i32⟩
  | .hbm, ⟨14, _⟩ => ⟨S3200000, .i32⟩
  | .hbm, ⟨15, _⟩ => ⟨S1x3200000, .i32⟩
  | .hbm, ⟨16, _⟩ => ⟨S3200000x1, .i32⟩
  | .hbm, ⟨17, _⟩ => ⟨S3200000, .i32⟩
  | .hbm, ⟨18, _⟩ => ⟨S1x3200000, .i32⟩
  | .hbm, ⟨19, _⟩ => ⟨S1x3200000, .f32⟩
  | .hbm, ⟨20, _⟩ => ⟨S100352x16, .f32⟩
  | .hbm, ⟨21, _⟩ => ⟨S1x640000, .i32⟩
  | .hbm, ⟨22, _⟩ => ⟨S1x640000, .i32⟩
  | .hbm, ⟨23, _⟩ => ⟨S1x640000, .f32⟩
  | .hbm, ⟨24, _⟩ => ⟨S640000x27, .f32⟩
  | .hbm, ⟨25, _⟩ => ⟨S1x640000, .i32⟩
  | .hbm, ⟨26, _⟩ => ⟨S1x640000, .i32⟩
  | .hbm, ⟨27, _⟩ => ⟨S1x640000, .f32⟩
  | .hbm, ⟨28, _⟩ => ⟨S640000x27, .f32⟩
  | .hbm, ⟨29, _⟩ => ⟨S1x640000, .i32⟩
  | .hbm, ⟨30, _⟩ => ⟨S1x640000, .i32⟩
  | .hbm, ⟨31, _⟩ => ⟨S1x640000, .f32⟩
  | .hbm, ⟨32, _⟩ => ⟨S640000x27, .f32⟩
  | .hbm, ⟨33, _⟩ => ⟨S1x640000, .i32⟩
  | .hbm, ⟨34, _⟩ => ⟨S1x640000, .i32⟩
  | .hbm, ⟨35, _⟩ => ⟨S1x640000, .f32⟩
  | .hbm, ⟨36, _⟩ => ⟨S640000x27, .f32⟩
  | .hbm, ⟨37, _⟩ => ⟨S1x640000, .i32⟩
  | .hbm, ⟨38, _⟩ => ⟨S1x640000, .i32⟩
  | .hbm, ⟨39, _⟩ => ⟨S1x640000, .f32⟩
  | .hbm, ⟨40, _⟩ => ⟨S640000x27, .f32⟩
  | .hbm, ⟨41, _⟩ => ⟨S3200000x27, .f32⟩
  | .hbm, ⟨42, _⟩ => ⟨S3200000x1, .i32⟩
  | .hbm, ⟨43, _⟩ => ⟨S3200000, .i32⟩
  | .local .scVector .vmem, ⟨0, _⟩ => ⟨S2x1x512, .i32⟩
  | .local .scVector .vmem, ⟨1, _⟩ => ⟨S2x512x16, .f32⟩
  | .local .scVector .vmem, ⟨2, _⟩ => ⟨S1024x16, .f32⟩
  | .local .scVector .vmem, ⟨3, _⟩ => ⟨S1024x16, .f32⟩
  | .local .scVector .vmem, ⟨4, _⟩ => ⟨S1024, .f32⟩
  | .local .scVector .vmem, ⟨5, _⟩ => ⟨S2x1x1024, .i32⟩
  | .local .scVector .vmem, ⟨6, _⟩ => ⟨S2x1x1024, .i32⟩
  | .local .scVector .vmem, ⟨7, _⟩ => ⟨S2x1x1024, .f32⟩
  | .local .scVector .vmem, ⟨8, _⟩ => ⟨S2x1024x27, .f32⟩
  | .local .scVector .vmem, ⟨9, _⟩ => ⟨S1024x16, .f32⟩
  | .local .scVector .vmem, ⟨10, _⟩ => ⟨S1024x16, .f32⟩
  | .local .scVector .vmem, ⟨11, _⟩ => ⟨S1024, .f32⟩
  | .local .scVector .vmem, ⟨12, _⟩ => ⟨S2x1x1024, .i32⟩
  | .local .scVector .vmem, ⟨13, _⟩ => ⟨S2x1x1024, .i32⟩
  | .local .scVector .vmem, ⟨14, _⟩ => ⟨S2x1x1024, .f32⟩
  | .local .scVector .vmem, ⟨15, _⟩ => ⟨S2x1024x27, .f32⟩
  | .local .scVector .vmem, ⟨16, _⟩ => ⟨S1024x16, .f32⟩
  | .local .scVector .vmem, ⟨17, _⟩ => ⟨S1024x16, .f32⟩
  | .local .scVector .vmem, ⟨18, _⟩ => ⟨S1024, .f32⟩
  | .local .scVector .vmem, ⟨19, _⟩ => ⟨S2x1x1024, .i32⟩
  | .local .scVector .vmem, ⟨20, _⟩ => ⟨S2x1x1024, .i32⟩
  | .local .scVector .vmem, ⟨21, _⟩ => ⟨S2x1x1024, .f32⟩
  | .local .scVector .vmem, ⟨22, _⟩ => ⟨S2x1024x27, .f32⟩
  | .local .scVector .vmem, ⟨23, _⟩ => ⟨S1024x16, .f32⟩
  | .local .scVector .vmem, ⟨24, _⟩ => ⟨S1024x16, .f32⟩
  | .local .scVector .vmem, ⟨25, _⟩ => ⟨S1024, .f32⟩
  | .local .scVector .vmem, ⟨26, _⟩ => ⟨S2x1x1024, .i32⟩
  | .local .scVector .vmem, ⟨27, _⟩ => ⟨S2x1x1024, .i32⟩
  | .local .scVector .vmem, ⟨28, _⟩ => ⟨S2x1x1024, .f32⟩
  | .local .scVector .vmem, ⟨29, _⟩ => ⟨S2x1024x27, .f32⟩
  | .local .scVector .vmem, ⟨30, _⟩ => ⟨S1024x16, .f32⟩
  | .local .scVector .vmem, ⟨31, _⟩ => ⟨S1024x16, .f32⟩
  | .local .scVector .vmem, ⟨32, _⟩ => ⟨S1024, .f32⟩
  | .local .scVector .vmem, ⟨33, _⟩ => ⟨S2x1x1024, .i32⟩
  | .local .scVector .vmem, ⟨34, _⟩ => ⟨S2x1x1024, .i32⟩
  | .local .scVector .vmem, ⟨35, _⟩ => ⟨S2x1x1024, .f32⟩
  | .local .scVector .vmem, ⟨36, _⟩ => ⟨S2x1024x27, .f32⟩
  | _, _ => ⟨S100000x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 56 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | _ => false

abbrev sig : RefSig :=
  ofTables nBuf rfl bufTy 4 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v4_scv : Ref sig .scVector := ⟨.hbm, 12, rfl⟩
abbrev main_v3_scv : Ref sig .scVector := ⟨.hbm, 9, rfl⟩
abbrev main_v12_scv : Ref sig .scVector := ⟨.hbm, 20, rfl⟩
abbrev main_v13_scv : Ref sig .scVector := ⟨.hbm, 21, rfl⟩
abbrev main_v14_scv : Ref sig .scVector := ⟨.hbm, 22, rfl⟩
abbrev main_v15_scv : Ref sig .scVector := ⟨.hbm, 23, rfl⟩
abbrev main_v16_scv : Ref sig .scVector := ⟨.hbm, 24, rfl⟩
abbrev main_v17_scv : Ref sig .scVector := ⟨.hbm, 25, rfl⟩
abbrev main_v18_scv : Ref sig .scVector := ⟨.hbm, 26, rfl⟩
abbrev main_v19_scv : Ref sig .scVector := ⟨.hbm, 27, rfl⟩
abbrev main_v20_scv : Ref sig .scVector := ⟨.hbm, 28, rfl⟩
abbrev main_v21_scv : Ref sig .scVector := ⟨.hbm, 29, rfl⟩
abbrev main_v22_scv : Ref sig .scVector := ⟨.hbm, 30, rfl⟩
abbrev main_v23_scv : Ref sig .scVector := ⟨.hbm, 31, rfl⟩
abbrev main_v24_scv : Ref sig .scVector := ⟨.hbm, 32, rfl⟩
abbrev main_v25_scv : Ref sig .scVector := ⟨.hbm, 33, rfl⟩
abbrev main_v26_scv : Ref sig .scVector := ⟨.hbm, 34, rfl⟩
abbrev main_v27_scv : Ref sig .scVector := ⟨.hbm, 35, rfl⟩
abbrev main_v28_scv : Ref sig .scVector := ⟨.hbm, 36, rfl⟩
abbrev main_v29_scv : Ref sig .scVector := ⟨.hbm, 37, rfl⟩
abbrev main_v30_scv : Ref sig .scVector := ⟨.hbm, 38, rfl⟩
abbrev main_v31_scv : Ref sig .scVector := ⟨.hbm, 39, rfl⟩
abbrev main_v32_scv : Ref sig .scVector := ⟨.hbm, 40, rfl⟩
abbrev cc0_scoped0 : Ref sig .scVector := ⟨.vmem, 0, rfl⟩
abbrev cc0_scoped2 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc1_scoped0 : Ref sig .scVector := ⟨.vmem, 5, rfl⟩
abbrev cc1_scoped2 : Ref sig .scVector := ⟨.vmem, 6, rfl⟩
abbrev cc1_scoped4 : Ref sig .scVector := ⟨.vmem, 7, rfl⟩
abbrev cc1_scoped6 : Ref sig .scVector := ⟨.vmem, 8, rfl⟩
abbrev cc2_scratch0 : Ref sig .scVector := ⟨.vmem, 9, rfl⟩
abbrev cc2_scratch1 : Ref sig .scVector := ⟨.vmem, 10, rfl⟩
abbrev cc2_scratch2 : Ref sig .scVector := ⟨.vmem, 11, rfl⟩
abbrev cc2_scoped0 : Ref sig .scVector := ⟨.vmem, 12, rfl⟩
abbrev cc2_scoped2 : Ref sig .scVector := ⟨.vmem, 13, rfl⟩
abbrev cc2_scoped4 : Ref sig .scVector := ⟨.vmem, 14, rfl⟩
abbrev cc2_scoped6 : Ref sig .scVector := ⟨.vmem, 15, rfl⟩
abbrev cc3_scratch0 : Ref sig .scVector := ⟨.vmem, 16, rfl⟩
abbrev cc3_scratch1 : Ref sig .scVector := ⟨.vmem, 17, rfl⟩
abbrev cc3_scratch2 : Ref sig .scVector := ⟨.vmem, 18, rfl⟩
abbrev cc3_scoped0 : Ref sig .scVector := ⟨.vmem, 19, rfl⟩
abbrev cc3_scoped2 : Ref sig .scVector := ⟨.vmem, 20, rfl⟩
abbrev cc3_scoped4 : Ref sig .scVector := ⟨.vmem, 21, rfl⟩
abbrev cc3_scoped6 : Ref sig .scVector := ⟨.vmem, 22, rfl⟩
abbrev cc4_scratch0 : Ref sig .scVector := ⟨.vmem, 23, rfl⟩
abbrev cc4_scratch1 : Ref sig .scVector := ⟨.vmem, 24, rfl⟩
abbrev cc4_scratch2 : Ref sig .scVector := ⟨.vmem, 25, rfl⟩
abbrev cc4_scoped0 : Ref sig .scVector := ⟨.vmem, 26, rfl⟩
abbrev cc4_scoped2 : Ref sig .scVector := ⟨.vmem, 27, rfl⟩
abbrev cc4_scoped4 : Ref sig .scVector := ⟨.vmem, 28, rfl⟩
abbrev cc4_scoped6 : Ref sig .scVector := ⟨.vmem, 29, rfl⟩
abbrev cc5_scratch0 : Ref sig .scVector := ⟨.vmem, 30, rfl⟩
abbrev cc5_scratch1 : Ref sig .scVector := ⟨.vmem, 31, rfl⟩
abbrev cc5_scratch2 : Ref sig .scVector := ⟨.vmem, 32, rfl⟩
abbrev cc5_scoped0 : Ref sig .scVector := ⟨.vmem, 33, rfl⟩
abbrev cc5_scoped2 : Ref sig .scVector := ⟨.vmem, 34, rfl⟩
abbrev cc5_scoped4 : Ref sig .scVector := ⟨.vmem, 35, rfl⟩
abbrev cc5_scoped6 : Ref sig .scVector := ⟨.vmem, 36, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k0_off2 (i : grid0.Coords) : Fin 2 → Nat :=
  let c0_i32_59_r0 : BitVec 32 := 0#32
  let c512_i32_r0 : BitVec 32 := 512#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v20_r0 : BitVec 32 := Scalar.addi c0_i32_10_r0 v10
  let v81_r0 : BitVec 32 := Scalar.muli c512_i32_r0 v20_r0
  ![0, v81_r0.toNat]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg10_r0 : BitVec 32) : Fin 2 → Nat :=
  let c0_i32_104_r0 : BitVec 32 := 0#32
  let c512_i32_r0 : BitVec 32 := 512#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_66_r0 : BitVec 32 := 0#32
  let v94_r0 : BitVec 32 := Scalar.select v93_r0 c0_i32_66_r0 v92_r0
  let c4_i32_0 : BitVec 32 := 4#32
  let v6 : BitVec 1 := Scalar.cmpi .slt v3 c4_i32_0
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v95_r0 : BitVec 32 := Scalar.addi v94_r0 v10
  let v168_r0 : BitVec 32 := Scalar.muli c512_i32_r0 v95_r0
  ![0, v168_r0.toNat]
def k0_off6 (arg6_r0 : BitVec 32) : Fin 1 → Nat :=
  let c2_i32_101_r0 : BitVec 32 := 2#32
  let v167_r0 : BitVec 32 := Scalar.remui arg6_r0 c2_i32_101_r0
  ![v167_r0.toNat]
def k0_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg10_r0 : BitVec 32) : Fin 2 → Nat :=
  let c0_i32_104_r0 : BitVec 32 := 0#32
  let c512_i32_r0 : BitVec 32 := 512#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let v167_r0 : BitVec 32 := Scalar.muli c512_i32_r0 v84_r0
  ![0, v167_r0.toNat]
def k0_off9 (arg7_r0 : BitVec 32) : Fin 1 → Nat :=
  let c2_i32_101_r0 : BitVec 32 := 2#32
  let v168_r0 : BitVec 32 := Scalar.remui arg7_r0 c2_i32_101_r0
  ![v168_r0.toNat]
def k0_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x512x16.size a ≤ S2x512x16.size a)
theorem k0_off10_inb : ∀ (i : grid0.Coords) (arg8_r0 : BitVec 32) (k0_hw2 : k0_chk2 i arg8_r0), ∀ (k0_h1 : k0_cond1 i = 1#1), ∀ a, (k0_off10 arg8_r0) a + S1x512x16.size a ≤ S2x512x16.size a := fun i arg8_r0 k0_hw2 k0_h1 => k0_hw2 k0_h1

def k0_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x512.size a ≤ S2x1x512.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x512.size a ≤ S2x1x512.size a := fun i arg7_r0 k0_hw3 k0_h1 => k0_hw3 k0_h1

def k0_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off13 (i : grid0.Coords) (arg10_r0 : BitVec 32) : Fin 2 → Nat :=
  let c512_i32_r0 : BitVec 32 := 512#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let v168_r0 : BitVec 32 := Scalar.muli c512_i32_r0 v84_r0
  let c0_i32_104_r0 : BitVec 32 := 0#32
  ![v168_r0.toNat, 0]
def k0_off14 (arg8_r0 : BitVec 32) : Fin 1 → Nat :=
  let c2_i32_101_r0 : BitVec 32 := 2#32
  let v167_r0 : BitVec 32 := Scalar.remui arg8_r0 c2_i32_101_r0
  ![v167_r0.toNat]
def k0_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off16 (i : grid0.Coords) (arg10_r0 : BitVec 32) : Fin 2 → Nat :=
  let c512_i32_r0 : BitVec 32 := 512#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let c1_i32_63_r0 : BitVec 32 := 1#32
  let v88_r0 : BitVec 32 := Scalar.subi v5 c1_i32_63_r0
  let v89_r0 : BitVec 32 := Scalar.select v87_r0 v88_r0 v86_r0
  let c4_i32_0 : BitVec 32 := 4#32
  let v6 : BitVec 1 := Scalar.cmpi .slt v3 c4_i32_0
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v90_r0 : BitVec 32 := Scalar.addi v89_r0 v10
  let v168_r0 : BitVec 32 := Scalar.muli c512_i32_r0 v90_r0
  let c0_i32_104_r0 : BitVec 32 := 0#32
  ![v168_r0.toNat, 0]
def k0_off17 (arg9_r0 : BitVec 32) : Fin 1 → Nat :=
  let c2_i32_101_r0 : BitVec 32 := 2#32
  let v167_r0 : BitVec 32 := Scalar.remui arg9_r0 c2_i32_101_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x512.size a ≤ S2x1x512.size a) ∧
  (∀ (k0_h1 : k0_cond1 i = 1#1), ∀ (k0_h3 : k0_cond3 i k0_t1 arg10_r0 = 1#1), ∀ a, (k0_off5 i arg10_r0) a + S1x512.size a ≤ S1x100352.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x512.size a ≤ S2x1x512.size a) ∧
  (∀ (k0_h1 : k0_cond1 i = 1#1), ∀ (k0_h4 : k0_cond4 i k0_t1 arg10_r0 = 1#1), ∀ a, (k0_off8 i arg10_r0) a + S1x512.size a ≤ S1x100352.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x512x16.size a ≤ S2x512x16.size a) ∧
  (∀ (k0_h1 : k0_cond1 i = 1#1), ∀ (k0_h7 : k0_cond7 i k0_t1 arg10_r0 = 1#1), ∀ a, (k0_off13 i arg10_r0) a + S512x16.size a ≤ S100352x16.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x512x16.size a ≤ S2x512x16.size a) ∧
  (∀ (k0_h1 : k0_cond1 i = 1#1), ∀ (k0_h9 : k0_cond9 i k0_t1 arg10_r0 = 1#1), ∀ a, (k0_off16 i arg10_r0) a + S512x16.size a ≤ S100352x16.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x512.size a ≤ S2x1x512.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x512.size a ≤ S1x100352.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x512.size a ≤ S2x1x512.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x512.size a ≤ S1x100352.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x512x16.size a ≤ S2x512x16.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S512x16.size a ≤ S100352x16.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x512x16.size a ≤ S2x512x16.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S512x16.size a ≤ S100352x16.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg10_r0 : BitVec 32) : Fin 2 → Nat :=
  let c0_i32_104_r0 : BitVec 32 := 0#32
  let c512_i32_r0 : BitVec 32 := 512#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_66_r0 : BitVec 32 := 0#32
  let v94_r0 : BitVec 32 := Scalar.select v93_r0 c0_i32_66_r0 v92_r0
  let c4_i32_0 : BitVec 32 := 4#32
  let v6 : BitVec 1 := Scalar.cmpi .slt v3 c4_i32_0
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v95_r0 : BitVec 32 := Scalar.addi v94_r0 v10
  let v168_r0 : BitVec 32 := Scalar.muli c512_i32_r0 v95_r0
  ![0, v168_r0.toNat]
def k0_off20 (arg6_r0 : BitVec 32) : Fin 1 → Nat :=
  let c2_i32_101_r0 : BitVec 32 := 2#32
  let v167_r0 : BitVec 32 := Scalar.remui arg6_r0 c2_i32_101_r0
  ![v167_r0.toNat]
def k0_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg10_r0 : BitVec 32) : Fin 2 → Nat :=
  let c0_i32_104_r0 : BitVec 32 := 0#32
  let c512_i32_r0 : BitVec 32 := 512#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let v167_r0 : BitVec 32 := Scalar.muli c512_i32_r0 v84_r0
  ![0, v167_r0.toNat]
def k0_off23 (arg7_r0 : BitVec 32) : Fin 1 → Nat :=
  let c2_i32_101_r0 : BitVec 32 := 2#32
  let v168_r0 : BitVec 32 := Scalar.remui arg7_r0 c2_i32_101_r0
  ![v168_r0.toNat]
def k0_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x512x16.size a ≤ S2x512x16.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x512x16.size a ≤ S2x512x16.size a := fun i k0_t2 arg8_r0 k0_hw5 k0_h1 => k0_hw5 k0_h1

def k0_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x512.size a ≤ S2x1x512.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x512.size a ≤ S2x1x512.size a := fun i k0_t2 arg7_r0 k0_hw6 k0_h1 => k0_hw6 k0_h1

def k0_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off27 (i : grid0.Coords) (arg10_r0 : BitVec 32) : Fin 2 → Nat :=
  let c512_i32_r0 : BitVec 32 := 512#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let v168_r0 : BitVec 32 := Scalar.muli c512_i32_r0 v84_r0
  let c0_i32_104_r0 : BitVec 32 := 0#32
  ![v168_r0.toNat, 0]
def k0_off28 (arg8_r0 : BitVec 32) : Fin 1 → Nat :=
  let c2_i32_101_r0 : BitVec 32 := 2#32
  let v167_r0 : BitVec 32 := Scalar.remui arg8_r0 c2_i32_101_r0
  ![v167_r0.toNat]
def k0_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off30 (i : grid0.Coords) (arg10_r0 : BitVec 32) : Fin 2 → Nat :=
  let c512_i32_r0 : BitVec 32 := 512#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let c1_i32_63_r0 : BitVec 32 := 1#32
  let v88_r0 : BitVec 32 := Scalar.subi v5 c1_i32_63_r0
  let v89_r0 : BitVec 32 := Scalar.select v87_r0 v88_r0 v86_r0
  let c4_i32_0 : BitVec 32 := 4#32
  let v6 : BitVec 1 := Scalar.cmpi .slt v3 c4_i32_0
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v90_r0 : BitVec 32 := Scalar.addi v89_r0 v10
  let v168_r0 : BitVec 32 := Scalar.muli c512_i32_r0 v90_r0
  let c0_i32_104_r0 : BitVec 32 := 0#32
  ![v168_r0.toNat, 0]
def k0_off31 (arg9_r0 : BitVec 32) : Fin 1 → Nat :=
  let c2_i32_101_r0 : BitVec 32 := 2#32
  let v167_r0 : BitVec 32 := Scalar.remui arg9_r0 c2_i32_101_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x512.size a ≤ S2x1x512.size a) ∧
  (∀ (k0_h1 : k0_cond1 i = 1#1), ∀ (k0_h10 : k0_cond10 i k0_t2 arg10_r0 = 1#1), ∀ a, (k0_off19 i arg10_r0) a + S1x512.size a ≤ S1x100352.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x512.size a ≤ S2x1x512.size a) ∧
  (∀ (k0_h1 : k0_cond1 i = 1#1), ∀ (k0_h11 : k0_cond11 i k0_t2 arg10_r0 = 1#1), ∀ a, (k0_off22 i arg10_r0) a + S1x512.size a ≤ S1x100352.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x512x16.size a ≤ S2x512x16.size a) ∧
  (∀ (k0_h1 : k0_cond1 i = 1#1), ∀ (k0_h14 : k0_cond14 i k0_t2 arg10_r0 = 1#1), ∀ a, (k0_off27 i arg10_r0) a + S512x16.size a ≤ S100352x16.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x512x16.size a ≤ S2x512x16.size a) ∧
  (∀ (k0_h1 : k0_cond1 i = 1#1), ∀ (k0_h16 : k0_cond16 i k0_t2 arg10_r0 = 1#1), ∀ a, (k0_off30 i arg10_r0) a + S512x16.size a ≤ S100352x16.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x512.size a ≤ S2x1x512.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x512.size a ≤ S1x100352.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x512.size a ≤ S2x1x512.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x512.size a ≤ S1x100352.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x512x16.size a ≤ S2x512x16.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S512x16.size a ≤ S100352x16.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x512x16.size a ≤ S2x512x16.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S512x16.size a ≤ S100352x16.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c512_i32_r0 : BitVec 32 := 512#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c7_i32 : BitVec 32 := 7#32
  let c6_i32 : BitVec 32 := 6#32
  let v5 : BitVec 32 := Scalar.select v4 c7_i32 c6_i32
  let c1_i32_40_r0 : BitVec 32 := 1#32
  let v52_r0 : BitVec 32 := Scalar.subi v5 c1_i32_40_r0
  let v53_r0 : BitVec 32 := Scalar.select v51_r0 v52_r0 v50_r0
  let c4_i32_0 : BitVec 32 := 4#32
  let v6 : BitVec 1 := Scalar.cmpi .slt v3 c4_i32_0
  let v7 : BitVec 32 := Scalar.muli v3 v5
  let c6_i32_1 : BitVec 32 := 6#32
  let v8 : BitVec 32 := Scalar.muli v3 c6_i32_1
  let c4_i32_2 : BitVec 32 := 4#32
  let v9 : BitVec 32 := Scalar.addi v8 c4_i32_2
  let v10 : BitVec 32 := Scalar.select v6 v7 v9
  let v59_r0 : BitVec 32 := Scalar.addi v53_r0 v10
  let v81_r0 : BitVec 32 := Scalar.muli c512_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S512x16.size a ≤ S100352x16.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S512x16.size a ≤ S100352x16.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x512x16.size a ≤ S2x512x16.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x512x16.size a ≤ S2x512x16.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x512x16.size a ≤ S2x512x16.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x512x16.size a ≤ S2x512x16.size a := fun i v48_3_r0 k0_hw7 k0_h1 k0_h18 => k0_hw7.2.2 k0_h1 k0_h18

abbrev grid1 : Pipeline.Grid := ⟨2, ![2, 16], ![false, false]⟩

def k1_cond1 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c0_i32_7_r0 : BitVec 32 := 0#32
  let v19_r0 : BitVec 1 := Scalar.cmpi .sgt v14 c0_i32_7_r0
  let v20_r0 : BitVec 32 := Scalar.extui v19_r0
  let c0_i32_8_r0 : BitVec 32 := 0#32
  let v21_r0 : BitVec 1 := Scalar.cmpi .ne v20_r0 c0_i32_8_r0
  v21_r0

def k1_cond2 (i : grid1.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_23_r0 : BitVec 32 := 0#32
  let v40_r0 : BitVec 1 := Scalar.cmpi .sgt v22_r0 c0_i32_23_r0
  let v41_r0 : BitVec 1 := Scalar.andi true_24_r0 v40_r0
  let true_25_r0 : BitVec 1 := 1#1
  let v42_r0 : BitVec 1 := Scalar.andi v41_r0 true_25_r0
  let v43_r0 : BitVec 32 := Scalar.extui v42_r0
  let c0_i32_27_r0 : BitVec 32 := 0#32
  let v44_r0 : BitVec 1 := Scalar.cmpi .ne v43_r0 c0_i32_27_r0
  v44_r0

def k1_off1 : Fin 3 → Nat :=
  let c0_i32_26_r0 : BitVec 32 := 0#32
  let c2_i32_r0 : BitVec 32 := 2#32
  let v103_r0 : BitVec 32 := Scalar.remui c0_i32_26_r0 c2_i32_r0
  let c0_i32_79_r0 : BitVec 32 := 0#32
  let c0_i32_80_r0 : BitVec 32 := 0#32
  ![v103_r0.toNat, 0, 0]
def k1_off2 (i : grid1.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k1_off3 : Fin 1 → Nat :=
  let c0_i32_26_r0 : BitVec 32 := 0#32
  let c2_i32_r0 : BitVec 32 := 2#32
  let v103_r0 : BitVec 32 := Scalar.remui c0_i32_26_r0 c2_i32_r0
  ![v103_r0.toNat]
def k1_cond3 (i : grid1.Coords) : BitVec 1 :=
  let true_32_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_31_r0 : BitVec 32 := 0#32
  let v47_r0 : BitVec 1 := Scalar.cmpi .sgt v22_r0 c0_i32_31_r0
  let v48_r0 : BitVec 1 := Scalar.andi true_32_r0 v47_r0
  let true_33_r0 : BitVec 1 := 1#1
  let v49_r0 : BitVec 1 := Scalar.andi v48_r0 true_33_r0
  let v50_r0 : BitVec 32 := Scalar.extui v49_r0
  let c0_i32_35_r0 : BitVec 32 := 0#32
  let v51_r0 : BitVec 1 := Scalar.cmpi .ne v50_r0 c0_i32_35_r0
  v51_r0

def k1_off4 : Fin 3 → Nat :=
  let c0_i32_34_r0 : BitVec 32 := 0#32
  let c2_i32_r0 : BitVec 32 := 2#32
  let v103_r0 : BitVec 32 := Scalar.remui c0_i32_34_r0 c2_i32_r0
  let c0_i32_79_r0 : BitVec 32 := 0#32
  let c0_i32_80_r0 : BitVec 32 := 0#32
  ![v103_r0.toNat, 0, 0]
def k1_off5 (i : grid1.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k1_off6 : Fin 1 → Nat :=
  let c0_i32_34_r0 : BitVec 32 := 0#32
  let c2_i32_r0 : BitVec 32 := 2#32
  let v103_r0 : BitVec 32 := Scalar.remui c0_i32_34_r0 c2_i32_r0
  ![v103_r0.toNat]
def k1_cond4 (i : grid1.Coords) : BitVec 1 :=
  let true_40_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_39_r0 : BitVec 32 := 0#32
  let v54_r0 : BitVec 1 := Scalar.cmpi .sgt v22_r0 c0_i32_39_r0
  let v55_r0 : BitVec 1 := Scalar.andi true_40_r0 v54_r0
  let true_41_r0 : BitVec 1 := 1#1
  let v56_r0 : BitVec 1 := Scalar.andi v55_r0 true_41_r0
  let v57_r0 : BitVec 32 := Scalar.extui v56_r0
  let c0_i32_43_r0 : BitVec 32 := 0#32
  let v58_r0 : BitVec 1 := Scalar.cmpi .ne v57_r0 c0_i32_43_r0
  v58_r0

def k1_off7 : Fin 3 → Nat :=
  let c0_i32_42_r0 : BitVec 32 := 0#32
  let c2_i32_r0 : BitVec 32 := 2#32
  let v103_r0 : BitVec 32 := Scalar.remui c0_i32_42_r0 c2_i32_r0
  let c0_i32_79_r0 : BitVec 32 := 0#32
  let c0_i32_80_r0 : BitVec 32 := 0#32
  ![v103_r0.toNat, 0, 0]
def k1_off8 (i : grid1.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k1_off9 : Fin 1 → Nat :=
  let c0_i32_42_r0 : BitVec 32 := 0#32
  let c2_i32_r0 : BitVec 32 := 2#32
  let v103_r0 : BitVec 32 := Scalar.remui c0_i32_42_r0 c2_i32_r0
  ![v103_r0.toNat]
@[reducible] def k1_t1_loop (i : grid1.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_55_r0 : BitVec 32 := 1#32
  ⟨c0_i32_47_r0, v65_r0, c1_i32_55_r0⟩
def k1_off10 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k1_cond5 (i : grid1.Coords) (k1_t1 : Fin (k1_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k1_t1
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k1_off11 (i : grid1.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k1_off12 (arg13_r0 : BitVec 32) : Fin 1 → Nat :=
  let c2_i32_184_r0 : BitVec 32 := 2#32
  let v280_r0 : BitVec 32 := Scalar.remui arg13_r0 c2_i32_184_r0
  ![v280_r0.toNat]
def k1_off13 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k1_cond6 (i : grid1.Coords) (k1_t1 : Fin (k1_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k1_t1
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k1_off14 (i : grid1.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k1_off15 (arg15_r0 : BitVec 32) : Fin 1 → Nat :=
  let c2_i32_184_r0 : BitVec 32 := 2#32
  let v280_r0 : BitVec 32 := Scalar.remui arg15_r0 c2_i32_184_r0
  ![v280_r0.toNat]
def k1_off16 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k1_cond7 (i : grid1.Coords) (k1_t1 : Fin (k1_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k1_t1
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k1_off17 (i : grid1.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k1_off18 (arg17_r0 : BitVec 32) : Fin 1 → Nat :=
  let c2_i32_184_r0 : BitVec 32 := 2#32
  let v280_r0 : BitVec 32 := Scalar.remui arg17_r0 c2_i32_184_r0
  ![v280_r0.toNat]
def k1_off19 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k1_cond8 (i : grid1.Coords) (k1_t1 : Fin (k1_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k1_t1
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k1_off20 (i : grid1.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k1_off21 (arg14_r0 : BitVec 32) : Fin 1 → Nat :=
  let c2_i32_185_r0 : BitVec 32 := 2#32
  let v281_r0 : BitVec 32 := Scalar.remui arg14_r0 c2_i32_185_r0
  ![v281_r0.toNat]
def k1_off22 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k1_cond9 (i : grid1.Coords) (k1_t1 : Fin (k1_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k1_t1
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k1_off23 (i : grid1.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k1_off24 (arg16_r0 : BitVec 32) : Fin 1 → Nat :=
  let c2_i32_185_r0 : BitVec 32 := 2#32
  let v281_r0 : BitVec 32 := Scalar.remui arg16_r0 c2_i32_185_r0
  ![v281_r0.toNat]
def k1_off25 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k1_cond10 (i : grid1.Coords) (k1_t1 : Fin (k1_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k1_t1
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k1_off26 (i : grid1.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k1_off27 (arg18_r0 : BitVec 32) : Fin 1 → Nat :=
  let c2_i32_185_r0 : BitVec 32 := 2#32
  let v281_r0 : BitVec 32 := Scalar.remui arg18_r0 c2_i32_185_r0
  ![v281_r0.toNat]
def k1_off28 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k1_chk2 (i : grid1.Coords) (arg14_r0 : BitVec 32) : Prop :=
  (∀ (k1_h1 : k1_cond1 i = 1#1), ∀ a, (k1_off28 arg14_r0) a + S1x1x1024.size a ≤ S2x1x1024.size a)
theorem k1_off28_inb : ∀ (i : grid1.Coords) (arg14_r0 : BitVec 32) (k1_hw2 : k1_chk2 i arg14_r0), ∀ (k1_h1 : k1_cond1 i = 1#1), ∀ a, (k1_off28 arg14_r0) a + S1x1x1024.size a ≤ S2x1x1024.size a := fun i arg14_r0 k1_hw2 k1_h1 => k1_hw2 k1_h1

def k1_off29 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k1_chk3 (i : grid1.Coords) (arg16_r0 : BitVec 32) : Prop :=
  (∀ (k1_h1 : k1_cond1 i = 1#1), ∀ a, (k1_off29 arg16_r0) a + S1x1x1024.size a ≤ S2x1x1024.size a)
theorem k1_off29_inb : ∀ (i : grid1.Coords) (arg16_r0 : BitVec 32) (k1_hw3 : k1_chk3 i arg16_r0), ∀ (k1_h1 : k1_cond1 i = 1#1), ∀ a, (k1_off29 arg16_r0) a + S1x1x1024.size a ≤ S2x1x1024.size a := fun i arg16_r0 k1_hw3 k1_h1 => k1_hw3 k1_h1

@[reducible] def k1_t2_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k1_off30 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k1_chk4 (i : grid1.Coords) (arg18_r0 : BitVec 32) : Prop :=
  (∀ (k1_h1 : k1_cond1 i = 1#1), ∀ a, (k1_off30 arg18_r0) a + S1x1x1024.size a ≤ S2x1x1024.size a)
theorem k1_off30_inb : ∀ (i : grid1.Coords) (arg18_r0 : BitVec 32) (k1_hw4 : k1_chk4 i arg18_r0), ∀ (k1_h1 : k1_cond1 i = 1#1), ∀ a, (k1_off30 arg18_r0) a + S1x1x1024.size a ≤ S2x1x1024.size a := fun i arg18_r0 k1_hw4 k1_h1 => k1_hw4 k1_h1

def k1_off31 (k1_t2 : Fin k1_t2_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k1_t2
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k1_off32 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k1_chk6 (i : grid1.Coords) (v293_r0 : IVec S16 32) (v295_r0 : IVec S16 32) : Prop :=
  (∀ (k1_h1 : k1_cond1 i = 1#1), ∀ a x, ((![v293_r0, v295_r0] : Fin 2 → IVec S16 32) a x).toNat < S1024x27.size a)
theorem k1_idx1_inb : ∀ (i : grid1.Coords) (v293_r0 : IVec S16 32) (v295_r0 : IVec S16 32) (k1_hw6 : k1_chk6 i v293_r0 v295_r0), ∀ (k1_h1 : k1_cond1 i = 1#1), ∀ a x, ((![v293_r0, v295_r0] : Fin 2 → IVec S16 32) a x).toNat < S1024x27.size a := fun i v293_r0 v295_r0 k1_hw6 k1_h1 => k1_hw6 k1_h1
def k1_off33 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k1_chk7 (i : grid1.Coords) (v293_r0 : IVec S16 32) (v299_r0 : IVec S16 32) : Prop :=
  (∀ (k1_h1 : k1_cond1 i = 1#1), ∀ a x, ((![v293_r0, v299_r0] : Fin 2 → IVec S16 32) a x).toNat < S1024x27.size a)
theorem k1_idx2_inb : ∀ (i : grid1.Coords) (v293_r0 : IVec S16 32) (v299_r0 : IVec S16 32) (k1_hw7 : k1_chk7 i v293_r0 v299_r0), ∀ (k1_h1 : k1_cond1 i = 1#1), ∀ a x, ((![v293_r0, v299_r0] : Fin 2 → IVec S16 32) a x).toNat < S1024x27.size a := fun i v293_r0 v299_r0 k1_hw7 k1_h1 => k1_hw7 k1_h1
def k1_off34 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k1_chk8 (i : grid1.Coords) (v293_r0 : IVec S16 32) (v306_r0 : IVec S16 32) : Prop :=
  (∀ (k1_h1 : k1_cond1 i = 1#1), ∀ a x, ((![v293_r0, v306_r0] : Fin 2 → IVec S16 32) a x).toNat < S1024x27.size a)
theorem k1_idx3_inb : ∀ (i : grid1.Coords) (v293_r0 : IVec S16 32) (v306_r0 : IVec S16 32) (k1_hw8 : k1_chk8 i v293_r0 v306_r0), ∀ (k1_h1 : k1_cond1 i = 1#1), ∀ a x, ((![v293_r0, v306_r0] : Fin 2 → IVec S16 32) a x).toNat < S1024x27.size a := fun i v293_r0 v306_r0 k1_hw8 k1_h1 => k1_hw8 k1_h1
@[reducible] def k1_t3_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k1_chk9 (i : grid1.Coords) (v0 : IVec S16 32) (v282_r0 : IVec S16 32) : Prop :=
  (∀ (k1_h1 : k1_cond1 i = 1#1), ∀ a x, ((![v282_r0, v0] : Fin 2 → IVec S16 32) a x).toNat < S1024x16.size a) ∧
  (∀ (k1_h1 : k1_cond1 i = 1#1), ∀ a x, ((![v282_r0, v0] : Fin 2 → IVec S16 32) a x).toNat < S1024x16.size a) ∧
  (∀ (k1_h1 : k1_cond1 i = 1#1), ∀ a x, ((![v282_r0] : Fin 1 → IVec S16 32) a x).toNat < S1024.size a)
theorem k1_idx4_inb : ∀ (i : grid1.Coords) (v0 : IVec S16 32) (v282_r0 : IVec S16 32) (k1_hw9 : k1_chk9 i v0 v282_r0), ∀ (k1_h1 : k1_cond1 i = 1#1), ∀ a x, ((![v282_r0, v0] : Fin 2 → IVec S16 32) a x).toNat < S1024x16.size a := fun i v0 v282_r0 k1_hw9 k1_h1 => k1_hw9.1 k1_h1
theorem k1_idx5_inb : ∀ (i : grid1.Coords) (v0 : IVec S16 32) (v282_r0 : IVec S16 32) (k1_hw9 : k1_chk9 i v0 v282_r0), ∀ (k1_h1 : k1_cond1 i = 1#1), ∀ a x, ((![v282_r0, v0] : Fin 2 → IVec S16 32) a x).toNat < S1024x16.size a := fun i v0 v282_r0 k1_hw9 k1_h1 => k1_hw9.2.1 k1_h1
theorem k1_idx6_inb : ∀ (i : grid1.Coords) (v0 : IVec S16 32) (v282_r0 : IVec S16 32) (k1_hw9 : k1_chk9 i v0 v282_r0), ∀ (k1_h1 : k1_cond1 i = 1#1), ∀ a x, ((![v282_r0] : Fin 1 → IVec S16 32) a x).toNat < S1024.size a := fun i v0 v282_r0 k1_hw9 k1_h1 => k1_hw9.2.2 k1_h1
def k1_off35 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k1_chk10 (i : grid1.Coords) (v282_r0 : IVec S16 32) (v287_r0 : IVec S16 32) : Prop :=
  (∀ (k1_h1 : k1_cond1 i = 1#1), ∀ a x, ((![v282_r0, v287_r0] : Fin 2 → IVec S16 32) a x).toNat < S1024x27.size a)
theorem k1_idx7_inb : ∀ (i : grid1.Coords) (v282_r0 : IVec S16 32) (v287_r0 : IVec S16 32) (k1_hw10 : k1_chk10 i v282_r0 v287_r0), ∀ (k1_h1 : k1_cond1 i = 1#1), ∀ a x, ((![v282_r0, v287_r0] : Fin 2 → IVec S16 32) a x).toNat < S1024x27.size a := fun i v282_r0 v287_r0 k1_hw10 k1_h1 => k1_hw10 k1_h1
def k1_off36 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k1_chk5 (i : grid1.Coords) (arg19_r0 : BitVec 32) : Prop :=
  (∀ (k1_h1 : k1_cond1 i = 1#1), ∀ a, (k1_off32 arg19_r0) a + S1x1024x27.size a ≤ S2x1024x27.size a) ∧
  (∀ (k1_h1 : k1_cond1 i = 1#1), ∀ a, (k1_off33 arg19_r0) a + S1x1024x27.size a ≤ S2x1024x27.size a) ∧
  (∀ (k1_h1 : k1_cond1 i = 1#1), ∀ a, (k1_off34 arg19_r0) a + S1x1024x27.size a ≤ S2x1024x27.size a) ∧
  (∀ (k1_h1 : k1_cond1 i = 1#1), ∀ a, (k1_off35 arg19_r0) a + S1x1024x27.size a ≤ S2x1024x27.size a) ∧
  (∀ (k1_h1 : k1_cond1 i = 1#1), ∀ a, (k1_off36 arg19_r0) a + S1x1024x27.size a ≤ S2x1024x27.size a)
theorem k1_off32_inb : ∀ (i : grid1.Coords) (arg19_r0 : BitVec 32) (k1_hw5 : k1_chk5 i arg19_r0), ∀ (k1_h1 : k1_cond1 i = 1#1), ∀ a, (k1_off32 arg19_r0) a + S1x1024x27.size a ≤ S2x1024x27.size a := fun i arg19_r0 k1_hw5 k1_h1 => k1_hw5.1 k1_h1
theorem k1_off33_inb : ∀ (i : grid1.Coords) (arg19_r0 : BitVec 32) (k1_hw5 : k1_chk5 i arg19_r0), ∀ (k1_h1 : k1_cond1 i = 1#1), ∀ a, (k1_off33 arg19_r0) a + S1x1024x27.size a ≤ S2x1024x27.size a := fun i arg19_r0 k1_hw5 k1_h1 => k1_hw5.2.1 k1_h1
theorem k1_off34_inb : ∀ (i : grid1.Coords) (arg19_r0 : BitVec 32) (k1_hw5 : k1_chk5 i arg19_r0), ∀ (k1_h1 : k1_cond1 i = 1#1), ∀ a, (k1_off34 arg19_r0) a + S1x1024x27.size a ≤ S2x1024x27.size a := fun i arg19_r0 k1_hw5 k1_h1 => k1_hw5.2.2.1 k1_h1
theorem k1_off35_inb : ∀ (i : grid1.Coords) (arg19_r0 : BitVec 32) (k1_hw5 : k1_chk5 i arg19_r0), ∀ (k1_h1 : k1_cond1 i = 1#1), ∀ a, (k1_off35 arg19_r0) a + S1x1024x27.size a ≤ S2x1024x27.size a := fun i arg19_r0 k1_hw5 k1_h1 => k1_hw5.2.2.2.1 k1_h1
theorem k1_off36_inb : ∀ (i : grid1.Coords) (arg19_r0 : BitVec 32) (k1_hw5 : k1_chk5 i arg19_r0), ∀ (k1_h1 : k1_cond1 i = 1#1), ∀ a, (k1_off36 arg19_r0) a + S1x1024x27.size a ≤ S2x1024x27.size a := fun i arg19_r0 k1_hw5 k1_h1 => k1_hw5.2.2.2.2 k1_h1

def k1_chk11 (i : grid1.Coords) (v282_r0 : IVec S16 32) (v293_r0 : IVec S16 32) : Prop :=
  (∀ (k1_h1 : k1_cond1 i = 1#1), ∀ a x, ((![v282_r0, v293_r0] : Fin 2 → IVec S16 32) a x).toNat < S1024x27.size a)
theorem k1_idx8_inb : ∀ (i : grid1.Coords) (v282_r0 : IVec S16 32) (v293_r0 : IVec S16 32) (k1_hw11 : k1_chk11 i v282_r0 v293_r0), ∀ (k1_h1 : k1_cond1 i = 1#1), ∀ a x, ((![v282_r0, v293_r0] : Fin 2 → IVec S16 32) a x).toNat < S1024x27.size a := fun i v282_r0 v293_r0 k1_hw11 k1_h1 => k1_hw11 k1_h1
def k1_off37 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k1_cond15 (i : grid1.Coords) (k1_t1 : Fin (k1_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k1_t1
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k1_off38 (i : grid1.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k1_off39 (arg19_r0 : BitVec 32) : Fin 1 → Nat :=
  let c2_i32_184_r0 : BitVec 32 := 2#32
  let v280_r0 : BitVec 32 := Scalar.remui arg19_r0 c2_i32_184_r0
  ![v280_r0.toNat]
def k1_off40 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k1_cond19 (i : grid1.Coords) (k1_t1 : Fin (k1_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k1_t1
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k1_off41 (i : grid1.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k1_off42 (arg20_r0 : BitVec 32) : Fin 1 → Nat :=
  let c2_i32_184_r0 : BitVec 32 := 2#32
  let v280_r0 : BitVec 32 := Scalar.remui arg20_r0 c2_i32_184_r0
  ![v280_r0.toNat]

def k1_chk1 (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k1_h1 : k1_cond1 i = 1#1), ∀ (k1_h5 : k1_cond5 i k1_t1 arg21_r0 = 1#1), ∀ a, (k1_off10 arg13_r0) a + S1x1x1024.size a ≤ S2x1x1024.size a) ∧
  (∀ (k1_h1 : k1_cond1 i = 1#1), ∀ (k1_h5 : k1_cond5 i k1_t1 arg21_r0 = 1#1), ∀ a, (k1_off11 i arg21_r0) a + S1x1024.size a ≤ S1x640000.size a) ∧
  (∀ (k1_h1 : k1_cond1 i = 1#1), ∀ (k1_h5 : k1_cond5 i k1_t1 arg21_r0 = 1#1), ∀ a, (k1_off12 arg13_r0) a + S1.size a ≤ S2.size a) ∧
  (∀ (k1_h1 : k1_cond1 i = 1#1), ∀ (k1_h6 : k1_cond6 i k1_t1 arg21_r0 = 1#1), ∀ a, (k1_off13 arg15_r0) a + S1x1x1024.size a ≤ S2x1x1024.size a) ∧
  (∀ (k1_h1 : k1_cond1 i = 1#1), ∀ (k1_h6 : k1_cond6 i k1_t1 arg21_r0 = 1#1), ∀ a, (k1_off14 i arg21_r0) a + S1x1024.size a ≤ S1x640000.size a) ∧
  (∀ (k1_h1 : k1_cond1 i = 1#1), ∀ (k1_h6 : k1_cond6 i k1_t1 arg21_r0 = 1#1), ∀ a, (k1_off15 arg15_r0) a + S1.size a ≤ S2.size a) ∧
  (∀ (k1_h1 : k1_cond1 i = 1#1), ∀ (k1_h7 : k1_cond7 i k1_t1 arg21_r0 = 1#1), ∀ a, (k1_off16 arg17_r0) a + S1x1x1024.size a ≤ S2x1x1024.size a) ∧
  (∀ (k1_h1 : k1_cond1 i = 1#1), ∀ (k1_h7 : k1_cond7 i k1_t1 arg21_r0 = 1#1), ∀ a, (k1_off17 i arg21_r0) a + S1x1024.size a ≤ S1x640000.size a) ∧
  (∀ (k1_h1 : k1_cond1 i = 1#1), ∀ (k1_h7 : k1_cond7 i k1_t1 arg21_r0 = 1#1), ∀ a, (k1_off18 arg17_r0) a + S1.size a ≤ S2.size a) ∧
  (∀ (k1_h1 : k1_cond1 i = 1#1), ∀ (k1_h8 : k1_cond8 i k1_t1 arg21_r0 = 1#1), ∀ a, (k1_off19 arg14_r0) a + S1x1x1024.size a ≤ S2x1x1024.size a) ∧
  (∀ (k1_h1 : k1_cond1 i = 1#1), ∀ (k1_h8 : k1_cond8 i k1_t1 arg21_r0 = 1#1), ∀ a, (k1_off20 i arg21_r0) a + S1x1024.size a ≤ S1x640000.size a) ∧
  (∀ (k1_h1 : k1_cond1 i = 1#1), ∀ (k1_h8 : k1_cond8 i k1_t1 arg21_r0 = 1#1), ∀ a, (k1_off21 arg14_r0) a + S1.size a ≤ S2.size a) ∧
  (∀ (k1_h1 : k1_cond1 i = 1#1), ∀ (k1_h9 : k1_cond9 i k1_t1 arg21_r0 = 1#1), ∀ a, (k1_off22 arg16_r0) a + S1x1x1024.size a ≤ S2x1x1024.size a) ∧
  (∀ (k1_h1 : k1_cond1 i = 1#1), ∀ (k1_h9 : k1_cond9 i k1_t1 arg21_r0 = 1#1), ∀ a, (k1_off23 i arg21_r0) a + S1x1024.size a ≤ S1x640000.size a) ∧
  (∀ (k1_h1 : k1_cond1 i = 1#1), ∀ (k1_h9 : k1_cond9 i k1_t1 arg21_r0 = 1#1), ∀ a, (k1_off24 arg16_r0) a + S1.size a ≤ S2.size a) ∧
  (∀ (k1_h1 : k1_cond1 i = 1#1), ∀ (k1_h10 : k1_cond10 i k1_t1 arg21_r0 = 1#1), ∀ a, (k1_off25 arg18_r0) a + S1x1x1024.size a ≤ S2x1x1024.size a) ∧
  (∀ (k1_h1 : k1_cond1 i = 1#1), ∀ (k1_h10 : k1_cond10 i k1_t1 arg21_r0 = 1#1), ∀ a, (k1_off26 i arg21_r0) a + S1x1024.size a ≤ S1x640000.size a) ∧
  (∀ (k1_h1 : k1_cond1 i = 1#1), ∀ (k1_h10 : k1_cond10 i k1_t1 arg21_r0 = 1#1), ∀ a, (k1_off27 arg18_r0) a + S1.size a ≤ S2.size a) ∧
  (∀ (k1_h1 : k1_cond1 i = 1#1), ∀ (k1_h15 : k1_cond15 i k1_t1 arg21_r0 = 1#1), ∀ a, (k1_off37 arg19_r0) a + S1x1024x27.size a ≤ S2x1024x27.size a) ∧
  (∀ (k1_h1 : k1_cond1 i = 1#1), ∀ (k1_h15 : k1_cond15 i k1_t1 arg21_r0 = 1#1), ∀ a, (k1_off38 i arg21_r0) a + S1024x27.size a ≤ S640000x27.size a) ∧
  (∀ (k1_h1 : k1_cond1 i = 1#1), ∀ (k1_h15 : k1_cond15 i k1_t1 arg21_r0 = 1#1), ∀ a, (k1_off39 arg19_r0) a + S1.size a ≤ S2.size a) ∧
  (∀ (k1_h1 : k1_cond1 i = 1#1), ∀ (k1_h19 : k1_cond19 i k1_t1 arg21_r0 = 1#1), ∀ a, (k1_off40 arg20_r0) a + S1x1024x27.size a ≤ S2x1024x27.size a) ∧
  (∀ (k1_h1 : k1_cond1 i = 1#1), ∀ (k1_h19 : k1_cond19 i k1_t1 arg21_r0 = 1#1), ∀ a, (k1_off41 i arg21_r0) a + S1024x27.size a ≤ S640000x27.size a) ∧
  (∀ (k1_h1 : k1_cond1 i = 1#1), ∀ (k1_h19 : k1_cond19 i k1_t1 arg21_r0 = 1#1), ∀ a, (k1_off42 arg20_r0) a + S1.size a ≤ S2.size a)
theorem k1_off10_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h5 : k1_cond5 i k1_t1 arg21_r0 = 1#1), ∀ a, (k1_off10 arg13_r0) a + S1x1x1024.size a ≤ S2x1x1024.size a := fun i k1_t1 arg13_r0 arg14_r0 arg15_r0 arg16_r0 arg17_r0 arg18_r0 arg19_r0 arg20_r0 arg21_r0 k1_hw1 k1_h1 k1_h5 => k1_hw1.1 k1_h1 k1_h5
theorem k1_off11_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h5 : k1_cond5 i k1_t1 arg21_r0 = 1#1), ∀ a, (k1_off11 i arg21_r0) a + S1x1024.size a ≤ S1x640000.size a := fun i k1_t1 arg13_r0 arg14_r0 arg15_r0 arg16_r0 arg17_r0 arg18_r0 arg19_r0 arg20_r0 arg21_r0 k1_hw1 k1_h1 k1_h5 => k1_hw1.2.1 k1_h1 k1_h5
theorem k1_off12_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h5 : k1_cond5 i k1_t1 arg21_r0 = 1#1), ∀ a, (k1_off12 arg13_r0) a + S1.size a ≤ S2.size a := fun i k1_t1 arg13_r0 arg14_r0 arg15_r0 arg16_r0 arg17_r0 arg18_r0 arg19_r0 arg20_r0 arg21_r0 k1_hw1 k1_h1 k1_h5 => k1_hw1.2.2.1 k1_h1 k1_h5
theorem k1_off13_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h6 : k1_cond6 i k1_t1 arg21_r0 = 1#1), ∀ a, (k1_off13 arg15_r0) a + S1x1x1024.size a ≤ S2x1x1024.size a := fun i k1_t1 arg13_r0 arg14_r0 arg15_r0 arg16_r0 arg17_r0 arg18_r0 arg19_r0 arg20_r0 arg21_r0 k1_hw1 k1_h1 k1_h6 => k1_hw1.2.2.2.1 k1_h1 k1_h6
theorem k1_off14_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h6 : k1_cond6 i k1_t1 arg21_r0 = 1#1), ∀ a, (k1_off14 i arg21_r0) a + S1x1024.size a ≤ S1x640000.size a := fun i k1_t1 arg13_r0 arg14_r0 arg15_r0 arg16_r0 arg17_r0 arg18_r0 arg19_r0 arg20_r0 arg21_r0 k1_hw1 k1_h1 k1_h6 => k1_hw1.2.2.2.2.1 k1_h1 k1_h6
theorem k1_off15_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h6 : k1_cond6 i k1_t1 arg21_r0 = 1#1), ∀ a, (k1_off15 arg15_r0) a + S1.size a ≤ S2.size a := fun i k1_t1 arg13_r0 arg14_r0 arg15_r0 arg16_r0 arg17_r0 arg18_r0 arg19_r0 arg20_r0 arg21_r0 k1_hw1 k1_h1 k1_h6 => k1_hw1.2.2.2.2.2.1 k1_h1 k1_h6
theorem k1_off16_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h7 : k1_cond7 i k1_t1 arg21_r0 = 1#1), ∀ a, (k1_off16 arg17_r0) a + S1x1x1024.size a ≤ S2x1x1024.size a := fun i k1_t1 arg13_r0 arg14_r0 arg15_r0 arg16_r0 arg17_r0 arg18_r0 arg19_r0 arg20_r0 arg21_r0 k1_hw1 k1_h1 k1_h7 => k1_hw1.2.2.2.2.2.2.1 k1_h1 k1_h7
theorem k1_off17_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h7 : k1_cond7 i k1_t1 arg21_r0 = 1#1), ∀ a, (k1_off17 i arg21_r0) a + S1x1024.size a ≤ S1x640000.size a := fun i k1_t1 arg13_r0 arg14_r0 arg15_r0 arg16_r0 arg17_r0 arg18_r0 arg19_r0 arg20_r0 arg21_r0 k1_hw1 k1_h1 k1_h7 => k1_hw1.2.2.2.2.2.2.2.1 k1_h1 k1_h7
theorem k1_off18_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h7 : k1_cond7 i k1_t1 arg21_r0 = 1#1), ∀ a, (k1_off18 arg17_r0) a + S1.size a ≤ S2.size a := fun i k1_t1 arg13_r0 arg14_r0 arg15_r0 arg16_r0 arg17_r0 arg18_r0 arg19_r0 arg20_r0 arg21_r0 k1_hw1 k1_h1 k1_h7 => k1_hw1.2.2.2.2.2.2.2.2.1 k1_h1 k1_h7
theorem k1_off19_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h8 : k1_cond8 i k1_t1 arg21_r0 = 1#1), ∀ a, (k1_off19 arg14_r0) a + S1x1x1024.size a ≤ S2x1x1024.size a := fun i k1_t1 arg13_r0 arg14_r0 arg15_r0 arg16_r0 arg17_r0 arg18_r0 arg19_r0 arg20_r0 arg21_r0 k1_hw1 k1_h1 k1_h8 => k1_hw1.2.2.2.2.2.2.2.2.2.1 k1_h1 k1_h8
theorem k1_off20_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h8 : k1_cond8 i k1_t1 arg21_r0 = 1#1), ∀ a, (k1_off20 i arg21_r0) a + S1x1024.size a ≤ S1x640000.size a := fun i k1_t1 arg13_r0 arg14_r0 arg15_r0 arg16_r0 arg17_r0 arg18_r0 arg19_r0 arg20_r0 arg21_r0 k1_hw1 k1_h1 k1_h8 => k1_hw1.2.2.2.2.2.2.2.2.2.2.1 k1_h1 k1_h8
theorem k1_off21_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h8 : k1_cond8 i k1_t1 arg21_r0 = 1#1), ∀ a, (k1_off21 arg14_r0) a + S1.size a ≤ S2.size a := fun i k1_t1 arg13_r0 arg14_r0 arg15_r0 arg16_r0 arg17_r0 arg18_r0 arg19_r0 arg20_r0 arg21_r0 k1_hw1 k1_h1 k1_h8 => k1_hw1.2.2.2.2.2.2.2.2.2.2.2.1 k1_h1 k1_h8
theorem k1_off22_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h9 : k1_cond9 i k1_t1 arg21_r0 = 1#1), ∀ a, (k1_off22 arg16_r0) a + S1x1x1024.size a ≤ S2x1x1024.size a := fun i k1_t1 arg13_r0 arg14_r0 arg15_r0 arg16_r0 arg17_r0 arg18_r0 arg19_r0 arg20_r0 arg21_r0 k1_hw1 k1_h1 k1_h9 => k1_hw1.2.2.2.2.2.2.2.2.2.2.2.2.1 k1_h1 k1_h9
theorem k1_off23_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h9 : k1_cond9 i k1_t1 arg21_r0 = 1#1), ∀ a, (k1_off23 i arg21_r0) a + S1x1024.size a ≤ S1x640000.size a := fun i k1_t1 arg13_r0 arg14_r0 arg15_r0 arg16_r0 arg17_r0 arg18_r0 arg19_r0 arg20_r0 arg21_r0 k1_hw1 k1_h1 k1_h9 => k1_hw1.2.2.2.2.2.2.2.2.2.2.2.2.2.1 k1_h1 k1_h9
theorem k1_off24_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h9 : k1_cond9 i k1_t1 arg21_r0 = 1#1), ∀ a, (k1_off24 arg16_r0) a + S1.size a ≤ S2.size a := fun i k1_t1 arg13_r0 arg14_r0 arg15_r0 arg16_r0 arg17_r0 arg18_r0 arg19_r0 arg20_r0 arg21_r0 k1_hw1 k1_h1 k1_h9 => k1_hw1.2.2.2.2.2.2.2.2.2.2.2.2.2.2.1 k1_h1 k1_h9
theorem k1_off25_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h10 : k1_cond10 i k1_t1 arg21_r0 = 1#1), ∀ a, (k1_off25 arg18_r0) a + S1x1x1024.size a ≤ S2x1x1024.size a := fun i k1_t1 arg13_r0 arg14_r0 arg15_r0 arg16_r0 arg17_r0 arg18_r0 arg19_r0 arg20_r0 arg21_r0 k1_hw1 k1_h1 k1_h10 => k1_hw1.2.2.2.2.2.2.2.2.2.2.2.2.2.2.2.1 k1_h1 k1_h10
theorem k1_off26_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h10 : k1_cond10 i k1_t1 arg21_r0 = 1#1), ∀ a, (k1_off26 i arg21_r0) a + S1x1024.size a ≤ S1x640000.size a := fun i k1_t1 arg13_r0 arg14_r0 arg15_r0 arg16_r0 arg17_r0 arg18_r0 arg19_r0 arg20_r0 arg21_r0 k1_hw1 k1_h1 k1_h10 => k1_hw1.2.2.2.2.2.2.2.2.2.2.2.2.2.2.2.2.1 k1_h1 k1_h10
theorem k1_off27_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h10 : k1_cond10 i k1_t1 arg21_r0 = 1#1), ∀ a, (k1_off27 arg18_r0) a + S1.size a ≤ S2.size a := fun i k1_t1 arg13_r0 arg14_r0 arg15_r0 arg16_r0 arg17_r0 arg18_r0 arg19_r0 arg20_r0 arg21_r0 k1_hw1 k1_h1 k1_h10 => k1_hw1.2.2.2.2.2.2.2.2.2.2.2.2.2.2.2.2.2.1 k1_h1 k1_h10
theorem k1_off37_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h15 : k1_cond15 i k1_t1 arg21_r0 = 1#1), ∀ a, (k1_off37 arg19_r0) a + S1x1024x27.size a ≤ S2x1024x27.size a := fun i k1_t1 arg13_r0 arg14_r0 arg15_r0 arg16_r0 arg17_r0 arg18_r0 arg19_r0 arg20_r0 arg21_r0 k1_hw1 k1_h1 k1_h15 => k1_hw1.2.2.2.2.2.2.2.2.2.2.2.2.2.2.2.2.2.2.1 k1_h1 k1_h15
theorem k1_off38_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h15 : k1_cond15 i k1_t1 arg21_r0 = 1#1), ∀ a, (k1_off38 i arg21_r0) a + S1024x27.size a ≤ S640000x27.size a := fun i k1_t1 arg13_r0 arg14_r0 arg15_r0 arg16_r0 arg17_r0 arg18_r0 arg19_r0 arg20_r0 arg21_r0 k1_hw1 k1_h1 k1_h15 => k1_hw1.2.2.2.2.2.2.2.2.2.2.2.2.2.2.2.2.2.2.2.1 k1_h1 k1_h15
theorem k1_off39_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h15 : k1_cond15 i k1_t1 arg21_r0 = 1#1), ∀ a, (k1_off39 arg19_r0) a + S1.size a ≤ S2.size a := fun i k1_t1 arg13_r0 arg14_r0 arg15_r0 arg16_r0 arg17_r0 arg18_r0 arg19_r0 arg20_r0 arg21_r0 k1_hw1 k1_h1 k1_h15 => k1_hw1.2.2.2.2.2.2.2.2.2.2.2.2.2.2.2.2.2.2.2.2.1 k1_h1 k1_h15
theorem k1_off40_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h19 : k1_cond19 i k1_t1 arg21_r0 = 1#1), ∀ a, (k1_off40 arg20_r0) a + S1x1024x27.size a ≤ S2x1024x27.size a := fun i k1_t1 arg13_r0 arg14_r0 arg15_r0 arg16_r0 arg17_r0 arg18_r0 arg19_r0 arg20_r0 arg21_r0 k1_hw1 k1_h1 k1_h19 => k1_hw1.2.2.2.2.2.2.2.2.2.2.2.2.2.2.2.2.2.2.2.2.2.1 k1_h1 k1_h19
theorem k1_off41_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h19 : k1_cond19 i k1_t1 arg21_r0 = 1#1), ∀ a, (k1_off41 i arg21_r0) a + S1024x27.size a ≤ S640000x27.size a := fun i k1_t1 arg13_r0 arg14_r0 arg15_r0 arg16_r0 arg17_r0 arg18_r0 arg19_r0 arg20_r0 arg21_r0 k1_hw1 k1_h1 k1_h19 => k1_hw1.2.2.2.2.2.2.2.2.2.2.2.2.2.2.2.2.2.2.2.2.2.2.1 k1_h1 k1_h19
theorem k1_off42_inb : ∀ (i : grid1.Coords) (k1_t1 : Fin (k1_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw1 : k1_chk1 i k1_t1 arg13_r0 arg14_r0 arg15_r0 arg16_r0 arg17_r0 arg18_r0 arg19_r0 arg20_r0 arg21_r0), ∀ (k1_h1 : k1_cond1 i = 1#1), ∀ (k1_h19 : k1_cond19 i k1_t1 arg21_r0 = 1#1), ∀ a, (k1_off42 arg20_r0) a + S1.size a ≤ S2.size a := fun i k1_t1 arg13_r0 arg14_r0 arg15_r0 arg16_r0 arg17_r0 arg18_r0 arg19_r0 arg20_r0 arg21_r0 k1_hw1 k1_h1 k1_h19 => k1_hw1.2.2.2.2.2.2.2.2.2.2.2.2.2.2.2.2.2.2.2.2.2.2.2 k1_h1 k1_h19

@[reducible] def k1_t4_loop (i : grid1.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let v62_r0 : BitVec 32 := Scalar.addi c0_i32_47_r0 v61_r0
  let c1_i32_56_r0 : BitVec 32 := 1#32
  ⟨v65_r0, v62_r0, c1_i32_56_r0⟩
def k1_off43 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k1_cond20 (i : grid1.Coords) (k1_t4 : Fin (k1_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k1_t4
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k1_off44 (i : grid1.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k1_off45 (arg13_r0 : BitVec 32) : Fin 1 → Nat :=
  let c2_i32_184_r0 : BitVec 32 := 2#32
  let v280_r0 : BitVec 32 := Scalar.remui arg13_r0 c2_i32_184_r0
  ![v280_r0.toNat]
def k1_off46 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k1_cond21 (i : grid1.Coords) (k1_t4 : Fin (k1_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k1_t4
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k1_off47 (i : grid1.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k1_off48 (arg15_r0 : BitVec 32) : Fin 1 → Nat :=
  let c2_i32_184_r0 : BitVec 32 := 2#32
  let v280_r0 : BitVec 32 := Scalar.remui arg15_r0 c2_i32_184_r0
  ![v280_r0.toNat]
def k1_off49 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k1_cond22 (i : grid1.Coords) (k1_t4 : Fin (k1_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k1_t4
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k1_off50 (i : grid1.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k1_off51 (arg17_r0 : BitVec 32) : Fin 1 → Nat :=
  let c2_i32_184_r0 : BitVec 32 := 2#32
  let v280_r0 : BitVec 32 := Scalar.remui arg17_r0 c2_i32_184_r0
  ![v280_r0.toNat]
def k1_off52 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k1_cond23 (i : grid1.Coords) (k1_t4 : Fin (k1_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k1_t4
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k1_off53 (i : grid1.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k1_off54 (arg14_r0 : BitVec 32) : Fin 1 → Nat :=
  let c2_i32_185_r0 : BitVec 32 := 2#32
  let v281_r0 : BitVec 32 := Scalar.remui arg14_r0 c2_i32_185_r0
  ![v281_r0.toNat]
def k1_off55 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k1_cond24 (i : grid1.Coords) (k1_t4 : Fin (k1_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k1_t4
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k1_off56 (i : grid1.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k1_off57 (arg16_r0 : BitVec 32) : Fin 1 → Nat :=
  let c2_i32_185_r0 : BitVec 32 := 2#32
  let v281_r0 : BitVec 32 := Scalar.remui arg16_r0 c2_i32_185_r0
  ![v281_r0.toNat]
def k1_off58 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k1_cond25 (i : grid1.Coords) (k1_t4 : Fin (k1_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k1_t4
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k1_off59 (i : grid1.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k1_off60 (arg18_r0 : BitVec 32) : Fin 1 → Nat :=
  let c2_i32_185_r0 : BitVec 32 := 2#32
  let v281_r0 : BitVec 32 := Scalar.remui arg18_r0 c2_i32_185_r0
  ![v281_r0.toNat]
def k1_off61 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k1_chk13 (i : grid1.Coords) (k1_t4 : Fin (k1_t4_loop i).trips) (arg14_r0 : BitVec 32) : Prop :=
  (∀ (k1_h1 : k1_cond1 i = 1#1), ∀ a, (k1_off61 arg14_r0) a + S1x1x1024.size a ≤ S2x1x1024.size a)
theorem k1_off61_inb : ∀ (i : grid1.Coords) (k1_t4 : Fin (k1_t4_loop i).trips) (arg14_r0 : BitVec 32) (k1_hw13 : k1_chk13 i k1_t4 arg14_r0), ∀ (k1_h1 : k1_cond1 i = 1#1), ∀ a, (k1_off61 arg14_r0) a + S1x1x1024.size a ≤ S2x1x1024.size a := fun i k1_t4 arg14_r0 k1_hw13 k1_h1 => k1_hw13 k1_h1

def k1_off62 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k1_chk14 (i : grid1.Coords) (k1_t4 : Fin (k1_t4_loop i).trips) (arg16_r0 : BitVec 32) : Prop :=
  (∀ (k1_h1 : k1_cond1 i = 1#1), ∀ a, (k1_off62 arg16_r0) a + S1x1x1024.size a ≤ S2x1x1024.size a)
theorem k1_off62_inb : ∀ (i : grid1.Coords) (k1_t4 : Fin (k1_t4_loop i).trips) (arg16_r0 : BitVec 32) (k1_hw14 : k1_chk14 i k1_t4 arg16_r0), ∀ (k1_h1 : k1_cond1 i = 1#1), ∀ a, (k1_off62 arg16_r0) a + S1x1x1024.size a ≤ S2x1x1024.size a := fun i k1_t4 arg16_r0 k1_hw14 k1_h1 => k1_hw14 k1_h1

@[reducible] def k1_t5_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k1_off63 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k1_chk15 (i : grid1.Coords) (k1_t4 : Fin (k1_t4_loop i).trips) (arg18_r0 : BitVec 32) : Prop :=
  (∀ (k1_h1 : k1_cond1 i = 1#1), ∀ a, (k1_off63 arg18_r0) a + S1x1x1024.size a ≤ S2x1x1024.size a)
theorem k1_off63_inb : ∀ (i : grid1.Coords) (k1_t4 : Fin (k1_t4_loop i).trips) (arg18_r0 : BitVec 32) (k1_hw15 : k1_chk15 i k1_t4 arg18_r0), ∀ (k1_h1 : k1_cond1 i = 1#1), ∀ a, (k1_off63 arg18_r0) a + S1x1x1024.size a ≤ S2x1x1024.size a := fun i k1_t4 arg18_r0 k1_hw15 k1_h1 => k1_hw15 k1_h1

def k1_off64 (k1_t5 : Fin k1_t5_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k1_t5
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k1_off65 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k1_chk17 (i : grid1.Coords) (k1_t4 : Fin (k1_t4_loop i).trips) (v293_r0 : IVec S16 32) (v295_r0 : IVec S16 32) : Prop :=
  (∀ (k1_h1 : k1_cond1 i = 1#1), ∀ a x, ((![v293_r0, v295_r0] : Fin 2 → IVec S16 32) a x).toNat < S1024x27.size a)
theorem k1_idx9_inb : ∀ (i : grid1.Coords) (k1_t4 : Fin (k1_t4_loop i).trips) (v293_r0 : IVec S16 32) (v295_r0 : IVec S16 32) (k1_hw17 : k1_chk17 i k1_t4 v293_r0 v295_r0), ∀ (k1_h1 : k1_cond1 i = 1#1), ∀ a x, ((![v293_r0, v295_r0] : Fin 2 → IVec S16 32) a x).toNat < S1024x27.size a := fun i k1_t4 v293_r0 v295_r0 k1_hw17 k1_h1 => k1_hw17 k1_h1
def k1_off66 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k1_chk18 (i : grid1.Coords) (k1_t4 : Fin (k1_t4_loop i).trips) (v293_r0 : IVec S16 32) (v299_r0 : IVec S16 32) : Prop :=
  (∀ (k1_h1 : k1_cond1 i = 1#1), ∀ a x, ((![v293_r0, v299_r0] : Fin 2 → IVec S16 32) a x).toNat < S1024x27.size a)
theorem k1_idx10_inb : ∀ (i : grid1.Coords) (k1_t4 : Fin (k1_t4_loop i).trips) (v293_r0 : IVec S16 32) (v299_r0 : IVec S16 32) (k1_hw18 : k1_chk18 i k1_t4 v293_r0 v299_r0), ∀ (k1_h1 : k1_cond1 i = 1#1), ∀ a x, ((![v293_r0, v299_r0] : Fin 2 → IVec S16 32) a x).toNat < S1024x27.size a := fun i k1_t4 v293_r0 v299_r0 k1_hw18 k1_h1 => k1_hw18 k1_h1
def k1_off67 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k1_chk19 (i : grid1.Coords) (k1_t4 : Fin (k1_t4_loop i).trips) (v293_r0 : IVec S16 32) (v306_r0 : IVec S16 32) : Prop :=
  (∀ (k1_h1 : k1_cond1 i = 1#1), ∀ a x, ((![v293_r0, v306_r0] : Fin 2 → IVec S16 32) a x).toNat < S1024x27.size a)
theorem k1_idx11_inb : ∀ (i : grid1.Coords) (k1_t4 : Fin (k1_t4_loop i).trips) (v293_r0 : IVec S16 32) (v306_r0 : IVec S16 32) (k1_hw19 : k1_chk19 i k1_t4 v293_r0 v306_r0), ∀ (k1_h1 : k1_cond1 i = 1#1), ∀ a x, ((![v293_r0, v306_r0] : Fin 2 → IVec S16 32) a x).toNat < S1024x27.size a := fun i k1_t4 v293_r0 v306_r0 k1_hw19 k1_h1 => k1_hw19 k1_h1
@[reducible] def k1_t6_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k1_chk20 (i : grid1.Coords) (v0 : IVec S16 32) (k1_t4 : Fin (k1_t4_loop i).trips) (v282_r0 : IVec S16 32) : Prop :=
  (∀ (k1_h1 : k1_cond1 i = 1#1), ∀ a x, ((![v282_r0, v0] : Fin 2 → IVec S16 32) a x).toNat < S1024x16.size a) ∧
  (∀ (k1_h1 : k1_cond1 i = 1#1), ∀ a x, ((![v282_r0, v0] : Fin 2 → IVec S16 32) a x).toNat < S1024x16.size a) ∧
  (∀ (k1_h1 : k1_cond1 i = 1#1), ∀ a x, ((![v282_r0] : Fin 1 → IVec S16 32) a x).toNat < S1024.size a)
theorem k1_idx12_inb : ∀ (i : grid1.Coords) (v0 : IVec S16 32) (k1_t4 : Fin (k1_t4_loop i).trips) (v282_r0 : IVec S16 32) (k1_hw20 : k1_chk20 i v0 k1_t4 v282_r0), ∀ (k1_h1 : k1_cond1 i = 1#1), ∀ a x, ((![v282_r0, v0] : Fin 2 → IVec S16 32) a x).toNat < S1024x16.size a := fun i v0 k1_t4 v282_r0 k1_hw20 k1_h1 => k1_hw20.1 k1_h1
theorem k1_idx13_inb : ∀ (i : grid1.Coords) (v0 : IVec S16 32) (k1_t4 : Fin (k1_t4_loop i).trips) (v282_r0 : IVec S16 32) (k1_hw20 : k1_chk20 i v0 k1_t4 v282_r0), ∀ (k1_h1 : k1_cond1 i = 1#1), ∀ a x, ((![v282_r0, v0] : Fin 2 → IVec S16 32) a x).toNat < S1024x16.size a := fun i v0 k1_t4 v282_r0 k1_hw20 k1_h1 => k1_hw20.2.1 k1_h1
theorem k1_idx14_inb : ∀ (i : grid1.Coords) (v0 : IVec S16 32) (k1_t4 : Fin (k1_t4_loop i).trips) (v282_r0 : IVec S16 32) (k1_hw20 : k1_chk20 i v0 k1_t4 v282_r0), ∀ (k1_h1 : k1_cond1 i = 1#1), ∀ a x, ((![v282_r0] : Fin 1 → IVec S16 32) a x).toNat < S1024.size a := fun i v0 k1_t4 v282_r0 k1_hw20 k1_h1 => k1_hw20.2.2 k1_h1
def k1_off68 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k1_chk21 (i : grid1.Coords) (k1_t4 : Fin (k1_t4_loop i).trips) (v282_r0 : IVec S16 32) (v287_r0 : IVec S16 32) : Prop :=
  (∀ (k1_h1 : k1_cond1 i = 1#1), ∀ a x, ((![v282_r0, v287_r0] : Fin 2 → IVec S16 32) a x).toNat < S1024x27.size a)
theorem k1_idx15_inb : ∀ (i : grid1.Coords) (k1_t4 : Fin (k1_t4_loop i).trips) (v282_r0 : IVec S16 32) (v287_r0 : IVec S16 32) (k1_hw21 : k1_chk21 i k1_t4 v282_r0 v287_r0), ∀ (k1_h1 : k1_cond1 i = 1#1), ∀ a x, ((![v282_r0, v287_r0] : Fin 2 → IVec S16 32) a x).toNat < S1024x27.size a := fun i k1_t4 v282_r0 v287_r0 k1_hw21 k1_h1 => k1_hw21 k1_h1
def k1_off69 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k1_chk16 (i : grid1.Coords) (k1_t4 : Fin (k1_t4_loop i).trips) (arg19_r0 : BitVec 32) : Prop :=
  (∀ (k1_h1 : k1_cond1 i = 1#1), ∀ a, (k1_off65 arg19_r0) a + S1x1024x27.size a ≤ S2x1024x27.size a) ∧
  (∀ (k1_h1 : k1_cond1 i = 1#1), ∀ a, (k1_off66 arg19_r0) a + S1x1024x27.size a ≤ S2x1024x27.size a) ∧
  (∀ (k1_h1 : k1_cond1 i = 1#1), ∀ a, (k1_off67 arg19_r0) a + S1x1024x27.size a ≤ S2x1024x27.size a) ∧
  (∀ (k1_h1 : k1_cond1 i = 1#1), ∀ a, (k1_off68 arg19_r0) a + S1x1024x27.size a ≤ S2x1024x27.size a) ∧
  (∀ (k1_h1 : k1_cond1 i = 1#1), ∀ a, (k1_off69 arg19_r0) a + S1x1024x27.size a ≤ S2x1024x27.size a)
theorem k1_off65_inb : ∀ (i : grid1.Coords) (k1_t4 : Fin (k1_t4_loop i).trips) (arg19_r0 : BitVec 32) (k1_hw16 : k1_chk16 i k1_t4 arg19_r0), ∀ (k1_h1 : k1_cond1 i = 1#1), ∀ a, (k1_off65 arg19_r0) a + S1x1024x27.size a ≤ S2x1024x27.size a := fun i k1_t4 arg19_r0 k1_hw16 k1_h1 => k1_hw16.1 k1_h1
theorem k1_off66_inb : ∀ (i : grid1.Coords) (k1_t4 : Fin (k1_t4_loop i).trips) (arg19_r0 : BitVec 32) (k1_hw16 : k1_chk16 i k1_t4 arg19_r0), ∀ (k1_h1 : k1_cond1 i = 1#1), ∀ a, (k1_off66 arg19_r0) a + S1x1024x27.size a ≤ S2x1024x27.size a := fun i k1_t4 arg19_r0 k1_hw16 k1_h1 => k1_hw16.2.1 k1_h1
theorem k1_off67_inb : ∀ (i : grid1.Coords) (k1_t4 : Fin (k1_t4_loop i).trips) (arg19_r0 : BitVec 32) (k1_hw16 : k1_chk16 i k1_t4 arg19_r0), ∀ (k1_h1 : k1_cond1 i = 1#1), ∀ a, (k1_off67 arg19_r0) a + S1x1024x27.size a ≤ S2x1024x27.size a := fun i k1_t4 arg19_r0 k1_hw16 k1_h1 => k1_hw16.2.2.1 k1_h1
theorem k1_off68_inb : ∀ (i : grid1.Coords) (k1_t4 : Fin (k1_t4_loop i).trips) (arg19_r0 : BitVec 32) (k1_hw16 : k1_chk16 i k1_t4 arg19_r0), ∀ (k1_h1 : k1_cond1 i = 1#1), ∀ a, (k1_off68 arg19_r0) a + S1x1024x27.size a ≤ S2x1024x27.size a := fun i k1_t4 arg19_r0 k1_hw16 k1_h1 => k1_hw16.2.2.2.1 k1_h1
theorem k1_off69_inb : ∀ (i : grid1.Coords) (k1_t4 : Fin (k1_t4_loop i).trips) (arg19_r0 : BitVec 32) (k1_hw16 : k1_chk16 i k1_t4 arg19_r0), ∀ (k1_h1 : k1_cond1 i = 1#1), ∀ a, (k1_off69 arg19_r0) a + S1x1024x27.size a ≤ S2x1024x27.size a := fun i k1_t4 arg19_r0 k1_hw16 k1_h1 => k1_hw16.2.2.2.2 k1_h1

def k1_chk22 (i : grid1.Coords) (k1_t4 : Fin (k1_t4_loop i).trips) (v282_r0 : IVec S16 32) (v293_r0 : IVec S16 32) : Prop :=
  (∀ (k1_h1 : k1_cond1 i = 1#1), ∀ a x, ((![v282_r0, v293_r0] : Fin 2 → IVec S16 32) a x).toNat < S1024x27.size a)
theorem k1_idx16_inb : ∀ (i : grid1.Coords) (k1_t4 : Fin (k1_t4_loop i).trips) (v282_r0 : IVec S16 32) (v293_r0 : IVec S16 32) (k1_hw22 : k1_chk22 i k1_t4 v282_r0 v293_r0), ∀ (k1_h1 : k1_cond1 i = 1#1), ∀ a x, ((![v282_r0, v293_r0] : Fin 2 → IVec S16 32) a x).toNat < S1024x27.size a := fun i k1_t4 v282_r0 v293_r0 k1_hw22 k1_h1 => k1_hw22 k1_h1
def k1_off70 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k1_cond30 (i : grid1.Coords) (k1_t4 : Fin (k1_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k1_t4
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k1_off71 (i : grid1.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k1_off72 (arg19_r0 : BitVec 32) : Fin 1 → Nat :=
  let c2_i32_184_r0 : BitVec 32 := 2#32
  let v280_r0 : BitVec 32 := Scalar.remui arg19_r0 c2_i32_184_r0
  ![v280_r0.toNat]
def k1_off73 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k1_cond34 (i : grid1.Coords) (k1_t4 : Fin (k1_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k1_t4
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k1_off74 (i : grid1.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k1_off75 (arg20_r0 : BitVec 32) : Fin 1 → Nat :=
  let c2_i32_184_r0 : BitVec 32 := 2#32
  let v280_r0 : BitVec 32 := Scalar.remui arg20_r0 c2_i32_184_r0
  ![v280_r0.toNat]

def k1_chk12 (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k1_h1 : k1_cond1 i = 1#1), ∀ (k1_h20 : k1_cond20 i k1_t4 arg21_r0 = 1#1), ∀ a, (k1_off43 arg13_r0) a + S1x1x1024.size a ≤ S2x1x1024.size a) ∧
  (∀ (k1_h1 : k1_cond1 i = 1#1), ∀ (k1_h20 : k1_cond20 i k1_t4 arg21_r0 = 1#1), ∀ a, (k1_off44 i arg21_r0) a + S1x1024.size a ≤ S1x640000.size a) ∧
  (∀ (k1_h1 : k1_cond1 i = 1#1), ∀ (k1_h20 : k1_cond20 i k1_t4 arg21_r0 = 1#1), ∀ a, (k1_off45 arg13_r0) a + S1.size a ≤ S2.size a) ∧
  (∀ (k1_h1 : k1_cond1 i = 1#1), ∀ (k1_h21 : k1_cond21 i k1_t4 arg21_r0 = 1#1), ∀ a, (k1_off46 arg15_r0) a + S1x1x1024.size a ≤ S2x1x1024.size a) ∧
  (∀ (k1_h1 : k1_cond1 i = 1#1), ∀ (k1_h21 : k1_cond21 i k1_t4 arg21_r0 = 1#1), ∀ a, (k1_off47 i arg21_r0) a + S1x1024.size a ≤ S1x640000.size a) ∧
  (∀ (k1_h1 : k1_cond1 i = 1#1), ∀ (k1_h21 : k1_cond21 i k1_t4 arg21_r0 = 1#1), ∀ a, (k1_off48 arg15_r0) a + S1.size a ≤ S2.size a) ∧
  (∀ (k1_h1 : k1_cond1 i = 1#1), ∀ (k1_h22 : k1_cond22 i k1_t4 arg21_r0 = 1#1), ∀ a, (k1_off49 arg17_r0) a + S1x1x1024.size a ≤ S2x1x1024.size a) ∧
  (∀ (k1_h1 : k1_cond1 i = 1#1), ∀ (k1_h22 : k1_cond22 i k1_t4 arg21_r0 = 1#1), ∀ a, (k1_off50 i arg21_r0) a + S1x1024.size a ≤ S1x640000.size a) ∧
  (∀ (k1_h1 : k1_cond1 i = 1#1), ∀ (k1_h22 : k1_cond22 i k1_t4 arg21_r0 = 1#1), ∀ a, (k1_off51 arg17_r0) a + S1.size a ≤ S2.size a) ∧
  (∀ (k1_h1 : k1_cond1 i = 1#1), ∀ (k1_h23 : k1_cond23 i k1_t4 arg21_r0 = 1#1), ∀ a, (k1_off52 arg14_r0) a + S1x1x1024.size a ≤ S2x1x1024.size a) ∧
  (∀ (k1_h1 : k1_cond1 i = 1#1), ∀ (k1_h23 : k1_cond23 i k1_t4 arg21_r0 = 1#1), ∀ a, (k1_off53 i arg21_r0) a + S1x1024.size a ≤ S1x640000.size a) ∧
  (∀ (k1_h1 : k1_cond1 i = 1#1), ∀ (k1_h23 : k1_cond23 i k1_t4 arg21_r0 = 1#1), ∀ a, (k1_off54 arg14_r0) a + S1.size a ≤ S2.size a) ∧
  (∀ (k1_h1 : k1_cond1 i = 1#1), ∀ (k1_h24 : k1_cond24 i k1_t4 arg21_r0 = 1#1), ∀ a, (k1_off55 arg16_r0) a + S1x1x1024.size a ≤ S2x1x1024.size a) ∧
  (∀ (k1_h1 : k1_cond1 i = 1#1), ∀ (k1_h24 : k1_cond24 i k1_t4 arg21_r0 = 1#1), ∀ a, (k1_off56 i arg21_r0) a + S1x1024.size a ≤ S1x640000.size a) ∧
  (∀ (k1_h1 : k1_cond1 i = 1#1), ∀ (k1_h24 : k1_cond24 i k1_t4 arg21_r0 = 1#1), ∀ a, (k1_off57 arg16_r0) a + S1.size a ≤ S2.size a) ∧
  (∀ (k1_h1 : k1_cond1 i = 1#1), ∀ (k1_h25 : k1_cond25 i k1_t4 arg21_r0 = 1#1), ∀ a, (k1_off58 arg18_r0) a + S1x1x1024.size a ≤ S2x1x1024.size a) ∧
  (∀ (k1_h1 : k1_cond1 i = 1#1), ∀ (k1_h25 : k1_cond25 i k1_t4 arg21_r0 = 1#1), ∀ a, (k1_off59 i arg21_r0) a + S1x1024.size a ≤ S1x640000.size a) ∧
  (∀ (k1_h1 : k1_cond1 i = 1#1), ∀ (k1_h25 : k1_cond25 i k1_t4 arg21_r0 = 1#1), ∀ a, (k1_off60 arg18_r0) a + S1.size a ≤ S2.size a) ∧
  (∀ (k1_h1 : k1_cond1 i = 1#1), ∀ (k1_h30 : k1_cond30 i k1_t4 arg21_r0 = 1#1), ∀ a, (k1_off70 arg19_r0) a + S1x1024x27.size a ≤ S2x1024x27.size a) ∧
  (∀ (k1_h1 : k1_cond1 i = 1#1), ∀ (k1_h30 : k1_cond30 i k1_t4 arg21_r0 = 1#1), ∀ a, (k1_off71 i arg21_r0) a + S1024x27.size a ≤ S640000x27.size a) ∧
  (∀ (k1_h1 : k1_cond1 i = 1#1), ∀ (k1_h30 : k1_cond30 i k1_t4 arg21_r0 = 1#1), ∀ a, (k1_off72 arg19_r0) a + S1.size a ≤ S2.size a) ∧
  (∀ (k1_h1 : k1_cond1 i = 1#1), ∀ (k1_h34 : k1_cond34 i k1_t4 arg21_r0 = 1#1), ∀ a, (k1_off73 arg20_r0) a + S1x1024x27.size a ≤ S2x1024x27.size a) ∧
  (∀ (k1_h1 : k1_cond1 i = 1#1), ∀ (k1_h34 : k1_cond34 i k1_t4 arg21_r0 = 1#1), ∀ a, (k1_off74 i arg21_r0) a + S1024x27.size a ≤ S640000x27.size a) ∧
  (∀ (k1_h1 : k1_cond1 i = 1#1), ∀ (k1_h34 : k1_cond34 i k1_t4 arg21_r0 = 1#1), ∀ a, (k1_off75 arg20_r0) a + S1.size a ≤ S2.size a)
theorem k1_off43_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h20 : k1_cond20 i k1_t4 arg21_r0 = 1#1), ∀ a, (k1_off43 arg13_r0) a + S1x1x1024.size a ≤ S2x1x1024.size a := fun i k1_t4 arg13_r0 arg14_r0 arg15_r0 arg16_r0 arg17_r0 arg18_r0 arg19_r0 arg20_r0 arg21_r0 k1_hw12 k1_h1 k1_h20 => k1_hw12.1 k1_h1 k1_h20
theorem k1_off44_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h20 : k1_cond20 i k1_t4 arg21_r0 = 1#1), ∀ a, (k1_off44 i arg21_r0) a + S1x1024.size a ≤ S1x640000.size a := fun i k1_t4 arg13_r0 arg14_r0 arg15_r0 arg16_r0 arg17_r0 arg18_r0 arg19_r0 arg20_r0 arg21_r0 k1_hw12 k1_h1 k1_h20 => k1_hw12.2.1 k1_h1 k1_h20
theorem k1_off45_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h20 : k1_cond20 i k1_t4 arg21_r0 = 1#1), ∀ a, (k1_off45 arg13_r0) a + S1.size a ≤ S2.size a := fun i k1_t4 arg13_r0 arg14_r0 arg15_r0 arg16_r0 arg17_r0 arg18_r0 arg19_r0 arg20_r0 arg21_r0 k1_hw12 k1_h1 k1_h20 => k1_hw12.2.2.1 k1_h1 k1_h20
theorem k1_off46_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h21 : k1_cond21 i k1_t4 arg21_r0 = 1#1), ∀ a, (k1_off46 arg15_r0) a + S1x1x1024.size a ≤ S2x1x1024.size a := fun i k1_t4 arg13_r0 arg14_r0 arg15_r0 arg16_r0 arg17_r0 arg18_r0 arg19_r0 arg20_r0 arg21_r0 k1_hw12 k1_h1 k1_h21 => k1_hw12.2.2.2.1 k1_h1 k1_h21
theorem k1_off47_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h21 : k1_cond21 i k1_t4 arg21_r0 = 1#1), ∀ a, (k1_off47 i arg21_r0) a + S1x1024.size a ≤ S1x640000.size a := fun i k1_t4 arg13_r0 arg14_r0 arg15_r0 arg16_r0 arg17_r0 arg18_r0 arg19_r0 arg20_r0 arg21_r0 k1_hw12 k1_h1 k1_h21 => k1_hw12.2.2.2.2.1 k1_h1 k1_h21
theorem k1_off48_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h21 : k1_cond21 i k1_t4 arg21_r0 = 1#1), ∀ a, (k1_off48 arg15_r0) a + S1.size a ≤ S2.size a := fun i k1_t4 arg13_r0 arg14_r0 arg15_r0 arg16_r0 arg17_r0 arg18_r0 arg19_r0 arg20_r0 arg21_r0 k1_hw12 k1_h1 k1_h21 => k1_hw12.2.2.2.2.2.1 k1_h1 k1_h21
theorem k1_off49_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h22 : k1_cond22 i k1_t4 arg21_r0 = 1#1), ∀ a, (k1_off49 arg17_r0) a + S1x1x1024.size a ≤ S2x1x1024.size a := fun i k1_t4 arg13_r0 arg14_r0 arg15_r0 arg16_r0 arg17_r0 arg18_r0 arg19_r0 arg20_r0 arg21_r0 k1_hw12 k1_h1 k1_h22 => k1_hw12.2.2.2.2.2.2.1 k1_h1 k1_h22
theorem k1_off50_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h22 : k1_cond22 i k1_t4 arg21_r0 = 1#1), ∀ a, (k1_off50 i arg21_r0) a + S1x1024.size a ≤ S1x640000.size a := fun i k1_t4 arg13_r0 arg14_r0 arg15_r0 arg16_r0 arg17_r0 arg18_r0 arg19_r0 arg20_r0 arg21_r0 k1_hw12 k1_h1 k1_h22 => k1_hw12.2.2.2.2.2.2.2.1 k1_h1 k1_h22
theorem k1_off51_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h22 : k1_cond22 i k1_t4 arg21_r0 = 1#1), ∀ a, (k1_off51 arg17_r0) a + S1.size a ≤ S2.size a := fun i k1_t4 arg13_r0 arg14_r0 arg15_r0 arg16_r0 arg17_r0 arg18_r0 arg19_r0 arg20_r0 arg21_r0 k1_hw12 k1_h1 k1_h22 => k1_hw12.2.2.2.2.2.2.2.2.1 k1_h1 k1_h22
theorem k1_off52_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h23 : k1_cond23 i k1_t4 arg21_r0 = 1#1), ∀ a, (k1_off52 arg14_r0) a + S1x1x1024.size a ≤ S2x1x1024.size a := fun i k1_t4 arg13_r0 arg14_r0 arg15_r0 arg16_r0 arg17_r0 arg18_r0 arg19_r0 arg20_r0 arg21_r0 k1_hw12 k1_h1 k1_h23 => k1_hw12.2.2.2.2.2.2.2.2.2.1 k1_h1 k1_h23
theorem k1_off53_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h23 : k1_cond23 i k1_t4 arg21_r0 = 1#1), ∀ a, (k1_off53 i arg21_r0) a + S1x1024.size a ≤ S1x640000.size a := fun i k1_t4 arg13_r0 arg14_r0 arg15_r0 arg16_r0 arg17_r0 arg18_r0 arg19_r0 arg20_r0 arg21_r0 k1_hw12 k1_h1 k1_h23 => k1_hw12.2.2.2.2.2.2.2.2.2.2.1 k1_h1 k1_h23
theorem k1_off54_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h23 : k1_cond23 i k1_t4 arg21_r0 = 1#1), ∀ a, (k1_off54 arg14_r0) a + S1.size a ≤ S2.size a := fun i k1_t4 arg13_r0 arg14_r0 arg15_r0 arg16_r0 arg17_r0 arg18_r0 arg19_r0 arg20_r0 arg21_r0 k1_hw12 k1_h1 k1_h23 => k1_hw12.2.2.2.2.2.2.2.2.2.2.2.1 k1_h1 k1_h23
theorem k1_off55_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h24 : k1_cond24 i k1_t4 arg21_r0 = 1#1), ∀ a, (k1_off55 arg16_r0) a + S1x1x1024.size a ≤ S2x1x1024.size a := fun i k1_t4 arg13_r0 arg14_r0 arg15_r0 arg16_r0 arg17_r0 arg18_r0 arg19_r0 arg20_r0 arg21_r0 k1_hw12 k1_h1 k1_h24 => k1_hw12.2.2.2.2.2.2.2.2.2.2.2.2.1 k1_h1 k1_h24
theorem k1_off56_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h24 : k1_cond24 i k1_t4 arg21_r0 = 1#1), ∀ a, (k1_off56 i arg21_r0) a + S1x1024.size a ≤ S1x640000.size a := fun i k1_t4 arg13_r0 arg14_r0 arg15_r0 arg16_r0 arg17_r0 arg18_r0 arg19_r0 arg20_r0 arg21_r0 k1_hw12 k1_h1 k1_h24 => k1_hw12.2.2.2.2.2.2.2.2.2.2.2.2.2.1 k1_h1 k1_h24
theorem k1_off57_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h24 : k1_cond24 i k1_t4 arg21_r0 = 1#1), ∀ a, (k1_off57 arg16_r0) a + S1.size a ≤ S2.size a := fun i k1_t4 arg13_r0 arg14_r0 arg15_r0 arg16_r0 arg17_r0 arg18_r0 arg19_r0 arg20_r0 arg21_r0 k1_hw12 k1_h1 k1_h24 => k1_hw12.2.2.2.2.2.2.2.2.2.2.2.2.2.2.1 k1_h1 k1_h24
theorem k1_off58_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h25 : k1_cond25 i k1_t4 arg21_r0 = 1#1), ∀ a, (k1_off58 arg18_r0) a + S1x1x1024.size a ≤ S2x1x1024.size a := fun i k1_t4 arg13_r0 arg14_r0 arg15_r0 arg16_r0 arg17_r0 arg18_r0 arg19_r0 arg20_r0 arg21_r0 k1_hw12 k1_h1 k1_h25 => k1_hw12.2.2.2.2.2.2.2.2.2.2.2.2.2.2.2.1 k1_h1 k1_h25
theorem k1_off59_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h25 : k1_cond25 i k1_t4 arg21_r0 = 1#1), ∀ a, (k1_off59 i arg21_r0) a + S1x1024.size a ≤ S1x640000.size a := fun i k1_t4 arg13_r0 arg14_r0 arg15_r0 arg16_r0 arg17_r0 arg18_r0 arg19_r0 arg20_r0 arg21_r0 k1_hw12 k1_h1 k1_h25 => k1_hw12.2.2.2.2.2.2.2.2.2.2.2.2.2.2.2.2.1 k1_h1 k1_h25
theorem k1_off60_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h25 : k1_cond25 i k1_t4 arg21_r0 = 1#1), ∀ a, (k1_off60 arg18_r0) a + S1.size a ≤ S2.size a := fun i k1_t4 arg13_r0 arg14_r0 arg15_r0 arg16_r0 arg17_r0 arg18_r0 arg19_r0 arg20_r0 arg21_r0 k1_hw12 k1_h1 k1_h25 => k1_hw12.2.2.2.2.2.2.2.2.2.2.2.2.2.2.2.2.2.1 k1_h1 k1_h25
theorem k1_off70_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h30 : k1_cond30 i k1_t4 arg21_r0 = 1#1), ∀ a, (k1_off70 arg19_r0) a + S1x1024x27.size a ≤ S2x1024x27.size a := fun i k1_t4 arg13_r0 arg14_r0 arg15_r0 arg16_r0 arg17_r0 arg18_r0 arg19_r0 arg20_r0 arg21_r0 k1_hw12 k1_h1 k1_h30 => k1_hw12.2.2.2.2.2.2.2.2.2.2.2.2.2.2.2.2.2.2.1 k1_h1 k1_h30
theorem k1_off71_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h30 : k1_cond30 i k1_t4 arg21_r0 = 1#1), ∀ a, (k1_off71 i arg21_r0) a + S1024x27.size a ≤ S640000x27.size a := fun i k1_t4 arg13_r0 arg14_r0 arg15_r0 arg16_r0 arg17_r0 arg18_r0 arg19_r0 arg20_r0 arg21_r0 k1_hw12 k1_h1 k1_h30 => k1_hw12.2.2.2.2.2.2.2.2.2.2.2.2.2.2.2.2.2.2.2.1 k1_h1 k1_h30
theorem k1_off72_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h30 : k1_cond30 i k1_t4 arg21_r0 = 1#1), ∀ a, (k1_off72 arg19_r0) a + S1.size a ≤ S2.size a := fun i k1_t4 arg13_r0 arg14_r0 arg15_r0 arg16_r0 arg17_r0 arg18_r0 arg19_r0 arg20_r0 arg21_r0 k1_hw12 k1_h1 k1_h30 => k1_hw12.2.2.2.2.2.2.2.2.2.2.2.2.2.2.2.2.2.2.2.2.1 k1_h1 k1_h30
theorem k1_off73_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h34 : k1_cond34 i k1_t4 arg21_r0 = 1#1), ∀ a, (k1_off73 arg20_r0) a + S1x1024x27.size a ≤ S2x1024x27.size a := fun i k1_t4 arg13_r0 arg14_r0 arg15_r0 arg16_r0 arg17_r0 arg18_r0 arg19_r0 arg20_r0 arg21_r0 k1_hw12 k1_h1 k1_h34 => k1_hw12.2.2.2.2.2.2.2.2.2.2.2.2.2.2.2.2.2.2.2.2.2.1 k1_h1 k1_h34
theorem k1_off74_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h34 : k1_cond34 i k1_t4 arg21_r0 = 1#1), ∀ a, (k1_off74 i arg21_r0) a + S1024x27.size a ≤ S640000x27.size a := fun i k1_t4 arg13_r0 arg14_r0 arg15_r0 arg16_r0 arg17_r0 arg18_r0 arg19_r0 arg20_r0 arg21_r0 k1_hw12 k1_h1 k1_h34 => k1_hw12.2.2.2.2.2.2.2.2.2.2.2.2.2.2.2.2.2.2.2.2.2.2.1 k1_h1 k1_h34
theorem k1_off75_inb : ∀ (i : grid1.Coords) (k1_t4 : Fin (k1_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k1_hw12 : k1_chk12 i k1_t4 arg13_r0 arg14_r0 arg15_r0 arg16_r0 arg17_r0 arg18_r0 arg19_r0 arg20_r0 arg21_r0), ∀ (k1_h1 : k1_cond1 i = 1#1), ∀ (k1_h34 : k1_cond34 i k1_t4 arg21_r0 = 1#1), ∀ a, (k1_off75 arg20_r0) a + S1.size a ≤ S2.size a := fun i k1_t4 arg13_r0 arg14_r0 arg15_r0 arg16_r0 arg17_r0 arg18_r0 arg19_r0 arg20_r0 arg21_r0 k1_hw12 k1_h1 k1_h34 => k1_hw12.2.2.2.2.2.2.2.2.2.2.2.2.2.2.2.2.2.2.2.2.2.2.2 k1_h1 k1_h34

def k1_cond38 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c1_i32_61_r0 : BitVec 32 := 1#32
  let v73_r0 : BitVec 32 := Scalar.subi v14 c1_i32_61_r0
  let c1_i32_62_r0 : BitVec 32 := 1#32
  let v74_r0 : BitVec 32 := Scalar.muli c1_i32_62_r0 v8
  let c1_i32_64_r0 : BitVec 32 := 1#32
  let v76_r0 : BitVec 32 := Scalar.subi v74_r0 c1_i32_64_r0
  let v77_r0 : BitVec 1 := Scalar.cmpi .eq v73_r0 v76_r0
  let v101_r0 : BitVec 32 := Scalar.extui v77_r0
  let c0_i32_78_r0 : BitVec 32 := 0#32
  let v102_r0 : BitVec 1 := Scalar.cmpi .ne v101_r0 c0_i32_78_r0
  v102_r0

def k1_off76 (v67_7_r0 : BitVec 32) : Fin 3 → Nat :=
  let c2_i32_r0 : BitVec 32 := 2#32
  let v103_r0 : BitVec 32 := Scalar.remui v67_7_r0 c2_i32_r0
  let c0_i32_79_r0 : BitVec 32 := 0#32
  let c0_i32_80_r0 : BitVec 32 := 0#32
  ![v103_r0.toNat, 0, 0]

def k1_off77 (i : grid1.Coords) (v67_8_r0 : BitVec 32) : Fin 2 → Nat :=
  let c1024_i32_r0 : BitVec 32 := 1024#32
  let true_58_r0 : BitVec 1 := 1#1
  let c1_i32_57_r0 : BitVec 32 := 1#32
  let v68_r0 : BitVec 32 := Scalar.subi v67_8_r0 c1_i32_57_r0
  let v69_r0 : BitVec 32 := Scalar.select true_58_r0 v68_r0 v67_8_r0
  let c_m1_i32_59_r0 : BitVec 32 := 4294967295#32
  let v70_r0 : BitVec 1 := Scalar.cmpi .eq v69_r0 c_m1_i32_59_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_60_r0 : BitVec 32 := 1#32
  let v71_r0 : BitVec 32 := Scalar.subi v8 c1_i32_60_r0
  let v72_r0 : BitVec 32 := Scalar.select v70_r0 v71_r0 v69_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v78_r0 : BitVec 32 := Scalar.addi v72_r0 v13
  let v104_r0 : BitVec 32 := Scalar.muli c1024_i32_r0 v78_r0
  let c0_i32_81_r0 : BitVec 32 := 0#32
  ![v104_r0.toNat, 0]

def k1_chk24 (i : grid1.Coords) (v67_8_r0 : BitVec 32) : Prop :=
  (∀ (k1_h1 : k1_cond1 i = 1#1), ∀ (k1_h38 : k1_cond38 i = 1#1), ∀ a, (k1_off77 i v67_8_r0) a + S1024x27.size a ≤ S640000x27.size a)
theorem k1_off77_inb : ∀ (i : grid1.Coords) (v67_8_r0 : BitVec 32) (k1_hw24 : k1_chk24 i v67_8_r0), ∀ (k1_h1 : k1_cond1 i = 1#1), ∀ (k1_h38 : k1_cond38 i = 1#1), ∀ a, (k1_off77 i v67_8_r0) a + S1024x27.size a ≤ S640000x27.size a := fun i v67_8_r0 k1_hw24 k1_h1 k1_h38 => k1_hw24 k1_h1 k1_h38

def k1_off78 (v67_7_r0 : BitVec 32) : Fin 1 → Nat :=
  let c2_i32_r0 : BitVec 32 := 2#32
  let v103_r0 : BitVec 32 := Scalar.remui v67_7_r0 c2_i32_r0
  ![v103_r0.toNat]
def k1_off79 (v67_7_r0 : BitVec 32) : Fin 3 → Nat :=
  let c2_i32_r0 : BitVec 32 := 2#32
  let v103_r0 : BitVec 32 := Scalar.remui v67_7_r0 c2_i32_r0
  let c0_i32_83_r0 : BitVec 32 := 0#32
  let c0_i32_84_r0 : BitVec 32 := 0#32
  ![v103_r0.toNat, 0, 0]

def k1_chk23 (i : grid1.Coords) (v67_7_r0 : BitVec 32) : Prop :=
  (∀ (k1_h1 : k1_cond1 i = 1#1), ∀ (k1_h38 : k1_cond38 i = 1#1), ∀ a, (k1_off76 v67_7_r0) a + S1x1024x27.size a ≤ S2x1024x27.size a) ∧
  (∀ (k1_h1 : k1_cond1 i = 1#1), ∀ (k1_h38 : k1_cond38 i = 1#1), ∀ a, (k1_off78 v67_7_r0) a + S1.size a ≤ S2.size a) ∧
  (∀ (k1_h1 : k1_cond1 i = 1#1), ∀ (k1_h38 : k1_cond38 i = 1#1), ∀ a, (k1_off79 v67_7_r0) a + S1x1024x27.size a ≤ S2x1024x27.size a)
theorem k1_off76_inb : ∀ (i : grid1.Coords) (v67_7_r0 : BitVec 32) (k1_hw23 : k1_chk23 i v67_7_r0), ∀ (k1_h1 : k1_cond1 i = 1#1), ∀ (k1_h38 : k1_cond38 i = 1#1), ∀ a, (k1_off76 v67_7_r0) a + S1x1024x27.size a ≤ S2x1024x27.size a := fun i v67_7_r0 k1_hw23 k1_h1 k1_h38 => k1_hw23.1 k1_h1 k1_h38
theorem k1_off78_inb : ∀ (i : grid1.Coords) (v67_7_r0 : BitVec 32) (k1_hw23 : k1_chk23 i v67_7_r0), ∀ (k1_h1 : k1_cond1 i = 1#1), ∀ (k1_h38 : k1_cond38 i = 1#1), ∀ a, (k1_off78 v67_7_r0) a + S1.size a ≤ S2.size a := fun i v67_7_r0 k1_hw23 k1_h1 k1_h38 => k1_hw23.2.1 k1_h1 k1_h38
theorem k1_off79_inb : ∀ (i : grid1.Coords) (v67_7_r0 : BitVec 32) (k1_hw23 : k1_chk23 i v67_7_r0), ∀ (k1_h1 : k1_cond1 i = 1#1), ∀ (k1_h38 : k1_cond38 i = 1#1), ∀ a, (k1_off79 v67_7_r0) a + S1x1024x27.size a ≤ S2x1024x27.size a := fun i v67_7_r0 k1_hw23 k1_h1 k1_h38 => k1_hw23.2.2 k1_h1 k1_h38

abbrev grid2 : Pipeline.Grid := ⟨2, ![2, 16], ![false, false]⟩

def k2_cond1 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c0_i32_7_r0 : BitVec 32 := 0#32
  let v19_r0 : BitVec 1 := Scalar.cmpi .sgt v14 c0_i32_7_r0
  let v20_r0 : BitVec 32 := Scalar.extui v19_r0
  let c0_i32_8_r0 : BitVec 32 := 0#32
  let v21_r0 : BitVec 1 := Scalar.cmpi .ne v20_r0 c0_i32_8_r0
  v21_r0

def k2_cond2 (i : grid2.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_23_r0 : BitVec 32 := 0#32
  let v40_r0 : BitVec 1 := Scalar.cmpi .sgt v22_r0 c0_i32_23_r0
  let v41_r0 : BitVec 1 := Scalar.andi true_24_r0 v40_r0
  let true_25_r0 : BitVec 1 := 1#1
  let v42_r0 : BitVec 1 := Scalar.andi v41_r0 true_25_r0
  let v43_r0 : BitVec 32 := Scalar.extui v42_r0
  let c0_i32_27_r0 : BitVec 32 := 0#32
  let v44_r0 : BitVec 1 := Scalar.cmpi .ne v43_r0 c0_i32_27_r0
  v44_r0

def k2_off1 : Fin 3 → Nat :=
  let c0_i32_26_r0 : BitVec 32 := 0#32
  let c2_i32_r0 : BitVec 32 := 2#32
  let v103_r0 : BitVec 32 := Scalar.remui c0_i32_26_r0 c2_i32_r0
  let c0_i32_79_r0 : BitVec 32 := 0#32
  let c0_i32_80_r0 : BitVec 32 := 0#32
  ![v103_r0.toNat, 0, 0]
def k2_off2 (i : grid2.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k2_off3 : Fin 1 → Nat :=
  let c0_i32_26_r0 : BitVec 32 := 0#32
  let c2_i32_r0 : BitVec 32 := 2#32
  let v103_r0 : BitVec 32 := Scalar.remui c0_i32_26_r0 c2_i32_r0
  ![v103_r0.toNat]
def k2_cond3 (i : grid2.Coords) : BitVec 1 :=
  let true_32_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_31_r0 : BitVec 32 := 0#32
  let v47_r0 : BitVec 1 := Scalar.cmpi .sgt v22_r0 c0_i32_31_r0
  let v48_r0 : BitVec 1 := Scalar.andi true_32_r0 v47_r0
  let true_33_r0 : BitVec 1 := 1#1
  let v49_r0 : BitVec 1 := Scalar.andi v48_r0 true_33_r0
  let v50_r0 : BitVec 32 := Scalar.extui v49_r0
  let c0_i32_35_r0 : BitVec 32 := 0#32
  let v51_r0 : BitVec 1 := Scalar.cmpi .ne v50_r0 c0_i32_35_r0
  v51_r0

def k2_off4 : Fin 3 → Nat :=
  let c0_i32_34_r0 : BitVec 32 := 0#32
  let c2_i32_r0 : BitVec 32 := 2#32
  let v103_r0 : BitVec 32 := Scalar.remui c0_i32_34_r0 c2_i32_r0
  let c0_i32_79_r0 : BitVec 32 := 0#32
  let c0_i32_80_r0 : BitVec 32 := 0#32
  ![v103_r0.toNat, 0, 0]
def k2_off5 (i : grid2.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k2_off6 : Fin 1 → Nat :=
  let c0_i32_34_r0 : BitVec 32 := 0#32
  let c2_i32_r0 : BitVec 32 := 2#32
  let v103_r0 : BitVec 32 := Scalar.remui c0_i32_34_r0 c2_i32_r0
  ![v103_r0.toNat]
def k2_cond4 (i : grid2.Coords) : BitVec 1 :=
  let true_40_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_39_r0 : BitVec 32 := 0#32
  let v54_r0 : BitVec 1 := Scalar.cmpi .sgt v22_r0 c0_i32_39_r0
  let v55_r0 : BitVec 1 := Scalar.andi true_40_r0 v54_r0
  let true_41_r0 : BitVec 1 := 1#1
  let v56_r0 : BitVec 1 := Scalar.andi v55_r0 true_41_r0
  let v57_r0 : BitVec 32 := Scalar.extui v56_r0
  let c0_i32_43_r0 : BitVec 32 := 0#32
  let v58_r0 : BitVec 1 := Scalar.cmpi .ne v57_r0 c0_i32_43_r0
  v58_r0

def k2_off7 : Fin 3 → Nat :=
  let c0_i32_42_r0 : BitVec 32 := 0#32
  let c2_i32_r0 : BitVec 32 := 2#32
  let v103_r0 : BitVec 32 := Scalar.remui c0_i32_42_r0 c2_i32_r0
  let c0_i32_79_r0 : BitVec 32 := 0#32
  let c0_i32_80_r0 : BitVec 32 := 0#32
  ![v103_r0.toNat, 0, 0]
def k2_off8 (i : grid2.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k2_off9 : Fin 1 → Nat :=
  let c0_i32_42_r0 : BitVec 32 := 0#32
  let c2_i32_r0 : BitVec 32 := 2#32
  let v103_r0 : BitVec 32 := Scalar.remui c0_i32_42_r0 c2_i32_r0
  ![v103_r0.toNat]
@[reducible] def k2_t1_loop (i : grid2.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_55_r0 : BitVec 32 := 1#32
  ⟨c0_i32_47_r0, v65_r0, c1_i32_55_r0⟩
def k2_off10 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k2_cond5 (i : grid2.Coords) (k2_t1 : Fin (k2_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k2_t1
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k2_off11 (i : grid2.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k2_off12 (arg13_r0 : BitVec 32) : Fin 1 → Nat :=
  let c2_i32_184_r0 : BitVec 32 := 2#32
  let v280_r0 : BitVec 32 := Scalar.remui arg13_r0 c2_i32_184_r0
  ![v280_r0.toNat]
def k2_off13 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k2_cond6 (i : grid2.Coords) (k2_t1 : Fin (k2_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k2_t1
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k2_off14 (i : grid2.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k2_off15 (arg15_r0 : BitVec 32) : Fin 1 → Nat :=
  let c2_i32_184_r0 : BitVec 32 := 2#32
  let v280_r0 : BitVec 32 := Scalar.remui arg15_r0 c2_i32_184_r0
  ![v280_r0.toNat]
def k2_off16 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k2_cond7 (i : grid2.Coords) (k2_t1 : Fin (k2_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k2_t1
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k2_off17 (i : grid2.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k2_off18 (arg17_r0 : BitVec 32) : Fin 1 → Nat :=
  let c2_i32_184_r0 : BitVec 32 := 2#32
  let v280_r0 : BitVec 32 := Scalar.remui arg17_r0 c2_i32_184_r0
  ![v280_r0.toNat]
def k2_off19 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k2_cond8 (i : grid2.Coords) (k2_t1 : Fin (k2_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k2_t1
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k2_off20 (i : grid2.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k2_off21 (arg14_r0 : BitVec 32) : Fin 1 → Nat :=
  let c2_i32_185_r0 : BitVec 32 := 2#32
  let v281_r0 : BitVec 32 := Scalar.remui arg14_r0 c2_i32_185_r0
  ![v281_r0.toNat]
def k2_off22 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k2_cond9 (i : grid2.Coords) (k2_t1 : Fin (k2_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k2_t1
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k2_off23 (i : grid2.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k2_off24 (arg16_r0 : BitVec 32) : Fin 1 → Nat :=
  let c2_i32_185_r0 : BitVec 32 := 2#32
  let v281_r0 : BitVec 32 := Scalar.remui arg16_r0 c2_i32_185_r0
  ![v281_r0.toNat]
def k2_off25 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k2_cond10 (i : grid2.Coords) (k2_t1 : Fin (k2_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k2_t1
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k2_off26 (i : grid2.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k2_off27 (arg18_r0 : BitVec 32) : Fin 1 → Nat :=
  let c2_i32_185_r0 : BitVec 32 := 2#32
  let v281_r0 : BitVec 32 := Scalar.remui arg18_r0 c2_i32_185_r0
  ![v281_r0.toNat]
def k2_off28 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k2_chk2 (i : grid2.Coords) (arg14_r0 : BitVec 32) : Prop :=
  (∀ (k2_h1 : k2_cond1 i = 1#1), ∀ a, (k2_off28 arg14_r0) a + S1x1x1024.size a ≤ S2x1x1024.size a)
theorem k2_off28_inb : ∀ (i : grid2.Coords) (arg14_r0 : BitVec 32) (k2_hw2 : k2_chk2 i arg14_r0), ∀ (k2_h1 : k2_cond1 i = 1#1), ∀ a, (k2_off28 arg14_r0) a + S1x1x1024.size a ≤ S2x1x1024.size a := fun i arg14_r0 k2_hw2 k2_h1 => k2_hw2 k2_h1

def k2_off29 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k2_chk3 (i : grid2.Coords) (arg16_r0 : BitVec 32) : Prop :=
  (∀ (k2_h1 : k2_cond1 i = 1#1), ∀ a, (k2_off29 arg16_r0) a + S1x1x1024.size a ≤ S2x1x1024.size a)
theorem k2_off29_inb : ∀ (i : grid2.Coords) (arg16_r0 : BitVec 32) (k2_hw3 : k2_chk3 i arg16_r0), ∀ (k2_h1 : k2_cond1 i = 1#1), ∀ a, (k2_off29 arg16_r0) a + S1x1x1024.size a ≤ S2x1x1024.size a := fun i arg16_r0 k2_hw3 k2_h1 => k2_hw3 k2_h1

@[reducible] def k2_t2_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k2_off30 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k2_chk4 (i : grid2.Coords) (arg18_r0 : BitVec 32) : Prop :=
  (∀ (k2_h1 : k2_cond1 i = 1#1), ∀ a, (k2_off30 arg18_r0) a + S1x1x1024.size a ≤ S2x1x1024.size a)
theorem k2_off30_inb : ∀ (i : grid2.Coords) (arg18_r0 : BitVec 32) (k2_hw4 : k2_chk4 i arg18_r0), ∀ (k2_h1 : k2_cond1 i = 1#1), ∀ a, (k2_off30 arg18_r0) a + S1x1x1024.size a ≤ S2x1x1024.size a := fun i arg18_r0 k2_hw4 k2_h1 => k2_hw4 k2_h1

def k2_off31 (k2_t2 : Fin k2_t2_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k2_t2
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k2_off32 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k2_chk6 (i : grid2.Coords) (v293_r0 : IVec S16 32) (v295_r0 : IVec S16 32) : Prop :=
  (∀ (k2_h1 : k2_cond1 i = 1#1), ∀ a x, ((![v293_r0, v295_r0] : Fin 2 → IVec S16 32) a x).toNat < S1024x27.size a)
theorem k2_idx1_inb : ∀ (i : grid2.Coords) (v293_r0 : IVec S16 32) (v295_r0 : IVec S16 32) (k2_hw6 : k2_chk6 i v293_r0 v295_r0), ∀ (k2_h1 : k2_cond1 i = 1#1), ∀ a x, ((![v293_r0, v295_r0] : Fin 2 → IVec S16 32) a x).toNat < S1024x27.size a := fun i v293_r0 v295_r0 k2_hw6 k2_h1 => k2_hw6 k2_h1
def k2_off33 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k2_chk7 (i : grid2.Coords) (v293_r0 : IVec S16 32) (v299_r0 : IVec S16 32) : Prop :=
  (∀ (k2_h1 : k2_cond1 i = 1#1), ∀ a x, ((![v293_r0, v299_r0] : Fin 2 → IVec S16 32) a x).toNat < S1024x27.size a)
theorem k2_idx2_inb : ∀ (i : grid2.Coords) (v293_r0 : IVec S16 32) (v299_r0 : IVec S16 32) (k2_hw7 : k2_chk7 i v293_r0 v299_r0), ∀ (k2_h1 : k2_cond1 i = 1#1), ∀ a x, ((![v293_r0, v299_r0] : Fin 2 → IVec S16 32) a x).toNat < S1024x27.size a := fun i v293_r0 v299_r0 k2_hw7 k2_h1 => k2_hw7 k2_h1
def k2_off34 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k2_chk8 (i : grid2.Coords) (v293_r0 : IVec S16 32) (v306_r0 : IVec S16 32) : Prop :=
  (∀ (k2_h1 : k2_cond1 i = 1#1), ∀ a x, ((![v293_r0, v306_r0] : Fin 2 → IVec S16 32) a x).toNat < S1024x27.size a)
theorem k2_idx3_inb : ∀ (i : grid2.Coords) (v293_r0 : IVec S16 32) (v306_r0 : IVec S16 32) (k2_hw8 : k2_chk8 i v293_r0 v306_r0), ∀ (k2_h1 : k2_cond1 i = 1#1), ∀ a x, ((![v293_r0, v306_r0] : Fin 2 → IVec S16 32) a x).toNat < S1024x27.size a := fun i v293_r0 v306_r0 k2_hw8 k2_h1 => k2_hw8 k2_h1
@[reducible] def k2_t3_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k2_chk9 (i : grid2.Coords) (v0 : IVec S16 32) (v282_r0 : IVec S16 32) : Prop :=
  (∀ (k2_h1 : k2_cond1 i = 1#1), ∀ a x, ((![v282_r0, v0] : Fin 2 → IVec S16 32) a x).toNat < S1024x16.size a) ∧
  (∀ (k2_h1 : k2_cond1 i = 1#1), ∀ a x, ((![v282_r0, v0] : Fin 2 → IVec S16 32) a x).toNat < S1024x16.size a) ∧
  (∀ (k2_h1 : k2_cond1 i = 1#1), ∀ a x, ((![v282_r0] : Fin 1 → IVec S16 32) a x).toNat < S1024.size a)
theorem k2_idx4_inb : ∀ (i : grid2.Coords) (v0 : IVec S16 32) (v282_r0 : IVec S16 32) (k2_hw9 : k2_chk9 i v0 v282_r0), ∀ (k2_h1 : k2_cond1 i = 1#1), ∀ a x, ((![v282_r0, v0] : Fin 2 → IVec S16 32) a x).toNat < S1024x16.size a := fun i v0 v282_r0 k2_hw9 k2_h1 => k2_hw9.1 k2_h1
theorem k2_idx5_inb : ∀ (i : grid2.Coords) (v0 : IVec S16 32) (v282_r0 : IVec S16 32) (k2_hw9 : k2_chk9 i v0 v282_r0), ∀ (k2_h1 : k2_cond1 i = 1#1), ∀ a x, ((![v282_r0, v0] : Fin 2 → IVec S16 32) a x).toNat < S1024x16.size a := fun i v0 v282_r0 k2_hw9 k2_h1 => k2_hw9.2.1 k2_h1
theorem k2_idx6_inb : ∀ (i : grid2.Coords) (v0 : IVec S16 32) (v282_r0 : IVec S16 32) (k2_hw9 : k2_chk9 i v0 v282_r0), ∀ (k2_h1 : k2_cond1 i = 1#1), ∀ a x, ((![v282_r0] : Fin 1 → IVec S16 32) a x).toNat < S1024.size a := fun i v0 v282_r0 k2_hw9 k2_h1 => k2_hw9.2.2 k2_h1
def k2_off35 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k2_chk10 (i : grid2.Coords) (v282_r0 : IVec S16 32) (v287_r0 : IVec S16 32) : Prop :=
  (∀ (k2_h1 : k2_cond1 i = 1#1), ∀ a x, ((![v282_r0, v287_r0] : Fin 2 → IVec S16 32) a x).toNat < S1024x27.size a)
theorem k2_idx7_inb : ∀ (i : grid2.Coords) (v282_r0 : IVec S16 32) (v287_r0 : IVec S16 32) (k2_hw10 : k2_chk10 i v282_r0 v287_r0), ∀ (k2_h1 : k2_cond1 i = 1#1), ∀ a x, ((![v282_r0, v287_r0] : Fin 2 → IVec S16 32) a x).toNat < S1024x27.size a := fun i v282_r0 v287_r0 k2_hw10 k2_h1 => k2_hw10 k2_h1
def k2_off36 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k2_chk5 (i : grid2.Coords) (arg19_r0 : BitVec 32) : Prop :=
  (∀ (k2_h1 : k2_cond1 i = 1#1), ∀ a, (k2_off32 arg19_r0) a + S1x1024x27.size a ≤ S2x1024x27.size a) ∧
  (∀ (k2_h1 : k2_cond1 i = 1#1), ∀ a, (k2_off33 arg19_r0) a + S1x1024x27.size a ≤ S2x1024x27.size a) ∧
  (∀ (k2_h1 : k2_cond1 i = 1#1), ∀ a, (k2_off34 arg19_r0) a + S1x1024x27.size a ≤ S2x1024x27.size a) ∧
  (∀ (k2_h1 : k2_cond1 i = 1#1), ∀ a, (k2_off35 arg19_r0) a + S1x1024x27.size a ≤ S2x1024x27.size a) ∧
  (∀ (k2_h1 : k2_cond1 i = 1#1), ∀ a, (k2_off36 arg19_r0) a + S1x1024x27.size a ≤ S2x1024x27.size a)
theorem k2_off32_inb : ∀ (i : grid2.Coords) (arg19_r0 : BitVec 32) (k2_hw5 : k2_chk5 i arg19_r0), ∀ (k2_h1 : k2_cond1 i = 1#1), ∀ a, (k2_off32 arg19_r0) a + S1x1024x27.size a ≤ S2x1024x27.size a := fun i arg19_r0 k2_hw5 k2_h1 => k2_hw5.1 k2_h1
theorem k2_off33_inb : ∀ (i : grid2.Coords) (arg19_r0 : BitVec 32) (k2_hw5 : k2_chk5 i arg19_r0), ∀ (k2_h1 : k2_cond1 i = 1#1), ∀ a, (k2_off33 arg19_r0) a + S1x1024x27.size a ≤ S2x1024x27.size a := fun i arg19_r0 k2_hw5 k2_h1 => k2_hw5.2.1 k2_h1
theorem k2_off34_inb : ∀ (i : grid2.Coords) (arg19_r0 : BitVec 32) (k2_hw5 : k2_chk5 i arg19_r0), ∀ (k2_h1 : k2_cond1 i = 1#1), ∀ a, (k2_off34 arg19_r0) a + S1x1024x27.size a ≤ S2x1024x27.size a := fun i arg19_r0 k2_hw5 k2_h1 => k2_hw5.2.2.1 k2_h1
theorem k2_off35_inb : ∀ (i : grid2.Coords) (arg19_r0 : BitVec 32) (k2_hw5 : k2_chk5 i arg19_r0), ∀ (k2_h1 : k2_cond1 i = 1#1), ∀ a, (k2_off35 arg19_r0) a + S1x1024x27.size a ≤ S2x1024x27.size a := fun i arg19_r0 k2_hw5 k2_h1 => k2_hw5.2.2.2.1 k2_h1
theorem k2_off36_inb : ∀ (i : grid2.Coords) (arg19_r0 : BitVec 32) (k2_hw5 : k2_chk5 i arg19_r0), ∀ (k2_h1 : k2_cond1 i = 1#1), ∀ a, (k2_off36 arg19_r0) a + S1x1024x27.size a ≤ S2x1024x27.size a := fun i arg19_r0 k2_hw5 k2_h1 => k2_hw5.2.2.2.2 k2_h1

def k2_chk11 (i : grid2.Coords) (v282_r0 : IVec S16 32) (v293_r0 : IVec S16 32) : Prop :=
  (∀ (k2_h1 : k2_cond1 i = 1#1), ∀ a x, ((![v282_r0, v293_r0] : Fin 2 → IVec S16 32) a x).toNat < S1024x27.size a)
theorem k2_idx8_inb : ∀ (i : grid2.Coords) (v282_r0 : IVec S16 32) (v293_r0 : IVec S16 32) (k2_hw11 : k2_chk11 i v282_r0 v293_r0), ∀ (k2_h1 : k2_cond1 i = 1#1), ∀ a x, ((![v282_r0, v293_r0] : Fin 2 → IVec S16 32) a x).toNat < S1024x27.size a := fun i v282_r0 v293_r0 k2_hw11 k2_h1 => k2_hw11 k2_h1
def k2_off37 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k2_cond15 (i : grid2.Coords) (k2_t1 : Fin (k2_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k2_t1
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k2_off38 (i : grid2.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k2_off39 (arg19_r0 : BitVec 32) : Fin 1 → Nat :=
  let c2_i32_184_r0 : BitVec 32 := 2#32
  let v280_r0 : BitVec 32 := Scalar.remui arg19_r0 c2_i32_184_r0
  ![v280_r0.toNat]
def k2_off40 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k2_cond19 (i : grid2.Coords) (k2_t1 : Fin (k2_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k2_t1
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k2_off41 (i : grid2.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k2_off42 (arg20_r0 : BitVec 32) : Fin 1 → Nat :=
  let c2_i32_184_r0 : BitVec 32 := 2#32
  let v280_r0 : BitVec 32 := Scalar.remui arg20_r0 c2_i32_184_r0
  ![v280_r0.toNat]

def k2_chk1 (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k2_h1 : k2_cond1 i = 1#1), ∀ (k2_h5 : k2_cond5 i k2_t1 arg21_r0 = 1#1), ∀ a, (k2_off10 arg13_r0) a + S1x1x1024.size a ≤ S2x1x1024.size a) ∧
  (∀ (k2_h1 : k2_cond1 i = 1#1), ∀ (k2_h5 : k2_cond5 i k2_t1 arg21_r0 = 1#1), ∀ a, (k2_off11 i arg21_r0) a + S1x1024.size a ≤ S1x640000.size a) ∧
  (∀ (k2_h1 : k2_cond1 i = 1#1), ∀ (k2_h5 : k2_cond5 i k2_t1 arg21_r0 = 1#1), ∀ a, (k2_off12 arg13_r0) a + S1.size a ≤ S2.size a) ∧
  (∀ (k2_h1 : k2_cond1 i = 1#1), ∀ (k2_h6 : k2_cond6 i k2_t1 arg21_r0 = 1#1), ∀ a, (k2_off13 arg15_r0) a + S1x1x1024.size a ≤ S2x1x1024.size a) ∧
  (∀ (k2_h1 : k2_cond1 i = 1#1), ∀ (k2_h6 : k2_cond6 i k2_t1 arg21_r0 = 1#1), ∀ a, (k2_off14 i arg21_r0) a + S1x1024.size a ≤ S1x640000.size a) ∧
  (∀ (k2_h1 : k2_cond1 i = 1#1), ∀ (k2_h6 : k2_cond6 i k2_t1 arg21_r0 = 1#1), ∀ a, (k2_off15 arg15_r0) a + S1.size a ≤ S2.size a) ∧
  (∀ (k2_h1 : k2_cond1 i = 1#1), ∀ (k2_h7 : k2_cond7 i k2_t1 arg21_r0 = 1#1), ∀ a, (k2_off16 arg17_r0) a + S1x1x1024.size a ≤ S2x1x1024.size a) ∧
  (∀ (k2_h1 : k2_cond1 i = 1#1), ∀ (k2_h7 : k2_cond7 i k2_t1 arg21_r0 = 1#1), ∀ a, (k2_off17 i arg21_r0) a + S1x1024.size a ≤ S1x640000.size a) ∧
  (∀ (k2_h1 : k2_cond1 i = 1#1), ∀ (k2_h7 : k2_cond7 i k2_t1 arg21_r0 = 1#1), ∀ a, (k2_off18 arg17_r0) a + S1.size a ≤ S2.size a) ∧
  (∀ (k2_h1 : k2_cond1 i = 1#1), ∀ (k2_h8 : k2_cond8 i k2_t1 arg21_r0 = 1#1), ∀ a, (k2_off19 arg14_r0) a + S1x1x1024.size a ≤ S2x1x1024.size a) ∧
  (∀ (k2_h1 : k2_cond1 i = 1#1), ∀ (k2_h8 : k2_cond8 i k2_t1 arg21_r0 = 1#1), ∀ a, (k2_off20 i arg21_r0) a + S1x1024.size a ≤ S1x640000.size a) ∧
  (∀ (k2_h1 : k2_cond1 i = 1#1), ∀ (k2_h8 : k2_cond8 i k2_t1 arg21_r0 = 1#1), ∀ a, (k2_off21 arg14_r0) a + S1.size a ≤ S2.size a) ∧
  (∀ (k2_h1 : k2_cond1 i = 1#1), ∀ (k2_h9 : k2_cond9 i k2_t1 arg21_r0 = 1#1), ∀ a, (k2_off22 arg16_r0) a + S1x1x1024.size a ≤ S2x1x1024.size a) ∧
  (∀ (k2_h1 : k2_cond1 i = 1#1), ∀ (k2_h9 : k2_cond9 i k2_t1 arg21_r0 = 1#1), ∀ a, (k2_off23 i arg21_r0) a + S1x1024.size a ≤ S1x640000.size a) ∧
  (∀ (k2_h1 : k2_cond1 i = 1#1), ∀ (k2_h9 : k2_cond9 i k2_t1 arg21_r0 = 1#1), ∀ a, (k2_off24 arg16_r0) a + S1.size a ≤ S2.size a) ∧
  (∀ (k2_h1 : k2_cond1 i = 1#1), ∀ (k2_h10 : k2_cond10 i k2_t1 arg21_r0 = 1#1), ∀ a, (k2_off25 arg18_r0) a + S1x1x1024.size a ≤ S2x1x1024.size a) ∧
  (∀ (k2_h1 : k2_cond1 i = 1#1), ∀ (k2_h10 : k2_cond10 i k2_t1 arg21_r0 = 1#1), ∀ a, (k2_off26 i arg21_r0) a + S1x1024.size a ≤ S1x640000.size a) ∧
  (∀ (k2_h1 : k2_cond1 i = 1#1), ∀ (k2_h10 : k2_cond10 i k2_t1 arg21_r0 = 1#1), ∀ a, (k2_off27 arg18_r0) a + S1.size a ≤ S2.size a) ∧
  (∀ (k2_h1 : k2_cond1 i = 1#1), ∀ (k2_h15 : k2_cond15 i k2_t1 arg21_r0 = 1#1), ∀ a, (k2_off37 arg19_r0) a + S1x1024x27.size a ≤ S2x1024x27.size a) ∧
  (∀ (k2_h1 : k2_cond1 i = 1#1), ∀ (k2_h15 : k2_cond15 i k2_t1 arg21_r0 = 1#1), ∀ a, (k2_off38 i arg21_r0) a + S1024x27.size a ≤ S640000x27.size a) ∧
  (∀ (k2_h1 : k2_cond1 i = 1#1), ∀ (k2_h15 : k2_cond15 i k2_t1 arg21_r0 = 1#1), ∀ a, (k2_off39 arg19_r0) a + S1.size a ≤ S2.size a) ∧
  (∀ (k2_h1 : k2_cond1 i = 1#1), ∀ (k2_h19 : k2_cond19 i k2_t1 arg21_r0 = 1#1), ∀ a, (k2_off40 arg20_r0) a + S1x1024x27.size a ≤ S2x1024x27.size a) ∧
  (∀ (k2_h1 : k2_cond1 i = 1#1), ∀ (k2_h19 : k2_cond19 i k2_t1 arg21_r0 = 1#1), ∀ a, (k2_off41 i arg21_r0) a + S1024x27.size a ≤ S640000x27.size a) ∧
  (∀ (k2_h1 : k2_cond1 i = 1#1), ∀ (k2_h19 : k2_cond19 i k2_t1 arg21_r0 = 1#1), ∀ a, (k2_off42 arg20_r0) a + S1.size a ≤ S2.size a)
theorem k2_off10_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h5 : k2_cond5 i k2_t1 arg21_r0 = 1#1), ∀ a, (k2_off10 arg13_r0) a + S1x1x1024.size a ≤ S2x1x1024.size a := fun i k2_t1 arg13_r0 arg14_r0 arg15_r0 arg16_r0 arg17_r0 arg18_r0 arg19_r0 arg20_r0 arg21_r0 k2_hw1 k2_h1 k2_h5 => k2_hw1.1 k2_h1 k2_h5
theorem k2_off11_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h5 : k2_cond5 i k2_t1 arg21_r0 = 1#1), ∀ a, (k2_off11 i arg21_r0) a + S1x1024.size a ≤ S1x640000.size a := fun i k2_t1 arg13_r0 arg14_r0 arg15_r0 arg16_r0 arg17_r0 arg18_r0 arg19_r0 arg20_r0 arg21_r0 k2_hw1 k2_h1 k2_h5 => k2_hw1.2.1 k2_h1 k2_h5
theorem k2_off12_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h5 : k2_cond5 i k2_t1 arg21_r0 = 1#1), ∀ a, (k2_off12 arg13_r0) a + S1.size a ≤ S2.size a := fun i k2_t1 arg13_r0 arg14_r0 arg15_r0 arg16_r0 arg17_r0 arg18_r0 arg19_r0 arg20_r0 arg21_r0 k2_hw1 k2_h1 k2_h5 => k2_hw1.2.2.1 k2_h1 k2_h5
theorem k2_off13_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h6 : k2_cond6 i k2_t1 arg21_r0 = 1#1), ∀ a, (k2_off13 arg15_r0) a + S1x1x1024.size a ≤ S2x1x1024.size a := fun i k2_t1 arg13_r0 arg14_r0 arg15_r0 arg16_r0 arg17_r0 arg18_r0 arg19_r0 arg20_r0 arg21_r0 k2_hw1 k2_h1 k2_h6 => k2_hw1.2.2.2.1 k2_h1 k2_h6
theorem k2_off14_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h6 : k2_cond6 i k2_t1 arg21_r0 = 1#1), ∀ a, (k2_off14 i arg21_r0) a + S1x1024.size a ≤ S1x640000.size a := fun i k2_t1 arg13_r0 arg14_r0 arg15_r0 arg16_r0 arg17_r0 arg18_r0 arg19_r0 arg20_r0 arg21_r0 k2_hw1 k2_h1 k2_h6 => k2_hw1.2.2.2.2.1 k2_h1 k2_h6
theorem k2_off15_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h6 : k2_cond6 i k2_t1 arg21_r0 = 1#1), ∀ a, (k2_off15 arg15_r0) a + S1.size a ≤ S2.size a := fun i k2_t1 arg13_r0 arg14_r0 arg15_r0 arg16_r0 arg17_r0 arg18_r0 arg19_r0 arg20_r0 arg21_r0 k2_hw1 k2_h1 k2_h6 => k2_hw1.2.2.2.2.2.1 k2_h1 k2_h6
theorem k2_off16_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h7 : k2_cond7 i k2_t1 arg21_r0 = 1#1), ∀ a, (k2_off16 arg17_r0) a + S1x1x1024.size a ≤ S2x1x1024.size a := fun i k2_t1 arg13_r0 arg14_r0 arg15_r0 arg16_r0 arg17_r0 arg18_r0 arg19_r0 arg20_r0 arg21_r0 k2_hw1 k2_h1 k2_h7 => k2_hw1.2.2.2.2.2.2.1 k2_h1 k2_h7
theorem k2_off17_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h7 : k2_cond7 i k2_t1 arg21_r0 = 1#1), ∀ a, (k2_off17 i arg21_r0) a + S1x1024.size a ≤ S1x640000.size a := fun i k2_t1 arg13_r0 arg14_r0 arg15_r0 arg16_r0 arg17_r0 arg18_r0 arg19_r0 arg20_r0 arg21_r0 k2_hw1 k2_h1 k2_h7 => k2_hw1.2.2.2.2.2.2.2.1 k2_h1 k2_h7
theorem k2_off18_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h7 : k2_cond7 i k2_t1 arg21_r0 = 1#1), ∀ a, (k2_off18 arg17_r0) a + S1.size a ≤ S2.size a := fun i k2_t1 arg13_r0 arg14_r0 arg15_r0 arg16_r0 arg17_r0 arg18_r0 arg19_r0 arg20_r0 arg21_r0 k2_hw1 k2_h1 k2_h7 => k2_hw1.2.2.2.2.2.2.2.2.1 k2_h1 k2_h7
theorem k2_off19_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h8 : k2_cond8 i k2_t1 arg21_r0 = 1#1), ∀ a, (k2_off19 arg14_r0) a + S1x1x1024.size a ≤ S2x1x1024.size a := fun i k2_t1 arg13_r0 arg14_r0 arg15_r0 arg16_r0 arg17_r0 arg18_r0 arg19_r0 arg20_r0 arg21_r0 k2_hw1 k2_h1 k2_h8 => k2_hw1.2.2.2.2.2.2.2.2.2.1 k2_h1 k2_h8
theorem k2_off20_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h8 : k2_cond8 i k2_t1 arg21_r0 = 1#1), ∀ a, (k2_off20 i arg21_r0) a + S1x1024.size a ≤ S1x640000.size a := fun i k2_t1 arg13_r0 arg14_r0 arg15_r0 arg16_r0 arg17_r0 arg18_r0 arg19_r0 arg20_r0 arg21_r0 k2_hw1 k2_h1 k2_h8 => k2_hw1.2.2.2.2.2.2.2.2.2.2.1 k2_h1 k2_h8
theorem k2_off21_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h8 : k2_cond8 i k2_t1 arg21_r0 = 1#1), ∀ a, (k2_off21 arg14_r0) a + S1.size a ≤ S2.size a := fun i k2_t1 arg13_r0 arg14_r0 arg15_r0 arg16_r0 arg17_r0 arg18_r0 arg19_r0 arg20_r0 arg21_r0 k2_hw1 k2_h1 k2_h8 => k2_hw1.2.2.2.2.2.2.2.2.2.2.2.1 k2_h1 k2_h8
theorem k2_off22_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h9 : k2_cond9 i k2_t1 arg21_r0 = 1#1), ∀ a, (k2_off22 arg16_r0) a + S1x1x1024.size a ≤ S2x1x1024.size a := fun i k2_t1 arg13_r0 arg14_r0 arg15_r0 arg16_r0 arg17_r0 arg18_r0 arg19_r0 arg20_r0 arg21_r0 k2_hw1 k2_h1 k2_h9 => k2_hw1.2.2.2.2.2.2.2.2.2.2.2.2.1 k2_h1 k2_h9
theorem k2_off23_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h9 : k2_cond9 i k2_t1 arg21_r0 = 1#1), ∀ a, (k2_off23 i arg21_r0) a + S1x1024.size a ≤ S1x640000.size a := fun i k2_t1 arg13_r0 arg14_r0 arg15_r0 arg16_r0 arg17_r0 arg18_r0 arg19_r0 arg20_r0 arg21_r0 k2_hw1 k2_h1 k2_h9 => k2_hw1.2.2.2.2.2.2.2.2.2.2.2.2.2.1 k2_h1 k2_h9
theorem k2_off24_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h9 : k2_cond9 i k2_t1 arg21_r0 = 1#1), ∀ a, (k2_off24 arg16_r0) a + S1.size a ≤ S2.size a := fun i k2_t1 arg13_r0 arg14_r0 arg15_r0 arg16_r0 arg17_r0 arg18_r0 arg19_r0 arg20_r0 arg21_r0 k2_hw1 k2_h1 k2_h9 => k2_hw1.2.2.2.2.2.2.2.2.2.2.2.2.2.2.1 k2_h1 k2_h9
theorem k2_off25_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h10 : k2_cond10 i k2_t1 arg21_r0 = 1#1), ∀ a, (k2_off25 arg18_r0) a + S1x1x1024.size a ≤ S2x1x1024.size a := fun i k2_t1 arg13_r0 arg14_r0 arg15_r0 arg16_r0 arg17_r0 arg18_r0 arg19_r0 arg20_r0 arg21_r0 k2_hw1 k2_h1 k2_h10 => k2_hw1.2.2.2.2.2.2.2.2.2.2.2.2.2.2.2.1 k2_h1 k2_h10
theorem k2_off26_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h10 : k2_cond10 i k2_t1 arg21_r0 = 1#1), ∀ a, (k2_off26 i arg21_r0) a + S1x1024.size a ≤ S1x640000.size a := fun i k2_t1 arg13_r0 arg14_r0 arg15_r0 arg16_r0 arg17_r0 arg18_r0 arg19_r0 arg20_r0 arg21_r0 k2_hw1 k2_h1 k2_h10 => k2_hw1.2.2.2.2.2.2.2.2.2.2.2.2.2.2.2.2.1 k2_h1 k2_h10
theorem k2_off27_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h10 : k2_cond10 i k2_t1 arg21_r0 = 1#1), ∀ a, (k2_off27 arg18_r0) a + S1.size a ≤ S2.size a := fun i k2_t1 arg13_r0 arg14_r0 arg15_r0 arg16_r0 arg17_r0 arg18_r0 arg19_r0 arg20_r0 arg21_r0 k2_hw1 k2_h1 k2_h10 => k2_hw1.2.2.2.2.2.2.2.2.2.2.2.2.2.2.2.2.2.1 k2_h1 k2_h10
theorem k2_off37_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h15 : k2_cond15 i k2_t1 arg21_r0 = 1#1), ∀ a, (k2_off37 arg19_r0) a + S1x1024x27.size a ≤ S2x1024x27.size a := fun i k2_t1 arg13_r0 arg14_r0 arg15_r0 arg16_r0 arg17_r0 arg18_r0 arg19_r0 arg20_r0 arg21_r0 k2_hw1 k2_h1 k2_h15 => k2_hw1.2.2.2.2.2.2.2.2.2.2.2.2.2.2.2.2.2.2.1 k2_h1 k2_h15
theorem k2_off38_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h15 : k2_cond15 i k2_t1 arg21_r0 = 1#1), ∀ a, (k2_off38 i arg21_r0) a + S1024x27.size a ≤ S640000x27.size a := fun i k2_t1 arg13_r0 arg14_r0 arg15_r0 arg16_r0 arg17_r0 arg18_r0 arg19_r0 arg20_r0 arg21_r0 k2_hw1 k2_h1 k2_h15 => k2_hw1.2.2.2.2.2.2.2.2.2.2.2.2.2.2.2.2.2.2.2.1 k2_h1 k2_h15
theorem k2_off39_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h15 : k2_cond15 i k2_t1 arg21_r0 = 1#1), ∀ a, (k2_off39 arg19_r0) a + S1.size a ≤ S2.size a := fun i k2_t1 arg13_r0 arg14_r0 arg15_r0 arg16_r0 arg17_r0 arg18_r0 arg19_r0 arg20_r0 arg21_r0 k2_hw1 k2_h1 k2_h15 => k2_hw1.2.2.2.2.2.2.2.2.2.2.2.2.2.2.2.2.2.2.2.2.1 k2_h1 k2_h15
theorem k2_off40_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h19 : k2_cond19 i k2_t1 arg21_r0 = 1#1), ∀ a, (k2_off40 arg20_r0) a + S1x1024x27.size a ≤ S2x1024x27.size a := fun i k2_t1 arg13_r0 arg14_r0 arg15_r0 arg16_r0 arg17_r0 arg18_r0 arg19_r0 arg20_r0 arg21_r0 k2_hw1 k2_h1 k2_h19 => k2_hw1.2.2.2.2.2.2.2.2.2.2.2.2.2.2.2.2.2.2.2.2.2.1 k2_h1 k2_h19
theorem k2_off41_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h19 : k2_cond19 i k2_t1 arg21_r0 = 1#1), ∀ a, (k2_off41 i arg21_r0) a + S1024x27.size a ≤ S640000x27.size a := fun i k2_t1 arg13_r0 arg14_r0 arg15_r0 arg16_r0 arg17_r0 arg18_r0 arg19_r0 arg20_r0 arg21_r0 k2_hw1 k2_h1 k2_h19 => k2_hw1.2.2.2.2.2.2.2.2.2.2.2.2.2.2.2.2.2.2.2.2.2.2.1 k2_h1 k2_h19
theorem k2_off42_inb : ∀ (i : grid2.Coords) (k2_t1 : Fin (k2_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw1 : k2_chk1 i k2_t1 arg13_r0 arg14_r0 arg15_r0 arg16_r0 arg17_r0 arg18_r0 arg19_r0 arg20_r0 arg21_r0), ∀ (k2_h1 : k2_cond1 i = 1#1), ∀ (k2_h19 : k2_cond19 i k2_t1 arg21_r0 = 1#1), ∀ a, (k2_off42 arg20_r0) a + S1.size a ≤ S2.size a := fun i k2_t1 arg13_r0 arg14_r0 arg15_r0 arg16_r0 arg17_r0 arg18_r0 arg19_r0 arg20_r0 arg21_r0 k2_hw1 k2_h1 k2_h19 => k2_hw1.2.2.2.2.2.2.2.2.2.2.2.2.2.2.2.2.2.2.2.2.2.2.2 k2_h1 k2_h19

@[reducible] def k2_t4_loop (i : grid2.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let v62_r0 : BitVec 32 := Scalar.addi c0_i32_47_r0 v61_r0
  let c1_i32_56_r0 : BitVec 32 := 1#32
  ⟨v65_r0, v62_r0, c1_i32_56_r0⟩
def k2_off43 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k2_cond20 (i : grid2.Coords) (k2_t4 : Fin (k2_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k2_t4
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k2_off44 (i : grid2.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k2_off45 (arg13_r0 : BitVec 32) : Fin 1 → Nat :=
  let c2_i32_184_r0 : BitVec 32 := 2#32
  let v280_r0 : BitVec 32 := Scalar.remui arg13_r0 c2_i32_184_r0
  ![v280_r0.toNat]
def k2_off46 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k2_cond21 (i : grid2.Coords) (k2_t4 : Fin (k2_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k2_t4
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k2_off47 (i : grid2.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k2_off48 (arg15_r0 : BitVec 32) : Fin 1 → Nat :=
  let c2_i32_184_r0 : BitVec 32 := 2#32
  let v280_r0 : BitVec 32 := Scalar.remui arg15_r0 c2_i32_184_r0
  ![v280_r0.toNat]
def k2_off49 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k2_cond22 (i : grid2.Coords) (k2_t4 : Fin (k2_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k2_t4
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k2_off50 (i : grid2.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k2_off51 (arg17_r0 : BitVec 32) : Fin 1 → Nat :=
  let c2_i32_184_r0 : BitVec 32 := 2#32
  let v280_r0 : BitVec 32 := Scalar.remui arg17_r0 c2_i32_184_r0
  ![v280_r0.toNat]
def k2_off52 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k2_cond23 (i : grid2.Coords) (k2_t4 : Fin (k2_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k2_t4
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k2_off53 (i : grid2.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k2_off54 (arg14_r0 : BitVec 32) : Fin 1 → Nat :=
  let c2_i32_185_r0 : BitVec 32 := 2#32
  let v281_r0 : BitVec 32 := Scalar.remui arg14_r0 c2_i32_185_r0
  ![v281_r0.toNat]
def k2_off55 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k2_cond24 (i : grid2.Coords) (k2_t4 : Fin (k2_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k2_t4
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k2_off56 (i : grid2.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k2_off57 (arg16_r0 : BitVec 32) : Fin 1 → Nat :=
  let c2_i32_185_r0 : BitVec 32 := 2#32
  let v281_r0 : BitVec 32 := Scalar.remui arg16_r0 c2_i32_185_r0
  ![v281_r0.toNat]
def k2_off58 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k2_cond25 (i : grid2.Coords) (k2_t4 : Fin (k2_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k2_t4
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k2_off59 (i : grid2.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k2_off60 (arg18_r0 : BitVec 32) : Fin 1 → Nat :=
  let c2_i32_185_r0 : BitVec 32 := 2#32
  let v281_r0 : BitVec 32 := Scalar.remui arg18_r0 c2_i32_185_r0
  ![v281_r0.toNat]
def k2_off61 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k2_chk13 (i : grid2.Coords) (k2_t4 : Fin (k2_t4_loop i).trips) (arg14_r0 : BitVec 32) : Prop :=
  (∀ (k2_h1 : k2_cond1 i = 1#1), ∀ a, (k2_off61 arg14_r0) a + S1x1x1024.size a ≤ S2x1x1024.size a)
theorem k2_off61_inb : ∀ (i : grid2.Coords) (k2_t4 : Fin (k2_t4_loop i).trips) (arg14_r0 : BitVec 32) (k2_hw13 : k2_chk13 i k2_t4 arg14_r0), ∀ (k2_h1 : k2_cond1 i = 1#1), ∀ a, (k2_off61 arg14_r0) a + S1x1x1024.size a ≤ S2x1x1024.size a := fun i k2_t4 arg14_r0 k2_hw13 k2_h1 => k2_hw13 k2_h1

def k2_off62 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k2_chk14 (i : grid2.Coords) (k2_t4 : Fin (k2_t4_loop i).trips) (arg16_r0 : BitVec 32) : Prop :=
  (∀ (k2_h1 : k2_cond1 i = 1#1), ∀ a, (k2_off62 arg16_r0) a + S1x1x1024.size a ≤ S2x1x1024.size a)
theorem k2_off62_inb : ∀ (i : grid2.Coords) (k2_t4 : Fin (k2_t4_loop i).trips) (arg16_r0 : BitVec 32) (k2_hw14 : k2_chk14 i k2_t4 arg16_r0), ∀ (k2_h1 : k2_cond1 i = 1#1), ∀ a, (k2_off62 arg16_r0) a + S1x1x1024.size a ≤ S2x1x1024.size a := fun i k2_t4 arg16_r0 k2_hw14 k2_h1 => k2_hw14 k2_h1

@[reducible] def k2_t5_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k2_off63 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k2_chk15 (i : grid2.Coords) (k2_t4 : Fin (k2_t4_loop i).trips) (arg18_r0 : BitVec 32) : Prop :=
  (∀ (k2_h1 : k2_cond1 i = 1#1), ∀ a, (k2_off63 arg18_r0) a + S1x1x1024.size a ≤ S2x1x1024.size a)
theorem k2_off63_inb : ∀ (i : grid2.Coords) (k2_t4 : Fin (k2_t4_loop i).trips) (arg18_r0 : BitVec 32) (k2_hw15 : k2_chk15 i k2_t4 arg18_r0), ∀ (k2_h1 : k2_cond1 i = 1#1), ∀ a, (k2_off63 arg18_r0) a + S1x1x1024.size a ≤ S2x1x1024.size a := fun i k2_t4 arg18_r0 k2_hw15 k2_h1 => k2_hw15 k2_h1

def k2_off64 (k2_t5 : Fin k2_t5_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k2_t5
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k2_off65 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k2_chk17 (i : grid2.Coords) (k2_t4 : Fin (k2_t4_loop i).trips) (v293_r0 : IVec S16 32) (v295_r0 : IVec S16 32) : Prop :=
  (∀ (k2_h1 : k2_cond1 i = 1#1), ∀ a x, ((![v293_r0, v295_r0] : Fin 2 → IVec S16 32) a x).toNat < S1024x27.size a)
theorem k2_idx9_inb : ∀ (i : grid2.Coords) (k2_t4 : Fin (k2_t4_loop i).trips) (v293_r0 : IVec S16 32) (v295_r0 : IVec S16 32) (k2_hw17 : k2_chk17 i k2_t4 v293_r0 v295_r0), ∀ (k2_h1 : k2_cond1 i = 1#1), ∀ a x, ((![v293_r0, v295_r0] : Fin 2 → IVec S16 32) a x).toNat < S1024x27.size a := fun i k2_t4 v293_r0 v295_r0 k2_hw17 k2_h1 => k2_hw17 k2_h1
def k2_off66 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k2_chk18 (i : grid2.Coords) (k2_t4 : Fin (k2_t4_loop i).trips) (v293_r0 : IVec S16 32) (v299_r0 : IVec S16 32) : Prop :=
  (∀ (k2_h1 : k2_cond1 i = 1#1), ∀ a x, ((![v293_r0, v299_r0] : Fin 2 → IVec S16 32) a x).toNat < S1024x27.size a)
theorem k2_idx10_inb : ∀ (i : grid2.Coords) (k2_t4 : Fin (k2_t4_loop i).trips) (v293_r0 : IVec S16 32) (v299_r0 : IVec S16 32) (k2_hw18 : k2_chk18 i k2_t4 v293_r0 v299_r0), ∀ (k2_h1 : k2_cond1 i = 1#1), ∀ a x, ((![v293_r0, v299_r0] : Fin 2 → IVec S16 32) a x).toNat < S1024x27.size a := fun i k2_t4 v293_r0 v299_r0 k2_hw18 k2_h1 => k2_hw18 k2_h1
def k2_off67 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k2_chk19 (i : grid2.Coords) (k2_t4 : Fin (k2_t4_loop i).trips) (v293_r0 : IVec S16 32) (v306_r0 : IVec S16 32) : Prop :=
  (∀ (k2_h1 : k2_cond1 i = 1#1), ∀ a x, ((![v293_r0, v306_r0] : Fin 2 → IVec S16 32) a x).toNat < S1024x27.size a)
theorem k2_idx11_inb : ∀ (i : grid2.Coords) (k2_t4 : Fin (k2_t4_loop i).trips) (v293_r0 : IVec S16 32) (v306_r0 : IVec S16 32) (k2_hw19 : k2_chk19 i k2_t4 v293_r0 v306_r0), ∀ (k2_h1 : k2_cond1 i = 1#1), ∀ a x, ((![v293_r0, v306_r0] : Fin 2 → IVec S16 32) a x).toNat < S1024x27.size a := fun i k2_t4 v293_r0 v306_r0 k2_hw19 k2_h1 => k2_hw19 k2_h1
@[reducible] def k2_t6_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k2_chk20 (i : grid2.Coords) (v0 : IVec S16 32) (k2_t4 : Fin (k2_t4_loop i).trips) (v282_r0 : IVec S16 32) : Prop :=
  (∀ (k2_h1 : k2_cond1 i = 1#1), ∀ a x, ((![v282_r0, v0] : Fin 2 → IVec S16 32) a x).toNat < S1024x16.size a) ∧
  (∀ (k2_h1 : k2_cond1 i = 1#1), ∀ a x, ((![v282_r0, v0] : Fin 2 → IVec S16 32) a x).toNat < S1024x16.size a) ∧
  (∀ (k2_h1 : k2_cond1 i = 1#1), ∀ a x, ((![v282_r0] : Fin 1 → IVec S16 32) a x).toNat < S1024.size a)
theorem k2_idx12_inb : ∀ (i : grid2.Coords) (v0 : IVec S16 32) (k2_t4 : Fin (k2_t4_loop i).trips) (v282_r0 : IVec S16 32) (k2_hw20 : k2_chk20 i v0 k2_t4 v282_r0), ∀ (k2_h1 : k2_cond1 i = 1#1), ∀ a x, ((![v282_r0, v0] : Fin 2 → IVec S16 32) a x).toNat < S1024x16.size a := fun i v0 k2_t4 v282_r0 k2_hw20 k2_h1 => k2_hw20.1 k2_h1
theorem k2_idx13_inb : ∀ (i : grid2.Coords) (v0 : IVec S16 32) (k2_t4 : Fin (k2_t4_loop i).trips) (v282_r0 : IVec S16 32) (k2_hw20 : k2_chk20 i v0 k2_t4 v282_r0), ∀ (k2_h1 : k2_cond1 i = 1#1), ∀ a x, ((![v282_r0, v0] : Fin 2 → IVec S16 32) a x).toNat < S1024x16.size a := fun i v0 k2_t4 v282_r0 k2_hw20 k2_h1 => k2_hw20.2.1 k2_h1
theorem k2_idx14_inb : ∀ (i : grid2.Coords) (v0 : IVec S16 32) (k2_t4 : Fin (k2_t4_loop i).trips) (v282_r0 : IVec S16 32) (k2_hw20 : k2_chk20 i v0 k2_t4 v282_r0), ∀ (k2_h1 : k2_cond1 i = 1#1), ∀ a x, ((![v282_r0] : Fin 1 → IVec S16 32) a x).toNat < S1024.size a := fun i v0 k2_t4 v282_r0 k2_hw20 k2_h1 => k2_hw20.2.2 k2_h1
def k2_off68 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k2_chk21 (i : grid2.Coords) (k2_t4 : Fin (k2_t4_loop i).trips) (v282_r0 : IVec S16 32) (v287_r0 : IVec S16 32) : Prop :=
  (∀ (k2_h1 : k2_cond1 i = 1#1), ∀ a x, ((![v282_r0, v287_r0] : Fin 2 → IVec S16 32) a x).toNat < S1024x27.size a)
theorem k2_idx15_inb : ∀ (i : grid2.Coords) (k2_t4 : Fin (k2_t4_loop i).trips) (v282_r0 : IVec S16 32) (v287_r0 : IVec S16 32) (k2_hw21 : k2_chk21 i k2_t4 v282_r0 v287_r0), ∀ (k2_h1 : k2_cond1 i = 1#1), ∀ a x, ((![v282_r0, v287_r0] : Fin 2 → IVec S16 32) a x).toNat < S1024x27.size a := fun i k2_t4 v282_r0 v287_r0 k2_hw21 k2_h1 => k2_hw21 k2_h1
def k2_off69 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k2_chk16 (i : grid2.Coords) (k2_t4 : Fin (k2_t4_loop i).trips) (arg19_r0 : BitVec 32) : Prop :=
  (∀ (k2_h1 : k2_cond1 i = 1#1), ∀ a, (k2_off65 arg19_r0) a + S1x1024x27.size a ≤ S2x1024x27.size a) ∧
  (∀ (k2_h1 : k2_cond1 i = 1#1), ∀ a, (k2_off66 arg19_r0) a + S1x1024x27.size a ≤ S2x1024x27.size a) ∧
  (∀ (k2_h1 : k2_cond1 i = 1#1), ∀ a, (k2_off67 arg19_r0) a + S1x1024x27.size a ≤ S2x1024x27.size a) ∧
  (∀ (k2_h1 : k2_cond1 i = 1#1), ∀ a, (k2_off68 arg19_r0) a + S1x1024x27.size a ≤ S2x1024x27.size a) ∧
  (∀ (k2_h1 : k2_cond1 i = 1#1), ∀ a, (k2_off69 arg19_r0) a + S1x1024x27.size a ≤ S2x1024x27.size a)
theorem k2_off65_inb : ∀ (i : grid2.Coords) (k2_t4 : Fin (k2_t4_loop i).trips) (arg19_r0 : BitVec 32) (k2_hw16 : k2_chk16 i k2_t4 arg19_r0), ∀ (k2_h1 : k2_cond1 i = 1#1), ∀ a, (k2_off65 arg19_r0) a + S1x1024x27.size a ≤ S2x1024x27.size a := fun i k2_t4 arg19_r0 k2_hw16 k2_h1 => k2_hw16.1 k2_h1
theorem k2_off66_inb : ∀ (i : grid2.Coords) (k2_t4 : Fin (k2_t4_loop i).trips) (arg19_r0 : BitVec 32) (k2_hw16 : k2_chk16 i k2_t4 arg19_r0), ∀ (k2_h1 : k2_cond1 i = 1#1), ∀ a, (k2_off66 arg19_r0) a + S1x1024x27.size a ≤ S2x1024x27.size a := fun i k2_t4 arg19_r0 k2_hw16 k2_h1 => k2_hw16.2.1 k2_h1
theorem k2_off67_inb : ∀ (i : grid2.Coords) (k2_t4 : Fin (k2_t4_loop i).trips) (arg19_r0 : BitVec 32) (k2_hw16 : k2_chk16 i k2_t4 arg19_r0), ∀ (k2_h1 : k2_cond1 i = 1#1), ∀ a, (k2_off67 arg19_r0) a + S1x1024x27.size a ≤ S2x1024x27.size a := fun i k2_t4 arg19_r0 k2_hw16 k2_h1 => k2_hw16.2.2.1 k2_h1
theorem k2_off68_inb : ∀ (i : grid2.Coords) (k2_t4 : Fin (k2_t4_loop i).trips) (arg19_r0 : BitVec 32) (k2_hw16 : k2_chk16 i k2_t4 arg19_r0), ∀ (k2_h1 : k2_cond1 i = 1#1), ∀ a, (k2_off68 arg19_r0) a + S1x1024x27.size a ≤ S2x1024x27.size a := fun i k2_t4 arg19_r0 k2_hw16 k2_h1 => k2_hw16.2.2.2.1 k2_h1
theorem k2_off69_inb : ∀ (i : grid2.Coords) (k2_t4 : Fin (k2_t4_loop i).trips) (arg19_r0 : BitVec 32) (k2_hw16 : k2_chk16 i k2_t4 arg19_r0), ∀ (k2_h1 : k2_cond1 i = 1#1), ∀ a, (k2_off69 arg19_r0) a + S1x1024x27.size a ≤ S2x1024x27.size a := fun i k2_t4 arg19_r0 k2_hw16 k2_h1 => k2_hw16.2.2.2.2 k2_h1

def k2_chk22 (i : grid2.Coords) (k2_t4 : Fin (k2_t4_loop i).trips) (v282_r0 : IVec S16 32) (v293_r0 : IVec S16 32) : Prop :=
  (∀ (k2_h1 : k2_cond1 i = 1#1), ∀ a x, ((![v282_r0, v293_r0] : Fin 2 → IVec S16 32) a x).toNat < S1024x27.size a)
theorem k2_idx16_inb : ∀ (i : grid2.Coords) (k2_t4 : Fin (k2_t4_loop i).trips) (v282_r0 : IVec S16 32) (v293_r0 : IVec S16 32) (k2_hw22 : k2_chk22 i k2_t4 v282_r0 v293_r0), ∀ (k2_h1 : k2_cond1 i = 1#1), ∀ a x, ((![v282_r0, v293_r0] : Fin 2 → IVec S16 32) a x).toNat < S1024x27.size a := fun i k2_t4 v282_r0 v293_r0 k2_hw22 k2_h1 => k2_hw22 k2_h1
def k2_off70 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k2_cond30 (i : grid2.Coords) (k2_t4 : Fin (k2_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k2_t4
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k2_off71 (i : grid2.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k2_off72 (arg19_r0 : BitVec 32) : Fin 1 → Nat :=
  let c2_i32_184_r0 : BitVec 32 := 2#32
  let v280_r0 : BitVec 32 := Scalar.remui arg19_r0 c2_i32_184_r0
  ![v280_r0.toNat]
def k2_off73 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k2_cond34 (i : grid2.Coords) (k2_t4 : Fin (k2_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k2_t4
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k2_off74 (i : grid2.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k2_off75 (arg20_r0 : BitVec 32) : Fin 1 → Nat :=
  let c2_i32_184_r0 : BitVec 32 := 2#32
  let v280_r0 : BitVec 32 := Scalar.remui arg20_r0 c2_i32_184_r0
  ![v280_r0.toNat]

def k2_chk12 (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k2_h1 : k2_cond1 i = 1#1), ∀ (k2_h20 : k2_cond20 i k2_t4 arg21_r0 = 1#1), ∀ a, (k2_off43 arg13_r0) a + S1x1x1024.size a ≤ S2x1x1024.size a) ∧
  (∀ (k2_h1 : k2_cond1 i = 1#1), ∀ (k2_h20 : k2_cond20 i k2_t4 arg21_r0 = 1#1), ∀ a, (k2_off44 i arg21_r0) a + S1x1024.size a ≤ S1x640000.size a) ∧
  (∀ (k2_h1 : k2_cond1 i = 1#1), ∀ (k2_h20 : k2_cond20 i k2_t4 arg21_r0 = 1#1), ∀ a, (k2_off45 arg13_r0) a + S1.size a ≤ S2.size a) ∧
  (∀ (k2_h1 : k2_cond1 i = 1#1), ∀ (k2_h21 : k2_cond21 i k2_t4 arg21_r0 = 1#1), ∀ a, (k2_off46 arg15_r0) a + S1x1x1024.size a ≤ S2x1x1024.size a) ∧
  (∀ (k2_h1 : k2_cond1 i = 1#1), ∀ (k2_h21 : k2_cond21 i k2_t4 arg21_r0 = 1#1), ∀ a, (k2_off47 i arg21_r0) a + S1x1024.size a ≤ S1x640000.size a) ∧
  (∀ (k2_h1 : k2_cond1 i = 1#1), ∀ (k2_h21 : k2_cond21 i k2_t4 arg21_r0 = 1#1), ∀ a, (k2_off48 arg15_r0) a + S1.size a ≤ S2.size a) ∧
  (∀ (k2_h1 : k2_cond1 i = 1#1), ∀ (k2_h22 : k2_cond22 i k2_t4 arg21_r0 = 1#1), ∀ a, (k2_off49 arg17_r0) a + S1x1x1024.size a ≤ S2x1x1024.size a) ∧
  (∀ (k2_h1 : k2_cond1 i = 1#1), ∀ (k2_h22 : k2_cond22 i k2_t4 arg21_r0 = 1#1), ∀ a, (k2_off50 i arg21_r0) a + S1x1024.size a ≤ S1x640000.size a) ∧
  (∀ (k2_h1 : k2_cond1 i = 1#1), ∀ (k2_h22 : k2_cond22 i k2_t4 arg21_r0 = 1#1), ∀ a, (k2_off51 arg17_r0) a + S1.size a ≤ S2.size a) ∧
  (∀ (k2_h1 : k2_cond1 i = 1#1), ∀ (k2_h23 : k2_cond23 i k2_t4 arg21_r0 = 1#1), ∀ a, (k2_off52 arg14_r0) a + S1x1x1024.size a ≤ S2x1x1024.size a) ∧
  (∀ (k2_h1 : k2_cond1 i = 1#1), ∀ (k2_h23 : k2_cond23 i k2_t4 arg21_r0 = 1#1), ∀ a, (k2_off53 i arg21_r0) a + S1x1024.size a ≤ S1x640000.size a) ∧
  (∀ (k2_h1 : k2_cond1 i = 1#1), ∀ (k2_h23 : k2_cond23 i k2_t4 arg21_r0 = 1#1), ∀ a, (k2_off54 arg14_r0) a + S1.size a ≤ S2.size a) ∧
  (∀ (k2_h1 : k2_cond1 i = 1#1), ∀ (k2_h24 : k2_cond24 i k2_t4 arg21_r0 = 1#1), ∀ a, (k2_off55 arg16_r0) a + S1x1x1024.size a ≤ S2x1x1024.size a) ∧
  (∀ (k2_h1 : k2_cond1 i = 1#1), ∀ (k2_h24 : k2_cond24 i k2_t4 arg21_r0 = 1#1), ∀ a, (k2_off56 i arg21_r0) a + S1x1024.size a ≤ S1x640000.size a) ∧
  (∀ (k2_h1 : k2_cond1 i = 1#1), ∀ (k2_h24 : k2_cond24 i k2_t4 arg21_r0 = 1#1), ∀ a, (k2_off57 arg16_r0) a + S1.size a ≤ S2.size a) ∧
  (∀ (k2_h1 : k2_cond1 i = 1#1), ∀ (k2_h25 : k2_cond25 i k2_t4 arg21_r0 = 1#1), ∀ a, (k2_off58 arg18_r0) a + S1x1x1024.size a ≤ S2x1x1024.size a) ∧
  (∀ (k2_h1 : k2_cond1 i = 1#1), ∀ (k2_h25 : k2_cond25 i k2_t4 arg21_r0 = 1#1), ∀ a, (k2_off59 i arg21_r0) a + S1x1024.size a ≤ S1x640000.size a) ∧
  (∀ (k2_h1 : k2_cond1 i = 1#1), ∀ (k2_h25 : k2_cond25 i k2_t4 arg21_r0 = 1#1), ∀ a, (k2_off60 arg18_r0) a + S1.size a ≤ S2.size a) ∧
  (∀ (k2_h1 : k2_cond1 i = 1#1), ∀ (k2_h30 : k2_cond30 i k2_t4 arg21_r0 = 1#1), ∀ a, (k2_off70 arg19_r0) a + S1x1024x27.size a ≤ S2x1024x27.size a) ∧
  (∀ (k2_h1 : k2_cond1 i = 1#1), ∀ (k2_h30 : k2_cond30 i k2_t4 arg21_r0 = 1#1), ∀ a, (k2_off71 i arg21_r0) a + S1024x27.size a ≤ S640000x27.size a) ∧
  (∀ (k2_h1 : k2_cond1 i = 1#1), ∀ (k2_h30 : k2_cond30 i k2_t4 arg21_r0 = 1#1), ∀ a, (k2_off72 arg19_r0) a + S1.size a ≤ S2.size a) ∧
  (∀ (k2_h1 : k2_cond1 i = 1#1), ∀ (k2_h34 : k2_cond34 i k2_t4 arg21_r0 = 1#1), ∀ a, (k2_off73 arg20_r0) a + S1x1024x27.size a ≤ S2x1024x27.size a) ∧
  (∀ (k2_h1 : k2_cond1 i = 1#1), ∀ (k2_h34 : k2_cond34 i k2_t4 arg21_r0 = 1#1), ∀ a, (k2_off74 i arg21_r0) a + S1024x27.size a ≤ S640000x27.size a) ∧
  (∀ (k2_h1 : k2_cond1 i = 1#1), ∀ (k2_h34 : k2_cond34 i k2_t4 arg21_r0 = 1#1), ∀ a, (k2_off75 arg20_r0) a + S1.size a ≤ S2.size a)
theorem k2_off43_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h20 : k2_cond20 i k2_t4 arg21_r0 = 1#1), ∀ a, (k2_off43 arg13_r0) a + S1x1x1024.size a ≤ S2x1x1024.size a := fun i k2_t4 arg13_r0 arg14_r0 arg15_r0 arg16_r0 arg17_r0 arg18_r0 arg19_r0 arg20_r0 arg21_r0 k2_hw12 k2_h1 k2_h20 => k2_hw12.1 k2_h1 k2_h20
theorem k2_off44_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h20 : k2_cond20 i k2_t4 arg21_r0 = 1#1), ∀ a, (k2_off44 i arg21_r0) a + S1x1024.size a ≤ S1x640000.size a := fun i k2_t4 arg13_r0 arg14_r0 arg15_r0 arg16_r0 arg17_r0 arg18_r0 arg19_r0 arg20_r0 arg21_r0 k2_hw12 k2_h1 k2_h20 => k2_hw12.2.1 k2_h1 k2_h20
theorem k2_off45_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h20 : k2_cond20 i k2_t4 arg21_r0 = 1#1), ∀ a, (k2_off45 arg13_r0) a + S1.size a ≤ S2.size a := fun i k2_t4 arg13_r0 arg14_r0 arg15_r0 arg16_r0 arg17_r0 arg18_r0 arg19_r0 arg20_r0 arg21_r0 k2_hw12 k2_h1 k2_h20 => k2_hw12.2.2.1 k2_h1 k2_h20
theorem k2_off46_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h21 : k2_cond21 i k2_t4 arg21_r0 = 1#1), ∀ a, (k2_off46 arg15_r0) a + S1x1x1024.size a ≤ S2x1x1024.size a := fun i k2_t4 arg13_r0 arg14_r0 arg15_r0 arg16_r0 arg17_r0 arg18_r0 arg19_r0 arg20_r0 arg21_r0 k2_hw12 k2_h1 k2_h21 => k2_hw12.2.2.2.1 k2_h1 k2_h21
theorem k2_off47_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h21 : k2_cond21 i k2_t4 arg21_r0 = 1#1), ∀ a, (k2_off47 i arg21_r0) a + S1x1024.size a ≤ S1x640000.size a := fun i k2_t4 arg13_r0 arg14_r0 arg15_r0 arg16_r0 arg17_r0 arg18_r0 arg19_r0 arg20_r0 arg21_r0 k2_hw12 k2_h1 k2_h21 => k2_hw12.2.2.2.2.1 k2_h1 k2_h21
theorem k2_off48_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h21 : k2_cond21 i k2_t4 arg21_r0 = 1#1), ∀ a, (k2_off48 arg15_r0) a + S1.size a ≤ S2.size a := fun i k2_t4 arg13_r0 arg14_r0 arg15_r0 arg16_r0 arg17_r0 arg18_r0 arg19_r0 arg20_r0 arg21_r0 k2_hw12 k2_h1 k2_h21 => k2_hw12.2.2.2.2.2.1 k2_h1 k2_h21
theorem k2_off49_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h22 : k2_cond22 i k2_t4 arg21_r0 = 1#1), ∀ a, (k2_off49 arg17_r0) a + S1x1x1024.size a ≤ S2x1x1024.size a := fun i k2_t4 arg13_r0 arg14_r0 arg15_r0 arg16_r0 arg17_r0 arg18_r0 arg19_r0 arg20_r0 arg21_r0 k2_hw12 k2_h1 k2_h22 => k2_hw12.2.2.2.2.2.2.1 k2_h1 k2_h22
theorem k2_off50_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h22 : k2_cond22 i k2_t4 arg21_r0 = 1#1), ∀ a, (k2_off50 i arg21_r0) a + S1x1024.size a ≤ S1x640000.size a := fun i k2_t4 arg13_r0 arg14_r0 arg15_r0 arg16_r0 arg17_r0 arg18_r0 arg19_r0 arg20_r0 arg21_r0 k2_hw12 k2_h1 k2_h22 => k2_hw12.2.2.2.2.2.2.2.1 k2_h1 k2_h22
theorem k2_off51_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h22 : k2_cond22 i k2_t4 arg21_r0 = 1#1), ∀ a, (k2_off51 arg17_r0) a + S1.size a ≤ S2.size a := fun i k2_t4 arg13_r0 arg14_r0 arg15_r0 arg16_r0 arg17_r0 arg18_r0 arg19_r0 arg20_r0 arg21_r0 k2_hw12 k2_h1 k2_h22 => k2_hw12.2.2.2.2.2.2.2.2.1 k2_h1 k2_h22
theorem k2_off52_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h23 : k2_cond23 i k2_t4 arg21_r0 = 1#1), ∀ a, (k2_off52 arg14_r0) a + S1x1x1024.size a ≤ S2x1x1024.size a := fun i k2_t4 arg13_r0 arg14_r0 arg15_r0 arg16_r0 arg17_r0 arg18_r0 arg19_r0 arg20_r0 arg21_r0 k2_hw12 k2_h1 k2_h23 => k2_hw12.2.2.2.2.2.2.2.2.2.1 k2_h1 k2_h23
theorem k2_off53_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h23 : k2_cond23 i k2_t4 arg21_r0 = 1#1), ∀ a, (k2_off53 i arg21_r0) a + S1x1024.size a ≤ S1x640000.size a := fun i k2_t4 arg13_r0 arg14_r0 arg15_r0 arg16_r0 arg17_r0 arg18_r0 arg19_r0 arg20_r0 arg21_r0 k2_hw12 k2_h1 k2_h23 => k2_hw12.2.2.2.2.2.2.2.2.2.2.1 k2_h1 k2_h23
theorem k2_off54_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h23 : k2_cond23 i k2_t4 arg21_r0 = 1#1), ∀ a, (k2_off54 arg14_r0) a + S1.size a ≤ S2.size a := fun i k2_t4 arg13_r0 arg14_r0 arg15_r0 arg16_r0 arg17_r0 arg18_r0 arg19_r0 arg20_r0 arg21_r0 k2_hw12 k2_h1 k2_h23 => k2_hw12.2.2.2.2.2.2.2.2.2.2.2.1 k2_h1 k2_h23
theorem k2_off55_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h24 : k2_cond24 i k2_t4 arg21_r0 = 1#1), ∀ a, (k2_off55 arg16_r0) a + S1x1x1024.size a ≤ S2x1x1024.size a := fun i k2_t4 arg13_r0 arg14_r0 arg15_r0 arg16_r0 arg17_r0 arg18_r0 arg19_r0 arg20_r0 arg21_r0 k2_hw12 k2_h1 k2_h24 => k2_hw12.2.2.2.2.2.2.2.2.2.2.2.2.1 k2_h1 k2_h24
theorem k2_off56_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h24 : k2_cond24 i k2_t4 arg21_r0 = 1#1), ∀ a, (k2_off56 i arg21_r0) a + S1x1024.size a ≤ S1x640000.size a := fun i k2_t4 arg13_r0 arg14_r0 arg15_r0 arg16_r0 arg17_r0 arg18_r0 arg19_r0 arg20_r0 arg21_r0 k2_hw12 k2_h1 k2_h24 => k2_hw12.2.2.2.2.2.2.2.2.2.2.2.2.2.1 k2_h1 k2_h24
theorem k2_off57_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h24 : k2_cond24 i k2_t4 arg21_r0 = 1#1), ∀ a, (k2_off57 arg16_r0) a + S1.size a ≤ S2.size a := fun i k2_t4 arg13_r0 arg14_r0 arg15_r0 arg16_r0 arg17_r0 arg18_r0 arg19_r0 arg20_r0 arg21_r0 k2_hw12 k2_h1 k2_h24 => k2_hw12.2.2.2.2.2.2.2.2.2.2.2.2.2.2.1 k2_h1 k2_h24
theorem k2_off58_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h25 : k2_cond25 i k2_t4 arg21_r0 = 1#1), ∀ a, (k2_off58 arg18_r0) a + S1x1x1024.size a ≤ S2x1x1024.size a := fun i k2_t4 arg13_r0 arg14_r0 arg15_r0 arg16_r0 arg17_r0 arg18_r0 arg19_r0 arg20_r0 arg21_r0 k2_hw12 k2_h1 k2_h25 => k2_hw12.2.2.2.2.2.2.2.2.2.2.2.2.2.2.2.1 k2_h1 k2_h25
theorem k2_off59_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h25 : k2_cond25 i k2_t4 arg21_r0 = 1#1), ∀ a, (k2_off59 i arg21_r0) a + S1x1024.size a ≤ S1x640000.size a := fun i k2_t4 arg13_r0 arg14_r0 arg15_r0 arg16_r0 arg17_r0 arg18_r0 arg19_r0 arg20_r0 arg21_r0 k2_hw12 k2_h1 k2_h25 => k2_hw12.2.2.2.2.2.2.2.2.2.2.2.2.2.2.2.2.1 k2_h1 k2_h25
theorem k2_off60_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h25 : k2_cond25 i k2_t4 arg21_r0 = 1#1), ∀ a, (k2_off60 arg18_r0) a + S1.size a ≤ S2.size a := fun i k2_t4 arg13_r0 arg14_r0 arg15_r0 arg16_r0 arg17_r0 arg18_r0 arg19_r0 arg20_r0 arg21_r0 k2_hw12 k2_h1 k2_h25 => k2_hw12.2.2.2.2.2.2.2.2.2.2.2.2.2.2.2.2.2.1 k2_h1 k2_h25
theorem k2_off70_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h30 : k2_cond30 i k2_t4 arg21_r0 = 1#1), ∀ a, (k2_off70 arg19_r0) a + S1x1024x27.size a ≤ S2x1024x27.size a := fun i k2_t4 arg13_r0 arg14_r0 arg15_r0 arg16_r0 arg17_r0 arg18_r0 arg19_r0 arg20_r0 arg21_r0 k2_hw12 k2_h1 k2_h30 => k2_hw12.2.2.2.2.2.2.2.2.2.2.2.2.2.2.2.2.2.2.1 k2_h1 k2_h30
theorem k2_off71_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h30 : k2_cond30 i k2_t4 arg21_r0 = 1#1), ∀ a, (k2_off71 i arg21_r0) a + S1024x27.size a ≤ S640000x27.size a := fun i k2_t4 arg13_r0 arg14_r0 arg15_r0 arg16_r0 arg17_r0 arg18_r0 arg19_r0 arg20_r0 arg21_r0 k2_hw12 k2_h1 k2_h30 => k2_hw12.2.2.2.2.2.2.2.2.2.2.2.2.2.2.2.2.2.2.2.1 k2_h1 k2_h30
theorem k2_off72_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h30 : k2_cond30 i k2_t4 arg21_r0 = 1#1), ∀ a, (k2_off72 arg19_r0) a + S1.size a ≤ S2.size a := fun i k2_t4 arg13_r0 arg14_r0 arg15_r0 arg16_r0 arg17_r0 arg18_r0 arg19_r0 arg20_r0 arg21_r0 k2_hw12 k2_h1 k2_h30 => k2_hw12.2.2.2.2.2.2.2.2.2.2.2.2.2.2.2.2.2.2.2.2.1 k2_h1 k2_h30
theorem k2_off73_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h34 : k2_cond34 i k2_t4 arg21_r0 = 1#1), ∀ a, (k2_off73 arg20_r0) a + S1x1024x27.size a ≤ S2x1024x27.size a := fun i k2_t4 arg13_r0 arg14_r0 arg15_r0 arg16_r0 arg17_r0 arg18_r0 arg19_r0 arg20_r0 arg21_r0 k2_hw12 k2_h1 k2_h34 => k2_hw12.2.2.2.2.2.2.2.2.2.2.2.2.2.2.2.2.2.2.2.2.2.1 k2_h1 k2_h34
theorem k2_off74_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h34 : k2_cond34 i k2_t4 arg21_r0 = 1#1), ∀ a, (k2_off74 i arg21_r0) a + S1024x27.size a ≤ S640000x27.size a := fun i k2_t4 arg13_r0 arg14_r0 arg15_r0 arg16_r0 arg17_r0 arg18_r0 arg19_r0 arg20_r0 arg21_r0 k2_hw12 k2_h1 k2_h34 => k2_hw12.2.2.2.2.2.2.2.2.2.2.2.2.2.2.2.2.2.2.2.2.2.2.1 k2_h1 k2_h34
theorem k2_off75_inb : ∀ (i : grid2.Coords) (k2_t4 : Fin (k2_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k2_hw12 : k2_chk12 i k2_t4 arg13_r0 arg14_r0 arg15_r0 arg16_r0 arg17_r0 arg18_r0 arg19_r0 arg20_r0 arg21_r0), ∀ (k2_h1 : k2_cond1 i = 1#1), ∀ (k2_h34 : k2_cond34 i k2_t4 arg21_r0 = 1#1), ∀ a, (k2_off75 arg20_r0) a + S1.size a ≤ S2.size a := fun i k2_t4 arg13_r0 arg14_r0 arg15_r0 arg16_r0 arg17_r0 arg18_r0 arg19_r0 arg20_r0 arg21_r0 k2_hw12 k2_h1 k2_h34 => k2_hw12.2.2.2.2.2.2.2.2.2.2.2.2.2.2.2.2.2.2.2.2.2.2.2 k2_h1 k2_h34

def k2_cond38 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c1_i32_61_r0 : BitVec 32 := 1#32
  let v73_r0 : BitVec 32 := Scalar.subi v14 c1_i32_61_r0
  let c1_i32_62_r0 : BitVec 32 := 1#32
  let v74_r0 : BitVec 32 := Scalar.muli c1_i32_62_r0 v8
  let c1_i32_64_r0 : BitVec 32 := 1#32
  let v76_r0 : BitVec 32 := Scalar.subi v74_r0 c1_i32_64_r0
  let v77_r0 : BitVec 1 := Scalar.cmpi .eq v73_r0 v76_r0
  let v101_r0 : BitVec 32 := Scalar.extui v77_r0
  let c0_i32_78_r0 : BitVec 32 := 0#32
  let v102_r0 : BitVec 1 := Scalar.cmpi .ne v101_r0 c0_i32_78_r0
  v102_r0

def k2_off76 (v67_7_r0 : BitVec 32) : Fin 3 → Nat :=
  let c2_i32_r0 : BitVec 32 := 2#32
  let v103_r0 : BitVec 32 := Scalar.remui v67_7_r0 c2_i32_r0
  let c0_i32_79_r0 : BitVec 32 := 0#32
  let c0_i32_80_r0 : BitVec 32 := 0#32
  ![v103_r0.toNat, 0, 0]

def k2_off77 (i : grid2.Coords) (v67_8_r0 : BitVec 32) : Fin 2 → Nat :=
  let c1024_i32_r0 : BitVec 32 := 1024#32
  let true_58_r0 : BitVec 1 := 1#1
  let c1_i32_57_r0 : BitVec 32 := 1#32
  let v68_r0 : BitVec 32 := Scalar.subi v67_8_r0 c1_i32_57_r0
  let v69_r0 : BitVec 32 := Scalar.select true_58_r0 v68_r0 v67_8_r0
  let c_m1_i32_59_r0 : BitVec 32 := 4294967295#32
  let v70_r0 : BitVec 1 := Scalar.cmpi .eq v69_r0 c_m1_i32_59_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_60_r0 : BitVec 32 := 1#32
  let v71_r0 : BitVec 32 := Scalar.subi v8 c1_i32_60_r0
  let v72_r0 : BitVec 32 := Scalar.select v70_r0 v71_r0 v69_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v78_r0 : BitVec 32 := Scalar.addi v72_r0 v13
  let v104_r0 : BitVec 32 := Scalar.muli c1024_i32_r0 v78_r0
  let c0_i32_81_r0 : BitVec 32 := 0#32
  ![v104_r0.toNat, 0]

def k2_chk24 (i : grid2.Coords) (v67_8_r0 : BitVec 32) : Prop :=
  (∀ (k2_h1 : k2_cond1 i = 1#1), ∀ (k2_h38 : k2_cond38 i = 1#1), ∀ a, (k2_off77 i v67_8_r0) a + S1024x27.size a ≤ S640000x27.size a)
theorem k2_off77_inb : ∀ (i : grid2.Coords) (v67_8_r0 : BitVec 32) (k2_hw24 : k2_chk24 i v67_8_r0), ∀ (k2_h1 : k2_cond1 i = 1#1), ∀ (k2_h38 : k2_cond38 i = 1#1), ∀ a, (k2_off77 i v67_8_r0) a + S1024x27.size a ≤ S640000x27.size a := fun i v67_8_r0 k2_hw24 k2_h1 k2_h38 => k2_hw24 k2_h1 k2_h38

def k2_off78 (v67_7_r0 : BitVec 32) : Fin 1 → Nat :=
  let c2_i32_r0 : BitVec 32 := 2#32
  let v103_r0 : BitVec 32 := Scalar.remui v67_7_r0 c2_i32_r0
  ![v103_r0.toNat]
def k2_off79 (v67_7_r0 : BitVec 32) : Fin 3 → Nat :=
  let c2_i32_r0 : BitVec 32 := 2#32
  let v103_r0 : BitVec 32 := Scalar.remui v67_7_r0 c2_i32_r0
  let c0_i32_83_r0 : BitVec 32 := 0#32
  let c0_i32_84_r0 : BitVec 32 := 0#32
  ![v103_r0.toNat, 0, 0]

def k2_chk23 (i : grid2.Coords) (v67_7_r0 : BitVec 32) : Prop :=
  (∀ (k2_h1 : k2_cond1 i = 1#1), ∀ (k2_h38 : k2_cond38 i = 1#1), ∀ a, (k2_off76 v67_7_r0) a + S1x1024x27.size a ≤ S2x1024x27.size a) ∧
  (∀ (k2_h1 : k2_cond1 i = 1#1), ∀ (k2_h38 : k2_cond38 i = 1#1), ∀ a, (k2_off78 v67_7_r0) a + S1.size a ≤ S2.size a) ∧
  (∀ (k2_h1 : k2_cond1 i = 1#1), ∀ (k2_h38 : k2_cond38 i = 1#1), ∀ a, (k2_off79 v67_7_r0) a + S1x1024x27.size a ≤ S2x1024x27.size a)
theorem k2_off76_inb : ∀ (i : grid2.Coords) (v67_7_r0 : BitVec 32) (k2_hw23 : k2_chk23 i v67_7_r0), ∀ (k2_h1 : k2_cond1 i = 1#1), ∀ (k2_h38 : k2_cond38 i = 1#1), ∀ a, (k2_off76 v67_7_r0) a + S1x1024x27.size a ≤ S2x1024x27.size a := fun i v67_7_r0 k2_hw23 k2_h1 k2_h38 => k2_hw23.1 k2_h1 k2_h38
theorem k2_off78_inb : ∀ (i : grid2.Coords) (v67_7_r0 : BitVec 32) (k2_hw23 : k2_chk23 i v67_7_r0), ∀ (k2_h1 : k2_cond1 i = 1#1), ∀ (k2_h38 : k2_cond38 i = 1#1), ∀ a, (k2_off78 v67_7_r0) a + S1.size a ≤ S2.size a := fun i v67_7_r0 k2_hw23 k2_h1 k2_h38 => k2_hw23.2.1 k2_h1 k2_h38
theorem k2_off79_inb : ∀ (i : grid2.Coords) (v67_7_r0 : BitVec 32) (k2_hw23 : k2_chk23 i v67_7_r0), ∀ (k2_h1 : k2_cond1 i = 1#1), ∀ (k2_h38 : k2_cond38 i = 1#1), ∀ a, (k2_off79 v67_7_r0) a + S1x1024x27.size a ≤ S2x1024x27.size a := fun i v67_7_r0 k2_hw23 k2_h1 k2_h38 => k2_hw23.2.2 k2_h1 k2_h38

abbrev grid3 : Pipeline.Grid := ⟨2, ![2, 16], ![false, false]⟩

def k3_cond1 (i : grid3.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c0_i32_7_r0 : BitVec 32 := 0#32
  let v19_r0 : BitVec 1 := Scalar.cmpi .sgt v14 c0_i32_7_r0
  let v20_r0 : BitVec 32 := Scalar.extui v19_r0
  let c0_i32_8_r0 : BitVec 32 := 0#32
  let v21_r0 : BitVec 1 := Scalar.cmpi .ne v20_r0 c0_i32_8_r0
  v21_r0

def k3_cond2 (i : grid3.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_23_r0 : BitVec 32 := 0#32
  let v40_r0 : BitVec 1 := Scalar.cmpi .sgt v22_r0 c0_i32_23_r0
  let v41_r0 : BitVec 1 := Scalar.andi true_24_r0 v40_r0
  let true_25_r0 : BitVec 1 := 1#1
  let v42_r0 : BitVec 1 := Scalar.andi v41_r0 true_25_r0
  let v43_r0 : BitVec 32 := Scalar.extui v42_r0
  let c0_i32_27_r0 : BitVec 32 := 0#32
  let v44_r0 : BitVec 1 := Scalar.cmpi .ne v43_r0 c0_i32_27_r0
  v44_r0

def k3_off1 : Fin 3 → Nat :=
  let c0_i32_26_r0 : BitVec 32 := 0#32
  let c2_i32_r0 : BitVec 32 := 2#32
  let v103_r0 : BitVec 32 := Scalar.remui c0_i32_26_r0 c2_i32_r0
  let c0_i32_79_r0 : BitVec 32 := 0#32
  let c0_i32_80_r0 : BitVec 32 := 0#32
  ![v103_r0.toNat, 0, 0]
def k3_off2 (i : grid3.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k3_off3 : Fin 1 → Nat :=
  let c0_i32_26_r0 : BitVec 32 := 0#32
  let c2_i32_r0 : BitVec 32 := 2#32
  let v103_r0 : BitVec 32 := Scalar.remui c0_i32_26_r0 c2_i32_r0
  ![v103_r0.toNat]
def k3_cond3 (i : grid3.Coords) : BitVec 1 :=
  let true_32_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_31_r0 : BitVec 32 := 0#32
  let v47_r0 : BitVec 1 := Scalar.cmpi .sgt v22_r0 c0_i32_31_r0
  let v48_r0 : BitVec 1 := Scalar.andi true_32_r0 v47_r0
  let true_33_r0 : BitVec 1 := 1#1
  let v49_r0 : BitVec 1 := Scalar.andi v48_r0 true_33_r0
  let v50_r0 : BitVec 32 := Scalar.extui v49_r0
  let c0_i32_35_r0 : BitVec 32 := 0#32
  let v51_r0 : BitVec 1 := Scalar.cmpi .ne v50_r0 c0_i32_35_r0
  v51_r0

def k3_off4 : Fin 3 → Nat :=
  let c0_i32_34_r0 : BitVec 32 := 0#32
  let c2_i32_r0 : BitVec 32 := 2#32
  let v103_r0 : BitVec 32 := Scalar.remui c0_i32_34_r0 c2_i32_r0
  let c0_i32_79_r0 : BitVec 32 := 0#32
  let c0_i32_80_r0 : BitVec 32 := 0#32
  ![v103_r0.toNat, 0, 0]
def k3_off5 (i : grid3.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k3_off6 : Fin 1 → Nat :=
  let c0_i32_34_r0 : BitVec 32 := 0#32
  let c2_i32_r0 : BitVec 32 := 2#32
  let v103_r0 : BitVec 32 := Scalar.remui c0_i32_34_r0 c2_i32_r0
  ![v103_r0.toNat]
def k3_cond4 (i : grid3.Coords) : BitVec 1 :=
  let true_40_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_39_r0 : BitVec 32 := 0#32
  let v54_r0 : BitVec 1 := Scalar.cmpi .sgt v22_r0 c0_i32_39_r0
  let v55_r0 : BitVec 1 := Scalar.andi true_40_r0 v54_r0
  let true_41_r0 : BitVec 1 := 1#1
  let v56_r0 : BitVec 1 := Scalar.andi v55_r0 true_41_r0
  let v57_r0 : BitVec 32 := Scalar.extui v56_r0
  let c0_i32_43_r0 : BitVec 32 := 0#32
  let v58_r0 : BitVec 1 := Scalar.cmpi .ne v57_r0 c0_i32_43_r0
  v58_r0

def k3_off7 : Fin 3 → Nat :=
  let c0_i32_42_r0 : BitVec 32 := 0#32
  let c2_i32_r0 : BitVec 32 := 2#32
  let v103_r0 : BitVec 32 := Scalar.remui c0_i32_42_r0 c2_i32_r0
  let c0_i32_79_r0 : BitVec 32 := 0#32
  let c0_i32_80_r0 : BitVec 32 := 0#32
  ![v103_r0.toNat, 0, 0]
def k3_off8 (i : grid3.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k3_off9 : Fin 1 → Nat :=
  let c0_i32_42_r0 : BitVec 32 := 0#32
  let c2_i32_r0 : BitVec 32 := 2#32
  let v103_r0 : BitVec 32 := Scalar.remui c0_i32_42_r0 c2_i32_r0
  ![v103_r0.toNat]
@[reducible] def k3_t1_loop (i : grid3.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_55_r0 : BitVec 32 := 1#32
  ⟨c0_i32_47_r0, v65_r0, c1_i32_55_r0⟩
def k3_off10 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k3_cond5 (i : grid3.Coords) (k3_t1 : Fin (k3_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k3_t1
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k3_off11 (i : grid3.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k3_off12 (arg13_r0 : BitVec 32) : Fin 1 → Nat :=
  let c2_i32_184_r0 : BitVec 32 := 2#32
  let v280_r0 : BitVec 32 := Scalar.remui arg13_r0 c2_i32_184_r0
  ![v280_r0.toNat]
def k3_off13 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k3_cond6 (i : grid3.Coords) (k3_t1 : Fin (k3_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k3_t1
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k3_off14 (i : grid3.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k3_off15 (arg15_r0 : BitVec 32) : Fin 1 → Nat :=
  let c2_i32_184_r0 : BitVec 32 := 2#32
  let v280_r0 : BitVec 32 := Scalar.remui arg15_r0 c2_i32_184_r0
  ![v280_r0.toNat]
def k3_off16 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k3_cond7 (i : grid3.Coords) (k3_t1 : Fin (k3_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k3_t1
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k3_off17 (i : grid3.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k3_off18 (arg17_r0 : BitVec 32) : Fin 1 → Nat :=
  let c2_i32_184_r0 : BitVec 32 := 2#32
  let v280_r0 : BitVec 32 := Scalar.remui arg17_r0 c2_i32_184_r0
  ![v280_r0.toNat]
def k3_off19 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k3_cond8 (i : grid3.Coords) (k3_t1 : Fin (k3_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k3_t1
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k3_off20 (i : grid3.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k3_off21 (arg14_r0 : BitVec 32) : Fin 1 → Nat :=
  let c2_i32_185_r0 : BitVec 32 := 2#32
  let v281_r0 : BitVec 32 := Scalar.remui arg14_r0 c2_i32_185_r0
  ![v281_r0.toNat]
def k3_off22 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k3_cond9 (i : grid3.Coords) (k3_t1 : Fin (k3_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k3_t1
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k3_off23 (i : grid3.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k3_off24 (arg16_r0 : BitVec 32) : Fin 1 → Nat :=
  let c2_i32_185_r0 : BitVec 32 := 2#32
  let v281_r0 : BitVec 32 := Scalar.remui arg16_r0 c2_i32_185_r0
  ![v281_r0.toNat]
def k3_off25 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k3_cond10 (i : grid3.Coords) (k3_t1 : Fin (k3_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k3_t1
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k3_off26 (i : grid3.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k3_off27 (arg18_r0 : BitVec 32) : Fin 1 → Nat :=
  let c2_i32_185_r0 : BitVec 32 := 2#32
  let v281_r0 : BitVec 32 := Scalar.remui arg18_r0 c2_i32_185_r0
  ![v281_r0.toNat]
def k3_off28 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k3_chk2 (i : grid3.Coords) (arg14_r0 : BitVec 32) : Prop :=
  (∀ (k3_h1 : k3_cond1 i = 1#1), ∀ a, (k3_off28 arg14_r0) a + S1x1x1024.size a ≤ S2x1x1024.size a)
theorem k3_off28_inb : ∀ (i : grid3.Coords) (arg14_r0 : BitVec 32) (k3_hw2 : k3_chk2 i arg14_r0), ∀ (k3_h1 : k3_cond1 i = 1#1), ∀ a, (k3_off28 arg14_r0) a + S1x1x1024.size a ≤ S2x1x1024.size a := fun i arg14_r0 k3_hw2 k3_h1 => k3_hw2 k3_h1

def k3_off29 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k3_chk3 (i : grid3.Coords) (arg16_r0 : BitVec 32) : Prop :=
  (∀ (k3_h1 : k3_cond1 i = 1#1), ∀ a, (k3_off29 arg16_r0) a + S1x1x1024.size a ≤ S2x1x1024.size a)
theorem k3_off29_inb : ∀ (i : grid3.Coords) (arg16_r0 : BitVec 32) (k3_hw3 : k3_chk3 i arg16_r0), ∀ (k3_h1 : k3_cond1 i = 1#1), ∀ a, (k3_off29 arg16_r0) a + S1x1x1024.size a ≤ S2x1x1024.size a := fun i arg16_r0 k3_hw3 k3_h1 => k3_hw3 k3_h1

@[reducible] def k3_t2_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k3_off30 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k3_chk4 (i : grid3.Coords) (arg18_r0 : BitVec 32) : Prop :=
  (∀ (k3_h1 : k3_cond1 i = 1#1), ∀ a, (k3_off30 arg18_r0) a + S1x1x1024.size a ≤ S2x1x1024.size a)
theorem k3_off30_inb : ∀ (i : grid3.Coords) (arg18_r0 : BitVec 32) (k3_hw4 : k3_chk4 i arg18_r0), ∀ (k3_h1 : k3_cond1 i = 1#1), ∀ a, (k3_off30 arg18_r0) a + S1x1x1024.size a ≤ S2x1x1024.size a := fun i arg18_r0 k3_hw4 k3_h1 => k3_hw4 k3_h1

def k3_off31 (k3_t2 : Fin k3_t2_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k3_t2
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k3_off32 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k3_chk6 (i : grid3.Coords) (v293_r0 : IVec S16 32) (v295_r0 : IVec S16 32) : Prop :=
  (∀ (k3_h1 : k3_cond1 i = 1#1), ∀ a x, ((![v293_r0, v295_r0] : Fin 2 → IVec S16 32) a x).toNat < S1024x27.size a)
theorem k3_idx1_inb : ∀ (i : grid3.Coords) (v293_r0 : IVec S16 32) (v295_r0 : IVec S16 32) (k3_hw6 : k3_chk6 i v293_r0 v295_r0), ∀ (k3_h1 : k3_cond1 i = 1#1), ∀ a x, ((![v293_r0, v295_r0] : Fin 2 → IVec S16 32) a x).toNat < S1024x27.size a := fun i v293_r0 v295_r0 k3_hw6 k3_h1 => k3_hw6 k3_h1
def k3_off33 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k3_chk7 (i : grid3.Coords) (v293_r0 : IVec S16 32) (v299_r0 : IVec S16 32) : Prop :=
  (∀ (k3_h1 : k3_cond1 i = 1#1), ∀ a x, ((![v293_r0, v299_r0] : Fin 2 → IVec S16 32) a x).toNat < S1024x27.size a)
theorem k3_idx2_inb : ∀ (i : grid3.Coords) (v293_r0 : IVec S16 32) (v299_r0 : IVec S16 32) (k3_hw7 : k3_chk7 i v293_r0 v299_r0), ∀ (k3_h1 : k3_cond1 i = 1#1), ∀ a x, ((![v293_r0, v299_r0] : Fin 2 → IVec S16 32) a x).toNat < S1024x27.size a := fun i v293_r0 v299_r0 k3_hw7 k3_h1 => k3_hw7 k3_h1
def k3_off34 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k3_chk8 (i : grid3.Coords) (v293_r0 : IVec S16 32) (v306_r0 : IVec S16 32) : Prop :=
  (∀ (k3_h1 : k3_cond1 i = 1#1), ∀ a x, ((![v293_r0, v306_r0] : Fin 2 → IVec S16 32) a x).toNat < S1024x27.size a)
theorem k3_idx3_inb : ∀ (i : grid3.Coords) (v293_r0 : IVec S16 32) (v306_r0 : IVec S16 32) (k3_hw8 : k3_chk8 i v293_r0 v306_r0), ∀ (k3_h1 : k3_cond1 i = 1#1), ∀ a x, ((![v293_r0, v306_r0] : Fin 2 → IVec S16 32) a x).toNat < S1024x27.size a := fun i v293_r0 v306_r0 k3_hw8 k3_h1 => k3_hw8 k3_h1
@[reducible] def k3_t3_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k3_chk9 (i : grid3.Coords) (v0 : IVec S16 32) (v282_r0 : IVec S16 32) : Prop :=
  (∀ (k3_h1 : k3_cond1 i = 1#1), ∀ a x, ((![v282_r0, v0] : Fin 2 → IVec S16 32) a x).toNat < S1024x16.size a) ∧
  (∀ (k3_h1 : k3_cond1 i = 1#1), ∀ a x, ((![v282_r0, v0] : Fin 2 → IVec S16 32) a x).toNat < S1024x16.size a) ∧
  (∀ (k3_h1 : k3_cond1 i = 1#1), ∀ a x, ((![v282_r0] : Fin 1 → IVec S16 32) a x).toNat < S1024.size a)
theorem k3_idx4_inb : ∀ (i : grid3.Coords) (v0 : IVec S16 32) (v282_r0 : IVec S16 32) (k3_hw9 : k3_chk9 i v0 v282_r0), ∀ (k3_h1 : k3_cond1 i = 1#1), ∀ a x, ((![v282_r0, v0] : Fin 2 → IVec S16 32) a x).toNat < S1024x16.size a := fun i v0 v282_r0 k3_hw9 k3_h1 => k3_hw9.1 k3_h1
theorem k3_idx5_inb : ∀ (i : grid3.Coords) (v0 : IVec S16 32) (v282_r0 : IVec S16 32) (k3_hw9 : k3_chk9 i v0 v282_r0), ∀ (k3_h1 : k3_cond1 i = 1#1), ∀ a x, ((![v282_r0, v0] : Fin 2 → IVec S16 32) a x).toNat < S1024x16.size a := fun i v0 v282_r0 k3_hw9 k3_h1 => k3_hw9.2.1 k3_h1
theorem k3_idx6_inb : ∀ (i : grid3.Coords) (v0 : IVec S16 32) (v282_r0 : IVec S16 32) (k3_hw9 : k3_chk9 i v0 v282_r0), ∀ (k3_h1 : k3_cond1 i = 1#1), ∀ a x, ((![v282_r0] : Fin 1 → IVec S16 32) a x).toNat < S1024.size a := fun i v0 v282_r0 k3_hw9 k3_h1 => k3_hw9.2.2 k3_h1
def k3_off35 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k3_chk10 (i : grid3.Coords) (v282_r0 : IVec S16 32) (v287_r0 : IVec S16 32) : Prop :=
  (∀ (k3_h1 : k3_cond1 i = 1#1), ∀ a x, ((![v282_r0, v287_r0] : Fin 2 → IVec S16 32) a x).toNat < S1024x27.size a)
theorem k3_idx7_inb : ∀ (i : grid3.Coords) (v282_r0 : IVec S16 32) (v287_r0 : IVec S16 32) (k3_hw10 : k3_chk10 i v282_r0 v287_r0), ∀ (k3_h1 : k3_cond1 i = 1#1), ∀ a x, ((![v282_r0, v287_r0] : Fin 2 → IVec S16 32) a x).toNat < S1024x27.size a := fun i v282_r0 v287_r0 k3_hw10 k3_h1 => k3_hw10 k3_h1
def k3_off36 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k3_chk5 (i : grid3.Coords) (arg19_r0 : BitVec 32) : Prop :=
  (∀ (k3_h1 : k3_cond1 i = 1#1), ∀ a, (k3_off32 arg19_r0) a + S1x1024x27.size a ≤ S2x1024x27.size a) ∧
  (∀ (k3_h1 : k3_cond1 i = 1#1), ∀ a, (k3_off33 arg19_r0) a + S1x1024x27.size a ≤ S2x1024x27.size a) ∧
  (∀ (k3_h1 : k3_cond1 i = 1#1), ∀ a, (k3_off34 arg19_r0) a + S1x1024x27.size a ≤ S2x1024x27.size a) ∧
  (∀ (k3_h1 : k3_cond1 i = 1#1), ∀ a, (k3_off35 arg19_r0) a + S1x1024x27.size a ≤ S2x1024x27.size a) ∧
  (∀ (k3_h1 : k3_cond1 i = 1#1), ∀ a, (k3_off36 arg19_r0) a + S1x1024x27.size a ≤ S2x1024x27.size a)
theorem k3_off32_inb : ∀ (i : grid3.Coords) (arg19_r0 : BitVec 32) (k3_hw5 : k3_chk5 i arg19_r0), ∀ (k3_h1 : k3_cond1 i = 1#1), ∀ a, (k3_off32 arg19_r0) a + S1x1024x27.size a ≤ S2x1024x27.size a := fun i arg19_r0 k3_hw5 k3_h1 => k3_hw5.1 k3_h1
theorem k3_off33_inb : ∀ (i : grid3.Coords) (arg19_r0 : BitVec 32) (k3_hw5 : k3_chk5 i arg19_r0), ∀ (k3_h1 : k3_cond1 i = 1#1), ∀ a, (k3_off33 arg19_r0) a + S1x1024x27.size a ≤ S2x1024x27.size a := fun i arg19_r0 k3_hw5 k3_h1 => k3_hw5.2.1 k3_h1
theorem k3_off34_inb : ∀ (i : grid3.Coords) (arg19_r0 : BitVec 32) (k3_hw5 : k3_chk5 i arg19_r0), ∀ (k3_h1 : k3_cond1 i = 1#1), ∀ a, (k3_off34 arg19_r0) a + S1x1024x27.size a ≤ S2x1024x27.size a := fun i arg19_r0 k3_hw5 k3_h1 => k3_hw5.2.2.1 k3_h1
theorem k3_off35_inb : ∀ (i : grid3.Coords) (arg19_r0 : BitVec 32) (k3_hw5 : k3_chk5 i arg19_r0), ∀ (k3_h1 : k3_cond1 i = 1#1), ∀ a, (k3_off35 arg19_r0) a + S1x1024x27.size a ≤ S2x1024x27.size a := fun i arg19_r0 k3_hw5 k3_h1 => k3_hw5.2.2.2.1 k3_h1
theorem k3_off36_inb : ∀ (i : grid3.Coords) (arg19_r0 : BitVec 32) (k3_hw5 : k3_chk5 i arg19_r0), ∀ (k3_h1 : k3_cond1 i = 1#1), ∀ a, (k3_off36 arg19_r0) a + S1x1024x27.size a ≤ S2x1024x27.size a := fun i arg19_r0 k3_hw5 k3_h1 => k3_hw5.2.2.2.2 k3_h1

def k3_chk11 (i : grid3.Coords) (v282_r0 : IVec S16 32) (v293_r0 : IVec S16 32) : Prop :=
  (∀ (k3_h1 : k3_cond1 i = 1#1), ∀ a x, ((![v282_r0, v293_r0] : Fin 2 → IVec S16 32) a x).toNat < S1024x27.size a)
theorem k3_idx8_inb : ∀ (i : grid3.Coords) (v282_r0 : IVec S16 32) (v293_r0 : IVec S16 32) (k3_hw11 : k3_chk11 i v282_r0 v293_r0), ∀ (k3_h1 : k3_cond1 i = 1#1), ∀ a x, ((![v282_r0, v293_r0] : Fin 2 → IVec S16 32) a x).toNat < S1024x27.size a := fun i v282_r0 v293_r0 k3_hw11 k3_h1 => k3_hw11 k3_h1
def k3_off37 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k3_cond15 (i : grid3.Coords) (k3_t1 : Fin (k3_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k3_t1
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k3_off38 (i : grid3.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k3_off39 (arg19_r0 : BitVec 32) : Fin 1 → Nat :=
  let c2_i32_184_r0 : BitVec 32 := 2#32
  let v280_r0 : BitVec 32 := Scalar.remui arg19_r0 c2_i32_184_r0
  ![v280_r0.toNat]
def k3_off40 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k3_cond19 (i : grid3.Coords) (k3_t1 : Fin (k3_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k3_t1
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k3_off41 (i : grid3.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k3_off42 (arg20_r0 : BitVec 32) : Fin 1 → Nat :=
  let c2_i32_184_r0 : BitVec 32 := 2#32
  let v280_r0 : BitVec 32 := Scalar.remui arg20_r0 c2_i32_184_r0
  ![v280_r0.toNat]

def k3_chk1 (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k3_h1 : k3_cond1 i = 1#1), ∀ (k3_h5 : k3_cond5 i k3_t1 arg21_r0 = 1#1), ∀ a, (k3_off10 arg13_r0) a + S1x1x1024.size a ≤ S2x1x1024.size a) ∧
  (∀ (k3_h1 : k3_cond1 i = 1#1), ∀ (k3_h5 : k3_cond5 i k3_t1 arg21_r0 = 1#1), ∀ a, (k3_off11 i arg21_r0) a + S1x1024.size a ≤ S1x640000.size a) ∧
  (∀ (k3_h1 : k3_cond1 i = 1#1), ∀ (k3_h5 : k3_cond5 i k3_t1 arg21_r0 = 1#1), ∀ a, (k3_off12 arg13_r0) a + S1.size a ≤ S2.size a) ∧
  (∀ (k3_h1 : k3_cond1 i = 1#1), ∀ (k3_h6 : k3_cond6 i k3_t1 arg21_r0 = 1#1), ∀ a, (k3_off13 arg15_r0) a + S1x1x1024.size a ≤ S2x1x1024.size a) ∧
  (∀ (k3_h1 : k3_cond1 i = 1#1), ∀ (k3_h6 : k3_cond6 i k3_t1 arg21_r0 = 1#1), ∀ a, (k3_off14 i arg21_r0) a + S1x1024.size a ≤ S1x640000.size a) ∧
  (∀ (k3_h1 : k3_cond1 i = 1#1), ∀ (k3_h6 : k3_cond6 i k3_t1 arg21_r0 = 1#1), ∀ a, (k3_off15 arg15_r0) a + S1.size a ≤ S2.size a) ∧
  (∀ (k3_h1 : k3_cond1 i = 1#1), ∀ (k3_h7 : k3_cond7 i k3_t1 arg21_r0 = 1#1), ∀ a, (k3_off16 arg17_r0) a + S1x1x1024.size a ≤ S2x1x1024.size a) ∧
  (∀ (k3_h1 : k3_cond1 i = 1#1), ∀ (k3_h7 : k3_cond7 i k3_t1 arg21_r0 = 1#1), ∀ a, (k3_off17 i arg21_r0) a + S1x1024.size a ≤ S1x640000.size a) ∧
  (∀ (k3_h1 : k3_cond1 i = 1#1), ∀ (k3_h7 : k3_cond7 i k3_t1 arg21_r0 = 1#1), ∀ a, (k3_off18 arg17_r0) a + S1.size a ≤ S2.size a) ∧
  (∀ (k3_h1 : k3_cond1 i = 1#1), ∀ (k3_h8 : k3_cond8 i k3_t1 arg21_r0 = 1#1), ∀ a, (k3_off19 arg14_r0) a + S1x1x1024.size a ≤ S2x1x1024.size a) ∧
  (∀ (k3_h1 : k3_cond1 i = 1#1), ∀ (k3_h8 : k3_cond8 i k3_t1 arg21_r0 = 1#1), ∀ a, (k3_off20 i arg21_r0) a + S1x1024.size a ≤ S1x640000.size a) ∧
  (∀ (k3_h1 : k3_cond1 i = 1#1), ∀ (k3_h8 : k3_cond8 i k3_t1 arg21_r0 = 1#1), ∀ a, (k3_off21 arg14_r0) a + S1.size a ≤ S2.size a) ∧
  (∀ (k3_h1 : k3_cond1 i = 1#1), ∀ (k3_h9 : k3_cond9 i k3_t1 arg21_r0 = 1#1), ∀ a, (k3_off22 arg16_r0) a + S1x1x1024.size a ≤ S2x1x1024.size a) ∧
  (∀ (k3_h1 : k3_cond1 i = 1#1), ∀ (k3_h9 : k3_cond9 i k3_t1 arg21_r0 = 1#1), ∀ a, (k3_off23 i arg21_r0) a + S1x1024.size a ≤ S1x640000.size a) ∧
  (∀ (k3_h1 : k3_cond1 i = 1#1), ∀ (k3_h9 : k3_cond9 i k3_t1 arg21_r0 = 1#1), ∀ a, (k3_off24 arg16_r0) a + S1.size a ≤ S2.size a) ∧
  (∀ (k3_h1 : k3_cond1 i = 1#1), ∀ (k3_h10 : k3_cond10 i k3_t1 arg21_r0 = 1#1), ∀ a, (k3_off25 arg18_r0) a + S1x1x1024.size a ≤ S2x1x1024.size a) ∧
  (∀ (k3_h1 : k3_cond1 i = 1#1), ∀ (k3_h10 : k3_cond10 i k3_t1 arg21_r0 = 1#1), ∀ a, (k3_off26 i arg21_r0) a + S1x1024.size a ≤ S1x640000.size a) ∧
  (∀ (k3_h1 : k3_cond1 i = 1#1), ∀ (k3_h10 : k3_cond10 i k3_t1 arg21_r0 = 1#1), ∀ a, (k3_off27 arg18_r0) a + S1.size a ≤ S2.size a) ∧
  (∀ (k3_h1 : k3_cond1 i = 1#1), ∀ (k3_h15 : k3_cond15 i k3_t1 arg21_r0 = 1#1), ∀ a, (k3_off37 arg19_r0) a + S1x1024x27.size a ≤ S2x1024x27.size a) ∧
  (∀ (k3_h1 : k3_cond1 i = 1#1), ∀ (k3_h15 : k3_cond15 i k3_t1 arg21_r0 = 1#1), ∀ a, (k3_off38 i arg21_r0) a + S1024x27.size a ≤ S640000x27.size a) ∧
  (∀ (k3_h1 : k3_cond1 i = 1#1), ∀ (k3_h15 : k3_cond15 i k3_t1 arg21_r0 = 1#1), ∀ a, (k3_off39 arg19_r0) a + S1.size a ≤ S2.size a) ∧
  (∀ (k3_h1 : k3_cond1 i = 1#1), ∀ (k3_h19 : k3_cond19 i k3_t1 arg21_r0 = 1#1), ∀ a, (k3_off40 arg20_r0) a + S1x1024x27.size a ≤ S2x1024x27.size a) ∧
  (∀ (k3_h1 : k3_cond1 i = 1#1), ∀ (k3_h19 : k3_cond19 i k3_t1 arg21_r0 = 1#1), ∀ a, (k3_off41 i arg21_r0) a + S1024x27.size a ≤ S640000x27.size a) ∧
  (∀ (k3_h1 : k3_cond1 i = 1#1), ∀ (k3_h19 : k3_cond19 i k3_t1 arg21_r0 = 1#1), ∀ a, (k3_off42 arg20_r0) a + S1.size a ≤ S2.size a)
theorem k3_off10_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h5 : k3_cond5 i k3_t1 arg21_r0 = 1#1), ∀ a, (k3_off10 arg13_r0) a + S1x1x1024.size a ≤ S2x1x1024.size a := fun i k3_t1 arg13_r0 arg14_r0 arg15_r0 arg16_r0 arg17_r0 arg18_r0 arg19_r0 arg20_r0 arg21_r0 k3_hw1 k3_h1 k3_h5 => k3_hw1.1 k3_h1 k3_h5
theorem k3_off11_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h5 : k3_cond5 i k3_t1 arg21_r0 = 1#1), ∀ a, (k3_off11 i arg21_r0) a + S1x1024.size a ≤ S1x640000.size a := fun i k3_t1 arg13_r0 arg14_r0 arg15_r0 arg16_r0 arg17_r0 arg18_r0 arg19_r0 arg20_r0 arg21_r0 k3_hw1 k3_h1 k3_h5 => k3_hw1.2.1 k3_h1 k3_h5
theorem k3_off12_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h5 : k3_cond5 i k3_t1 arg21_r0 = 1#1), ∀ a, (k3_off12 arg13_r0) a + S1.size a ≤ S2.size a := fun i k3_t1 arg13_r0 arg14_r0 arg15_r0 arg16_r0 arg17_r0 arg18_r0 arg19_r0 arg20_r0 arg21_r0 k3_hw1 k3_h1 k3_h5 => k3_hw1.2.2.1 k3_h1 k3_h5
theorem k3_off13_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h6 : k3_cond6 i k3_t1 arg21_r0 = 1#1), ∀ a, (k3_off13 arg15_r0) a + S1x1x1024.size a ≤ S2x1x1024.size a := fun i k3_t1 arg13_r0 arg14_r0 arg15_r0 arg16_r0 arg17_r0 arg18_r0 arg19_r0 arg20_r0 arg21_r0 k3_hw1 k3_h1 k3_h6 => k3_hw1.2.2.2.1 k3_h1 k3_h6
theorem k3_off14_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h6 : k3_cond6 i k3_t1 arg21_r0 = 1#1), ∀ a, (k3_off14 i arg21_r0) a + S1x1024.size a ≤ S1x640000.size a := fun i k3_t1 arg13_r0 arg14_r0 arg15_r0 arg16_r0 arg17_r0 arg18_r0 arg19_r0 arg20_r0 arg21_r0 k3_hw1 k3_h1 k3_h6 => k3_hw1.2.2.2.2.1 k3_h1 k3_h6
theorem k3_off15_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h6 : k3_cond6 i k3_t1 arg21_r0 = 1#1), ∀ a, (k3_off15 arg15_r0) a + S1.size a ≤ S2.size a := fun i k3_t1 arg13_r0 arg14_r0 arg15_r0 arg16_r0 arg17_r0 arg18_r0 arg19_r0 arg20_r0 arg21_r0 k3_hw1 k3_h1 k3_h6 => k3_hw1.2.2.2.2.2.1 k3_h1 k3_h6
theorem k3_off16_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h7 : k3_cond7 i k3_t1 arg21_r0 = 1#1), ∀ a, (k3_off16 arg17_r0) a + S1x1x1024.size a ≤ S2x1x1024.size a := fun i k3_t1 arg13_r0 arg14_r0 arg15_r0 arg16_r0 arg17_r0 arg18_r0 arg19_r0 arg20_r0 arg21_r0 k3_hw1 k3_h1 k3_h7 => k3_hw1.2.2.2.2.2.2.1 k3_h1 k3_h7
theorem k3_off17_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h7 : k3_cond7 i k3_t1 arg21_r0 = 1#1), ∀ a, (k3_off17 i arg21_r0) a + S1x1024.size a ≤ S1x640000.size a := fun i k3_t1 arg13_r0 arg14_r0 arg15_r0 arg16_r0 arg17_r0 arg18_r0 arg19_r0 arg20_r0 arg21_r0 k3_hw1 k3_h1 k3_h7 => k3_hw1.2.2.2.2.2.2.2.1 k3_h1 k3_h7
theorem k3_off18_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h7 : k3_cond7 i k3_t1 arg21_r0 = 1#1), ∀ a, (k3_off18 arg17_r0) a + S1.size a ≤ S2.size a := fun i k3_t1 arg13_r0 arg14_r0 arg15_r0 arg16_r0 arg17_r0 arg18_r0 arg19_r0 arg20_r0 arg21_r0 k3_hw1 k3_h1 k3_h7 => k3_hw1.2.2.2.2.2.2.2.2.1 k3_h1 k3_h7
theorem k3_off19_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h8 : k3_cond8 i k3_t1 arg21_r0 = 1#1), ∀ a, (k3_off19 arg14_r0) a + S1x1x1024.size a ≤ S2x1x1024.size a := fun i k3_t1 arg13_r0 arg14_r0 arg15_r0 arg16_r0 arg17_r0 arg18_r0 arg19_r0 arg20_r0 arg21_r0 k3_hw1 k3_h1 k3_h8 => k3_hw1.2.2.2.2.2.2.2.2.2.1 k3_h1 k3_h8
theorem k3_off20_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h8 : k3_cond8 i k3_t1 arg21_r0 = 1#1), ∀ a, (k3_off20 i arg21_r0) a + S1x1024.size a ≤ S1x640000.size a := fun i k3_t1 arg13_r0 arg14_r0 arg15_r0 arg16_r0 arg17_r0 arg18_r0 arg19_r0 arg20_r0 arg21_r0 k3_hw1 k3_h1 k3_h8 => k3_hw1.2.2.2.2.2.2.2.2.2.2.1 k3_h1 k3_h8
theorem k3_off21_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h8 : k3_cond8 i k3_t1 arg21_r0 = 1#1), ∀ a, (k3_off21 arg14_r0) a + S1.size a ≤ S2.size a := fun i k3_t1 arg13_r0 arg14_r0 arg15_r0 arg16_r0 arg17_r0 arg18_r0 arg19_r0 arg20_r0 arg21_r0 k3_hw1 k3_h1 k3_h8 => k3_hw1.2.2.2.2.2.2.2.2.2.2.2.1 k3_h1 k3_h8
theorem k3_off22_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h9 : k3_cond9 i k3_t1 arg21_r0 = 1#1), ∀ a, (k3_off22 arg16_r0) a + S1x1x1024.size a ≤ S2x1x1024.size a := fun i k3_t1 arg13_r0 arg14_r0 arg15_r0 arg16_r0 arg17_r0 arg18_r0 arg19_r0 arg20_r0 arg21_r0 k3_hw1 k3_h1 k3_h9 => k3_hw1.2.2.2.2.2.2.2.2.2.2.2.2.1 k3_h1 k3_h9
theorem k3_off23_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h9 : k3_cond9 i k3_t1 arg21_r0 = 1#1), ∀ a, (k3_off23 i arg21_r0) a + S1x1024.size a ≤ S1x640000.size a := fun i k3_t1 arg13_r0 arg14_r0 arg15_r0 arg16_r0 arg17_r0 arg18_r0 arg19_r0 arg20_r0 arg21_r0 k3_hw1 k3_h1 k3_h9 => k3_hw1.2.2.2.2.2.2.2.2.2.2.2.2.2.1 k3_h1 k3_h9
theorem k3_off24_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h9 : k3_cond9 i k3_t1 arg21_r0 = 1#1), ∀ a, (k3_off24 arg16_r0) a + S1.size a ≤ S2.size a := fun i k3_t1 arg13_r0 arg14_r0 arg15_r0 arg16_r0 arg17_r0 arg18_r0 arg19_r0 arg20_r0 arg21_r0 k3_hw1 k3_h1 k3_h9 => k3_hw1.2.2.2.2.2.2.2.2.2.2.2.2.2.2.1 k3_h1 k3_h9
theorem k3_off25_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h10 : k3_cond10 i k3_t1 arg21_r0 = 1#1), ∀ a, (k3_off25 arg18_r0) a + S1x1x1024.size a ≤ S2x1x1024.size a := fun i k3_t1 arg13_r0 arg14_r0 arg15_r0 arg16_r0 arg17_r0 arg18_r0 arg19_r0 arg20_r0 arg21_r0 k3_hw1 k3_h1 k3_h10 => k3_hw1.2.2.2.2.2.2.2.2.2.2.2.2.2.2.2.1 k3_h1 k3_h10
theorem k3_off26_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h10 : k3_cond10 i k3_t1 arg21_r0 = 1#1), ∀ a, (k3_off26 i arg21_r0) a + S1x1024.size a ≤ S1x640000.size a := fun i k3_t1 arg13_r0 arg14_r0 arg15_r0 arg16_r0 arg17_r0 arg18_r0 arg19_r0 arg20_r0 arg21_r0 k3_hw1 k3_h1 k3_h10 => k3_hw1.2.2.2.2.2.2.2.2.2.2.2.2.2.2.2.2.1 k3_h1 k3_h10
theorem k3_off27_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h10 : k3_cond10 i k3_t1 arg21_r0 = 1#1), ∀ a, (k3_off27 arg18_r0) a + S1.size a ≤ S2.size a := fun i k3_t1 arg13_r0 arg14_r0 arg15_r0 arg16_r0 arg17_r0 arg18_r0 arg19_r0 arg20_r0 arg21_r0 k3_hw1 k3_h1 k3_h10 => k3_hw1.2.2.2.2.2.2.2.2.2.2.2.2.2.2.2.2.2.1 k3_h1 k3_h10
theorem k3_off37_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h15 : k3_cond15 i k3_t1 arg21_r0 = 1#1), ∀ a, (k3_off37 arg19_r0) a + S1x1024x27.size a ≤ S2x1024x27.size a := fun i k3_t1 arg13_r0 arg14_r0 arg15_r0 arg16_r0 arg17_r0 arg18_r0 arg19_r0 arg20_r0 arg21_r0 k3_hw1 k3_h1 k3_h15 => k3_hw1.2.2.2.2.2.2.2.2.2.2.2.2.2.2.2.2.2.2.1 k3_h1 k3_h15
theorem k3_off38_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h15 : k3_cond15 i k3_t1 arg21_r0 = 1#1), ∀ a, (k3_off38 i arg21_r0) a + S1024x27.size a ≤ S640000x27.size a := fun i k3_t1 arg13_r0 arg14_r0 arg15_r0 arg16_r0 arg17_r0 arg18_r0 arg19_r0 arg20_r0 arg21_r0 k3_hw1 k3_h1 k3_h15 => k3_hw1.2.2.2.2.2.2.2.2.2.2.2.2.2.2.2.2.2.2.2.1 k3_h1 k3_h15
theorem k3_off39_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h15 : k3_cond15 i k3_t1 arg21_r0 = 1#1), ∀ a, (k3_off39 arg19_r0) a + S1.size a ≤ S2.size a := fun i k3_t1 arg13_r0 arg14_r0 arg15_r0 arg16_r0 arg17_r0 arg18_r0 arg19_r0 arg20_r0 arg21_r0 k3_hw1 k3_h1 k3_h15 => k3_hw1.2.2.2.2.2.2.2.2.2.2.2.2.2.2.2.2.2.2.2.2.1 k3_h1 k3_h15
theorem k3_off40_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h19 : k3_cond19 i k3_t1 arg21_r0 = 1#1), ∀ a, (k3_off40 arg20_r0) a + S1x1024x27.size a ≤ S2x1024x27.size a := fun i k3_t1 arg13_r0 arg14_r0 arg15_r0 arg16_r0 arg17_r0 arg18_r0 arg19_r0 arg20_r0 arg21_r0 k3_hw1 k3_h1 k3_h19 => k3_hw1.2.2.2.2.2.2.2.2.2.2.2.2.2.2.2.2.2.2.2.2.2.1 k3_h1 k3_h19
theorem k3_off41_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h19 : k3_cond19 i k3_t1 arg21_r0 = 1#1), ∀ a, (k3_off41 i arg21_r0) a + S1024x27.size a ≤ S640000x27.size a := fun i k3_t1 arg13_r0 arg14_r0 arg15_r0 arg16_r0 arg17_r0 arg18_r0 arg19_r0 arg20_r0 arg21_r0 k3_hw1 k3_h1 k3_h19 => k3_hw1.2.2.2.2.2.2.2.2.2.2.2.2.2.2.2.2.2.2.2.2.2.2.1 k3_h1 k3_h19
theorem k3_off42_inb : ∀ (i : grid3.Coords) (k3_t1 : Fin (k3_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw1 : k3_chk1 i k3_t1 arg13_r0 arg14_r0 arg15_r0 arg16_r0 arg17_r0 arg18_r0 arg19_r0 arg20_r0 arg21_r0), ∀ (k3_h1 : k3_cond1 i = 1#1), ∀ (k3_h19 : k3_cond19 i k3_t1 arg21_r0 = 1#1), ∀ a, (k3_off42 arg20_r0) a + S1.size a ≤ S2.size a := fun i k3_t1 arg13_r0 arg14_r0 arg15_r0 arg16_r0 arg17_r0 arg18_r0 arg19_r0 arg20_r0 arg21_r0 k3_hw1 k3_h1 k3_h19 => k3_hw1.2.2.2.2.2.2.2.2.2.2.2.2.2.2.2.2.2.2.2.2.2.2.2 k3_h1 k3_h19

@[reducible] def k3_t4_loop (i : grid3.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let v62_r0 : BitVec 32 := Scalar.addi c0_i32_47_r0 v61_r0
  let c1_i32_56_r0 : BitVec 32 := 1#32
  ⟨v65_r0, v62_r0, c1_i32_56_r0⟩
def k3_off43 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k3_cond20 (i : grid3.Coords) (k3_t4 : Fin (k3_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k3_t4
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k3_off44 (i : grid3.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k3_off45 (arg13_r0 : BitVec 32) : Fin 1 → Nat :=
  let c2_i32_184_r0 : BitVec 32 := 2#32
  let v280_r0 : BitVec 32 := Scalar.remui arg13_r0 c2_i32_184_r0
  ![v280_r0.toNat]
def k3_off46 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k3_cond21 (i : grid3.Coords) (k3_t4 : Fin (k3_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k3_t4
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k3_off47 (i : grid3.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k3_off48 (arg15_r0 : BitVec 32) : Fin 1 → Nat :=
  let c2_i32_184_r0 : BitVec 32 := 2#32
  let v280_r0 : BitVec 32 := Scalar.remui arg15_r0 c2_i32_184_r0
  ![v280_r0.toNat]
def k3_off49 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k3_cond22 (i : grid3.Coords) (k3_t4 : Fin (k3_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k3_t4
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k3_off50 (i : grid3.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k3_off51 (arg17_r0 : BitVec 32) : Fin 1 → Nat :=
  let c2_i32_184_r0 : BitVec 32 := 2#32
  let v280_r0 : BitVec 32 := Scalar.remui arg17_r0 c2_i32_184_r0
  ![v280_r0.toNat]
def k3_off52 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k3_cond23 (i : grid3.Coords) (k3_t4 : Fin (k3_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k3_t4
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k3_off53 (i : grid3.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k3_off54 (arg14_r0 : BitVec 32) : Fin 1 → Nat :=
  let c2_i32_185_r0 : BitVec 32 := 2#32
  let v281_r0 : BitVec 32 := Scalar.remui arg14_r0 c2_i32_185_r0
  ![v281_r0.toNat]
def k3_off55 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k3_cond24 (i : grid3.Coords) (k3_t4 : Fin (k3_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k3_t4
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k3_off56 (i : grid3.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k3_off57 (arg16_r0 : BitVec 32) : Fin 1 → Nat :=
  let c2_i32_185_r0 : BitVec 32 := 2#32
  let v281_r0 : BitVec 32 := Scalar.remui arg16_r0 c2_i32_185_r0
  ![v281_r0.toNat]
def k3_off58 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k3_cond25 (i : grid3.Coords) (k3_t4 : Fin (k3_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k3_t4
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k3_off59 (i : grid3.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k3_off60 (arg18_r0 : BitVec 32) : Fin 1 → Nat :=
  let c2_i32_185_r0 : BitVec 32 := 2#32
  let v281_r0 : BitVec 32 := Scalar.remui arg18_r0 c2_i32_185_r0
  ![v281_r0.toNat]
def k3_off61 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k3_chk13 (i : grid3.Coords) (k3_t4 : Fin (k3_t4_loop i).trips) (arg14_r0 : BitVec 32) : Prop :=
  (∀ (k3_h1 : k3_cond1 i = 1#1), ∀ a, (k3_off61 arg14_r0) a + S1x1x1024.size a ≤ S2x1x1024.size a)
theorem k3_off61_inb : ∀ (i : grid3.Coords) (k3_t4 : Fin (k3_t4_loop i).trips) (arg14_r0 : BitVec 32) (k3_hw13 : k3_chk13 i k3_t4 arg14_r0), ∀ (k3_h1 : k3_cond1 i = 1#1), ∀ a, (k3_off61 arg14_r0) a + S1x1x1024.size a ≤ S2x1x1024.size a := fun i k3_t4 arg14_r0 k3_hw13 k3_h1 => k3_hw13 k3_h1

def k3_off62 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k3_chk14 (i : grid3.Coords) (k3_t4 : Fin (k3_t4_loop i).trips) (arg16_r0 : BitVec 32) : Prop :=
  (∀ (k3_h1 : k3_cond1 i = 1#1), ∀ a, (k3_off62 arg16_r0) a + S1x1x1024.size a ≤ S2x1x1024.size a)
theorem k3_off62_inb : ∀ (i : grid3.Coords) (k3_t4 : Fin (k3_t4_loop i).trips) (arg16_r0 : BitVec 32) (k3_hw14 : k3_chk14 i k3_t4 arg16_r0), ∀ (k3_h1 : k3_cond1 i = 1#1), ∀ a, (k3_off62 arg16_r0) a + S1x1x1024.size a ≤ S2x1x1024.size a := fun i k3_t4 arg16_r0 k3_hw14 k3_h1 => k3_hw14 k3_h1

@[reducible] def k3_t5_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k3_off63 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k3_chk15 (i : grid3.Coords) (k3_t4 : Fin (k3_t4_loop i).trips) (arg18_r0 : BitVec 32) : Prop :=
  (∀ (k3_h1 : k3_cond1 i = 1#1), ∀ a, (k3_off63 arg18_r0) a + S1x1x1024.size a ≤ S2x1x1024.size a)
theorem k3_off63_inb : ∀ (i : grid3.Coords) (k3_t4 : Fin (k3_t4_loop i).trips) (arg18_r0 : BitVec 32) (k3_hw15 : k3_chk15 i k3_t4 arg18_r0), ∀ (k3_h1 : k3_cond1 i = 1#1), ∀ a, (k3_off63 arg18_r0) a + S1x1x1024.size a ≤ S2x1x1024.size a := fun i k3_t4 arg18_r0 k3_hw15 k3_h1 => k3_hw15 k3_h1

def k3_off64 (k3_t5 : Fin k3_t5_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k3_t5
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k3_off65 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k3_chk17 (i : grid3.Coords) (k3_t4 : Fin (k3_t4_loop i).trips) (v293_r0 : IVec S16 32) (v295_r0 : IVec S16 32) : Prop :=
  (∀ (k3_h1 : k3_cond1 i = 1#1), ∀ a x, ((![v293_r0, v295_r0] : Fin 2 → IVec S16 32) a x).toNat < S1024x27.size a)
theorem k3_idx9_inb : ∀ (i : grid3.Coords) (k3_t4 : Fin (k3_t4_loop i).trips) (v293_r0 : IVec S16 32) (v295_r0 : IVec S16 32) (k3_hw17 : k3_chk17 i k3_t4 v293_r0 v295_r0), ∀ (k3_h1 : k3_cond1 i = 1#1), ∀ a x, ((![v293_r0, v295_r0] : Fin 2 → IVec S16 32) a x).toNat < S1024x27.size a := fun i k3_t4 v293_r0 v295_r0 k3_hw17 k3_h1 => k3_hw17 k3_h1
def k3_off66 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k3_chk18 (i : grid3.Coords) (k3_t4 : Fin (k3_t4_loop i).trips) (v293_r0 : IVec S16 32) (v299_r0 : IVec S16 32) : Prop :=
  (∀ (k3_h1 : k3_cond1 i = 1#1), ∀ a x, ((![v293_r0, v299_r0] : Fin 2 → IVec S16 32) a x).toNat < S1024x27.size a)
theorem k3_idx10_inb : ∀ (i : grid3.Coords) (k3_t4 : Fin (k3_t4_loop i).trips) (v293_r0 : IVec S16 32) (v299_r0 : IVec S16 32) (k3_hw18 : k3_chk18 i k3_t4 v293_r0 v299_r0), ∀ (k3_h1 : k3_cond1 i = 1#1), ∀ a x, ((![v293_r0, v299_r0] : Fin 2 → IVec S16 32) a x).toNat < S1024x27.size a := fun i k3_t4 v293_r0 v299_r0 k3_hw18 k3_h1 => k3_hw18 k3_h1
def k3_off67 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k3_chk19 (i : grid3.Coords) (k3_t4 : Fin (k3_t4_loop i).trips) (v293_r0 : IVec S16 32) (v306_r0 : IVec S16 32) : Prop :=
  (∀ (k3_h1 : k3_cond1 i = 1#1), ∀ a x, ((![v293_r0, v306_r0] : Fin 2 → IVec S16 32) a x).toNat < S1024x27.size a)
theorem k3_idx11_inb : ∀ (i : grid3.Coords) (k3_t4 : Fin (k3_t4_loop i).trips) (v293_r0 : IVec S16 32) (v306_r0 : IVec S16 32) (k3_hw19 : k3_chk19 i k3_t4 v293_r0 v306_r0), ∀ (k3_h1 : k3_cond1 i = 1#1), ∀ a x, ((![v293_r0, v306_r0] : Fin 2 → IVec S16 32) a x).toNat < S1024x27.size a := fun i k3_t4 v293_r0 v306_r0 k3_hw19 k3_h1 => k3_hw19 k3_h1
@[reducible] def k3_t6_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k3_chk20 (i : grid3.Coords) (v0 : IVec S16 32) (k3_t4 : Fin (k3_t4_loop i).trips) (v282_r0 : IVec S16 32) : Prop :=
  (∀ (k3_h1 : k3_cond1 i = 1#1), ∀ a x, ((![v282_r0, v0] : Fin 2 → IVec S16 32) a x).toNat < S1024x16.size a) ∧
  (∀ (k3_h1 : k3_cond1 i = 1#1), ∀ a x, ((![v282_r0, v0] : Fin 2 → IVec S16 32) a x).toNat < S1024x16.size a) ∧
  (∀ (k3_h1 : k3_cond1 i = 1#1), ∀ a x, ((![v282_r0] : Fin 1 → IVec S16 32) a x).toNat < S1024.size a)
theorem k3_idx12_inb : ∀ (i : grid3.Coords) (v0 : IVec S16 32) (k3_t4 : Fin (k3_t4_loop i).trips) (v282_r0 : IVec S16 32) (k3_hw20 : k3_chk20 i v0 k3_t4 v282_r0), ∀ (k3_h1 : k3_cond1 i = 1#1), ∀ a x, ((![v282_r0, v0] : Fin 2 → IVec S16 32) a x).toNat < S1024x16.size a := fun i v0 k3_t4 v282_r0 k3_hw20 k3_h1 => k3_hw20.1 k3_h1
theorem k3_idx13_inb : ∀ (i : grid3.Coords) (v0 : IVec S16 32) (k3_t4 : Fin (k3_t4_loop i).trips) (v282_r0 : IVec S16 32) (k3_hw20 : k3_chk20 i v0 k3_t4 v282_r0), ∀ (k3_h1 : k3_cond1 i = 1#1), ∀ a x, ((![v282_r0, v0] : Fin 2 → IVec S16 32) a x).toNat < S1024x16.size a := fun i v0 k3_t4 v282_r0 k3_hw20 k3_h1 => k3_hw20.2.1 k3_h1
theorem k3_idx14_inb : ∀ (i : grid3.Coords) (v0 : IVec S16 32) (k3_t4 : Fin (k3_t4_loop i).trips) (v282_r0 : IVec S16 32) (k3_hw20 : k3_chk20 i v0 k3_t4 v282_r0), ∀ (k3_h1 : k3_cond1 i = 1#1), ∀ a x, ((![v282_r0] : Fin 1 → IVec S16 32) a x).toNat < S1024.size a := fun i v0 k3_t4 v282_r0 k3_hw20 k3_h1 => k3_hw20.2.2 k3_h1
def k3_off68 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k3_chk21 (i : grid3.Coords) (k3_t4 : Fin (k3_t4_loop i).trips) (v282_r0 : IVec S16 32) (v287_r0 : IVec S16 32) : Prop :=
  (∀ (k3_h1 : k3_cond1 i = 1#1), ∀ a x, ((![v282_r0, v287_r0] : Fin 2 → IVec S16 32) a x).toNat < S1024x27.size a)
theorem k3_idx15_inb : ∀ (i : grid3.Coords) (k3_t4 : Fin (k3_t4_loop i).trips) (v282_r0 : IVec S16 32) (v287_r0 : IVec S16 32) (k3_hw21 : k3_chk21 i k3_t4 v282_r0 v287_r0), ∀ (k3_h1 : k3_cond1 i = 1#1), ∀ a x, ((![v282_r0, v287_r0] : Fin 2 → IVec S16 32) a x).toNat < S1024x27.size a := fun i k3_t4 v282_r0 v287_r0 k3_hw21 k3_h1 => k3_hw21 k3_h1
def k3_off69 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k3_chk16 (i : grid3.Coords) (k3_t4 : Fin (k3_t4_loop i).trips) (arg19_r0 : BitVec 32) : Prop :=
  (∀ (k3_h1 : k3_cond1 i = 1#1), ∀ a, (k3_off65 arg19_r0) a + S1x1024x27.size a ≤ S2x1024x27.size a) ∧
  (∀ (k3_h1 : k3_cond1 i = 1#1), ∀ a, (k3_off66 arg19_r0) a + S1x1024x27.size a ≤ S2x1024x27.size a) ∧
  (∀ (k3_h1 : k3_cond1 i = 1#1), ∀ a, (k3_off67 arg19_r0) a + S1x1024x27.size a ≤ S2x1024x27.size a) ∧
  (∀ (k3_h1 : k3_cond1 i = 1#1), ∀ a, (k3_off68 arg19_r0) a + S1x1024x27.size a ≤ S2x1024x27.size a) ∧
  (∀ (k3_h1 : k3_cond1 i = 1#1), ∀ a, (k3_off69 arg19_r0) a + S1x1024x27.size a ≤ S2x1024x27.size a)
theorem k3_off65_inb : ∀ (i : grid3.Coords) (k3_t4 : Fin (k3_t4_loop i).trips) (arg19_r0 : BitVec 32) (k3_hw16 : k3_chk16 i k3_t4 arg19_r0), ∀ (k3_h1 : k3_cond1 i = 1#1), ∀ a, (k3_off65 arg19_r0) a + S1x1024x27.size a ≤ S2x1024x27.size a := fun i k3_t4 arg19_r0 k3_hw16 k3_h1 => k3_hw16.1 k3_h1
theorem k3_off66_inb : ∀ (i : grid3.Coords) (k3_t4 : Fin (k3_t4_loop i).trips) (arg19_r0 : BitVec 32) (k3_hw16 : k3_chk16 i k3_t4 arg19_r0), ∀ (k3_h1 : k3_cond1 i = 1#1), ∀ a, (k3_off66 arg19_r0) a + S1x1024x27.size a ≤ S2x1024x27.size a := fun i k3_t4 arg19_r0 k3_hw16 k3_h1 => k3_hw16.2.1 k3_h1
theorem k3_off67_inb : ∀ (i : grid3.Coords) (k3_t4 : Fin (k3_t4_loop i).trips) (arg19_r0 : BitVec 32) (k3_hw16 : k3_chk16 i k3_t4 arg19_r0), ∀ (k3_h1 : k3_cond1 i = 1#1), ∀ a, (k3_off67 arg19_r0) a + S1x1024x27.size a ≤ S2x1024x27.size a := fun i k3_t4 arg19_r0 k3_hw16 k3_h1 => k3_hw16.2.2.1 k3_h1
theorem k3_off68_inb : ∀ (i : grid3.Coords) (k3_t4 : Fin (k3_t4_loop i).trips) (arg19_r0 : BitVec 32) (k3_hw16 : k3_chk16 i k3_t4 arg19_r0), ∀ (k3_h1 : k3_cond1 i = 1#1), ∀ a, (k3_off68 arg19_r0) a + S1x1024x27.size a ≤ S2x1024x27.size a := fun i k3_t4 arg19_r0 k3_hw16 k3_h1 => k3_hw16.2.2.2.1 k3_h1
theorem k3_off69_inb : ∀ (i : grid3.Coords) (k3_t4 : Fin (k3_t4_loop i).trips) (arg19_r0 : BitVec 32) (k3_hw16 : k3_chk16 i k3_t4 arg19_r0), ∀ (k3_h1 : k3_cond1 i = 1#1), ∀ a, (k3_off69 arg19_r0) a + S1x1024x27.size a ≤ S2x1024x27.size a := fun i k3_t4 arg19_r0 k3_hw16 k3_h1 => k3_hw16.2.2.2.2 k3_h1

def k3_chk22 (i : grid3.Coords) (k3_t4 : Fin (k3_t4_loop i).trips) (v282_r0 : IVec S16 32) (v293_r0 : IVec S16 32) : Prop :=
  (∀ (k3_h1 : k3_cond1 i = 1#1), ∀ a x, ((![v282_r0, v293_r0] : Fin 2 → IVec S16 32) a x).toNat < S1024x27.size a)
theorem k3_idx16_inb : ∀ (i : grid3.Coords) (k3_t4 : Fin (k3_t4_loop i).trips) (v282_r0 : IVec S16 32) (v293_r0 : IVec S16 32) (k3_hw22 : k3_chk22 i k3_t4 v282_r0 v293_r0), ∀ (k3_h1 : k3_cond1 i = 1#1), ∀ a x, ((![v282_r0, v293_r0] : Fin 2 → IVec S16 32) a x).toNat < S1024x27.size a := fun i k3_t4 v282_r0 v293_r0 k3_hw22 k3_h1 => k3_hw22 k3_h1
def k3_off70 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k3_cond30 (i : grid3.Coords) (k3_t4 : Fin (k3_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k3_t4
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k3_off71 (i : grid3.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k3_off72 (arg19_r0 : BitVec 32) : Fin 1 → Nat :=
  let c2_i32_184_r0 : BitVec 32 := 2#32
  let v280_r0 : BitVec 32 := Scalar.remui arg19_r0 c2_i32_184_r0
  ![v280_r0.toNat]
def k3_off73 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k3_cond34 (i : grid3.Coords) (k3_t4 : Fin (k3_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k3_t4
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k3_off74 (i : grid3.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k3_off75 (arg20_r0 : BitVec 32) : Fin 1 → Nat :=
  let c2_i32_184_r0 : BitVec 32 := 2#32
  let v280_r0 : BitVec 32 := Scalar.remui arg20_r0 c2_i32_184_r0
  ![v280_r0.toNat]

def k3_chk12 (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k3_h1 : k3_cond1 i = 1#1), ∀ (k3_h20 : k3_cond20 i k3_t4 arg21_r0 = 1#1), ∀ a, (k3_off43 arg13_r0) a + S1x1x1024.size a ≤ S2x1x1024.size a) ∧
  (∀ (k3_h1 : k3_cond1 i = 1#1), ∀ (k3_h20 : k3_cond20 i k3_t4 arg21_r0 = 1#1), ∀ a, (k3_off44 i arg21_r0) a + S1x1024.size a ≤ S1x640000.size a) ∧
  (∀ (k3_h1 : k3_cond1 i = 1#1), ∀ (k3_h20 : k3_cond20 i k3_t4 arg21_r0 = 1#1), ∀ a, (k3_off45 arg13_r0) a + S1.size a ≤ S2.size a) ∧
  (∀ (k3_h1 : k3_cond1 i = 1#1), ∀ (k3_h21 : k3_cond21 i k3_t4 arg21_r0 = 1#1), ∀ a, (k3_off46 arg15_r0) a + S1x1x1024.size a ≤ S2x1x1024.size a) ∧
  (∀ (k3_h1 : k3_cond1 i = 1#1), ∀ (k3_h21 : k3_cond21 i k3_t4 arg21_r0 = 1#1), ∀ a, (k3_off47 i arg21_r0) a + S1x1024.size a ≤ S1x640000.size a) ∧
  (∀ (k3_h1 : k3_cond1 i = 1#1), ∀ (k3_h21 : k3_cond21 i k3_t4 arg21_r0 = 1#1), ∀ a, (k3_off48 arg15_r0) a + S1.size a ≤ S2.size a) ∧
  (∀ (k3_h1 : k3_cond1 i = 1#1), ∀ (k3_h22 : k3_cond22 i k3_t4 arg21_r0 = 1#1), ∀ a, (k3_off49 arg17_r0) a + S1x1x1024.size a ≤ S2x1x1024.size a) ∧
  (∀ (k3_h1 : k3_cond1 i = 1#1), ∀ (k3_h22 : k3_cond22 i k3_t4 arg21_r0 = 1#1), ∀ a, (k3_off50 i arg21_r0) a + S1x1024.size a ≤ S1x640000.size a) ∧
  (∀ (k3_h1 : k3_cond1 i = 1#1), ∀ (k3_h22 : k3_cond22 i k3_t4 arg21_r0 = 1#1), ∀ a, (k3_off51 arg17_r0) a + S1.size a ≤ S2.size a) ∧
  (∀ (k3_h1 : k3_cond1 i = 1#1), ∀ (k3_h23 : k3_cond23 i k3_t4 arg21_r0 = 1#1), ∀ a, (k3_off52 arg14_r0) a + S1x1x1024.size a ≤ S2x1x1024.size a) ∧
  (∀ (k3_h1 : k3_cond1 i = 1#1), ∀ (k3_h23 : k3_cond23 i k3_t4 arg21_r0 = 1#1), ∀ a, (k3_off53 i arg21_r0) a + S1x1024.size a ≤ S1x640000.size a) ∧
  (∀ (k3_h1 : k3_cond1 i = 1#1), ∀ (k3_h23 : k3_cond23 i k3_t4 arg21_r0 = 1#1), ∀ a, (k3_off54 arg14_r0) a + S1.size a ≤ S2.size a) ∧
  (∀ (k3_h1 : k3_cond1 i = 1#1), ∀ (k3_h24 : k3_cond24 i k3_t4 arg21_r0 = 1#1), ∀ a, (k3_off55 arg16_r0) a + S1x1x1024.size a ≤ S2x1x1024.size a) ∧
  (∀ (k3_h1 : k3_cond1 i = 1#1), ∀ (k3_h24 : k3_cond24 i k3_t4 arg21_r0 = 1#1), ∀ a, (k3_off56 i arg21_r0) a + S1x1024.size a ≤ S1x640000.size a) ∧
  (∀ (k3_h1 : k3_cond1 i = 1#1), ∀ (k3_h24 : k3_cond24 i k3_t4 arg21_r0 = 1#1), ∀ a, (k3_off57 arg16_r0) a + S1.size a ≤ S2.size a) ∧
  (∀ (k3_h1 : k3_cond1 i = 1#1), ∀ (k3_h25 : k3_cond25 i k3_t4 arg21_r0 = 1#1), ∀ a, (k3_off58 arg18_r0) a + S1x1x1024.size a ≤ S2x1x1024.size a) ∧
  (∀ (k3_h1 : k3_cond1 i = 1#1), ∀ (k3_h25 : k3_cond25 i k3_t4 arg21_r0 = 1#1), ∀ a, (k3_off59 i arg21_r0) a + S1x1024.size a ≤ S1x640000.size a) ∧
  (∀ (k3_h1 : k3_cond1 i = 1#1), ∀ (k3_h25 : k3_cond25 i k3_t4 arg21_r0 = 1#1), ∀ a, (k3_off60 arg18_r0) a + S1.size a ≤ S2.size a) ∧
  (∀ (k3_h1 : k3_cond1 i = 1#1), ∀ (k3_h30 : k3_cond30 i k3_t4 arg21_r0 = 1#1), ∀ a, (k3_off70 arg19_r0) a + S1x1024x27.size a ≤ S2x1024x27.size a) ∧
  (∀ (k3_h1 : k3_cond1 i = 1#1), ∀ (k3_h30 : k3_cond30 i k3_t4 arg21_r0 = 1#1), ∀ a, (k3_off71 i arg21_r0) a + S1024x27.size a ≤ S640000x27.size a) ∧
  (∀ (k3_h1 : k3_cond1 i = 1#1), ∀ (k3_h30 : k3_cond30 i k3_t4 arg21_r0 = 1#1), ∀ a, (k3_off72 arg19_r0) a + S1.size a ≤ S2.size a) ∧
  (∀ (k3_h1 : k3_cond1 i = 1#1), ∀ (k3_h34 : k3_cond34 i k3_t4 arg21_r0 = 1#1), ∀ a, (k3_off73 arg20_r0) a + S1x1024x27.size a ≤ S2x1024x27.size a) ∧
  (∀ (k3_h1 : k3_cond1 i = 1#1), ∀ (k3_h34 : k3_cond34 i k3_t4 arg21_r0 = 1#1), ∀ a, (k3_off74 i arg21_r0) a + S1024x27.size a ≤ S640000x27.size a) ∧
  (∀ (k3_h1 : k3_cond1 i = 1#1), ∀ (k3_h34 : k3_cond34 i k3_t4 arg21_r0 = 1#1), ∀ a, (k3_off75 arg20_r0) a + S1.size a ≤ S2.size a)
theorem k3_off43_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h20 : k3_cond20 i k3_t4 arg21_r0 = 1#1), ∀ a, (k3_off43 arg13_r0) a + S1x1x1024.size a ≤ S2x1x1024.size a := fun i k3_t4 arg13_r0 arg14_r0 arg15_r0 arg16_r0 arg17_r0 arg18_r0 arg19_r0 arg20_r0 arg21_r0 k3_hw12 k3_h1 k3_h20 => k3_hw12.1 k3_h1 k3_h20
theorem k3_off44_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h20 : k3_cond20 i k3_t4 arg21_r0 = 1#1), ∀ a, (k3_off44 i arg21_r0) a + S1x1024.size a ≤ S1x640000.size a := fun i k3_t4 arg13_r0 arg14_r0 arg15_r0 arg16_r0 arg17_r0 arg18_r0 arg19_r0 arg20_r0 arg21_r0 k3_hw12 k3_h1 k3_h20 => k3_hw12.2.1 k3_h1 k3_h20
theorem k3_off45_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h20 : k3_cond20 i k3_t4 arg21_r0 = 1#1), ∀ a, (k3_off45 arg13_r0) a + S1.size a ≤ S2.size a := fun i k3_t4 arg13_r0 arg14_r0 arg15_r0 arg16_r0 arg17_r0 arg18_r0 arg19_r0 arg20_r0 arg21_r0 k3_hw12 k3_h1 k3_h20 => k3_hw12.2.2.1 k3_h1 k3_h20
theorem k3_off46_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h21 : k3_cond21 i k3_t4 arg21_r0 = 1#1), ∀ a, (k3_off46 arg15_r0) a + S1x1x1024.size a ≤ S2x1x1024.size a := fun i k3_t4 arg13_r0 arg14_r0 arg15_r0 arg16_r0 arg17_r0 arg18_r0 arg19_r0 arg20_r0 arg21_r0 k3_hw12 k3_h1 k3_h21 => k3_hw12.2.2.2.1 k3_h1 k3_h21
theorem k3_off47_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h21 : k3_cond21 i k3_t4 arg21_r0 = 1#1), ∀ a, (k3_off47 i arg21_r0) a + S1x1024.size a ≤ S1x640000.size a := fun i k3_t4 arg13_r0 arg14_r0 arg15_r0 arg16_r0 arg17_r0 arg18_r0 arg19_r0 arg20_r0 arg21_r0 k3_hw12 k3_h1 k3_h21 => k3_hw12.2.2.2.2.1 k3_h1 k3_h21
theorem k3_off48_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h21 : k3_cond21 i k3_t4 arg21_r0 = 1#1), ∀ a, (k3_off48 arg15_r0) a + S1.size a ≤ S2.size a := fun i k3_t4 arg13_r0 arg14_r0 arg15_r0 arg16_r0 arg17_r0 arg18_r0 arg19_r0 arg20_r0 arg21_r0 k3_hw12 k3_h1 k3_h21 => k3_hw12.2.2.2.2.2.1 k3_h1 k3_h21
theorem k3_off49_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h22 : k3_cond22 i k3_t4 arg21_r0 = 1#1), ∀ a, (k3_off49 arg17_r0) a + S1x1x1024.size a ≤ S2x1x1024.size a := fun i k3_t4 arg13_r0 arg14_r0 arg15_r0 arg16_r0 arg17_r0 arg18_r0 arg19_r0 arg20_r0 arg21_r0 k3_hw12 k3_h1 k3_h22 => k3_hw12.2.2.2.2.2.2.1 k3_h1 k3_h22
theorem k3_off50_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h22 : k3_cond22 i k3_t4 arg21_r0 = 1#1), ∀ a, (k3_off50 i arg21_r0) a + S1x1024.size a ≤ S1x640000.size a := fun i k3_t4 arg13_r0 arg14_r0 arg15_r0 arg16_r0 arg17_r0 arg18_r0 arg19_r0 arg20_r0 arg21_r0 k3_hw12 k3_h1 k3_h22 => k3_hw12.2.2.2.2.2.2.2.1 k3_h1 k3_h22
theorem k3_off51_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h22 : k3_cond22 i k3_t4 arg21_r0 = 1#1), ∀ a, (k3_off51 arg17_r0) a + S1.size a ≤ S2.size a := fun i k3_t4 arg13_r0 arg14_r0 arg15_r0 arg16_r0 arg17_r0 arg18_r0 arg19_r0 arg20_r0 arg21_r0 k3_hw12 k3_h1 k3_h22 => k3_hw12.2.2.2.2.2.2.2.2.1 k3_h1 k3_h22
theorem k3_off52_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h23 : k3_cond23 i k3_t4 arg21_r0 = 1#1), ∀ a, (k3_off52 arg14_r0) a + S1x1x1024.size a ≤ S2x1x1024.size a := fun i k3_t4 arg13_r0 arg14_r0 arg15_r0 arg16_r0 arg17_r0 arg18_r0 arg19_r0 arg20_r0 arg21_r0 k3_hw12 k3_h1 k3_h23 => k3_hw12.2.2.2.2.2.2.2.2.2.1 k3_h1 k3_h23
theorem k3_off53_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h23 : k3_cond23 i k3_t4 arg21_r0 = 1#1), ∀ a, (k3_off53 i arg21_r0) a + S1x1024.size a ≤ S1x640000.size a := fun i k3_t4 arg13_r0 arg14_r0 arg15_r0 arg16_r0 arg17_r0 arg18_r0 arg19_r0 arg20_r0 arg21_r0 k3_hw12 k3_h1 k3_h23 => k3_hw12.2.2.2.2.2.2.2.2.2.2.1 k3_h1 k3_h23
theorem k3_off54_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h23 : k3_cond23 i k3_t4 arg21_r0 = 1#1), ∀ a, (k3_off54 arg14_r0) a + S1.size a ≤ S2.size a := fun i k3_t4 arg13_r0 arg14_r0 arg15_r0 arg16_r0 arg17_r0 arg18_r0 arg19_r0 arg20_r0 arg21_r0 k3_hw12 k3_h1 k3_h23 => k3_hw12.2.2.2.2.2.2.2.2.2.2.2.1 k3_h1 k3_h23
theorem k3_off55_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h24 : k3_cond24 i k3_t4 arg21_r0 = 1#1), ∀ a, (k3_off55 arg16_r0) a + S1x1x1024.size a ≤ S2x1x1024.size a := fun i k3_t4 arg13_r0 arg14_r0 arg15_r0 arg16_r0 arg17_r0 arg18_r0 arg19_r0 arg20_r0 arg21_r0 k3_hw12 k3_h1 k3_h24 => k3_hw12.2.2.2.2.2.2.2.2.2.2.2.2.1 k3_h1 k3_h24
theorem k3_off56_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h24 : k3_cond24 i k3_t4 arg21_r0 = 1#1), ∀ a, (k3_off56 i arg21_r0) a + S1x1024.size a ≤ S1x640000.size a := fun i k3_t4 arg13_r0 arg14_r0 arg15_r0 arg16_r0 arg17_r0 arg18_r0 arg19_r0 arg20_r0 arg21_r0 k3_hw12 k3_h1 k3_h24 => k3_hw12.2.2.2.2.2.2.2.2.2.2.2.2.2.1 k3_h1 k3_h24
theorem k3_off57_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h24 : k3_cond24 i k3_t4 arg21_r0 = 1#1), ∀ a, (k3_off57 arg16_r0) a + S1.size a ≤ S2.size a := fun i k3_t4 arg13_r0 arg14_r0 arg15_r0 arg16_r0 arg17_r0 arg18_r0 arg19_r0 arg20_r0 arg21_r0 k3_hw12 k3_h1 k3_h24 => k3_hw12.2.2.2.2.2.2.2.2.2.2.2.2.2.2.1 k3_h1 k3_h24
theorem k3_off58_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h25 : k3_cond25 i k3_t4 arg21_r0 = 1#1), ∀ a, (k3_off58 arg18_r0) a + S1x1x1024.size a ≤ S2x1x1024.size a := fun i k3_t4 arg13_r0 arg14_r0 arg15_r0 arg16_r0 arg17_r0 arg18_r0 arg19_r0 arg20_r0 arg21_r0 k3_hw12 k3_h1 k3_h25 => k3_hw12.2.2.2.2.2.2.2.2.2.2.2.2.2.2.2.1 k3_h1 k3_h25
theorem k3_off59_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h25 : k3_cond25 i k3_t4 arg21_r0 = 1#1), ∀ a, (k3_off59 i arg21_r0) a + S1x1024.size a ≤ S1x640000.size a := fun i k3_t4 arg13_r0 arg14_r0 arg15_r0 arg16_r0 arg17_r0 arg18_r0 arg19_r0 arg20_r0 arg21_r0 k3_hw12 k3_h1 k3_h25 => k3_hw12.2.2.2.2.2.2.2.2.2.2.2.2.2.2.2.2.1 k3_h1 k3_h25
theorem k3_off60_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h25 : k3_cond25 i k3_t4 arg21_r0 = 1#1), ∀ a, (k3_off60 arg18_r0) a + S1.size a ≤ S2.size a := fun i k3_t4 arg13_r0 arg14_r0 arg15_r0 arg16_r0 arg17_r0 arg18_r0 arg19_r0 arg20_r0 arg21_r0 k3_hw12 k3_h1 k3_h25 => k3_hw12.2.2.2.2.2.2.2.2.2.2.2.2.2.2.2.2.2.1 k3_h1 k3_h25
theorem k3_off70_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h30 : k3_cond30 i k3_t4 arg21_r0 = 1#1), ∀ a, (k3_off70 arg19_r0) a + S1x1024x27.size a ≤ S2x1024x27.size a := fun i k3_t4 arg13_r0 arg14_r0 arg15_r0 arg16_r0 arg17_r0 arg18_r0 arg19_r0 arg20_r0 arg21_r0 k3_hw12 k3_h1 k3_h30 => k3_hw12.2.2.2.2.2.2.2.2.2.2.2.2.2.2.2.2.2.2.1 k3_h1 k3_h30
theorem k3_off71_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h30 : k3_cond30 i k3_t4 arg21_r0 = 1#1), ∀ a, (k3_off71 i arg21_r0) a + S1024x27.size a ≤ S640000x27.size a := fun i k3_t4 arg13_r0 arg14_r0 arg15_r0 arg16_r0 arg17_r0 arg18_r0 arg19_r0 arg20_r0 arg21_r0 k3_hw12 k3_h1 k3_h30 => k3_hw12.2.2.2.2.2.2.2.2.2.2.2.2.2.2.2.2.2.2.2.1 k3_h1 k3_h30
theorem k3_off72_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h30 : k3_cond30 i k3_t4 arg21_r0 = 1#1), ∀ a, (k3_off72 arg19_r0) a + S1.size a ≤ S2.size a := fun i k3_t4 arg13_r0 arg14_r0 arg15_r0 arg16_r0 arg17_r0 arg18_r0 arg19_r0 arg20_r0 arg21_r0 k3_hw12 k3_h1 k3_h30 => k3_hw12.2.2.2.2.2.2.2.2.2.2.2.2.2.2.2.2.2.2.2.2.1 k3_h1 k3_h30
theorem k3_off73_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h34 : k3_cond34 i k3_t4 arg21_r0 = 1#1), ∀ a, (k3_off73 arg20_r0) a + S1x1024x27.size a ≤ S2x1024x27.size a := fun i k3_t4 arg13_r0 arg14_r0 arg15_r0 arg16_r0 arg17_r0 arg18_r0 arg19_r0 arg20_r0 arg21_r0 k3_hw12 k3_h1 k3_h34 => k3_hw12.2.2.2.2.2.2.2.2.2.2.2.2.2.2.2.2.2.2.2.2.2.1 k3_h1 k3_h34
theorem k3_off74_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h34 : k3_cond34 i k3_t4 arg21_r0 = 1#1), ∀ a, (k3_off74 i arg21_r0) a + S1024x27.size a ≤ S640000x27.size a := fun i k3_t4 arg13_r0 arg14_r0 arg15_r0 arg16_r0 arg17_r0 arg18_r0 arg19_r0 arg20_r0 arg21_r0 k3_hw12 k3_h1 k3_h34 => k3_hw12.2.2.2.2.2.2.2.2.2.2.2.2.2.2.2.2.2.2.2.2.2.2.1 k3_h1 k3_h34
theorem k3_off75_inb : ∀ (i : grid3.Coords) (k3_t4 : Fin (k3_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k3_hw12 : k3_chk12 i k3_t4 arg13_r0 arg14_r0 arg15_r0 arg16_r0 arg17_r0 arg18_r0 arg19_r0 arg20_r0 arg21_r0), ∀ (k3_h1 : k3_cond1 i = 1#1), ∀ (k3_h34 : k3_cond34 i k3_t4 arg21_r0 = 1#1), ∀ a, (k3_off75 arg20_r0) a + S1.size a ≤ S2.size a := fun i k3_t4 arg13_r0 arg14_r0 arg15_r0 arg16_r0 arg17_r0 arg18_r0 arg19_r0 arg20_r0 arg21_r0 k3_hw12 k3_h1 k3_h34 => k3_hw12.2.2.2.2.2.2.2.2.2.2.2.2.2.2.2.2.2.2.2.2.2.2.2 k3_h1 k3_h34

def k3_cond38 (i : grid3.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c1_i32_61_r0 : BitVec 32 := 1#32
  let v73_r0 : BitVec 32 := Scalar.subi v14 c1_i32_61_r0
  let c1_i32_62_r0 : BitVec 32 := 1#32
  let v74_r0 : BitVec 32 := Scalar.muli c1_i32_62_r0 v8
  let c1_i32_64_r0 : BitVec 32 := 1#32
  let v76_r0 : BitVec 32 := Scalar.subi v74_r0 c1_i32_64_r0
  let v77_r0 : BitVec 1 := Scalar.cmpi .eq v73_r0 v76_r0
  let v101_r0 : BitVec 32 := Scalar.extui v77_r0
  let c0_i32_78_r0 : BitVec 32 := 0#32
  let v102_r0 : BitVec 1 := Scalar.cmpi .ne v101_r0 c0_i32_78_r0
  v102_r0

def k3_off76 (v67_7_r0 : BitVec 32) : Fin 3 → Nat :=
  let c2_i32_r0 : BitVec 32 := 2#32
  let v103_r0 : BitVec 32 := Scalar.remui v67_7_r0 c2_i32_r0
  let c0_i32_79_r0 : BitVec 32 := 0#32
  let c0_i32_80_r0 : BitVec 32 := 0#32
  ![v103_r0.toNat, 0, 0]

def k3_off77 (i : grid3.Coords) (v67_8_r0 : BitVec 32) : Fin 2 → Nat :=
  let c1024_i32_r0 : BitVec 32 := 1024#32
  let true_58_r0 : BitVec 1 := 1#1
  let c1_i32_57_r0 : BitVec 32 := 1#32
  let v68_r0 : BitVec 32 := Scalar.subi v67_8_r0 c1_i32_57_r0
  let v69_r0 : BitVec 32 := Scalar.select true_58_r0 v68_r0 v67_8_r0
  let c_m1_i32_59_r0 : BitVec 32 := 4294967295#32
  let v70_r0 : BitVec 1 := Scalar.cmpi .eq v69_r0 c_m1_i32_59_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_60_r0 : BitVec 32 := 1#32
  let v71_r0 : BitVec 32 := Scalar.subi v8 c1_i32_60_r0
  let v72_r0 : BitVec 32 := Scalar.select v70_r0 v71_r0 v69_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v78_r0 : BitVec 32 := Scalar.addi v72_r0 v13
  let v104_r0 : BitVec 32 := Scalar.muli c1024_i32_r0 v78_r0
  let c0_i32_81_r0 : BitVec 32 := 0#32
  ![v104_r0.toNat, 0]

def k3_chk24 (i : grid3.Coords) (v67_8_r0 : BitVec 32) : Prop :=
  (∀ (k3_h1 : k3_cond1 i = 1#1), ∀ (k3_h38 : k3_cond38 i = 1#1), ∀ a, (k3_off77 i v67_8_r0) a + S1024x27.size a ≤ S640000x27.size a)
theorem k3_off77_inb : ∀ (i : grid3.Coords) (v67_8_r0 : BitVec 32) (k3_hw24 : k3_chk24 i v67_8_r0), ∀ (k3_h1 : k3_cond1 i = 1#1), ∀ (k3_h38 : k3_cond38 i = 1#1), ∀ a, (k3_off77 i v67_8_r0) a + S1024x27.size a ≤ S640000x27.size a := fun i v67_8_r0 k3_hw24 k3_h1 k3_h38 => k3_hw24 k3_h1 k3_h38

def k3_off78 (v67_7_r0 : BitVec 32) : Fin 1 → Nat :=
  let c2_i32_r0 : BitVec 32 := 2#32
  let v103_r0 : BitVec 32 := Scalar.remui v67_7_r0 c2_i32_r0
  ![v103_r0.toNat]
def k3_off79 (v67_7_r0 : BitVec 32) : Fin 3 → Nat :=
  let c2_i32_r0 : BitVec 32 := 2#32
  let v103_r0 : BitVec 32 := Scalar.remui v67_7_r0 c2_i32_r0
  let c0_i32_83_r0 : BitVec 32 := 0#32
  let c0_i32_84_r0 : BitVec 32 := 0#32
  ![v103_r0.toNat, 0, 0]

def k3_chk23 (i : grid3.Coords) (v67_7_r0 : BitVec 32) : Prop :=
  (∀ (k3_h1 : k3_cond1 i = 1#1), ∀ (k3_h38 : k3_cond38 i = 1#1), ∀ a, (k3_off76 v67_7_r0) a + S1x1024x27.size a ≤ S2x1024x27.size a) ∧
  (∀ (k3_h1 : k3_cond1 i = 1#1), ∀ (k3_h38 : k3_cond38 i = 1#1), ∀ a, (k3_off78 v67_7_r0) a + S1.size a ≤ S2.size a) ∧
  (∀ (k3_h1 : k3_cond1 i = 1#1), ∀ (k3_h38 : k3_cond38 i = 1#1), ∀ a, (k3_off79 v67_7_r0) a + S1x1024x27.size a ≤ S2x1024x27.size a)
theorem k3_off76_inb : ∀ (i : grid3.Coords) (v67_7_r0 : BitVec 32) (k3_hw23 : k3_chk23 i v67_7_r0), ∀ (k3_h1 : k3_cond1 i = 1#1), ∀ (k3_h38 : k3_cond38 i = 1#1), ∀ a, (k3_off76 v67_7_r0) a + S1x1024x27.size a ≤ S2x1024x27.size a := fun i v67_7_r0 k3_hw23 k3_h1 k3_h38 => k3_hw23.1 k3_h1 k3_h38
theorem k3_off78_inb : ∀ (i : grid3.Coords) (v67_7_r0 : BitVec 32) (k3_hw23 : k3_chk23 i v67_7_r0), ∀ (k3_h1 : k3_cond1 i = 1#1), ∀ (k3_h38 : k3_cond38 i = 1#1), ∀ a, (k3_off78 v67_7_r0) a + S1.size a ≤ S2.size a := fun i v67_7_r0 k3_hw23 k3_h1 k3_h38 => k3_hw23.2.1 k3_h1 k3_h38
theorem k3_off79_inb : ∀ (i : grid3.Coords) (v67_7_r0 : BitVec 32) (k3_hw23 : k3_chk23 i v67_7_r0), ∀ (k3_h1 : k3_cond1 i = 1#1), ∀ (k3_h38 : k3_cond38 i = 1#1), ∀ a, (k3_off79 v67_7_r0) a + S1x1024x27.size a ≤ S2x1024x27.size a := fun i v67_7_r0 k3_hw23 k3_h1 k3_h38 => k3_hw23.2.2 k3_h1 k3_h38

abbrev grid4 : Pipeline.Grid := ⟨2, ![2, 16], ![false, false]⟩

def k4_cond1 (i : grid4.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c0_i32_7_r0 : BitVec 32 := 0#32
  let v19_r0 : BitVec 1 := Scalar.cmpi .sgt v14 c0_i32_7_r0
  let v20_r0 : BitVec 32 := Scalar.extui v19_r0
  let c0_i32_8_r0 : BitVec 32 := 0#32
  let v21_r0 : BitVec 1 := Scalar.cmpi .ne v20_r0 c0_i32_8_r0
  v21_r0

def k4_cond2 (i : grid4.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_23_r0 : BitVec 32 := 0#32
  let v40_r0 : BitVec 1 := Scalar.cmpi .sgt v22_r0 c0_i32_23_r0
  let v41_r0 : BitVec 1 := Scalar.andi true_24_r0 v40_r0
  let true_25_r0 : BitVec 1 := 1#1
  let v42_r0 : BitVec 1 := Scalar.andi v41_r0 true_25_r0
  let v43_r0 : BitVec 32 := Scalar.extui v42_r0
  let c0_i32_27_r0 : BitVec 32 := 0#32
  let v44_r0 : BitVec 1 := Scalar.cmpi .ne v43_r0 c0_i32_27_r0
  v44_r0

def k4_off1 : Fin 3 → Nat :=
  let c0_i32_26_r0 : BitVec 32 := 0#32
  let c2_i32_r0 : BitVec 32 := 2#32
  let v103_r0 : BitVec 32 := Scalar.remui c0_i32_26_r0 c2_i32_r0
  let c0_i32_79_r0 : BitVec 32 := 0#32
  let c0_i32_80_r0 : BitVec 32 := 0#32
  ![v103_r0.toNat, 0, 0]
def k4_off2 (i : grid4.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k4_off3 : Fin 1 → Nat :=
  let c0_i32_26_r0 : BitVec 32 := 0#32
  let c2_i32_r0 : BitVec 32 := 2#32
  let v103_r0 : BitVec 32 := Scalar.remui c0_i32_26_r0 c2_i32_r0
  ![v103_r0.toNat]
def k4_cond3 (i : grid4.Coords) : BitVec 1 :=
  let true_32_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_31_r0 : BitVec 32 := 0#32
  let v47_r0 : BitVec 1 := Scalar.cmpi .sgt v22_r0 c0_i32_31_r0
  let v48_r0 : BitVec 1 := Scalar.andi true_32_r0 v47_r0
  let true_33_r0 : BitVec 1 := 1#1
  let v49_r0 : BitVec 1 := Scalar.andi v48_r0 true_33_r0
  let v50_r0 : BitVec 32 := Scalar.extui v49_r0
  let c0_i32_35_r0 : BitVec 32 := 0#32
  let v51_r0 : BitVec 1 := Scalar.cmpi .ne v50_r0 c0_i32_35_r0
  v51_r0

def k4_off4 : Fin 3 → Nat :=
  let c0_i32_34_r0 : BitVec 32 := 0#32
  let c2_i32_r0 : BitVec 32 := 2#32
  let v103_r0 : BitVec 32 := Scalar.remui c0_i32_34_r0 c2_i32_r0
  let c0_i32_79_r0 : BitVec 32 := 0#32
  let c0_i32_80_r0 : BitVec 32 := 0#32
  ![v103_r0.toNat, 0, 0]
def k4_off5 (i : grid4.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k4_off6 : Fin 1 → Nat :=
  let c0_i32_34_r0 : BitVec 32 := 0#32
  let c2_i32_r0 : BitVec 32 := 2#32
  let v103_r0 : BitVec 32 := Scalar.remui c0_i32_34_r0 c2_i32_r0
  ![v103_r0.toNat]
def k4_cond4 (i : grid4.Coords) : BitVec 1 :=
  let true_40_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_39_r0 : BitVec 32 := 0#32
  let v54_r0 : BitVec 1 := Scalar.cmpi .sgt v22_r0 c0_i32_39_r0
  let v55_r0 : BitVec 1 := Scalar.andi true_40_r0 v54_r0
  let true_41_r0 : BitVec 1 := 1#1
  let v56_r0 : BitVec 1 := Scalar.andi v55_r0 true_41_r0
  let v57_r0 : BitVec 32 := Scalar.extui v56_r0
  let c0_i32_43_r0 : BitVec 32 := 0#32
  let v58_r0 : BitVec 1 := Scalar.cmpi .ne v57_r0 c0_i32_43_r0
  v58_r0

def k4_off7 : Fin 3 → Nat :=
  let c0_i32_42_r0 : BitVec 32 := 0#32
  let c2_i32_r0 : BitVec 32 := 2#32
  let v103_r0 : BitVec 32 := Scalar.remui c0_i32_42_r0 c2_i32_r0
  let c0_i32_79_r0 : BitVec 32 := 0#32
  let c0_i32_80_r0 : BitVec 32 := 0#32
  ![v103_r0.toNat, 0, 0]
def k4_off8 (i : grid4.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k4_off9 : Fin 1 → Nat :=
  let c0_i32_42_r0 : BitVec 32 := 0#32
  let c2_i32_r0 : BitVec 32 := 2#32
  let v103_r0 : BitVec 32 := Scalar.remui c0_i32_42_r0 c2_i32_r0
  ![v103_r0.toNat]
@[reducible] def k4_t1_loop (i : grid4.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_55_r0 : BitVec 32 := 1#32
  ⟨c0_i32_47_r0, v65_r0, c1_i32_55_r0⟩
def k4_off10 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k4_cond5 (i : grid4.Coords) (k4_t1 : Fin (k4_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k4_t1
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k4_off11 (i : grid4.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k4_off12 (arg13_r0 : BitVec 32) : Fin 1 → Nat :=
  let c2_i32_184_r0 : BitVec 32 := 2#32
  let v280_r0 : BitVec 32 := Scalar.remui arg13_r0 c2_i32_184_r0
  ![v280_r0.toNat]
def k4_off13 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k4_cond6 (i : grid4.Coords) (k4_t1 : Fin (k4_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k4_t1
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k4_off14 (i : grid4.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k4_off15 (arg15_r0 : BitVec 32) : Fin 1 → Nat :=
  let c2_i32_184_r0 : BitVec 32 := 2#32
  let v280_r0 : BitVec 32 := Scalar.remui arg15_r0 c2_i32_184_r0
  ![v280_r0.toNat]
def k4_off16 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k4_cond7 (i : grid4.Coords) (k4_t1 : Fin (k4_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k4_t1
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k4_off17 (i : grid4.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k4_off18 (arg17_r0 : BitVec 32) : Fin 1 → Nat :=
  let c2_i32_184_r0 : BitVec 32 := 2#32
  let v280_r0 : BitVec 32 := Scalar.remui arg17_r0 c2_i32_184_r0
  ![v280_r0.toNat]
def k4_off19 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k4_cond8 (i : grid4.Coords) (k4_t1 : Fin (k4_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k4_t1
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k4_off20 (i : grid4.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k4_off21 (arg14_r0 : BitVec 32) : Fin 1 → Nat :=
  let c2_i32_185_r0 : BitVec 32 := 2#32
  let v281_r0 : BitVec 32 := Scalar.remui arg14_r0 c2_i32_185_r0
  ![v281_r0.toNat]
def k4_off22 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k4_cond9 (i : grid4.Coords) (k4_t1 : Fin (k4_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k4_t1
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k4_off23 (i : grid4.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k4_off24 (arg16_r0 : BitVec 32) : Fin 1 → Nat :=
  let c2_i32_185_r0 : BitVec 32 := 2#32
  let v281_r0 : BitVec 32 := Scalar.remui arg16_r0 c2_i32_185_r0
  ![v281_r0.toNat]
def k4_off25 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k4_cond10 (i : grid4.Coords) (k4_t1 : Fin (k4_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k4_t1
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k4_off26 (i : grid4.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k4_off27 (arg18_r0 : BitVec 32) : Fin 1 → Nat :=
  let c2_i32_185_r0 : BitVec 32 := 2#32
  let v281_r0 : BitVec 32 := Scalar.remui arg18_r0 c2_i32_185_r0
  ![v281_r0.toNat]
def k4_off28 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k4_chk2 (i : grid4.Coords) (arg14_r0 : BitVec 32) : Prop :=
  (∀ (k4_h1 : k4_cond1 i = 1#1), ∀ a, (k4_off28 arg14_r0) a + S1x1x1024.size a ≤ S2x1x1024.size a)
theorem k4_off28_inb : ∀ (i : grid4.Coords) (arg14_r0 : BitVec 32) (k4_hw2 : k4_chk2 i arg14_r0), ∀ (k4_h1 : k4_cond1 i = 1#1), ∀ a, (k4_off28 arg14_r0) a + S1x1x1024.size a ≤ S2x1x1024.size a := fun i arg14_r0 k4_hw2 k4_h1 => k4_hw2 k4_h1

def k4_off29 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k4_chk3 (i : grid4.Coords) (arg16_r0 : BitVec 32) : Prop :=
  (∀ (k4_h1 : k4_cond1 i = 1#1), ∀ a, (k4_off29 arg16_r0) a + S1x1x1024.size a ≤ S2x1x1024.size a)
theorem k4_off29_inb : ∀ (i : grid4.Coords) (arg16_r0 : BitVec 32) (k4_hw3 : k4_chk3 i arg16_r0), ∀ (k4_h1 : k4_cond1 i = 1#1), ∀ a, (k4_off29 arg16_r0) a + S1x1x1024.size a ≤ S2x1x1024.size a := fun i arg16_r0 k4_hw3 k4_h1 => k4_hw3 k4_h1

@[reducible] def k4_t2_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k4_off30 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k4_chk4 (i : grid4.Coords) (arg18_r0 : BitVec 32) : Prop :=
  (∀ (k4_h1 : k4_cond1 i = 1#1), ∀ a, (k4_off30 arg18_r0) a + S1x1x1024.size a ≤ S2x1x1024.size a)
theorem k4_off30_inb : ∀ (i : grid4.Coords) (arg18_r0 : BitVec 32) (k4_hw4 : k4_chk4 i arg18_r0), ∀ (k4_h1 : k4_cond1 i = 1#1), ∀ a, (k4_off30 arg18_r0) a + S1x1x1024.size a ≤ S2x1x1024.size a := fun i arg18_r0 k4_hw4 k4_h1 => k4_hw4 k4_h1

def k4_off31 (k4_t2 : Fin k4_t2_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k4_t2
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k4_off32 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k4_chk6 (i : grid4.Coords) (v293_r0 : IVec S16 32) (v295_r0 : IVec S16 32) : Prop :=
  (∀ (k4_h1 : k4_cond1 i = 1#1), ∀ a x, ((![v293_r0, v295_r0] : Fin 2 → IVec S16 32) a x).toNat < S1024x27.size a)
theorem k4_idx1_inb : ∀ (i : grid4.Coords) (v293_r0 : IVec S16 32) (v295_r0 : IVec S16 32) (k4_hw6 : k4_chk6 i v293_r0 v295_r0), ∀ (k4_h1 : k4_cond1 i = 1#1), ∀ a x, ((![v293_r0, v295_r0] : Fin 2 → IVec S16 32) a x).toNat < S1024x27.size a := fun i v293_r0 v295_r0 k4_hw6 k4_h1 => k4_hw6 k4_h1
def k4_off33 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k4_chk7 (i : grid4.Coords) (v293_r0 : IVec S16 32) (v299_r0 : IVec S16 32) : Prop :=
  (∀ (k4_h1 : k4_cond1 i = 1#1), ∀ a x, ((![v293_r0, v299_r0] : Fin 2 → IVec S16 32) a x).toNat < S1024x27.size a)
theorem k4_idx2_inb : ∀ (i : grid4.Coords) (v293_r0 : IVec S16 32) (v299_r0 : IVec S16 32) (k4_hw7 : k4_chk7 i v293_r0 v299_r0), ∀ (k4_h1 : k4_cond1 i = 1#1), ∀ a x, ((![v293_r0, v299_r0] : Fin 2 → IVec S16 32) a x).toNat < S1024x27.size a := fun i v293_r0 v299_r0 k4_hw7 k4_h1 => k4_hw7 k4_h1
def k4_off34 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k4_chk8 (i : grid4.Coords) (v293_r0 : IVec S16 32) (v306_r0 : IVec S16 32) : Prop :=
  (∀ (k4_h1 : k4_cond1 i = 1#1), ∀ a x, ((![v293_r0, v306_r0] : Fin 2 → IVec S16 32) a x).toNat < S1024x27.size a)
theorem k4_idx3_inb : ∀ (i : grid4.Coords) (v293_r0 : IVec S16 32) (v306_r0 : IVec S16 32) (k4_hw8 : k4_chk8 i v293_r0 v306_r0), ∀ (k4_h1 : k4_cond1 i = 1#1), ∀ a x, ((![v293_r0, v306_r0] : Fin 2 → IVec S16 32) a x).toNat < S1024x27.size a := fun i v293_r0 v306_r0 k4_hw8 k4_h1 => k4_hw8 k4_h1
@[reducible] def k4_t3_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k4_chk9 (i : grid4.Coords) (v0 : IVec S16 32) (v282_r0 : IVec S16 32) : Prop :=
  (∀ (k4_h1 : k4_cond1 i = 1#1), ∀ a x, ((![v282_r0, v0] : Fin 2 → IVec S16 32) a x).toNat < S1024x16.size a) ∧
  (∀ (k4_h1 : k4_cond1 i = 1#1), ∀ a x, ((![v282_r0, v0] : Fin 2 → IVec S16 32) a x).toNat < S1024x16.size a) ∧
  (∀ (k4_h1 : k4_cond1 i = 1#1), ∀ a x, ((![v282_r0] : Fin 1 → IVec S16 32) a x).toNat < S1024.size a)
theorem k4_idx4_inb : ∀ (i : grid4.Coords) (v0 : IVec S16 32) (v282_r0 : IVec S16 32) (k4_hw9 : k4_chk9 i v0 v282_r0), ∀ (k4_h1 : k4_cond1 i = 1#1), ∀ a x, ((![v282_r0, v0] : Fin 2 → IVec S16 32) a x).toNat < S1024x16.size a := fun i v0 v282_r0 k4_hw9 k4_h1 => k4_hw9.1 k4_h1
theorem k4_idx5_inb : ∀ (i : grid4.Coords) (v0 : IVec S16 32) (v282_r0 : IVec S16 32) (k4_hw9 : k4_chk9 i v0 v282_r0), ∀ (k4_h1 : k4_cond1 i = 1#1), ∀ a x, ((![v282_r0, v0] : Fin 2 → IVec S16 32) a x).toNat < S1024x16.size a := fun i v0 v282_r0 k4_hw9 k4_h1 => k4_hw9.2.1 k4_h1
theorem k4_idx6_inb : ∀ (i : grid4.Coords) (v0 : IVec S16 32) (v282_r0 : IVec S16 32) (k4_hw9 : k4_chk9 i v0 v282_r0), ∀ (k4_h1 : k4_cond1 i = 1#1), ∀ a x, ((![v282_r0] : Fin 1 → IVec S16 32) a x).toNat < S1024.size a := fun i v0 v282_r0 k4_hw9 k4_h1 => k4_hw9.2.2 k4_h1
def k4_off35 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k4_chk10 (i : grid4.Coords) (v282_r0 : IVec S16 32) (v287_r0 : IVec S16 32) : Prop :=
  (∀ (k4_h1 : k4_cond1 i = 1#1), ∀ a x, ((![v282_r0, v287_r0] : Fin 2 → IVec S16 32) a x).toNat < S1024x27.size a)
theorem k4_idx7_inb : ∀ (i : grid4.Coords) (v282_r0 : IVec S16 32) (v287_r0 : IVec S16 32) (k4_hw10 : k4_chk10 i v282_r0 v287_r0), ∀ (k4_h1 : k4_cond1 i = 1#1), ∀ a x, ((![v282_r0, v287_r0] : Fin 2 → IVec S16 32) a x).toNat < S1024x27.size a := fun i v282_r0 v287_r0 k4_hw10 k4_h1 => k4_hw10 k4_h1
def k4_off36 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k4_chk5 (i : grid4.Coords) (arg19_r0 : BitVec 32) : Prop :=
  (∀ (k4_h1 : k4_cond1 i = 1#1), ∀ a, (k4_off32 arg19_r0) a + S1x1024x27.size a ≤ S2x1024x27.size a) ∧
  (∀ (k4_h1 : k4_cond1 i = 1#1), ∀ a, (k4_off33 arg19_r0) a + S1x1024x27.size a ≤ S2x1024x27.size a) ∧
  (∀ (k4_h1 : k4_cond1 i = 1#1), ∀ a, (k4_off34 arg19_r0) a + S1x1024x27.size a ≤ S2x1024x27.size a) ∧
  (∀ (k4_h1 : k4_cond1 i = 1#1), ∀ a, (k4_off35 arg19_r0) a + S1x1024x27.size a ≤ S2x1024x27.size a) ∧
  (∀ (k4_h1 : k4_cond1 i = 1#1), ∀ a, (k4_off36 arg19_r0) a + S1x1024x27.size a ≤ S2x1024x27.size a)
theorem k4_off32_inb : ∀ (i : grid4.Coords) (arg19_r0 : BitVec 32) (k4_hw5 : k4_chk5 i arg19_r0), ∀ (k4_h1 : k4_cond1 i = 1#1), ∀ a, (k4_off32 arg19_r0) a + S1x1024x27.size a ≤ S2x1024x27.size a := fun i arg19_r0 k4_hw5 k4_h1 => k4_hw5.1 k4_h1
theorem k4_off33_inb : ∀ (i : grid4.Coords) (arg19_r0 : BitVec 32) (k4_hw5 : k4_chk5 i arg19_r0), ∀ (k4_h1 : k4_cond1 i = 1#1), ∀ a, (k4_off33 arg19_r0) a + S1x1024x27.size a ≤ S2x1024x27.size a := fun i arg19_r0 k4_hw5 k4_h1 => k4_hw5.2.1 k4_h1
theorem k4_off34_inb : ∀ (i : grid4.Coords) (arg19_r0 : BitVec 32) (k4_hw5 : k4_chk5 i arg19_r0), ∀ (k4_h1 : k4_cond1 i = 1#1), ∀ a, (k4_off34 arg19_r0) a + S1x1024x27.size a ≤ S2x1024x27.size a := fun i arg19_r0 k4_hw5 k4_h1 => k4_hw5.2.2.1 k4_h1
theorem k4_off35_inb : ∀ (i : grid4.Coords) (arg19_r0 : BitVec 32) (k4_hw5 : k4_chk5 i arg19_r0), ∀ (k4_h1 : k4_cond1 i = 1#1), ∀ a, (k4_off35 arg19_r0) a + S1x1024x27.size a ≤ S2x1024x27.size a := fun i arg19_r0 k4_hw5 k4_h1 => k4_hw5.2.2.2.1 k4_h1
theorem k4_off36_inb : ∀ (i : grid4.Coords) (arg19_r0 : BitVec 32) (k4_hw5 : k4_chk5 i arg19_r0), ∀ (k4_h1 : k4_cond1 i = 1#1), ∀ a, (k4_off36 arg19_r0) a + S1x1024x27.size a ≤ S2x1024x27.size a := fun i arg19_r0 k4_hw5 k4_h1 => k4_hw5.2.2.2.2 k4_h1

def k4_chk11 (i : grid4.Coords) (v282_r0 : IVec S16 32) (v293_r0 : IVec S16 32) : Prop :=
  (∀ (k4_h1 : k4_cond1 i = 1#1), ∀ a x, ((![v282_r0, v293_r0] : Fin 2 → IVec S16 32) a x).toNat < S1024x27.size a)
theorem k4_idx8_inb : ∀ (i : grid4.Coords) (v282_r0 : IVec S16 32) (v293_r0 : IVec S16 32) (k4_hw11 : k4_chk11 i v282_r0 v293_r0), ∀ (k4_h1 : k4_cond1 i = 1#1), ∀ a x, ((![v282_r0, v293_r0] : Fin 2 → IVec S16 32) a x).toNat < S1024x27.size a := fun i v282_r0 v293_r0 k4_hw11 k4_h1 => k4_hw11 k4_h1
def k4_off37 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k4_cond15 (i : grid4.Coords) (k4_t1 : Fin (k4_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k4_t1
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k4_off38 (i : grid4.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k4_off39 (arg19_r0 : BitVec 32) : Fin 1 → Nat :=
  let c2_i32_184_r0 : BitVec 32 := 2#32
  let v280_r0 : BitVec 32 := Scalar.remui arg19_r0 c2_i32_184_r0
  ![v280_r0.toNat]
def k4_off40 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k4_cond19 (i : grid4.Coords) (k4_t1 : Fin (k4_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k4_t1
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k4_off41 (i : grid4.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k4_off42 (arg20_r0 : BitVec 32) : Fin 1 → Nat :=
  let c2_i32_184_r0 : BitVec 32 := 2#32
  let v280_r0 : BitVec 32 := Scalar.remui arg20_r0 c2_i32_184_r0
  ![v280_r0.toNat]

def k4_chk1 (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k4_h1 : k4_cond1 i = 1#1), ∀ (k4_h5 : k4_cond5 i k4_t1 arg21_r0 = 1#1), ∀ a, (k4_off10 arg13_r0) a + S1x1x1024.size a ≤ S2x1x1024.size a) ∧
  (∀ (k4_h1 : k4_cond1 i = 1#1), ∀ (k4_h5 : k4_cond5 i k4_t1 arg21_r0 = 1#1), ∀ a, (k4_off11 i arg21_r0) a + S1x1024.size a ≤ S1x640000.size a) ∧
  (∀ (k4_h1 : k4_cond1 i = 1#1), ∀ (k4_h5 : k4_cond5 i k4_t1 arg21_r0 = 1#1), ∀ a, (k4_off12 arg13_r0) a + S1.size a ≤ S2.size a) ∧
  (∀ (k4_h1 : k4_cond1 i = 1#1), ∀ (k4_h6 : k4_cond6 i k4_t1 arg21_r0 = 1#1), ∀ a, (k4_off13 arg15_r0) a + S1x1x1024.size a ≤ S2x1x1024.size a) ∧
  (∀ (k4_h1 : k4_cond1 i = 1#1), ∀ (k4_h6 : k4_cond6 i k4_t1 arg21_r0 = 1#1), ∀ a, (k4_off14 i arg21_r0) a + S1x1024.size a ≤ S1x640000.size a) ∧
  (∀ (k4_h1 : k4_cond1 i = 1#1), ∀ (k4_h6 : k4_cond6 i k4_t1 arg21_r0 = 1#1), ∀ a, (k4_off15 arg15_r0) a + S1.size a ≤ S2.size a) ∧
  (∀ (k4_h1 : k4_cond1 i = 1#1), ∀ (k4_h7 : k4_cond7 i k4_t1 arg21_r0 = 1#1), ∀ a, (k4_off16 arg17_r0) a + S1x1x1024.size a ≤ S2x1x1024.size a) ∧
  (∀ (k4_h1 : k4_cond1 i = 1#1), ∀ (k4_h7 : k4_cond7 i k4_t1 arg21_r0 = 1#1), ∀ a, (k4_off17 i arg21_r0) a + S1x1024.size a ≤ S1x640000.size a) ∧
  (∀ (k4_h1 : k4_cond1 i = 1#1), ∀ (k4_h7 : k4_cond7 i k4_t1 arg21_r0 = 1#1), ∀ a, (k4_off18 arg17_r0) a + S1.size a ≤ S2.size a) ∧
  (∀ (k4_h1 : k4_cond1 i = 1#1), ∀ (k4_h8 : k4_cond8 i k4_t1 arg21_r0 = 1#1), ∀ a, (k4_off19 arg14_r0) a + S1x1x1024.size a ≤ S2x1x1024.size a) ∧
  (∀ (k4_h1 : k4_cond1 i = 1#1), ∀ (k4_h8 : k4_cond8 i k4_t1 arg21_r0 = 1#1), ∀ a, (k4_off20 i arg21_r0) a + S1x1024.size a ≤ S1x640000.size a) ∧
  (∀ (k4_h1 : k4_cond1 i = 1#1), ∀ (k4_h8 : k4_cond8 i k4_t1 arg21_r0 = 1#1), ∀ a, (k4_off21 arg14_r0) a + S1.size a ≤ S2.size a) ∧
  (∀ (k4_h1 : k4_cond1 i = 1#1), ∀ (k4_h9 : k4_cond9 i k4_t1 arg21_r0 = 1#1), ∀ a, (k4_off22 arg16_r0) a + S1x1x1024.size a ≤ S2x1x1024.size a) ∧
  (∀ (k4_h1 : k4_cond1 i = 1#1), ∀ (k4_h9 : k4_cond9 i k4_t1 arg21_r0 = 1#1), ∀ a, (k4_off23 i arg21_r0) a + S1x1024.size a ≤ S1x640000.size a) ∧
  (∀ (k4_h1 : k4_cond1 i = 1#1), ∀ (k4_h9 : k4_cond9 i k4_t1 arg21_r0 = 1#1), ∀ a, (k4_off24 arg16_r0) a + S1.size a ≤ S2.size a) ∧
  (∀ (k4_h1 : k4_cond1 i = 1#1), ∀ (k4_h10 : k4_cond10 i k4_t1 arg21_r0 = 1#1), ∀ a, (k4_off25 arg18_r0) a + S1x1x1024.size a ≤ S2x1x1024.size a) ∧
  (∀ (k4_h1 : k4_cond1 i = 1#1), ∀ (k4_h10 : k4_cond10 i k4_t1 arg21_r0 = 1#1), ∀ a, (k4_off26 i arg21_r0) a + S1x1024.size a ≤ S1x640000.size a) ∧
  (∀ (k4_h1 : k4_cond1 i = 1#1), ∀ (k4_h10 : k4_cond10 i k4_t1 arg21_r0 = 1#1), ∀ a, (k4_off27 arg18_r0) a + S1.size a ≤ S2.size a) ∧
  (∀ (k4_h1 : k4_cond1 i = 1#1), ∀ (k4_h15 : k4_cond15 i k4_t1 arg21_r0 = 1#1), ∀ a, (k4_off37 arg19_r0) a + S1x1024x27.size a ≤ S2x1024x27.size a) ∧
  (∀ (k4_h1 : k4_cond1 i = 1#1), ∀ (k4_h15 : k4_cond15 i k4_t1 arg21_r0 = 1#1), ∀ a, (k4_off38 i arg21_r0) a + S1024x27.size a ≤ S640000x27.size a) ∧
  (∀ (k4_h1 : k4_cond1 i = 1#1), ∀ (k4_h15 : k4_cond15 i k4_t1 arg21_r0 = 1#1), ∀ a, (k4_off39 arg19_r0) a + S1.size a ≤ S2.size a) ∧
  (∀ (k4_h1 : k4_cond1 i = 1#1), ∀ (k4_h19 : k4_cond19 i k4_t1 arg21_r0 = 1#1), ∀ a, (k4_off40 arg20_r0) a + S1x1024x27.size a ≤ S2x1024x27.size a) ∧
  (∀ (k4_h1 : k4_cond1 i = 1#1), ∀ (k4_h19 : k4_cond19 i k4_t1 arg21_r0 = 1#1), ∀ a, (k4_off41 i arg21_r0) a + S1024x27.size a ≤ S640000x27.size a) ∧
  (∀ (k4_h1 : k4_cond1 i = 1#1), ∀ (k4_h19 : k4_cond19 i k4_t1 arg21_r0 = 1#1), ∀ a, (k4_off42 arg20_r0) a + S1.size a ≤ S2.size a)
theorem k4_off10_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h5 : k4_cond5 i k4_t1 arg21_r0 = 1#1), ∀ a, (k4_off10 arg13_r0) a + S1x1x1024.size a ≤ S2x1x1024.size a := fun i k4_t1 arg13_r0 arg14_r0 arg15_r0 arg16_r0 arg17_r0 arg18_r0 arg19_r0 arg20_r0 arg21_r0 k4_hw1 k4_h1 k4_h5 => k4_hw1.1 k4_h1 k4_h5
theorem k4_off11_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h5 : k4_cond5 i k4_t1 arg21_r0 = 1#1), ∀ a, (k4_off11 i arg21_r0) a + S1x1024.size a ≤ S1x640000.size a := fun i k4_t1 arg13_r0 arg14_r0 arg15_r0 arg16_r0 arg17_r0 arg18_r0 arg19_r0 arg20_r0 arg21_r0 k4_hw1 k4_h1 k4_h5 => k4_hw1.2.1 k4_h1 k4_h5
theorem k4_off12_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h5 : k4_cond5 i k4_t1 arg21_r0 = 1#1), ∀ a, (k4_off12 arg13_r0) a + S1.size a ≤ S2.size a := fun i k4_t1 arg13_r0 arg14_r0 arg15_r0 arg16_r0 arg17_r0 arg18_r0 arg19_r0 arg20_r0 arg21_r0 k4_hw1 k4_h1 k4_h5 => k4_hw1.2.2.1 k4_h1 k4_h5
theorem k4_off13_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h6 : k4_cond6 i k4_t1 arg21_r0 = 1#1), ∀ a, (k4_off13 arg15_r0) a + S1x1x1024.size a ≤ S2x1x1024.size a := fun i k4_t1 arg13_r0 arg14_r0 arg15_r0 arg16_r0 arg17_r0 arg18_r0 arg19_r0 arg20_r0 arg21_r0 k4_hw1 k4_h1 k4_h6 => k4_hw1.2.2.2.1 k4_h1 k4_h6
theorem k4_off14_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h6 : k4_cond6 i k4_t1 arg21_r0 = 1#1), ∀ a, (k4_off14 i arg21_r0) a + S1x1024.size a ≤ S1x640000.size a := fun i k4_t1 arg13_r0 arg14_r0 arg15_r0 arg16_r0 arg17_r0 arg18_r0 arg19_r0 arg20_r0 arg21_r0 k4_hw1 k4_h1 k4_h6 => k4_hw1.2.2.2.2.1 k4_h1 k4_h6
theorem k4_off15_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h6 : k4_cond6 i k4_t1 arg21_r0 = 1#1), ∀ a, (k4_off15 arg15_r0) a + S1.size a ≤ S2.size a := fun i k4_t1 arg13_r0 arg14_r0 arg15_r0 arg16_r0 arg17_r0 arg18_r0 arg19_r0 arg20_r0 arg21_r0 k4_hw1 k4_h1 k4_h6 => k4_hw1.2.2.2.2.2.1 k4_h1 k4_h6
theorem k4_off16_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h7 : k4_cond7 i k4_t1 arg21_r0 = 1#1), ∀ a, (k4_off16 arg17_r0) a + S1x1x1024.size a ≤ S2x1x1024.size a := fun i k4_t1 arg13_r0 arg14_r0 arg15_r0 arg16_r0 arg17_r0 arg18_r0 arg19_r0 arg20_r0 arg21_r0 k4_hw1 k4_h1 k4_h7 => k4_hw1.2.2.2.2.2.2.1 k4_h1 k4_h7
theorem k4_off17_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h7 : k4_cond7 i k4_t1 arg21_r0 = 1#1), ∀ a, (k4_off17 i arg21_r0) a + S1x1024.size a ≤ S1x640000.size a := fun i k4_t1 arg13_r0 arg14_r0 arg15_r0 arg16_r0 arg17_r0 arg18_r0 arg19_r0 arg20_r0 arg21_r0 k4_hw1 k4_h1 k4_h7 => k4_hw1.2.2.2.2.2.2.2.1 k4_h1 k4_h7
theorem k4_off18_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h7 : k4_cond7 i k4_t1 arg21_r0 = 1#1), ∀ a, (k4_off18 arg17_r0) a + S1.size a ≤ S2.size a := fun i k4_t1 arg13_r0 arg14_r0 arg15_r0 arg16_r0 arg17_r0 arg18_r0 arg19_r0 arg20_r0 arg21_r0 k4_hw1 k4_h1 k4_h7 => k4_hw1.2.2.2.2.2.2.2.2.1 k4_h1 k4_h7
theorem k4_off19_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h8 : k4_cond8 i k4_t1 arg21_r0 = 1#1), ∀ a, (k4_off19 arg14_r0) a + S1x1x1024.size a ≤ S2x1x1024.size a := fun i k4_t1 arg13_r0 arg14_r0 arg15_r0 arg16_r0 arg17_r0 arg18_r0 arg19_r0 arg20_r0 arg21_r0 k4_hw1 k4_h1 k4_h8 => k4_hw1.2.2.2.2.2.2.2.2.2.1 k4_h1 k4_h8
theorem k4_off20_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h8 : k4_cond8 i k4_t1 arg21_r0 = 1#1), ∀ a, (k4_off20 i arg21_r0) a + S1x1024.size a ≤ S1x640000.size a := fun i k4_t1 arg13_r0 arg14_r0 arg15_r0 arg16_r0 arg17_r0 arg18_r0 arg19_r0 arg20_r0 arg21_r0 k4_hw1 k4_h1 k4_h8 => k4_hw1.2.2.2.2.2.2.2.2.2.2.1 k4_h1 k4_h8
theorem k4_off21_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h8 : k4_cond8 i k4_t1 arg21_r0 = 1#1), ∀ a, (k4_off21 arg14_r0) a + S1.size a ≤ S2.size a := fun i k4_t1 arg13_r0 arg14_r0 arg15_r0 arg16_r0 arg17_r0 arg18_r0 arg19_r0 arg20_r0 arg21_r0 k4_hw1 k4_h1 k4_h8 => k4_hw1.2.2.2.2.2.2.2.2.2.2.2.1 k4_h1 k4_h8
theorem k4_off22_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h9 : k4_cond9 i k4_t1 arg21_r0 = 1#1), ∀ a, (k4_off22 arg16_r0) a + S1x1x1024.size a ≤ S2x1x1024.size a := fun i k4_t1 arg13_r0 arg14_r0 arg15_r0 arg16_r0 arg17_r0 arg18_r0 arg19_r0 arg20_r0 arg21_r0 k4_hw1 k4_h1 k4_h9 => k4_hw1.2.2.2.2.2.2.2.2.2.2.2.2.1 k4_h1 k4_h9
theorem k4_off23_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h9 : k4_cond9 i k4_t1 arg21_r0 = 1#1), ∀ a, (k4_off23 i arg21_r0) a + S1x1024.size a ≤ S1x640000.size a := fun i k4_t1 arg13_r0 arg14_r0 arg15_r0 arg16_r0 arg17_r0 arg18_r0 arg19_r0 arg20_r0 arg21_r0 k4_hw1 k4_h1 k4_h9 => k4_hw1.2.2.2.2.2.2.2.2.2.2.2.2.2.1 k4_h1 k4_h9
theorem k4_off24_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h9 : k4_cond9 i k4_t1 arg21_r0 = 1#1), ∀ a, (k4_off24 arg16_r0) a + S1.size a ≤ S2.size a := fun i k4_t1 arg13_r0 arg14_r0 arg15_r0 arg16_r0 arg17_r0 arg18_r0 arg19_r0 arg20_r0 arg21_r0 k4_hw1 k4_h1 k4_h9 => k4_hw1.2.2.2.2.2.2.2.2.2.2.2.2.2.2.1 k4_h1 k4_h9
theorem k4_off25_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h10 : k4_cond10 i k4_t1 arg21_r0 = 1#1), ∀ a, (k4_off25 arg18_r0) a + S1x1x1024.size a ≤ S2x1x1024.size a := fun i k4_t1 arg13_r0 arg14_r0 arg15_r0 arg16_r0 arg17_r0 arg18_r0 arg19_r0 arg20_r0 arg21_r0 k4_hw1 k4_h1 k4_h10 => k4_hw1.2.2.2.2.2.2.2.2.2.2.2.2.2.2.2.1 k4_h1 k4_h10
theorem k4_off26_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h10 : k4_cond10 i k4_t1 arg21_r0 = 1#1), ∀ a, (k4_off26 i arg21_r0) a + S1x1024.size a ≤ S1x640000.size a := fun i k4_t1 arg13_r0 arg14_r0 arg15_r0 arg16_r0 arg17_r0 arg18_r0 arg19_r0 arg20_r0 arg21_r0 k4_hw1 k4_h1 k4_h10 => k4_hw1.2.2.2.2.2.2.2.2.2.2.2.2.2.2.2.2.1 k4_h1 k4_h10
theorem k4_off27_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h10 : k4_cond10 i k4_t1 arg21_r0 = 1#1), ∀ a, (k4_off27 arg18_r0) a + S1.size a ≤ S2.size a := fun i k4_t1 arg13_r0 arg14_r0 arg15_r0 arg16_r0 arg17_r0 arg18_r0 arg19_r0 arg20_r0 arg21_r0 k4_hw1 k4_h1 k4_h10 => k4_hw1.2.2.2.2.2.2.2.2.2.2.2.2.2.2.2.2.2.1 k4_h1 k4_h10
theorem k4_off37_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h15 : k4_cond15 i k4_t1 arg21_r0 = 1#1), ∀ a, (k4_off37 arg19_r0) a + S1x1024x27.size a ≤ S2x1024x27.size a := fun i k4_t1 arg13_r0 arg14_r0 arg15_r0 arg16_r0 arg17_r0 arg18_r0 arg19_r0 arg20_r0 arg21_r0 k4_hw1 k4_h1 k4_h15 => k4_hw1.2.2.2.2.2.2.2.2.2.2.2.2.2.2.2.2.2.2.1 k4_h1 k4_h15
theorem k4_off38_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h15 : k4_cond15 i k4_t1 arg21_r0 = 1#1), ∀ a, (k4_off38 i arg21_r0) a + S1024x27.size a ≤ S640000x27.size a := fun i k4_t1 arg13_r0 arg14_r0 arg15_r0 arg16_r0 arg17_r0 arg18_r0 arg19_r0 arg20_r0 arg21_r0 k4_hw1 k4_h1 k4_h15 => k4_hw1.2.2.2.2.2.2.2.2.2.2.2.2.2.2.2.2.2.2.2.1 k4_h1 k4_h15
theorem k4_off39_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h15 : k4_cond15 i k4_t1 arg21_r0 = 1#1), ∀ a, (k4_off39 arg19_r0) a + S1.size a ≤ S2.size a := fun i k4_t1 arg13_r0 arg14_r0 arg15_r0 arg16_r0 arg17_r0 arg18_r0 arg19_r0 arg20_r0 arg21_r0 k4_hw1 k4_h1 k4_h15 => k4_hw1.2.2.2.2.2.2.2.2.2.2.2.2.2.2.2.2.2.2.2.2.1 k4_h1 k4_h15
theorem k4_off40_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h19 : k4_cond19 i k4_t1 arg21_r0 = 1#1), ∀ a, (k4_off40 arg20_r0) a + S1x1024x27.size a ≤ S2x1024x27.size a := fun i k4_t1 arg13_r0 arg14_r0 arg15_r0 arg16_r0 arg17_r0 arg18_r0 arg19_r0 arg20_r0 arg21_r0 k4_hw1 k4_h1 k4_h19 => k4_hw1.2.2.2.2.2.2.2.2.2.2.2.2.2.2.2.2.2.2.2.2.2.1 k4_h1 k4_h19
theorem k4_off41_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h19 : k4_cond19 i k4_t1 arg21_r0 = 1#1), ∀ a, (k4_off41 i arg21_r0) a + S1024x27.size a ≤ S640000x27.size a := fun i k4_t1 arg13_r0 arg14_r0 arg15_r0 arg16_r0 arg17_r0 arg18_r0 arg19_r0 arg20_r0 arg21_r0 k4_hw1 k4_h1 k4_h19 => k4_hw1.2.2.2.2.2.2.2.2.2.2.2.2.2.2.2.2.2.2.2.2.2.2.1 k4_h1 k4_h19
theorem k4_off42_inb : ∀ (i : grid4.Coords) (k4_t1 : Fin (k4_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw1 : k4_chk1 i k4_t1 arg13_r0 arg14_r0 arg15_r0 arg16_r0 arg17_r0 arg18_r0 arg19_r0 arg20_r0 arg21_r0), ∀ (k4_h1 : k4_cond1 i = 1#1), ∀ (k4_h19 : k4_cond19 i k4_t1 arg21_r0 = 1#1), ∀ a, (k4_off42 arg20_r0) a + S1.size a ≤ S2.size a := fun i k4_t1 arg13_r0 arg14_r0 arg15_r0 arg16_r0 arg17_r0 arg18_r0 arg19_r0 arg20_r0 arg21_r0 k4_hw1 k4_h1 k4_h19 => k4_hw1.2.2.2.2.2.2.2.2.2.2.2.2.2.2.2.2.2.2.2.2.2.2.2 k4_h1 k4_h19

@[reducible] def k4_t4_loop (i : grid4.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let v62_r0 : BitVec 32 := Scalar.addi c0_i32_47_r0 v61_r0
  let c1_i32_56_r0 : BitVec 32 := 1#32
  ⟨v65_r0, v62_r0, c1_i32_56_r0⟩
def k4_off43 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k4_cond20 (i : grid4.Coords) (k4_t4 : Fin (k4_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k4_t4
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k4_off44 (i : grid4.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k4_off45 (arg13_r0 : BitVec 32) : Fin 1 → Nat :=
  let c2_i32_184_r0 : BitVec 32 := 2#32
  let v280_r0 : BitVec 32 := Scalar.remui arg13_r0 c2_i32_184_r0
  ![v280_r0.toNat]
def k4_off46 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k4_cond21 (i : grid4.Coords) (k4_t4 : Fin (k4_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k4_t4
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k4_off47 (i : grid4.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k4_off48 (arg15_r0 : BitVec 32) : Fin 1 → Nat :=
  let c2_i32_184_r0 : BitVec 32 := 2#32
  let v280_r0 : BitVec 32 := Scalar.remui arg15_r0 c2_i32_184_r0
  ![v280_r0.toNat]
def k4_off49 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k4_cond22 (i : grid4.Coords) (k4_t4 : Fin (k4_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k4_t4
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k4_off50 (i : grid4.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k4_off51 (arg17_r0 : BitVec 32) : Fin 1 → Nat :=
  let c2_i32_184_r0 : BitVec 32 := 2#32
  let v280_r0 : BitVec 32 := Scalar.remui arg17_r0 c2_i32_184_r0
  ![v280_r0.toNat]
def k4_off52 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k4_cond23 (i : grid4.Coords) (k4_t4 : Fin (k4_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k4_t4
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k4_off53 (i : grid4.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k4_off54 (arg14_r0 : BitVec 32) : Fin 1 → Nat :=
  let c2_i32_185_r0 : BitVec 32 := 2#32
  let v281_r0 : BitVec 32 := Scalar.remui arg14_r0 c2_i32_185_r0
  ![v281_r0.toNat]
def k4_off55 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k4_cond24 (i : grid4.Coords) (k4_t4 : Fin (k4_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k4_t4
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k4_off56 (i : grid4.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k4_off57 (arg16_r0 : BitVec 32) : Fin 1 → Nat :=
  let c2_i32_185_r0 : BitVec 32 := 2#32
  let v281_r0 : BitVec 32 := Scalar.remui arg16_r0 c2_i32_185_r0
  ![v281_r0.toNat]
def k4_off58 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k4_cond25 (i : grid4.Coords) (k4_t4 : Fin (k4_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k4_t4
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k4_off59 (i : grid4.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k4_off60 (arg18_r0 : BitVec 32) : Fin 1 → Nat :=
  let c2_i32_185_r0 : BitVec 32 := 2#32
  let v281_r0 : BitVec 32 := Scalar.remui arg18_r0 c2_i32_185_r0
  ![v281_r0.toNat]
def k4_off61 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k4_chk13 (i : grid4.Coords) (k4_t4 : Fin (k4_t4_loop i).trips) (arg14_r0 : BitVec 32) : Prop :=
  (∀ (k4_h1 : k4_cond1 i = 1#1), ∀ a, (k4_off61 arg14_r0) a + S1x1x1024.size a ≤ S2x1x1024.size a)
theorem k4_off61_inb : ∀ (i : grid4.Coords) (k4_t4 : Fin (k4_t4_loop i).trips) (arg14_r0 : BitVec 32) (k4_hw13 : k4_chk13 i k4_t4 arg14_r0), ∀ (k4_h1 : k4_cond1 i = 1#1), ∀ a, (k4_off61 arg14_r0) a + S1x1x1024.size a ≤ S2x1x1024.size a := fun i k4_t4 arg14_r0 k4_hw13 k4_h1 => k4_hw13 k4_h1

def k4_off62 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k4_chk14 (i : grid4.Coords) (k4_t4 : Fin (k4_t4_loop i).trips) (arg16_r0 : BitVec 32) : Prop :=
  (∀ (k4_h1 : k4_cond1 i = 1#1), ∀ a, (k4_off62 arg16_r0) a + S1x1x1024.size a ≤ S2x1x1024.size a)
theorem k4_off62_inb : ∀ (i : grid4.Coords) (k4_t4 : Fin (k4_t4_loop i).trips) (arg16_r0 : BitVec 32) (k4_hw14 : k4_chk14 i k4_t4 arg16_r0), ∀ (k4_h1 : k4_cond1 i = 1#1), ∀ a, (k4_off62 arg16_r0) a + S1x1x1024.size a ≤ S2x1x1024.size a := fun i k4_t4 arg16_r0 k4_hw14 k4_h1 => k4_hw14 k4_h1

@[reducible] def k4_t5_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k4_off63 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k4_chk15 (i : grid4.Coords) (k4_t4 : Fin (k4_t4_loop i).trips) (arg18_r0 : BitVec 32) : Prop :=
  (∀ (k4_h1 : k4_cond1 i = 1#1), ∀ a, (k4_off63 arg18_r0) a + S1x1x1024.size a ≤ S2x1x1024.size a)
theorem k4_off63_inb : ∀ (i : grid4.Coords) (k4_t4 : Fin (k4_t4_loop i).trips) (arg18_r0 : BitVec 32) (k4_hw15 : k4_chk15 i k4_t4 arg18_r0), ∀ (k4_h1 : k4_cond1 i = 1#1), ∀ a, (k4_off63 arg18_r0) a + S1x1x1024.size a ≤ S2x1x1024.size a := fun i k4_t4 arg18_r0 k4_hw15 k4_h1 => k4_hw15 k4_h1

def k4_off64 (k4_t5 : Fin k4_t5_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k4_t5
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k4_off65 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k4_chk17 (i : grid4.Coords) (k4_t4 : Fin (k4_t4_loop i).trips) (v293_r0 : IVec S16 32) (v295_r0 : IVec S16 32) : Prop :=
  (∀ (k4_h1 : k4_cond1 i = 1#1), ∀ a x, ((![v293_r0, v295_r0] : Fin 2 → IVec S16 32) a x).toNat < S1024x27.size a)
theorem k4_idx9_inb : ∀ (i : grid4.Coords) (k4_t4 : Fin (k4_t4_loop i).trips) (v293_r0 : IVec S16 32) (v295_r0 : IVec S16 32) (k4_hw17 : k4_chk17 i k4_t4 v293_r0 v295_r0), ∀ (k4_h1 : k4_cond1 i = 1#1), ∀ a x, ((![v293_r0, v295_r0] : Fin 2 → IVec S16 32) a x).toNat < S1024x27.size a := fun i k4_t4 v293_r0 v295_r0 k4_hw17 k4_h1 => k4_hw17 k4_h1
def k4_off66 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k4_chk18 (i : grid4.Coords) (k4_t4 : Fin (k4_t4_loop i).trips) (v293_r0 : IVec S16 32) (v299_r0 : IVec S16 32) : Prop :=
  (∀ (k4_h1 : k4_cond1 i = 1#1), ∀ a x, ((![v293_r0, v299_r0] : Fin 2 → IVec S16 32) a x).toNat < S1024x27.size a)
theorem k4_idx10_inb : ∀ (i : grid4.Coords) (k4_t4 : Fin (k4_t4_loop i).trips) (v293_r0 : IVec S16 32) (v299_r0 : IVec S16 32) (k4_hw18 : k4_chk18 i k4_t4 v293_r0 v299_r0), ∀ (k4_h1 : k4_cond1 i = 1#1), ∀ a x, ((![v293_r0, v299_r0] : Fin 2 → IVec S16 32) a x).toNat < S1024x27.size a := fun i k4_t4 v293_r0 v299_r0 k4_hw18 k4_h1 => k4_hw18 k4_h1
def k4_off67 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k4_chk19 (i : grid4.Coords) (k4_t4 : Fin (k4_t4_loop i).trips) (v293_r0 : IVec S16 32) (v306_r0 : IVec S16 32) : Prop :=
  (∀ (k4_h1 : k4_cond1 i = 1#1), ∀ a x, ((![v293_r0, v306_r0] : Fin 2 → IVec S16 32) a x).toNat < S1024x27.size a)
theorem k4_idx11_inb : ∀ (i : grid4.Coords) (k4_t4 : Fin (k4_t4_loop i).trips) (v293_r0 : IVec S16 32) (v306_r0 : IVec S16 32) (k4_hw19 : k4_chk19 i k4_t4 v293_r0 v306_r0), ∀ (k4_h1 : k4_cond1 i = 1#1), ∀ a x, ((![v293_r0, v306_r0] : Fin 2 → IVec S16 32) a x).toNat < S1024x27.size a := fun i k4_t4 v293_r0 v306_r0 k4_hw19 k4_h1 => k4_hw19 k4_h1
@[reducible] def k4_t6_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k4_chk20 (i : grid4.Coords) (v0 : IVec S16 32) (k4_t4 : Fin (k4_t4_loop i).trips) (v282_r0 : IVec S16 32) : Prop :=
  (∀ (k4_h1 : k4_cond1 i = 1#1), ∀ a x, ((![v282_r0, v0] : Fin 2 → IVec S16 32) a x).toNat < S1024x16.size a) ∧
  (∀ (k4_h1 : k4_cond1 i = 1#1), ∀ a x, ((![v282_r0, v0] : Fin 2 → IVec S16 32) a x).toNat < S1024x16.size a) ∧
  (∀ (k4_h1 : k4_cond1 i = 1#1), ∀ a x, ((![v282_r0] : Fin 1 → IVec S16 32) a x).toNat < S1024.size a)
theorem k4_idx12_inb : ∀ (i : grid4.Coords) (v0 : IVec S16 32) (k4_t4 : Fin (k4_t4_loop i).trips) (v282_r0 : IVec S16 32) (k4_hw20 : k4_chk20 i v0 k4_t4 v282_r0), ∀ (k4_h1 : k4_cond1 i = 1#1), ∀ a x, ((![v282_r0, v0] : Fin 2 → IVec S16 32) a x).toNat < S1024x16.size a := fun i v0 k4_t4 v282_r0 k4_hw20 k4_h1 => k4_hw20.1 k4_h1
theorem k4_idx13_inb : ∀ (i : grid4.Coords) (v0 : IVec S16 32) (k4_t4 : Fin (k4_t4_loop i).trips) (v282_r0 : IVec S16 32) (k4_hw20 : k4_chk20 i v0 k4_t4 v282_r0), ∀ (k4_h1 : k4_cond1 i = 1#1), ∀ a x, ((![v282_r0, v0] : Fin 2 → IVec S16 32) a x).toNat < S1024x16.size a := fun i v0 k4_t4 v282_r0 k4_hw20 k4_h1 => k4_hw20.2.1 k4_h1
theorem k4_idx14_inb : ∀ (i : grid4.Coords) (v0 : IVec S16 32) (k4_t4 : Fin (k4_t4_loop i).trips) (v282_r0 : IVec S16 32) (k4_hw20 : k4_chk20 i v0 k4_t4 v282_r0), ∀ (k4_h1 : k4_cond1 i = 1#1), ∀ a x, ((![v282_r0] : Fin 1 → IVec S16 32) a x).toNat < S1024.size a := fun i v0 k4_t4 v282_r0 k4_hw20 k4_h1 => k4_hw20.2.2 k4_h1
def k4_off68 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k4_chk21 (i : grid4.Coords) (k4_t4 : Fin (k4_t4_loop i).trips) (v282_r0 : IVec S16 32) (v287_r0 : IVec S16 32) : Prop :=
  (∀ (k4_h1 : k4_cond1 i = 1#1), ∀ a x, ((![v282_r0, v287_r0] : Fin 2 → IVec S16 32) a x).toNat < S1024x27.size a)
theorem k4_idx15_inb : ∀ (i : grid4.Coords) (k4_t4 : Fin (k4_t4_loop i).trips) (v282_r0 : IVec S16 32) (v287_r0 : IVec S16 32) (k4_hw21 : k4_chk21 i k4_t4 v282_r0 v287_r0), ∀ (k4_h1 : k4_cond1 i = 1#1), ∀ a x, ((![v282_r0, v287_r0] : Fin 2 → IVec S16 32) a x).toNat < S1024x27.size a := fun i k4_t4 v282_r0 v287_r0 k4_hw21 k4_h1 => k4_hw21 k4_h1
def k4_off69 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k4_chk16 (i : grid4.Coords) (k4_t4 : Fin (k4_t4_loop i).trips) (arg19_r0 : BitVec 32) : Prop :=
  (∀ (k4_h1 : k4_cond1 i = 1#1), ∀ a, (k4_off65 arg19_r0) a + S1x1024x27.size a ≤ S2x1024x27.size a) ∧
  (∀ (k4_h1 : k4_cond1 i = 1#1), ∀ a, (k4_off66 arg19_r0) a + S1x1024x27.size a ≤ S2x1024x27.size a) ∧
  (∀ (k4_h1 : k4_cond1 i = 1#1), ∀ a, (k4_off67 arg19_r0) a + S1x1024x27.size a ≤ S2x1024x27.size a) ∧
  (∀ (k4_h1 : k4_cond1 i = 1#1), ∀ a, (k4_off68 arg19_r0) a + S1x1024x27.size a ≤ S2x1024x27.size a) ∧
  (∀ (k4_h1 : k4_cond1 i = 1#1), ∀ a, (k4_off69 arg19_r0) a + S1x1024x27.size a ≤ S2x1024x27.size a)
theorem k4_off65_inb : ∀ (i : grid4.Coords) (k4_t4 : Fin (k4_t4_loop i).trips) (arg19_r0 : BitVec 32) (k4_hw16 : k4_chk16 i k4_t4 arg19_r0), ∀ (k4_h1 : k4_cond1 i = 1#1), ∀ a, (k4_off65 arg19_r0) a + S1x1024x27.size a ≤ S2x1024x27.size a := fun i k4_t4 arg19_r0 k4_hw16 k4_h1 => k4_hw16.1 k4_h1
theorem k4_off66_inb : ∀ (i : grid4.Coords) (k4_t4 : Fin (k4_t4_loop i).trips) (arg19_r0 : BitVec 32) (k4_hw16 : k4_chk16 i k4_t4 arg19_r0), ∀ (k4_h1 : k4_cond1 i = 1#1), ∀ a, (k4_off66 arg19_r0) a + S1x1024x27.size a ≤ S2x1024x27.size a := fun i k4_t4 arg19_r0 k4_hw16 k4_h1 => k4_hw16.2.1 k4_h1
theorem k4_off67_inb : ∀ (i : grid4.Coords) (k4_t4 : Fin (k4_t4_loop i).trips) (arg19_r0 : BitVec 32) (k4_hw16 : k4_chk16 i k4_t4 arg19_r0), ∀ (k4_h1 : k4_cond1 i = 1#1), ∀ a, (k4_off67 arg19_r0) a + S1x1024x27.size a ≤ S2x1024x27.size a := fun i k4_t4 arg19_r0 k4_hw16 k4_h1 => k4_hw16.2.2.1 k4_h1
theorem k4_off68_inb : ∀ (i : grid4.Coords) (k4_t4 : Fin (k4_t4_loop i).trips) (arg19_r0 : BitVec 32) (k4_hw16 : k4_chk16 i k4_t4 arg19_r0), ∀ (k4_h1 : k4_cond1 i = 1#1), ∀ a, (k4_off68 arg19_r0) a + S1x1024x27.size a ≤ S2x1024x27.size a := fun i k4_t4 arg19_r0 k4_hw16 k4_h1 => k4_hw16.2.2.2.1 k4_h1
theorem k4_off69_inb : ∀ (i : grid4.Coords) (k4_t4 : Fin (k4_t4_loop i).trips) (arg19_r0 : BitVec 32) (k4_hw16 : k4_chk16 i k4_t4 arg19_r0), ∀ (k4_h1 : k4_cond1 i = 1#1), ∀ a, (k4_off69 arg19_r0) a + S1x1024x27.size a ≤ S2x1024x27.size a := fun i k4_t4 arg19_r0 k4_hw16 k4_h1 => k4_hw16.2.2.2.2 k4_h1

def k4_chk22 (i : grid4.Coords) (k4_t4 : Fin (k4_t4_loop i).trips) (v282_r0 : IVec S16 32) (v293_r0 : IVec S16 32) : Prop :=
  (∀ (k4_h1 : k4_cond1 i = 1#1), ∀ a x, ((![v282_r0, v293_r0] : Fin 2 → IVec S16 32) a x).toNat < S1024x27.size a)
theorem k4_idx16_inb : ∀ (i : grid4.Coords) (k4_t4 : Fin (k4_t4_loop i).trips) (v282_r0 : IVec S16 32) (v293_r0 : IVec S16 32) (k4_hw22 : k4_chk22 i k4_t4 v282_r0 v293_r0), ∀ (k4_h1 : k4_cond1 i = 1#1), ∀ a x, ((![v282_r0, v293_r0] : Fin 2 → IVec S16 32) a x).toNat < S1024x27.size a := fun i k4_t4 v282_r0 v293_r0 k4_hw22 k4_h1 => k4_hw22 k4_h1
def k4_off70 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k4_cond30 (i : grid4.Coords) (k4_t4 : Fin (k4_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k4_t4
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k4_off71 (i : grid4.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k4_off72 (arg19_r0 : BitVec 32) : Fin 1 → Nat :=
  let c2_i32_184_r0 : BitVec 32 := 2#32
  let v280_r0 : BitVec 32 := Scalar.remui arg19_r0 c2_i32_184_r0
  ![v280_r0.toNat]
def k4_off73 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k4_cond34 (i : grid4.Coords) (k4_t4 : Fin (k4_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k4_t4
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k4_off74 (i : grid4.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k4_off75 (arg20_r0 : BitVec 32) : Fin 1 → Nat :=
  let c2_i32_184_r0 : BitVec 32 := 2#32
  let v280_r0 : BitVec 32 := Scalar.remui arg20_r0 c2_i32_184_r0
  ![v280_r0.toNat]

def k4_chk12 (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k4_h1 : k4_cond1 i = 1#1), ∀ (k4_h20 : k4_cond20 i k4_t4 arg21_r0 = 1#1), ∀ a, (k4_off43 arg13_r0) a + S1x1x1024.size a ≤ S2x1x1024.size a) ∧
  (∀ (k4_h1 : k4_cond1 i = 1#1), ∀ (k4_h20 : k4_cond20 i k4_t4 arg21_r0 = 1#1), ∀ a, (k4_off44 i arg21_r0) a + S1x1024.size a ≤ S1x640000.size a) ∧
  (∀ (k4_h1 : k4_cond1 i = 1#1), ∀ (k4_h20 : k4_cond20 i k4_t4 arg21_r0 = 1#1), ∀ a, (k4_off45 arg13_r0) a + S1.size a ≤ S2.size a) ∧
  (∀ (k4_h1 : k4_cond1 i = 1#1), ∀ (k4_h21 : k4_cond21 i k4_t4 arg21_r0 = 1#1), ∀ a, (k4_off46 arg15_r0) a + S1x1x1024.size a ≤ S2x1x1024.size a) ∧
  (∀ (k4_h1 : k4_cond1 i = 1#1), ∀ (k4_h21 : k4_cond21 i k4_t4 arg21_r0 = 1#1), ∀ a, (k4_off47 i arg21_r0) a + S1x1024.size a ≤ S1x640000.size a) ∧
  (∀ (k4_h1 : k4_cond1 i = 1#1), ∀ (k4_h21 : k4_cond21 i k4_t4 arg21_r0 = 1#1), ∀ a, (k4_off48 arg15_r0) a + S1.size a ≤ S2.size a) ∧
  (∀ (k4_h1 : k4_cond1 i = 1#1), ∀ (k4_h22 : k4_cond22 i k4_t4 arg21_r0 = 1#1), ∀ a, (k4_off49 arg17_r0) a + S1x1x1024.size a ≤ S2x1x1024.size a) ∧
  (∀ (k4_h1 : k4_cond1 i = 1#1), ∀ (k4_h22 : k4_cond22 i k4_t4 arg21_r0 = 1#1), ∀ a, (k4_off50 i arg21_r0) a + S1x1024.size a ≤ S1x640000.size a) ∧
  (∀ (k4_h1 : k4_cond1 i = 1#1), ∀ (k4_h22 : k4_cond22 i k4_t4 arg21_r0 = 1#1), ∀ a, (k4_off51 arg17_r0) a + S1.size a ≤ S2.size a) ∧
  (∀ (k4_h1 : k4_cond1 i = 1#1), ∀ (k4_h23 : k4_cond23 i k4_t4 arg21_r0 = 1#1), ∀ a, (k4_off52 arg14_r0) a + S1x1x1024.size a ≤ S2x1x1024.size a) ∧
  (∀ (k4_h1 : k4_cond1 i = 1#1), ∀ (k4_h23 : k4_cond23 i k4_t4 arg21_r0 = 1#1), ∀ a, (k4_off53 i arg21_r0) a + S1x1024.size a ≤ S1x640000.size a) ∧
  (∀ (k4_h1 : k4_cond1 i = 1#1), ∀ (k4_h23 : k4_cond23 i k4_t4 arg21_r0 = 1#1), ∀ a, (k4_off54 arg14_r0) a + S1.size a ≤ S2.size a) ∧
  (∀ (k4_h1 : k4_cond1 i = 1#1), ∀ (k4_h24 : k4_cond24 i k4_t4 arg21_r0 = 1#1), ∀ a, (k4_off55 arg16_r0) a + S1x1x1024.size a ≤ S2x1x1024.size a) ∧
  (∀ (k4_h1 : k4_cond1 i = 1#1), ∀ (k4_h24 : k4_cond24 i k4_t4 arg21_r0 = 1#1), ∀ a, (k4_off56 i arg21_r0) a + S1x1024.size a ≤ S1x640000.size a) ∧
  (∀ (k4_h1 : k4_cond1 i = 1#1), ∀ (k4_h24 : k4_cond24 i k4_t4 arg21_r0 = 1#1), ∀ a, (k4_off57 arg16_r0) a + S1.size a ≤ S2.size a) ∧
  (∀ (k4_h1 : k4_cond1 i = 1#1), ∀ (k4_h25 : k4_cond25 i k4_t4 arg21_r0 = 1#1), ∀ a, (k4_off58 arg18_r0) a + S1x1x1024.size a ≤ S2x1x1024.size a) ∧
  (∀ (k4_h1 : k4_cond1 i = 1#1), ∀ (k4_h25 : k4_cond25 i k4_t4 arg21_r0 = 1#1), ∀ a, (k4_off59 i arg21_r0) a + S1x1024.size a ≤ S1x640000.size a) ∧
  (∀ (k4_h1 : k4_cond1 i = 1#1), ∀ (k4_h25 : k4_cond25 i k4_t4 arg21_r0 = 1#1), ∀ a, (k4_off60 arg18_r0) a + S1.size a ≤ S2.size a) ∧
  (∀ (k4_h1 : k4_cond1 i = 1#1), ∀ (k4_h30 : k4_cond30 i k4_t4 arg21_r0 = 1#1), ∀ a, (k4_off70 arg19_r0) a + S1x1024x27.size a ≤ S2x1024x27.size a) ∧
  (∀ (k4_h1 : k4_cond1 i = 1#1), ∀ (k4_h30 : k4_cond30 i k4_t4 arg21_r0 = 1#1), ∀ a, (k4_off71 i arg21_r0) a + S1024x27.size a ≤ S640000x27.size a) ∧
  (∀ (k4_h1 : k4_cond1 i = 1#1), ∀ (k4_h30 : k4_cond30 i k4_t4 arg21_r0 = 1#1), ∀ a, (k4_off72 arg19_r0) a + S1.size a ≤ S2.size a) ∧
  (∀ (k4_h1 : k4_cond1 i = 1#1), ∀ (k4_h34 : k4_cond34 i k4_t4 arg21_r0 = 1#1), ∀ a, (k4_off73 arg20_r0) a + S1x1024x27.size a ≤ S2x1024x27.size a) ∧
  (∀ (k4_h1 : k4_cond1 i = 1#1), ∀ (k4_h34 : k4_cond34 i k4_t4 arg21_r0 = 1#1), ∀ a, (k4_off74 i arg21_r0) a + S1024x27.size a ≤ S640000x27.size a) ∧
  (∀ (k4_h1 : k4_cond1 i = 1#1), ∀ (k4_h34 : k4_cond34 i k4_t4 arg21_r0 = 1#1), ∀ a, (k4_off75 arg20_r0) a + S1.size a ≤ S2.size a)
theorem k4_off43_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h20 : k4_cond20 i k4_t4 arg21_r0 = 1#1), ∀ a, (k4_off43 arg13_r0) a + S1x1x1024.size a ≤ S2x1x1024.size a := fun i k4_t4 arg13_r0 arg14_r0 arg15_r0 arg16_r0 arg17_r0 arg18_r0 arg19_r0 arg20_r0 arg21_r0 k4_hw12 k4_h1 k4_h20 => k4_hw12.1 k4_h1 k4_h20
theorem k4_off44_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h20 : k4_cond20 i k4_t4 arg21_r0 = 1#1), ∀ a, (k4_off44 i arg21_r0) a + S1x1024.size a ≤ S1x640000.size a := fun i k4_t4 arg13_r0 arg14_r0 arg15_r0 arg16_r0 arg17_r0 arg18_r0 arg19_r0 arg20_r0 arg21_r0 k4_hw12 k4_h1 k4_h20 => k4_hw12.2.1 k4_h1 k4_h20
theorem k4_off45_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h20 : k4_cond20 i k4_t4 arg21_r0 = 1#1), ∀ a, (k4_off45 arg13_r0) a + S1.size a ≤ S2.size a := fun i k4_t4 arg13_r0 arg14_r0 arg15_r0 arg16_r0 arg17_r0 arg18_r0 arg19_r0 arg20_r0 arg21_r0 k4_hw12 k4_h1 k4_h20 => k4_hw12.2.2.1 k4_h1 k4_h20
theorem k4_off46_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h21 : k4_cond21 i k4_t4 arg21_r0 = 1#1), ∀ a, (k4_off46 arg15_r0) a + S1x1x1024.size a ≤ S2x1x1024.size a := fun i k4_t4 arg13_r0 arg14_r0 arg15_r0 arg16_r0 arg17_r0 arg18_r0 arg19_r0 arg20_r0 arg21_r0 k4_hw12 k4_h1 k4_h21 => k4_hw12.2.2.2.1 k4_h1 k4_h21
theorem k4_off47_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h21 : k4_cond21 i k4_t4 arg21_r0 = 1#1), ∀ a, (k4_off47 i arg21_r0) a + S1x1024.size a ≤ S1x640000.size a := fun i k4_t4 arg13_r0 arg14_r0 arg15_r0 arg16_r0 arg17_r0 arg18_r0 arg19_r0 arg20_r0 arg21_r0 k4_hw12 k4_h1 k4_h21 => k4_hw12.2.2.2.2.1 k4_h1 k4_h21
theorem k4_off48_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h21 : k4_cond21 i k4_t4 arg21_r0 = 1#1), ∀ a, (k4_off48 arg15_r0) a + S1.size a ≤ S2.size a := fun i k4_t4 arg13_r0 arg14_r0 arg15_r0 arg16_r0 arg17_r0 arg18_r0 arg19_r0 arg20_r0 arg21_r0 k4_hw12 k4_h1 k4_h21 => k4_hw12.2.2.2.2.2.1 k4_h1 k4_h21
theorem k4_off49_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h22 : k4_cond22 i k4_t4 arg21_r0 = 1#1), ∀ a, (k4_off49 arg17_r0) a + S1x1x1024.size a ≤ S2x1x1024.size a := fun i k4_t4 arg13_r0 arg14_r0 arg15_r0 arg16_r0 arg17_r0 arg18_r0 arg19_r0 arg20_r0 arg21_r0 k4_hw12 k4_h1 k4_h22 => k4_hw12.2.2.2.2.2.2.1 k4_h1 k4_h22
theorem k4_off50_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h22 : k4_cond22 i k4_t4 arg21_r0 = 1#1), ∀ a, (k4_off50 i arg21_r0) a + S1x1024.size a ≤ S1x640000.size a := fun i k4_t4 arg13_r0 arg14_r0 arg15_r0 arg16_r0 arg17_r0 arg18_r0 arg19_r0 arg20_r0 arg21_r0 k4_hw12 k4_h1 k4_h22 => k4_hw12.2.2.2.2.2.2.2.1 k4_h1 k4_h22
theorem k4_off51_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h22 : k4_cond22 i k4_t4 arg21_r0 = 1#1), ∀ a, (k4_off51 arg17_r0) a + S1.size a ≤ S2.size a := fun i k4_t4 arg13_r0 arg14_r0 arg15_r0 arg16_r0 arg17_r0 arg18_r0 arg19_r0 arg20_r0 arg21_r0 k4_hw12 k4_h1 k4_h22 => k4_hw12.2.2.2.2.2.2.2.2.1 k4_h1 k4_h22
theorem k4_off52_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h23 : k4_cond23 i k4_t4 arg21_r0 = 1#1), ∀ a, (k4_off52 arg14_r0) a + S1x1x1024.size a ≤ S2x1x1024.size a := fun i k4_t4 arg13_r0 arg14_r0 arg15_r0 arg16_r0 arg17_r0 arg18_r0 arg19_r0 arg20_r0 arg21_r0 k4_hw12 k4_h1 k4_h23 => k4_hw12.2.2.2.2.2.2.2.2.2.1 k4_h1 k4_h23
theorem k4_off53_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h23 : k4_cond23 i k4_t4 arg21_r0 = 1#1), ∀ a, (k4_off53 i arg21_r0) a + S1x1024.size a ≤ S1x640000.size a := fun i k4_t4 arg13_r0 arg14_r0 arg15_r0 arg16_r0 arg17_r0 arg18_r0 arg19_r0 arg20_r0 arg21_r0 k4_hw12 k4_h1 k4_h23 => k4_hw12.2.2.2.2.2.2.2.2.2.2.1 k4_h1 k4_h23
theorem k4_off54_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h23 : k4_cond23 i k4_t4 arg21_r0 = 1#1), ∀ a, (k4_off54 arg14_r0) a + S1.size a ≤ S2.size a := fun i k4_t4 arg13_r0 arg14_r0 arg15_r0 arg16_r0 arg17_r0 arg18_r0 arg19_r0 arg20_r0 arg21_r0 k4_hw12 k4_h1 k4_h23 => k4_hw12.2.2.2.2.2.2.2.2.2.2.2.1 k4_h1 k4_h23
theorem k4_off55_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h24 : k4_cond24 i k4_t4 arg21_r0 = 1#1), ∀ a, (k4_off55 arg16_r0) a + S1x1x1024.size a ≤ S2x1x1024.size a := fun i k4_t4 arg13_r0 arg14_r0 arg15_r0 arg16_r0 arg17_r0 arg18_r0 arg19_r0 arg20_r0 arg21_r0 k4_hw12 k4_h1 k4_h24 => k4_hw12.2.2.2.2.2.2.2.2.2.2.2.2.1 k4_h1 k4_h24
theorem k4_off56_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h24 : k4_cond24 i k4_t4 arg21_r0 = 1#1), ∀ a, (k4_off56 i arg21_r0) a + S1x1024.size a ≤ S1x640000.size a := fun i k4_t4 arg13_r0 arg14_r0 arg15_r0 arg16_r0 arg17_r0 arg18_r0 arg19_r0 arg20_r0 arg21_r0 k4_hw12 k4_h1 k4_h24 => k4_hw12.2.2.2.2.2.2.2.2.2.2.2.2.2.1 k4_h1 k4_h24
theorem k4_off57_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h24 : k4_cond24 i k4_t4 arg21_r0 = 1#1), ∀ a, (k4_off57 arg16_r0) a + S1.size a ≤ S2.size a := fun i k4_t4 arg13_r0 arg14_r0 arg15_r0 arg16_r0 arg17_r0 arg18_r0 arg19_r0 arg20_r0 arg21_r0 k4_hw12 k4_h1 k4_h24 => k4_hw12.2.2.2.2.2.2.2.2.2.2.2.2.2.2.1 k4_h1 k4_h24
theorem k4_off58_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h25 : k4_cond25 i k4_t4 arg21_r0 = 1#1), ∀ a, (k4_off58 arg18_r0) a + S1x1x1024.size a ≤ S2x1x1024.size a := fun i k4_t4 arg13_r0 arg14_r0 arg15_r0 arg16_r0 arg17_r0 arg18_r0 arg19_r0 arg20_r0 arg21_r0 k4_hw12 k4_h1 k4_h25 => k4_hw12.2.2.2.2.2.2.2.2.2.2.2.2.2.2.2.1 k4_h1 k4_h25
theorem k4_off59_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h25 : k4_cond25 i k4_t4 arg21_r0 = 1#1), ∀ a, (k4_off59 i arg21_r0) a + S1x1024.size a ≤ S1x640000.size a := fun i k4_t4 arg13_r0 arg14_r0 arg15_r0 arg16_r0 arg17_r0 arg18_r0 arg19_r0 arg20_r0 arg21_r0 k4_hw12 k4_h1 k4_h25 => k4_hw12.2.2.2.2.2.2.2.2.2.2.2.2.2.2.2.2.1 k4_h1 k4_h25
theorem k4_off60_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h25 : k4_cond25 i k4_t4 arg21_r0 = 1#1), ∀ a, (k4_off60 arg18_r0) a + S1.size a ≤ S2.size a := fun i k4_t4 arg13_r0 arg14_r0 arg15_r0 arg16_r0 arg17_r0 arg18_r0 arg19_r0 arg20_r0 arg21_r0 k4_hw12 k4_h1 k4_h25 => k4_hw12.2.2.2.2.2.2.2.2.2.2.2.2.2.2.2.2.2.1 k4_h1 k4_h25
theorem k4_off70_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h30 : k4_cond30 i k4_t4 arg21_r0 = 1#1), ∀ a, (k4_off70 arg19_r0) a + S1x1024x27.size a ≤ S2x1024x27.size a := fun i k4_t4 arg13_r0 arg14_r0 arg15_r0 arg16_r0 arg17_r0 arg18_r0 arg19_r0 arg20_r0 arg21_r0 k4_hw12 k4_h1 k4_h30 => k4_hw12.2.2.2.2.2.2.2.2.2.2.2.2.2.2.2.2.2.2.1 k4_h1 k4_h30
theorem k4_off71_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h30 : k4_cond30 i k4_t4 arg21_r0 = 1#1), ∀ a, (k4_off71 i arg21_r0) a + S1024x27.size a ≤ S640000x27.size a := fun i k4_t4 arg13_r0 arg14_r0 arg15_r0 arg16_r0 arg17_r0 arg18_r0 arg19_r0 arg20_r0 arg21_r0 k4_hw12 k4_h1 k4_h30 => k4_hw12.2.2.2.2.2.2.2.2.2.2.2.2.2.2.2.2.2.2.2.1 k4_h1 k4_h30
theorem k4_off72_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h30 : k4_cond30 i k4_t4 arg21_r0 = 1#1), ∀ a, (k4_off72 arg19_r0) a + S1.size a ≤ S2.size a := fun i k4_t4 arg13_r0 arg14_r0 arg15_r0 arg16_r0 arg17_r0 arg18_r0 arg19_r0 arg20_r0 arg21_r0 k4_hw12 k4_h1 k4_h30 => k4_hw12.2.2.2.2.2.2.2.2.2.2.2.2.2.2.2.2.2.2.2.2.1 k4_h1 k4_h30
theorem k4_off73_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h34 : k4_cond34 i k4_t4 arg21_r0 = 1#1), ∀ a, (k4_off73 arg20_r0) a + S1x1024x27.size a ≤ S2x1024x27.size a := fun i k4_t4 arg13_r0 arg14_r0 arg15_r0 arg16_r0 arg17_r0 arg18_r0 arg19_r0 arg20_r0 arg21_r0 k4_hw12 k4_h1 k4_h34 => k4_hw12.2.2.2.2.2.2.2.2.2.2.2.2.2.2.2.2.2.2.2.2.2.1 k4_h1 k4_h34
theorem k4_off74_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h34 : k4_cond34 i k4_t4 arg21_r0 = 1#1), ∀ a, (k4_off74 i arg21_r0) a + S1024x27.size a ≤ S640000x27.size a := fun i k4_t4 arg13_r0 arg14_r0 arg15_r0 arg16_r0 arg17_r0 arg18_r0 arg19_r0 arg20_r0 arg21_r0 k4_hw12 k4_h1 k4_h34 => k4_hw12.2.2.2.2.2.2.2.2.2.2.2.2.2.2.2.2.2.2.2.2.2.2.1 k4_h1 k4_h34
theorem k4_off75_inb : ∀ (i : grid4.Coords) (k4_t4 : Fin (k4_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k4_hw12 : k4_chk12 i k4_t4 arg13_r0 arg14_r0 arg15_r0 arg16_r0 arg17_r0 arg18_r0 arg19_r0 arg20_r0 arg21_r0), ∀ (k4_h1 : k4_cond1 i = 1#1), ∀ (k4_h34 : k4_cond34 i k4_t4 arg21_r0 = 1#1), ∀ a, (k4_off75 arg20_r0) a + S1.size a ≤ S2.size a := fun i k4_t4 arg13_r0 arg14_r0 arg15_r0 arg16_r0 arg17_r0 arg18_r0 arg19_r0 arg20_r0 arg21_r0 k4_hw12 k4_h1 k4_h34 => k4_hw12.2.2.2.2.2.2.2.2.2.2.2.2.2.2.2.2.2.2.2.2.2.2.2 k4_h1 k4_h34

def k4_cond38 (i : grid4.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c1_i32_61_r0 : BitVec 32 := 1#32
  let v73_r0 : BitVec 32 := Scalar.subi v14 c1_i32_61_r0
  let c1_i32_62_r0 : BitVec 32 := 1#32
  let v74_r0 : BitVec 32 := Scalar.muli c1_i32_62_r0 v8
  let c1_i32_64_r0 : BitVec 32 := 1#32
  let v76_r0 : BitVec 32 := Scalar.subi v74_r0 c1_i32_64_r0
  let v77_r0 : BitVec 1 := Scalar.cmpi .eq v73_r0 v76_r0
  let v101_r0 : BitVec 32 := Scalar.extui v77_r0
  let c0_i32_78_r0 : BitVec 32 := 0#32
  let v102_r0 : BitVec 1 := Scalar.cmpi .ne v101_r0 c0_i32_78_r0
  v102_r0

def k4_off76 (v67_7_r0 : BitVec 32) : Fin 3 → Nat :=
  let c2_i32_r0 : BitVec 32 := 2#32
  let v103_r0 : BitVec 32 := Scalar.remui v67_7_r0 c2_i32_r0
  let c0_i32_79_r0 : BitVec 32 := 0#32
  let c0_i32_80_r0 : BitVec 32 := 0#32
  ![v103_r0.toNat, 0, 0]

def k4_off77 (i : grid4.Coords) (v67_8_r0 : BitVec 32) : Fin 2 → Nat :=
  let c1024_i32_r0 : BitVec 32 := 1024#32
  let true_58_r0 : BitVec 1 := 1#1
  let c1_i32_57_r0 : BitVec 32 := 1#32
  let v68_r0 : BitVec 32 := Scalar.subi v67_8_r0 c1_i32_57_r0
  let v69_r0 : BitVec 32 := Scalar.select true_58_r0 v68_r0 v67_8_r0
  let c_m1_i32_59_r0 : BitVec 32 := 4294967295#32
  let v70_r0 : BitVec 1 := Scalar.cmpi .eq v69_r0 c_m1_i32_59_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_60_r0 : BitVec 32 := 1#32
  let v71_r0 : BitVec 32 := Scalar.subi v8 c1_i32_60_r0
  let v72_r0 : BitVec 32 := Scalar.select v70_r0 v71_r0 v69_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v78_r0 : BitVec 32 := Scalar.addi v72_r0 v13
  let v104_r0 : BitVec 32 := Scalar.muli c1024_i32_r0 v78_r0
  let c0_i32_81_r0 : BitVec 32 := 0#32
  ![v104_r0.toNat, 0]

def k4_chk24 (i : grid4.Coords) (v67_8_r0 : BitVec 32) : Prop :=
  (∀ (k4_h1 : k4_cond1 i = 1#1), ∀ (k4_h38 : k4_cond38 i = 1#1), ∀ a, (k4_off77 i v67_8_r0) a + S1024x27.size a ≤ S640000x27.size a)
theorem k4_off77_inb : ∀ (i : grid4.Coords) (v67_8_r0 : BitVec 32) (k4_hw24 : k4_chk24 i v67_8_r0), ∀ (k4_h1 : k4_cond1 i = 1#1), ∀ (k4_h38 : k4_cond38 i = 1#1), ∀ a, (k4_off77 i v67_8_r0) a + S1024x27.size a ≤ S640000x27.size a := fun i v67_8_r0 k4_hw24 k4_h1 k4_h38 => k4_hw24 k4_h1 k4_h38

def k4_off78 (v67_7_r0 : BitVec 32) : Fin 1 → Nat :=
  let c2_i32_r0 : BitVec 32 := 2#32
  let v103_r0 : BitVec 32 := Scalar.remui v67_7_r0 c2_i32_r0
  ![v103_r0.toNat]
def k4_off79 (v67_7_r0 : BitVec 32) : Fin 3 → Nat :=
  let c2_i32_r0 : BitVec 32 := 2#32
  let v103_r0 : BitVec 32 := Scalar.remui v67_7_r0 c2_i32_r0
  let c0_i32_83_r0 : BitVec 32 := 0#32
  let c0_i32_84_r0 : BitVec 32 := 0#32
  ![v103_r0.toNat, 0, 0]

def k4_chk23 (i : grid4.Coords) (v67_7_r0 : BitVec 32) : Prop :=
  (∀ (k4_h1 : k4_cond1 i = 1#1), ∀ (k4_h38 : k4_cond38 i = 1#1), ∀ a, (k4_off76 v67_7_r0) a + S1x1024x27.size a ≤ S2x1024x27.size a) ∧
  (∀ (k4_h1 : k4_cond1 i = 1#1), ∀ (k4_h38 : k4_cond38 i = 1#1), ∀ a, (k4_off78 v67_7_r0) a + S1.size a ≤ S2.size a) ∧
  (∀ (k4_h1 : k4_cond1 i = 1#1), ∀ (k4_h38 : k4_cond38 i = 1#1), ∀ a, (k4_off79 v67_7_r0) a + S1x1024x27.size a ≤ S2x1024x27.size a)
theorem k4_off76_inb : ∀ (i : grid4.Coords) (v67_7_r0 : BitVec 32) (k4_hw23 : k4_chk23 i v67_7_r0), ∀ (k4_h1 : k4_cond1 i = 1#1), ∀ (k4_h38 : k4_cond38 i = 1#1), ∀ a, (k4_off76 v67_7_r0) a + S1x1024x27.size a ≤ S2x1024x27.size a := fun i v67_7_r0 k4_hw23 k4_h1 k4_h38 => k4_hw23.1 k4_h1 k4_h38
theorem k4_off78_inb : ∀ (i : grid4.Coords) (v67_7_r0 : BitVec 32) (k4_hw23 : k4_chk23 i v67_7_r0), ∀ (k4_h1 : k4_cond1 i = 1#1), ∀ (k4_h38 : k4_cond38 i = 1#1), ∀ a, (k4_off78 v67_7_r0) a + S1.size a ≤ S2.size a := fun i v67_7_r0 k4_hw23 k4_h1 k4_h38 => k4_hw23.2.1 k4_h1 k4_h38
theorem k4_off79_inb : ∀ (i : grid4.Coords) (v67_7_r0 : BitVec 32) (k4_hw23 : k4_chk23 i v67_7_r0), ∀ (k4_h1 : k4_cond1 i = 1#1), ∀ (k4_h38 : k4_cond38 i = 1#1), ∀ a, (k4_off79 v67_7_r0) a + S1x1024x27.size a ≤ S2x1024x27.size a := fun i v67_7_r0 k4_hw23 k4_h1 k4_h38 => k4_hw23.2.2 k4_h1 k4_h38

abbrev grid5 : Pipeline.Grid := ⟨2, ![2, 16], ![false, false]⟩

def k5_cond1 (i : grid5.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c0_i32_7_r0 : BitVec 32 := 0#32
  let v19_r0 : BitVec 1 := Scalar.cmpi .sgt v14 c0_i32_7_r0
  let v20_r0 : BitVec 32 := Scalar.extui v19_r0
  let c0_i32_8_r0 : BitVec 32 := 0#32
  let v21_r0 : BitVec 1 := Scalar.cmpi .ne v20_r0 c0_i32_8_r0
  v21_r0

def k5_cond2 (i : grid5.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_23_r0 : BitVec 32 := 0#32
  let v40_r0 : BitVec 1 := Scalar.cmpi .sgt v22_r0 c0_i32_23_r0
  let v41_r0 : BitVec 1 := Scalar.andi true_24_r0 v40_r0
  let true_25_r0 : BitVec 1 := 1#1
  let v42_r0 : BitVec 1 := Scalar.andi v41_r0 true_25_r0
  let v43_r0 : BitVec 32 := Scalar.extui v42_r0
  let c0_i32_27_r0 : BitVec 32 := 0#32
  let v44_r0 : BitVec 1 := Scalar.cmpi .ne v43_r0 c0_i32_27_r0
  v44_r0

def k5_off1 : Fin 3 → Nat :=
  let c0_i32_26_r0 : BitVec 32 := 0#32
  let c2_i32_r0 : BitVec 32 := 2#32
  let v103_r0 : BitVec 32 := Scalar.remui c0_i32_26_r0 c2_i32_r0
  let c0_i32_79_r0 : BitVec 32 := 0#32
  let c0_i32_80_r0 : BitVec 32 := 0#32
  ![v103_r0.toNat, 0, 0]
def k5_off2 (i : grid5.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k5_off3 : Fin 1 → Nat :=
  let c0_i32_26_r0 : BitVec 32 := 0#32
  let c2_i32_r0 : BitVec 32 := 2#32
  let v103_r0 : BitVec 32 := Scalar.remui c0_i32_26_r0 c2_i32_r0
  ![v103_r0.toNat]
def k5_cond3 (i : grid5.Coords) : BitVec 1 :=
  let true_32_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_31_r0 : BitVec 32 := 0#32
  let v47_r0 : BitVec 1 := Scalar.cmpi .sgt v22_r0 c0_i32_31_r0
  let v48_r0 : BitVec 1 := Scalar.andi true_32_r0 v47_r0
  let true_33_r0 : BitVec 1 := 1#1
  let v49_r0 : BitVec 1 := Scalar.andi v48_r0 true_33_r0
  let v50_r0 : BitVec 32 := Scalar.extui v49_r0
  let c0_i32_35_r0 : BitVec 32 := 0#32
  let v51_r0 : BitVec 1 := Scalar.cmpi .ne v50_r0 c0_i32_35_r0
  v51_r0

def k5_off4 : Fin 3 → Nat :=
  let c0_i32_34_r0 : BitVec 32 := 0#32
  let c2_i32_r0 : BitVec 32 := 2#32
  let v103_r0 : BitVec 32 := Scalar.remui c0_i32_34_r0 c2_i32_r0
  let c0_i32_79_r0 : BitVec 32 := 0#32
  let c0_i32_80_r0 : BitVec 32 := 0#32
  ![v103_r0.toNat, 0, 0]
def k5_off5 (i : grid5.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k5_off6 : Fin 1 → Nat :=
  let c0_i32_34_r0 : BitVec 32 := 0#32
  let c2_i32_r0 : BitVec 32 := 2#32
  let v103_r0 : BitVec 32 := Scalar.remui c0_i32_34_r0 c2_i32_r0
  ![v103_r0.toNat]
def k5_cond4 (i : grid5.Coords) : BitVec 1 :=
  let true_40_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v22_r0 : BitVec 32 := Scalar.muli c1_i32_9_r0 v8
  let c0_i32_39_r0 : BitVec 32 := 0#32
  let v54_r0 : BitVec 1 := Scalar.cmpi .sgt v22_r0 c0_i32_39_r0
  let v55_r0 : BitVec 1 := Scalar.andi true_40_r0 v54_r0
  let true_41_r0 : BitVec 1 := 1#1
  let v56_r0 : BitVec 1 := Scalar.andi v55_r0 true_41_r0
  let v57_r0 : BitVec 32 := Scalar.extui v56_r0
  let c0_i32_43_r0 : BitVec 32 := 0#32
  let v58_r0 : BitVec 1 := Scalar.cmpi .ne v57_r0 c0_i32_43_r0
  v58_r0

def k5_off7 : Fin 3 → Nat :=
  let c0_i32_42_r0 : BitVec 32 := 0#32
  let c2_i32_r0 : BitVec 32 := 2#32
  let v103_r0 : BitVec 32 := Scalar.remui c0_i32_42_r0 c2_i32_r0
  let c0_i32_79_r0 : BitVec 32 := 0#32
  let c0_i32_80_r0 : BitVec 32 := 0#32
  ![v103_r0.toNat, 0, 0]
def k5_off8 (i : grid5.Coords) : Fin 2 → Nat :=
  let c0_i32_81_r0 : BitVec 32 := 0#32
  let c1024_i32_r0 : BitVec 32 := 1024#32
  let c0_i32_12_r0 : BitVec 32 := 0#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v25_r0 : BitVec 32 := Scalar.addi c0_i32_12_r0 v13
  let v104_r0 : BitVec 32 := Scalar.muli c1024_i32_r0 v25_r0
  ![0, v104_r0.toNat]
def k5_off9 : Fin 1 → Nat :=
  let c0_i32_42_r0 : BitVec 32 := 0#32
  let c2_i32_r0 : BitVec 32 := 2#32
  let v103_r0 : BitVec 32 := Scalar.remui c0_i32_42_r0 c2_i32_r0
  ![v103_r0.toNat]
@[reducible] def k5_t1_loop (i : grid5.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_55_r0 : BitVec 32 := 1#32
  ⟨c0_i32_47_r0, v65_r0, c1_i32_55_r0⟩
def k5_off10 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k5_cond5 (i : grid5.Coords) (k5_t1 : Fin (k5_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k5_t1
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k5_off11 (i : grid5.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k5_off12 (arg13_r0 : BitVec 32) : Fin 1 → Nat :=
  let c2_i32_184_r0 : BitVec 32 := 2#32
  let v280_r0 : BitVec 32 := Scalar.remui arg13_r0 c2_i32_184_r0
  ![v280_r0.toNat]
def k5_off13 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k5_cond6 (i : grid5.Coords) (k5_t1 : Fin (k5_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k5_t1
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k5_off14 (i : grid5.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k5_off15 (arg15_r0 : BitVec 32) : Fin 1 → Nat :=
  let c2_i32_184_r0 : BitVec 32 := 2#32
  let v280_r0 : BitVec 32 := Scalar.remui arg15_r0 c2_i32_184_r0
  ![v280_r0.toNat]
def k5_off16 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k5_cond7 (i : grid5.Coords) (k5_t1 : Fin (k5_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k5_t1
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k5_off17 (i : grid5.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k5_off18 (arg17_r0 : BitVec 32) : Fin 1 → Nat :=
  let c2_i32_184_r0 : BitVec 32 := 2#32
  let v280_r0 : BitVec 32 := Scalar.remui arg17_r0 c2_i32_184_r0
  ![v280_r0.toNat]
def k5_off19 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k5_cond8 (i : grid5.Coords) (k5_t1 : Fin (k5_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k5_t1
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k5_off20 (i : grid5.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k5_off21 (arg14_r0 : BitVec 32) : Fin 1 → Nat :=
  let c2_i32_185_r0 : BitVec 32 := 2#32
  let v281_r0 : BitVec 32 := Scalar.remui arg14_r0 c2_i32_185_r0
  ![v281_r0.toNat]
def k5_off22 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k5_cond9 (i : grid5.Coords) (k5_t1 : Fin (k5_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k5_t1
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k5_off23 (i : grid5.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k5_off24 (arg16_r0 : BitVec 32) : Fin 1 → Nat :=
  let c2_i32_185_r0 : BitVec 32 := 2#32
  let v281_r0 : BitVec 32 := Scalar.remui arg16_r0 c2_i32_185_r0
  ![v281_r0.toNat]
def k5_off25 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k5_cond10 (i : grid5.Coords) (k5_t1 : Fin (k5_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k5_t1
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k5_off26 (i : grid5.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k5_off27 (arg18_r0 : BitVec 32) : Fin 1 → Nat :=
  let c2_i32_185_r0 : BitVec 32 := 2#32
  let v281_r0 : BitVec 32 := Scalar.remui arg18_r0 c2_i32_185_r0
  ![v281_r0.toNat]
def k5_off28 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k5_chk2 (i : grid5.Coords) (arg14_r0 : BitVec 32) : Prop :=
  (∀ (k5_h1 : k5_cond1 i = 1#1), ∀ a, (k5_off28 arg14_r0) a + S1x1x1024.size a ≤ S2x1x1024.size a)
theorem k5_off28_inb : ∀ (i : grid5.Coords) (arg14_r0 : BitVec 32) (k5_hw2 : k5_chk2 i arg14_r0), ∀ (k5_h1 : k5_cond1 i = 1#1), ∀ a, (k5_off28 arg14_r0) a + S1x1x1024.size a ≤ S2x1x1024.size a := fun i arg14_r0 k5_hw2 k5_h1 => k5_hw2 k5_h1

def k5_off29 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k5_chk3 (i : grid5.Coords) (arg16_r0 : BitVec 32) : Prop :=
  (∀ (k5_h1 : k5_cond1 i = 1#1), ∀ a, (k5_off29 arg16_r0) a + S1x1x1024.size a ≤ S2x1x1024.size a)
theorem k5_off29_inb : ∀ (i : grid5.Coords) (arg16_r0 : BitVec 32) (k5_hw3 : k5_chk3 i arg16_r0), ∀ (k5_h1 : k5_cond1 i = 1#1), ∀ a, (k5_off29 arg16_r0) a + S1x1x1024.size a ≤ S2x1x1024.size a := fun i arg16_r0 k5_hw3 k5_h1 => k5_hw3 k5_h1

@[reducible] def k5_t2_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k5_off30 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k5_chk4 (i : grid5.Coords) (arg18_r0 : BitVec 32) : Prop :=
  (∀ (k5_h1 : k5_cond1 i = 1#1), ∀ a, (k5_off30 arg18_r0) a + S1x1x1024.size a ≤ S2x1x1024.size a)
theorem k5_off30_inb : ∀ (i : grid5.Coords) (arg18_r0 : BitVec 32) (k5_hw4 : k5_chk4 i arg18_r0), ∀ (k5_h1 : k5_cond1 i = 1#1), ∀ a, (k5_off30 arg18_r0) a + S1x1x1024.size a ≤ S2x1x1024.size a := fun i arg18_r0 k5_hw4 k5_h1 => k5_hw4 k5_h1

def k5_off31 (k5_t2 : Fin k5_t2_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k5_t2
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k5_off32 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k5_chk6 (i : grid5.Coords) (v293_r0 : IVec S16 32) (v295_r0 : IVec S16 32) : Prop :=
  (∀ (k5_h1 : k5_cond1 i = 1#1), ∀ a x, ((![v293_r0, v295_r0] : Fin 2 → IVec S16 32) a x).toNat < S1024x27.size a)
theorem k5_idx1_inb : ∀ (i : grid5.Coords) (v293_r0 : IVec S16 32) (v295_r0 : IVec S16 32) (k5_hw6 : k5_chk6 i v293_r0 v295_r0), ∀ (k5_h1 : k5_cond1 i = 1#1), ∀ a x, ((![v293_r0, v295_r0] : Fin 2 → IVec S16 32) a x).toNat < S1024x27.size a := fun i v293_r0 v295_r0 k5_hw6 k5_h1 => k5_hw6 k5_h1
def k5_off33 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k5_chk7 (i : grid5.Coords) (v293_r0 : IVec S16 32) (v299_r0 : IVec S16 32) : Prop :=
  (∀ (k5_h1 : k5_cond1 i = 1#1), ∀ a x, ((![v293_r0, v299_r0] : Fin 2 → IVec S16 32) a x).toNat < S1024x27.size a)
theorem k5_idx2_inb : ∀ (i : grid5.Coords) (v293_r0 : IVec S16 32) (v299_r0 : IVec S16 32) (k5_hw7 : k5_chk7 i v293_r0 v299_r0), ∀ (k5_h1 : k5_cond1 i = 1#1), ∀ a x, ((![v293_r0, v299_r0] : Fin 2 → IVec S16 32) a x).toNat < S1024x27.size a := fun i v293_r0 v299_r0 k5_hw7 k5_h1 => k5_hw7 k5_h1
def k5_off34 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k5_chk8 (i : grid5.Coords) (v293_r0 : IVec S16 32) (v306_r0 : IVec S16 32) : Prop :=
  (∀ (k5_h1 : k5_cond1 i = 1#1), ∀ a x, ((![v293_r0, v306_r0] : Fin 2 → IVec S16 32) a x).toNat < S1024x27.size a)
theorem k5_idx3_inb : ∀ (i : grid5.Coords) (v293_r0 : IVec S16 32) (v306_r0 : IVec S16 32) (k5_hw8 : k5_chk8 i v293_r0 v306_r0), ∀ (k5_h1 : k5_cond1 i = 1#1), ∀ a x, ((![v293_r0, v306_r0] : Fin 2 → IVec S16 32) a x).toNat < S1024x27.size a := fun i v293_r0 v306_r0 k5_hw8 k5_h1 => k5_hw8 k5_h1
@[reducible] def k5_t3_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k5_chk9 (i : grid5.Coords) (v0 : IVec S16 32) (v282_r0 : IVec S16 32) : Prop :=
  (∀ (k5_h1 : k5_cond1 i = 1#1), ∀ a x, ((![v282_r0, v0] : Fin 2 → IVec S16 32) a x).toNat < S1024x16.size a) ∧
  (∀ (k5_h1 : k5_cond1 i = 1#1), ∀ a x, ((![v282_r0, v0] : Fin 2 → IVec S16 32) a x).toNat < S1024x16.size a) ∧
  (∀ (k5_h1 : k5_cond1 i = 1#1), ∀ a x, ((![v282_r0] : Fin 1 → IVec S16 32) a x).toNat < S1024.size a)
theorem k5_idx4_inb : ∀ (i : grid5.Coords) (v0 : IVec S16 32) (v282_r0 : IVec S16 32) (k5_hw9 : k5_chk9 i v0 v282_r0), ∀ (k5_h1 : k5_cond1 i = 1#1), ∀ a x, ((![v282_r0, v0] : Fin 2 → IVec S16 32) a x).toNat < S1024x16.size a := fun i v0 v282_r0 k5_hw9 k5_h1 => k5_hw9.1 k5_h1
theorem k5_idx5_inb : ∀ (i : grid5.Coords) (v0 : IVec S16 32) (v282_r0 : IVec S16 32) (k5_hw9 : k5_chk9 i v0 v282_r0), ∀ (k5_h1 : k5_cond1 i = 1#1), ∀ a x, ((![v282_r0, v0] : Fin 2 → IVec S16 32) a x).toNat < S1024x16.size a := fun i v0 v282_r0 k5_hw9 k5_h1 => k5_hw9.2.1 k5_h1
theorem k5_idx6_inb : ∀ (i : grid5.Coords) (v0 : IVec S16 32) (v282_r0 : IVec S16 32) (k5_hw9 : k5_chk9 i v0 v282_r0), ∀ (k5_h1 : k5_cond1 i = 1#1), ∀ a x, ((![v282_r0] : Fin 1 → IVec S16 32) a x).toNat < S1024.size a := fun i v0 v282_r0 k5_hw9 k5_h1 => k5_hw9.2.2 k5_h1
def k5_off35 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k5_chk10 (i : grid5.Coords) (v282_r0 : IVec S16 32) (v287_r0 : IVec S16 32) : Prop :=
  (∀ (k5_h1 : k5_cond1 i = 1#1), ∀ a x, ((![v282_r0, v287_r0] : Fin 2 → IVec S16 32) a x).toNat < S1024x27.size a)
theorem k5_idx7_inb : ∀ (i : grid5.Coords) (v282_r0 : IVec S16 32) (v287_r0 : IVec S16 32) (k5_hw10 : k5_chk10 i v282_r0 v287_r0), ∀ (k5_h1 : k5_cond1 i = 1#1), ∀ a x, ((![v282_r0, v287_r0] : Fin 2 → IVec S16 32) a x).toNat < S1024x27.size a := fun i v282_r0 v287_r0 k5_hw10 k5_h1 => k5_hw10 k5_h1
def k5_off36 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k5_chk5 (i : grid5.Coords) (arg19_r0 : BitVec 32) : Prop :=
  (∀ (k5_h1 : k5_cond1 i = 1#1), ∀ a, (k5_off32 arg19_r0) a + S1x1024x27.size a ≤ S2x1024x27.size a) ∧
  (∀ (k5_h1 : k5_cond1 i = 1#1), ∀ a, (k5_off33 arg19_r0) a + S1x1024x27.size a ≤ S2x1024x27.size a) ∧
  (∀ (k5_h1 : k5_cond1 i = 1#1), ∀ a, (k5_off34 arg19_r0) a + S1x1024x27.size a ≤ S2x1024x27.size a) ∧
  (∀ (k5_h1 : k5_cond1 i = 1#1), ∀ a, (k5_off35 arg19_r0) a + S1x1024x27.size a ≤ S2x1024x27.size a) ∧
  (∀ (k5_h1 : k5_cond1 i = 1#1), ∀ a, (k5_off36 arg19_r0) a + S1x1024x27.size a ≤ S2x1024x27.size a)
theorem k5_off32_inb : ∀ (i : grid5.Coords) (arg19_r0 : BitVec 32) (k5_hw5 : k5_chk5 i arg19_r0), ∀ (k5_h1 : k5_cond1 i = 1#1), ∀ a, (k5_off32 arg19_r0) a + S1x1024x27.size a ≤ S2x1024x27.size a := fun i arg19_r0 k5_hw5 k5_h1 => k5_hw5.1 k5_h1
theorem k5_off33_inb : ∀ (i : grid5.Coords) (arg19_r0 : BitVec 32) (k5_hw5 : k5_chk5 i arg19_r0), ∀ (k5_h1 : k5_cond1 i = 1#1), ∀ a, (k5_off33 arg19_r0) a + S1x1024x27.size a ≤ S2x1024x27.size a := fun i arg19_r0 k5_hw5 k5_h1 => k5_hw5.2.1 k5_h1
theorem k5_off34_inb : ∀ (i : grid5.Coords) (arg19_r0 : BitVec 32) (k5_hw5 : k5_chk5 i arg19_r0), ∀ (k5_h1 : k5_cond1 i = 1#1), ∀ a, (k5_off34 arg19_r0) a + S1x1024x27.size a ≤ S2x1024x27.size a := fun i arg19_r0 k5_hw5 k5_h1 => k5_hw5.2.2.1 k5_h1
theorem k5_off35_inb : ∀ (i : grid5.Coords) (arg19_r0 : BitVec 32) (k5_hw5 : k5_chk5 i arg19_r0), ∀ (k5_h1 : k5_cond1 i = 1#1), ∀ a, (k5_off35 arg19_r0) a + S1x1024x27.size a ≤ S2x1024x27.size a := fun i arg19_r0 k5_hw5 k5_h1 => k5_hw5.2.2.2.1 k5_h1
theorem k5_off36_inb : ∀ (i : grid5.Coords) (arg19_r0 : BitVec 32) (k5_hw5 : k5_chk5 i arg19_r0), ∀ (k5_h1 : k5_cond1 i = 1#1), ∀ a, (k5_off36 arg19_r0) a + S1x1024x27.size a ≤ S2x1024x27.size a := fun i arg19_r0 k5_hw5 k5_h1 => k5_hw5.2.2.2.2 k5_h1

def k5_chk11 (i : grid5.Coords) (v282_r0 : IVec S16 32) (v293_r0 : IVec S16 32) : Prop :=
  (∀ (k5_h1 : k5_cond1 i = 1#1), ∀ a x, ((![v282_r0, v293_r0] : Fin 2 → IVec S16 32) a x).toNat < S1024x27.size a)
theorem k5_idx8_inb : ∀ (i : grid5.Coords) (v282_r0 : IVec S16 32) (v293_r0 : IVec S16 32) (k5_hw11 : k5_chk11 i v282_r0 v293_r0), ∀ (k5_h1 : k5_cond1 i = 1#1), ∀ a x, ((![v282_r0, v293_r0] : Fin 2 → IVec S16 32) a x).toNat < S1024x27.size a := fun i v282_r0 v293_r0 k5_hw11 k5_h1 => k5_hw11 k5_h1
def k5_off37 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k5_cond15 (i : grid5.Coords) (k5_t1 : Fin (k5_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_55_r0 : BitVec 32 := 1#32
  let arg12_r0 : BitVec 32 := Scf.iv c0_i32_47_r0 c1_i32_55_r0 k5_t1
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k5_off38 (i : grid5.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k5_off39 (arg19_r0 : BitVec 32) : Fin 1 → Nat :=
  let c2_i32_184_r0 : BitVec 32 := 2#32
  let v280_r0 : BitVec 32 := Scalar.remui arg19_r0 c2_i32_184_r0
  ![v280_r0.toNat]
def k5_off40 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k5_cond19 (i : grid5.Coords) (k5_t1 : Fin (k5_t1_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_55_r0 : BitVec 32 := 1#32
  let arg12_r0 : BitVec 32 := Scf.iv c0_i32_47_r0 c1_i32_55_r0 k5_t1
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k5_off41 (i : grid5.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k5_off42 (arg20_r0 : BitVec 32) : Fin 1 → Nat :=
  let c2_i32_184_r0 : BitVec 32 := 2#32
  let v280_r0 : BitVec 32 := Scalar.remui arg20_r0 c2_i32_184_r0
  ![v280_r0.toNat]

def k5_chk1 (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k5_h1 : k5_cond1 i = 1#1), ∀ (k5_h5 : k5_cond5 i k5_t1 arg21_r0 = 1#1), ∀ a, (k5_off10 arg13_r0) a + S1x1x1024.size a ≤ S2x1x1024.size a) ∧
  (∀ (k5_h1 : k5_cond1 i = 1#1), ∀ (k5_h5 : k5_cond5 i k5_t1 arg21_r0 = 1#1), ∀ a, (k5_off11 i arg21_r0) a + S1x1024.size a ≤ S1x640000.size a) ∧
  (∀ (k5_h1 : k5_cond1 i = 1#1), ∀ (k5_h5 : k5_cond5 i k5_t1 arg21_r0 = 1#1), ∀ a, (k5_off12 arg13_r0) a + S1.size a ≤ S2.size a) ∧
  (∀ (k5_h1 : k5_cond1 i = 1#1), ∀ (k5_h6 : k5_cond6 i k5_t1 arg21_r0 = 1#1), ∀ a, (k5_off13 arg15_r0) a + S1x1x1024.size a ≤ S2x1x1024.size a) ∧
  (∀ (k5_h1 : k5_cond1 i = 1#1), ∀ (k5_h6 : k5_cond6 i k5_t1 arg21_r0 = 1#1), ∀ a, (k5_off14 i arg21_r0) a + S1x1024.size a ≤ S1x640000.size a) ∧
  (∀ (k5_h1 : k5_cond1 i = 1#1), ∀ (k5_h6 : k5_cond6 i k5_t1 arg21_r0 = 1#1), ∀ a, (k5_off15 arg15_r0) a + S1.size a ≤ S2.size a) ∧
  (∀ (k5_h1 : k5_cond1 i = 1#1), ∀ (k5_h7 : k5_cond7 i k5_t1 arg21_r0 = 1#1), ∀ a, (k5_off16 arg17_r0) a + S1x1x1024.size a ≤ S2x1x1024.size a) ∧
  (∀ (k5_h1 : k5_cond1 i = 1#1), ∀ (k5_h7 : k5_cond7 i k5_t1 arg21_r0 = 1#1), ∀ a, (k5_off17 i arg21_r0) a + S1x1024.size a ≤ S1x640000.size a) ∧
  (∀ (k5_h1 : k5_cond1 i = 1#1), ∀ (k5_h7 : k5_cond7 i k5_t1 arg21_r0 = 1#1), ∀ a, (k5_off18 arg17_r0) a + S1.size a ≤ S2.size a) ∧
  (∀ (k5_h1 : k5_cond1 i = 1#1), ∀ (k5_h8 : k5_cond8 i k5_t1 arg21_r0 = 1#1), ∀ a, (k5_off19 arg14_r0) a + S1x1x1024.size a ≤ S2x1x1024.size a) ∧
  (∀ (k5_h1 : k5_cond1 i = 1#1), ∀ (k5_h8 : k5_cond8 i k5_t1 arg21_r0 = 1#1), ∀ a, (k5_off20 i arg21_r0) a + S1x1024.size a ≤ S1x640000.size a) ∧
  (∀ (k5_h1 : k5_cond1 i = 1#1), ∀ (k5_h8 : k5_cond8 i k5_t1 arg21_r0 = 1#1), ∀ a, (k5_off21 arg14_r0) a + S1.size a ≤ S2.size a) ∧
  (∀ (k5_h1 : k5_cond1 i = 1#1), ∀ (k5_h9 : k5_cond9 i k5_t1 arg21_r0 = 1#1), ∀ a, (k5_off22 arg16_r0) a + S1x1x1024.size a ≤ S2x1x1024.size a) ∧
  (∀ (k5_h1 : k5_cond1 i = 1#1), ∀ (k5_h9 : k5_cond9 i k5_t1 arg21_r0 = 1#1), ∀ a, (k5_off23 i arg21_r0) a + S1x1024.size a ≤ S1x640000.size a) ∧
  (∀ (k5_h1 : k5_cond1 i = 1#1), ∀ (k5_h9 : k5_cond9 i k5_t1 arg21_r0 = 1#1), ∀ a, (k5_off24 arg16_r0) a + S1.size a ≤ S2.size a) ∧
  (∀ (k5_h1 : k5_cond1 i = 1#1), ∀ (k5_h10 : k5_cond10 i k5_t1 arg21_r0 = 1#1), ∀ a, (k5_off25 arg18_r0) a + S1x1x1024.size a ≤ S2x1x1024.size a) ∧
  (∀ (k5_h1 : k5_cond1 i = 1#1), ∀ (k5_h10 : k5_cond10 i k5_t1 arg21_r0 = 1#1), ∀ a, (k5_off26 i arg21_r0) a + S1x1024.size a ≤ S1x640000.size a) ∧
  (∀ (k5_h1 : k5_cond1 i = 1#1), ∀ (k5_h10 : k5_cond10 i k5_t1 arg21_r0 = 1#1), ∀ a, (k5_off27 arg18_r0) a + S1.size a ≤ S2.size a) ∧
  (∀ (k5_h1 : k5_cond1 i = 1#1), ∀ (k5_h15 : k5_cond15 i k5_t1 arg21_r0 = 1#1), ∀ a, (k5_off37 arg19_r0) a + S1x1024x27.size a ≤ S2x1024x27.size a) ∧
  (∀ (k5_h1 : k5_cond1 i = 1#1), ∀ (k5_h15 : k5_cond15 i k5_t1 arg21_r0 = 1#1), ∀ a, (k5_off38 i arg21_r0) a + S1024x27.size a ≤ S640000x27.size a) ∧
  (∀ (k5_h1 : k5_cond1 i = 1#1), ∀ (k5_h15 : k5_cond15 i k5_t1 arg21_r0 = 1#1), ∀ a, (k5_off39 arg19_r0) a + S1.size a ≤ S2.size a) ∧
  (∀ (k5_h1 : k5_cond1 i = 1#1), ∀ (k5_h19 : k5_cond19 i k5_t1 arg21_r0 = 1#1), ∀ a, (k5_off40 arg20_r0) a + S1x1024x27.size a ≤ S2x1024x27.size a) ∧
  (∀ (k5_h1 : k5_cond1 i = 1#1), ∀ (k5_h19 : k5_cond19 i k5_t1 arg21_r0 = 1#1), ∀ a, (k5_off41 i arg21_r0) a + S1024x27.size a ≤ S640000x27.size a) ∧
  (∀ (k5_h1 : k5_cond1 i = 1#1), ∀ (k5_h19 : k5_cond19 i k5_t1 arg21_r0 = 1#1), ∀ a, (k5_off42 arg20_r0) a + S1.size a ≤ S2.size a)
theorem k5_off10_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h5 : k5_cond5 i k5_t1 arg21_r0 = 1#1), ∀ a, (k5_off10 arg13_r0) a + S1x1x1024.size a ≤ S2x1x1024.size a := fun i k5_t1 arg13_r0 arg14_r0 arg15_r0 arg16_r0 arg17_r0 arg18_r0 arg19_r0 arg20_r0 arg21_r0 k5_hw1 k5_h1 k5_h5 => k5_hw1.1 k5_h1 k5_h5
theorem k5_off11_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h5 : k5_cond5 i k5_t1 arg21_r0 = 1#1), ∀ a, (k5_off11 i arg21_r0) a + S1x1024.size a ≤ S1x640000.size a := fun i k5_t1 arg13_r0 arg14_r0 arg15_r0 arg16_r0 arg17_r0 arg18_r0 arg19_r0 arg20_r0 arg21_r0 k5_hw1 k5_h1 k5_h5 => k5_hw1.2.1 k5_h1 k5_h5
theorem k5_off12_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h5 : k5_cond5 i k5_t1 arg21_r0 = 1#1), ∀ a, (k5_off12 arg13_r0) a + S1.size a ≤ S2.size a := fun i k5_t1 arg13_r0 arg14_r0 arg15_r0 arg16_r0 arg17_r0 arg18_r0 arg19_r0 arg20_r0 arg21_r0 k5_hw1 k5_h1 k5_h5 => k5_hw1.2.2.1 k5_h1 k5_h5
theorem k5_off13_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h6 : k5_cond6 i k5_t1 arg21_r0 = 1#1), ∀ a, (k5_off13 arg15_r0) a + S1x1x1024.size a ≤ S2x1x1024.size a := fun i k5_t1 arg13_r0 arg14_r0 arg15_r0 arg16_r0 arg17_r0 arg18_r0 arg19_r0 arg20_r0 arg21_r0 k5_hw1 k5_h1 k5_h6 => k5_hw1.2.2.2.1 k5_h1 k5_h6
theorem k5_off14_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h6 : k5_cond6 i k5_t1 arg21_r0 = 1#1), ∀ a, (k5_off14 i arg21_r0) a + S1x1024.size a ≤ S1x640000.size a := fun i k5_t1 arg13_r0 arg14_r0 arg15_r0 arg16_r0 arg17_r0 arg18_r0 arg19_r0 arg20_r0 arg21_r0 k5_hw1 k5_h1 k5_h6 => k5_hw1.2.2.2.2.1 k5_h1 k5_h6
theorem k5_off15_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h6 : k5_cond6 i k5_t1 arg21_r0 = 1#1), ∀ a, (k5_off15 arg15_r0) a + S1.size a ≤ S2.size a := fun i k5_t1 arg13_r0 arg14_r0 arg15_r0 arg16_r0 arg17_r0 arg18_r0 arg19_r0 arg20_r0 arg21_r0 k5_hw1 k5_h1 k5_h6 => k5_hw1.2.2.2.2.2.1 k5_h1 k5_h6
theorem k5_off16_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h7 : k5_cond7 i k5_t1 arg21_r0 = 1#1), ∀ a, (k5_off16 arg17_r0) a + S1x1x1024.size a ≤ S2x1x1024.size a := fun i k5_t1 arg13_r0 arg14_r0 arg15_r0 arg16_r0 arg17_r0 arg18_r0 arg19_r0 arg20_r0 arg21_r0 k5_hw1 k5_h1 k5_h7 => k5_hw1.2.2.2.2.2.2.1 k5_h1 k5_h7
theorem k5_off17_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h7 : k5_cond7 i k5_t1 arg21_r0 = 1#1), ∀ a, (k5_off17 i arg21_r0) a + S1x1024.size a ≤ S1x640000.size a := fun i k5_t1 arg13_r0 arg14_r0 arg15_r0 arg16_r0 arg17_r0 arg18_r0 arg19_r0 arg20_r0 arg21_r0 k5_hw1 k5_h1 k5_h7 => k5_hw1.2.2.2.2.2.2.2.1 k5_h1 k5_h7
theorem k5_off18_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h7 : k5_cond7 i k5_t1 arg21_r0 = 1#1), ∀ a, (k5_off18 arg17_r0) a + S1.size a ≤ S2.size a := fun i k5_t1 arg13_r0 arg14_r0 arg15_r0 arg16_r0 arg17_r0 arg18_r0 arg19_r0 arg20_r0 arg21_r0 k5_hw1 k5_h1 k5_h7 => k5_hw1.2.2.2.2.2.2.2.2.1 k5_h1 k5_h7
theorem k5_off19_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h8 : k5_cond8 i k5_t1 arg21_r0 = 1#1), ∀ a, (k5_off19 arg14_r0) a + S1x1x1024.size a ≤ S2x1x1024.size a := fun i k5_t1 arg13_r0 arg14_r0 arg15_r0 arg16_r0 arg17_r0 arg18_r0 arg19_r0 arg20_r0 arg21_r0 k5_hw1 k5_h1 k5_h8 => k5_hw1.2.2.2.2.2.2.2.2.2.1 k5_h1 k5_h8
theorem k5_off20_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h8 : k5_cond8 i k5_t1 arg21_r0 = 1#1), ∀ a, (k5_off20 i arg21_r0) a + S1x1024.size a ≤ S1x640000.size a := fun i k5_t1 arg13_r0 arg14_r0 arg15_r0 arg16_r0 arg17_r0 arg18_r0 arg19_r0 arg20_r0 arg21_r0 k5_hw1 k5_h1 k5_h8 => k5_hw1.2.2.2.2.2.2.2.2.2.2.1 k5_h1 k5_h8
theorem k5_off21_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h8 : k5_cond8 i k5_t1 arg21_r0 = 1#1), ∀ a, (k5_off21 arg14_r0) a + S1.size a ≤ S2.size a := fun i k5_t1 arg13_r0 arg14_r0 arg15_r0 arg16_r0 arg17_r0 arg18_r0 arg19_r0 arg20_r0 arg21_r0 k5_hw1 k5_h1 k5_h8 => k5_hw1.2.2.2.2.2.2.2.2.2.2.2.1 k5_h1 k5_h8
theorem k5_off22_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h9 : k5_cond9 i k5_t1 arg21_r0 = 1#1), ∀ a, (k5_off22 arg16_r0) a + S1x1x1024.size a ≤ S2x1x1024.size a := fun i k5_t1 arg13_r0 arg14_r0 arg15_r0 arg16_r0 arg17_r0 arg18_r0 arg19_r0 arg20_r0 arg21_r0 k5_hw1 k5_h1 k5_h9 => k5_hw1.2.2.2.2.2.2.2.2.2.2.2.2.1 k5_h1 k5_h9
theorem k5_off23_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h9 : k5_cond9 i k5_t1 arg21_r0 = 1#1), ∀ a, (k5_off23 i arg21_r0) a + S1x1024.size a ≤ S1x640000.size a := fun i k5_t1 arg13_r0 arg14_r0 arg15_r0 arg16_r0 arg17_r0 arg18_r0 arg19_r0 arg20_r0 arg21_r0 k5_hw1 k5_h1 k5_h9 => k5_hw1.2.2.2.2.2.2.2.2.2.2.2.2.2.1 k5_h1 k5_h9
theorem k5_off24_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h9 : k5_cond9 i k5_t1 arg21_r0 = 1#1), ∀ a, (k5_off24 arg16_r0) a + S1.size a ≤ S2.size a := fun i k5_t1 arg13_r0 arg14_r0 arg15_r0 arg16_r0 arg17_r0 arg18_r0 arg19_r0 arg20_r0 arg21_r0 k5_hw1 k5_h1 k5_h9 => k5_hw1.2.2.2.2.2.2.2.2.2.2.2.2.2.2.1 k5_h1 k5_h9
theorem k5_off25_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h10 : k5_cond10 i k5_t1 arg21_r0 = 1#1), ∀ a, (k5_off25 arg18_r0) a + S1x1x1024.size a ≤ S2x1x1024.size a := fun i k5_t1 arg13_r0 arg14_r0 arg15_r0 arg16_r0 arg17_r0 arg18_r0 arg19_r0 arg20_r0 arg21_r0 k5_hw1 k5_h1 k5_h10 => k5_hw1.2.2.2.2.2.2.2.2.2.2.2.2.2.2.2.1 k5_h1 k5_h10
theorem k5_off26_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h10 : k5_cond10 i k5_t1 arg21_r0 = 1#1), ∀ a, (k5_off26 i arg21_r0) a + S1x1024.size a ≤ S1x640000.size a := fun i k5_t1 arg13_r0 arg14_r0 arg15_r0 arg16_r0 arg17_r0 arg18_r0 arg19_r0 arg20_r0 arg21_r0 k5_hw1 k5_h1 k5_h10 => k5_hw1.2.2.2.2.2.2.2.2.2.2.2.2.2.2.2.2.1 k5_h1 k5_h10
theorem k5_off27_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h10 : k5_cond10 i k5_t1 arg21_r0 = 1#1), ∀ a, (k5_off27 arg18_r0) a + S1.size a ≤ S2.size a := fun i k5_t1 arg13_r0 arg14_r0 arg15_r0 arg16_r0 arg17_r0 arg18_r0 arg19_r0 arg20_r0 arg21_r0 k5_hw1 k5_h1 k5_h10 => k5_hw1.2.2.2.2.2.2.2.2.2.2.2.2.2.2.2.2.2.1 k5_h1 k5_h10
theorem k5_off37_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h15 : k5_cond15 i k5_t1 arg21_r0 = 1#1), ∀ a, (k5_off37 arg19_r0) a + S1x1024x27.size a ≤ S2x1024x27.size a := fun i k5_t1 arg13_r0 arg14_r0 arg15_r0 arg16_r0 arg17_r0 arg18_r0 arg19_r0 arg20_r0 arg21_r0 k5_hw1 k5_h1 k5_h15 => k5_hw1.2.2.2.2.2.2.2.2.2.2.2.2.2.2.2.2.2.2.1 k5_h1 k5_h15
theorem k5_off38_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h15 : k5_cond15 i k5_t1 arg21_r0 = 1#1), ∀ a, (k5_off38 i arg21_r0) a + S1024x27.size a ≤ S640000x27.size a := fun i k5_t1 arg13_r0 arg14_r0 arg15_r0 arg16_r0 arg17_r0 arg18_r0 arg19_r0 arg20_r0 arg21_r0 k5_hw1 k5_h1 k5_h15 => k5_hw1.2.2.2.2.2.2.2.2.2.2.2.2.2.2.2.2.2.2.2.1 k5_h1 k5_h15
theorem k5_off39_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h15 : k5_cond15 i k5_t1 arg21_r0 = 1#1), ∀ a, (k5_off39 arg19_r0) a + S1.size a ≤ S2.size a := fun i k5_t1 arg13_r0 arg14_r0 arg15_r0 arg16_r0 arg17_r0 arg18_r0 arg19_r0 arg20_r0 arg21_r0 k5_hw1 k5_h1 k5_h15 => k5_hw1.2.2.2.2.2.2.2.2.2.2.2.2.2.2.2.2.2.2.2.2.1 k5_h1 k5_h15
theorem k5_off40_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h19 : k5_cond19 i k5_t1 arg21_r0 = 1#1), ∀ a, (k5_off40 arg20_r0) a + S1x1024x27.size a ≤ S2x1024x27.size a := fun i k5_t1 arg13_r0 arg14_r0 arg15_r0 arg16_r0 arg17_r0 arg18_r0 arg19_r0 arg20_r0 arg21_r0 k5_hw1 k5_h1 k5_h19 => k5_hw1.2.2.2.2.2.2.2.2.2.2.2.2.2.2.2.2.2.2.2.2.2.1 k5_h1 k5_h19
theorem k5_off41_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h19 : k5_cond19 i k5_t1 arg21_r0 = 1#1), ∀ a, (k5_off41 i arg21_r0) a + S1024x27.size a ≤ S640000x27.size a := fun i k5_t1 arg13_r0 arg14_r0 arg15_r0 arg16_r0 arg17_r0 arg18_r0 arg19_r0 arg20_r0 arg21_r0 k5_hw1 k5_h1 k5_h19 => k5_hw1.2.2.2.2.2.2.2.2.2.2.2.2.2.2.2.2.2.2.2.2.2.2.1 k5_h1 k5_h19
theorem k5_off42_inb : ∀ (i : grid5.Coords) (k5_t1 : Fin (k5_t1_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw1 : k5_chk1 i k5_t1 arg13_r0 arg14_r0 arg15_r0 arg16_r0 arg17_r0 arg18_r0 arg19_r0 arg20_r0 arg21_r0), ∀ (k5_h1 : k5_cond1 i = 1#1), ∀ (k5_h19 : k5_cond19 i k5_t1 arg21_r0 = 1#1), ∀ a, (k5_off42 arg20_r0) a + S1.size a ≤ S2.size a := fun i k5_t1 arg13_r0 arg14_r0 arg15_r0 arg16_r0 arg17_r0 arg18_r0 arg19_r0 arg20_r0 arg21_r0 k5_hw1 k5_h1 k5_h19 => k5_hw1.2.2.2.2.2.2.2.2.2.2.2.2.2.2.2.2.2.2.2.2.2.2.2 k5_h1 k5_h19

@[reducible] def k5_t4_loop (i : grid5.Coords) : Scf.Loop 32 :=
  let c0_i32_47_r0 : BitVec 32 := 0#32
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let v62_r0 : BitVec 32 := Scalar.addi c0_i32_47_r0 v61_r0
  let c1_i32_56_r0 : BitVec 32 := 1#32
  ⟨v65_r0, v62_r0, c1_i32_56_r0⟩
def k5_off43 (arg13_r0 : BitVec 32) : Fin 3 → Nat :=
  let c2_i32_184_r0 : BitVec 32 := 2#32
  let v280_r0 : BitVec 32 := Scalar.remui arg13_r0 c2_i32_184_r0
  let c0_i32_186_r0 : BitVec 32 := 0#32
  let c0_i32_187_r0 : BitVec 32 := 0#32
  ![v280_r0.toNat, 0, 0]
def k5_cond20 (i : grid5.Coords) (k5_t4 : Fin (k5_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v124_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k5_t4
  let c1_i32_79_r0 : BitVec 32 := 1#32
  let v103_r0 : BitVec 32 := Scalar.muli c1_i32_79_r0 v8
  let c2_i32_r0 : BitVec 32 := 2#32
  let v125_r0 : BitVec 32 := Scalar.subi v103_r0 c2_i32_r0
  let c1_i32_92_r0 : BitVec 32 := 1#32
  let v126_r0 : BitVec 32 := Scalar.addi v125_r0 c1_i32_92_r0
  let v127_r0 : BitVec 1 := Scalar.cmpi .sge arg12_r0 v126_r0
  let true_93_r0 : BitVec 1 := 1#1
  let v128_r0 : BitVec 1 := Scalar.xori v127_r0 true_93_r0
  let v129_r0 : BitVec 1 := Scalar.andi v124_r0 v128_r0
  let true_94_r0 : BitVec 1 := 1#1
  let v130_r0 : BitVec 1 := Scalar.andi v129_r0 true_94_r0
  let v131_r0 : BitVec 32 := Scalar.extui v130_r0
  let c0_i32_95_r0 : BitVec 32 := 0#32
  let v132_r0 : BitVec 1 := Scalar.cmpi .ne v131_r0 c0_i32_95_r0
  v132_r0

def k5_off44 (i : grid5.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k5_off45 (arg13_r0 : BitVec 32) : Fin 1 → Nat :=
  let c2_i32_184_r0 : BitVec 32 := 2#32
  let v280_r0 : BitVec 32 := Scalar.remui arg13_r0 c2_i32_184_r0
  ![v280_r0.toNat]
def k5_off46 (arg15_r0 : BitVec 32) : Fin 3 → Nat :=
  let c2_i32_184_r0 : BitVec 32 := 2#32
  let v280_r0 : BitVec 32 := Scalar.remui arg15_r0 c2_i32_184_r0
  let c0_i32_186_r0 : BitVec 32 := 0#32
  let c0_i32_187_r0 : BitVec 32 := 0#32
  ![v280_r0.toNat, 0, 0]
def k5_cond21 (i : grid5.Coords) (k5_t4 : Fin (k5_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v136_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k5_t4
  let c1_i32_79_r0 : BitVec 32 := 1#32
  let v103_r0 : BitVec 32 := Scalar.muli c1_i32_79_r0 v8
  let c2_i32_98_r0 : BitVec 32 := 2#32
  let v137_r0 : BitVec 32 := Scalar.subi v103_r0 c2_i32_98_r0
  let c1_i32_99_r0 : BitVec 32 := 1#32
  let v138_r0 : BitVec 32 := Scalar.addi v137_r0 c1_i32_99_r0
  let v139_r0 : BitVec 1 := Scalar.cmpi .sge arg12_r0 v138_r0
  let true_100_r0 : BitVec 1 := 1#1
  let v140_r0 : BitVec 1 := Scalar.xori v139_r0 true_100_r0
  let v141_r0 : BitVec 1 := Scalar.andi v136_r0 v140_r0
  let true_101_r0 : BitVec 1 := 1#1
  let v142_r0 : BitVec 1 := Scalar.andi v141_r0 true_101_r0
  let v143_r0 : BitVec 32 := Scalar.extui v142_r0
  let c0_i32_102_r0 : BitVec 32 := 0#32
  let v144_r0 : BitVec 1 := Scalar.cmpi .ne v143_r0 c0_i32_102_r0
  v144_r0

def k5_off47 (i : grid5.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k5_off48 (arg15_r0 : BitVec 32) : Fin 1 → Nat :=
  let c2_i32_184_r0 : BitVec 32 := 2#32
  let v280_r0 : BitVec 32 := Scalar.remui arg15_r0 c2_i32_184_r0
  ![v280_r0.toNat]
def k5_off49 (arg17_r0 : BitVec 32) : Fin 3 → Nat :=
  let c2_i32_184_r0 : BitVec 32 := 2#32
  let v280_r0 : BitVec 32 := Scalar.remui arg17_r0 c2_i32_184_r0
  let c0_i32_186_r0 : BitVec 32 := 0#32
  let c0_i32_187_r0 : BitVec 32 := 0#32
  ![v280_r0.toNat, 0, 0]
def k5_cond22 (i : grid5.Coords) (k5_t4 : Fin (k5_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v148_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k5_t4
  let c1_i32_79_r0 : BitVec 32 := 1#32
  let v103_r0 : BitVec 32 := Scalar.muli c1_i32_79_r0 v8
  let c2_i32_105_r0 : BitVec 32 := 2#32
  let v149_r0 : BitVec 32 := Scalar.subi v103_r0 c2_i32_105_r0
  let c1_i32_106_r0 : BitVec 32 := 1#32
  let v150_r0 : BitVec 32 := Scalar.addi v149_r0 c1_i32_106_r0
  let v151_r0 : BitVec 1 := Scalar.cmpi .sge arg12_r0 v150_r0
  let true_107_r0 : BitVec 1 := 1#1
  let v152_r0 : BitVec 1 := Scalar.xori v151_r0 true_107_r0
  let v153_r0 : BitVec 1 := Scalar.andi v148_r0 v152_r0
  let true_108_r0 : BitVec 1 := 1#1
  let v154_r0 : BitVec 1 := Scalar.andi v153_r0 true_108_r0
  let v155_r0 : BitVec 32 := Scalar.extui v154_r0
  let c0_i32_109_r0 : BitVec 32 := 0#32
  let v156_r0 : BitVec 1 := Scalar.cmpi .ne v155_r0 c0_i32_109_r0
  v156_r0

def k5_off50 (i : grid5.Coords) (arg21_r0 : BitVec 32) : Fin 2 → Nat :=
  let c0_i32_188_r0 : BitVec 32 := 0#32
  let c1024_i32_185_r0 : BitVec 32 := 1024#32
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v116_r0 : BitVec 1 := Scalar.cmpi .eq v115_r0 v8
  let c0_i32_88_r0 : BitVec 32 := 0#32
  let v117_r0 : BitVec 32 := Scalar.select v116_r0 c0_i32_88_r0 v115_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v118_r0 : BitVec 32 := Scalar.addi v117_r0 v13
  let v281_r0 : BitVec 32 := Scalar.muli c1024_i32_185_r0 v118_r0
  ![0, v281_r0.toNat]
def k5_off51 (arg17_r0 : BitVec 32) : Fin 1 → Nat :=
  let c2_i32_184_r0 : BitVec 32 := 2#32
  let v280_r0 : BitVec 32 := Scalar.remui arg17_r0 c2_i32_184_r0
  ![v280_r0.toNat]
def k5_off52 (arg14_r0 : BitVec 32) : Fin 3 → Nat :=
  let c2_i32_185_r0 : BitVec 32 := 2#32
  let v281_r0 : BitVec 32 := Scalar.remui arg14_r0 c2_i32_185_r0
  let c0_i32_186_r0 : BitVec 32 := 0#32
  let c0_i32_187_r0 : BitVec 32 := 0#32
  ![v281_r0.toNat, 0, 0]
def k5_cond23 (i : grid5.Coords) (k5_t4 : Fin (k5_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v166_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k5_t4
  let c0_i32_80_r0 : BitVec 32 := 0#32
  let v104_r0 : BitVec 1 := Scalar.cmpi .eq arg12_r0 c0_i32_80_r0
  let v167_r0 : BitVec 1 := Scalar.ori v166_r0 v104_r0
  let c0_i32_115_r0 : BitVec 32 := 0#32
  let v168_r0 : BitVec 1 := Scalar.cmpi .sge arg12_r0 c0_i32_115_r0
  let v169_r0 : BitVec 1 := Scalar.andi v167_r0 v168_r0
  let v170_r0 : BitVec 32 := Scalar.extui v169_r0
  let c0_i32_116_r0 : BitVec 32 := 0#32
  let v171_r0 : BitVec 1 := Scalar.cmpi .ne v170_r0 c0_i32_116_r0
  v171_r0

def k5_off53 (i : grid5.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k5_off54 (arg14_r0 : BitVec 32) : Fin 1 → Nat :=
  let c2_i32_185_r0 : BitVec 32 := 2#32
  let v281_r0 : BitVec 32 := Scalar.remui arg14_r0 c2_i32_185_r0
  ![v281_r0.toNat]
def k5_off55 (arg16_r0 : BitVec 32) : Fin 3 → Nat :=
  let c2_i32_185_r0 : BitVec 32 := 2#32
  let v281_r0 : BitVec 32 := Scalar.remui arg16_r0 c2_i32_185_r0
  let c0_i32_186_r0 : BitVec 32 := 0#32
  let c0_i32_187_r0 : BitVec 32 := 0#32
  ![v281_r0.toNat, 0, 0]
def k5_cond24 (i : grid5.Coords) (k5_t4 : Fin (k5_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v172_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k5_t4
  let c0_i32_80_r0 : BitVec 32 := 0#32
  let v104_r0 : BitVec 1 := Scalar.cmpi .eq arg12_r0 c0_i32_80_r0
  let v173_r0 : BitVec 1 := Scalar.ori v172_r0 v104_r0
  let c0_i32_117_r0 : BitVec 32 := 0#32
  let v174_r0 : BitVec 1 := Scalar.cmpi .sge arg12_r0 c0_i32_117_r0
  let v175_r0 : BitVec 1 := Scalar.andi v173_r0 v174_r0
  let v176_r0 : BitVec 32 := Scalar.extui v175_r0
  let c0_i32_118_r0 : BitVec 32 := 0#32
  let v177_r0 : BitVec 1 := Scalar.cmpi .ne v176_r0 c0_i32_118_r0
  v177_r0

def k5_off56 (i : grid5.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k5_off57 (arg16_r0 : BitVec 32) : Fin 1 → Nat :=
  let c2_i32_185_r0 : BitVec 32 := 2#32
  let v281_r0 : BitVec 32 := Scalar.remui arg16_r0 c2_i32_185_r0
  ![v281_r0.toNat]
def k5_off58 (arg18_r0 : BitVec 32) : Fin 3 → Nat :=
  let c2_i32_185_r0 : BitVec 32 := 2#32
  let v281_r0 : BitVec 32 := Scalar.remui arg18_r0 c2_i32_185_r0
  let c0_i32_186_r0 : BitVec 32 := 0#32
  let c0_i32_187_r0 : BitVec 32 := 0#32
  ![v281_r0.toNat, 0, 0]
def k5_cond25 (i : grid5.Coords) (k5_t4 : Fin (k5_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v178_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k5_t4
  let c0_i32_80_r0 : BitVec 32 := 0#32
  let v104_r0 : BitVec 1 := Scalar.cmpi .eq arg12_r0 c0_i32_80_r0
  let v179_r0 : BitVec 1 := Scalar.ori v178_r0 v104_r0
  let c0_i32_119_r0 : BitVec 32 := 0#32
  let v180_r0 : BitVec 1 := Scalar.cmpi .sge arg12_r0 c0_i32_119_r0
  let v181_r0 : BitVec 1 := Scalar.andi v179_r0 v180_r0
  let v182_r0 : BitVec 32 := Scalar.extui v181_r0
  let c0_i32_120_r0 : BitVec 32 := 0#32
  let v183_r0 : BitVec 1 := Scalar.cmpi .ne v182_r0 c0_i32_120_r0
  v183_r0

def k5_off59 (i : grid5.Coords) (arg21_r0 : BitVec 32) : Fin 2 → Nat :=
  let c0_i32_188_r0 : BitVec 32 := 0#32
  let c1024_i32_184_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v280_r0 : BitVec 32 := Scalar.muli c1024_i32_184_r0 v107_r0
  ![0, v280_r0.toNat]
def k5_off60 (arg18_r0 : BitVec 32) : Fin 1 → Nat :=
  let c2_i32_185_r0 : BitVec 32 := 2#32
  let v281_r0 : BitVec 32 := Scalar.remui arg18_r0 c2_i32_185_r0
  ![v281_r0.toNat]
def k5_off61 (arg14_r0 : BitVec 32) : Fin 3 → Nat :=
  let c2_i32_123_r0 : BitVec 32 := 2#32
  let v190_r0 : BitVec 32 := Scalar.remui arg14_r0 c2_i32_123_r0
  let c0_i32_128_r0 : BitVec 32 := 0#32
  let c0_i32_129_r0 : BitVec 32 := 0#32
  ![v190_r0.toNat, 0, 0]

def k5_chk13 (i : grid5.Coords) (k5_t4 : Fin (k5_t4_loop i).trips) (arg14_r0 : BitVec 32) : Prop :=
  (∀ (k5_h1 : k5_cond1 i = 1#1), ∀ a, (k5_off61 arg14_r0) a + S1x1x1024.size a ≤ S2x1x1024.size a)
theorem k5_off61_inb : ∀ (i : grid5.Coords) (k5_t4 : Fin (k5_t4_loop i).trips) (arg14_r0 : BitVec 32) (k5_hw13 : k5_chk13 i k5_t4 arg14_r0), ∀ (k5_h1 : k5_cond1 i = 1#1), ∀ a, (k5_off61 arg14_r0) a + S1x1x1024.size a ≤ S2x1x1024.size a := fun i k5_t4 arg14_r0 k5_hw13 k5_h1 => k5_hw13 k5_h1

def k5_off62 (arg16_r0 : BitVec 32) : Fin 3 → Nat :=
  let c2_i32_124_r0 : BitVec 32 := 2#32
  let v191_r0 : BitVec 32 := Scalar.remui arg16_r0 c2_i32_124_r0
  let c0_i32_134_r0 : BitVec 32 := 0#32
  let c0_i32_135_r0 : BitVec 32 := 0#32
  ![v191_r0.toNat, 0, 0]

def k5_chk14 (i : grid5.Coords) (k5_t4 : Fin (k5_t4_loop i).trips) (arg16_r0 : BitVec 32) : Prop :=
  (∀ (k5_h1 : k5_cond1 i = 1#1), ∀ a, (k5_off62 arg16_r0) a + S1x1x1024.size a ≤ S2x1x1024.size a)
theorem k5_off62_inb : ∀ (i : grid5.Coords) (k5_t4 : Fin (k5_t4_loop i).trips) (arg16_r0 : BitVec 32) (k5_hw14 : k5_chk14 i k5_t4 arg16_r0), ∀ (k5_h1 : k5_cond1 i = 1#1), ∀ a, (k5_off62 arg16_r0) a + S1x1x1024.size a ≤ S2x1x1024.size a := fun i k5_t4 arg16_r0 k5_hw14 k5_h1 => k5_hw14 k5_h1

@[reducible] def k5_t5_loop : Scf.Loop 32 :=
  let c0_i32_151_r0 : BitVec 32 := 0#32
  let c64_i32_r0 : BitVec 32 := 64#32
  let v214_r0 : BitVec 32 := Scalar.addi c0_i32_151_r0 c64_i32_r0
  let c1_i32_152_r0 : BitVec 32 := 1#32
  ⟨c0_i32_151_r0, v214_r0, c1_i32_152_r0⟩
def k5_off63 (arg18_r0 : BitVec 32) : Fin 3 → Nat :=
  let c2_i32_125_r0 : BitVec 32 := 2#32
  let v192_r0 : BitVec 32 := Scalar.remui arg18_r0 c2_i32_125_r0
  let c0_i32_187_r0 : BitVec 32 := 0#32
  let c0_i32_188_r0 : BitVec 32 := 0#32
  ![v192_r0.toNat, 0, 0]

def k5_chk15 (i : grid5.Coords) (k5_t4 : Fin (k5_t4_loop i).trips) (arg18_r0 : BitVec 32) : Prop :=
  (∀ (k5_h1 : k5_cond1 i = 1#1), ∀ a, (k5_off63 arg18_r0) a + S1x1x1024.size a ≤ S2x1x1024.size a)
theorem k5_off63_inb : ∀ (i : grid5.Coords) (k5_t4 : Fin (k5_t4_loop i).trips) (arg18_r0 : BitVec 32) (k5_hw15 : k5_chk15 i k5_t4 arg18_r0), ∀ (k5_h1 : k5_cond1 i = 1#1), ∀ a, (k5_off63 arg18_r0) a + S1x1x1024.size a ≤ S2x1x1024.size a := fun i k5_t4 arg18_r0 k5_hw15 k5_h1 => k5_hw15 k5_h1

def k5_off64 (k5_t5 : Fin k5_t5_loop.trips) : Fin 1 → Nat :=
  let c0_i32_185_r0 : BitVec 32 := 0#32
  let c0_i32_151_r0 : BitVec 32 := 0#32
  let c1_i32_152_r0 : BitVec 32 := 1#32
  let arg22_r0 : BitVec 32 := Scf.iv c0_i32_151_r0 c1_i32_152_r0 k5_t5
  let c16_i32_184_r0 : BitVec 32 := 16#32
  let v280_r0 : BitVec 32 := Scalar.muli arg22_r0 c16_i32_184_r0
  let v281_r0 : BitVec 32 := Scalar.addi c0_i32_185_r0 v280_r0
  let v286_r0 : Index := Scalar.indexCast v281_r0
  ![v286_r0.toNat]
def k5_off65 (arg19_r0 : BitVec 32) : Fin 3 → Nat :=
  let c2_i32_126_r0 : BitVec 32 := 2#32
  let v193_r0 : BitVec 32 := Scalar.remui arg19_r0 c2_i32_126_r0
  let c0_i32_191_r0 : BitVec 32 := 0#32
  let c0_i32_192_r0 : BitVec 32 := 0#32
  ![v193_r0.toNat, 0, 0]

def k5_chk17 (i : grid5.Coords) (k5_t4 : Fin (k5_t4_loop i).trips) (v293_r0 : IVec S16 32) (v295_r0 : IVec S16 32) : Prop :=
  (∀ (k5_h1 : k5_cond1 i = 1#1), ∀ a x, ((![v293_r0, v295_r0] : Fin 2 → IVec S16 32) a x).toNat < S1024x27.size a)
theorem k5_idx9_inb : ∀ (i : grid5.Coords) (k5_t4 : Fin (k5_t4_loop i).trips) (v293_r0 : IVec S16 32) (v295_r0 : IVec S16 32) (k5_hw17 : k5_chk17 i k5_t4 v293_r0 v295_r0), ∀ (k5_h1 : k5_cond1 i = 1#1), ∀ a x, ((![v293_r0, v295_r0] : Fin 2 → IVec S16 32) a x).toNat < S1024x27.size a := fun i k5_t4 v293_r0 v295_r0 k5_hw17 k5_h1 => k5_hw17 k5_h1
def k5_off66 (arg19_r0 : BitVec 32) : Fin 3 → Nat :=
  let c2_i32_126_r0 : BitVec 32 := 2#32
  let v193_r0 : BitVec 32 := Scalar.remui arg19_r0 c2_i32_126_r0
  let c0_i32_194_r0 : BitVec 32 := 0#32
  let c0_i32_195_r0 : BitVec 32 := 0#32
  ![v193_r0.toNat, 0, 0]

def k5_chk18 (i : grid5.Coords) (k5_t4 : Fin (k5_t4_loop i).trips) (v293_r0 : IVec S16 32) (v299_r0 : IVec S16 32) : Prop :=
  (∀ (k5_h1 : k5_cond1 i = 1#1), ∀ a x, ((![v293_r0, v299_r0] : Fin 2 → IVec S16 32) a x).toNat < S1024x27.size a)
theorem k5_idx10_inb : ∀ (i : grid5.Coords) (k5_t4 : Fin (k5_t4_loop i).trips) (v293_r0 : IVec S16 32) (v299_r0 : IVec S16 32) (k5_hw18 : k5_chk18 i k5_t4 v293_r0 v299_r0), ∀ (k5_h1 : k5_cond1 i = 1#1), ∀ a x, ((![v293_r0, v299_r0] : Fin 2 → IVec S16 32) a x).toNat < S1024x27.size a := fun i k5_t4 v293_r0 v299_r0 k5_hw18 k5_h1 => k5_hw18 k5_h1
def k5_off67 (arg19_r0 : BitVec 32) : Fin 3 → Nat :=
  let c2_i32_126_r0 : BitVec 32 := 2#32
  let v193_r0 : BitVec 32 := Scalar.remui arg19_r0 c2_i32_126_r0
  let c0_i32_197_r0 : BitVec 32 := 0#32
  let c0_i32_198_r0 : BitVec 32 := 0#32
  ![v193_r0.toNat, 0, 0]

def k5_chk19 (i : grid5.Coords) (k5_t4 : Fin (k5_t4_loop i).trips) (v293_r0 : IVec S16 32) (v306_r0 : IVec S16 32) : Prop :=
  (∀ (k5_h1 : k5_cond1 i = 1#1), ∀ a x, ((![v293_r0, v306_r0] : Fin 2 → IVec S16 32) a x).toNat < S1024x27.size a)
theorem k5_idx11_inb : ∀ (i : grid5.Coords) (k5_t4 : Fin (k5_t4_loop i).trips) (v293_r0 : IVec S16 32) (v306_r0 : IVec S16 32) (k5_hw19 : k5_chk19 i k5_t4 v293_r0 v306_r0), ∀ (k5_h1 : k5_cond1 i = 1#1), ∀ a x, ((![v293_r0, v306_r0] : Fin 2 → IVec S16 32) a x).toNat < S1024x27.size a := fun i k5_t4 v293_r0 v306_r0 k5_hw19 k5_h1 => k5_hw19 k5_h1
@[reducible] def k5_t6_loop : Scf.Loop 32 :=
  let c0_i32_154_r0 : BitVec 32 := 0#32
  let c1024_i32_r0 : BitVec 32 := 1024#32
  let v215_r0 : BitVec 32 := Scalar.addi c0_i32_154_r0 c1024_i32_r0
  let c1_i32_155_r0 : BitVec 32 := 1#32
  ⟨c0_i32_154_r0, v215_r0, c1_i32_155_r0⟩

def k5_chk20 (i : grid5.Coords) (v0 : IVec S16 32) (k5_t4 : Fin (k5_t4_loop i).trips) (v282_r0 : IVec S16 32) : Prop :=
  (∀ (k5_h1 : k5_cond1 i = 1#1), ∀ a x, ((![v282_r0, v0] : Fin 2 → IVec S16 32) a x).toNat < S1024x16.size a) ∧
  (∀ (k5_h1 : k5_cond1 i = 1#1), ∀ a x, ((![v282_r0, v0] : Fin 2 → IVec S16 32) a x).toNat < S1024x16.size a) ∧
  (∀ (k5_h1 : k5_cond1 i = 1#1), ∀ a x, ((![v282_r0] : Fin 1 → IVec S16 32) a x).toNat < S1024.size a)
theorem k5_idx12_inb : ∀ (i : grid5.Coords) (v0 : IVec S16 32) (k5_t4 : Fin (k5_t4_loop i).trips) (v282_r0 : IVec S16 32) (k5_hw20 : k5_chk20 i v0 k5_t4 v282_r0), ∀ (k5_h1 : k5_cond1 i = 1#1), ∀ a x, ((![v282_r0, v0] : Fin 2 → IVec S16 32) a x).toNat < S1024x16.size a := fun i v0 k5_t4 v282_r0 k5_hw20 k5_h1 => k5_hw20.1 k5_h1
theorem k5_idx13_inb : ∀ (i : grid5.Coords) (v0 : IVec S16 32) (k5_t4 : Fin (k5_t4_loop i).trips) (v282_r0 : IVec S16 32) (k5_hw20 : k5_chk20 i v0 k5_t4 v282_r0), ∀ (k5_h1 : k5_cond1 i = 1#1), ∀ a x, ((![v282_r0, v0] : Fin 2 → IVec S16 32) a x).toNat < S1024x16.size a := fun i v0 k5_t4 v282_r0 k5_hw20 k5_h1 => k5_hw20.2.1 k5_h1
theorem k5_idx14_inb : ∀ (i : grid5.Coords) (v0 : IVec S16 32) (k5_t4 : Fin (k5_t4_loop i).trips) (v282_r0 : IVec S16 32) (k5_hw20 : k5_chk20 i v0 k5_t4 v282_r0), ∀ (k5_h1 : k5_cond1 i = 1#1), ∀ a x, ((![v282_r0] : Fin 1 → IVec S16 32) a x).toNat < S1024.size a := fun i v0 k5_t4 v282_r0 k5_hw20 k5_h1 => k5_hw20.2.2 k5_h1
def k5_off68 (arg19_r0 : BitVec 32) : Fin 3 → Nat :=
  let c2_i32_126_r0 : BitVec 32 := 2#32
  let v193_r0 : BitVec 32 := Scalar.remui arg19_r0 c2_i32_126_r0
  let c0_i32_187_r0 : BitVec 32 := 0#32
  let c0_i32_188_r0 : BitVec 32 := 0#32
  ![v193_r0.toNat, 0, 0]

def k5_chk21 (i : grid5.Coords) (k5_t4 : Fin (k5_t4_loop i).trips) (v282_r0 : IVec S16 32) (v287_r0 : IVec S16 32) : Prop :=
  (∀ (k5_h1 : k5_cond1 i = 1#1), ∀ a x, ((![v282_r0, v287_r0] : Fin 2 → IVec S16 32) a x).toNat < S1024x27.size a)
theorem k5_idx15_inb : ∀ (i : grid5.Coords) (k5_t4 : Fin (k5_t4_loop i).trips) (v282_r0 : IVec S16 32) (v287_r0 : IVec S16 32) (k5_hw21 : k5_chk21 i k5_t4 v282_r0 v287_r0), ∀ (k5_h1 : k5_cond1 i = 1#1), ∀ a x, ((![v282_r0, v287_r0] : Fin 2 → IVec S16 32) a x).toNat < S1024x27.size a := fun i k5_t4 v282_r0 v287_r0 k5_hw21 k5_h1 => k5_hw21 k5_h1
def k5_off69 (arg19_r0 : BitVec 32) : Fin 3 → Nat :=
  let c2_i32_126_r0 : BitVec 32 := 2#32
  let v193_r0 : BitVec 32 := Scalar.remui arg19_r0 c2_i32_126_r0
  let c0_i32_190_r0 : BitVec 32 := 0#32
  let c0_i32_191_r0 : BitVec 32 := 0#32
  ![v193_r0.toNat, 0, 0]

def k5_chk16 (i : grid5.Coords) (k5_t4 : Fin (k5_t4_loop i).trips) (arg19_r0 : BitVec 32) : Prop :=
  (∀ (k5_h1 : k5_cond1 i = 1#1), ∀ a, (k5_off65 arg19_r0) a + S1x1024x27.size a ≤ S2x1024x27.size a) ∧
  (∀ (k5_h1 : k5_cond1 i = 1#1), ∀ a, (k5_off66 arg19_r0) a + S1x1024x27.size a ≤ S2x1024x27.size a) ∧
  (∀ (k5_h1 : k5_cond1 i = 1#1), ∀ a, (k5_off67 arg19_r0) a + S1x1024x27.size a ≤ S2x1024x27.size a) ∧
  (∀ (k5_h1 : k5_cond1 i = 1#1), ∀ a, (k5_off68 arg19_r0) a + S1x1024x27.size a ≤ S2x1024x27.size a) ∧
  (∀ (k5_h1 : k5_cond1 i = 1#1), ∀ a, (k5_off69 arg19_r0) a + S1x1024x27.size a ≤ S2x1024x27.size a)
theorem k5_off65_inb : ∀ (i : grid5.Coords) (k5_t4 : Fin (k5_t4_loop i).trips) (arg19_r0 : BitVec 32) (k5_hw16 : k5_chk16 i k5_t4 arg19_r0), ∀ (k5_h1 : k5_cond1 i = 1#1), ∀ a, (k5_off65 arg19_r0) a + S1x1024x27.size a ≤ S2x1024x27.size a := fun i k5_t4 arg19_r0 k5_hw16 k5_h1 => k5_hw16.1 k5_h1
theorem k5_off66_inb : ∀ (i : grid5.Coords) (k5_t4 : Fin (k5_t4_loop i).trips) (arg19_r0 : BitVec 32) (k5_hw16 : k5_chk16 i k5_t4 arg19_r0), ∀ (k5_h1 : k5_cond1 i = 1#1), ∀ a, (k5_off66 arg19_r0) a + S1x1024x27.size a ≤ S2x1024x27.size a := fun i k5_t4 arg19_r0 k5_hw16 k5_h1 => k5_hw16.2.1 k5_h1
theorem k5_off67_inb : ∀ (i : grid5.Coords) (k5_t4 : Fin (k5_t4_loop i).trips) (arg19_r0 : BitVec 32) (k5_hw16 : k5_chk16 i k5_t4 arg19_r0), ∀ (k5_h1 : k5_cond1 i = 1#1), ∀ a, (k5_off67 arg19_r0) a + S1x1024x27.size a ≤ S2x1024x27.size a := fun i k5_t4 arg19_r0 k5_hw16 k5_h1 => k5_hw16.2.2.1 k5_h1
theorem k5_off68_inb : ∀ (i : grid5.Coords) (k5_t4 : Fin (k5_t4_loop i).trips) (arg19_r0 : BitVec 32) (k5_hw16 : k5_chk16 i k5_t4 arg19_r0), ∀ (k5_h1 : k5_cond1 i = 1#1), ∀ a, (k5_off68 arg19_r0) a + S1x1024x27.size a ≤ S2x1024x27.size a := fun i k5_t4 arg19_r0 k5_hw16 k5_h1 => k5_hw16.2.2.2.1 k5_h1
theorem k5_off69_inb : ∀ (i : grid5.Coords) (k5_t4 : Fin (k5_t4_loop i).trips) (arg19_r0 : BitVec 32) (k5_hw16 : k5_chk16 i k5_t4 arg19_r0), ∀ (k5_h1 : k5_cond1 i = 1#1), ∀ a, (k5_off69 arg19_r0) a + S1x1024x27.size a ≤ S2x1024x27.size a := fun i k5_t4 arg19_r0 k5_hw16 k5_h1 => k5_hw16.2.2.2.2 k5_h1

def k5_chk22 (i : grid5.Coords) (k5_t4 : Fin (k5_t4_loop i).trips) (v282_r0 : IVec S16 32) (v293_r0 : IVec S16 32) : Prop :=
  (∀ (k5_h1 : k5_cond1 i = 1#1), ∀ a x, ((![v282_r0, v293_r0] : Fin 2 → IVec S16 32) a x).toNat < S1024x27.size a)
theorem k5_idx16_inb : ∀ (i : grid5.Coords) (k5_t4 : Fin (k5_t4_loop i).trips) (v282_r0 : IVec S16 32) (v293_r0 : IVec S16 32) (k5_hw22 : k5_chk22 i k5_t4 v282_r0 v293_r0), ∀ (k5_h1 : k5_cond1 i = 1#1), ∀ a x, ((![v282_r0, v293_r0] : Fin 2 → IVec S16 32) a x).toNat < S1024x27.size a := fun i k5_t4 v282_r0 v293_r0 k5_hw22 k5_h1 => k5_hw22 k5_h1
def k5_off70 (arg19_r0 : BitVec 32) : Fin 3 → Nat :=
  let c2_i32_184_r0 : BitVec 32 := 2#32
  let v280_r0 : BitVec 32 := Scalar.remui arg19_r0 c2_i32_184_r0
  let c0_i32_186_r0 : BitVec 32 := 0#32
  let c0_i32_187_r0 : BitVec 32 := 0#32
  ![v280_r0.toNat, 0, 0]
def k5_cond30 (i : grid5.Coords) (k5_t4 : Fin (k5_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_87_r0 : BitVec 1 := 1#1
  let c1_i32_86_r0 : BitVec 32 := 1#32
  let v114_r0 : BitVec 32 := Scalar.addi arg21_r0 c1_i32_86_r0
  let v115_r0 : BitVec 32 := Scalar.select true_87_r0 v114_r0 arg21_r0
  let v116_r0 : BitVec 1 := Scalar.cmpi .eq v115_r0 v8
  let c0_i32_88_r0 : BitVec 32 := 0#32
  let v117_r0 : BitVec 32 := Scalar.select v116_r0 c0_i32_88_r0 v115_r0
  let v118_r0 : BitVec 32 := Scalar.addi v117_r0 v13
  let v231_r0 : BitVec 1 := Scalar.cmpi .ne v107_r0 v118_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k5_t4
  let c1_i32_79_r0 : BitVec 32 := 1#32
  let v103_r0 : BitVec 32 := Scalar.muli c1_i32_79_r0 v8
  let c1_i32_81_r0 : BitVec 32 := 1#32
  let v105_r0 : BitVec 32 := Scalar.subi v103_r0 c1_i32_81_r0
  let v106_r0 : BitVec 1 := Scalar.cmpi .eq arg12_r0 v105_r0
  let v232_r0 : BitVec 1 := Scalar.ori v231_r0 v106_r0
  let v233_r0 : BitVec 32 := Scalar.extui v232_r0
  let c0_i32_162_r0 : BitVec 32 := 0#32
  let v234_r0 : BitVec 1 := Scalar.cmpi .ne v233_r0 c0_i32_162_r0
  v234_r0

def k5_off71 (i : grid5.Coords) (arg21_r0 : BitVec 32) : Fin 2 → Nat :=
  let c1024_i32_185_r0 : BitVec 32 := 1024#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let v281_r0 : BitVec 32 := Scalar.muli c1024_i32_185_r0 v107_r0
  let c0_i32_188_r0 : BitVec 32 := 0#32
  ![v281_r0.toNat, 0]
def k5_off72 (arg19_r0 : BitVec 32) : Fin 1 → Nat :=
  let c2_i32_184_r0 : BitVec 32 := 2#32
  let v280_r0 : BitVec 32 := Scalar.remui arg19_r0 c2_i32_184_r0
  ![v280_r0.toNat]
def k5_off73 (arg20_r0 : BitVec 32) : Fin 3 → Nat :=
  let c2_i32_184_r0 : BitVec 32 := 2#32
  let v280_r0 : BitVec 32 := Scalar.remui arg20_r0 c2_i32_184_r0
  let c0_i32_186_r0 : BitVec 32 := 0#32
  let c0_i32_187_r0 : BitVec 32 := 0#32
  ![v280_r0.toNat, 0, 0]
def k5_cond34 (i : grid5.Coords) (k5_t4 : Fin (k5_t4_loop i).trips) (arg21_r0 : BitVec 32) : BitVec 1 :=
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32_0 : BitVec 32 := 17#32
  let v9 : BitVec 1 := Scalar.cmpi .slt v6 c17_i32_0
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v107_r0 : BitVec 32 := Scalar.addi arg21_r0 v13
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c1_i32_85_r0 : BitVec 32 := 1#32
  let v111_r0 : BitVec 32 := Scalar.subi v8 c1_i32_85_r0
  let v112_r0 : BitVec 32 := Scalar.select v110_r0 v111_r0 v109_r0
  let v113_r0 : BitVec 32 := Scalar.addi v112_r0 v13
  let v256_r0 : BitVec 1 := Scalar.cmpi .ne v107_r0 v113_r0
  let c0_i32_47_r0 : BitVec 32 := 0#32
  let c1_i32_3 : BitVec 32 := 1#32
  let v14 : BitVec 32 := Scalar.muli c1_i32_3 v8
  let v61_r0 : BitVec 32 := Scalar.subi v14 c0_i32_47_r0
  let c1_i32_54_r0 : BitVec 32 := 1#32
  let v63_r0 : BitVec 32 := Scalar.divsi v61_r0 c1_i32_54_r0
  let v64_r0 : BitVec 32 := Scalar.muli v63_r0 c1_i32_54_r0
  let v65_r0 : BitVec 32 := Scalar.addi c0_i32_47_r0 v64_r0
  let c1_i32_56_r0 : BitVec 32 := 1#32
  let arg12_r0 : BitVec 32 := Scf.iv v65_r0 c1_i32_56_r0 k5_t4
  let c0_i32_80_r0 : BitVec 32 := 0#32
  let v104_r0 : BitVec 1 := Scalar.cmpi .eq arg12_r0 c0_i32_80_r0
  let true_174_r0 : BitVec 1 := 1#1
  let v257_r0 : BitVec 1 := Scalar.xori v104_r0 true_174_r0
  let v258_r0 : BitVec 1 := Scalar.andi v256_r0 v257_r0
  let v259_r0 : BitVec 32 := Scalar.extui v258_r0
  let c0_i32_175_r0 : BitVec 32 := 0#32
  let v260_r0 : BitVec 1 := Scalar.cmpi .ne v259_r0 c0_i32_175_r0
  v260_r0

def k5_off74 (i : grid5.Coords) (arg21_r0 : BitVec 32) : Fin 2 → Nat :=
  let c1024_i32_185_r0 : BitVec 32 := 1024#32
  let true_83_r0 : BitVec 1 := 1#1
  let c1_i32_82_r0 : BitVec 32 := 1#32
  let v108_r0 : BitVec 32 := Scalar.subi arg21_r0 c1_i32_82_r0
  let v109_r0 : BitVec 32 := Scalar.select true_83_r0 v108_r0 arg21_r0
  let c_m1_i32_84_r0 : BitVec 32 := 4294967295#32
  let v110_r0 : BitVec 1 := Scalar.cmpi .eq v109_r0 c_m1_i32_84_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_85_r0 : BitVec 32 := 1#32
  let v111_r0 : BitVec 32 := Scalar.subi v8 c1_i32_85_r0
  let v112_r0 : BitVec 32 := Scalar.select v110_r0 v111_r0 v109_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v113_r0 : BitVec 32 := Scalar.addi v112_r0 v13
  let v281_r0 : BitVec 32 := Scalar.muli c1024_i32_185_r0 v113_r0
  let c0_i32_188_r0 : BitVec 32 := 0#32
  ![v281_r0.toNat, 0]
def k5_off75 (arg20_r0 : BitVec 32) : Fin 1 → Nat :=
  let c2_i32_184_r0 : BitVec 32 := 2#32
  let v280_r0 : BitVec 32 := Scalar.remui arg20_r0 c2_i32_184_r0
  ![v280_r0.toNat]

def k5_chk12 (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k5_h1 : k5_cond1 i = 1#1), ∀ (k5_h20 : k5_cond20 i k5_t4 arg21_r0 = 1#1), ∀ a, (k5_off43 arg13_r0) a + S1x1x1024.size a ≤ S2x1x1024.size a) ∧
  (∀ (k5_h1 : k5_cond1 i = 1#1), ∀ (k5_h20 : k5_cond20 i k5_t4 arg21_r0 = 1#1), ∀ a, (k5_off44 i arg21_r0) a + S1x1024.size a ≤ S1x640000.size a) ∧
  (∀ (k5_h1 : k5_cond1 i = 1#1), ∀ (k5_h20 : k5_cond20 i k5_t4 arg21_r0 = 1#1), ∀ a, (k5_off45 arg13_r0) a + S1.size a ≤ S2.size a) ∧
  (∀ (k5_h1 : k5_cond1 i = 1#1), ∀ (k5_h21 : k5_cond21 i k5_t4 arg21_r0 = 1#1), ∀ a, (k5_off46 arg15_r0) a + S1x1x1024.size a ≤ S2x1x1024.size a) ∧
  (∀ (k5_h1 : k5_cond1 i = 1#1), ∀ (k5_h21 : k5_cond21 i k5_t4 arg21_r0 = 1#1), ∀ a, (k5_off47 i arg21_r0) a + S1x1024.size a ≤ S1x640000.size a) ∧
  (∀ (k5_h1 : k5_cond1 i = 1#1), ∀ (k5_h21 : k5_cond21 i k5_t4 arg21_r0 = 1#1), ∀ a, (k5_off48 arg15_r0) a + S1.size a ≤ S2.size a) ∧
  (∀ (k5_h1 : k5_cond1 i = 1#1), ∀ (k5_h22 : k5_cond22 i k5_t4 arg21_r0 = 1#1), ∀ a, (k5_off49 arg17_r0) a + S1x1x1024.size a ≤ S2x1x1024.size a) ∧
  (∀ (k5_h1 : k5_cond1 i = 1#1), ∀ (k5_h22 : k5_cond22 i k5_t4 arg21_r0 = 1#1), ∀ a, (k5_off50 i arg21_r0) a + S1x1024.size a ≤ S1x640000.size a) ∧
  (∀ (k5_h1 : k5_cond1 i = 1#1), ∀ (k5_h22 : k5_cond22 i k5_t4 arg21_r0 = 1#1), ∀ a, (k5_off51 arg17_r0) a + S1.size a ≤ S2.size a) ∧
  (∀ (k5_h1 : k5_cond1 i = 1#1), ∀ (k5_h23 : k5_cond23 i k5_t4 arg21_r0 = 1#1), ∀ a, (k5_off52 arg14_r0) a + S1x1x1024.size a ≤ S2x1x1024.size a) ∧
  (∀ (k5_h1 : k5_cond1 i = 1#1), ∀ (k5_h23 : k5_cond23 i k5_t4 arg21_r0 = 1#1), ∀ a, (k5_off53 i arg21_r0) a + S1x1024.size a ≤ S1x640000.size a) ∧
  (∀ (k5_h1 : k5_cond1 i = 1#1), ∀ (k5_h23 : k5_cond23 i k5_t4 arg21_r0 = 1#1), ∀ a, (k5_off54 arg14_r0) a + S1.size a ≤ S2.size a) ∧
  (∀ (k5_h1 : k5_cond1 i = 1#1), ∀ (k5_h24 : k5_cond24 i k5_t4 arg21_r0 = 1#1), ∀ a, (k5_off55 arg16_r0) a + S1x1x1024.size a ≤ S2x1x1024.size a) ∧
  (∀ (k5_h1 : k5_cond1 i = 1#1), ∀ (k5_h24 : k5_cond24 i k5_t4 arg21_r0 = 1#1), ∀ a, (k5_off56 i arg21_r0) a + S1x1024.size a ≤ S1x640000.size a) ∧
  (∀ (k5_h1 : k5_cond1 i = 1#1), ∀ (k5_h24 : k5_cond24 i k5_t4 arg21_r0 = 1#1), ∀ a, (k5_off57 arg16_r0) a + S1.size a ≤ S2.size a) ∧
  (∀ (k5_h1 : k5_cond1 i = 1#1), ∀ (k5_h25 : k5_cond25 i k5_t4 arg21_r0 = 1#1), ∀ a, (k5_off58 arg18_r0) a + S1x1x1024.size a ≤ S2x1x1024.size a) ∧
  (∀ (k5_h1 : k5_cond1 i = 1#1), ∀ (k5_h25 : k5_cond25 i k5_t4 arg21_r0 = 1#1), ∀ a, (k5_off59 i arg21_r0) a + S1x1024.size a ≤ S1x640000.size a) ∧
  (∀ (k5_h1 : k5_cond1 i = 1#1), ∀ (k5_h25 : k5_cond25 i k5_t4 arg21_r0 = 1#1), ∀ a, (k5_off60 arg18_r0) a + S1.size a ≤ S2.size a) ∧
  (∀ (k5_h1 : k5_cond1 i = 1#1), ∀ (k5_h30 : k5_cond30 i k5_t4 arg21_r0 = 1#1), ∀ a, (k5_off70 arg19_r0) a + S1x1024x27.size a ≤ S2x1024x27.size a) ∧
  (∀ (k5_h1 : k5_cond1 i = 1#1), ∀ (k5_h30 : k5_cond30 i k5_t4 arg21_r0 = 1#1), ∀ a, (k5_off71 i arg21_r0) a + S1024x27.size a ≤ S640000x27.size a) ∧
  (∀ (k5_h1 : k5_cond1 i = 1#1), ∀ (k5_h30 : k5_cond30 i k5_t4 arg21_r0 = 1#1), ∀ a, (k5_off72 arg19_r0) a + S1.size a ≤ S2.size a) ∧
  (∀ (k5_h1 : k5_cond1 i = 1#1), ∀ (k5_h34 : k5_cond34 i k5_t4 arg21_r0 = 1#1), ∀ a, (k5_off73 arg20_r0) a + S1x1024x27.size a ≤ S2x1024x27.size a) ∧
  (∀ (k5_h1 : k5_cond1 i = 1#1), ∀ (k5_h34 : k5_cond34 i k5_t4 arg21_r0 = 1#1), ∀ a, (k5_off74 i arg21_r0) a + S1024x27.size a ≤ S640000x27.size a) ∧
  (∀ (k5_h1 : k5_cond1 i = 1#1), ∀ (k5_h34 : k5_cond34 i k5_t4 arg21_r0 = 1#1), ∀ a, (k5_off75 arg20_r0) a + S1.size a ≤ S2.size a)
theorem k5_off43_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h20 : k5_cond20 i k5_t4 arg21_r0 = 1#1), ∀ a, (k5_off43 arg13_r0) a + S1x1x1024.size a ≤ S2x1x1024.size a := fun i k5_t4 arg13_r0 arg14_r0 arg15_r0 arg16_r0 arg17_r0 arg18_r0 arg19_r0 arg20_r0 arg21_r0 k5_hw12 k5_h1 k5_h20 => k5_hw12.1 k5_h1 k5_h20
theorem k5_off44_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h20 : k5_cond20 i k5_t4 arg21_r0 = 1#1), ∀ a, (k5_off44 i arg21_r0) a + S1x1024.size a ≤ S1x640000.size a := fun i k5_t4 arg13_r0 arg14_r0 arg15_r0 arg16_r0 arg17_r0 arg18_r0 arg19_r0 arg20_r0 arg21_r0 k5_hw12 k5_h1 k5_h20 => k5_hw12.2.1 k5_h1 k5_h20
theorem k5_off45_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h20 : k5_cond20 i k5_t4 arg21_r0 = 1#1), ∀ a, (k5_off45 arg13_r0) a + S1.size a ≤ S2.size a := fun i k5_t4 arg13_r0 arg14_r0 arg15_r0 arg16_r0 arg17_r0 arg18_r0 arg19_r0 arg20_r0 arg21_r0 k5_hw12 k5_h1 k5_h20 => k5_hw12.2.2.1 k5_h1 k5_h20
theorem k5_off46_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h21 : k5_cond21 i k5_t4 arg21_r0 = 1#1), ∀ a, (k5_off46 arg15_r0) a + S1x1x1024.size a ≤ S2x1x1024.size a := fun i k5_t4 arg13_r0 arg14_r0 arg15_r0 arg16_r0 arg17_r0 arg18_r0 arg19_r0 arg20_r0 arg21_r0 k5_hw12 k5_h1 k5_h21 => k5_hw12.2.2.2.1 k5_h1 k5_h21
theorem k5_off47_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h21 : k5_cond21 i k5_t4 arg21_r0 = 1#1), ∀ a, (k5_off47 i arg21_r0) a + S1x1024.size a ≤ S1x640000.size a := fun i k5_t4 arg13_r0 arg14_r0 arg15_r0 arg16_r0 arg17_r0 arg18_r0 arg19_r0 arg20_r0 arg21_r0 k5_hw12 k5_h1 k5_h21 => k5_hw12.2.2.2.2.1 k5_h1 k5_h21
theorem k5_off48_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h21 : k5_cond21 i k5_t4 arg21_r0 = 1#1), ∀ a, (k5_off48 arg15_r0) a + S1.size a ≤ S2.size a := fun i k5_t4 arg13_r0 arg14_r0 arg15_r0 arg16_r0 arg17_r0 arg18_r0 arg19_r0 arg20_r0 arg21_r0 k5_hw12 k5_h1 k5_h21 => k5_hw12.2.2.2.2.2.1 k5_h1 k5_h21
theorem k5_off49_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h22 : k5_cond22 i k5_t4 arg21_r0 = 1#1), ∀ a, (k5_off49 arg17_r0) a + S1x1x1024.size a ≤ S2x1x1024.size a := fun i k5_t4 arg13_r0 arg14_r0 arg15_r0 arg16_r0 arg17_r0 arg18_r0 arg19_r0 arg20_r0 arg21_r0 k5_hw12 k5_h1 k5_h22 => k5_hw12.2.2.2.2.2.2.1 k5_h1 k5_h22
theorem k5_off50_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h22 : k5_cond22 i k5_t4 arg21_r0 = 1#1), ∀ a, (k5_off50 i arg21_r0) a + S1x1024.size a ≤ S1x640000.size a := fun i k5_t4 arg13_r0 arg14_r0 arg15_r0 arg16_r0 arg17_r0 arg18_r0 arg19_r0 arg20_r0 arg21_r0 k5_hw12 k5_h1 k5_h22 => k5_hw12.2.2.2.2.2.2.2.1 k5_h1 k5_h22
theorem k5_off51_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h22 : k5_cond22 i k5_t4 arg21_r0 = 1#1), ∀ a, (k5_off51 arg17_r0) a + S1.size a ≤ S2.size a := fun i k5_t4 arg13_r0 arg14_r0 arg15_r0 arg16_r0 arg17_r0 arg18_r0 arg19_r0 arg20_r0 arg21_r0 k5_hw12 k5_h1 k5_h22 => k5_hw12.2.2.2.2.2.2.2.2.1 k5_h1 k5_h22
theorem k5_off52_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h23 : k5_cond23 i k5_t4 arg21_r0 = 1#1), ∀ a, (k5_off52 arg14_r0) a + S1x1x1024.size a ≤ S2x1x1024.size a := fun i k5_t4 arg13_r0 arg14_r0 arg15_r0 arg16_r0 arg17_r0 arg18_r0 arg19_r0 arg20_r0 arg21_r0 k5_hw12 k5_h1 k5_h23 => k5_hw12.2.2.2.2.2.2.2.2.2.1 k5_h1 k5_h23
theorem k5_off53_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h23 : k5_cond23 i k5_t4 arg21_r0 = 1#1), ∀ a, (k5_off53 i arg21_r0) a + S1x1024.size a ≤ S1x640000.size a := fun i k5_t4 arg13_r0 arg14_r0 arg15_r0 arg16_r0 arg17_r0 arg18_r0 arg19_r0 arg20_r0 arg21_r0 k5_hw12 k5_h1 k5_h23 => k5_hw12.2.2.2.2.2.2.2.2.2.2.1 k5_h1 k5_h23
theorem k5_off54_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h23 : k5_cond23 i k5_t4 arg21_r0 = 1#1), ∀ a, (k5_off54 arg14_r0) a + S1.size a ≤ S2.size a := fun i k5_t4 arg13_r0 arg14_r0 arg15_r0 arg16_r0 arg17_r0 arg18_r0 arg19_r0 arg20_r0 arg21_r0 k5_hw12 k5_h1 k5_h23 => k5_hw12.2.2.2.2.2.2.2.2.2.2.2.1 k5_h1 k5_h23
theorem k5_off55_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h24 : k5_cond24 i k5_t4 arg21_r0 = 1#1), ∀ a, (k5_off55 arg16_r0) a + S1x1x1024.size a ≤ S2x1x1024.size a := fun i k5_t4 arg13_r0 arg14_r0 arg15_r0 arg16_r0 arg17_r0 arg18_r0 arg19_r0 arg20_r0 arg21_r0 k5_hw12 k5_h1 k5_h24 => k5_hw12.2.2.2.2.2.2.2.2.2.2.2.2.1 k5_h1 k5_h24
theorem k5_off56_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h24 : k5_cond24 i k5_t4 arg21_r0 = 1#1), ∀ a, (k5_off56 i arg21_r0) a + S1x1024.size a ≤ S1x640000.size a := fun i k5_t4 arg13_r0 arg14_r0 arg15_r0 arg16_r0 arg17_r0 arg18_r0 arg19_r0 arg20_r0 arg21_r0 k5_hw12 k5_h1 k5_h24 => k5_hw12.2.2.2.2.2.2.2.2.2.2.2.2.2.1 k5_h1 k5_h24
theorem k5_off57_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h24 : k5_cond24 i k5_t4 arg21_r0 = 1#1), ∀ a, (k5_off57 arg16_r0) a + S1.size a ≤ S2.size a := fun i k5_t4 arg13_r0 arg14_r0 arg15_r0 arg16_r0 arg17_r0 arg18_r0 arg19_r0 arg20_r0 arg21_r0 k5_hw12 k5_h1 k5_h24 => k5_hw12.2.2.2.2.2.2.2.2.2.2.2.2.2.2.1 k5_h1 k5_h24
theorem k5_off58_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h25 : k5_cond25 i k5_t4 arg21_r0 = 1#1), ∀ a, (k5_off58 arg18_r0) a + S1x1x1024.size a ≤ S2x1x1024.size a := fun i k5_t4 arg13_r0 arg14_r0 arg15_r0 arg16_r0 arg17_r0 arg18_r0 arg19_r0 arg20_r0 arg21_r0 k5_hw12 k5_h1 k5_h25 => k5_hw12.2.2.2.2.2.2.2.2.2.2.2.2.2.2.2.1 k5_h1 k5_h25
theorem k5_off59_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h25 : k5_cond25 i k5_t4 arg21_r0 = 1#1), ∀ a, (k5_off59 i arg21_r0) a + S1x1024.size a ≤ S1x640000.size a := fun i k5_t4 arg13_r0 arg14_r0 arg15_r0 arg16_r0 arg17_r0 arg18_r0 arg19_r0 arg20_r0 arg21_r0 k5_hw12 k5_h1 k5_h25 => k5_hw12.2.2.2.2.2.2.2.2.2.2.2.2.2.2.2.2.1 k5_h1 k5_h25
theorem k5_off60_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h25 : k5_cond25 i k5_t4 arg21_r0 = 1#1), ∀ a, (k5_off60 arg18_r0) a + S1.size a ≤ S2.size a := fun i k5_t4 arg13_r0 arg14_r0 arg15_r0 arg16_r0 arg17_r0 arg18_r0 arg19_r0 arg20_r0 arg21_r0 k5_hw12 k5_h1 k5_h25 => k5_hw12.2.2.2.2.2.2.2.2.2.2.2.2.2.2.2.2.2.1 k5_h1 k5_h25
theorem k5_off70_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h30 : k5_cond30 i k5_t4 arg21_r0 = 1#1), ∀ a, (k5_off70 arg19_r0) a + S1x1024x27.size a ≤ S2x1024x27.size a := fun i k5_t4 arg13_r0 arg14_r0 arg15_r0 arg16_r0 arg17_r0 arg18_r0 arg19_r0 arg20_r0 arg21_r0 k5_hw12 k5_h1 k5_h30 => k5_hw12.2.2.2.2.2.2.2.2.2.2.2.2.2.2.2.2.2.2.1 k5_h1 k5_h30
theorem k5_off71_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h30 : k5_cond30 i k5_t4 arg21_r0 = 1#1), ∀ a, (k5_off71 i arg21_r0) a + S1024x27.size a ≤ S640000x27.size a := fun i k5_t4 arg13_r0 arg14_r0 arg15_r0 arg16_r0 arg17_r0 arg18_r0 arg19_r0 arg20_r0 arg21_r0 k5_hw12 k5_h1 k5_h30 => k5_hw12.2.2.2.2.2.2.2.2.2.2.2.2.2.2.2.2.2.2.2.1 k5_h1 k5_h30
theorem k5_off72_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h30 : k5_cond30 i k5_t4 arg21_r0 = 1#1), ∀ a, (k5_off72 arg19_r0) a + S1.size a ≤ S2.size a := fun i k5_t4 arg13_r0 arg14_r0 arg15_r0 arg16_r0 arg17_r0 arg18_r0 arg19_r0 arg20_r0 arg21_r0 k5_hw12 k5_h1 k5_h30 => k5_hw12.2.2.2.2.2.2.2.2.2.2.2.2.2.2.2.2.2.2.2.2.1 k5_h1 k5_h30
theorem k5_off73_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h34 : k5_cond34 i k5_t4 arg21_r0 = 1#1), ∀ a, (k5_off73 arg20_r0) a + S1x1024x27.size a ≤ S2x1024x27.size a := fun i k5_t4 arg13_r0 arg14_r0 arg15_r0 arg16_r0 arg17_r0 arg18_r0 arg19_r0 arg20_r0 arg21_r0 k5_hw12 k5_h1 k5_h34 => k5_hw12.2.2.2.2.2.2.2.2.2.2.2.2.2.2.2.2.2.2.2.2.2.1 k5_h1 k5_h34
theorem k5_off74_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h34 : k5_cond34 i k5_t4 arg21_r0 = 1#1), ∀ a, (k5_off74 i arg21_r0) a + S1024x27.size a ≤ S640000x27.size a := fun i k5_t4 arg13_r0 arg14_r0 arg15_r0 arg16_r0 arg17_r0 arg18_r0 arg19_r0 arg20_r0 arg21_r0 k5_hw12 k5_h1 k5_h34 => k5_hw12.2.2.2.2.2.2.2.2.2.2.2.2.2.2.2.2.2.2.2.2.2.2.1 k5_h1 k5_h34
theorem k5_off75_inb : ∀ (i : grid5.Coords) (k5_t4 : Fin (k5_t4_loop i).trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k5_hw12 : k5_chk12 i k5_t4 arg13_r0 arg14_r0 arg15_r0 arg16_r0 arg17_r0 arg18_r0 arg19_r0 arg20_r0 arg21_r0), ∀ (k5_h1 : k5_cond1 i = 1#1), ∀ (k5_h34 : k5_cond34 i k5_t4 arg21_r0 = 1#1), ∀ a, (k5_off75 arg20_r0) a + S1.size a ≤ S2.size a := fun i k5_t4 arg13_r0 arg14_r0 arg15_r0 arg16_r0 arg17_r0 arg18_r0 arg19_r0 arg20_r0 arg21_r0 k5_hw12 k5_h1 k5_h34 => k5_hw12.2.2.2.2.2.2.2.2.2.2.2.2.2.2.2.2.2.2.2.2.2.2.2 k5_h1 k5_h34

def k5_cond38 (i : grid5.Coords) : BitVec 1 :=
  let c1_i32_3 : BitVec 32 := 1#32
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let v14 : BitVec 32 := Scalar.muli c1_i32_3 v8
  let c1_i32_61_r0 : BitVec 32 := 1#32
  let v73_r0 : BitVec 32 := Scalar.subi v14 c1_i32_61_r0
  let c1_i32_62_r0 : BitVec 32 := 1#32
  let v74_r0 : BitVec 32 := Scalar.muli c1_i32_62_r0 v8
  let c1_i32_64_r0 : BitVec 32 := 1#32
  let v76_r0 : BitVec 32 := Scalar.subi v74_r0 c1_i32_64_r0
  let v77_r0 : BitVec 1 := Scalar.cmpi .eq v73_r0 v76_r0
  let v101_r0 : BitVec 32 := Scalar.extui v77_r0
  let c0_i32_78_r0 : BitVec 32 := 0#32
  let v102_r0 : BitVec 1 := Scalar.cmpi .ne v101_r0 c0_i32_78_r0
  v102_r0

def k5_off76 (v67_7_r0 : BitVec 32) : Fin 3 → Nat :=
  let c2_i32_r0 : BitVec 32 := 2#32
  let v103_r0 : BitVec 32 := Scalar.remui v67_7_r0 c2_i32_r0
  let c0_i32_79_r0 : BitVec 32 := 0#32
  let c0_i32_80_r0 : BitVec 32 := 0#32
  ![v103_r0.toNat, 0, 0]

def k5_off77 (i : grid5.Coords) (v67_8_r0 : BitVec 32) : Fin 2 → Nat :=
  let c1024_i32_r0 : BitVec 32 := 1024#32
  let true_58_r0 : BitVec 1 := 1#1
  let c1_i32_57_r0 : BitVec 32 := 1#32
  let v68_r0 : BitVec 32 := Scalar.subi v67_8_r0 c1_i32_57_r0
  let v69_r0 : BitVec 32 := Scalar.select true_58_r0 v68_r0 v67_8_r0
  let c_m1_i32_59_r0 : BitVec 32 := 4294967295#32
  let v70_r0 : BitVec 1 := Scalar.cmpi .eq v69_r0 c_m1_i32_59_r0
  let c0_i32 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32 v3
  let arg0 : BitVec 32 := BitVec.ofNat 32 (i 0).val
  let c16_i32 : BitVec 32 := 16#32
  let v5 : BitVec 32 := Scalar.muli arg0 c16_i32
  let v6 : BitVec 32 := Scalar.addi v4 v5
  let c17_i32 : BitVec 32 := 17#32
  let v7 : BitVec 1 := Scalar.cmpi .slt v6 c17_i32
  let c20_i32 : BitVec 32 := 20#32
  let c19_i32 : BitVec 32 := 19#32
  let v8 : BitVec 32 := Scalar.select v7 c20_i32 c19_i32
  let c1_i32_60_r0 : BitVec 32 := 1#32
  let v71_r0 : BitVec 32 := Scalar.subi v8 c1_i32_60_r0
  let v72_r0 : BitVec 32 := Scalar.select v70_r0 v71_r0 v69_r0
  let c17_i32_0 : BitVec 32 := 17#32
  let v9 : BitVec 1 := Scalar.cmpi .slt v6 c17_i32_0
  let v10 : BitVec 32 := Scalar.muli v6 v8
  let c19_i32_1 : BitVec 32 := 19#32
  let v11 : BitVec 32 := Scalar.muli v6 c19_i32_1
  let c17_i32_2 : BitVec 32 := 17#32
  let v12 : BitVec 32 := Scalar.addi v11 c17_i32_2
  let v13 : BitVec 32 := Scalar.select v9 v10 v12
  let v78_r0 : BitVec 32 := Scalar.addi v72_r0 v13
  let v104_r0 : BitVec 32 := Scalar.muli c1024_i32_r0 v78_r0
  let c0_i32_81_r0 : BitVec 32 := 0#32
  ![v104_r0.toNat, 0]

def k5_chk24 (i : grid5.Coords) (v67_8_r0 : BitVec 32) : Prop :=
  (∀ (k5_h1 : k5_cond1 i = 1#1), ∀ (k5_h38 : k5_cond38 i = 1#1), ∀ a, (k5_off77 i v67_8_r0) a + S1024x27.size a ≤ S640000x27.size a)
theorem k5_off77_inb : ∀ (i : grid5.Coords) (v67_8_r0 : BitVec 32) (k5_hw24 : k5_chk24 i v67_8_r0), ∀ (k5_h1 : k5_cond1 i = 1#1), ∀ (k5_h38 : k5_cond38 i = 1#1), ∀ a, (k5_off77 i v67_8_r0) a + S1024x27.size a ≤ S640000x27.size a := fun i v67_8_r0 k5_hw24 k5_h1 k5_h38 => k5_hw24 k5_h1 k5_h38

def k5_off78 (v67_7_r0 : BitVec 32) : Fin 1 → Nat :=
  let c2_i32_r0 : BitVec 32 := 2#32
  let v103_r0 : BitVec 32 := Scalar.remui v67_7_r0 c2_i32_r0
  ![v103_r0.toNat]
def k5_off79 (v67_7_r0 : BitVec 32) : Fin 3 → Nat :=
  let c2_i32_r0 : BitVec 32 := 2#32
  let v103_r0 : BitVec 32 := Scalar.remui v67_7_r0 c2_i32_r0
  let c0_i32_83_r0 : BitVec 32 := 0#32
  let c0_i32_84_r0 : BitVec 32 := 0#32
  ![v103_r0.toNat, 0, 0]

def k5_chk23 (i : grid5.Coords) (v67_7_r0 : BitVec 32) : Prop :=
  (∀ (k5_h1 : k5_cond1 i = 1#1), ∀ (k5_h38 : k5_cond38 i = 1#1), ∀ a, (k5_off76 v67_7_r0) a + S1x1024x27.size a ≤ S2x1024x27.size a) ∧
  (∀ (k5_h1 : k5_cond1 i = 1#1), ∀ (k5_h38 : k5_cond38 i = 1#1), ∀ a, (k5_off78 v67_7_r0) a + S1.size a ≤ S2.size a) ∧
  (∀ (k5_h1 : k5_cond1 i = 1#1), ∀ (k5_h38 : k5_cond38 i = 1#1), ∀ a, (k5_off79 v67_7_r0) a + S1x1024x27.size a ≤ S2x1024x27.size a)
theorem k5_off76_inb : ∀ (i : grid5.Coords) (v67_7_r0 : BitVec 32) (k5_hw23 : k5_chk23 i v67_7_r0), ∀ (k5_h1 : k5_cond1 i = 1#1), ∀ (k5_h38 : k5_cond38 i = 1#1), ∀ a, (k5_off76 v67_7_r0) a + S1x1024x27.size a ≤ S2x1024x27.size a := fun i v67_7_r0 k5_hw23 k5_h1 k5_h38 => k5_hw23.1 k5_h1 k5_h38
theorem k5_off78_inb : ∀ (i : grid5.Coords) (v67_7_r0 : BitVec 32) (k5_hw23 : k5_chk23 i v67_7_r0), ∀ (k5_h1 : k5_cond1 i = 1#1), ∀ (k5_h38 : k5_cond38 i = 1#1), ∀ a, (k5_off78 v67_7_r0) a + S1.size a ≤ S2.size a := fun i v67_7_r0 k5_hw23 k5_h1 k5_h38 => k5_hw23.2.1 k5_h1 k5_h38
theorem k5_off79_inb : ∀ (i : grid5.Coords) (v67_7_r0 : BitVec 32) (k5_hw23 : k5_chk23 i v67_7_r0), ∀ (k5_h1 : k5_cond1 i = 1#1), ∀ (k5_h38 : k5_cond38 i = 1#1), ∀ a, (k5_off79 v67_7_r0) a + S1x1024x27.size a ≤ S2x1024x27.size a := fun i v67_7_r0 k5_hw23 k5_h1 k5_h38 => k5_hw23.2.2 k5_h1 k5_h38

abbrev scKind : Fin 6 → Kind := fun | 0 => .scVector | 1 => .scVector | 2 => .scVector | 3 => .scVector | 4 => .scVector | 5 => .scVector | ⟨_ + 6, h⟩ => absurd h (Nat.not_lt.2 (Nat.le_add_left _ _))
abbrev scNCore : Fin 6 → Nat := fun | 0 => 2 | 1 => 2 | 2 => 2 | 3 => 2 | 4 => 2 | 5 => 2 | ⟨_ + 6, h⟩ => absurd h (Nat.not_lt.2 (Nat.le_add_left _ _))
abbrev scNSub : Fin 6 → Nat := fun | 0 => 16 | 1 => 16 | 2 => 16 | 3 => 16 | 4 => 16 | 5 => 16 | ⟨_ + 6, h⟩ => absurd h (Nat.not_lt.2 (Nat.le_add_left _ _))
-- ==== KernelIdeal.lean ====
variable {F : FTy → Type} [FloatOps F] [Named F]
def κ : String → Option EReal := fun
  | "fifth" => some ((5⁻¹ : ℝ) : EReal)
  | _ => none
-- ==== ReferenceIdeal.lean ====
abbrev S100000x2 : Shape := ⟨2, ![100000, 2]⟩
abbrev S100x12 : Shape := ⟨2, ![100, 12]⟩
abbrev S3200000x2 : Shape := ⟨2, ![3200000, 2]⟩
abbrev S3200000 : Shape := ⟨1, ![3200000]⟩
abbrev S_ : Shape := ⟨0, ![]⟩
abbrev S3200000x2x1 : Shape := ⟨3, ![3200000, 2, 1]⟩
abbrev S3200000x2x2 : Shape := ⟨3, ![3200000, 2, 2]⟩
abbrev S1 : Shape := ⟨1, ![1]⟩
abbrev S1x1x1 : Shape := ⟨3, ![1, 1, 1]⟩
abbrev S3200000x2x12 : Shape := ⟨3, ![3200000, 2, 12]⟩
abbrev S3200000x1 : Shape := ⟨2, ![3200000, 1]⟩
abbrev S3200000x1x12 : Shape := ⟨3, ![3200000, 1, 12]⟩
abbrev S3200000x12 : Shape := ⟨2, ![3200000, 12]⟩
abbrev S3200000x24 : Shape := ⟨2, ![3200000, 24]⟩
abbrev S3200000x27 : Shape := ⟨2, ![3200000, 27]⟩

abbrev nBuf : Space → Nat
  | .hbm => 60
  | .vmem => 0
  | .smem => 0
  | _ => 0

abbrev bufTy : (tb : Table) → Fin (tcTables nBuf tb) → BufTy
  | .hbm, ⟨0, _⟩ => ⟨S100000x2, .i32⟩
  | .hbm, ⟨1, _⟩ => ⟨S100x12, .f32⟩
  | .hbm, ⟨2, _⟩ => ⟨S3200000x2, .i32⟩
  | .hbm, ⟨3, _⟩ => ⟨S3200000, .f32⟩
  | .hbm, ⟨4, _⟩ => ⟨S_, .i32⟩
  | .hbm, ⟨5, _⟩ => ⟨S3200000x2, .i32⟩
  | .hbm, ⟨6, _⟩ => ⟨S3200000x2, .i1⟩
  | .hbm, ⟨7, _⟩ => ⟨S_, .i32⟩
  | .hbm, ⟨8, _⟩ => ⟨S3200000x2, .i32⟩
  | .hbm, ⟨9, _⟩ => ⟨S3200000x2, .i32⟩
  | .hbm, ⟨10, _⟩ => ⟨S3200000x2, .i32⟩
  | .hbm, ⟨11, _⟩ => ⟨S_, .i32⟩
  | .hbm, ⟨12, _⟩ => ⟨S3200000x2, .i32⟩
  | .hbm, ⟨13, _⟩ => ⟨S3200000x2, .i32⟩
  | .hbm, ⟨14, _⟩ => ⟨S3200000x2x1, .i32⟩
  | .hbm, ⟨15, _⟩ => ⟨S3200000x2x1, .i32⟩
  | .hbm, ⟨16, _⟩ => ⟨S3200000x2x2, .i32⟩
  | .hbm, ⟨17, _⟩ => ⟨S3200000x2, .i32⟩
  | .hbm, ⟨18, _⟩ => ⟨S_, .i32⟩
  | .hbm, ⟨19, _⟩ => ⟨S3200000x2, .i32⟩
  | .hbm, ⟨20, _⟩ => ⟨S3200000x2, .i1⟩
  | .hbm, ⟨21, _⟩ => ⟨S_, .i32⟩
  | .hbm, ⟨22, _⟩ => ⟨S3200000x2, .i32⟩
  | .hbm, ⟨23, _⟩ => ⟨S3200000x2, .i32⟩
  | .hbm, ⟨24, _⟩ => ⟨S3200000x2, .i32⟩
  | .hbm, ⟨25, _⟩ => ⟨S3200000x2x1, .i32⟩
  | .hbm, ⟨26, _⟩ => ⟨S1, .i32⟩
  | .hbm, ⟨27, _⟩ => ⟨S_, .i32⟩
  | .hbm, ⟨28, _⟩ => ⟨S3200000x2x1, .i32⟩
  | .hbm, ⟨29, _⟩ => ⟨S3200000x2x1, .i1⟩
  | .hbm, ⟨30, _⟩ => ⟨S1x1x1, .i32⟩
  | .hbm, ⟨31, _⟩ => ⟨S3200000x2x1, .i32⟩
  | .hbm, ⟨32, _⟩ => ⟨S3200000x2x1, .i1⟩
  | .hbm, ⟨33, _⟩ => ⟨S3200000x2x1, .i1⟩
  | .hbm, ⟨34, _⟩ => ⟨S_, .i1⟩
  | .hbm, ⟨35, _⟩ => ⟨S3200000x2, .i1⟩
  | .hbm, ⟨36, _⟩ => ⟨S3200000x2x12, .f32⟩
  | .hbm, ⟨37, _⟩ => ⟨S3200000x2x12, .i1⟩
  | .hbm, ⟨38, _⟩ => ⟨S_, .f32⟩
  | .hbm, ⟨39, _⟩ => ⟨S3200000x2x12, .f32⟩
  | .hbm, ⟨40, _⟩ => ⟨S3200000x2x12, .f32⟩
  | .hbm, ⟨41, _⟩ => ⟨S3200000x1, .f32⟩
  | .hbm, ⟨42, _⟩ => ⟨S3200000x1x12, .f32⟩
  | .hbm, ⟨43, _⟩ => ⟨S3200000x12, .f32⟩
  | .hbm, ⟨44, _⟩ => ⟨S3200000x12, .f32⟩
  | .hbm, ⟨45, _⟩ => ⟨S3200000x12, .f32⟩
  | .hbm, ⟨46, _⟩ => ⟨S_, .i32⟩
  | .hbm, ⟨47, _⟩ => ⟨S1, .i32⟩
  | .hbm, ⟨48, _⟩ => ⟨S3200000x2x12, .f32⟩
  | .hbm, ⟨49, _⟩ => ⟨S3200000x24, .f32⟩
  | .hbm, ⟨50, _⟩ => ⟨S3200000x1, .f32⟩
  | .hbm, ⟨51, _⟩ => ⟨S_, .f32⟩
  | .hbm, ⟨52, _⟩ => ⟨S3200000x1, .f32⟩
  | .hbm, ⟨53, _⟩ => ⟨S3200000x1, .f32⟩
  | .hbm, ⟨54, _⟩ => ⟨S_, .f32⟩
  | .hbm, ⟨55, _⟩ => ⟨S3200000x1, .f32⟩
  | .hbm, ⟨56, _⟩ => ⟨S3200000x1, .f32⟩
  | .hbm, ⟨57, _⟩ => ⟨S3200000x27, .f32⟩
  | .hbm, ⟨58, _⟩ => ⟨S3200000x1, .i32⟩
  | .hbm, ⟨59, _⟩ => ⟨S3200000, .i32⟩
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst : Ref sig .tc := ⟨.hbm, 51, rfl⟩
abbrev main_v21 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩

abbrev nD : Nat := 1
abbrev τ : Topo := Topo.v7x

variable {F : FTy → Type} [FloatOps F]
-- ==== Proof.Rules.lean ====
/-
  The rules of a tile's operations in terms of `owns`: each says what a memref READS before and after, so that the
  tile's invariants speak of values alone. The memrefs that the program spells are matched with the canonical ones
  (a slot, a block) by equations.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Memref
public import Idealize.ShloMosaic.Lib.Tactic

@[expose] public section

noncomputable section

namespace Cert.Proof.Rules

open Idealize.ShloMosaic
open Idealize.SL
open Idealize.SL.BI (sProp)
open scoped Idealize.SL.BI
open Idealize.SL.BI.BIBase Idealize.SL.BI.Laws Idealize.SL.Sem Idealize.SL.ProofMode
open Idealize.SL.RA

/-! ## Views -/

section Views

variable {nD : Nat} {τ : Topo} {sig : RefSig} {Val : EltTy → Type}
variable {Ix : Type} [DecidableEq Ix] {Name : Type} [DecidableEq Name] {U : Type} [URA U] {Lvl : Type}
variable {sp : Space} {s s' : Shape} {e : EltTy}

local notation "𝕄" => MT nD τ sig Ix Val Name U Lvl

/-- What a memref was written with is what it reads. -/
theorem owns_of_write (c : Thread nD τ) (m : Memref sig c.2.kind sp s e) (q : PosShare TreeShare)
    (f : m.view.ty.Contents Val) (w : s.Idx → Val e) :
    (m.view.loc c ↦[m.view.set]{q} (m.view.write Val f w Finset.univ) : sProp 𝕄) ⊢ owns c m q w := by
  refine (owns_intro c m q _).trans (Entails.of_eq ?_)
  rw [View.read_write_univ]

/-- A squeezed memref owns what the memref owns, at the contents re-indexed. -/
theorem owns_squeeze (c : Thread nD τ) (m : Memref sig c.2.kind sp s e) (h' : s.Squeezes s') (q : PosShare TreeShare)
    (X : s.Idx → Val e) :
    (owns c (m.squeeze s' h') q (fun i => X (Shape.reshapeEquiv h'.numel_eq i)) : sProp 𝕄) = owns c m q X := by
  have hset : (m.squeeze s' h').view.set = m.view.set := View.set_reshape _ _
  have hread (f : m.view.ty.Contents Val) : (m.squeeze s' h').view.read Val f = fun i => m.view.read Val f (Shape.reshapeEquiv h'.numel_eq i) := rfl
  have h₁ : (owns c (m.squeeze s' h') q (fun i => X (Shape.reshapeEquiv h'.numel_eq i)) : sProp 𝕄) ⊢ owns c m q X := by
    unfold owns
    iintro ⟨%f, %hf, H⟩
    iexists f
    isplitr
    · ipureintro
      rw [hread] at hf
      funext x
      have := congrFun hf ((Shape.reshapeEquiv h'.numel_eq).symm x)
      simpa using this
    · rw [← hset]; iexact H
  have h₂ : owns c m q X ⊢ (owns c (m.squeeze s' h') q (fun i => X (Shape.reshapeEquiv h'.numel_eq i)) : sProp 𝕄) := by
    unfold owns
    iintro ⟨%f, %hf, H⟩
    iexists f
    isplitr
    · ipureintro; rw [hread, hf]
    · rw [hset]; iexact H
  exact BI.equiv_iff.mp ⟨h₁, h₂⟩

/-- A slice of all of a memref owns what the memref owns. -/
theorem owns_all (c : Thread nD τ) (m : Memref sig c.2.kind sp s e) (off : Fin s.rank → Nat) (h0 : off = fun _ => 0)
    (h : ∀ a, off a + s.size a ≤ s.size a) (hr : ∀ a, (Rect.unit off s.size h).stride a = 1) (q : PosShare TreeShare) (X : s.Idx → Val e) :
    (owns c (m.slice (Rect.unit off s.size h) hr) q X : sProp 𝕄) = owns c m q X := by
  subst h0
  have hset : (m.slice (Rect.whole s) hr).view.set = m.view.set := by
    show (m.view.slice (Rect.whole s)).set = _
    rw [View.set_slice, Rect.set_whole]; rfl
  have hread (f : m.view.ty.Contents Val) : (m.slice (Rect.whole s) hr).view.read Val f = m.view.read Val f := by
    funext x
    show m.view.read Val f ((Rect.whole s).emb x) = _
    rw [Rect.emb_whole_apply]
  have h₁ : (owns c (m.slice (Rect.whole s) hr) q X : sProp 𝕄) ⊢ owns c m q X := by
    unfold owns
    iintro ⟨%f, %hf, H⟩
    iexists f
    isplitr
    · ipureintro; rw [← hf]; exact (hread f).symm
    · rw [← hset]; iexact H
  have h₂ : owns c m q X ⊢ (owns c (m.slice (Rect.whole s) hr) q X : sProp 𝕄) := by
    unfold owns
    iintro ⟨%f, %hf, H⟩
    iexists f
    isplitr
    · ipureintro; rw [← hf]; exact hread f
    · rw [hset]; iexact H
  exact BI.equiv_iff.mp ⟨h₁, h₂⟩

/-- An access to all of a memref goes through its elements, -/
theorem set_access_all {κ : Kind} (m : Memref sig κ sp s e) : (m.access (.whole s)).set = m.view.set := by
  show (m.view.slice (Rect.whole s)).set = _
  rw [View.set_slice, Rect.set_whole]; rfl

/-- and reads what the memref reads. -/
theorem read_access_all {κ : Kind} (m : Memref sig κ sp s e) (f : m.view.ty.Contents Val) :
    (m.access (.whole s)).read Val f = m.view.read Val f := by
  funext x
  show m.view.read Val f ((Rect.whole s).emb x) = _
  rw [Rect.emb_whole_apply]

end Views

/-! ## Operations -/

section Ops

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp sp' : Space} {s₀ s t si : Shape} {e : EltTy} {a : Nat} {α : Type} {Q : α → sProp (MT nD τ sig Ix (Elt F) Name U Lvl)}

local notation "𝕄" => MT nD τ sig Ix (Elt F) Name U Lvl

/-- What a thread owes, with the waits that it has done so far: those of `W`, and others at the index `ι`. -/
def Due (ι : Ix) (O : CellTallies nD τ sig Ix) (W : Waits sig Ix) : sProp 𝕄 :=
  iprop(∃ W', ⌜∀ p ∈ W', p ∈ W ∨ p.2 = ι⌝ ∗ owes c O W')

theorem owns_open (c : Thread nD τ) (m : Memref sig c.2.kind sp s e) (q : PosShare TreeShare) (X : s.Idx → Elt F e) :
    (owns c m q X : sProp 𝕄) ⊢ iprop(∃ f, ⌜m.view.read (Elt F) f = X⌝ ∗ m.view.loc c ↦[m.view.set]{q} f) := .rfl

theorem due_intro (ι : Ix) (O : CellTallies nD τ sig Ix) (W : Waits sig Ix) : (owes c O W : sProp 𝕄) ⊢ Due c ι O W := by
  unfold Due
  iintro H
  iexists W
  isplitr
  · ipureintro; exact fun p hp => Or.inl hp
  · iexact H

/-- A local copy is issued: the two memrefs go in, and its flight delivers them with the destination reading what
    the source reads. -/
theorem wp_copy [Infinite Name] [EC.LandsIn (upEmb : UEmb _ 𝕄)] {src src₀ : Memref sig c.2.kind sp s e}
    {dst dst₀ : Memref sig c.2.kind sp' s e} {sm sm₀ : SemLoc sig} {hsrc : src.view.WordExact} {hdst : dst.view.WordExact}
    {hsem : DmaTarget.Typed (nD := nD) sp sm (.here dst)} {k : PUnit → Prog (TpuEff nD τ sig (Elt F) Λ c.2) α}
    {q : PosShare TreeShare} {X Y : s.Idx → Elt F e} (ι : Ix) (N : ℕ) (hs : src = src₀) (hd : dst = dst₀) (hm : sm = sm₀)
    (hN : dst₀.view.amount sm₀ = N) (h0 : 0 < N) :
    iprop(owns c src₀ q X ∗ owns c dst₀ fullShare Y ∗ semVal (c, sm₀) 0)
      ⊢ iprop((Transfers.Flight EC c sm₀ ι N iprop(owns c dst₀ fullShare X ∗ owns c src₀ q X)
            -∗ wp frame (wpE defs 𝒱 c bd) Set.univ (k ⟨⟩) Q)
          -∗ wp frame (wpE defs 𝒱 c bd) Set.univ (.op (.enqueueDma src (.here dst) sm hsrc hdst hsem) k) Q) := by
  subst hs hd hm
  iintro ⟨Hs, Hd, Hv⟩ Hk
  ihave Hs := (owns_open c src q X) $$ Hs
  icases Hs with ⟨%fs, %hfs, Hs⟩
  ihave Hd := (owns_open c dst fullShare Y) $$ Hd
  icases Hd with ⟨%fd, -, Hd⟩
  iapply (Transfers.wp_dmaLocal EC 𝒱 c bd (via := .same) ι N hN h0 (Sd := dst.view.set) subset_rfl) $$ [Hs Hd Hv]
  · isplitl [Hs]; · iexact Hs
    isplitl [Hd]; · iexact Hd
    iexact Hv
  iintro Hf
  iapply Hk
  iapply (Transfers.Flight_mono EC c (D' := iprop(owns c dst fullShare X ∗ owns c src q X)) ?_) $$ Hf
  iintro ⟨Hd, Hs⟩
  isplitl [Hd]
  · rw [← hfs]; iapply (owns_of_write c dst fullShare _ _) $$ Hd
  · rw [← hfs]; iapply (owns_intro c src q fs) $$ Hs

/-- A flight is waited for: it hands out what it delivers, and the counter is at zero again. -/
theorem wp_wait [EC.LandsIn (upEmb : UEmb _ 𝕄)] {s' : Shape} {e' : EltTy} {κ' : Kind} {sem sem₀ : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hm : sem = sem₀) (hN : dstw.view.dmaCredit = N) {D : sProp 𝕄}
    {O : CellTallies nD τ sig Ix} {W : Waits sig Ix} :
    iprop(Transfers.Flight EC c (.dma sem₀) ι N D ∗ Due c ι O W ∗ Transfers.MayWaits c ι O)
      ⊢ iprop((iprop(D ∗ semVal (c, .dma sem₀) 0 ∗ Due c ι O W) -∗ wp frame (wpE defs 𝒱 c bd) Set.univ (k ⟨⟩) Q)
          -∗ wp frame (wpE defs 𝒱 c bd) Set.univ (.op (.waitDma2 sem srcw dstw hsrc hdst) k) Q) := by
  subst hm
  unfold Due
  iintro ⟨Hf, ⟨%W', %hW, HO⟩, Hmw⟩ Hk
  ihave Hm := (Transfers.MayWaits.elim (SemLoc.dma sem)) $$ Hmw
  iapply (Transfers.wp_waitLocalO EC 𝒱 c bd ι hN (D := D) (O := O) (W := W')) $$ [Hf HO Hm]
  · isplitl [Hf]; · iexact Hf
    isplitl [HO]; · iexact HO
    iexact Hm
  iintro ⟨HD, Hv, HO⟩
  iapply Hk
  isplitl [HD]; · iexact HD
  isplitl [Hv]; · iexact Hv
  iexists (insert (SemLoc.dma sem, ι) W')
  isplitr
  · ipureintro
    intro p hp
    rcases Finset.mem_insert.mp hp with h | h
    · right; rw [h]
    · exact hW p h
  · iexact HO

open SparseCore in
/-- An indirect gather is issued: the flight delivers the destination reading the named rows of the source. -/
theorem wp_gather [Infinite Name] [EC.LandsIn (upEmb : UEmb _ 𝕄)]
    {src src₀ : Memref sig c.2.kind sp s₀ e} {dst : Memref sig c.2.kind .vmem s e} {hg : s₀.Gathers a s}
    {offs offs₀ : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {X : s₀.Idx → Elt F e} {Y : s.Idx → Elt F e} {V : si.Idx → Elt F .i32}
    (ι : Ix) (N : ℕ) (hs₀ : src = src₀) (ho₀ : offs = offs₀)
    (hN : ∑ j, (dst.slice (s.rowRect hg.axis' j) (s.stride_rowRect hg.axis' j)).view.dmaCredit = N)
    (hs : 0 < s.numel) (hin : ∀ x, (V x).toNat < s₀.size hg.axis) :
    iprop(owns c src₀ q X ∗ owns c dst fullShare Y ∗ owns c offs₀ qo V ∗ semVal (c, SemLoc.dma sem) 0)
      ⊢ iprop((Transfers.Flight EC c (.dma sem) ι N
                iprop(owns c dst fullShare (gatherPayload hg X (rows V hn hin)) ∗ owns c src₀ q X ∗ owns c offs₀ qo V)
              -∗ wp frame (wpE defs 𝒱 c bd) Set.univ (k ⟨⟩) Q)
          -∗ wp frame (wpE defs 𝒱 c bd) Set.univ (enqueueIndirectGather hp src dst hg offs hn sem hsrc he hsp hr >>= k) Q) := by
  subst hs₀ ho₀
  iintro ⟨Hs, Hd, Ho, Hv⟩ Hk
  ihave Hs := (owns_open c src q X) $$ Hs
  icases Hs with ⟨%fs, %hfs, Hs⟩
  ihave Hd := (owns_open c dst fullShare Y) $$ Hd
  icases Hd with ⟨%fd, -, Hd⟩
  ihave Ho := (owns_open c offs qo V) $$ Ho
  icases Ho with ⟨%fo, %hfo, Ho⟩
  subst hfs hfo
  iapply (wp_indirectGatherLocal EC 𝒱 c bd (hg := hg) (hn := hn) (hr := hr) (fs := fs) (fd := fd) (fo := fo) ι N hN hs hin) $$ [Hs Hd Ho Hv]
  · isplitl [Hs]; · iexact Hs
    isplitl [Hd]; · iexact Hd
    isplitl [Ho]; · iexact Ho
    iexact Hv
  iintro Hf
  iapply Hk
  iapply (Transfers.Flight_mono EC c ?_) $$ Hf
  iintro ⟨Hd, Hs, Ho⟩
  isplitl [Hd]
  · iapply (owns_of_write c dst fullShare _ _) $$ Hd
  isplitl [Hs]
  · iapply (owns_intro c src q fs) $$ Hs
  · iapply (owns_intro c offs qo fo) $$ Ho

variable (E : Set Name)

open SparseCore in
/-- An indexed load reads the elements that its index vectors name. -/
theorem wp_loadIdx {base base₀ : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {X : s.Idx → Elt F e} (hb : base = base₀) :
    owns c base₀ q X
      ⊢ iprop((owns c base₀ q X -∗ wp frame (wpE defs 𝒱 c bd) E (k (loadIdx X idxs h)) Q)
        -∗ wp frame (wpE defs 𝒱 c bd) E (vectorLoadIdx base idxs h hl >>= k) Q) := by
  subst hb
  unfold owns
  iintro ⟨%f, %hf, H⟩ Hk
  subst hf
  iapply (wp_vectorLoadIdx 𝒱 c bd E (base := base) (f := f) (S := base.view.set) (q := q) (by rw [set_access_all])) $$ H
  iintro H
  rw [read_access_all]
  iapply Hk
  iexists f
  isplitr
  · ipureintro; rfl
  · iexact H

open SparseCore in
/-- An indexed store writes the elements that its index vectors name on the lanes of its mask. -/
theorem wp_storeIdx {d : Fin 1 → Nat} {base base₀ : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {X : s.Idx → Elt F e} (hb : base = base₀) :
    owns c base₀ fullShare X
      ⊢ iprop((owns c base₀ fullShare (storeIdx X idxs v mask add h) -∗ wp frame (wpE defs 𝒱 c bd) E (k ⟨⟩) Q)
        -∗ wp frame (wpE defs 𝒱 c bd) E (vectorStoreIdx base idxs v mask add h hs >>= k) Q) := by
  subst hb
  iintro H Hk
  unfold owns
  icases H with ⟨%f, %hf, H⟩
  subst hf
  iapply (wp_vectorStoreIdx 𝒱 c bd E (base := base) (f := f)) $$ [H]
  · rw [set_access_all]; iexact H
  iintro H
  iapply Hk
  iexists (base.access (.whole s)).write (Elt F) f
    (storeIdx ((base.access (.whole s)).read (Elt F) f) idxs v mask add ‹_›) Finset.univ
  isplitr
  · ipureintro
    have h := View.read_write_univ (v := base.access (.whole s)) f
      (storeIdx ((base.access (.whole s)).read (Elt F) f) idxs v mask add ‹_›)
    rw [← read_access_all, h, read_access_all]
  · rw [← set_access_all]; iexact H

/-- A load through a rectangle reads its part of what the memref reads. -/
theorem wp_loadAt {cs : CoreSpace} {m m₀ : Memref sig c.2.kind cs s e} {r : Rect s} {hl : m.view.LoadsAt r}
    {k : (r.shape.Idx → Elt F e) → Prog (TpuEff nD τ sig (Elt F) Λ c.2) α} {q : PosShare TreeShare} {X : s.Idx → Elt F e} (hm : m = m₀) :
    owns c m₀ q X
      ⊢ iprop((owns c m₀ q X -∗ wp frame (wpE defs 𝒱 c bd) E (k (fun j => X (r.emb j))) Q)
        -∗ wp frame (wpE defs 𝒱 c bd) E (.op (.load m r.toLoadRect hl) k) Q) := by
  subst hm
  unfold owns
  iintro ⟨%f, %hf, H⟩ Hk
  subst hf
  iapply (wp_load_rect 𝒱 c bd E (m := m) (r := r) (S := m.view.set) (q := q) (f := f)
    (by rw [View.set_slice]; exact View.setOn_subset_set _ _)) $$ H
  iintro H
  iapply Hk
  iexists f
  isplitr
  · ipureintro; rfl
  · iexact H

/-- A store through a rectangle replaces its part of what the memref reads. -/
theorem wp_storeAt {cs : CoreSpace} {m m₀ : Memref sig c.2.kind cs s e} {r : Rect s} {w : r.shape.Idx → Elt F e}
    {hx : (m.access r).Stores Finset.univ} {hr : Finset.univ = Finset.univ ∨ ∀ a, r.stride a = 1}
    {k : PUnit → Prog (TpuEff nD τ sig (Elt F) Λ c.2) α} {X : s.Idx → Elt F e} (hm : m = m₀) :
    owns c m₀ fullShare X
      ⊢ iprop((owns c m₀ fullShare (r.overlay X w) -∗ wp frame (wpE defs 𝒱 c bd) E (k ⟨⟩) Q)
        -∗ wp frame (wpE defs 𝒱 c bd) E (.op (.store m r w Finset.univ hx hr) k) Q) := by
  subst hm
  unfold owns
  iintro ⟨%f, %hf, H⟩ Hk
  subst hf
  iapply (wp_store 𝒱 c bd E (m := m) (r := r) (S := m.view.set) (f := f)
    (by rw [View.setOn_univ, View.set_slice]; exact View.setOn_subset_set _ _)) $$ H
  iintro H
  iapply Hk
  iexists (m.access r).write (Elt F) f w Finset.univ
  isplitr
  · ipureintro
    funext j
    by_cases hj : j ∈ r.set
    · rw [← Rect.map_emb_univ] at hj
      obtain ⟨i, -, rfl⟩ := Finset.mem_map.mp hj
      rw [Rect.overlay_emb]
      exact View.read_slice_write_emb r f w (Finset.mem_univ i)
    · rw [Rect.overlay_of_not_mem _ _ _ hj]
      exact View.read_slice_write_of_not_mem r f w Finset.univ (by rwa [Rect.map_emb_univ])
  · iexact H

end Ops

end Cert.Proof.Rules
-- ==== Proof.Streams.lean ====
/-
  The two-slot streams of a tile's pipeline: blocks of an array in main memory go in turn through the two slots of a
  buffer. An input stream has the next block on its way while a block is worked on; an output stream has the block
  before on its way back. Each state below is what a tile holds of one stream before its trip `k`.
-/
module

public import proofs.«01_k».proof.Proof.Rules

@[expose] public section

noncomputable section

namespace Cert.Proof.Rules

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA

/-- A stream of `cnt` blocks: step `k` takes block `blk k` of the array, with contents `B k`, through slot `slot k`
    and semaphore `sem k`; the contents of an output block are what the tile is to write. -/
structure Flow (sig : RefSig) (κ : Kind) (s : Shape) (e : EltTy) (F : FTy → Type) where
  cnt : ℕ
  slot : ℕ → Memref sig κ .vmem s e
  sem : ℕ → DmaSem sig
  blk : ℕ → Memref sig κ .hbm s e
  B : ℕ → s.Idx → Elt F e
  credit : ℕ

/-- There are two slots, and a copy of a block moves a fixed amount. -/
structure Flow.Ok {sig : RefSig} {κ : Kind} {s : Shape} {e : EltTy} {F : FTy → Type} (S : Flow sig κ s e F) : Prop where
  slot_two : ∀ k, S.slot (k + 2) = S.slot k
  sem_two : ∀ k, S.sem (k + 2) = S.sem k
  pos : 0 < S.credit
  slot_credit : ∀ k, (S.slot k).view.dmaCredit = S.credit
  blk_credit : ∀ k, (S.blk k).view.dmaCredit = S.credit

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {s : Shape} {e : EltTy} {α : Type} {Q : α → sProp (MT nD τ sig Ix (Elt F) Name U Lvl)}

local notation "𝕄" => MT nD τ sig Ix (Elt F) Name U Lvl

theorem bigSep_cons {I : Type} [DecidableEq I] {s : Finset I} {i : I} (hi : i ∉ s) (Φ : I → sProp 𝕄) :
    bigSep (insert i s) Φ = iprop(Φ i ∗ bigSep s Φ) := BI.bigSep_insert hi

theorem Ico_cons {k n : ℕ} (h : k < n) : Finset.Ico k n = insert k (Finset.Ico (k + 1) n) := by
  ext x; simp only [Finset.mem_Ico, Finset.mem_insert]; omega

namespace Flow

variable (S : Flow sig c.2.kind s e F) (ι : Ix)

/-- A slot that is free: its contents are any, its semaphore is at zero. -/
def free (k : ℕ) : sProp 𝕄 := iprop((∃ Y, owns c (S.slot k) fullShare Y) ∗ semVal (c, SemLoc.dma (S.sem k)) 0)

theorem free_two (h : S.Ok) (k : ℕ) : (S.free c (k + 2) : sProp 𝕄) = S.free c k := by
  unfold free; rw [h.slot_two, h.sem_two]

/-! ### Input -/

/-- A block on its way in. -/
def inFlight (k : ℕ) : sProp 𝕄 :=
  Transfers.Flight EC c (.dma (S.sem k)) ι S.credit iprop(owns c (S.slot k) fullShare (S.B k) ∗ owns c (S.blk k) fullShare (S.B k))

/-- The blocks from `k` on, and those before `k`. -/
def inTodo (k : ℕ) : sProp 𝕄 := bigSep (Finset.Ico k S.cnt) fun j => owns c (S.blk j) fullShare (S.B j)
def inDone (k : ℕ) : sProp 𝕄 := bigSep (Finset.range k) fun j => owns c (S.blk j) fullShare (S.B j)

/-- Block `k` on its way, if there is one; else its slot free. -/
def coming (k : ℕ) : sProp 𝕄 := if k < S.cnt then iprop(S.inFlight EC c ι k ∗ S.inTodo c (k + 1)) else S.free c k

theorem inTodo_step {k : ℕ} (h : k < S.cnt) : (S.inTodo c k : sProp 𝕄) ⊢ iprop(owns c (S.blk k) fullShare (S.B k) ∗ S.inTodo c (k + 1)) := by
  unfold inTodo
  rw [Ico_cons h, bigSep_cons (by simp)]

theorem inDone_step (k : ℕ) : (iprop(S.inDone c k ∗ owns c (S.blk k) fullShare (S.B k)) : sProp 𝕄) ⊢ S.inDone c (k + 1) := by
  unfold inDone
  rw [Finset.range_add_one, bigSep_cons (by simp)]
  iintro ⟨H₁, H₂⟩
  isplitl [H₂] <;> iassumption

theorem inDone_zero : (S.inDone c 0 : sProp 𝕄) = iprop(emp) := by
  unfold inDone; rw [Finset.range_zero]; rfl

/-- The next block is asked for, where there is one. -/
theorem wp_issue_in [Infinite Name] [EC.LandsIn (upEmb : UEmb _ 𝕄)] (hS : S.Ok) {k : ℕ} {b : BitVec 1}
    {src : b = 1#1 → Memref sig c.2.kind .hbm s e} {dst : b = 1#1 → Memref sig c.2.kind .vmem s e} {sm : b = 1#1 → SemLoc sig}
    {hsrc : ∀ h, (src h).view.WordExact} {hdst : ∀ h, (dst h).view.WordExact}
    {hsem : ∀ h, DmaTarget.Typed (nD := nD) .hbm (sm h) (.here (dst h))} {kk : Prog (TpuEff nD τ sig (Elt F) Λ c.2) α}
    (hb : b = if k < S.cnt then 1#1 else 0#1)
    (hs : ∀ h, src h = S.blk k) (hd : ∀ h, dst h = S.slot k) (hm : ∀ h, sm h = .dma (S.sem k)) :
    iprop(S.free c k ∗ S.inTodo c k)
      ⊢ iprop((S.coming EC c ι k -∗ wp frame (wpE defs 𝒱 c bd) Set.univ kk Q)
          -∗ wp frame (wpE defs 𝒱 c bd) Set.univ
            (if h : b = 1#1 then
              (Prog.lift (TpuEff.enqueueDma (src h) (.here (dst h)) (sm h) (hsrc h) (hdst h) (hsem h)) >>= fun _ => kk) else kk) Q) := by
  iintro ⟨Hf, Ht⟩ Hk
  by_cases hk : k < S.cnt
  · rw [if_pos hk] at hb
    rw [dif_pos hb]
    simp only [Prog.lift, Prog.bind_op, Prog.bind_ret, Prog.pure_eq_ret]
    unfold free
    icases Hf with ⟨⟨%Y, Hs⟩, Hv⟩
    ihave Ht := (S.inTodo_step c hk) $$ Ht
    icases Ht with ⟨Hb, Ht⟩
    iapply (wp_copy EC 𝒱 c bd ι S.credit (hs hb) (hd hb) (hm hb) (hS.slot_credit k) hS.pos) $$ [Hb Hs Hv]
    · isplitl [Hb]; · iexact Hb
      isplitl [Hs]; · iexact Hs
      iexact Hv
    iintro Hfl
    iapply Hk
    unfold coming inFlight
    rw [if_pos hk]
    isplitl [Hfl]
    · iexact Hfl
    · iexact Ht
  · rw [if_neg hk] at hb
    rw [dif_neg (by rw [hb]; decide)]
    iapply Hk
    unfold coming
    rw [if_neg hk]
    iexact Hf

/-- The block on its way is waited for: its slot reads it. -/
theorem wp_wait_in [EC.LandsIn (upEmb : UEmb _ 𝕄)] (hS : S.Ok) {k : ℕ} {b : BitVec 1}
    {src : b = 1#1 → Memref sig c.2.kind .hbm s e} {dst : b = 1#1 → Memref sig c.2.kind .vmem s e} {sm : b = 1#1 → DmaSem sig}
    {hsrc : ∀ h, (src h).view.WordExact} {hdst : ∀ h, (dst h).view.WordExact} {kk : Prog (TpuEff nD τ sig (Elt F) Λ c.2) α}
    {O : CellTallies nD τ sig Ix} {W : Waits sig Ix}
    (hb : b = 1#1) (hd : ∀ h, dst h = S.slot k) (hm : ∀ h, sm h = S.sem k) :
    iprop(S.inFlight EC c ι k ∗ S.inDone c k ∗ Due c ι O W ∗ Transfers.MayWaits c ι O)
      ⊢ iprop((iprop(owns c (S.slot k) fullShare (S.B k) ∗ semVal (c, SemLoc.dma (S.sem k)) 0 ∗ S.inDone c (k + 1) ∗ Due c ι O W)
            -∗ wp frame (wpE defs 𝒱 c bd) Set.univ kk Q)
          -∗ wp frame (wpE defs 𝒱 c bd) Set.univ
            (if h : b = 1#1 then (Prog.lift (TpuEff.waitDma2 (sm h) (src h) (dst h) (hsrc h) (hdst h)) >>= fun _ => kk) else kk) Q) := by
  iintro ⟨Hf, Hd, HO, Hmw⟩ Hk
  rw [dif_pos hb]
  simp only [Prog.lift, Prog.bind_op, Prog.bind_ret, Prog.pure_eq_ret]
  unfold inFlight
  iapply (wp_wait EC 𝒱 c bd ι (N := S.credit) (hm hb) (by rw [hd hb]; exact hS.slot_credit k)) $$ [Hf HO Hmw]
  · isplitl [Hf]; · iexact Hf
    isplitl [HO]; · iexact HO
    iexact Hmw
  iintro ⟨⟨Hs, Hb⟩, Hv, HO⟩
  iapply Hk
  isplitl [Hs]; · iexact Hs
  isplitl [Hv]; · iexact Hv
  isplitl [Hd Hb]
  · iapply (S.inDone_step c k)
    isplitl [Hd] <;> iassumption
  · iexact HO

/-! ### Output -/

/-- A block on its way out. -/
def outFlight (k : ℕ) : sProp 𝕄 :=
  Transfers.Flight EC c (.dma (S.sem k)) ι S.credit iprop(owns c (S.blk k) fullShare (S.B k) ∗ owns c (S.slot k) fullShare (S.B k))

/-- The blocks not yet written, from `k` on. -/
def outTodo (k : ℕ) : sProp 𝕄 := bigSep (Finset.Ico k S.cnt) fun j => iprop(∃ Y, owns c (S.blk j) fullShare Y)

theorem outTodo_step {k : ℕ} (h : k < S.cnt) : (S.outTodo c k : sProp 𝕄) ⊢ iprop((∃ Y, owns c (S.blk k) fullShare Y) ∗ S.outTodo c (k + 1)) := by
  unfold outTodo
  rw [Ico_cons h, bigSep_cons (by simp)]

/-- The block before `k` on its way, if there is one; else its slot free. -/
def leaving (k : ℕ) : sProp 𝕄 := if 0 < k then S.outFlight EC c ι (k - 1) else S.free c (k + 1)

/-- The block that the slot reads is sent. -/
theorem wp_issue_out [Infinite Name] [EC.LandsIn (upEmb : UEmb _ 𝕄)] (hS : S.Ok) {k : ℕ} {b : BitVec 1}
    {dst : b = 1#1 → Memref sig c.2.kind .hbm s e} {src : b = 1#1 → Memref sig c.2.kind .vmem s e} {sm : b = 1#1 → SemLoc sig}
    {hsrc : ∀ h, (src h).view.WordExact} {hdst : ∀ h, (dst h).view.WordExact}
    {hsem : ∀ h, DmaTarget.Typed (nD := nD) .vmem (sm h) (.here (dst h))} {kk : Prog (TpuEff nD τ sig (Elt F) Λ c.2) α}
    (hb : b = 1#1) (hk : k < S.cnt)
    (hs : ∀ h, src h = S.slot k) (hd : ∀ h, dst h = S.blk k) (hm : ∀ h, sm h = .dma (S.sem k)) :
    iprop(owns c (S.slot k) fullShare (S.B k) ∗ semVal (c, SemLoc.dma (S.sem k)) 0 ∗ S.outTodo c k)
      ⊢ iprop((iprop(S.outFlight EC c ι k ∗ S.outTodo c (k + 1)) -∗ wp frame (wpE defs 𝒱 c bd) Set.univ kk Q)
          -∗ wp frame (wpE defs 𝒱 c bd) Set.univ
            (if h : b = 1#1 then
              (Prog.lift (TpuEff.enqueueDma (src h) (.here (dst h)) (sm h) (hsrc h) (hdst h) (hsem h)) >>= fun _ => kk) else kk) Q) := by
  iintro ⟨Hs, Hv, Ht⟩ Hk
  rw [dif_pos hb]
  simp only [Prog.lift, Prog.bind_op, Prog.bind_ret, Prog.pure_eq_ret]
  ihave Ht := (S.outTodo_step c hk) $$ Ht
  icases Ht with ⟨⟨%Y, Hb⟩, Ht⟩
  iapply (wp_copy EC 𝒱 c bd ι S.credit (hs hb) (hd hb) (hm hb) (hS.blk_credit k) hS.pos) $$ [Hb Hs Hv]
  · isplitl [Hs]; · iexact Hs
    isplitl [Hb]; · iexact Hb
    iexact Hv
  iintro Hfl
  iapply Hk
  unfold outFlight
  isplitl [Hfl]
  · iexact Hfl
  · iexact Ht

/-- The block before is waited for, where there is one. -/
theorem wp_wait_out [EC.LandsIn (upEmb : UEmb _ 𝕄)] (hS : S.Ok) {k : ℕ} {b : BitVec 1}
    {dst : b = 1#1 → Memref sig c.2.kind .hbm s e} {src : b = 1#1 → Memref sig c.2.kind .vmem s e} {sm : b = 1#1 → DmaSem sig}
    {hsrc : ∀ h, (src h).view.WordExact} {hdst : ∀ h, (dst h).view.WordExact} {kk : Prog (TpuEff nD τ sig (Elt F) Λ c.2) α}
    {O : CellTallies nD τ sig Ix} {W : Waits sig Ix}
    (hb : b = if 0 < k then 1#1 else 0#1) (hd : ∀ h, 0 < k → dst h = S.blk (k - 1)) (hm : ∀ h, 0 < k → sm h = S.sem (k - 1)) :
    iprop(S.leaving EC c ι k ∗ S.inDone c (k - 1) ∗ Due c ι O W ∗ Transfers.MayWaits c ι O)
      ⊢ iprop((iprop(S.free c (k + 1) ∗ S.inDone c k ∗ Due c ι O W) -∗ wp frame (wpE defs 𝒱 c bd) Set.univ kk Q)
          -∗ wp frame (wpE defs 𝒱 c bd) Set.univ
            (if h : b = 1#1 then (Prog.lift (TpuEff.waitDma2 (sm h) (src h) (dst h) (hsrc h) (hdst h)) >>= fun _ => kk) else kk) Q) := by
  unfold leaving
  by_cases hk : 0 < k
  · obtain ⟨k, rfl⟩ : ∃ j, k = j + 1 := ⟨k - 1, by omega⟩
    rw [if_pos hk] at hb ⊢
    rw [dif_pos hb]
    simp only [Prog.lift, Prog.bind_op, Prog.bind_ret, Prog.pure_eq_ret, Nat.add_sub_cancel] at hm hd ⊢
    unfold outFlight
    iintro ⟨Hf, Hd, HO, Hmw⟩ Hk
    iapply (wp_wait EC 𝒱 c bd ι (N := S.credit) (hm hb hk) (by rw [hd hb hk]; exact hS.blk_credit k)) $$ [Hf HO Hmw]
    · isplitl [Hf]; · iexact Hf
      isplitl [HO]; · iexact HO
      iexact Hmw
    iintro ⟨⟨Hb, Hs⟩, Hv, HO⟩
    iapply Hk
    isplitl [Hs Hv]
    · rw [show k + 1 + 1 = k + 2 from rfl, S.free_two c hS]
      unfold free
      isplitl [Hs]
      · iexists (S.B k); iexact Hs
      · iexact Hv
    isplitl [Hd Hb]
    · iapply (S.inDone_step c k)
      isplitl [Hd] <;> iassumption
    · iexact HO
  · obtain rfl : k = 0 := by omega
    rw [if_neg hk] at hb ⊢
    rw [dif_neg (by rw [hb]; decide)]
    iintro ⟨Hf, Hd, HO, Hmw⟩ Hk
    iapply Hk
    isplitl [Hf]; · iexact Hf
    isplitl [Hd] <;> iassumption

end Flow

end Cert.Proof.Rules
-- ==== Proof.Deal.lean ====
/-
  An array in main memory dealt out to the tiles: each tile gets a run of consecutive blocks, and the runs together are
  all the blocks. A table that every tile reads is dealt out by shares instead.
-/
module

public import proofs.«01_k».proof.Proof.Rules
public import Idealize.ShloMosaic.Lib.ShareLeaves
public import Idealize.ShloMosaic.Lib.SparseCore.Quiescent
public import proofs.«01_k».proof.Proof.Streams
public import proofs.«01_k».proof.Proof.Gen.KernelIdeal.Skeleton

@[expose] public section

noncomputable section

namespace Cert.Proof.Deal

open Idealize.ShloMosaic Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.SparseCore (V)
open Idealize.ShloMosaic.SparseCore.Cfg (ownBufs ownSems0 ownCells ownRefs mem_ownCells)

variable {F : FTy → Type} {e : EltTy}
variable {Ix : Type} [DecidableEq Ix] {Name : Type} [DecidableEq Name] {U : Type} [URA U] {Lvl : Type} [Preorder Lvl]

local notation "𝕄" => MT nD τ sig Ix (Elt F) Name U Lvl

/-- A tile: its SparseCore and its number there. -/
abbrev Tile : Type := Fin 2 × Fin 16

theorem sep_univ_fin {n : ℕ} (Φ : ℕ → sProp 𝕄) : bigSep (Finset.univ : Finset (Fin n)) (fun t => Φ t.val) = bigSep (Finset.range n) Φ := by
  have h : (Finset.univ : Finset (Fin n)).map Fin.valEmbedding = Finset.range n := by
    ext b; simp only [Finset.mem_map, Finset.mem_univ, _root_.true_and, Fin.valEmbedding_apply, Finset.mem_range]
    exact ⟨fun ⟨a, h⟩ => h ▸ a.isLt, fun h => ⟨⟨b, h⟩, rfl⟩⟩
  rw [← h, BI.bigSep_map]; rfl

theorem sep_union {I J : Type} [DecidableEq I] [DecidableEq J] (s : Finset J) (t : J → Finset I)
    (hd : ∀ j ∈ s, ∀ j' ∈ s, j ≠ j' → Disjoint (t j) (t j')) (Φ : I → sProp 𝕄) :
    bigSep (s.biUnion t) Φ = bigSep s fun j => bigSep (t j) Φ := by
  induction s using Finset.induction_on with
  | empty => rw [Finset.biUnion_empty, BI.bigSep_empty, BI.bigSep_empty]
  | insert j s hj ih =>
    rw [Finset.biUnion_insert, BI.bigSep_insert hj, ← ih fun a ha b hb h => hd a (Finset.mem_insert_of_mem ha) b (Finset.mem_insert_of_mem hb) h]
    refine BI.bigSep_union ((Finset.disjoint_biUnion_right _ _ _).mpr fun k hk => ?_)
    exact hd j (Finset.mem_insert_self _ _) k (Finset.mem_insert_of_mem hk) fun e => hj (e ▸ hk)

/-- The blocks, each tile's run after the other's. -/
theorem sep_runs {n : ℕ} (cnt base : Tile → ℕ) (hlt : ∀ t, base t + cnt t ≤ n)
    (hinj : ∀ t t', t ≠ t' → base t + cnt t ≤ base t' ∨ base t' + cnt t' ≤ base t)
    (hsur : ∀ b, b < n → ∃ t, base t ≤ b ∧ b < base t + cnt t) (Φ : ℕ → sProp 𝕄) :
    bigSep (Finset.range n) Φ = bigSep Finset.univ fun t => bigSep (Finset.range (cnt t)) fun k => Φ (base t + k) := by
  have hu : Finset.range n = (Finset.univ : Finset Tile).biUnion fun t => (Finset.range (cnt t)).map (addLeftEmbedding (base t)) := by
    ext b
    simp only [Finset.mem_range, Finset.mem_biUnion, Finset.mem_univ, _root_.true_and, Finset.mem_map, addLeftEmbedding_apply]
    constructor
    · intro hb
      obtain ⟨t, h₁, h₂⟩ := hsur b hb
      exact ⟨t, b - base t, by omega, by omega⟩
    · rintro ⟨t, k, hk, rfl⟩
      have := hlt t; omega
  rw [hu, sep_union]
  · exact BI.bigSep_congr fun t _ => by rw [BI.bigSep_map]; rfl
  · intro t _ t' _ hne
    refine Finset.disjoint_left.mpr fun b hb hb' => ?_
    simp only [Finset.mem_range, Finset.mem_map, addLeftEmbedding_apply] at hb hb'
    obtain ⟨k, hk, rfl⟩ := hb
    obtain ⟨k', hk', h⟩ := hb'
    have := hinj t t' hne; omega

variable [∀ e, Nonempty (Elt F e)]

/-- An array is its blocks, dealt out. -/
theorem owns_deal (c : Thread nD τ) {sp : Space} {sh : Shape} (m : Memref sig c.2.kind sp sh e) (X : sh.Idx → Elt F e) {n : ℕ} (r : ℕ → Rect sh)
    (hr : ∀ b a, (r b).stride a = 1) (hd : ∀ b < n, ∀ b' < n, b ≠ b' → Disjoint (r b).set (r b').set) (hcov : ∀ x, ∃ b < n, x ∈ (r b).set)
    (cnt base : Tile → ℕ) (hlt : ∀ t, base t + cnt t ≤ n)
    (hinj : ∀ t t', t ≠ t' → base t + cnt t ≤ base t' ∨ base t' + cnt t' ≤ base t)
    (hsur : ∀ b, b < n → ∃ t, base t ≤ b ∧ b < base t + cnt t) :
    (owns c m fullShare X : sProp 𝕄)
      = bigSep Finset.univ fun t => bigSep (Finset.range (cnt t)) fun k => owns c (m.slice (r (base t + k)) (hr _)) fullShare fun j => X ((r (base t + k)).emb j) := by
  rw [← sep_runs cnt base hlt hinj hsur (fun b => owns c (m.slice (r b) (hr b)) fullShare fun j => X ((r b).emb j)), ← sep_univ_fin]
  have hd' : ∀ t t' : Fin n, t ≠ t' → Disjoint (r t.val).set (r t'.val).set := fun t t' h => hd _ t.isLt _ t'.isLt fun h' => h (Fin.ext h')
  have hc' : (Finset.univ : Finset (Fin n)).biUnion (fun t => (r t.val).set) = Finset.univ := by
    ext x; simp only [Finset.mem_biUnion, Finset.mem_univ, _root_.true_and, iff_true]
    obtain ⟨b, hb, hx⟩ := hcov x
    exact ⟨⟨b, hb⟩, hx⟩
  exact BI.Entails.antisymm (owns_rects c m fullShare (fun t : Fin n => r t.val) (fun t => hr _) hd' hc' X)
    (owns_of_rects c m fullShare (fun t : Fin n => r t.val) (fun t => hr _) hd' hc' X)

/-- The tiles' numbers. -/
def number : Tile ≃ Fin (2 ^ 5) := finProdFinEquiv.trans (finCongr (by decide))

/-- The share of tile `t`. -/
def share (t : Tile) : PosShare TreeShare := ShareLeaves.leaf 5 fullShare (number t)

/-- A table, dealt out by shares. -/
theorem table_deal (ℓ : Loc nD τ sig) (g : Buf (Elt F) ℓ) :
    (ℓ ↦{fullShare} g : sProp 𝕄) = bigSep Finset.univ fun t => ℓ ↦{share t} g := by
  rw [ShareLeaves.pointsTo_leaves Finset.univ g 5 fullShare, BI.bigSep_univ_equiv number]; rfl

theorem halves (ℓ : Loc nD τ sig) (g : Buf (Elt F) ℓ) (q : PosShare TreeShare) :
    (ℓ ↦{q} g : sProp 𝕄) = iprop((ℓ ↦{q.left} g) ∗ ℓ ↦{q.right} g) :=
  BI.Entails.antisymm (pointsTo_share (PosShare.mem_left_op_right q)).1 (pointsTo_share (PosShare.mem_left_op_right q)).2

/-- Something is held of it. -/
theorem some_contents (c : Thread nD τ) {sp : Space} {sh : Shape} (m : Memref sig c.2.kind sp sh e) (q : PosShare TreeShare) (X : sh.Idx → Elt F e) :
    (owns c m q X : sProp 𝕄) ⊢ iprop(∃ Y, owns c m q Y) := by
  iintro H
  iexists X; iexact H

section Glue

variable {sh : Shape} {T : Type} (r : T → Rect sh) (hd : ∀ t t', t ≠ t' → Disjoint (r t).set (r t').set) (Y : ∀ t, (r t).shape.Idx → Elt F e)

open Classical in
/-- The array whose parts are `Y`. -/
def glue (x : sh.Idx) : Elt F e :=
  if h : ∃ p : (Σ t, (r t).shape.Idx), (r p.1).emb p.2 = x then Y h.choose.1 h.choose.2 else Classical.arbitrary (Elt F e)

include hd in
theorem glue_emb (t : T) (j : (r t).shape.Idx) : glue r Y ((r t).emb j) = Y t j := by
  have h : ∃ p : (Σ t, (r t).shape.Idx), (r p.1).emb p.2 = (r t).emb j := ⟨⟨t, j⟩, rfl⟩
  have hp : h.choose = ⟨t, j⟩ := by
    have hs := h.choose_spec
    generalize h.choose = p at hs
    obtain ⟨t', j'⟩ := p
    by_cases e : t' = t
    · subst e
      exact congrArg (Sigma.mk t') ((r t').emb.injective hs)
    · have h₁ : (r t').emb j' ∈ (r t').set := (r t').map_emb_univ ▸ Finset.mem_map_of_mem _ (Finset.mem_univ j')
      have h₂ : (r t).emb j ∈ (r t).set := (r t).map_emb_univ ▸ Finset.mem_map_of_mem _ (Finset.mem_univ j)
      exact absurd h₂ (Finset.disjoint_left.mp (hd t' t e) (hs ▸ h₁))
  unfold glue
  rw [dif_pos h, hp]

end Glue

section Pieces

variable (c : Thread nD τ) {sp : Space} {sh : Shape} (m : Memref sig c.2.kind sp sh e) {T : Type} [Fintype T] [DecidableEq T] (r : T → Rect sh)
  (hr : ∀ t a, (r t).stride a = 1) (hd : ∀ t t', t ≠ t' → Disjoint (r t).set (r t').set)
  (hcov : (Finset.univ : Finset T).biUnion (fun t => (r t).set) = Finset.univ)
include hd hcov

/-- An array at some contents is its parts at some contents, -/
theorem pieces_open : (iprop(∃ Y, owns c m fullShare Y) : sProp 𝕄) ⊢ bigSep Finset.univ fun t => iprop(∃ Y, owns c (m.slice (r t) (hr t)) fullShare Y) := by
  iintro ⟨%Y, H⟩
  ihave H := (owns_rects c m fullShare r hr hd hcov Y) $$ H
  iapply (show (bigSep Finset.univ (fun t => owns c (m.slice (r t) (hr t)) fullShare fun j => Y ((r t).emb j)) : sProp 𝕄) ⊢ _ from
    BI.bigSep_mono fun t _ => some_contents c (m.slice (r t) (hr t)) fullShare _) $$ H

/-- and conversely. -/
theorem pieces_close : (bigSep Finset.univ fun t => iprop(∃ Y, owns c (m.slice (r t) (hr t)) fullShare Y) : sProp 𝕄) ⊢ iprop(∃ Y, owns c m fullShare Y) := by
  classical
  refine (BI.bigSep_exists_pi Finset.univ fun t Y => owns c (m.slice (r t) (hr t)) fullShare Y).trans ?_
  iintro ⟨%Y, H⟩
  iexists glue r Y
  iapply (owns_of_rects c m fullShare r hr hd hcov _)
  iapply (Entails.of_eq (show (bigSep Finset.univ (fun t => owns c (m.slice (r t) (hr t)) fullShare (Y t)) : sProp 𝕄)
      = bigSep Finset.univ fun t => owns c (m.slice (r t) (hr t)) fullShare fun j => glue r Y ((r t).emb j) from
    BI.bigSep_congr fun t _ => by rw [show (fun j => glue r Y ((r t).emb j)) = Y t from funext (glue_emb r hd Y t)])) $$ H

end Pieces

/-! ### Double buffers -/

section Slots

variable (c : Thread nD τ) {sp : Space} {sh s' : Shape} (m : Memref sig c.2.kind sp sh e)

theorem squeeze_open {s : Shape} (m : Memref sig c.2.kind sp s e) (h : s.Squeezes s') :
    (iprop(∃ Y, owns c m fullShare Y) : sProp 𝕄) ⊢ iprop(∃ Y, owns c (m.squeeze s' h) fullShare Y) := by
  iintro ⟨%Y, H⟩
  iexists fun i => Y (Shape.reshapeEquiv h.numel_eq i)
  iapply (Entails.of_eq (Rules.owns_squeeze c m h fullShare Y).symm) $$ H

theorem squeeze_close {s : Shape} (m : Memref sig c.2.kind sp s e) (h : s.Squeezes s') :
    (iprop(∃ Y, owns c (m.squeeze s' h) fullShare Y) : sProp 𝕄) ⊢ iprop(∃ Y, owns c m fullShare Y) := by
  iintro ⟨%Y, H⟩
  iexists fun x => Y ((Shape.reshapeEquiv h.numel_eq).symm x)
  iapply (Entails.of_eq (Rules.owns_squeeze c m h fullShare _))
  iapply (Entails.of_eq (show (owns c (m.squeeze s' h) fullShare Y : sProp 𝕄) = _ by simp only [Equiv.symm_apply_apply])) $$ H

variable (r : Fin 2 → Rect sh) (hr : ∀ t a, (r t).stride a = 1) (hd : Disjoint (r 0).set (r 1).set) (hcov : ∀ x, x ∈ (r 0).set ∨ x ∈ (r 1).set)
include hd hcov

/-- A double buffer is its two slots. -/
theorem slots_open (h₀ : (r 0).shape.Squeezes s') (h₁ : (r 1).shape.Squeezes s') :
    (iprop(∃ Y, owns c m fullShare Y) : sProp 𝕄) ⊢ iprop((∃ Y, owns c ((m.slice (r 0) (hr 0)).squeeze s' h₀) fullShare Y)
      ∗ (∃ Y, owns c ((m.slice (r 1) (hr 1)).squeeze s' h₁) fullShare Y)) := by
  refine (pieces_open c m r hr ?_ ?_).trans ?_
  · intro t t' h
    match t, t' with
    | 0, 0 => exact absurd rfl h
    | 0, 1 => exact hd
    | 1, 0 => exact hd.symm
    | 1, 1 => exact absurd rfl h
  · ext x; simp only [Finset.mem_biUnion, Finset.mem_univ, _root_.true_and, iff_true]
    exact (hcov x).elim (fun h => ⟨0, h⟩) fun h => ⟨1, h⟩
  rw [BI.bigSep_fin_two]
  exact BI.sep_mono (squeeze_open c _ h₀) (squeeze_open c _ h₁)

theorem slots_close (h₀ : (r 0).shape.Squeezes s') (h₁ : (r 1).shape.Squeezes s') :
    (iprop((∃ Y, owns c ((m.slice (r 0) (hr 0)).squeeze s' h₀) fullShare Y)
      ∗ (∃ Y, owns c ((m.slice (r 1) (hr 1)).squeeze s' h₁) fullShare Y)) : sProp 𝕄) ⊢ iprop(∃ Y, owns c m fullShare Y) := by
  refine BI.Entails.trans ?_ (pieces_close c m r hr ?_ ?_)
  · rw [BI.bigSep_fin_two]
    exact BI.sep_mono (squeeze_close c _ h₀) (squeeze_close c _ h₁)
  · intro t t' h
    match t, t' with
    | 0, 0 => exact absurd rfl h
    | 0, 1 => exact hd
    | 1, 0 => exact hd.symm
    | 1, 1 => exact absurd rfl h
  · ext x; simp only [Finset.mem_biUnion, Finset.mem_univ, _root_.true_and, iff_true]
    exact (hcov x).elim (fun h => ⟨0, h⟩) fun h => ⟨1, h⟩

end Slots

/-! ### A tile's own buffers and semaphores -/

section Own

variable (d : Dev nD) (p : Fin τ.nSC) (i : Fin τ.nSub) {n : ℕ}

/-- The places of some of its buffers, -/
def bufSet (b : Fin n → Ref sig .scVector) (hb : Function.Injective b) : Finset (DevRef τ sig) :=
  Finset.univ.map ⟨fun j => (Proc.scVector p i : Proc τ).devRef (b j), fun _ _ h => hb (Proc.devRef_injective _ h)⟩
/-- and the rest of them. -/
def bufRest (b : Fin n → Ref sig .scVector) (hb : Function.Injective b) : sProp 𝕄 :=
  bigSep (ownRefs (.scVector p i) \ bufSet p i b hb) fun b => iprop(∃ g, ((d, b) : Loc nD τ sig) ↦{fullShare} g)

theorem bufs_open (b : Fin n → Ref sig .scVector) (hb : Function.Injective b) (ho : ∀ j, ((Proc.scVector p i : Proc τ).devRef (b j)).owner = .proc (.scVector p i)) :
    (ownBufs (V d p i) : sProp 𝕄) = iprop((bigSep Finset.univ fun j => iprop(∃ g, (V d p i).loc (b j) ↦{fullShare} g)) ∗ bufRest d p i b hb) := by
  unfold SparseCore.Cfg.ownBufs
  rw [SparseCore.bigSep_sdiff_split' (s := ownRefs (V d p i).2) (t := bufSet p i b hb) ?_]
  · exact congrArg (fun P => iprop(P ∗ bufRest d p i b hb)) (BI.bigSep_map _)
  · intro x hx
    obtain ⟨j, -, rfl⟩ := Finset.mem_map.mp hx
    exact SparseCore.Cfg.mem_ownRefs_of_owner (ho j)

/-- Some of its semaphores, -/
def semSet (b : Fin n → DmaSem sig) (hb : Function.Injective b) : Finset (GSem nD τ sig) :=
  Finset.univ.map ⟨fun j => (V d p i, SemLoc.dma (b j)), fun _ _ h => hb (SemLoc.dma.inj (Prod.mk.inj h).2)⟩
/-- and the rest of them. -/
def semRest (b : Fin n → DmaSem sig) (hb : Function.Injective b) : sProp 𝕄 :=
  bigSep (ownCells (V d p i) \ semSet d p i b hb) fun g => semVal g 0

theorem sems_open (b : Fin n → DmaSem sig) (hb : Function.Injective b) (ho : ∀ j, (SemLoc.dma (b j) : SemLoc sig).isScoped .scVector = true) :
    (ownSems0 (V d p i) : sProp 𝕄) = iprop((bigSep Finset.univ fun j => semVal (V d p i, SemLoc.dma (b j)) 0) ∗ semRest d p i b hb) := by
  unfold SparseCore.Cfg.ownSems0
  rw [SparseCore.bigSep_sdiff_split' (s := ownCells (V d p i)) (t := semSet d p i b hb) ?_]
  · exact congrArg (fun P => iprop(P ∗ semRest d p i b hb)) (BI.bigSep_map _)
  · intro x hx
    obtain ⟨j, -, rfl⟩ := Finset.mem_map.mp hx
    exact mem_ownCells.mpr ⟨rfl, ho j⟩

end Own

end Cert.Proof.Deal
-- ==== Proof.Cells2.lean ====
/-
  What the second stage computes, value by value. A row of the result is, for one pair of atoms: the distance; the
  twelve features of the first atom; those of the second over the distance; a fifth of the square of the distance; five
  over the distance. The tile writes the columns 0, 25 and 26 sixteen rows at a time (`outer_step`), then the middle
  columns row by row (`inner_step`).
-/
module

public import proofs.«01_k».proof.Proof.Gen.KernelIdeal.Skeleton
public import proofs.«01_k».proof.Proof.Rules

@[expose] public section

noncomputable section

namespace Cert.Proof.Stage2

open Idealize.ShloMosaic Cert.KernelIdeal Cert.KernelIdeal.Gen

/-! ## Indexed stores, one element at a time -/

section Scatter

variable {F : FTy → Type} [FloatOps F] {s : Shape} {e : EltTy} {d : Fin 1 → ℕ}
variable {f : Vec F s e} {idxs : Fin s.rank → IVec ⟨1, d⟩ 32} {v : Vec F ⟨1, d⟩ e} {mask : IVec ⟨1, d⟩ 1}
variable {h : ∀ a x, (idxs a x).toNat < s.size a}

/-- Lane `k` writes the element `j`. -/
def Hits (idxs : Fin s.rank → IVec ⟨1, d⟩ 32) (mask : IVec ⟨1, d⟩ 1) (j : s.Idx) (k : Fin (d 0)) : Prop :=
  mask (Shape.ofLane k) = 1 ∧ ∀ a, (j a).val = (idxs a (Shape.ofLane k)).toNat

/-- An element that no lane names keeps its contents. -/
theorem storeIdx_miss {j : s.Idx} (hj : ∀ k, ¬ Hits idxs mask j k) : storeIdx f idxs v mask false h j = f j := by
  unfold storeIdx
  generalize List.finRange (d 0) = L
  induction L generalizing f with
  | nil => rfl
  | cons k L ih =>
    rw [List.foldl_cons, ih]
    by_cases hm : mask (Shape.ofLane k) = 1
    · have hn : ¬ ∀ a, (j a).val = (idxAt idxs h (Shape.ofLane k) a).val := fun hh => hj k ⟨hm, hh⟩
      simp only [if_pos hm]
      rw [if_neg hn]
    · simp only [if_neg hm]

/-- An element that one lane names takes that lane's value. -/
theorem storeIdx_hit {j : s.Idx} (k : Fin (d 0)) (hk : Hits idxs mask j k) (hu : ∀ k', Hits idxs mask j k' → k' = k) :
    storeIdx f idxs v mask false h j = v (Shape.ofLane k) := by
  have key : k ∈ List.finRange (d 0) ∨ f j = v (Shape.ofLane k) := Or.inl (List.mem_finRange k)
  unfold storeIdx
  generalize List.finRange (d 0) = L at key ⊢
  induction L generalizing f with
  | nil => simpa using key
  | cons k' L ih =>
    rw [List.foldl_cons]
    apply ih
    by_cases hh : Hits idxs mask j k'
    · right
      obtain rfl := hu k' hh
      have hy : ∀ a, (j a).val = (idxAt idxs h (Shape.ofLane k') a).val := hh.2
      simp only [if_pos hh.1]
      rw [if_pos hy]
      rfl
    · have hk' : k ≠ k' := fun e => hh (e ▸ hk)
      rcases key with hg | hg
      · left; exact (List.mem_cons.mp hg).resolve_left hk'
      · right
        by_cases hm : mask (Shape.ofLane k') = 1
        · have hn : ¬ ∀ a, (j a).val = (idxAt idxs h (Shape.ofLane k') a).val := fun h' => hh ⟨hm, h'⟩
          simp only [if_pos hm]
          rw [if_neg hn]
          exact hg
        · simp only [if_neg hm]
          exact hg

end Scatter

/-! ## The values -/

/-- The index `(a, b)`. -/
def at2 {A B : ℕ} (a b : ℕ) (ha : a < A) (hb : b < B) : (⟨2, ![A, B]⟩ : Shape).Idx :=
  fun k => match k with
    | ⟨0, _⟩ => ⟨a, ha⟩
    | ⟨1, _⟩ => ⟨b, hb⟩

/-- An index of two coordinates is known by them. -/
theorem at2_eq {A B : ℕ} (x : (⟨2, ![A, B]⟩ : Shape).Idx) : x = at2 (x 0).val (x 1).val (x 0).isLt (x 1).isLt := by
  funext k
  match k with
  | ⟨0, _⟩ => rfl
  | ⟨1, _⟩ => rfl

variable {F : FTy → Type} [FloatOps F] [Named F]

/-- One over the distance. -/
def over (d : F .f32) : F .f32 := FloatOps.divf (Scalar.ofBits .f32 0x3F800000#32) d

/-- The feature `c` of the atom that the word `a` names. -/
def feature (NT : Vec F S100352x16 .f32) (a : BitVec 32) (c : ℕ) : F .f32 :=
  NT (at2 (a.toNat % 100352) (c % 16) (Nat.mod_lt _ (by decide)) (Nat.mod_lt _ (by decide)))

/-- Column `c` of the row of atoms `a`, `b` at distance `d`. -/
def cell (NT : Vec F S100352x16 .f32) (a b : BitVec 32) (d : F .f32) (c : ℕ) : F .f32 :=
  if c = 0 then d
  else if c < 13 then feature NT a (c - 1)
  else if c < 25 then FloatOps.mulf (feature NT b (c - 13)) (over d)
  else if c = 25 then FloatOps.mulf (FloatOps.mulf d d) (Named.named κ "fifth" 0x3E4CCCCD#32)
  else FloatOps.mulf (Scalar.ofBits .f32 0x40A00000#32) (over d)

/-- The rows of a block, from the words and the distances of its pairs. -/
def rowsOf (NT : Vec F S100352x16 .f32) (I J : Vec F S1024 .i32) (D : Vec F S1024 .f32) : Vec F S1024x27 .f32 :=
  fun x => cell NT (I (Shape.ofLane (x 0))) (J (Shape.ofLane (x 0))) (D (Shape.ofLane (x 0))) (x 1).val

/-- The features of a block's atoms, as the gather brings them. -/
def featuresOf (NT : Vec F S100352x16 .f32) (I : Vec F S1024 .i32) : Vec F S1024x16 .f32 :=
  fun y => feature NT (I (Shape.ofLane (y 0))) (y 1).val

/-- The lanes' numbers. -/
abbrev lanes : IVec S16 32 := iota .scVector S16 32 [0] iota_S16_d0_w32_scVector

/-! ## Index vectors -/

theorem pay1_iff (x : S16.Idx) : k1_pay1 x = 1 ↔ (x 0).val < 12 := by revert x; decide +kernel
theorem pay3_val (t : Fin k1_t2_loop.trips) (x : S16.Idx) : (k1_pay3 lanes t x).toNat = 16 * t.val + (x 0).val := by
  revert t x; decide +kernel
theorem off31 (t : Fin k1_t2_loop.trips) : k1_off31 t 0 = 16 * t.val := by revert t; decide +kernel
theorem pay4_val (x : S16.Idx) : (k1_pay4 lanes x).toNat = 0 := by revert x; decide +kernel
theorem pay5_val (x : S16.Idx) : (k1_pay5 (k1_pay4 lanes) x).toNat = 25 := by revert x; decide +kernel
theorem pay7_val (x : S16.Idx) : (k1_pay7 (k1_pay4 lanes) x).toNat = 26 := by revert x; decide +kernel
theorem lanes_val (x : S16.Idx) : (lanes x).toNat = (x 0).val := by revert x; decide +kernel
theorem pay9_val (x : S16.Idx) : (k1_pay9 lanes x).toNat = (x 0).val + 1 := by revert x; decide +kernel
theorem pay10_val (x : S16.Idx) : (k1_pay10 (k1_pay9 lanes) x).toNat = min ((x 0).val + 13) 26 := by revert x; decide +kernel
theorem row_val (r : Fin k1_t3_loop.trips) :
    (Scalar.addi 0#32 (Scalar.muli (Scf.iv 0#32 1#32 r) 1#32)).toNat = r.val := by revert r; decide +kernel

/-! ## One store of sixteen lanes -/

section Stamp

variable {O : Vec F S1024x27 .f32} {ρ κ : IVec S16 32} {w : Vec F S16 .f32}

/-- Sixteen lanes down one column. -/
theorem stamp_col {h} {t c : ℕ} (hρ : ∀ x, (ρ x).toNat = 16 * t + (x 0).val) (hκ : ∀ x, (κ x).toNat = c) (x : S1024x27.Idx) :
    storeIdx O ![ρ, κ] w (fun _ => 1#1) false h x
      = if hx : (x 1).val = c ∧ 16 * t ≤ (x 0).val ∧ (x 0).val < 16 * t + 16 then
          w (Shape.ofLane (d := ![16]) ⟨(x 0).val - 16 * t, by have := hx.2; show _ < 16; omega⟩)
        else O x := by
  have hh : ∀ k : Fin (![16] 0), Hits ![ρ, κ] (fun _ => 1#1) x k ↔ (x 0).val = 16 * t + k.val ∧ (x 1).val = c := by
    intro k
    have e₀ := hρ (Shape.ofLane k)
    have e₁ := hκ (Shape.ofLane k)
    constructor
    · rintro ⟨-, h⟩
      exact ⟨(h 0).trans e₀, (h 1).trans e₁⟩
    · rintro ⟨h₀, h₁⟩
      refine ⟨rfl, fun a => ?_⟩
      match a with
      | ⟨0, _⟩ => exact h₀.trans e₀.symm
      | ⟨1, _⟩ => exact h₁.trans e₁.symm
  split_ifs with hx
  · refine storeIdx_hit _ ((hh _).mpr ⟨?_, hx.1⟩) fun k' hk' => Fin.ext ?_
    · show _ = 16 * t + ((x 0).val - 16 * t); omega
    · have := ((hh k').mp hk').1
      show k'.val = (x 0).val - 16 * t; omega
  · refine storeIdx_miss fun k hk => hx ?_
    have := (hh k).mp hk
    have hk' : k.val < 16 := k.isLt
    exact ⟨this.2, by omega, by omega⟩

/-- Twelve of sixteen lanes along one row. -/
theorem stamp_row {h} {r b : ℕ} (hρ : ∀ x, (ρ x).toNat = r) (hκ : ∀ x : S16.Idx, (x 0).val < 12 → (κ x).toNat = (x 0).val + b)
    (x : S1024x27.Idx) :
    storeIdx O ![ρ, κ] w k1_pay1 false h x
      = if hx : (x 0).val = r ∧ b ≤ (x 1).val ∧ (x 1).val < b + 12 then
          w (Shape.ofLane (d := ![16]) ⟨(x 1).val - b, by have := hx.2; show _ < 16; omega⟩)
        else O x := by
  have hh : ∀ k : Fin (![16] 0), Hits ![ρ, κ] k1_pay1 x k ↔ k.val < 12 ∧ (x 0).val = r ∧ (x 1).val = k.val + b := by
    intro k
    have e₀ := hρ (Shape.ofLane k)
    have e₁ := hκ (Shape.ofLane k)
    constructor
    · rintro ⟨hm, h⟩
      have hk := (pay1_iff _).mp hm
      exact ⟨hk, (h 0).trans e₀, (h 1).trans (e₁ hk)⟩
    · rintro ⟨hk, h₀, h₁⟩
      refine ⟨(pay1_iff _).mpr hk, fun a => ?_⟩
      match a with
      | ⟨0, _⟩ => exact h₀.trans e₀.symm
      | ⟨1, _⟩ => exact h₁.trans (e₁ hk).symm
  split_ifs with hx
  · refine storeIdx_hit _ ((hh _).mpr ⟨?_, hx.1, ?_⟩) fun k' hk' => Fin.ext ?_
    · show (x 1).val - b < 12; omega
    · show _ = ((x 1).val - b) + b; omega
    · have := ((hh k').mp hk').2
      show k'.val = (x 1).val - b; omega
  · refine storeIdx_miss fun k hk => hx ?_
    have := (hh k).mp hk
    exact ⟨this.2.1, by omega, by omega⟩

end Stamp

/-! ## The two loops over a block -/

section Steps

variable (NT : Vec F S100352x16 .f32) (I J : Vec F S1024 .i32) (D : Vec F S1024 .f32)

/-- The columns of the distance and of what comes from it alone. -/
def Outer (c : ℕ) : Prop := c = 0 ∨ 25 ≤ c

/-- Before trip `t` of the first loop the rows below `16 t` have their outer columns, and `rec` their reciprocals. -/
def OuterUpTo (t : ℕ) (O : Vec F S1024x27 .f32) (rec : Vec F S1024 .f32) : Prop :=
  (∀ x : S1024x27.Idx, (x 0).val < 16 * t → Outer (x 1).val → O x = rowsOf NT I J D x)
    ∧ ∀ y : S1024.Idx, (y 0).val < 16 * t → rec y = over (D y)

/-- Before trip `r` of the second loop the rows below `r` are complete, and all have their outer columns. -/
def RowsUpTo (r : ℕ) (O : Vec F S1024x27 .f32) : Prop :=
  ∀ x : S1024x27.Idx, ((x 0).val < r ∨ Outer (x 1).val) → O x = rowsOf NT I J D x

theorem outer_zero (O : Vec F S1024x27 .f32) (rec : Vec F S1024 .f32) : OuterUpTo NT I J D 0 O rec :=
  ⟨fun _ h => absurd h (by omega), fun _ h => absurd h (by omega)⟩

theorem rows_zero {O : Vec F S1024x27 .f32} {rec : Vec F S1024 .f32} (h : OuterUpTo NT I J D 64 O rec) :
    RowsUpTo NT I J D 0 O ∧ rec = fun y => over (D y) := by
  refine ⟨fun x hx => h.1 x ?_ ?_, funext fun y => h.2 y ?_⟩
  · have : (x 0).val < 1024 := (x 0).isLt
    omega
  · exact hx.resolve_left (by omega)
  · have : (y 0).val < 1024 := (y 0).isLt
    omega

theorem rows_all {O : Vec F S1024x27 .f32} (h : RowsUpTo NT I J D 1024 O) : O = rowsOf NT I J D :=
  funext fun x => h x (Or.inl (x 0).isLt)

/-- One trip of the first loop. -/
theorem outer_step {O : Vec F S1024x27 .f32} {rec : Vec F S1024 .f32} (t : Fin k1_t2_loop.trips) {hin h₁ h₂ h₃}
    (h : OuterUpTo NT I J D t.val O rec) :
    OuterUpTo NT I J D (t.val + 1)
      (storeIdx (storeIdx (storeIdx O ![k1_pay3 lanes t, k1_pay4 lanes] (fun j => D ((Rect.unit (s := S1024) (k1_off31 t) S16.size hin).emb j))
            (fun _ => 1#1) false h₁)
          ![k1_pay3 lanes t, k1_pay5 (k1_pay4 lanes)] (k1_pay6 fun j => D ((Rect.unit (s := S1024) (k1_off31 t) S16.size hin).emb j)) (fun _ => 1#1) false h₂)
        ![k1_pay3 lanes t, k1_pay7 (k1_pay4 lanes)] (k1_pay8 fun j => D ((Rect.unit (s := S1024) (k1_off31 t) S16.size hin).emb j)) (fun _ => 1#1) false h₃)
      ((Rect.unit (s := S1024) (k1_off31 t) S16.size hin).overlay rec
        (k1_pay2 fun j => D ((Rect.unit (s := S1024) (k1_off31 t) S16.size hin).emb j))) := by
  have hoff : k1_off31 t 0 = 16 * t.val := off31 t
  have hrow : ∀ (x : Fin 1024) (hx : 16 * t.val ≤ x.val ∧ x.val < 16 * t.val + 16),
      (Rect.unit (s := S1024) (k1_off31 t) S16.size hin).emb (Shape.ofLane (d := ![16]) ⟨x.val - 16 * t.val, by show _ < 16; omega⟩)
        = Shape.ofLane (d := ![1024]) x := by
    intro x hx
    funext a
    obtain rfl : a = 0 := Subsingleton.elim _ _
    apply Fin.ext
    show k1_off31 t 0 + 1 * (x.val - 16 * t.val) = x.val
    omega
  constructor
  · intro x hx ho
    have hx1 : (x 1).val < 27 := (x 1).isLt
    rw [stamp_col (pay3_val t) pay7_val, stamp_col (pay3_val t) pay5_val, stamp_col (pay3_val t) pay4_val]
    by_cases hr : 16 * t.val ≤ (x 0).val
    · have hr' : 16 * t.val ≤ (x 0).val ∧ (x 0).val < 16 * t.val + 16 := ⟨hr, by omega⟩
      have hd := congrArg D (hrow (x 0) hr')
      unfold rowsOf cell
      rcases ho with h0 | h25
      · rw [dif_neg (by omega), dif_neg (by omega), dif_pos ⟨h0, hr'⟩, if_pos h0]
        exact hd
      · by_cases h26 : (x 1).val = 26
        · rw [dif_pos ⟨h26, hr'⟩, if_neg (by omega), if_neg (by omega), if_neg (by omega), if_neg (by omega)]
          exact congrArg (fun d => FloatOps.mulf (Scalar.ofBits .f32 0x40A00000#32) (over d)) hd
        · have h25' : (x 1).val = 25 := by omega
          rw [dif_neg (by omega), dif_pos ⟨h25', hr'⟩, if_neg (by omega), if_neg (by omega), if_neg (by omega), if_pos h25']
          exact congrArg (fun d => FloatOps.mulf (FloatOps.mulf d d) (Named.named κ "fifth" 0x3E4CCCCD#32)) hd
    · rw [dif_neg (by omega), dif_neg (by omega), dif_neg (by omega)]
      exact h.1 x (by omega) ho
  · intro y hy
    by_cases hr : 16 * t.val ≤ (y 0).val
    · have hr' : 16 * t.val ≤ (y 0).val ∧ (y 0).val < 16 * t.val + 16 := ⟨hr, by omega⟩
      have hd := hrow (y 0) hr'
      have hy' : y = Shape.ofLane (d := ![1024]) (y 0) := by
        funext a
        obtain rfl : a = 0 := Subsingleton.elim _ _
        rfl
      rw [hy']
      conv_lhs => rw [← hd]
      rw [Rect.overlay_emb]
      exact congrArg (fun i => over (D i)) hd
    · rw [Rect.overlay_of_not_mem]
      · exact h.2 y (by omega)
      · intro hm
        have h0 := (Rect.mem_set_unit.mp hm 0).1
        exact hr (hoff ▸ h0)

/-- One trip of the second loop. -/
theorem inner_step {O : Vec F S1024x27 .f32} {r : ℕ} {ρ : IVec S16 32} (hρ : ∀ x, (ρ x).toNat = r) {h₁ h₂ h₃ h₄ h₅}
    (h : RowsUpTo NT I J D r O) :
    RowsUpTo NT I J D (r + 1)
      (storeIdx (storeIdx O ![ρ, k1_pay9 lanes] (loadIdx (featuresOf NT I) ![ρ, lanes] h₁) k1_pay1 false h₄)
        ![ρ, k1_pay10 (k1_pay9 lanes)]
        (k1_pay11 (loadIdx (featuresOf NT J) ![ρ, lanes] h₂) (loadIdx (fun y => over (D y)) ![ρ] h₃)) k1_pay1 false h₅) := by
  intro x hx
  have hx1 : (x 1).val < 27 := (x 1).isLt
  have hrow : ∀ k : Fin (![16] 0), r = (x 0).val →
      (Shape.ofLane (d := ![1024]) (idxAt (s := S1024x16) ![ρ, lanes] h₁ (Shape.ofLane k) 0) : S1024.Idx) = Shape.ofLane (x 0) := by
    intro k e
    funext a
    obtain rfl : a = 0 := Subsingleton.elim _ _
    exact Fin.ext ((hρ _).trans e)
  rw [stamp_row hρ (b := 13) (fun x hx => by rw [pay10_val]; omega), stamp_row hρ (b := 1) (fun x _ => pay9_val x)]
  by_cases hr : (x 0).val = r
  · unfold rowsOf cell
    by_cases h2 : 13 ≤ (x 1).val ∧ (x 1).val < 25
    · rw [dif_pos ⟨hr, h2.1, by omega⟩, if_neg (by omega), if_neg (by omega), if_pos h2.2]
      have e₀ := hrow ⟨(x 1).val - 13, by show _ < 16; omega⟩ hr.symm
      have e₂ : (idxAt (s := S1024) ![ρ] h₃ (Shape.ofLane (d := ![16]) ⟨(x 1).val - 13, by show _ < 16; omega⟩) : S1024.Idx) = Shape.ofLane (x 0) := by
        funext a
        obtain rfl : a = 0 := Subsingleton.elim _ _
        exact Fin.ext ((hρ _).trans hr.symm)
      show FloatOps.mulf (feature NT (J (Shape.ofLane (idxAt (s := S1024x16) ![ρ, lanes] h₂ _ 0))) (idxAt (s := S1024x16) ![ρ, lanes] h₂ _ 1).val) (over (D (idxAt (s := S1024) ![ρ] h₃ _))) = _
      rw [e₂]
      have e₁ : (idxAt (s := S1024x16) ![ρ, lanes] h₂ (Shape.ofLane (d := ![16]) ⟨(x 1).val - 13, by show _ < 16; omega⟩) 1).val = (x 1).val - 13 :=
        lanes_val _
      rw [e₁]
      exact congrArg (fun i => FloatOps.mulf (feature NT (J i) ((x 1).val - 13)) _) e₀
    · rw [dif_neg (by omega)]
      by_cases h1 : 1 ≤ (x 1).val ∧ (x 1).val < 13
      · rw [dif_pos ⟨hr, h1.1, by omega⟩, if_neg (by omega), if_pos h1.2]
        have e₀ := hrow ⟨(x 1).val - 1, by show _ < 16; omega⟩ hr.symm
        show feature NT (I (Shape.ofLane (idxAt (s := S1024x16) ![ρ, lanes] h₁ _ 0))) (idxAt (s := S1024x16) ![ρ, lanes] h₁ _ 1).val = _
        have e₁ : (idxAt (s := S1024x16) ![ρ, lanes] h₁ (Shape.ofLane (d := ![16]) ⟨(x 1).val - 1, by show _ < 16; omega⟩) 1).val = (x 1).val - 1 :=
          lanes_val _
        rw [e₁]
        exact congrArg (fun i => feature NT (I i) ((x 1).val - 1)) e₀
      · rw [dif_neg (by omega)]
        exact h x (Or.inr (by unfold Outer; omega))
  · rw [dif_neg (by omega), dif_neg (by omega)]
    exact h x (hx.imp (fun h => by omega) id)

end Steps

end Cert.Proof.Stage2
-- ==== Proof.Arith2.lean ====
/-
  The scalar arithmetic of the second stage's pipeline: how many blocks each of the 32 tiles takes and which, when it
  asks for the next block and waits for one, and where the slots, the blocks and their semaphores lie. The loop carries
  nine counters; before trip `t` they are the numbers in `carry`.
-/
module

public import proofs.«01_k».proof.KernelIdeal.P01

@[expose] public section

namespace Cert.Proof.Stage2

open Idealize.ShloMosaic Cert.KernelIdeal

/-- The tile's number. -/
def wid (i : grid1.Coords) : ℕ := (i 1).val + 16 * (i 0).val
/-- How many blocks the tile takes, -/
def cnt (i : grid1.Coords) : ℕ := if wid i < 17 then 20 else 19
/-- and the first of them. -/
def base (i : grid1.Coords) : ℕ := if wid i < 17 then wid i * 20 else wid i * 19 + 17

/-- The counter of blocks asked for. -/
abbrev ahead (i : grid1.Coords) (t : ℕ) : BitVec 32 := BitVec.ofNat 32 (min (t + 1) (cnt i))
/-- The block within the tile's own: it goes round to zero at the end. -/
abbrev around (i : grid1.Coords) (t : ℕ) : BitVec 32 := BitVec.ofNat 32 (if t = cnt i then 0 else t)

/-- The loop's counters before trip `t`. -/
abbrev carry (i : grid1.Coords) (t : ℕ) :
    BitVec 32 × BitVec 32 × BitVec 32 × BitVec 32 × BitVec 32 × BitVec 32 × BitVec 32 × BitVec 32 × BitVec 32 :=
  (ahead i t, .ofNat 32 t, ahead i t, .ofNat 32 t, ahead i t, .ofNat 32 t, .ofNat 32 t, .ofNat 32 (t - 1), around i t)

/-- A tile takes at least one block, -/
theorem cnt_pos (i : grid1.Coords) : 0 < cnt i := by unfold cnt; split <;> decide
theorem cnt_le (i : grid1.Coords) : cnt i ≤ 20 := by unfold cnt; split <;> decide

theorem trips1 (i : grid1.Coords) : (k1_t1_loop i).trips = cnt i := by revert i; decide +kernel
theorem trips4 (i : grid1.Coords) : (k1_t4_loop i).trips = 0 := by revert i; decide +kernel
theorem trips2 : k1_t2_loop.trips = 64 := by decide +kernel
theorem trips3 : k1_t3_loop.trips = 1024 := by decide +kernel

theorem lt_cnt {i : grid1.Coords} (t : Fin (k1_t1_loop i).trips) : t.val < cnt i := by
  exact lt_of_lt_of_eq t.isLt (trips1 i)

/-! ### Conditions -/

theorem cond1 (i : grid1.Coords) : k1_cond1 i = 1#1 := by revert i; decide +kernel
theorem cond2 (i : grid1.Coords) : k1_cond2 i = if 0 < cnt i then 1#1 else 0#1 := by revert i; decide +kernel
theorem cond3 (i : grid1.Coords) : k1_cond3 i = if 0 < cnt i then 1#1 else 0#1 := by revert i; decide +kernel
theorem cond4 (i : grid1.Coords) : k1_cond4 i = if 0 < cnt i then 1#1 else 0#1 := by revert i; decide +kernel
theorem cond38 (i : grid1.Coords) : k1_cond38 i = 1#1 := by revert i; decide +kernel

section
variable (i : grid1.Coords) (t : Fin (k1_t1_loop i).trips)

theorem cond5 : k1_cond5 i t (around i t) = if t.val + 1 < cnt i then 1#1 else 0#1 := by revert i; decide +kernel
theorem cond6 : k1_cond6 i t (around i t) = if t.val + 1 < cnt i then 1#1 else 0#1 := cond5 i t
theorem cond7 : k1_cond7 i t (around i t) = if t.val + 1 < cnt i then 1#1 else 0#1 := cond5 i t
theorem cond8 : k1_cond8 i t (around i t) = 1#1 := by revert i; decide +kernel
theorem cond9 : k1_cond9 i t (around i t) = 1#1 := cond8 i t
theorem cond10 : k1_cond10 i t (around i t) = 1#1 := cond8 i t
theorem cond15 : k1_cond15 i t (around i t) = 1#1 := by revert i; decide +kernel
theorem cond19 : k1_cond19 i t (around i t) = if 0 < t.val then 1#1 else 0#1 := by revert i; decide +kernel
end

/-! ### Side conditions -/

attribute [local instance] k1_chk1.dec k1_chk2.dec k1_chk3.dec k1_chk4.dec k1_chk5.dec k1_chk23.dec k1_chk24.dec

theorem chk1 (i : grid1.Coords) (t : Fin (k1_t1_loop i).trips) :
    k1_chk1 i t (ahead i t) (.ofNat 32 t) (ahead i t) (.ofNat 32 t) (ahead i t) (.ofNat 32 t) (.ofNat 32 t) (.ofNat 32 (t - 1)) (around i t) := by
  revert i; decide +kernel
theorem chk2 (i : grid1.Coords) (t : Fin (k1_t1_loop i).trips) : k1_chk2 i (.ofNat 32 t) := by revert i; decide +kernel
theorem chk3 (i : grid1.Coords) (t : Fin (k1_t1_loop i).trips) : k1_chk3 i (.ofNat 32 t) := by revert i; decide +kernel
theorem chk4 (i : grid1.Coords) (t : Fin (k1_t1_loop i).trips) : k1_chk4 i (.ofNat 32 t) := by revert i; decide +kernel
theorem chk5 (i : grid1.Coords) (t : Fin (k1_t1_loop i).trips) : k1_chk5 i (.ofNat 32 t) := by revert i; decide +kernel
theorem chk23 (i : grid1.Coords) : k1_chk23 i (.ofNat 32 (cnt i - 1)) := by revert i; decide +kernel
theorem chk24 (i : grid1.Coords) : k1_chk24 i (around i (cnt i)) := by revert i; decide +kernel

/-! ### Places -/

theorem word_mod (k : ℕ) (h : k < 2 ^ 32) : (Scalar.remui (BitVec.ofNat 32 k) 2#32).toNat = k % 2 := by
  unfold Scalar.remui IntOp.remui
  rw [if_neg (by decide), BitVec.toNat_umod, BitVec.toNat_ofNat, Nat.mod_eq_of_lt h]
  rfl

theorem slot_off (k : ℕ) (h : k < 2 ^ 32) :
    (![(Scalar.remui (BitVec.ofNat 32 k) 2#32).toNat, 0, 0] : Fin 3 → ℕ) = ![k % 2, 0, 0] := by rw [word_mod k h]
theorem sem_off (k : ℕ) (h : k < 2 ^ 32) :
    (![(Scalar.remui (BitVec.ofNat 32 k) 2#32).toNat] : Fin 1 → ℕ) = ![k % 2] := by rw [word_mod k h]

theorem off2 (i : grid1.Coords) : k1_off2 i = ![0, 1024 * ((base i + 0) % 625)] := by revert i; decide +kernel
theorem off11 (i : grid1.Coords) (t : Fin (k1_t1_loop i).trips) (h : t.val + 1 < cnt i) :
    k1_off11 i (around i t) = ![0, 1024 * ((base i + (t.val + 1)) % 625)] := by revert i; decide +kernel
theorem off38 (i : grid1.Coords) (t : Fin (k1_t1_loop i).trips) :
    k1_off38 i (around i t) = ![1024 * ((base i + t.val) % 625), 0] := by revert i; decide +kernel
theorem off41 (i : grid1.Coords) (t : Fin (k1_t1_loop i).trips) (h : 0 < t.val) :
    k1_off41 i (around i t) = ![1024 * ((base i + (t.val - 1)) % 625), 0] := by revert i; decide +kernel
theorem off77 (i : grid1.Coords) :
    k1_off77 i (around i (cnt i)) = ![1024 * ((base i + (cnt i - 1)) % 625), 0] := by revert i; decide +kernel

end Cert.Proof.Stage2
-- ==== Proof.Places2.lean ====
/-
  The parts of the second stage's buffers in a fixed spelling: the two slots of a double buffer with their semaphores,
  the blocks of the arrays in main memory, the list in a slot that a gather reads; and the spellings of the program's
  text, equal to these where their offsets are.
-/
module

public import proofs.«01_k».proof.Proof.Cells2
public import proofs.«01_k».proof.Proof.Arith2
public import proofs.«01_k».proof.Proof.Streams

@[expose] public section

noncomputable section

namespace Cert.Proof.Stage2

open Idealize.ShloMosaic Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Cert.Proof.Rules

variable {F : FTy → Type} [FloatOps F] [Named F] {e : EltTy} [f : Cert.KernelIdeal.Facts₀]

/-! ### Rectangles -/

theorem inb_slot (k : ℕ) : ∀ a, (![k % 2, 0, 0] : Fin 3 → ℕ) a + S1x1x1024.size a ≤ S2x1x1024.size a := by
  have : k % 2 < 2 := Nat.mod_lt _ (by decide)
  intro a; match a with
  | ⟨0, _⟩ => show k % 2 + 1 ≤ 2; omega
  | ⟨1, _⟩ => show 0 + 1 ≤ 1; omega
  | ⟨2, _⟩ => show 0 + 1024 ≤ 1024; omega
theorem inb_oslot (k : ℕ) : ∀ a, (![k % 2, 0, 0] : Fin 3 → ℕ) a + S1x1024x27.size a ≤ S2x1024x27.size a := by
  have : k % 2 < 2 := Nat.mod_lt _ (by decide)
  intro a; match a with
  | ⟨0, _⟩ => show k % 2 + 1 ≤ 2; omega
  | ⟨1, _⟩ => show 0 + 1024 ≤ 1024; omega
  | ⟨2, _⟩ => show 0 + 27 ≤ 27; omega
theorem inb_sem (k : ℕ) : ∀ a, (![k % 2] : Fin 1 → ℕ) a + S1.size a ≤ S2.size a := by
  have : k % 2 < 2 := Nat.mod_lt _ (by decide)
  intro a; match a with
  | ⟨0, _⟩ => show k % 2 + 1 ≤ 2; omega
theorem inb_blk (b : ℕ) : ∀ a, (![0, 1024 * (b % 625)] : Fin 2 → ℕ) a + S1x1024.size a ≤ S1x640000.size a := by
  have : b % 625 < 625 := Nat.mod_lt _ (by decide)
  intro a; match a with
  | ⟨0, _⟩ => show 0 + 1 ≤ 1; omega
  | ⟨1, _⟩ => show 1024 * (b % 625) + 1024 ≤ 640000; omega
theorem inb_oblk (b : ℕ) : ∀ a, (![1024 * (b % 625), 0] : Fin 2 → ℕ) a + S1024x27.size a ≤ S640000x27.size a := by
  have : b % 625 < 625 := Nat.mod_lt _ (by decide)
  intro a; match a with
  | ⟨0, _⟩ => show 1024 * (b % 625) + 1024 ≤ 640000; omega
  | ⟨1, _⟩ => show 0 + 27 ≤ 27; omega

/-- Block `b` of a list of pairs, and of the result. -/
abbrev rBlk (b : ℕ) : Rect S1x640000 := Rect.unit (s := S1x640000) ![0, 1024 * (b % 625)] S1x1024.size (inb_blk b)
abbrev rOut (b : ℕ) : Rect S640000x27 := Rect.unit (s := S640000x27) ![1024 * (b % 625), 0] S1024x27.size (inb_oblk b)

/-! ### Memrefs -/

/-- Slot `k mod 2` of an input's double buffer, -/
def slot (a : Memref sig .scVector .vmem S2x1x1024 e) (k : ℕ) : Memref sig .scVector .vmem S1x1024 e :=
  (a.slice (Rect.unit (s := S2x1x1024) ![k % 2, 0, 0] S1x1x1024.size (inb_slot k)) (fun _ => rfl)).squeeze S1x1024 squeezes_S1x1x1024_S1x1024
/-- of the output's; -/
def oslot (a : Memref sig .scVector .vmem S2x1024x27 e) (k : ℕ) : Memref sig .scVector .vmem S1024x27 e :=
  (a.slice (Rect.unit (s := S2x1024x27) ![k % 2, 0, 0] S1x1024x27.size (inb_oslot k)) (fun _ => rfl)).squeeze S1024x27 squeezes_S1x1024x27_S1024x27
/-- and its semaphore. -/
def sem (v : DmaSems sig S2) (k : ℕ) : DmaSem sig :=
  ((v.slice (Rect.unit (s := S2) ![k % 2] S1.size (inb_sem k))).squeeze S_ squeezes_S1_S_).sem
/-- Block `b` of a list of pairs, and of the result. -/
def blk (a : Memref sig .scVector .hbm S1x640000 e) (b : ℕ) : Memref sig .scVector .hbm S1x1024 e := a.slice (rBlk b) (fun _ => rfl)
def oblk (a : Memref sig .scVector .hbm S640000x27 e) (b : ℕ) : Memref sig .scVector .hbm S1024x27 e := a.slice (rOut b) (fun _ => rfl)

section Spellings

theorem slot_eq (a : Memref sig .scVector .vmem S2x1x1024 e) {k : ℕ} {off : Fin 3 → ℕ} {h} (e₀ : off = ![k % 2, 0, 0]) :
    (a.slice (Rect.unit (s := S2x1x1024) off S1x1x1024.size h) (fun _ => rfl)).squeeze S1x1024 squeezes_S1x1x1024_S1x1024 = slot a k := by
  subst e₀; rfl
theorem oslot_eq (a : Memref sig .scVector .vmem S2x1024x27 e) {k : ℕ} {off : Fin 3 → ℕ} {h} (e₀ : off = ![k % 2, 0, 0]) :
    (a.slice (Rect.unit (s := S2x1024x27) off S1x1024x27.size h) (fun _ => rfl)).squeeze S1024x27 squeezes_S1x1024x27_S1024x27 = oslot a k := by
  subst e₀; rfl
theorem sem_eq (v : DmaSems sig S2) {k : ℕ} {off : Fin 1 → ℕ} {h} (e₀ : off = ![k % 2]) :
    ((v.slice (Rect.unit (s := S2) off S1.size h)).squeeze S_ squeezes_S1_S_).sem = sem v k := by
  subst e₀; rfl
theorem blk_eq (a : Memref sig .scVector .hbm S1x640000 e) {b : ℕ} {off : Fin 2 → ℕ} {h} (e₀ : off = ![0, 1024 * (b % 625)]) :
    a.slice (Rect.unit (s := S1x640000) off S1x1024.size h) (fun _ => rfl) = blk a b := by
  subst e₀; rfl
theorem oblk_eq (a : Memref sig .scVector .hbm S640000x27 e) {b : ℕ} {off : Fin 2 → ℕ} {h} (e₀ : off = ![1024 * (b % 625), 0]) :
    a.slice (Rect.unit (s := S640000x27) off S1024x27.size h) (fun _ => rfl) = oblk a b := by
  subst e₀; rfl

end Spellings

/-! ### Contents -/

/-- The block's part of an array. -/
def part {α : Type} (X : S1x640000.Idx → α) (b : ℕ) : S1x1024.Idx → α := fun j => X ((rBlk b).emb j)
/-- A block's contents as a list. -/
def list {α : Type} (X : S1x1024.Idx → α) : S1024.Idx → α := fun y => X (at2 0 (y 0).val (by decide) (y 0).isLt)

/-- The list in a block's slot, in the program's spelling. -/
abbrev listM (m : Memref sig .scVector .vmem S1x1024 e) : Memref sig .scVector .vmem S1024 e :=
  (m.slice (Rect.unit (s := S1x1024) ![0, 0] S1x1024.size inb_S1x1024_S1x1024_0_0) (fun _ => rfl)).squeeze S1024 squeezes_S1x1024_S1024
/-- The whole table, in the program's spelling. -/
abbrev tableM (m : Memref sig .scVector .hbm S100352x16 e) : Memref sig .scVector .hbm S100352x16 e :=
  m.slice (Rect.unit (s := S100352x16) ![0, 0] S100352x16.size inb_S100352x16_S100352x16_0_0) (fun _ => rfl)

theorem zeros2 : (![0, 0] : Fin 2 → ℕ) = fun _ => 0 := by funext a; match a with | ⟨0, _⟩ => rfl | ⟨1, _⟩ => rfl

theorem list_eq {α : Type} (X : S1x1024.Idx → α) :
    (fun i => X (Shape.reshapeEquiv (squeezes_S1x1024_S1024 : S1x1024.Squeezes S1024).numel_eq i)) = list X := by
  funext y
  show X _ = X _
  congr 1
  rw [Shape.reshapeEquiv_cons_one]
  funext a
  match a with
  | ⟨0, _⟩ => rfl
  | ⟨1, _⟩ => rfl

/-! ### What a gather brings -/

theorem gathered {NT : Vec F S100352x16 .f32} {V : Vec F S1024 .i32} {hg : S100352x16.Gathers 0 S1024x16} {hn : S1024.numel = S1024x16.size hg.axis'}
    (hin : ∀ x, (V x).toNat < 100352) :
    SparseCore.gatherPayload hg NT (SparseCore.rows (F := F) V hn hin) = featuresOf NT V := by
  funext x
  unfold featuresOf feature SparseCore.gatherPayload
  congr 1
  funext b
  apply Fin.ext
  match b with
  | ⟨0, hb⟩ =>
    have h0 : (hg.idx (SparseCore.rows (F := F) V hn hin) x ⟨0, hb⟩).val = (SparseCore.rows (F := F) V hn hin (x 0)).val :=
      congrArg Fin.val (hg.idx_axis (SparseCore.rows (F := F) V hn hin) x)
    have h1 : S1024.rowMajor.symm ((x 0).cast hn.symm) = (Shape.ofLane (d := ![1024]) (x 0) : S1024.Idx) := by
      rw [Equiv.symm_apply_eq]
      apply Fin.ext
      rw [Shape.rowMajor_val_one]
      rfl
    rw [h0]
    show (V _).toNat = (V _).toNat % 100352
    rw [Nat.mod_eq_of_lt (hin _)]
    exact congrArg (fun i => (V i).toNat) h1
  | ⟨1, hb⟩ =>
    have h0 := hg.idx_of_ne (SparseCore.rows (F := F) V hn hin) x ⟨1, hb⟩ (show (1 : ℕ) ≠ 0 by decide)
    rw [h0]
    show (x 1).val = (x 1).val % 16
    exact (Nat.mod_eq_of_lt (x 1).isLt).symm

/-- The pair of a row of the result. -/
def pairOf (x : S640000x27.Idx) : S1x640000.Idx := at2 (A := 1) (B := 640000) 0 (x 0).val (by decide) (x 0).isLt

/-- The whole result of a pass over a list of pairs. -/
def result (NT : Vec F S100352x16 .f32) (I J : Vec F S1x640000 .i32) (D : Vec F S1x640000 .f32) : Vec F S640000x27 .f32 :=
  fun x => cell NT (I (pairOf x)) (J (pairOf x)) (D (pairOf x)) (x 1).val

/-- A block of it has the rows of its pairs. -/
theorem result_part (NT : Vec F S100352x16 .f32) (I J : Vec F S1x640000 .i32) (D : Vec F S1x640000 .f32) (b : ℕ) :
    (fun j => result NT I J D ((rOut b).emb j)) = rowsOf NT (list (part I b)) (list (part J b)) (list (part D b)) := by
  have hp : ∀ j : S1024x27.Idx,
      pairOf ((rOut b).emb j) = (rBlk b).emb (at2 (A := 1) (B := 1024) 0 (j 0).val (by decide) (j 0).isLt) := by
    intro j
    funext a
    match a with
    | ⟨0, _⟩ => rfl
    | ⟨1, _⟩ => rfl
  have hq : ∀ j : S1024x27.Idx, ((rOut b).emb j 1).val = (j 1).val := fun j => by
    show 0 + 1 * (j 1).val = _; omega
  funext j
  unfold result
  rw [hp, hq]
  rfl

end Cert.Proof.Stage2
-- ==== Proof.Loops2.lean ====
/-
  The two loops over a block of the second stage, run: the first writes the columns that come from the distances alone,
  sixteen rows a trip, the second the features of the two atoms, a row a trip.
-/
module

public import proofs.«01_k».proof.Proof.Places2

@[expose] public section

noncomputable section

namespace Cert.Proof.Stage2

open Idealize.ShloMosaic Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Cert.Proof.Rules

variable {F : FTy → Type} [FloatOps F] [Named F] {e : EltTy} [f : Cert.KernelIdeal.Facts₀]
variable {Ix : Type} [DecidableEq Ix] {Name : Type} [DecidableEq Name] {U : Type} [URA U] {Lvl : Type} [Preorder Lvl]
variable {defs : Defs nD τ sig (Elt F) Λ₀} (EC : UEmb Counters (MT nD τ sig Ix (Elt F) Name U Lvl)) (𝒱 : Variants) (bd : Option 𝒱.V)

local notation "𝕄" => MT nD τ sig Ix (Elt F) Name U Lvl

/-- The tile's thread. -/
abbrev thr (d : Dev nD) (i : grid1.Coords) : Thread nD τ := (d, .scVector ((i 0).castLE hcore1) ((i 1).castLE hsub1))

variable (d : Dev nD) (i : grid1.Coords)

theorem owns_list (m : Memref sig .scVector .vmem S1x1024 e) (q : PosShare TreeShare) (X : S1x1024.Idx → Elt F e) :
    (owns (thr d i) (listM m) q (list X) : sProp 𝕄) = owns (thr d i) m q X := by
  rw [← list_eq X]
  exact (owns_squeeze (thr d i) _ squeezes_S1x1024_S1024 q X).trans (owns_all (thr d i) m ![0, 0] zeros2 _ _ q X)

theorem owns_table (m : Memref sig .scVector .hbm S100352x16 e) (q : PosShare TreeShare) (X : S100352x16.Idx → Elt F e) :
    (owns (thr d i) (tableM m) q X : sProp 𝕄) = owns (thr d i) m q X :=
  owns_all (thr d i) m ![0, 0] zeros2 _ _ q X

/-! ### Lanes stay inside -/

theorem idx_ok {rows cols : ℕ} {ρ κ : IVec S16 32} (hρ : ∀ x, (ρ x).toNat < rows) (hκ : ∀ x, (κ x).toNat < cols) :
    ∀ a x, ((![ρ, κ] : Fin 2 → IVec S16 32) a x).toNat < (⟨2, ![rows, cols]⟩ : Shape).size a := by
  intro a x
  match a with
  | ⟨0, _⟩ => exact hρ x
  | ⟨1, _⟩ => exact hκ x

theorem lane_lt (x : S16.Idx) : (x 0).val < 16 := (x 0).isLt

variable (arg2 : Memref sig .scVector .hbm S100352x16 .f32) (harg2 : arg2.IsWhole) (arg3 : Memref sig .scVector .hbm S1x640000 .i32) (harg3 : arg3.IsWhole)
  (arg4 : Memref sig .scVector .hbm S1x640000 .i32) (harg4 : arg4.IsWhole) (arg5 : Memref sig .scVector .hbm S1x640000 .f32) (harg5 : arg5.IsWhole)
  (arg6 : Memref sig .scVector .hbm S640000x27 .f32) (harg6 : arg6.IsWhole) (arg7 : Memref sig .scVector .vmem S1024x16 .f32) (harg7 : arg7.IsWhole)
  (arg8 : Memref sig .scVector .vmem S1024x16 .f32) (harg8 : arg8.IsWhole) (arg9 : Memref sig .scVector .vmem S1024 .f32) (harg9 : arg9.IsWhole)
  (arg10 arg11 : DmaSems sig S_) (a3 : Memref sig .scVector .vmem S2x1x1024 .i32) (ha3 : a3.IsWhole) (s3 : DmaSems sig S2)
  (a4 : Memref sig .scVector .vmem S2x1x1024 .i32) (ha4 : a4.IsWhole) (s4 : DmaSems sig S2)
  (a5 : Memref sig .scVector .vmem S2x1x1024 .f32) (ha5 : a5.IsWhole) (s5 : DmaSems sig S2)
  (a6 : Memref sig .scVector .vmem S2x1024x27 .f32) (ha6 : a6.IsWhole) (s6 : DmaSems sig S2)

variable (NT : Vec F S100352x16 .f32) (I J : Vec F S1024 .i32) (D : Vec F S1x1024 .f32) (h1 : k1_cond1 i = 1#1) {w2 w3 w4 w5 : BitVec 32}
  {hw5 hw4 hw3 hw2} {v106 : BitVec 1} {v107 v118 : BitVec 32} {kd ko : ℕ}

/-- What the first loop holds before trip `t`, -/
def outerInv (t : ℕ) : sProp 𝕄 :=
  iprop(∃ O rec, ⌜OuterUpTo NT I J (list D) t O rec⌝ ∗ owns (thr d i) (slot a5 kd) fullShare D ∗ owns (thr d i) arg9 fullShare rec
    ∗ owns (thr d i) (oslot a6 ko) fullShare O)

/-- and the second. -/
def innerInv (r : ℕ) : sProp 𝕄 :=
  iprop(∃ O, ⌜RowsUpTo NT I J (list D) r O⌝ ∗ owns (thr d i) arg7 fullShare (featuresOf NT I) ∗ owns (thr d i) arg8 fullShare (featuresOf NT J)
    ∗ owns (thr d i) arg9 fullShare (fun y => over (list D y)) ∗ owns (thr d i) (oslot a6 ko) fullShare O)

theorem outerInv_intro {t : ℕ} {O : Vec F S1024x27 .f32} {rec : Vec F S1024 .f32} (h : OuterUpTo NT I J (list D) t O rec) :
    (iprop(owns (thr d i) (slot a5 kd) fullShare D ∗ owns (thr d i) arg9 fullShare rec ∗ owns (thr d i) (oslot a6 ko) fullShare O) : sProp 𝕄)
      ⊢ outerInv d i arg9 a5 a6 NT I J D (kd := kd) (ko := ko) t := by
  unfold outerInv
  iintro H
  iexists O, rec
  isplitr
  · ipureintro; exact h
  · iexact H

theorem outerInv_open (t : ℕ) : (outerInv d i arg9 a5 a6 NT I J D (kd := kd) (ko := ko) t : sProp 𝕄)
    ⊢ iprop(∃ O rec, ⌜OuterUpTo NT I J (list D) t O rec⌝ ∗ owns (thr d i) (slot a5 kd) fullShare D ∗ owns (thr d i) arg9 fullShare rec
      ∗ owns (thr d i) (oslot a6 ko) fullShare O) := .rfl

theorem innerInv_open (r : ℕ) : (innerInv d i arg7 arg8 arg9 a6 NT I J D (ko := ko) r : sProp 𝕄)
    ⊢ iprop(∃ O, ⌜RowsUpTo NT I J (list D) r O⌝ ∗ owns (thr d i) arg7 fullShare (featuresOf NT I) ∗ owns (thr d i) arg8 fullShare (featuresOf NT J)
      ∗ owns (thr d i) arg9 fullShare (fun y => over (list D y)) ∗ owns (thr d i) (oslot a6 ko) fullShare O) := .rfl

theorem innerInv_intro {r : ℕ} {O : Vec F S1024x27 .f32} (h : RowsUpTo NT I J (list D) r O) :
    (iprop(owns (thr d i) arg7 fullShare (featuresOf NT I) ∗ owns (thr d i) arg8 fullShare (featuresOf NT J)
      ∗ owns (thr d i) arg9 fullShare (fun y => over (list D y)) ∗ owns (thr d i) (oslot a6 ko) fullShare O) : sProp 𝕄)
      ⊢ innerInv d i arg7 arg8 arg9 a6 NT I J D (ko := ko) r := by
  unfold innerInv
  iintro H
  iexists O
  isplitr
  · ipureintro; exact h
  · iexact H

set_option maxHeartbeats 4000000 in
/-- A trip of the first loop. -/
theorem outer_trip (hd : (![(Scalar.remui w4 2#32).toNat, 0, 0] : Fin 3 → ℕ) = ![kd % 2, 0, 0])
    (ho : (![(Scalar.remui w5 2#32).toNat, 0, 0] : Fin 3 → ℕ) = ![ko % 2, 0, 0]) (t : Fin k1_t2_loop.trips) :
    (outerInv d i arg9 a5 a6 NT I J D (kd := kd) (ko := ko) t.val : sProp 𝕄)
      ⊢ wp frame (wpE defs 𝒱 (thr d i) bd) Set.univ
          (k1_t2_body i arg2 harg2 arg3 harg3 arg4 harg4 arg5 harg5 arg6 harg6 arg7 harg7 arg8 harg8 arg9 harg9 arg10 arg11 a3 ha3 s3 a4 ha4 s4 a5 ha5 s5 a6 ha6 s6
            lanes k1_pay1 h1 w2 w3 w4 w5 hw5 hw4 hw3 hw2 v106 v107 v118 t ⟨⟩)
          (fun _ => outerInv d i arg9 a5 a6 NT I J D (kd := kd) (ko := ko) (t.val + 1)) := by
  have h64 : t.val < 64 := lt_of_lt_of_eq t.isLt trips2
  have hrow : ∀ x, (k1_pay3 lanes t x).toNat < 1024 := fun x => by rw [pay3_val]; have := lane_lt x; omega
  have hc6 : k1_chk6 i (k1_pay3 lanes t) (k1_pay4 lanes) := fun _ => idx_ok hrow (fun x => by rw [pay4_val]; decide)
  have hc7 : k1_chk7 i (k1_pay3 lanes t) (k1_pay5 (k1_pay4 lanes)) := fun _ => idx_ok hrow (fun x => by rw [pay5_val]; decide)
  have hc8 : k1_chk8 i (k1_pay3 lanes t) (k1_pay7 (k1_pay4 lanes)) := fun _ => idx_ok hrow (fun x => by rw [pay7_val]; decide)
  unfold k1_t2_body
  simp only [Prog.lift, Prog.bind_op, Prog.bind_ret, Prog.pure_eq_ret]
  iintro H
  ihave H := (outerInv_open d i arg9 a5 a6 NT I J D t.val) $$ H
  icases H with ⟨%O, %rec, %hinv, HD, H9, HO⟩
  ihave HD := (Entails.of_eq (owns_list d i (slot a5 kd) fullShare D).symm) $$ HD
  iapply (wp_loadAt 𝒱 (thr d i) bd Set.univ (congrArg listM (slot_eq a5 hd))) $$ HD
  iintro HD
  iapply (wp_loadAt 𝒱 (thr d i) bd Set.univ (m₀ := arg9) rfl) $$ H9
  iintro H9
  iapply (wp_storeAt 𝒱 (thr d i) bd Set.univ (m₀ := arg9) rfl) $$ H9
  iintro H9
  rw [wp_assume_of _ _ _ _ hc6]
  iapply (wp_storeIdx 𝒱 (thr d i) bd Set.univ (oslot_eq a6 ho)) $$ HO
  iintro HO
  rw [wp_assume_of _ _ _ _ hc7]
  iapply (wp_storeIdx 𝒱 (thr d i) bd Set.univ (oslot_eq a6 ho)) $$ HO
  iintro HO
  rw [wp_assume_of _ _ _ _ hc8]
  iapply (wp_storeIdx 𝒱 (thr d i) bd Set.univ (oslot_eq a6 ho)) $$ HO
  iintro HO
  rw [wp_ret]
  imodintro
  iapply (outerInv_intro d i arg9 a5 a6 NT I J D (outer_step NT I J (list D) t (hin := k1_off31_inb i t h1) (h₁ := hc6 h1) (h₂ := hc7 h1) (h₃ := hc8 h1) hinv))
  isplitl [HD]
  · iapply (Entails.of_eq (owns_list d i (slot a5 kd) fullShare D)) $$ HD
  isplitl [H9]; · iexact H9
  iexact HO

/-- The row number of a trip, on every lane. -/
abbrev rowV (t : Fin k1_t3_loop.trips) : IVec S16 32 := broadcast S16 (Scalar.addi 0#32 (Scalar.muli (Scf.iv 0#32 1#32 t) 1#32))

set_option maxHeartbeats 4000000 in
/-- A trip of the second loop. -/
theorem inner_trip (ho : (![(Scalar.remui w5 2#32).toNat, 0, 0] : Fin 3 → ℕ) = ![ko % 2, 0, 0]) (t : Fin k1_t3_loop.trips) :
    (innerInv d i arg7 arg8 arg9 a6 NT I J D (ko := ko) t.val : sProp 𝕄)
      ⊢ wp frame (wpE defs 𝒱 (thr d i) bd) Set.univ
          (k1_t3_body i arg2 harg2 arg3 harg3 arg4 harg4 arg5 harg5 arg6 harg6 arg7 harg7 arg8 harg8 arg9 harg9 arg10 arg11 a3 ha3 s3 a4 ha4 s4 a5 ha5 s5 a6 ha6 s6
            lanes k1_pay1 h1 w2 w3 w4 w5 hw5 hw4 hw3 hw2 v106 v107 v118 t ⟨⟩)
          (fun _ => innerInv d i arg7 arg8 arg9 a6 NT I J D (ko := ko) (t.val + 1)) := by
  have h1024 : t.val < 1024 := lt_of_lt_of_eq t.isLt trips3
  have hρ : ∀ x, (rowV t x).toNat = t.val := fun x => row_val t
  unfold k1_t3_body
  have hrow : ∀ x, (rowV t x).toNat < 1024 := fun x => by rw [hρ]; exact h1024
  have hc9 : k1_chk9 i lanes (rowV t) := ⟨fun _ => idx_ok hrow (fun x => by rw [lanes_val]; exact lane_lt x),
    fun _ => idx_ok hrow (fun x => by rw [lanes_val]; exact lane_lt x), fun _ a x => by
      match a with
      | ⟨0, _⟩ => exact hrow x⟩
  have hc10 : k1_chk10 i (rowV t) (k1_pay9 lanes) := fun _ => idx_ok hrow (fun x => by rw [pay9_val]; have := lane_lt x; omega)
  have hc11 : k1_chk11 i (rowV t) (k1_pay10 (k1_pay9 lanes)) := fun _ => idx_ok hrow (fun x => by rw [pay10_val]; omega)
  simp only [Prog.lift, Prog.bind_op, Prog.bind_ret, Prog.pure_eq_ret]
  iintro H
  ihave H := (innerInv_open d i arg7 arg8 arg9 a6 NT I J D t.val) $$ H
  icases H with ⟨%O, %hinv, H7, H8, H9, HO⟩
  rw [wp_assume_of _ _ _ _ hc9]
  iapply (wp_loadIdx 𝒱 (thr d i) bd Set.univ (base₀ := arg7) rfl) $$ H7
  iintro H7
  iapply (wp_loadIdx 𝒱 (thr d i) bd Set.univ (base₀ := arg8) rfl) $$ H8
  iintro H8
  iapply (wp_loadIdx 𝒱 (thr d i) bd Set.univ (base₀ := arg9) rfl) $$ H9
  iintro H9
  rw [wp_assume_of _ _ _ _ hc10]
  iapply (wp_storeIdx 𝒱 (thr d i) bd Set.univ (oslot_eq a6 ho)) $$ HO
  iintro HO
  rw [wp_assume_of _ _ _ _ hc11]
  iapply (wp_storeIdx 𝒱 (thr d i) bd Set.univ (oslot_eq a6 ho)) $$ HO
  iintro HO
  rw [wp_ret]
  imodintro
  iapply (innerInv_intro d i arg7 arg8 arg9 a6 NT I J D
    (inner_step NT I J (list D) hρ (h₁ := hc9.1 h1) (h₂ := hc9.2.1 h1) (h₃ := hc9.2.2 h1) (h₄ := hc10 h1) (h₅ := hc11 h1) hinv))
  isplitl [H7]; · iexact H7
  isplitl [H8]; · iexact H8
  isplitl [H9]; · iexact H9
  iexact HO

end Cert.Proof.Stage2
-- ==== Proof.Body2.lean ====
/-
  The body of the second stage on one tile: the pipeline over the tile's blocks. A trip asks for the next block of each
  of the three lists, waits for its own, gathers the features of its atoms, computes its rows, sends them, and waits for
  the rows of the block before.
-/
module

public import proofs.«01_k».proof.Proof.Loops2

@[expose] public section

noncomputable section

namespace Cert.Proof.Stage2

open Idealize.ShloMosaic Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Cert.Proof.Rules

variable {F : FTy → Type} [FloatOps F] [Named F] {e : EltTy} [f : Cert.KernelIdeal.Facts₀]
variable {Ix : Type} [DecidableEq Ix] {Name : Type} [DecidableEq Name] {U : Type} [URA U] {Lvl : Type} [Preorder Lvl]
variable {defs : Defs nD τ sig (Elt F) Λ₀} (EC : UEmb Counters (MT nD τ sig Ix (Elt F) Name U Lvl)) (𝒱 : Variants) (bd : Option 𝒱.V)

local notation "𝕄" => MT nD τ sig Ix (Elt F) Name U Lvl

/-- A side condition that holds is passed. -/
theorem wp_assume_bind {c : Thread nD τ} {α : Type} {E : Set Name} {P : Prop} {dP : Decidable P} {Q : α → sProp 𝕄}
    {k : PLift P → Prog (TpuEff nD τ sig (Elt F) Λ₀ c.2) α} (h : P) :
    wp frame (wpE defs 𝒱 c bd) E (Prog.lift (TpuEff.assume P dP) >>= k) Q = wp (M := 𝕄) frame (wpE defs 𝒱 c bd) E (k ⟨h⟩) Q := by
  simp only [Prog.lift, Prog.bind_op, Prog.bind_ret]
  exact wp_assume_of _ _ _ _ h

variable (d : Dev nD) (i : grid1.Coords)

/-! ### The four streams -/

/-- A list of pairs coming in, -/
abbrev inS (a : Memref sig .scVector .hbm S1x640000 e) (b : Memref sig .scVector .vmem S2x1x1024 e) (v : DmaSems sig S2)
    (X : S1x640000.Idx → Elt F e) : Flow sig .scVector S1x1024 e F where
  cnt := cnt i
  slot := slot b
  sem := sem v
  blk := fun k => blk a (base i + k)
  B := fun k => part X (base i + k)
  credit := (blk a 0).view.dmaCredit

/-- and the result going out. -/
abbrev outS (a : Memref sig .scVector .hbm S640000x27 .f32) (b : Memref sig .scVector .vmem S2x1024x27 .f32) (v : DmaSems sig S2)
    (NT : Vec F S100352x16 .f32) (I J : Vec F S1x640000 .i32) (D : Vec F S1x640000 .f32) : Flow sig .scVector S1024x27 .f32 F where
  cnt := cnt i
  slot := oslot b
  sem := sem v
  blk := fun k => oblk a (base i + k)
  B := fun k => rowsOf NT (list (part I (base i + k))) (list (part J (base i + k))) (list (part D (base i + k)))
  credit := (oblk a 0).view.dmaCredit

theorem inS_ok (a : Memref sig .scVector .hbm S1x640000 e) (b : Memref sig .scVector .vmem S2x1x1024 e) (v : DmaSems sig S2)
    (X : S1x640000.Idx → Elt F e) : (inS i a b v X).Ok where
  slot_two k := slot_eq b (by rw [Nat.add_mod_right])
  sem_two k := sem_eq v (by rw [Nat.add_mod_right])
  pos := View.dmaCredit_pos (blk a 0).view (by show 0 < Shape.numel S1x1024; decide)
  slot_credit k := rfl
  blk_credit k := rfl

theorem outS_ok (a : Memref sig .scVector .hbm S640000x27 .f32) (b : Memref sig .scVector .vmem S2x1024x27 .f32) (v : DmaSems sig S2)
    (NT : Vec F S100352x16 .f32) (I J : Vec F S1x640000 .i32) (D : Vec F S1x640000 .f32) : (outS i a b v NT I J D).Ok where
  slot_two k := oslot_eq b (by rw [Nat.add_mod_right])
  sem_two k := sem_eq v (by rw [Nat.add_mod_right])
  pos := View.dmaCredit_pos (oblk a 0).view (by show 0 < Shape.numel S1024x27; decide)
  slot_credit k := rfl
  blk_credit k := rfl

theorem list_lt {X : Vec F S1x640000 .i32} (h : ∀ x, (X x).toNat < 100352) (b : ℕ) (x : S1024.Idx) : (list (part X b) x).toNat < 100352 := h _

/-- A gather is credited what its wait takes: row by row it is the whole buffer's. -/
theorem rows_credit (m : Memref sig .scVector .vmem S1024x16 .f32) (hg : S100352x16.Gathers 0 S1024x16) :
    ∑ j, (m.slice (S1024x16.rowRect hg.axis' j) (S1024x16.stride_rowRect hg.axis' j)).view.dmaCredit = m.view.dmaCredit := by
  refine (Finset.sum_const (sig.dmaCredit .scVector (Kind.scVector.table .vmem) m.view.buf (S1024x16.rowShape hg.axis') .f32)).trans ?_
  rw [Finset.card_univ, Fintype.card_fin]
  have h₁ : sig.dmaCredit .scVector (Kind.scVector.table .vmem) m.view.buf (S1024x16.rowShape hg.axis') .f32
    = RefSig.bitCredit (S1024x16.rowShape hg.axis') .f32 := rfl
  have h₂ : m.view.dmaCredit = RefSig.bitCredit S1024x16 .f32 := rfl
  rw [h₁, h₂]
  clear * -
  revert hg
  decide +kernel

/-- What a gather leaves is the features of the list's atoms. -/
theorem owns_gathered {c : Thread nD τ} (m : Memref sig c.2.kind .vmem S1024x16 .f32) {q : PosShare TreeShare} {NT : Vec F S100352x16 .f32}
    {V : Vec F S1024 .i32} {hg : S100352x16.Gathers 0 S1024x16} {hn : S1024.numel = S1024x16.size hg.axis'}
    (hin : ∀ x, (V x).toNat < 100352) :
    (owns c m q (SparseCore.gatherPayload hg NT (SparseCore.rows (F := F) V hn hin)) : sProp 𝕄) = owns c m q (featuresOf NT V) := by
  rw [gathered]

/-- A gather's wait. -/
theorem wp_waitGather [EC.LandsIn (upEmb : UEmb _ 𝕄)] {c : Thread nD τ} {α : Type} {Q : α → sProp 𝕄} {sp' : Space} {s s' : Shape} {e' : EltTy} {κ' : Kind}
    {sem : DmaSem sig} {src : Memref sig c.2.kind sp' s' e'} {dst : Memref sig κ' .vmem s e} {hsrc : src.view.WordExact} {hdst : dst.view.WordExact}
    {k : PUnit → Prog (TpuEff nD τ sig (Elt F) Λ₀ c.2) α} (ι : Ix) {D : sProp 𝕄} {O : CellTallies nD τ sig Ix} {W : Waits sig Ix} :
    iprop(Transfers.Flight EC c (.dma sem) ι dst.view.dmaCredit D ∗ Due c ι O W ∗ Transfers.MayWaits c ι O)
      ⊢ iprop((iprop(D ∗ semVal (c, .dma sem) 0 ∗ Due c ι O W) -∗ wp frame (wpE defs 𝒱 c bd) Set.univ (k ⟨⟩) Q)
          -∗ wp frame (wpE defs 𝒱 c bd) Set.univ (SparseCore.waitIndirectGather sem src dst hsrc hdst >>= k) Q) :=
  wp_wait EC 𝒱 c bd ι rfl rfl

section
variable (c : Thread nD τ) {s : Shape} (S : Flow sig c.2.kind s e F) (ι : Ix)

theorem coming_open {k : ℕ} (h : k < S.cnt) : (S.coming EC c ι k : sProp 𝕄) ⊢ iprop(S.inFlight EC c ι k ∗ S.inTodo c (k + 1)) := by
  unfold Flow.coming; rw [if_pos h]

theorem free_intro {k : ℕ} (Y : s.Idx → Elt F e) :
    (iprop(owns c (S.slot k) fullShare Y ∗ semVal (c, SemLoc.dma (S.sem k)) 0) : sProp 𝕄) ⊢ S.free c k := by
  unfold Flow.free
  iintro ⟨H, V⟩
  isplitl [H]
  · iexists Y; iexact H
  · iexact V

theorem free_open {k : ℕ} : (S.free c k : sProp 𝕄) ⊢ iprop((∃ Y, owns c (S.slot k) fullShare Y) ∗ semVal (c, SemLoc.dma (S.sem k)) 0) := .rfl

/-- Two slots in a row are the two slots. -/
theorem free_pair (h : S.Ok) (k : ℕ) : (iprop(S.free c k ∗ S.free c (k + 1)) : sProp 𝕄) ⊢ iprop(S.free c 0 ∗ S.free c 1) := by
  induction k with
  | zero => exact .rfl
  | succ k ih =>
    iintro ⟨H₁, H₂⟩
    iapply ih
    ihave H₂ := (Entails.of_eq (S.free_two c h k)) $$ H₂
    isplitl [H₂]
    · iexact H₂
    · iexact H₁

theorem coming_last {k : ℕ} (h : ¬ k < S.cnt) : (S.coming EC c ι k : sProp 𝕄) ⊢ S.free c k := by
  unfold Flow.coming; rw [if_neg h]

theorem leaving_zero : (S.free c 1 : sProp 𝕄) ⊢ S.leaving EC c ι 0 := by
  unfold Flow.leaving; rw [if_neg (by decide)]

theorem leaving_intro (k : ℕ) : (S.outFlight EC c ι k : sProp 𝕄) ⊢ S.leaving EC c ι (k + 1) := by
  unfold Flow.leaving; rw [if_pos (Nat.succ_pos k), Nat.add_sub_cancel]
end

/-! ### Words -/

theorem bit_lt {p : Prop} [Decidable p] {b : BitVec 1} (hb : b = if p then 1#1 else 0#1) (h : b = 1#1) : p := by
  by_contra hp
  rw [if_neg hp] at hb
  rw [hb] at h
  exact absurd h (by decide)

theorem cnt_lt {t : ℕ} (ht : t ≤ cnt i) : t < 2 ^ 32 := by have := cnt_le i; omega

theorem ahead_slot {t : ℕ} (h : t + 1 < cnt i) : (![(Scalar.remui (ahead i t) 2#32).toNat, 0, 0] : Fin 3 → ℕ) = ![(t + 1) % 2, 0, 0] := by
  unfold ahead
  rw [Nat.min_eq_left h.le]
  exact slot_off _ (cnt_lt i h.le)
theorem ahead_sem {t : ℕ} (h : t + 1 < cnt i) : (![(Scalar.remui (ahead i t) 2#32).toNat] : Fin 1 → ℕ) = ![(t + 1) % 2] := by
  unfold ahead
  rw [Nat.min_eq_left h.le]
  exact sem_off _ (cnt_lt i h.le)

variable (arg2 : Memref sig .scVector .hbm S100352x16 .f32) (harg2 : arg2.IsWhole) (arg3 : Memref sig .scVector .hbm S1x640000 .i32) (harg3 : arg3.IsWhole)
  (arg4 : Memref sig .scVector .hbm S1x640000 .i32) (harg4 : arg4.IsWhole) (arg5 : Memref sig .scVector .hbm S1x640000 .f32) (harg5 : arg5.IsWhole)
  (arg6 : Memref sig .scVector .hbm S640000x27 .f32) (harg6 : arg6.IsWhole) (arg7 : Memref sig .scVector .vmem S1024x16 .f32) (harg7 : arg7.IsWhole)
  (arg8 : Memref sig .scVector .vmem S1024x16 .f32) (harg8 : arg8.IsWhole) (arg9 : Memref sig .scVector .vmem S1024 .f32) (harg9 : arg9.IsWhole)
  (arg10 arg11 : DmaSems sig S_) (a3 : Memref sig .scVector .vmem S2x1x1024 .i32) (ha3 : a3.IsWhole) (s3 : DmaSems sig S2)
  (a4 : Memref sig .scVector .vmem S2x1x1024 .i32) (ha4 : a4.IsWhole) (s4 : DmaSems sig S2)
  (a5 : Memref sig .scVector .vmem S2x1x1024 .f32) (ha5 : a5.IsWhole) (s5 : DmaSems sig S2)
  (a6 : Memref sig .scVector .vmem S2x1024x27 .f32) (ha6 : a6.IsWhole) (s6 : DmaSems sig S2)
  (NT : Vec F S100352x16 .f32) (I J : Vec F S1x640000 .i32) (D : Vec F S1x640000 .f32) (q₁ q₂ : PosShare TreeShare)
  (ι : Ix) (O : CellTallies nD τ sig Ix) (W : Waits sig Ix)

/-- What the tile holds before trip `t`: the three lists coming, the result leaving, the table and the scratch. -/
def held (t : ℕ) : sProp 𝕄 :=
  iprop(((inS i arg3 a3 s3 I).coming EC (thr d i) ι t ∗ (inS i arg3 a3 s3 I).free (thr d i) (t + 1) ∗ (inS i arg3 a3 s3 I).inDone (thr d i) t)
    ∗ ((inS i arg4 a4 s4 J).coming EC (thr d i) ι t ∗ (inS i arg4 a4 s4 J).free (thr d i) (t + 1) ∗ (inS i arg4 a4 s4 J).inDone (thr d i) t)
    ∗ ((inS i arg5 a5 s5 D).coming EC (thr d i) ι t ∗ (inS i arg5 a5 s5 D).free (thr d i) (t + 1) ∗ (inS i arg5 a5 s5 D).inDone (thr d i) t)
    ∗ ((outS i arg6 a6 s6 NT I J D).free (thr d i) t ∗ (outS i arg6 a6 s6 NT I J D).leaving EC (thr d i) ι t
      ∗ (outS i arg6 a6 s6 NT I J D).outTodo (thr d i) t ∗ (outS i arg6 a6 s6 NT I J D).inDone (thr d i) (t - 1))
    ∗ owns (thr d i) arg2 q₁ NT ∗ owns (thr d i) arg2 q₂ NT
    ∗ ((∃ Y, owns (thr d i) arg7 fullShare Y) ∗ (∃ Y, owns (thr d i) arg8 fullShare Y) ∗ (∃ Y, owns (thr d i) arg9 fullShare Y))
    ∗ (semVal (thr d i, SemLoc.dma arg10.sem) 0 ∗ semVal (thr d i, SemLoc.dma arg11.sem) 0)
    ∗ Due (thr d i) ι O W ∗ Transfers.MayWaits (thr d i) ι O)

set_option maxHeartbeats 8000000 in
/-- One trip. -/
theorem trip [Infinite Name] [EC.LandsIn (upEmb : UEmb _ 𝕄)] (hI : ∀ x, (I x).toNat < 100352) (hJ : ∀ x, (J x).toNat < 100352)
    (t : Fin (k1_t1_loop i).trips) {v14 : BitVec 32} {h1} {v22 v25 v46 : BitVec 32} {v48 : BitVec 1} {c0 : BitVec 32} :
    (held EC d i arg2 arg3 arg4 arg5 arg6 arg7 arg8 arg9 arg10 arg11 a3 s3 a4 s4 a5 s5 a6 s6 NT I J D q₁ q₂ ι O W t.val : sProp 𝕄)
      ⊢ wp frame (wpE defs 𝒱 (thr d i) bd) Set.univ
          (k1_t1_body i arg2 harg2 arg3 harg3 arg4 harg4 arg5 harg5 arg6 harg6 arg7 harg7 arg8 harg8 arg9 harg9 arg10 arg11 a3 ha3 s3 a4 ha4 s4 a5 ha5 s5 a6 ha6 s6
            lanes k1_pay1 (.ofNat 32 (cnt i)) (.ofNat 32 (base i)) v14 h1 v22 v25 v46 v48 c0 t (carry i t.val))
          (fun acc => iprop(⌜acc = carry i (t.val + 1)⌝
            ∗ held EC d i arg2 arg3 arg4 arg5 arg6 arg7 arg8 arg9 arg10 arg11 a3 s3 a4 s4 a5 s5 a6 s6 NT I J D q₁ q₂ ι O W (t.val + 1))) := by
  have ht := lt_cnt t
  have hw := cnt_lt i ht.le
  unfold held k1_t1_body
  dsimp only
  iintro ⟨⟨H3, F3, D3⟩, ⟨H4, F4, D4⟩, ⟨H5, F5, D5⟩, ⟨F6, L6, T6, D6⟩, Q₁, Q₂, ⟨⟨%Y7, H7⟩, ⟨%Y8, H8⟩, ⟨%Y9, H9⟩⟩, ⟨V10, V11⟩, HO, #HW⟩
  rw [wp_bind, k1_part1_eq_skeleton]
  unfold k1_part1_skel
  dsimp only
  rw [wp_assume_bind _ _ (chk5 i t), wp_assume_bind _ _ (chk4 i t), wp_assume_bind _ _ (chk3 i t), wp_assume_bind _ _ (chk2 i t), wp_assume_bind _ _ (chk1 i t)]
  dsimp only
  ihave H3 := (coming_open EC (thr d i) (inS i arg3 a3 s3 I) ι ht) $$ H3
  icases H3 with ⟨H3, T3⟩
  ihave H4 := (coming_open EC (thr d i) (inS i arg4 a4 s4 J) ι ht) $$ H4
  icases H4 with ⟨H4, T4⟩
  ihave H5 := (coming_open EC (thr d i) (inS i arg5 a5 s5 D) ι ht) $$ H5
  icases H5 with ⟨H5, T5⟩
  iapply (Flow.wp_issue_in EC 𝒱 (thr d i) bd (inS i arg3 a3 s3 I) ι (inS_ok i arg3 a3 s3 I) (k := t.val + 1) (cond5 i t)
    (fun h => blk_eq arg3 (off11 i t (bit_lt (cond5 i t) h)))
    (fun h => slot_eq a3 (ahead_slot i (bit_lt (cond5 i t) h)))
    (fun h => congrArg SemLoc.dma (sem_eq s3 (ahead_sem i (bit_lt (cond5 i t) h))))) $$ [F3 T3]
  · isplitl [F3]; · iexact F3
    iexact T3
  iintro C3
  rw [Prog.pure_eq_ret, wp_ret]; imodintro
  dsimp only
  rw [wp_bind, k1_part2_eq_skeleton]
  unfold k1_part2_skel
  dsimp only
  iapply (Flow.wp_issue_in EC 𝒱 (thr d i) bd (inS i arg4 a4 s4 J) ι (inS_ok i arg4 a4 s4 J) (k := t.val + 1) (cond6 i t)
    (fun h => blk_eq arg4 (off11 i t (bit_lt (cond6 i t) h)))
    (fun h => slot_eq a4 (ahead_slot i (bit_lt (cond6 i t) h)))
    (fun h => congrArg SemLoc.dma (sem_eq s4 (ahead_sem i (bit_lt (cond6 i t) h))))) $$ [F4 T4]
  · isplitl [F4]; · iexact F4
    iexact T4
  iintro C4
  iapply (Flow.wp_issue_in EC 𝒱 (thr d i) bd (inS i arg5 a5 s5 D) ι (inS_ok i arg5 a5 s5 D) (k := t.val + 1) (cond7 i t)
    (fun h => blk_eq arg5 (off11 i t (bit_lt (cond7 i t) h)))
    (fun h => slot_eq a5 (ahead_slot i (bit_lt (cond7 i t) h)))
    (fun h => congrArg SemLoc.dma (sem_eq s5 (ahead_sem i (bit_lt (cond7 i t) h))))) $$ [F5 T5]
  · isplitl [F5]; · iexact F5
    iexact T5
  iintro C5
  iapply (Flow.wp_wait_in EC 𝒱 (thr d i) bd (inS i arg3 a3 s3 I) ι (inS_ok i arg3 a3 s3 I) (k := t.val) (O := O) (W := W) (cond8 i t)
    (fun h => slot_eq a3 (slot_off t.val hw)) (fun h => sem_eq s3 (sem_off t.val hw))) $$ [H3 D3 HO]
  · isplitl [H3]; · iexact H3
    isplitl [D3]; · iexact D3
    isplitl [HO]; · iexact HO
    iexact HW
  iintro ⟨H3, V3, D3, HO⟩
  rw [Prog.pure_eq_ret, wp_ret]; imodintro
  dsimp only
  rw [wp_bind, k1_part3_eq_skeleton]
  unfold k1_part3_skel
  dsimp only
  iapply (Flow.wp_wait_in EC 𝒱 (thr d i) bd (inS i arg4 a4 s4 J) ι (inS_ok i arg4 a4 s4 J) (k := t.val) (O := O) (W := W) (cond9 i t)
    (fun h => slot_eq a4 (slot_off t.val hw)) (fun h => sem_eq s4 (sem_off t.val hw))) $$ [H4 D4 HO]
  · isplitl [H4]; · iexact H4
    isplitl [D4]; · iexact D4
    isplitl [HO]; · iexact HO
    iexact HW
  iintro ⟨H4, V4, D4, HO⟩
  iapply (Flow.wp_wait_in EC 𝒱 (thr d i) bd (inS i arg5 a5 s5 D) ι (inS_ok i arg5 a5 s5 D) (k := t.val) (O := O) (W := W) (cond10 i t)
    (fun h => slot_eq a5 (slot_off t.val hw)) (fun h => sem_eq s5 (sem_off t.val hw))) $$ [H5 D5 HO]
  · isplitl [H5]; · iexact H5
    isplitl [D5]; · iexact D5
    isplitl [HO]; · iexact HO
    iexact HW
  iintro ⟨H5, V5, D5, HO⟩
  rw [ite_self]
  ihave H3 := (Entails.of_eq (owns_list d i (slot a3 t.val) fullShare (part I (base i + t.val))).symm) $$ H3
  ihave Q₁ := (Entails.of_eq (owns_table d i arg2 q₁ NT).symm) $$ Q₁
  iapply (wp_gather EC 𝒱 (thr d i) bd ι arg7.view.dmaCredit (hg := gathers_S100352x16_S1024x16) rfl
    (congrArg listM (slot_eq a3 (slot_off t.val hw))) (rows_credit arg7 _) (by show 0 < Shape.numel S1024x16; decide)
    (list_lt hI (base i + t.val))) $$ [Q₁ H7 H3 V10]
  · isplitl [Q₁]; · iexact Q₁
    isplitl [H7]; · iexact H7
    isplitl [H3]; · iexact H3
    iexact V10
  iintro G7
  ihave H4 := (Entails.of_eq (owns_list d i (slot a4 t.val) fullShare (part J (base i + t.val))).symm) $$ H4
  ihave Q₂ := (Entails.of_eq (owns_table d i arg2 q₂ NT).symm) $$ Q₂
  iapply (wp_gather EC 𝒱 (thr d i) bd ι arg8.view.dmaCredit (hg := gathers_S100352x16_S1024x16) rfl
    (congrArg listM (slot_eq a4 (slot_off t.val hw))) (rows_credit arg8 _) (by show 0 < Shape.numel S1024x16; decide)
    (list_lt hJ (base i + t.val))) $$ [Q₂ H8 H4 V11]
  · isplitl [Q₂]; · iexact Q₂
    isplitl [H8]; · iexact H8
    isplitl [H4]; · iexact H4
    iexact V11
  iintro G8
  rw [Prog.pure_eq_ret, wp_ret]; imodintro
  dsimp only
  rw [wp_bind, k1_part4_eq_skeleton]
  unfold k1_part4_skel
  dsimp only
  iapply (wp_waitGather EC 𝒱 bd ι (O := O) (W := W)) $$ [G7 HO]
  · isplitl [G7]; · iexact G7
    isplitl [HO]; · iexact HO
    iexact HW
  iintro ⟨⟨H7, Q₁, H3⟩, V10, HO⟩
  ihave H7 := (Entails.of_eq (owns_gathered (c := thr d i) (q := fullShare) (NT := NT) (hg := gathers_S100352x16_S1024x16) (hn := rfl) arg7 (list_lt hI (base i + t.val)))) $$ H7
  ihave H3 := (Entails.of_eq (owns_list d i (slot a3 t.val) fullShare (part I (base i + t.val)))) $$ H3
  ihave Q₁ := (Entails.of_eq (owns_table d i arg2 q₁ NT)) $$ Q₁
  iapply (wp_waitGather EC 𝒱 bd ι (O := O) (W := W)) $$ [G8 HO]
  · isplitl [G8]; · iexact G8
    isplitl [HO]; · iexact HO
    iexact HW
  iintro ⟨⟨H8, Q₂, H4⟩, V11, HO⟩
  ihave H8 := (Entails.of_eq (owns_gathered (c := thr d i) (q := fullShare) (NT := NT) (hg := gathers_S100352x16_S1024x16) (hn := rfl) arg8 (list_lt hJ (base i + t.val)))) $$ H8
  ihave H4 := (Entails.of_eq (owns_list d i (slot a4 t.val) fullShare (part J (base i + t.val)))) $$ H4
  ihave Q₂ := (Entails.of_eq (owns_table d i arg2 q₂ NT)) $$ Q₂
  ihave F6 := (free_open (thr d i) (outS i arg6 a6 s6 NT I J D)) $$ F6
  icases F6 with ⟨⟨%Y6, H6⟩, V6⟩
  ihave HI := (outerInv_intro d i arg9 a5 a6 NT (list (part I (base i + t.val))) (list (part J (base i + t.val))) (part D (base i + t.val)) (kd := t.val) (ko := t.val)
    (outer_zero (F := F) NT (list (part I (base i + t.val))) (list (part J (base i + t.val))) (list (part D (base i + t.val))) Y6 Y9)) $$ [H5 H9 H6]
  · isplitl [H5]; · iexact H5
    isplitl [H9]; · iexact H9
    iexact H6
  iapply (Scf.wp_for_bind _ _ _ _ _ _ _ _ _
    (fun n _ => outerInv d i arg9 a5 a6 NT (list (part I (base i + t.val))) (list (part J (base i + t.val))) (part D (base i + t.val)) (kd := t.val) (ko := t.val) n)
    (fun r _ => outer_trip 𝒱 bd d i arg2 harg2 arg3 harg3 arg4 harg4 arg5 harg5 arg6 harg6 arg7 harg7 arg8 harg8 arg9 harg9 arg10 arg11 a3 ha3 s3 a4 ha4 s4 a5 ha5 s5 a6 ha6 s6
      NT _ _ _ _ (slot_off t.val hw) (slot_off t.val hw) r)) $$ HI
  iintro %_ HI
  ihave HI := (outerInv_open d i arg9 a5 a6 NT (list (part I (base i + t.val))) (list (part J (base i + t.val))) (part D (base i + t.val)) (kd := t.val) (ko := t.val) _) $$ HI
  icases HI with ⟨%O₁, %rec, %hinv, H5, H9, H6⟩
  obtain ⟨hrow, rfl⟩ := rows_zero NT (list (part I (base i + t.val))) (list (part J (base i + t.val))) (list (part D (base i + t.val))) ((congrArg (fun n => OuterUpTo NT (list (part I (base i + t.val))) (list (part J (base i + t.val))) (list (part D (base i + t.val))) n O₁ rec) trips2).mp hinv)
  ihave HI := (innerInv_intro d i arg7 arg8 arg9 a6 NT (list (part I (base i + t.val))) (list (part J (base i + t.val))) (part D (base i + t.val)) (ko := t.val) hrow) $$ [H7 H8 H9 H6]
  · isplitl [H7]; · iexact H7
    isplitl [H8]; · iexact H8
    isplitl [H9]; · iexact H9
    iexact H6
  iapply (Scf.wp_for_bind _ _ _ _ _ _ _ _ _
    (fun n _ => innerInv d i arg7 arg8 arg9 a6 NT (list (part I (base i + t.val))) (list (part J (base i + t.val))) (part D (base i + t.val)) (ko := t.val) n)
    (fun r _ => inner_trip 𝒱 bd d i arg2 harg2 arg3 harg3 arg4 harg4 arg5 harg5 arg6 harg6 arg7 harg7 arg8 harg8 arg9 harg9 arg10 arg11 a3 ha3 s3 a4 ha4 s4 a5 ha5 s5 a6 ha6 s6
      NT _ _ _ _ (slot_off t.val hw) r)) $$ HI
  iintro %_ HI
  ihave HI := (innerInv_open d i arg7 arg8 arg9 a6 NT (list (part I (base i + t.val))) (list (part J (base i + t.val))) (part D (base i + t.val)) (ko := t.val) _) $$ HI
  icases HI with ⟨%O₂, %hall, H7, H8, H9, H6⟩
  obtain rfl := rows_all NT (list (part I (base i + t.val))) (list (part J (base i + t.val))) (list (part D (base i + t.val))) ((congrArg (fun n => RowsUpTo NT (list (part I (base i + t.val))) (list (part J (base i + t.val))) (list (part D (base i + t.val))) n O₂) trips3).mp hall)
  simp only [ite_self]
  rw [Prog.pure_eq_ret, wp_ret]; imodintro
  dsimp only
  rw [wp_bind, k1_part5_eq_skeleton]
  unfold k1_part5_skel
  dsimp only
  iapply (Flow.wp_issue_out EC 𝒱 (thr d i) bd (outS i arg6 a6 s6 NT I J D) ι (outS_ok i arg6 a6 s6 NT I J D) (k := t.val) (cond15 i t) ht
    (fun h => oslot_eq a6 (slot_off t.val hw)) (fun h => oblk_eq arg6 (off38 i t))
    (fun h => congrArg SemLoc.dma (sem_eq s6 (sem_off t.val hw)))) $$ [H6 V6 T6]
  · isplitl [H6]; · iexact H6
    isplitl [V6]; · iexact V6
    iexact T6
  iintro ⟨G6, T6⟩
  simp only [ite_self]
  iapply (Flow.wp_wait_out EC 𝒱 (thr d i) bd (outS i arg6 a6 s6 NT I J D) ι (outS_ok i arg6 a6 s6 NT I J D) (k := t.val) (O := O) (W := W) (cond19 i t)
    (fun h h0 => oblk_eq arg6 (off41 i t h0)) (fun h h0 => sem_eq s6 (sem_off (t.val - 1) (by omega)))) $$ [L6 D6 HO]
  · isplitl [L6]; · iexact L6
    isplitl [D6]; · iexact D6
    isplitl [HO]; · iexact HO
    iexact HW
  iintro ⟨F6, D6, HO⟩
  rw [Prog.pure_eq_ret, wp_ret]; imodintro
  dsimp only
  rw [Prog.pure_eq_ret, wp_ret]; imodintro
  isplitr
  · ipureintro
    clear * - t
    refine Prod.ext ?_ (Prod.ext ?_ (Prod.ext ?_ (Prod.ext ?_ (Prod.ext ?_ (Prod.ext ?_ (Prod.ext ?_ (Prod.ext ?_ ?_)))))))
    all_goals dsimp only; revert t; revert i; decide +kernel
  ihave F3 := (free_intro (thr d i) (inS i arg3 a3 s3 I) _) $$ [H3 V3]
  · isplitl [H3]; · iexact H3
    iexact V3
  ihave F4 := (free_intro (thr d i) (inS i arg4 a4 s4 J) _) $$ [H4 V4]
  · isplitl [H4]; · iexact H4
    iexact V4
  ihave F5 := (free_intro (thr d i) (inS i arg5 a5 s5 D) _) $$ [H5 V5]
  · isplitl [H5]; · iexact H5
    iexact V5
  ihave F3 := (Entails.of_eq (Flow.free_two (thr d i) (inS i arg3 a3 s3 I) (inS_ok i arg3 a3 s3 I) t.val).symm) $$ F3
  ihave F4 := (Entails.of_eq (Flow.free_two (thr d i) (inS i arg4 a4 s4 J) (inS_ok i arg4 a4 s4 J) t.val).symm) $$ F4
  ihave F5 := (Entails.of_eq (Flow.free_two (thr d i) (inS i arg5 a5 s5 D) (inS_ok i arg5 a5 s5 D) t.val).symm) $$ F5
  ihave L6 := (leaving_intro EC (thr d i) (outS i arg6 a6 s6 NT I J D) ι t.val) $$ G6
  isplitl [C3 F3 D3]
  · isplitl [C3]; · iexact C3
    isplitl [F3]; · iexact F3
    iexact D3
  isplitl [C4 F4 D4]
  · isplitl [C4]; · iexact C4
    isplitl [F4]; · iexact F4
    iexact D4
  isplitl [C5 F5 D5]
  · isplitl [C5]; · iexact C5
    isplitl [F5]; · iexact F5
    iexact D5
  isplitl [F6 L6 T6 D6]
  · isplitl [F6]; · iexact F6
    isplitl [L6]; · iexact L6
    isplitl [T6]; · iexact T6
    iexact D6
  isplitl [Q₁]; · iexact Q₁
  isplitl [Q₂]; · iexact Q₂
  isplitl [H7 H8 H9]
  · isplitl [H7]; · iexists _; iexact H7
    isplitl [H8]; · iexists _; iexact H8
    iexists _; iexact H9
  isplitl [V10 V11]
  · isplitl [V10]; · iexact V10
    iexact V11
  isplitl [HO]; · iexact HO
  iexact HW

/-- What the tile starts from, -/
def start : sProp 𝕄 :=
  iprop(((inS i arg3 a3 s3 I).free (thr d i) 0 ∗ (inS i arg3 a3 s3 I).free (thr d i) 1 ∗ (inS i arg3 a3 s3 I).inTodo (thr d i) 0)
    ∗ ((inS i arg4 a4 s4 J).free (thr d i) 0 ∗ (inS i arg4 a4 s4 J).free (thr d i) 1 ∗ (inS i arg4 a4 s4 J).inTodo (thr d i) 0)
    ∗ ((inS i arg5 a5 s5 D).free (thr d i) 0 ∗ (inS i arg5 a5 s5 D).free (thr d i) 1 ∗ (inS i arg5 a5 s5 D).inTodo (thr d i) 0)
    ∗ ((outS i arg6 a6 s6 NT I J D).free (thr d i) 0 ∗ (outS i arg6 a6 s6 NT I J D).free (thr d i) 1 ∗ (outS i arg6 a6 s6 NT I J D).outTodo (thr d i) 0)
    ∗ owns (thr d i) arg2 q₁ NT ∗ owns (thr d i) arg2 q₂ NT
    ∗ ((∃ Y, owns (thr d i) arg7 fullShare Y) ∗ (∃ Y, owns (thr d i) arg8 fullShare Y) ∗ (∃ Y, owns (thr d i) arg9 fullShare Y))
    ∗ (semVal (thr d i, SemLoc.dma arg10.sem) 0 ∗ semVal (thr d i, SemLoc.dma arg11.sem) 0)
    ∗ Due (thr d i) ι O W)

/-- and what it ends with. -/
def finish : sProp 𝕄 :=
  iprop(((inS i arg3 a3 s3 I).free (thr d i) 0 ∗ (inS i arg3 a3 s3 I).free (thr d i) 1 ∗ (inS i arg3 a3 s3 I).inDone (thr d i) (cnt i))
    ∗ ((inS i arg4 a4 s4 J).free (thr d i) 0 ∗ (inS i arg4 a4 s4 J).free (thr d i) 1 ∗ (inS i arg4 a4 s4 J).inDone (thr d i) (cnt i))
    ∗ ((inS i arg5 a5 s5 D).free (thr d i) 0 ∗ (inS i arg5 a5 s5 D).free (thr d i) 1 ∗ (inS i arg5 a5 s5 D).inDone (thr d i) (cnt i))
    ∗ ((outS i arg6 a6 s6 NT I J D).free (thr d i) 0 ∗ (outS i arg6 a6 s6 NT I J D).free (thr d i) 1 ∗ (outS i arg6 a6 s6 NT I J D).inDone (thr d i) (cnt i))
    ∗ owns (thr d i) arg2 q₁ NT ∗ owns (thr d i) arg2 q₂ NT
    ∗ ((∃ Y, owns (thr d i) arg7 fullShare Y) ∗ (∃ Y, owns (thr d i) arg8 fullShare Y) ∗ (∃ Y, owns (thr d i) arg9 fullShare Y))
    ∗ (semVal (thr d i, SemLoc.dma arg10.sem) 0 ∗ semVal (thr d i, SemLoc.dma arg11.sem) 0)
    ∗ Due (thr d i) ι O W)

theorem held_open (t : ℕ) : (held EC d i arg2 arg3 arg4 arg5 arg6 arg7 arg8 arg9 arg10 arg11 a3 s3 a4 s4 a5 s5 a6 s6 NT I J D q₁ q₂ ι O W t : sProp 𝕄) ⊢ iprop(((inS i arg3 a3 s3 I).coming EC (thr d i) ι t ∗ (inS i arg3 a3 s3 I).free (thr d i) (t + 1) ∗ (inS i arg3 a3 s3 I).inDone (thr d i) t)
    ∗ ((inS i arg4 a4 s4 J).coming EC (thr d i) ι t ∗ (inS i arg4 a4 s4 J).free (thr d i) (t + 1) ∗ (inS i arg4 a4 s4 J).inDone (thr d i) t)
    ∗ ((inS i arg5 a5 s5 D).coming EC (thr d i) ι t ∗ (inS i arg5 a5 s5 D).free (thr d i) (t + 1) ∗ (inS i arg5 a5 s5 D).inDone (thr d i) t)
    ∗ ((outS i arg6 a6 s6 NT I J D).free (thr d i) t ∗ (outS i arg6 a6 s6 NT I J D).leaving EC (thr d i) ι t
      ∗ (outS i arg6 a6 s6 NT I J D).outTodo (thr d i) t ∗ (outS i arg6 a6 s6 NT I J D).inDone (thr d i) (t - 1))
    ∗ owns (thr d i) arg2 q₁ NT ∗ owns (thr d i) arg2 q₂ NT
    ∗ ((∃ Y, owns (thr d i) arg7 fullShare Y) ∗ (∃ Y, owns (thr d i) arg8 fullShare Y) ∗ (∃ Y, owns (thr d i) arg9 fullShare Y))
    ∗ (semVal (thr d i, SemLoc.dma arg10.sem) 0 ∗ semVal (thr d i, SemLoc.dma arg11.sem) 0)
    ∗ Due (thr d i) ι O W ∗ Transfers.MayWaits (thr d i) ι O) := .rfl

/-- The tile's number, how many blocks it takes and from which on, as the program computes them. -/
abbrev widW : BitVec 32 := Scalar.addi (Scalar.addi 0#32 (Scalar.muli (BitVec.ofNat 32 (i 1).val) 1#32)) (Scalar.muli (BitVec.ofNat 32 (i 0).val) 16#32)
theorem word_cnt : Scalar.select (Scalar.cmpi .slt (widW i) 17#32) 20#32 19#32 = BitVec.ofNat 32 (cnt i) := by revert i; decide +kernel
theorem word_base : Scalar.select (Scalar.cmpi .slt (widW i) 17#32) (Scalar.muli (widW i) (BitVec.ofNat 32 (cnt i)))
    (Scalar.addi (Scalar.muli (widW i) 19#32) 17#32) = BitVec.ofNat 32 (base i) := by revert i; decide +kernel

/-- Before the first trip. -/
theorem held_intro :
    (iprop(((inS i arg3 a3 s3 I).coming EC (thr d i) ι 0 ∗ (inS i arg3 a3 s3 I).free (thr d i) 1)
      ∗ ((inS i arg4 a4 s4 J).coming EC (thr d i) ι 0 ∗ (inS i arg4 a4 s4 J).free (thr d i) 1)
      ∗ ((inS i arg5 a5 s5 D).coming EC (thr d i) ι 0 ∗ (inS i arg5 a5 s5 D).free (thr d i) 1)
      ∗ ((outS i arg6 a6 s6 NT I J D).free (thr d i) 0 ∗ (outS i arg6 a6 s6 NT I J D).free (thr d i) 1 ∗ (outS i arg6 a6 s6 NT I J D).outTodo (thr d i) 0)
      ∗ owns (thr d i) arg2 q₁ NT ∗ owns (thr d i) arg2 q₂ NT
      ∗ ((∃ Y, owns (thr d i) arg7 fullShare Y) ∗ (∃ Y, owns (thr d i) arg8 fullShare Y) ∗ (∃ Y, owns (thr d i) arg9 fullShare Y))
      ∗ (semVal (thr d i, SemLoc.dma arg10.sem) 0 ∗ semVal (thr d i, SemLoc.dma arg11.sem) 0)
      ∗ Due (thr d i) ι O W ∗ Transfers.MayWaits (thr d i) ι O) : sProp 𝕄)
      ⊢ held EC d i arg2 arg3 arg4 arg5 arg6 arg7 arg8 arg9 arg10 arg11 a3 s3 a4 s4 a5 s5 a6 s6 NT I J D q₁ q₂ ι O W 0 := by
  unfold held
  iintro ⟨⟨C3, R3⟩, ⟨C4, R4⟩, ⟨C5, R5⟩, ⟨F6, L6, T6⟩, Q₁, Q₂, HS, HV, HO, HW⟩
  ihave L6 := (leaving_zero EC (thr d i) (outS i arg6 a6 s6 NT I J D) ι) $$ L6
  isplitl [C3 R3]
  · isplitl [C3]; · iexact C3
    isplitl [R3]; · iexact R3
    iapply (Entails.of_eq (Flow.inDone_zero (thr d i) (inS i arg3 a3 s3 I)).symm); iempintro
  isplitl [C4 R4]
  · isplitl [C4]; · iexact C4
    isplitl [R4]; · iexact R4
    iapply (Entails.of_eq (Flow.inDone_zero (thr d i) (inS i arg4 a4 s4 J)).symm); iempintro
  isplitl [C5 R5]
  · isplitl [C5]; · iexact C5
    isplitl [R5]; · iexact R5
    iapply (Entails.of_eq (Flow.inDone_zero (thr d i) (inS i arg5 a5 s5 D)).symm); iempintro
  isplitl [F6 L6 T6]
  · isplitl [F6]; · iexact F6
    isplitl [L6]; · iexact L6
    isplitl [T6]; · iexact T6
    iapply (Entails.of_eq (Flow.inDone_zero (thr d i) (outS i arg6 a6 s6 NT I J D)).symm); iempintro
  isplitl [Q₁]; · iexact Q₁
  isplitl [Q₂]; · iexact Q₂
  isplitl [HS]; · iexact HS
  isplitl [HV]; · iexact HV
  isplitl [HO]; · iexact HO
  iexact HW

set_option maxHeartbeats 600000 in
/-- The body. -/
theorem body [Infinite Name] [EC.LandsIn (upEmb : UEmb _ 𝕄)] (hI : ∀ x, (I x).toNat < 100352) (hJ : ∀ x, (J x).toNat < 100352) :
    (iprop(start d i arg2 arg3 arg4 arg5 arg6 arg7 arg8 arg9 arg10 arg11 a3 s3 a4 s4 a5 s5 a6 s6 NT I J D q₁ q₂ ι O W ∗ Transfers.MayWaits (thr d i) ι O) : sProp 𝕄)
      ⊢ wp frame (wpE defs 𝒱 (thr d i) bd) Set.univ (cc1_stage2 i arg2 harg2 arg3 harg3 arg4 harg4 arg5 harg5 arg6 harg6 arg7 harg7 arg8 harg8 arg9 harg9 arg10 arg11 a3 ha3 s3 a4 ha4 s4 a5 ha5 s5 a6 ha6 s6) (fun _ => finish d i arg2 arg3 arg4 arg5 arg6 arg7 arg8 arg9 arg10 arg11 a3 s3 a4 s4 a5 s5 a6 s6 NT I J D q₁ q₂ ι O W) := by
  rw [cc1_stage2_eq_skeleton]
  unfold cc1_stage2_skel start
  dsimp only
  rw [word_cnt, word_base, dif_pos (cond1 i)]
  iintro ⟨⟨⟨F3, R3, T3⟩, ⟨F4, R4, T4⟩, ⟨F5, R5, T5⟩, ⟨F6, L6, T6⟩, Q₁, Q₂, HS, HV, HO⟩, #HW⟩
  rw [wp_bind, k1_part11_eq_skeleton]
  unfold k1_part11_skel
  dsimp only
  iapply (Flow.wp_issue_in EC 𝒱 (thr d i) bd (inS i arg3 a3 s3 I) ι (inS_ok i arg3 a3 s3 I) (k := 0) (cond2 i)
    (fun h => blk_eq arg3 (off2 i)) (fun h => slot_eq a3 rfl) (fun h => congrArg SemLoc.dma (sem_eq s3 rfl))) $$ [F3 T3]
  · isplitl [F3]; · iexact F3
    iexact T3
  iintro C3
  rw [Prog.pure_eq_ret, wp_ret]; imodintro
  dsimp only
  rw [wp_bind, k1_part12_eq_skeleton]
  unfold k1_part12_skel
  dsimp only
  iapply (Flow.wp_issue_in EC 𝒱 (thr d i) bd (inS i arg4 a4 s4 J) ι (inS_ok i arg4 a4 s4 J) (k := 0) (cond3 i)
    (fun h => blk_eq arg4 (off2 i)) (fun h => slot_eq a4 rfl) (fun h => congrArg SemLoc.dma (sem_eq s4 rfl))) $$ [F4 T4]
  · isplitl [F4]; · iexact F4
    iexact T4
  iintro C4
  iapply (Flow.wp_issue_in EC 𝒱 (thr d i) bd (inS i arg5 a5 s5 D) ι (inS_ok i arg5 a5 s5 D) (k := 0) (cond4 i)
    (fun h => blk_eq arg5 (off2 i)) (fun h => slot_eq a5 rfl) (fun h => congrArg SemLoc.dma (sem_eq s5 rfl))) $$ [F5 T5]
  · isplitl [F5]; · iexact F5
    iexact T5
  iintro C5
  ihave HI := (held_intro EC d i arg2 arg3 arg4 arg5 arg6 arg7 arg8 arg9 arg10 arg11 a3 s3 a4 s4 a5 s5 a6 s6 NT I J D q₁ q₂ ι O W) $$ [C3 R3 C4 R4 C5 R5 F6 L6 T6 Q₁ Q₂ HS HV HO]
  · isplitl [C3 R3]
    · isplitl [C3]; · iexact C3
      iexact R3
    isplitl [C4 R4]
    · isplitl [C4]; · iexact C4
      iexact R4
    isplitl [C5 R5]
    · isplitl [C5]; · iexact C5
      iexact R5
    isplitl [F6 L6 T6]
    · isplitl [F6]; · iexact F6
      isplitl [L6]; · iexact L6
      iexact T6
    isplitl [Q₁]; · iexact Q₁
    isplitl [Q₂]; · iexact Q₂
    isplitl [HS]; · iexact HS
    isplitl [HV]; · iexact HV
    isplitl [HO]; · iexact HO
    iexact HW
  iapply (Scf.wp_for_bind _ _ _ _ _ _ _ _ _
    (fun n acc => iprop(⌜acc = carry i n⌝ ∗ held EC d i arg2 arg3 arg4 arg5 arg6 arg7 arg8 arg9 arg10 arg11 a3 s3 a4 s4 a5 s5 a6 s6 NT I J D q₁ q₂ ι O W n))
    (fun t acc => by
      iintro ⟨%hacc, H⟩
      subst hacc
      iapply (trip EC 𝒱 bd d i arg2 harg2 arg3 harg3 arg4 harg4 arg5 harg5 arg6 harg6 arg7 harg7 arg8 harg8 arg9 harg9 arg10 arg11 a3 ha3 s3 a4 ha4 s4 a5 ha5 s5 a6 ha6 s6
        NT I J D q₁ q₂ ι O W hI hJ t)
      iexact H)) $$ [HI]
  · isplitr
    · ipureintro
      clear * - i
      refine Prod.ext ?_ (Prod.ext ?_ (Prod.ext ?_ (Prod.ext ?_ (Prod.ext ?_ (Prod.ext ?_ (Prod.ext ?_ (Prod.ext ?_ ?_)))))))
      all_goals first | rfl | (dsimp only; revert i; decide +kernel)
    · iexact HI
  iintro %acc ⟨%hacc, HI⟩
  obtain rfl := hacc.trans (congrArg (carry i) (trips1 i))
  ihave HI := (Entails.of_eq (congrArg (held EC d i arg2 arg3 arg4 arg5 arg6 arg7 arg8 arg9 arg10 arg11 a3 s3 a4 s4 a5 s5 a6 s6 NT I J D q₁ q₂ ι O W) (trips1 i))) $$ HI
  iapply (Scf.wp_for_bind _ _ _ _ _ _ _ _ _
    (fun _ acc => iprop(⌜acc = carry i (cnt i)⌝))
    (fun t _ => absurd (lt_of_lt_of_eq t.isLt (trips4 i)) (Nat.not_lt_zero _))) $$ []
  · ipureintro; rfl
  iintro %acc %hacc
  subst hacc
  dsimp only
  rw [wp_assume_bind _ _ (chk24 i), wp_assume_bind _ _ (chk23 i), Prog.pure_eq_ret, wp_ret]; imodintro
  dsimp only
  simp only [dite_eq_ite, ite_self]
  ihave HI := (held_open EC d i arg2 arg3 arg4 arg5 arg6 arg7 arg8 arg9 arg10 arg11 a3 s3 a4 s4 a5 s5 a6 s6 NT I J D q₁ q₂ ι O W (cnt i)) $$ HI
  icases HI with ⟨⟨C3, R3, D3⟩, ⟨C4, R4, D4⟩, ⟨C5, R5, D5⟩, ⟨F6, L6, T6, D6⟩, Q₁, Q₂, HS, HV, HO, -⟩
  iapply (Flow.wp_wait_out EC 𝒱 (thr d i) bd (outS i arg6 a6 s6 NT I J D) ι (outS_ok i arg6 a6 s6 NT I J D) (k := cnt i) (O := O) (W := W)
    ((cond38 i).trans (if_pos (cnt_pos i)).symm)
    (fun h h0 => oblk_eq arg6 (off77 i)) (fun h h0 => sem_eq s6 (sem_off (cnt i - 1) (by have := cnt_le i; omega)))) $$ [L6 D6 HO]
  · isplitl [L6]; · iexact L6
    isplitl [D6]; · iexact D6
    isplitl [HO]; · iexact HO
    iexact HW
  iintro ⟨L6, D6, HO⟩
  rw [Prog.pure_eq_ret, wp_ret]; imodintro
  unfold finish
  ihave C3 := (coming_last EC (thr d i) (inS i arg3 a3 s3 I) ι (Nat.lt_irrefl _)) $$ C3
  ihave P3 := (free_pair (thr d i) (inS i arg3 a3 s3 I) (inS_ok i arg3 a3 s3 I) (cnt i)) $$ [C3 R3]
  · isplitl [C3]; · iexact C3
    iexact R3
  icases P3 with ⟨C3, R3⟩
  isplitl [C3 R3 D3]
  · isplitl [C3]; · iexact C3
    isplitl [R3]; · iexact R3
    iexact D3
  ihave C4 := (coming_last EC (thr d i) (inS i arg4 a4 s4 J) ι (Nat.lt_irrefl _)) $$ C4
  ihave P4 := (free_pair (thr d i) (inS i arg4 a4 s4 J) (inS_ok i arg4 a4 s4 J) (cnt i)) $$ [C4 R4]
  · isplitl [C4]; · iexact C4
    iexact R4
  icases P4 with ⟨C4, R4⟩
  isplitl [C4 R4 D4]
  · isplitl [C4]; · iexact C4
    isplitl [R4]; · iexact R4
    iexact D4
  ihave C5 := (coming_last EC (thr d i) (inS i arg5 a5 s5 D) ι (Nat.lt_irrefl _)) $$ C5
  ihave P5 := (free_pair (thr d i) (inS i arg5 a5 s5 D) (inS_ok i arg5 a5 s5 D) (cnt i)) $$ [C5 R5]
  · isplitl [C5]; · iexact C5
    iexact R5
  icases P5 with ⟨C5, R5⟩
  isplitl [C5 R5 D5]
  · isplitl [C5]; · iexact C5
    isplitl [R5]; · iexact R5
    iexact D5
  ihave P6 := (free_pair (thr d i) (outS i arg6 a6 s6 NT I J D) (outS_ok i arg6 a6 s6 NT I J D) (cnt i)) $$ [F6 L6]
  · isplitl [F6]; · iexact F6
    iexact L6
  icases P6 with ⟨F6, L6⟩
  isplitl [F6 L6 D6]
  · isplitl [F6]; · iexact F6
    isplitl [L6]; · iexact L6
    iexact D6
  isplitl [Q₁]; · iexact Q₁
  isplitl [Q₂]; · iexact Q₂
  isplitl [HS]; · iexact HS
  isplitl [HV]; · iexact HV
  iexact HO

end Cert.Proof.Stage2
-- ==== Proof.Arith0.lean ====
/-
  The scalar arithmetic of the first stage's pipeline: 196 blocks of 512 atoms over the 32 tiles. The loop carries five
  counters; before trip `t` they are the numbers in `carry`.
-/
module

public import proofs.«01_k».proof.KernelIdeal.P01

@[expose] public section

namespace Cert.Proof.Stage1

open Idealize.ShloMosaic Cert.KernelIdeal

/-- The tile's number. -/
def wid (i : grid0.Coords) : ℕ := (i 1).val + 16 * (i 0).val
/-- How many blocks the tile takes, -/
def cnt (i : grid0.Coords) : ℕ := if wid i < 4 then 7 else 6
/-- and the first of them. -/
def base (i : grid0.Coords) : ℕ := if wid i < 4 then wid i * 7 else wid i * 6 + 4

/-- The counter of blocks asked for. -/
abbrev ahead (i : grid0.Coords) (t : ℕ) : BitVec 32 := BitVec.ofNat 32 (min (t + 1) (cnt i))
/-- The block within the tile's own: it goes round to zero at the end. -/
abbrev around (i : grid0.Coords) (t : ℕ) : BitVec 32 := BitVec.ofNat 32 (if t = cnt i then 0 else t)

/-- The loop's counters before trip `t`. -/
abbrev carry (i : grid0.Coords) (t : ℕ) : BitVec 32 × BitVec 32 × BitVec 32 × BitVec 32 × BitVec 32 :=
  (ahead i t, .ofNat 32 t, .ofNat 32 t, .ofNat 32 (t - 1), around i t)

theorem cnt_pos (i : grid0.Coords) : 0 < cnt i := by unfold cnt; split <;> decide
theorem cnt_le (i : grid0.Coords) : cnt i ≤ 7 := by unfold cnt; split <;> decide

theorem trips1 (i : grid0.Coords) : (k0_t1_loop i).trips = cnt i := by revert i; decide +kernel
theorem trips2 (i : grid0.Coords) : (k0_t2_loop i).trips = 0 := by revert i; decide +kernel
theorem lt_cnt {i : grid0.Coords} (t : Fin (k0_t1_loop i).trips) : t.val < cnt i := lt_of_lt_of_eq t.isLt (trips1 i)

/-! ### Conditions -/

theorem cond1 (i : grid0.Coords) : k0_cond1 i = 1#1 := by revert i; decide +kernel
theorem cond2 (i : grid0.Coords) : k0_cond2 i = if 0 < cnt i then 1#1 else 0#1 := by revert i; decide +kernel
theorem cond18 (i : grid0.Coords) : k0_cond18 i = 1#1 := by revert i; decide +kernel

section
variable (i : grid0.Coords) (t : Fin (k0_t1_loop i).trips)
theorem cond3 : k0_cond3 i t (around i t) = if t.val + 1 < cnt i then 1#1 else 0#1 := by revert i; decide +kernel
theorem cond4 : k0_cond4 i t (around i t) = 1#1 := by revert i; decide +kernel
theorem cond7 : k0_cond7 i t (around i t) = 1#1 := by revert i; decide +kernel
theorem cond9 : k0_cond9 i t (around i t) = if 0 < t.val then 1#1 else 0#1 := by revert i; decide +kernel
end

/-! ### Side conditions -/

attribute [local instance] k0_chk1.dec k0_chk2.dec k0_chk3.dec k0_chk7.dec k0_chk8.dec

theorem chk1 (i : grid0.Coords) (t : Fin (k0_t1_loop i).trips) :
    k0_chk1 i t (ahead i t) (.ofNat 32 t) (.ofNat 32 t) (.ofNat 32 (t - 1)) (around i t) := by revert i; decide +kernel
theorem chk2 (i : grid0.Coords) (t : Fin (k0_t1_loop i).trips) : k0_chk2 i (.ofNat 32 t) := by revert i; decide +kernel
theorem chk3 (i : grid0.Coords) (t : Fin (k0_t1_loop i).trips) : k0_chk3 i (.ofNat 32 t) := by revert i; decide +kernel
theorem chk7 (i : grid0.Coords) : k0_chk7 i (.ofNat 32 (cnt i - 1)) := by revert i; decide +kernel
theorem chk8 (i : grid0.Coords) : k0_chk8 i (around i (cnt i)) := by revert i; decide +kernel

/-! ### Places -/

theorem off2 (i : grid0.Coords) : k0_off2 i = ![0, 512 * ((base i + 0) % 196)] := by revert i; decide +kernel
theorem off5 (i : grid0.Coords) (t : Fin (k0_t1_loop i).trips) (h : t.val + 1 < cnt i) :
    k0_off5 i (around i t) = ![0, 512 * ((base i + (t.val + 1)) % 196)] := by revert i; decide +kernel
theorem off13 (i : grid0.Coords) (t : Fin (k0_t1_loop i).trips) :
    k0_off13 i (around i t) = ![512 * ((base i + t.val) % 196), 0] := by revert i; decide +kernel
theorem off16 (i : grid0.Coords) (t : Fin (k0_t1_loop i).trips) (h : 0 < t.val) :
    k0_off16 i (around i t) = ![512 * ((base i + (t.val - 1)) % 196), 0] := by revert i; decide +kernel
theorem off33 (i : grid0.Coords) :
    k0_off33 i (around i (cnt i)) = ![512 * ((base i + (cnt i - 1)) % 196), 0] := by revert i; decide +kernel

/-- How many blocks it takes and from which on, as the program computes them. -/
abbrev widW (i : grid0.Coords) : BitVec 32 :=
  Scalar.addi (Scalar.addi 0#32 (Scalar.muli (BitVec.ofNat 32 (i 1).val) 1#32)) (Scalar.muli (BitVec.ofNat 32 (i 0).val) 16#32)
theorem word_cnt (i : grid0.Coords) : Scalar.select (Scalar.cmpi .slt (widW i) 4#32) 7#32 6#32 = BitVec.ofNat 32 (cnt i) := by
  revert i; decide +kernel
theorem word_base (i : grid0.Coords) : Scalar.select (Scalar.cmpi .slt (widW i) 4#32) (Scalar.muli (widW i) (BitVec.ofNat 32 (cnt i)))
    (Scalar.addi (Scalar.muli (widW i) 6#32) 4#32) = BitVec.ofNat 32 (base i) := by revert i; decide +kernel

end Cert.Proof.Stage1
-- ==== Proof.Places0.lean ====
/-
  The parts of the first stage's buffers in a fixed spelling, and what its gather brings: the table row of each atom.
-/
module

public import proofs.«01_k».proof.Proof.Body2
public import proofs.«01_k».proof.Proof.Arith0

@[expose] public section

noncomputable section

namespace Cert.Proof.Stage1

open Idealize.ShloMosaic Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Cert.Proof.Rules
open Cert.Proof.Stage2 (thr at2 zeros2 sem sem_eq slot_off sem_off bit_lt wp_assume_bind wp_waitGather coming_open coming_last
  free_intro free_open free_pair leaving_zero leaving_intro)

variable {F : FTy → Type} [FloatOps F] [Named F] {e : EltTy} [f : Cert.KernelIdeal.Facts₀]

/-! ### Rectangles -/

theorem inb_slot (k : ℕ) : ∀ a, (![k % 2, 0, 0] : Fin 3 → ℕ) a + S1x1x512.size a ≤ S2x1x512.size a := by
  have : k % 2 < 2 := Nat.mod_lt _ (by decide)
  intro a; match a with
  | ⟨0, _⟩ => show k % 2 + 1 ≤ 2; omega
  | ⟨1, _⟩ => show 0 + 1 ≤ 1; omega
  | ⟨2, _⟩ => show 0 + 512 ≤ 512; omega
theorem inb_oslot (k : ℕ) : ∀ a, (![k % 2, 0, 0] : Fin 3 → ℕ) a + S1x512x16.size a ≤ S2x512x16.size a := by
  have : k % 2 < 2 := Nat.mod_lt _ (by decide)
  intro a; match a with
  | ⟨0, _⟩ => show k % 2 + 1 ≤ 2; omega
  | ⟨1, _⟩ => show 0 + 512 ≤ 512; omega
  | ⟨2, _⟩ => show 0 + 16 ≤ 16; omega
theorem inb_blk (b : ℕ) : ∀ a, (![0, 512 * (b % 196)] : Fin 2 → ℕ) a + S1x512.size a ≤ S1x100352.size a := by
  have : b % 196 < 196 := Nat.mod_lt _ (by decide)
  intro a; match a with
  | ⟨0, _⟩ => show 0 + 1 ≤ 1; omega
  | ⟨1, _⟩ => show 512 * (b % 196) + 512 ≤ 100352; omega
theorem inb_oblk (b : ℕ) : ∀ a, (![512 * (b % 196), 0] : Fin 2 → ℕ) a + S512x16.size a ≤ S100352x16.size a := by
  have : b % 196 < 196 := Nat.mod_lt _ (by decide)
  intro a; match a with
  | ⟨0, _⟩ => show 512 * (b % 196) + 512 ≤ 100352; omega
  | ⟨1, _⟩ => show 0 + 16 ≤ 16; omega

/-- Block `b` of the atoms' numbers, and of the table of features. -/
abbrev rBlk (b : ℕ) : Rect S1x100352 := Rect.unit (s := S1x100352) ![0, 512 * (b % 196)] S1x512.size (inb_blk b)
abbrev rOut (b : ℕ) : Rect S100352x16 := Rect.unit (s := S100352x16) ![512 * (b % 196), 0] S512x16.size (inb_oblk b)

/-! ### Memrefs -/

/-- Slot `k mod 2` of the input's double buffer, and of the output's; -/
def slot (a : Memref sig .scVector .vmem S2x1x512 e) (k : ℕ) : Memref sig .scVector .vmem S1x512 e :=
  (a.slice (Rect.unit (s := S2x1x512) ![k % 2, 0, 0] S1x1x512.size (inb_slot k)) (fun _ => rfl)).squeeze S1x512 squeezes_S1x1x512_S1x512
def oslot (a : Memref sig .scVector .vmem S2x512x16 e) (k : ℕ) : Memref sig .scVector .vmem S512x16 e :=
  (a.slice (Rect.unit (s := S2x512x16) ![k % 2, 0, 0] S1x512x16.size (inb_oslot k)) (fun _ => rfl)).squeeze S512x16 squeezes_S1x512x16_S512x16
/-- block `b` of either array. -/
def blk (a : Memref sig .scVector .hbm S1x100352 e) (b : ℕ) : Memref sig .scVector .hbm S1x512 e := a.slice (rBlk b) (fun _ => rfl)
def oblk (a : Memref sig .scVector .hbm S100352x16 e) (b : ℕ) : Memref sig .scVector .hbm S512x16 e := a.slice (rOut b) (fun _ => rfl)

theorem slot_eq (a : Memref sig .scVector .vmem S2x1x512 e) {k : ℕ} {off : Fin 3 → ℕ} {h} (e₀ : off = ![k % 2, 0, 0]) :
    (a.slice (Rect.unit (s := S2x1x512) off S1x1x512.size h) (fun _ => rfl)).squeeze S1x512 squeezes_S1x1x512_S1x512 = slot a k := by
  subst e₀; rfl
theorem oslot_eq (a : Memref sig .scVector .vmem S2x512x16 e) {k : ℕ} {off : Fin 3 → ℕ} {h} (e₀ : off = ![k % 2, 0, 0]) :
    (a.slice (Rect.unit (s := S2x512x16) off S1x512x16.size h) (fun _ => rfl)).squeeze S512x16 squeezes_S1x512x16_S512x16 = oslot a k := by
  subst e₀; rfl
theorem blk_eq (a : Memref sig .scVector .hbm S1x100352 e) {b : ℕ} {off : Fin 2 → ℕ} {h} (e₀ : off = ![0, 512 * (b % 196)]) :
    a.slice (Rect.unit (s := S1x100352) off S1x512.size h) (fun _ => rfl) = blk a b := by
  subst e₀; rfl
theorem oblk_eq (a : Memref sig .scVector .hbm S100352x16 e) {b : ℕ} {off : Fin 2 → ℕ} {h} (e₀ : off = ![512 * (b % 196), 0]) :
    a.slice (Rect.unit (s := S100352x16) off S512x16.size h) (fun _ => rfl) = oblk a b := by
  subst e₀; rfl

/-! ### Contents -/

/-- The block's part of the atoms' numbers, and as a list. -/
def part {α : Type} (X : S1x100352.Idx → α) (b : ℕ) : S1x512.Idx → α := fun j => X ((rBlk b).emb j)
def list {α : Type} (X : S1x512.Idx → α) : S512.Idx → α := fun y => X (at2 0 (y 0).val (by decide) (y 0).isLt)

/-- The list in a block's slot, and the whole table, in the program's spelling. -/
abbrev listM (m : Memref sig .scVector .vmem S1x512 e) : Memref sig .scVector .vmem S512 e :=
  (m.slice (Rect.unit (s := S1x512) ![0, 0] S1x512.size inb_S1x512_S1x512_0_0) (fun _ => rfl)).squeeze S512 squeezes_S1x512_S512
abbrev tableM (m : Memref sig .scVector .hbm S100x16 e) : Memref sig .scVector .hbm S100x16 e :=
  m.slice (Rect.unit (s := S100x16) ![0, 0] S100x16.size inb_S100x16_S100x16_0_0) (fun _ => rfl)

theorem list_eq {α : Type} (X : S1x512.Idx → α) :
    (fun i => X (Shape.reshapeEquiv (squeezes_S1x512_S512 : S1x512.Squeezes S512).numel_eq i)) = list X := by
  funext y
  show X _ = X _
  congr 1
  rw [Shape.reshapeEquiv_cons_one]
  funext a
  match a with
  | ⟨0, _⟩ => rfl
  | ⟨1, _⟩ => rfl

/-- Entry `c` of the table's row that the word `a` names. -/
def entry (T : Vec F S100x16 .f32) (a : BitVec 32) (c : ℕ) : F .f32 :=
  T (at2 (a.toNat % 100) (c % 16) (Nat.mod_lt _ (by decide)) (Nat.mod_lt _ (by decide)))

/-- The rows that a list names. -/
def rowsOf (T : Vec F S100x16 .f32) (V : Vec F S512 .i32) : Vec F S512x16 .f32 := fun y => entry T (V (Shape.ofLane (y 0))) (y 1).val

/-- The atom of a row of the table of features, and that table. -/
def atomOf (x : S100352x16.Idx) : S1x100352.Idx := at2 (A := 1) (B := 100352) 0 (x 0).val (by decide) (x 0).isLt
def result (T : Vec F S100x16 .f32) (A : Vec F S1x100352 .i32) : Vec F S100352x16 .f32 := fun x => entry T (A (atomOf x)) (x 1).val

theorem result_part (T : Vec F S100x16 .f32) (A : Vec F S1x100352 .i32) (b : ℕ) :
    (fun j => result T A ((rOut b).emb j)) = rowsOf T (list (part A b)) := by
  have hp : ∀ j : S512x16.Idx, atomOf ((rOut b).emb j) = (rBlk b).emb (at2 (A := 1) (B := 512) 0 (j 0).val (by decide) (j 0).isLt) := by
    intro j
    funext a
    match a with
    | ⟨0, _⟩ => rfl
    | ⟨1, _⟩ => rfl
  have hq : ∀ j : S512x16.Idx, ((rOut b).emb j 1).val = (j 1).val := fun j => by
    show 0 + 1 * (j 1).val = _; omega
  funext j
  unfold result
  rw [hp, hq]
  rfl

theorem gathered {T : Vec F S100x16 .f32} {V : Vec F S512 .i32} {hg : S100x16.Gathers 0 S512x16} {hn : S512.numel = S512x16.size hg.axis'}
    (hin : ∀ x, (V x).toNat < 100) :
    SparseCore.gatherPayload hg T (SparseCore.rows (F := F) V hn hin) = rowsOf T V := by
  funext x
  unfold rowsOf entry SparseCore.gatherPayload
  congr 1
  funext b
  apply Fin.ext
  match b with
  | ⟨0, hb⟩ =>
    have h0 : (hg.idx (SparseCore.rows (F := F) V hn hin) x ⟨0, hb⟩).val = (SparseCore.rows (F := F) V hn hin (x 0)).val :=
      congrArg Fin.val (hg.idx_axis (SparseCore.rows (F := F) V hn hin) x)
    have h1 : S512.rowMajor.symm ((x 0).cast hn.symm) = (Shape.ofLane (d := ![512]) (x 0) : S512.Idx) := by
      rw [Equiv.symm_apply_eq]
      apply Fin.ext
      rw [Shape.rowMajor_val_one]
      rfl
    rw [h0]
    show (V _).toNat = (V _).toNat % 100
    rw [Nat.mod_eq_of_lt (hin _)]
    exact congrArg (fun i => (V i).toNat) h1
  | ⟨1, hb⟩ =>
    have h0 := hg.idx_of_ne (SparseCore.rows (F := F) V hn hin) x ⟨1, hb⟩ (show (1 : ℕ) ≠ 0 by decide)
    rw [h0]
    show (x 1).val = (x 1).val % 16
    exact (Nat.mod_eq_of_lt (x 1).isLt).symm

theorem list_lt {X : Vec F S1x100352 .i32} (h : ∀ x, (X x).toNat < 100) (b : ℕ) (x : S512.Idx) : (list (part X b) x).toNat < 100 := h _

/-- A gather is credited what its wait takes. -/
theorem rows_credit (m : Memref sig .scVector .vmem S512x16 .f32) (hg : S100x16.Gathers 0 S512x16) :
    ∑ j, (m.slice (S512x16.rowRect hg.axis' j) (S512x16.stride_rowRect hg.axis' j)).view.dmaCredit = m.view.dmaCredit := by
  refine (Finset.sum_const (sig.dmaCredit .scVector (Kind.scVector.table .vmem) m.view.buf (S512x16.rowShape hg.axis') .f32)).trans ?_
  rw [Finset.card_univ, Fintype.card_fin]
  have h₁ : sig.dmaCredit .scVector (Kind.scVector.table .vmem) m.view.buf (S512x16.rowShape hg.axis') .f32
    = RefSig.bitCredit (S512x16.rowShape hg.axis') .f32 := rfl
  have h₂ : m.view.dmaCredit = RefSig.bitCredit S512x16 .f32 := rfl
  rw [h₁, h₂]
  clear * -
  revert hg
  decide +kernel

section
variable {Ix : Type} [DecidableEq Ix] {Name : Type} [DecidableEq Name] {U : Type} [URA U] {Lvl : Type} [Preorder Lvl]
local notation "𝕄" => MT nD τ sig Ix (Elt F) Name U Lvl

theorem owns_gathered {c : Thread nD τ} (m : Memref sig c.2.kind .vmem S512x16 .f32) {q : PosShare TreeShare} {T : Vec F S100x16 .f32}
    {V : Vec F S512 .i32} {hg : S100x16.Gathers 0 S512x16} {hn : S512.numel = S512x16.size hg.axis'}
    (hin : ∀ x, (V x).toNat < 100) :
    (owns c m q (SparseCore.gatherPayload hg T (SparseCore.rows (F := F) V hn hin)) : sProp 𝕄) = owns c m q (rowsOf T V) := by
  rw [gathered]

theorem owns_list (d : Dev nD) (i : grid0.Coords) (m : Memref sig .scVector .vmem S1x512 e) (q : PosShare TreeShare) (X : S1x512.Idx → Elt F e) :
    (owns (thr d i) (listM m) q (list X) : sProp 𝕄) = owns (thr d i) m q X := by
  rw [← list_eq X]
  exact (owns_squeeze (thr d i) _ squeezes_S1x512_S512 q X).trans (owns_all (thr d i) m ![0, 0] zeros2 _ _ q X)

theorem owns_table (d : Dev nD) (i : grid0.Coords) (m : Memref sig .scVector .hbm S100x16 e) (q : PosShare TreeShare) (X : S100x16.Idx → Elt F e) :
    (owns (thr d i) (tableM m) q X : sProp 𝕄) = owns (thr d i) m q X :=
  owns_all (thr d i) m ![0, 0] zeros2 _ _ q X
end

end Cert.Proof.Stage1
-- ==== Proof.Body0.lean ====
/-
  The body of the first stage on one tile: the pipeline over the tile's blocks. A trip asks for the next block of atom
  numbers, waits for its own, gathers the rows of the table straight into the result's slot, sends them, and waits for
  the rows of the block before.
-/
module

public import proofs.«01_k».proof.Proof.Places0

@[expose] public section

noncomputable section

namespace Cert.Proof.Stage1

open Idealize.ShloMosaic Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Cert.Proof.Rules
open Cert.Proof.Stage2 (thr at2 zeros2 sem sem_eq slot_off sem_off bit_lt wp_assume_bind coming_open coming_last
  free_intro free_open free_pair leaving_zero leaving_intro)

variable {F : FTy → Type} [FloatOps F] [Named F] {e : EltTy} [f : Cert.KernelIdeal.Facts₀]
variable {Ix : Type} [DecidableEq Ix] {Name : Type} [DecidableEq Name] {U : Type} [URA U] {Lvl : Type} [Preorder Lvl]
variable {defs : Defs nD τ sig (Elt F) Λ₀} (EC : UEmb Counters (MT nD τ sig Ix (Elt F) Name U Lvl)) (𝒱 : Variants) (bd : Option 𝒱.V)

local notation "𝕄" => MT nD τ sig Ix (Elt F) Name U Lvl

variable (d : Dev nD) (i : grid0.Coords)

/-! ### The two streams -/

/-- The atoms' numbers coming in, -/
abbrev inS (a : Memref sig .scVector .hbm S1x100352 e) (b : Memref sig .scVector .vmem S2x1x512 e) (v : DmaSems sig S2)
    (X : S1x100352.Idx → Elt F e) : Flow sig .scVector S1x512 e F where
  cnt := cnt i
  slot := slot b
  sem := sem v
  blk := fun k => blk a (base i + k)
  B := fun k => part X (base i + k)
  credit := (blk a 0).view.dmaCredit

/-- and the features going out. -/
abbrev outS (a : Memref sig .scVector .hbm S100352x16 .f32) (b : Memref sig .scVector .vmem S2x512x16 .f32) (v : DmaSems sig S2)
    (T : Vec F S100x16 .f32) (A : Vec F S1x100352 .i32) : Flow sig .scVector S512x16 .f32 F where
  cnt := cnt i
  slot := oslot b
  sem := sem v
  blk := fun k => oblk a (base i + k)
  B := fun k => rowsOf T (list (part A (base i + k)))
  credit := (oblk a 0).view.dmaCredit

theorem inS_ok (a : Memref sig .scVector .hbm S1x100352 e) (b : Memref sig .scVector .vmem S2x1x512 e) (v : DmaSems sig S2)
    (X : S1x100352.Idx → Elt F e) : (inS i a b v X).Ok where
  slot_two k := slot_eq b (by rw [Nat.add_mod_right])
  sem_two k := sem_eq v (by rw [Nat.add_mod_right])
  pos := View.dmaCredit_pos (blk a 0).view (by show 0 < Shape.numel S1x512; decide)
  slot_credit k := rfl
  blk_credit k := rfl

theorem outS_ok (a : Memref sig .scVector .hbm S100352x16 .f32) (b : Memref sig .scVector .vmem S2x512x16 .f32) (v : DmaSems sig S2)
    (T : Vec F S100x16 .f32) (A : Vec F S1x100352 .i32) : (outS i a b v T A).Ok where
  slot_two k := oslot_eq b (by rw [Nat.add_mod_right])
  sem_two k := sem_eq v (by rw [Nat.add_mod_right])
  pos := View.dmaCredit_pos (oblk a 0).view (by show 0 < Shape.numel S512x16; decide)
  slot_credit k := rfl
  blk_credit k := rfl

/-! ### The gather into a slot -/

/-- A gather whose destination is spelled another way. -/
theorem wp_gatherTo [Infinite Name] [EC.LandsIn (upEmb : UEmb _ 𝕄)] {c : Thread nD τ} {α : Type} {Q : α → sProp 𝕄}
    {src : Memref sig c.2.kind .hbm S100x16 .f32} {dst dst₀ : Memref sig c.2.kind .vmem S512x16 .f32} {hg : S100x16.Gathers 0 S512x16}
    {offs offs₀ : Memref sig c.2.kind .vmem S512 .i32} {hn : S512.numel = S512x16.size hg.axis'} {sem : DmaSem sig}
    {hp : c.2.kind = .scVector} {hsrc : src.view.WordExact} {he : EltTy.f32.bits = 32} {hsp : Space.hbm = .hbm ∨ Space.hbm = .shared} {hr : S100x16.StreamRows 0}
    {k : PUnit → Prog (TpuEff nD τ sig (Elt F) Λ₀ c.2) α}
    {q qo : PosShare TreeShare} {X : S100x16.Idx → Elt F .f32} {Y : S512x16.Idx → Elt F .f32} {V : S512.Idx → Elt F .i32}
    (ι : Ix) (N : ℕ) (hd : dst = dst₀) (ho₀ : offs = offs₀)
    (hN : ∑ j, (dst₀.slice (S512x16.rowRect hg.axis' j) (S512x16.stride_rowRect hg.axis' j)).view.dmaCredit = N)
    (hin : ∀ x, (V x).toNat < 100) :
    iprop(owns c src q X ∗ owns c dst₀ fullShare Y ∗ owns c offs₀ qo V ∗ semVal (c, SemLoc.dma sem) 0)
      ⊢ iprop((Transfers.Flight EC c (.dma sem) ι N
                iprop(owns c dst₀ fullShare (rowsOf X V) ∗ owns c src q X ∗ owns c offs₀ qo V)
              -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  subst hd
  have h := wp_gather (defs := defs) EC 𝒱 c bd (hp := hp) (hsrc := hsrc) (he := he) (hsp := hsp) (hr := hr) (sem := sem) (k := k) (Q := Q)
    (X := X) (Y := Y) (V := V) (q := q) (qo := qo) (hn := hn) ι N (rfl : src = src) ho₀ hN (by show 0 < Shape.numel S512x16; decide) hin
  rw [gathered hin] at h
  exact h

/-- Its wait. -/
theorem wp_waitGatherTo [EC.LandsIn (upEmb : UEmb _ 𝕄)] {c : Thread nD τ} {α : Type} {Q : α → sProp 𝕄} {sp' : Space} {s s' : Shape} {e' : EltTy} {κ' : Kind}
    {sem : DmaSem sig} {src : Memref sig c.2.kind sp' s' e'} {dst : Memref sig κ' .vmem s e} {hsrc : src.view.WordExact} {hdst : dst.view.WordExact}
    {k : PUnit → Prog (TpuEff nD τ sig (Elt F) Λ₀ c.2) α} (ι : Ix) {N : ℕ} (hN : dst.view.dmaCredit = N) {D : sProp 𝕄} {O : CellTallies nD τ sig Ix} {W : Waits sig Ix} :
    iprop(Transfers.Flight EC c (.dma sem) ι N D ∗ Due c ι O W ∗ Transfers.MayWaits c ι O)
      ⊢ iprop((iprop(D ∗ semVal (c, .dma sem) 0 ∗ Due c ι O W) -∗ wp frame (wpE defs 𝒱 c bd) Set.univ (k ⟨⟩) Q)
          -∗ wp frame (wpE defs 𝒱 c bd) Set.univ (SparseCore.waitIndirectGather sem src dst hsrc hdst >>= k) Q) :=
  wp_wait EC 𝒱 c bd ι rfl hN

/-! ### Words -/

theorem cnt_lt {t : ℕ} (ht : t ≤ cnt i) : t < 2 ^ 32 := by have := cnt_le i; omega

theorem ahead_slot {t : ℕ} (h : t + 1 < cnt i) : (![(Scalar.remui (ahead i t) 2#32).toNat, 0, 0] : Fin 3 → ℕ) = ![(t + 1) % 2, 0, 0] := by
  unfold ahead
  rw [Nat.min_eq_left h.le]
  exact slot_off _ (cnt_lt i h.le)
theorem ahead_sem {t : ℕ} (h : t + 1 < cnt i) : (![(Scalar.remui (ahead i t) 2#32).toNat] : Fin 1 → ℕ) = ![(t + 1) % 2] := by
  unfold ahead
  rw [Nat.min_eq_left h.le]
  exact sem_off _ (cnt_lt i h.le)

variable (arg2 : Memref sig .scVector .hbm S100x16 .f32) (harg2 : arg2.IsWhole) (arg3 : Memref sig .scVector .hbm S1x100352 .i32) (harg3 : arg3.IsWhole)
  (arg4 : Memref sig .scVector .hbm S100352x16 .f32) (harg4 : arg4.IsWhole)
  (a3 : Memref sig .scVector .vmem S2x1x512 .i32) (ha3 : a3.IsWhole) (s3 : DmaSems sig S2)
  (a4 : Memref sig .scVector .vmem S2x512x16 .f32) (ha4 : a4.IsWhole) (s4 : DmaSems sig S2) (g1 g2 : DmaSems sig S_)
  (T : Vec F S100x16 .f32) (A : Vec F S1x100352 .i32) (q : PosShare TreeShare)
  (ι : Ix) (O : CellTallies nD τ sig Ix) (W : Waits sig Ix)

/-- What the tile holds before trip `t`: the list coming, the result leaving, the table and the gather's semaphore. -/
def held (t : ℕ) : sProp 𝕄 :=
  iprop(((inS i arg3 a3 s3 A).coming EC (thr d i) ι t ∗ (inS i arg3 a3 s3 A).free (thr d i) (t + 1) ∗ (inS i arg3 a3 s3 A).inDone (thr d i) t)
    ∗ ((outS i arg4 a4 s4 T A).free (thr d i) t ∗ (outS i arg4 a4 s4 T A).leaving EC (thr d i) ι t ∗ (outS i arg4 a4 s4 T A).outTodo (thr d i) t ∗ (outS i arg4 a4 s4 T A).inDone (thr d i) (t - 1))
    ∗ owns (thr d i) arg2 q T ∗ semVal (thr d i, SemLoc.dma g1.sem) 0
    ∗ Due (thr d i) ι O W ∗ Transfers.MayWaits (thr d i) ι O)

theorem held_open (t : ℕ) : (held EC d i arg2 arg3 arg4 a3 s3 a4 s4 g1 T A q ι O W t : sProp 𝕄) ⊢ iprop(((inS i arg3 a3 s3 A).coming EC (thr d i) ι t ∗ (inS i arg3 a3 s3 A).free (thr d i) (t + 1) ∗ (inS i arg3 a3 s3 A).inDone (thr d i) t)
    ∗ ((outS i arg4 a4 s4 T A).free (thr d i) t ∗ (outS i arg4 a4 s4 T A).leaving EC (thr d i) ι t ∗ (outS i arg4 a4 s4 T A).outTodo (thr d i) t ∗ (outS i arg4 a4 s4 T A).inDone (thr d i) (t - 1))
    ∗ owns (thr d i) arg2 q T ∗ semVal (thr d i, SemLoc.dma g1.sem) 0
    ∗ Due (thr d i) ι O W ∗ Transfers.MayWaits (thr d i) ι O) := .rfl

set_option maxHeartbeats 8000000 in
/-- One trip. -/
theorem trip [Infinite Name] [EC.LandsIn (upEmb : UEmb _ 𝕄)] (hA : ∀ x, (A x).toNat < 100)
    (t : Fin (k0_t1_loop i).trips) {v11 : BitVec 32} {h1} {v41 v45 : BitVec 32} :
    (held EC d i arg2 arg3 arg4 a3 s3 a4 s4 g1 T A q ι O W t.val : sProp 𝕄)
      ⊢ wp frame (wpE defs 𝒱 (thr d i) bd) Set.univ
          (k0_t1_body i arg2 harg2 arg3 harg3 arg4 harg4 a3 ha3 s3 a4 ha4 s4 g1 g2 (.ofNat 32 (cnt i)) (.ofNat 32 (base i)) v11 h1 v41 0#32 0#32 0#32 0#32 0#32 v45 t (carry i t.val))
          (fun acc => iprop(⌜acc = carry i (t.val + 1)⌝ ∗ held EC d i arg2 arg3 arg4 a3 s3 a4 s4 g1 T A q ι O W (t.val + 1))) := by
  have ht := lt_cnt t
  have hw := cnt_lt i ht.le
  unfold held k0_t1_body
  dsimp only
  iintro ⟨⟨H3, F3, D3⟩, ⟨F4, L4, T4, D4⟩, Q, V, HO, #HW⟩
  rw [wp_bind, k0_part1_eq_skeleton]
  unfold k0_part1_skel
  dsimp only
  rw [wp_assume_bind _ _ (chk3 i t), wp_assume_bind _ _ (chk2 i t), wp_assume_bind _ _ (chk1 i t)]
  dsimp only
  ihave H3 := (coming_open EC (thr d i) (inS i arg3 a3 s3 A) ι ht) $$ H3
  icases H3 with ⟨H3, T3⟩
  iapply (Flow.wp_issue_in EC 𝒱 (thr d i) bd (inS i arg3 a3 s3 A) ι (inS_ok i arg3 a3 s3 A) (k := t.val + 1) (cond3 i t)
    (fun h => blk_eq arg3 (off5 i t (bit_lt (cond3 i t) h)))
    (fun h => slot_eq a3 (ahead_slot i (bit_lt (cond3 i t) h)))
    (fun h => congrArg SemLoc.dma (sem_eq s3 (ahead_sem i (bit_lt (cond3 i t) h))))) $$ [F3 T3]
  · isplitl [F3]; · iexact F3
    iexact T3
  iintro C3
  rw [Prog.pure_eq_ret, wp_ret]; imodintro
  dsimp only
  rw [wp_bind, k0_part2_eq_skeleton]
  unfold k0_part2_skel
  dsimp only
  iapply (Flow.wp_wait_in EC 𝒱 (thr d i) bd (inS i arg3 a3 s3 A) ι (inS_ok i arg3 a3 s3 A) (k := t.val) (O := O) (W := W) (cond4 i t)
    (fun h => slot_eq a3 (slot_off t.val hw)) (fun h => sem_eq s3 (sem_off t.val hw))) $$ [H3 D3 HO]
  · isplitl [H3]; · iexact H3
    isplitl [D3]; · iexact D3
    isplitl [HO]; · iexact HO
    iexact HW
  iintro ⟨H3, V3, D3, HO⟩
  rw [ite_self]
  ihave H3 := (Entails.of_eq (owns_list d i (slot a3 t.val) fullShare (part A (base i + t.val))).symm) $$ H3
  ihave Q := (Entails.of_eq (owns_table d i arg2 q T).symm) $$ Q
  ihave F4 := (free_open (thr d i) (outS i arg4 a4 s4 T A)) $$ F4
  icases F4 with ⟨⟨%Y4, H4⟩, V4⟩
  obtain ⟨m, hm⟩ : ∃ m, m = oslot a4 t.val := ⟨_, rfl⟩
  ihave H4 := (Entails.of_eq (congrArg (fun m => owns (thr d i) m fullShare Y4) hm.symm)) $$ H4
  iapply (wp_gatherTo EC 𝒱 bd (c := thr d i) ι m.view.dmaCredit (hg := gathers_S100x16_S512x16)
    ((oslot_eq a4 (slot_off t.val hw)).trans hm.symm)
    (congrArg listM (slot_eq a3 (slot_off t.val hw))) (rows_credit m _)
    (list_lt hA (base i + t.val))) $$ [Q H4 H3 V]
  · isplitl [Q]; · iexact Q
    isplitl [H4]; · iexact H4
    isplitl [H3]; · iexact H3
    iexact V
  iintro G
  iapply (wp_waitGatherTo EC 𝒱 bd (c := thr d i) ι (N := m.view.dmaCredit) (congrArg (fun m => m.view.dmaCredit) ((oslot_eq a4 (slot_off t.val hw)).trans hm.symm)) (O := O) (W := W)) $$ [G HO]
  · isplitl [G]; · iexact G
    isplitl [HO]; · iexact HO
    iexact HW
  iintro ⟨⟨H4, Q, H3⟩, V, HO⟩
  ihave H4 := (Entails.of_eq (congrArg (fun m => owns (thr d i) m fullShare (rowsOf T (list (part A (base i + t.val))))) hm)) $$ H4
  ihave H3 := (Entails.of_eq (owns_list d i (slot a3 t.val) fullShare (part A (base i + t.val)))) $$ H3
  ihave Q := (Entails.of_eq (owns_table d i arg2 q T)) $$ Q
  rw [Prog.pure_eq_ret, wp_ret]; imodintro
  dsimp only
  simp only [ite_self]
  iapply (Flow.wp_issue_out EC 𝒱 (thr d i) bd (outS i arg4 a4 s4 T A) ι (outS_ok i arg4 a4 s4 T A) (k := t.val) (cond7 i t) ht
    (fun h => oslot_eq a4 (slot_off t.val hw)) (fun h => oblk_eq arg4 (off13 i t))
    (fun h => congrArg SemLoc.dma (sem_eq s4 (sem_off t.val hw)))) $$ [H4 V4 T4]
  · isplitl [H4]; · iexact H4
    isplitl [V4]; · iexact V4
    iexact T4
  iintro ⟨G4, T4⟩
  simp only [ite_self]
  iapply (Flow.wp_wait_out EC 𝒱 (thr d i) bd (outS i arg4 a4 s4 T A) ι (outS_ok i arg4 a4 s4 T A) (k := t.val) (O := O) (W := W) (cond9 i t)
    (fun h h0 => oblk_eq arg4 (off16 i t h0)) (fun h h0 => sem_eq s4 (sem_off (t.val - 1) (by omega)))) $$ [L4 D4 HO]
  · isplitl [L4]; · iexact L4
    isplitl [D4]; · iexact D4
    isplitl [HO]; · iexact HO
    iexact HW
  iintro ⟨F4, D4, HO⟩
  rw [Prog.pure_eq_ret, wp_ret]; imodintro
  isplitr
  · ipureintro
    clear * - t
    refine Prod.ext ?_ (Prod.ext ?_ (Prod.ext ?_ (Prod.ext ?_ ?_)))
    all_goals dsimp only; revert t; revert i; decide +kernel
  ihave F3 := (free_intro (thr d i) (inS i arg3 a3 s3 A) _) $$ [H3 V3]
  · isplitl [H3]; · iexact H3
    iexact V3
  ihave F3 := (Entails.of_eq (Flow.free_two (thr d i) (inS i arg3 a3 s3 A) (inS_ok i arg3 a3 s3 A) t.val).symm) $$ F3
  ihave L4 := (leaving_intro EC (thr d i) (outS i arg4 a4 s4 T A) ι t.val) $$ G4
  isplitl [C3 F3 D3]
  · isplitl [C3]; · iexact C3
    isplitl [F3]; · iexact F3
    iexact D3
  isplitl [F4 L4 T4 D4]
  · isplitl [F4]; · iexact F4
    isplitl [L4]; · iexact L4
    isplitl [T4]; · iexact T4
    iexact D4
  isplitl [Q]; · iexact Q
  isplitl [V]; · iexact V
  isplitl [HO]; · iexact HO
  iexact HW

/-- What the tile starts from, -/
def start : sProp 𝕄 :=
  iprop(((inS i arg3 a3 s3 A).free (thr d i) 0 ∗ (inS i arg3 a3 s3 A).free (thr d i) 1 ∗ (inS i arg3 a3 s3 A).inTodo (thr d i) 0)
    ∗ ((outS i arg4 a4 s4 T A).free (thr d i) 0 ∗ (outS i arg4 a4 s4 T A).free (thr d i) 1 ∗ (outS i arg4 a4 s4 T A).outTodo (thr d i) 0)
    ∗ owns (thr d i) arg2 q T ∗ semVal (thr d i, SemLoc.dma g1.sem) 0 ∗ Due (thr d i) ι O W)

/-- and what it ends with. -/
def finish : sProp 𝕄 :=
  iprop(((inS i arg3 a3 s3 A).free (thr d i) 0 ∗ (inS i arg3 a3 s3 A).free (thr d i) 1 ∗ (inS i arg3 a3 s3 A).inDone (thr d i) (cnt i))
    ∗ ((outS i arg4 a4 s4 T A).free (thr d i) 0 ∗ (outS i arg4 a4 s4 T A).free (thr d i) 1 ∗ (outS i arg4 a4 s4 T A).inDone (thr d i) (cnt i))
    ∗ owns (thr d i) arg2 q T ∗ semVal (thr d i, SemLoc.dma g1.sem) 0 ∗ Due (thr d i) ι O W)

/-- Before the first trip. -/
theorem held_intro :
    (iprop(((inS i arg3 a3 s3 A).coming EC (thr d i) ι 0 ∗ (inS i arg3 a3 s3 A).free (thr d i) 1)
      ∗ ((outS i arg4 a4 s4 T A).free (thr d i) 0 ∗ (outS i arg4 a4 s4 T A).free (thr d i) 1 ∗ (outS i arg4 a4 s4 T A).outTodo (thr d i) 0)
      ∗ owns (thr d i) arg2 q T ∗ semVal (thr d i, SemLoc.dma g1.sem) 0
      ∗ Due (thr d i) ι O W ∗ Transfers.MayWaits (thr d i) ι O) : sProp 𝕄)
      ⊢ held EC d i arg2 arg3 arg4 a3 s3 a4 s4 g1 T A q ι O W 0 := by
  unfold held
  iintro ⟨⟨C3, R3⟩, ⟨F4, L4, T4⟩, Q, HV, HO, HW⟩
  ihave L4 := (leaving_zero EC (thr d i) (outS i arg4 a4 s4 T A) ι) $$ L4
  isplitl [C3 R3]
  · isplitl [C3]; · iexact C3
    isplitl [R3]; · iexact R3
    iapply (Entails.of_eq (Flow.inDone_zero (thr d i) (inS i arg3 a3 s3 A)).symm); iempintro
  isplitl [F4 L4 T4]
  · isplitl [F4]; · iexact F4
    isplitl [L4]; · iexact L4
    isplitl [T4]; · iexact T4
    iapply (Entails.of_eq (Flow.inDone_zero (thr d i) (outS i arg4 a4 s4 T A)).symm); iempintro
  isplitl [Q]; · iexact Q
  isplitl [HV]; · iexact HV
  isplitl [HO]; · iexact HO
  iexact HW

set_option maxHeartbeats 600000 in
/-- The body. -/
theorem body [Infinite Name] [EC.LandsIn (upEmb : UEmb _ 𝕄)] (hA : ∀ x, (A x).toNat < 100) :
    (iprop(start d i arg2 arg3 arg4 a3 s3 a4 s4 g1 T A q ι O W ∗ Transfers.MayWaits (thr d i) ι O) : sProp 𝕄)
      ⊢ wp frame (wpE defs 𝒱 (thr d i) bd) Set.univ (cc0_stage1 i arg2 harg2 arg3 harg3 arg4 harg4 a3 ha3 s3 a4 ha4 s4 g1 g2) (fun _ => finish d i arg2 arg3 arg4 a3 s3 a4 s4 g1 T A q ι O W) := by
  rw [cc0_stage1_eq_skeleton]
  unfold cc0_stage1_skel start
  dsimp only
  rw [word_cnt, word_base, dif_pos (cond1 i)]
  iintro ⟨⟨⟨F3, R3, T3⟩, ⟨F4, L4, T4⟩, Q, HV, HO⟩, #HW⟩
  rw [wp_bind, k0_part5_eq_skeleton]
  unfold k0_part5_skel
  dsimp only
  iapply (Flow.wp_issue_in EC 𝒱 (thr d i) bd (inS i arg3 a3 s3 A) ι (inS_ok i arg3 a3 s3 A) (k := 0) (cond2 i)
    (fun h => blk_eq arg3 (off2 i)) (fun h => slot_eq a3 rfl) (fun h => congrArg SemLoc.dma (sem_eq s3 rfl))) $$ [F3 T3]
  · isplitl [F3]; · iexact F3
    iexact T3
  iintro C3
  rw [Prog.pure_eq_ret, wp_ret]; imodintro
  dsimp only
  ihave HI := (held_intro EC d i arg2 arg3 arg4 a3 s3 a4 s4 g1 T A q ι O W) $$ [C3 R3 F4 L4 T4 Q HV HO]
  · isplitl [C3 R3]
    · isplitl [C3]; · iexact C3
      iexact R3
    isplitl [F4 L4 T4]
    · isplitl [F4]; · iexact F4
      isplitl [L4]; · iexact L4
      iexact T4
    isplitl [Q]; · iexact Q
    isplitl [HV]; · iexact HV
    isplitl [HO]; · iexact HO
    iexact HW
  rw [wp_bind, k0_part6_eq_skeleton]
  unfold k0_part6_skel
  dsimp only
  iapply (Scf.wp_for_bind _ _ _ _ _ _ _ _ _
    (fun n acc => iprop(⌜acc = carry i n⌝ ∗ held EC d i arg2 arg3 arg4 a3 s3 a4 s4 g1 T A q ι O W n))
    (fun t acc => by
      iintro ⟨%hacc, H⟩
      subst hacc
      iapply (trip EC 𝒱 bd d i arg2 harg2 arg3 harg3 arg4 harg4 a3 ha3 s3 a4 ha4 s4 g1 g2 T A q ι O W hA t)
      iexact H)) $$ [HI]
  · isplitr
    · ipureintro
      clear * - i
      refine Prod.ext ?_ (Prod.ext ?_ (Prod.ext ?_ (Prod.ext ?_ ?_)))
      all_goals first | rfl | (dsimp only; revert i; decide +kernel)
    · iexact HI
  iintro %acc ⟨%hacc, HI⟩
  obtain rfl := hacc.trans (congrArg (carry i) (trips1 i))
  ihave HI := (Entails.of_eq (congrArg (held EC d i arg2 arg3 arg4 a3 s3 a4 s4 g1 T A q ι O W) (trips1 i))) $$ HI
  iapply (Scf.wp_for_bind _ _ _ _ _ _ _ _ _
    (fun _ acc => iprop(⌜acc = carry i (cnt i)⌝))
    (fun t _ => absurd (lt_of_lt_of_eq t.isLt (trips2 i)) (Nat.not_lt_zero _))) $$ []
  · ipureintro; rfl
  iintro %acc %hacc
  subst hacc
  dsimp only
  rw [wp_assume_bind _ _ (chk8 i), wp_assume_bind _ _ (chk7 i)]
  dsimp only
  simp only [dite_eq_ite, ite_self]
  ihave HI := (held_open EC d i arg2 arg3 arg4 a3 s3 a4 s4 g1 T A q ι O W (cnt i)) $$ HI
  icases HI with ⟨⟨C3, R3, D3⟩, ⟨F4, L4, T4, D4⟩, Q, HV, HO, -⟩
  iapply (Flow.wp_wait_out EC 𝒱 (thr d i) bd (outS i arg4 a4 s4 T A) ι (outS_ok i arg4 a4 s4 T A) (k := cnt i) (O := O) (W := W)
    ((cond18 i).trans (if_pos (cnt_pos i)).symm)
    (fun h h0 => oblk_eq arg4 (off33 i)) (fun h h0 => sem_eq s4 (sem_off (cnt i - 1) (by have := cnt_le i; omega)))) $$ [L4 D4 HO]
  · isplitl [L4]; · iexact L4
    isplitl [D4]; · iexact D4
    isplitl [HO]; · iexact HO
    iexact HW
  iintro ⟨L4, D4, HO⟩
  rw [Prog.pure_eq_ret, wp_ret]; imodintro
  rw [wp_ret]; imodintro
  unfold finish
  ihave C3 := (coming_last EC (thr d i) (inS i arg3 a3 s3 A) ι (Nat.lt_irrefl _)) $$ C3
  ihave P3 := (free_pair (thr d i) (inS i arg3 a3 s3 A) (inS_ok i arg3 a3 s3 A) (cnt i)) $$ [C3 R3]
  · isplitl [C3]; · iexact C3
    iexact R3
  icases P3 with ⟨C3, R3⟩
  isplitl [C3 R3 D3]
  · isplitl [C3]; · iexact C3
    isplitl [R3]; · iexact R3
    iexact D3
  ihave P4 := (free_pair (thr d i) (outS i arg4 a4 s4 T A) (outS_ok i arg4 a4 s4 T A) (cnt i)) $$ [F4 L4]
  · isplitl [F4]; · iexact F4
    iexact L4
  icases P4 with ⟨F4, L4⟩
  isplitl [F4 L4 D4]
  · isplitl [F4]; · iexact F4
    isplitl [L4]; · iexact L4
    iexact D4
  isplitl [Q]; · iexact Q
  isplitl [HV]; · iexact HV
  iexact HO

end Cert.Proof.Stage1
-- ==== Proof.Deal0.lean ====
/-
  The first stage's arrays dealt out to its tiles: what a tile is given and what it gives back.
-/
module

public import proofs.«01_k».proof.Proof.Deal
public import proofs.«01_k».proof.Proof.Body0

@[expose] public section

noncomputable section

namespace Cert.Proof.Stage1

open Idealize.ShloMosaic Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Cert.Proof.Rules Cert.Proof.Deal
open Cert.Proof.Stage2 (thr sem)

variable {F : FTy → Type} [FloatOps F] [Named F] {e : EltTy} [f : Cert.KernelIdeal.Facts₀]
variable {Ix : Type} [DecidableEq Ix] {Name : Type} [DecidableEq Name] {U : Type} [URA U] {Lvl : Type} [Preorder Lvl]

local notation "𝕄" => MT nD τ sig Ix (Elt F) Name U Lvl

/-- The coordinates of a tile. -/
def coords (t : Tile) : grid0.Coords := fun | 0 => t.1 | 1 => t.2 | ⟨_ + 2, h⟩ => absurd h (Nat.not_lt.2 (Nat.le_add_left _ _))

variable (d : Dev nD)

section Arrays

/-- A tile's blocks of a list, at their parts of it, -/
def lists (t : Tile) (a : Memref sig .scVector .hbm S1x100352 e) (X : S1x100352.Idx → Elt F e) : sProp 𝕄 :=
  bigSep (Finset.range (cnt (coords t))) fun k => owns (thr d (coords t)) (blk a (base (coords t) + k)) fullShare (part X (base (coords t) + k))
/-- its blocks of the result, at some contents, -/
def room (t : Tile) (a : Memref sig .scVector .hbm S100352x16 .f32) : sProp 𝕄 :=
  bigSep (Finset.range (cnt (coords t))) fun k => iprop(∃ Y, owns (thr d (coords t)) (oblk a (base (coords t) + k)) fullShare Y)
/-- and at theirs. -/
def rows (t : Tile) (a : Memref sig .scVector .hbm S100352x16 .f32) (X : Vec F S100352x16 .f32) : sProp 𝕄 :=
  bigSep (Finset.range (cnt (coords t))) fun k => owns (thr d (coords t)) (oblk a (base (coords t) + k)) fullShare fun j => X ((rOut (base (coords t) + k)).emb j)

theorem runs_le (t : Tile) : base (coords t) + cnt (coords t) ≤ 196 := by revert t; decide +kernel
theorem runs_apart (t t' : Tile) (h : t ≠ t') :
    base (coords t) + cnt (coords t) ≤ base (coords t') ∨ base (coords t') + cnt (coords t') ≤ base (coords t) := by
  revert t t'; decide +kernel
theorem runs_all (b : ℕ) (hb : b < 196) : ∃ t : Tile, base (coords t) ≤ b ∧ b < base (coords t) + cnt (coords t) := by
  have h : ∀ b : Fin 196, ∃ t : Tile, base (coords t) ≤ b.val ∧ b.val < base (coords t) + cnt (coords t) := by decide +kernel
  exact h ⟨b, hb⟩

theorem blk_apart (b : ℕ) (hb : b < 196) (b' : ℕ) (hb' : b' < 196) (h : b ≠ b') : Disjoint (rBlk b).set (rBlk b').set := by
  refine Finset.disjoint_left.mpr fun x hx hx' => ?_
  have h₁ := Rect.mem_set_unit.mp hx 1
  have h₂ := Rect.mem_set_unit.mp hx' 1
  replace h₁ : 512 * (b % 196) ≤ (x 1).val ∧ (x 1).val < 512 * (b % 196) + 512 := h₁
  replace h₂ : 512 * (b' % 196) ≤ (x 1).val ∧ (x 1).val < 512 * (b' % 196) + 512 := h₂
  rw [Nat.mod_eq_of_lt hb] at h₁; rw [Nat.mod_eq_of_lt hb'] at h₂
  omega

theorem blk_cover (x : S1x100352.Idx) : ∃ b < 196, x ∈ (rBlk b).set := by
  have h1 : (x 1).val < 100352 := (x 1).isLt
  have h0 : (x 0).val < 1 := (x 0).isLt
  refine ⟨(x 1).val / 512, by omega, Rect.mem_set_unit.mpr fun a => ?_⟩
  match a with
  | ⟨0, _⟩ => exact ⟨Nat.zero_le _, by show (x 0).val < 0 + 1; omega⟩
  | ⟨1, _⟩ =>
    constructor
    · show 512 * ((x 1).val / 512 % 196) ≤ (x 1).val
      omega
    · show (x 1).val < 512 * ((x 1).val / 512 % 196) + 512
      omega

theorem out_apart (b : ℕ) (hb : b < 196) (b' : ℕ) (hb' : b' < 196) (h : b ≠ b') : Disjoint (rOut b).set (rOut b').set := by
  refine Finset.disjoint_left.mpr fun x hx hx' => ?_
  have h₁ := Rect.mem_set_unit.mp hx 0
  have h₂ := Rect.mem_set_unit.mp hx' 0
  replace h₁ : 512 * (b % 196) ≤ (x 0).val ∧ (x 0).val < 512 * (b % 196) + 512 := h₁
  replace h₂ : 512 * (b' % 196) ≤ (x 0).val ∧ (x 0).val < 512 * (b' % 196) + 512 := h₂
  rw [Nat.mod_eq_of_lt hb] at h₁; rw [Nat.mod_eq_of_lt hb'] at h₂
  omega

theorem out_cover (x : S100352x16.Idx) : ∃ b < 196, x ∈ (rOut b).set := by
  have h1 : (x 1).val < 16 := (x 1).isLt
  have h0 : (x 0).val < 100352 := (x 0).isLt
  refine ⟨(x 0).val / 512, by omega, Rect.mem_set_unit.mpr fun a => ?_⟩
  match a with
  | ⟨0, _⟩ =>
    constructor
    · show 512 * ((x 0).val / 512 % 196) ≤ (x 0).val
      omega
    · show (x 0).val < 512 * ((x 0).val / 512 % 196) + 512
      omega
  | ⟨1, _⟩ => exact ⟨Nat.zero_le _, by show (x 1).val < 0 + 16; omega⟩

variable [∀ e, Nonempty (Elt F e)]

/-- A list dealt out, -/
theorem deal_lists (a : Memref sig .scVector .hbm S1x100352 e) (X : S1x100352.Idx → Elt F e)
    (hn : ∀ t b (Z : S1x512.Idx → Elt F e), (owns (thr d (coords (0, 0))) (blk a b) fullShare Z : sProp 𝕄) = owns (thr d (coords t)) (blk a b) fullShare Z) :
    (owns (thr d (coords (0, 0))) a fullShare X : sProp 𝕄) = bigSep Finset.univ fun t => lists d t a X := by
  rw [owns_deal (thr d (coords (0, 0))) a X rBlk (fun _ _ => rfl) blk_apart blk_cover (fun t => cnt (coords t)) (fun t => base (coords t))
    runs_le runs_apart runs_all]
  exact BI.bigSep_congr fun t _ => BI.bigSep_congr fun k _ => hn t _ _

/-- the result collected, -/
theorem deal_rows (a : Memref sig .scVector .hbm S100352x16 .f32) (X : Vec F S100352x16 .f32)
    (hn : ∀ t b (Z : Vec F S512x16 .f32), (owns (thr d (coords (0, 0))) (oblk a b) fullShare Z : sProp 𝕄) = owns (thr d (coords t)) (oblk a b) fullShare Z) :
    (owns (thr d (coords (0, 0))) a fullShare X : sProp 𝕄) = bigSep Finset.univ fun t => rows d t a X := by
  rw [owns_deal (thr d (coords (0, 0))) a X rOut (fun _ _ => rfl) out_apart out_cover (fun t => cnt (coords t)) (fun t => base (coords t))
    runs_le runs_apart runs_all]
  exact BI.bigSep_congr fun t _ => BI.bigSep_congr fun k _ => hn t _ _

/-- and the room for it dealt out. -/
theorem deal_room (a : Memref sig .scVector .hbm S100352x16 .f32) (X : Vec F S100352x16 .f32)
    (hn : ∀ t b (Z : Vec F S512x16 .f32), (owns (thr d (coords (0, 0))) (oblk a b) fullShare Z : sProp 𝕄) = owns (thr d (coords t)) (oblk a b) fullShare Z) :
    (owns (thr d (coords (0, 0))) a fullShare X : sProp 𝕄) ⊢ bigSep Finset.univ fun t => room d t a := by
  rw [deal_rows d a X hn]
  refine BI.bigSep_mono fun t _ => BI.bigSep_mono fun k _ => ?_
  exact some_contents _ _ _ _

end Arrays

/-! ### The double buffers -/

section Scratch

variable [∀ e, Nonempty (Elt F e)] (i : grid0.Coords)

abbrev rSlot (t : Fin 2) : Rect S2x1x512 := Rect.unit (s := S2x1x512) ![t.val % 2, 0, 0] S1x1x512.size (inb_slot t.val)
abbrev rOslot (t : Fin 2) : Rect S2x512x16 := Rect.unit (s := S2x512x16) ![t.val % 2, 0, 0] S1x512x16.size (inb_oslot t.val)

theorem slot_apart : Disjoint (rSlot 0).set (rSlot 1).set := by
  refine Finset.disjoint_left.mpr fun x hx hx' => ?_
  have h₁ := (Rect.mem_set_unit.mp hx 0).2
  have h₂ := (Rect.mem_set_unit.mp hx' 0).1
  replace h₁ : (x 0).val < 0 + 1 := h₁
  replace h₂ : 1 ≤ (x 0).val := h₂
  omega
theorem slot_cover (x : S2x1x512.Idx) : x ∈ (rSlot 0).set ∨ x ∈ (rSlot 1).set := by
  have h0 : (x 0).val < 2 := (x 0).isLt
  have h1 : (x 1).val < 1 := (x 1).isLt
  have h2 : (x 2).val < 512 := (x 2).isLt
  by_cases h : (x 0).val = 0
  · refine Or.inl (Rect.mem_set_unit.mpr fun a => ?_)
    match a with
    | ⟨0, _⟩ => exact ⟨Nat.zero_le _, by show (x 0).val < 0 + 1; omega⟩
    | ⟨1, _⟩ => exact ⟨Nat.zero_le _, by show (x 1).val < 0 + 1; omega⟩
    | ⟨2, _⟩ => exact ⟨Nat.zero_le _, by show (x 2).val < 0 + 512; omega⟩
  · refine Or.inr (Rect.mem_set_unit.mpr fun a => ?_)
    match a with
    | ⟨0, _⟩ => exact ⟨by show 1 ≤ (x 0).val; omega, by show (x 0).val < 1 + 1; omega⟩
    | ⟨1, _⟩ => exact ⟨Nat.zero_le _, by show (x 1).val < 0 + 1; omega⟩
    | ⟨2, _⟩ => exact ⟨Nat.zero_le _, by show (x 2).val < 0 + 512; omega⟩
theorem oslot_apart : Disjoint (rOslot 0).set (rOslot 1).set := by
  refine Finset.disjoint_left.mpr fun x hx hx' => ?_
  have h₁ := (Rect.mem_set_unit.mp hx 0).2
  have h₂ := (Rect.mem_set_unit.mp hx' 0).1
  replace h₁ : (x 0).val < 0 + 1 := h₁
  replace h₂ : 1 ≤ (x 0).val := h₂
  omega
theorem oslot_cover (x : S2x512x16.Idx) : x ∈ (rOslot 0).set ∨ x ∈ (rOslot 1).set := by
  have h0 : (x 0).val < 2 := (x 0).isLt
  have h1 : (x 1).val < 512 := (x 1).isLt
  have h2 : (x 2).val < 16 := (x 2).isLt
  by_cases h : (x 0).val = 0
  · refine Or.inl (Rect.mem_set_unit.mpr fun a => ?_)
    match a with
    | ⟨0, _⟩ => exact ⟨Nat.zero_le _, by show (x 0).val < 0 + 1; omega⟩
    | ⟨1, _⟩ => exact ⟨Nat.zero_le _, by show (x 1).val < 0 + 512; omega⟩
    | ⟨2, _⟩ => exact ⟨Nat.zero_le _, by show (x 2).val < 0 + 16; omega⟩
  · refine Or.inr (Rect.mem_set_unit.mpr fun a => ?_)
    match a with
    | ⟨0, _⟩ => exact ⟨by show 1 ≤ (x 0).val; omega, by show (x 0).val < 1 + 1; omega⟩
    | ⟨1, _⟩ => exact ⟨Nat.zero_le _, by show (x 1).val < 0 + 512; omega⟩
    | ⟨2, _⟩ => exact ⟨Nat.zero_le _, by show (x 2).val < 0 + 16; omega⟩

/-- A stream's double buffer with its semaphores. -/
def idle {sp : Space} {s : Shape} (c : Thread nD τ) (b : Memref sig c.2.kind sp s e) (v : DmaSems sig S2) : sProp 𝕄 :=
  iprop((∃ Y, owns c b fullShare Y) ∗ semVal (c, SemLoc.dma (sem v 0)) 0 ∗ semVal (c, SemLoc.dma (sem v 1)) 0)

theorem in_open (a : Memref sig .scVector .hbm S1x100352 e) (b : Memref sig .scVector .vmem S2x1x512 e) (v : DmaSems sig S2) (X : S1x100352.Idx → Elt F e) :
    (idle (thr d i) b v : sProp 𝕄) ⊢ iprop((inS i a b v X).free (thr d i) 0 ∗ (inS i a b v X).free (thr d i) 1) := by
  unfold idle Flow.free
  iintro ⟨H, S₀, S₁⟩
  ihave H := (slots_open (thr d i) b rSlot (fun _ _ => rfl) slot_apart slot_cover squeezes_S1x1x512_S1x512 squeezes_S1x1x512_S1x512) $$ H
  icases H with ⟨H₀, H₁⟩
  isplitl [H₀ S₀]
  · isplitl [H₀]; · iexact H₀
    iexact S₀
  · isplitl [H₁]; · iexact H₁
    iexact S₁
theorem in_close (a : Memref sig .scVector .hbm S1x100352 e) (b : Memref sig .scVector .vmem S2x1x512 e) (v : DmaSems sig S2) (X : S1x100352.Idx → Elt F e) :
    (iprop((inS i a b v X).free (thr d i) 0 ∗ (inS i a b v X).free (thr d i) 1) : sProp 𝕄) ⊢ idle (thr d i) b v := by
  unfold idle Flow.free
  iintro ⟨⟨H₀, S₀⟩, H₁, S₁⟩
  isplitl [H₀ H₁]
  · iapply (slots_close (thr d i) b rSlot (fun _ _ => rfl) slot_apart slot_cover squeezes_S1x1x512_S1x512 squeezes_S1x1x512_S1x512)
    isplitl [H₀]; · iexact H₀
    iexact H₁
  isplitl [S₀]; · iexact S₀
  iexact S₁
theorem out_open (a : Memref sig .scVector .hbm S100352x16 .f32) (b : Memref sig .scVector .vmem S2x512x16 .f32) (v : DmaSems sig S2)
    (T : Vec F S100x16 .f32) (A : Vec F S1x100352 .i32) :
    (idle (thr d i) b v : sProp 𝕄) ⊢ iprop((outS i a b v T A).free (thr d i) 0 ∗ (outS i a b v T A).free (thr d i) 1) := by
  unfold idle Flow.free
  iintro ⟨H, S₀, S₁⟩
  ihave H := (slots_open (thr d i) b rOslot (fun _ _ => rfl) oslot_apart oslot_cover squeezes_S1x512x16_S512x16 squeezes_S1x512x16_S512x16) $$ H
  icases H with ⟨H₀, H₁⟩
  isplitl [H₀ S₀]
  · isplitl [H₀]; · iexact H₀
    iexact S₀
  · isplitl [H₁]; · iexact H₁
    iexact S₁
theorem out_close (a : Memref sig .scVector .hbm S100352x16 .f32) (b : Memref sig .scVector .vmem S2x512x16 .f32) (v : DmaSems sig S2)
    (T : Vec F S100x16 .f32) (A : Vec F S1x100352 .i32) :
    (iprop((outS i a b v T A).free (thr d i) 0 ∗ (outS i a b v T A).free (thr d i) 1) : sProp 𝕄) ⊢ idle (thr d i) b v := by
  unfold idle Flow.free
  iintro ⟨⟨H₀, S₀⟩, H₁, S₁⟩
  isplitl [H₀ H₁]
  · iapply (slots_close (thr d i) b rOslot (fun _ _ => rfl) oslot_apart oslot_cover squeezes_S1x512x16_S512x16 squeezes_S1x512x16_S512x16)
    isplitl [H₀]; · iexact H₀
    iexact H₁
  isplitl [S₀]; · iexact S₀
  iexact S₁

end Scratch

/-! ### The task of a tile -/

section Task

variable (t : Tile)
  (arg2 : Memref sig .scVector .hbm S100x16 .f32) (harg2 : arg2.IsWhole) (arg3 : Memref sig .scVector .hbm S1x100352 .i32) (harg3 : arg3.IsWhole)
  (arg4 : Memref sig .scVector .hbm S100352x16 .f32) (harg4 : arg4.IsWhole)
  (a3 : Memref sig .scVector .vmem S2x1x512 .i32) (ha3 : a3.IsWhole) (s3 : DmaSems sig S2)
  (a4 : Memref sig .scVector .vmem S2x512x16 .f32) (ha4 : a4.IsWhole) (s4 : DmaSems sig S2) (g1 g2 : DmaSems sig S_)
  (T : Vec F S100x16 .f32) (A : Vec F S1x100352 .i32) (q : PosShare TreeShare)
  (ι : Ix) (O : CellTallies nD τ sig Ix) (W : Waits sig Ix)

/-- What a tile is given of the arrays, -/
def given : sProp 𝕄 := iprop(lists d t arg3 A ∗ room d t arg4 ∗ owns (thr d (coords t)) arg2 q T)
/-- what it gives back, -/
def done : sProp 𝕄 := iprop(lists d t arg3 A ∗ rows d t arg4 (result T A) ∗ owns (thr d (coords t)) arg2 q T)
/-- and what of its own it uses. -/
def own : sProp 𝕄 :=
  iprop(idle (thr d (coords t)) a3 s3 ∗ idle (thr d (coords t)) a4 s4 ∗ semVal (thr d (coords t), SemLoc.dma g1.sem) 0)

variable [∀ e, Nonempty (Elt F e)]

theorem start_intro : (iprop(given d t arg2 arg3 arg4 T A q ∗ own d t a3 s3 a4 s4 g1 ∗ owes (thr d (coords t)) O W) : sProp 𝕄)
    ⊢ start d (coords t) arg2 arg3 arg4 a3 s3 a4 s4 g1 T A q ι O W := by
  unfold given own start lists room
  iintro ⟨⟨L3, L4, Q⟩, ⟨I3, I4, HV⟩, HO⟩
  ihave I3 := (in_open d (coords t) arg3 a3 s3 A) $$ I3
  icases I3 with ⟨F3, G3⟩
  ihave I4 := (out_open d (coords t) arg4 a4 s4 T A) $$ I4
  icases I4 with ⟨F4, G4⟩
  unfold Flow.inTodo Flow.outTodo
  rw [← Finset.range_eq_Ico]
  isplitl [F3 G3 L3]
  · isplitl [F3]; · iexact F3
    isplitl [G3]; · iexact G3
    iexact L3
  isplitl [F4 G4 L4]
  · isplitl [F4]; · iexact F4
    isplitl [G4]; · iexact G4
    iexact L4
  isplitl [Q]; · iexact Q
  isplitl [HV]; · iexact HV
  iapply (due_intro (thr d (coords t)) ι O W) $$ HO

theorem rows_intro : ((outS (coords t) arg4 a4 s4 T A).inDone (thr d (coords t)) (cnt (coords t)) : sProp 𝕄) ⊢ rows d t arg4 (result T A) := by
  unfold Flow.inDone rows
  exact Entails.of_eq (BI.bigSep_congr fun k _ =>
    congrArg (owns (thr d (coords t)) (oblk arg4 (base (coords t) + k)) fullShare) (result_part T A (base (coords t) + k)).symm)

theorem lists_intro (a : Memref sig .scVector .hbm S1x100352 e) (b : Memref sig .scVector .vmem S2x1x512 e) (v : DmaSems sig S2)
    (X : S1x100352.Idx → Elt F e) :
    ((inS (coords t) a b v X).inDone (thr d (coords t)) (cnt (coords t)) : sProp 𝕄) ⊢ lists d t a X := .rfl

theorem finish_open :
    (finish d (coords t) arg2 arg3 arg4 a3 s3 a4 s4 g1 T A q ι O W : sProp 𝕄)
    ⊢ iprop(done d t arg2 arg3 arg4 T A q ∗ own d t a3 s3 a4 s4 g1 ∗ Due (thr d (coords t)) ι O W) := by
  unfold finish done own
  iintro ⟨⟨F3, G3, L3⟩, ⟨F4, G4, L4⟩, Q, HV, HO⟩
  ihave L3 := (lists_intro d t arg3 a3 s3 A) $$ L3
  ihave L4 := (rows_intro d t arg4 a4 s4 T A) $$ L4
  isplitl [L3 L4 Q]
  · isplitl [L3]; · iexact L3
    isplitl [L4]; · iexact L4
    iexact Q
  isplitr [HO]
  · isplitl [F3 G3]
    · iapply (in_close d (coords t) arg3 a3 s3 A)
      isplitl [F3]; · iexact F3
      iexact G3
    isplitl [F4 G4]
    · iapply (out_close d (coords t) arg4 a4 s4 T A)
      isplitl [F4]; · iexact F4
      iexact G4
    iexact HV
  iexact HO

variable {defs : Defs nD τ sig (Elt F) Λ₀} (EC : UEmb Counters (MT nD τ sig Ix (Elt F) Name U Lvl)) (𝒱 : Variants) (bd : Option 𝒱.V)

omit f in
/-- What is proved of a run, from more and for less. -/
theorem wp_weaken {c : Thread nD τ} {α : Type} {p : Prog (TpuEff nD τ sig (Elt F) Λ₀ c.2) α} {P P' : sProp 𝕄} {A B : α → sProp 𝕄}
    (h : P ⊢ wp frame (wpE defs 𝒱 c bd) Set.univ p A) (h₁ : P' ⊢ P) (h₂ : ∀ a, A a ⊢ B a) :
    P' ⊢ wp frame (wpE defs 𝒱 c bd) Set.univ p B := (h₁.trans h).trans (wp_mono frame _ _ h₂)

theorem task_of [Infinite Name] [EC.LandsIn (upEmb : UEmb _ 𝕄)] (hA : ∀ x, (A x).toNat < 100)
    (i : grid0.Coords) (P P' : sProp 𝕄)
    (h₁ : P ⊢ iprop(start d i arg2 arg3 arg4 a3 s3 a4 s4 g1 T A q ι O W ∗ Transfers.MayWaits (thr d i) ι O))
    (h₂ : finish d i arg2 arg3 arg4 a3 s3 a4 s4 g1 T A q ι O W ⊢ P') :
    P ⊢ wp frame (wpE defs 𝒱 (thr d i) bd) Set.univ (cc0_stage1 i arg2 harg2 arg3 harg3 arg4 harg4 a3 ha3 s3 a4 ha4 s4 g1 g2) (fun _ => P') := by
  have hb := @body F _ _ f Ix _ Name _ U _ Lvl _ defs EC 𝒱 bd d i arg2 harg2 arg3 harg3 arg4 harg4 a3 ha3 s3 a4 ha4 s4 g1 g2 T A q ι O W ‹_› ‹_› hA
  revert hb
  generalize (iprop(start d i arg2 arg3 arg4 a3 s3 a4 s4 g1 T A q ι O W ∗ Transfers.MayWaits (thr d i) ι O) : sProp 𝕄) = X at h₁ ⊢
  generalize (finish d i arg2 arg3 arg4 a3 s3 a4 s4 g1 T A q ι O W : sProp 𝕄) = Y at h₂ ⊢
  generalize cc0_stage1 i arg2 harg2 arg3 harg3 arg4 harg4 a3 ha3 s3 a4 ha4 s4 g1 g2 = p
  intro hb
  exact wp_weaken (c := thr d i) 𝒱 bd hb h₁ fun _ => h₂

/-- The task. -/
theorem task [Infinite Name] [EC.LandsIn (upEmb : UEmb _ 𝕄)] (hA : ∀ x, (A x).toNat < 100) :
    (iprop(given d t arg2 arg3 arg4 T A q ∗ own d t a3 s3 a4 s4 g1
      ∗ owes (thr d (coords t)) O W ∗ Transfers.MayWaits (thr d (coords t)) ι O) : sProp 𝕄)
    ⊢ wp frame (wpE defs 𝒱 (thr d (coords t)) bd) Set.univ (cc0_stage1 (coords t) arg2 harg2 arg3 harg3 arg4 harg4 a3 ha3 s3 a4 ha4 s4 g1 g2)
        (fun _ => iprop(done d t arg2 arg3 arg4 T A q ∗ own d t a3 s3 a4 s4 g1 ∗ Due (thr d (coords t)) ι O W)) := by
  have h₁ : (iprop(given d t arg2 arg3 arg4 T A q ∗ own d t a3 s3 a4 s4 g1
      ∗ owes (thr d (coords t)) O W ∗ Transfers.MayWaits (thr d (coords t)) ι O) : sProp 𝕄)
      ⊢ iprop(start d (coords t) arg2 arg3 arg4 a3 s3 a4 s4 g1 T A q ι O W ∗ Transfers.MayWaits (thr d (coords t)) ι O) := by
    iintro ⟨H₁, H₂, H₃, H₄⟩
    isplitr [H₄]
    · iapply (start_intro d t arg2 arg3 arg4 a3 s3 a4 s4 g1 T A q ι O W)
      isplitl [H₁]; · iexact H₁
      isplitl [H₂]; · iexact H₂
      iexact H₃
    · iexact H₄
  have h := @task_of F _ _ f Ix _ Name _ U _ Lvl _ d arg2 harg2 arg3 harg3 arg4 harg4 a3 ha3 s3 a4 ha4 s4 g1 g2 T A q ι O W ‹_› defs EC 𝒱 bd ‹_› ‹_› hA (coords t) _ _ h₁ (finish_open d t arg2 arg3 arg4 a3 s3 a4 s4 g1 T A q ι O W)
  revert h
  generalize (cc0_stage1 (F := F) (coords t) arg2 harg2 arg3 harg3 arg4 harg4 a3 ha3 s3 a4 ha4 s4 g1 g2) = p
  exact id

end Task

end Cert.Proof.Stage1
-- ==== Proof.Deal2.lean ====
/-
  The second stage's arrays dealt out to its tiles: what a tile is given and what it gives back.
-/
module

public import proofs.«01_k».proof.Proof.Deal
public import proofs.«01_k».proof.Proof.Body2

@[expose] public section

noncomputable section

namespace Cert.Proof.Stage2

open Idealize.ShloMosaic Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Cert.Proof.Rules Cert.Proof.Deal

variable {F : FTy → Type} [FloatOps F] [Named F] {e : EltTy} [f : Cert.KernelIdeal.Facts₀]
variable {Ix : Type} [DecidableEq Ix] {Name : Type} [DecidableEq Name] {U : Type} [URA U] {Lvl : Type} [Preorder Lvl]

local notation "𝕄" => MT nD τ sig Ix (Elt F) Name U Lvl

/-- The coordinates of a tile. -/
def coords (t : Tile) : grid1.Coords := fun | 0 => t.1 | 1 => t.2 | ⟨_ + 2, h⟩ => absurd h (Nat.not_lt.2 (Nat.le_add_left _ _))

variable (d : Dev nD)

section Arrays

/-- A tile's blocks of a list, at their parts of it, -/
def lists (t : Tile) (a : Memref sig .scVector .hbm S1x640000 e) (X : S1x640000.Idx → Elt F e) : sProp 𝕄 :=
  bigSep (Finset.range (cnt (coords t))) fun k => owns (thr d (coords t)) (blk a (base (coords t) + k)) fullShare (part X (base (coords t) + k))
/-- its blocks of the result, at some contents, -/
def room (t : Tile) (a : Memref sig .scVector .hbm S640000x27 .f32) : sProp 𝕄 :=
  bigSep (Finset.range (cnt (coords t))) fun k => iprop(∃ Y, owns (thr d (coords t)) (oblk a (base (coords t) + k)) fullShare Y)
/-- and at theirs. -/
def rows (t : Tile) (a : Memref sig .scVector .hbm S640000x27 .f32) (X : Vec F S640000x27 .f32) : sProp 𝕄 :=
  bigSep (Finset.range (cnt (coords t))) fun k => owns (thr d (coords t)) (oblk a (base (coords t) + k)) fullShare fun j => X ((rOut (base (coords t) + k)).emb j)

theorem runs_le (t : Tile) : base (coords t) + cnt (coords t) ≤ 625 := by revert t; decide +kernel
theorem runs_apart (t t' : Tile) (h : t ≠ t') :
    base (coords t) + cnt (coords t) ≤ base (coords t') ∨ base (coords t') + cnt (coords t') ≤ base (coords t) := by
  revert t t'; decide +kernel
theorem runs_all (b : ℕ) (hb : b < 625) : ∃ t : Tile, base (coords t) ≤ b ∧ b < base (coords t) + cnt (coords t) := by
  have h : ∀ b : Fin 625, ∃ t : Tile, base (coords t) ≤ b.val ∧ b.val < base (coords t) + cnt (coords t) := by decide +kernel
  exact h ⟨b, hb⟩

theorem blk_apart (b : ℕ) (hb : b < 625) (b' : ℕ) (hb' : b' < 625) (h : b ≠ b') : Disjoint (rBlk b).set (rBlk b').set := by
  refine Finset.disjoint_left.mpr fun x hx hx' => ?_
  have h₁ := Rect.mem_set_unit.mp hx 1
  have h₂ := Rect.mem_set_unit.mp hx' 1
  replace h₁ : 1024 * (b % 625) ≤ (x 1).val ∧ (x 1).val < 1024 * (b % 625) + 1024 := h₁
  replace h₂ : 1024 * (b' % 625) ≤ (x 1).val ∧ (x 1).val < 1024 * (b' % 625) + 1024 := h₂
  rw [Nat.mod_eq_of_lt hb] at h₁; rw [Nat.mod_eq_of_lt hb'] at h₂
  omega

theorem blk_cover (x : S1x640000.Idx) : ∃ b < 625, x ∈ (rBlk b).set := by
  have h1 : (x 1).val < 640000 := (x 1).isLt
  have h0 : (x 0).val < 1 := (x 0).isLt
  refine ⟨(x 1).val / 1024, by omega, Rect.mem_set_unit.mpr fun a => ?_⟩
  match a with
  | ⟨0, _⟩ => exact ⟨Nat.zero_le _, by show (x 0).val < 0 + 1; omega⟩
  | ⟨1, _⟩ =>
    constructor
    · show 1024 * ((x 1).val / 1024 % 625) ≤ (x 1).val
      omega
    · show (x 1).val < 1024 * ((x 1).val / 1024 % 625) + 1024
      omega

theorem out_apart (b : ℕ) (hb : b < 625) (b' : ℕ) (hb' : b' < 625) (h : b ≠ b') : Disjoint (rOut b).set (rOut b').set := by
  refine Finset.disjoint_left.mpr fun x hx hx' => ?_
  have h₁ := Rect.mem_set_unit.mp hx 0
  have h₂ := Rect.mem_set_unit.mp hx' 0
  replace h₁ : 1024 * (b % 625) ≤ (x 0).val ∧ (x 0).val < 1024 * (b % 625) + 1024 := h₁
  replace h₂ : 1024 * (b' % 625) ≤ (x 0).val ∧ (x 0).val < 1024 * (b' % 625) + 1024 := h₂
  rw [Nat.mod_eq_of_lt hb] at h₁; rw [Nat.mod_eq_of_lt hb'] at h₂
  omega

theorem out_cover (x : S640000x27.Idx) : ∃ b < 625, x ∈ (rOut b).set := by
  have h1 : (x 1).val < 27 := (x 1).isLt
  have h0 : (x 0).val < 640000 := (x 0).isLt
  refine ⟨(x 0).val / 1024, by omega, Rect.mem_set_unit.mpr fun a => ?_⟩
  match a with
  | ⟨0, _⟩ =>
    constructor
    · show 1024 * ((x 0).val / 1024 % 625) ≤ (x 0).val
      omega
    · show (x 0).val < 1024 * ((x 0).val / 1024 % 625) + 1024
      omega
  | ⟨1, _⟩ => exact ⟨Nat.zero_le _, by show (x 1).val < 0 + 27; omega⟩

variable [∀ e, Nonempty (Elt F e)]

/-- A list dealt out, -/
theorem deal_lists (a : Memref sig .scVector .hbm S1x640000 e) (X : S1x640000.Idx → Elt F e)
    (hn : ∀ t b (Z : S1x1024.Idx → Elt F e), (owns (thr d (coords (0, 0))) (blk a b) fullShare Z : sProp 𝕄) = owns (thr d (coords t)) (blk a b) fullShare Z) :
    (owns (thr d (coords (0, 0))) a fullShare X : sProp 𝕄) = bigSep Finset.univ fun t => lists d t a X := by
  rw [owns_deal (thr d (coords (0, 0))) a X rBlk (fun _ _ => rfl) blk_apart blk_cover (fun t => cnt (coords t)) (fun t => base (coords t))
    runs_le runs_apart runs_all]
  exact BI.bigSep_congr fun t _ => BI.bigSep_congr fun k _ => hn t _ _

/-- the result collected, -/
theorem deal_rows (a : Memref sig .scVector .hbm S640000x27 .f32) (X : Vec F S640000x27 .f32)
    (hn : ∀ t b (Z : Vec F S1024x27 .f32), (owns (thr d (coords (0, 0))) (oblk a b) fullShare Z : sProp 𝕄) = owns (thr d (coords t)) (oblk a b) fullShare Z) :
    (owns (thr d (coords (0, 0))) a fullShare X : sProp 𝕄) = bigSep Finset.univ fun t => rows d t a X := by
  rw [owns_deal (thr d (coords (0, 0))) a X rOut (fun _ _ => rfl) out_apart out_cover (fun t => cnt (coords t)) (fun t => base (coords t))
    runs_le runs_apart runs_all]
  exact BI.bigSep_congr fun t _ => BI.bigSep_congr fun k _ => hn t _ _

/-- and the room for it dealt out. -/
theorem deal_room (a : Memref sig .scVector .hbm S640000x27 .f32) (X : Vec F S640000x27 .f32)
    (hn : ∀ t b (Z : Vec F S1024x27 .f32), (owns (thr d (coords (0, 0))) (oblk a b) fullShare Z : sProp 𝕄) = owns (thr d (coords t)) (oblk a b) fullShare Z) :
    (owns (thr d (coords (0, 0))) a fullShare X : sProp 𝕄) ⊢ bigSep Finset.univ fun t => room d t a := by
  rw [deal_rows d a X hn]
  refine BI.bigSep_mono fun t _ => BI.bigSep_mono fun k _ => ?_
  exact some_contents _ _ _ _

end Arrays

/-! ### The double buffers -/

section Scratch

variable [∀ e, Nonempty (Elt F e)] (i : grid1.Coords)

abbrev rSlot (t : Fin 2) : Rect S2x1x1024 := Rect.unit (s := S2x1x1024) ![t.val % 2, 0, 0] S1x1x1024.size (inb_slot t.val)
abbrev rOslot (t : Fin 2) : Rect S2x1024x27 := Rect.unit (s := S2x1024x27) ![t.val % 2, 0, 0] S1x1024x27.size (inb_oslot t.val)

theorem slot_apart : Disjoint (rSlot 0).set (rSlot 1).set := by
  refine Finset.disjoint_left.mpr fun x hx hx' => ?_
  have h₁ := (Rect.mem_set_unit.mp hx 0).2
  have h₂ := (Rect.mem_set_unit.mp hx' 0).1
  replace h₁ : (x 0).val < 0 + 1 := h₁
  replace h₂ : 1 ≤ (x 0).val := h₂
  omega
theorem slot_cover (x : S2x1x1024.Idx) : x ∈ (rSlot 0).set ∨ x ∈ (rSlot 1).set := by
  have h0 : (x 0).val < 2 := (x 0).isLt
  have h1 : (x 1).val < 1 := (x 1).isLt
  have h2 : (x 2).val < 1024 := (x 2).isLt
  by_cases h : (x 0).val = 0
  · refine Or.inl (Rect.mem_set_unit.mpr fun a => ?_)
    match a with
    | ⟨0, _⟩ => exact ⟨Nat.zero_le _, by show (x 0).val < 0 + 1; omega⟩
    | ⟨1, _⟩ => exact ⟨Nat.zero_le _, by show (x 1).val < 0 + 1; omega⟩
    | ⟨2, _⟩ => exact ⟨Nat.zero_le _, by show (x 2).val < 0 + 1024; omega⟩
  · refine Or.inr (Rect.mem_set_unit.mpr fun a => ?_)
    match a with
    | ⟨0, _⟩ => exact ⟨by show 1 ≤ (x 0).val; omega, by show (x 0).val < 1 + 1; omega⟩
    | ⟨1, _⟩ => exact ⟨Nat.zero_le _, by show (x 1).val < 0 + 1; omega⟩
    | ⟨2, _⟩ => exact ⟨Nat.zero_le _, by show (x 2).val < 0 + 1024; omega⟩
theorem oslot_apart : Disjoint (rOslot 0).set (rOslot 1).set := by
  refine Finset.disjoint_left.mpr fun x hx hx' => ?_
  have h₁ := (Rect.mem_set_unit.mp hx 0).2
  have h₂ := (Rect.mem_set_unit.mp hx' 0).1
  replace h₁ : (x 0).val < 0 + 1 := h₁
  replace h₂ : 1 ≤ (x 0).val := h₂
  omega
theorem oslot_cover (x : S2x1024x27.Idx) : x ∈ (rOslot 0).set ∨ x ∈ (rOslot 1).set := by
  have h0 : (x 0).val < 2 := (x 0).isLt
  have h1 : (x 1).val < 1024 := (x 1).isLt
  have h2 : (x 2).val < 27 := (x 2).isLt
  by_cases h : (x 0).val = 0
  · refine Or.inl (Rect.mem_set_unit.mpr fun a => ?_)
    match a with
    | ⟨0, _⟩ => exact ⟨Nat.zero_le _, by show (x 0).val < 0 + 1; omega⟩
    | ⟨1, _⟩ => exact ⟨Nat.zero_le _, by show (x 1).val < 0 + 1024; omega⟩
    | ⟨2, _⟩ => exact ⟨Nat.zero_le _, by show (x 2).val < 0 + 27; omega⟩
  · refine Or.inr (Rect.mem_set_unit.mpr fun a => ?_)
    match a with
    | ⟨0, _⟩ => exact ⟨by show 1 ≤ (x 0).val; omega, by show (x 0).val < 1 + 1; omega⟩
    | ⟨1, _⟩ => exact ⟨Nat.zero_le _, by show (x 1).val < 0 + 1024; omega⟩
    | ⟨2, _⟩ => exact ⟨Nat.zero_le _, by show (x 2).val < 0 + 27; omega⟩

/-- A stream's double buffer with its semaphores. -/
def idle {sp : Space} {s : Shape} (c : Thread nD τ) (b : Memref sig c.2.kind sp s e) (v : DmaSems sig S2) : sProp 𝕄 :=
  iprop((∃ Y, owns c b fullShare Y) ∗ semVal (c, SemLoc.dma (sem v 0)) 0 ∗ semVal (c, SemLoc.dma (sem v 1)) 0)

theorem in_open (a : Memref sig .scVector .hbm S1x640000 e) (b : Memref sig .scVector .vmem S2x1x1024 e) (v : DmaSems sig S2) (X : S1x640000.Idx → Elt F e) :
    (idle (thr d i) b v : sProp 𝕄) ⊢ iprop((inS i a b v X).free (thr d i) 0 ∗ (inS i a b v X).free (thr d i) 1) := by
  unfold idle Flow.free
  iintro ⟨H, S₀, S₁⟩
  ihave H := (slots_open (thr d i) b rSlot (fun _ _ => rfl) slot_apart slot_cover squeezes_S1x1x1024_S1x1024 squeezes_S1x1x1024_S1x1024) $$ H
  icases H with ⟨H₀, H₁⟩
  isplitl [H₀ S₀]
  · isplitl [H₀]; · iexact H₀
    iexact S₀
  · isplitl [H₁]; · iexact H₁
    iexact S₁
theorem in_close (a : Memref sig .scVector .hbm S1x640000 e) (b : Memref sig .scVector .vmem S2x1x1024 e) (v : DmaSems sig S2) (X : S1x640000.Idx → Elt F e) :
    (iprop((inS i a b v X).free (thr d i) 0 ∗ (inS i a b v X).free (thr d i) 1) : sProp 𝕄) ⊢ idle (thr d i) b v := by
  unfold idle Flow.free
  iintro ⟨⟨H₀, S₀⟩, H₁, S₁⟩
  isplitl [H₀ H₁]
  · iapply (slots_close (thr d i) b rSlot (fun _ _ => rfl) slot_apart slot_cover squeezes_S1x1x1024_S1x1024 squeezes_S1x1x1024_S1x1024)
    isplitl [H₀]; · iexact H₀
    iexact H₁
  isplitl [S₀]; · iexact S₀
  iexact S₁
theorem out_open (a : Memref sig .scVector .hbm S640000x27 .f32) (b : Memref sig .scVector .vmem S2x1024x27 .f32) (v : DmaSems sig S2)
    (NT : Vec F S100352x16 .f32) (I J : Vec F S1x640000 .i32) (D : Vec F S1x640000 .f32) :
    (idle (thr d i) b v : sProp 𝕄) ⊢ iprop((outS i a b v NT I J D).free (thr d i) 0 ∗ (outS i a b v NT I J D).free (thr d i) 1) := by
  unfold idle Flow.free
  iintro ⟨H, S₀, S₁⟩
  ihave H := (slots_open (thr d i) b rOslot (fun _ _ => rfl) oslot_apart oslot_cover squeezes_S1x1024x27_S1024x27 squeezes_S1x1024x27_S1024x27) $$ H
  icases H with ⟨H₀, H₁⟩
  isplitl [H₀ S₀]
  · isplitl [H₀]; · iexact H₀
    iexact S₀
  · isplitl [H₁]; · iexact H₁
    iexact S₁
theorem out_close (a : Memref sig .scVector .hbm S640000x27 .f32) (b : Memref sig .scVector .vmem S2x1024x27 .f32) (v : DmaSems sig S2)
    (NT : Vec F S100352x16 .f32) (I J : Vec F S1x640000 .i32) (D : Vec F S1x640000 .f32) :
    (iprop((outS i a b v NT I J D).free (thr d i) 0 ∗ (outS i a b v NT I J D).free (thr d i) 1) : sProp 𝕄) ⊢ idle (thr d i) b v := by
  unfold idle Flow.free
  iintro ⟨⟨H₀, S₀⟩, H₁, S₁⟩
  isplitl [H₀ H₁]
  · iapply (slots_close (thr d i) b rOslot (fun _ _ => rfl) oslot_apart oslot_cover squeezes_S1x1024x27_S1024x27 squeezes_S1x1024x27_S1024x27)
    isplitl [H₀]; · iexact H₀
    iexact H₁
  isplitl [S₀]; · iexact S₀
  iexact S₁

end Scratch

/-! ### The task of a tile -/

section Task

variable (t : Tile)
  (arg2 : Memref sig .scVector .hbm S100352x16 .f32) (harg2 : arg2.IsWhole) (arg3 : Memref sig .scVector .hbm S1x640000 .i32) (harg3 : arg3.IsWhole)
  (arg4 : Memref sig .scVector .hbm S1x640000 .i32) (harg4 : arg4.IsWhole) (arg5 : Memref sig .scVector .hbm S1x640000 .f32) (harg5 : arg5.IsWhole)
  (arg6 : Memref sig .scVector .hbm S640000x27 .f32) (harg6 : arg6.IsWhole) (arg7 : Memref sig .scVector .vmem S1024x16 .f32) (harg7 : arg7.IsWhole)
  (arg8 : Memref sig .scVector .vmem S1024x16 .f32) (harg8 : arg8.IsWhole) (arg9 : Memref sig .scVector .vmem S1024 .f32) (harg9 : arg9.IsWhole)
  (arg10 arg11 : DmaSems sig S_) (a3 : Memref sig .scVector .vmem S2x1x1024 .i32) (ha3 : a3.IsWhole) (s3 : DmaSems sig S2)
  (a4 : Memref sig .scVector .vmem S2x1x1024 .i32) (ha4 : a4.IsWhole) (s4 : DmaSems sig S2)
  (a5 : Memref sig .scVector .vmem S2x1x1024 .f32) (ha5 : a5.IsWhole) (s5 : DmaSems sig S2)
  (a6 : Memref sig .scVector .vmem S2x1024x27 .f32) (ha6 : a6.IsWhole) (s6 : DmaSems sig S2)
  (NT : Vec F S100352x16 .f32) (I J : Vec F S1x640000 .i32) (D : Vec F S1x640000 .f32) (q : PosShare TreeShare)
  (ι : Ix) (O : CellTallies nD τ sig Ix) (W : Waits sig Ix)

/-- What a tile is given of the arrays, -/
def given : sProp 𝕄 :=
  iprop(lists d t arg3 I ∗ lists d t arg4 J ∗ lists d t arg5 D ∗ room d t arg6
    ∗ owns (thr d (coords t)) arg2 q.left NT ∗ owns (thr d (coords t)) arg2 q.right NT)
/-- what it gives back, -/
def done : sProp 𝕄 :=
  iprop(lists d t arg3 I ∗ lists d t arg4 J ∗ lists d t arg5 D ∗ rows d t arg6 (result NT I J D)
    ∗ owns (thr d (coords t)) arg2 q.left NT ∗ owns (thr d (coords t)) arg2 q.right NT)
/-- and what of its own it uses. -/
def own : sProp 𝕄 :=
  iprop(idle (thr d (coords t)) a3 s3 ∗ idle (thr d (coords t)) a4 s4 ∗ idle (thr d (coords t)) a5 s5 ∗ idle (thr d (coords t)) a6 s6
    ∗ ((∃ Y, owns (thr d (coords t)) arg7 fullShare Y) ∗ (∃ Y, owns (thr d (coords t)) arg8 fullShare Y) ∗ (∃ Y, owns (thr d (coords t)) arg9 fullShare Y))
    ∗ (semVal (thr d (coords t), SemLoc.dma arg10.sem) 0 ∗ semVal (thr d (coords t), SemLoc.dma arg11.sem) 0))

variable [∀ e, Nonempty (Elt F e)]

theorem start_intro : (iprop(given d t arg2 arg3 arg4 arg5 arg6 NT I J D q ∗ own d t arg7 arg8 arg9 arg10 arg11 a3 s3 a4 s4 a5 s5 a6 s6
      ∗ owes (thr d (coords t)) O W) : sProp 𝕄)
    ⊢ start d (coords t) arg2 arg3 arg4 arg5 arg6 arg7 arg8 arg9 arg10 arg11 a3 s3 a4 s4 a5 s5 a6 s6 NT I J D q.left q.right ι O W := by
  unfold given own start lists room
  iintro ⟨⟨L3, L4, L5, L6, Q₁, Q₂⟩, ⟨I3, I4, I5, I6, HS, HV⟩, HO⟩
  ihave I3 := (in_open d (coords t) arg3 a3 s3 I) $$ I3
  icases I3 with ⟨F3, G3⟩
  ihave I4 := (in_open d (coords t) arg4 a4 s4 J) $$ I4
  icases I4 with ⟨F4, G4⟩
  ihave I5 := (in_open d (coords t) arg5 a5 s5 D) $$ I5
  icases I5 with ⟨F5, G5⟩
  ihave I6 := (out_open d (coords t) arg6 a6 s6 NT I J D) $$ I6
  icases I6 with ⟨F6, G6⟩
  unfold Flow.inTodo Flow.outTodo
  rw [← Finset.range_eq_Ico]
  isplitl [F3 G3 L3]
  · isplitl [F3]; · iexact F3
    isplitl [G3]; · iexact G3
    iexact L3
  isplitl [F4 G4 L4]
  · isplitl [F4]; · iexact F4
    isplitl [G4]; · iexact G4
    iexact L4
  isplitl [F5 G5 L5]
  · isplitl [F5]; · iexact F5
    isplitl [G5]; · iexact G5
    iexact L5
  isplitl [F6 G6 L6]
  · isplitl [F6]; · iexact F6
    isplitl [G6]; · iexact G6
    iexact L6
  isplitl [Q₁]; · iexact Q₁
  isplitl [Q₂]; · iexact Q₂
  isplitl [HS]; · iexact HS
  isplitl [HV]; · iexact HV
  iapply (due_intro (thr d (coords t)) ι O W) $$ HO

theorem rows_intro : ((outS (coords t) arg6 a6 s6 NT I J D).inDone (thr d (coords t)) (cnt (coords t)) : sProp 𝕄) ⊢ rows d t arg6 (result NT I J D) := by
  unfold Flow.inDone rows
  exact Entails.of_eq (BI.bigSep_congr fun k _ =>
    congrArg (owns (thr d (coords t)) (oblk arg6 (base (coords t) + k)) fullShare) (result_part NT I J D (base (coords t) + k)).symm)

theorem lists_intro (a : Memref sig .scVector .hbm S1x640000 e) (b : Memref sig .scVector .vmem S2x1x1024 e) (v : DmaSems sig S2)
    (X : S1x640000.Idx → Elt F e) :
    ((inS (coords t) a b v X).inDone (thr d (coords t)) (cnt (coords t)) : sProp 𝕄) ⊢ lists d t a X := .rfl

theorem finish_open :
    (finish d (coords t) arg2 arg3 arg4 arg5 arg6 arg7 arg8 arg9 arg10 arg11 a3 s3 a4 s4 a5 s5 a6 s6 NT I J D q.left q.right ι O W : sProp 𝕄)
    ⊢ iprop(done d t arg2 arg3 arg4 arg5 arg6 NT I J D q ∗ own d t arg7 arg8 arg9 arg10 arg11 a3 s3 a4 s4 a5 s5 a6 s6
      ∗ Due (thr d (coords t)) ι O W) := by
  unfold finish done own
  iintro ⟨⟨F3, G3, L3⟩, ⟨F4, G4, L4⟩, ⟨F5, G5, L5⟩, ⟨F6, G6, L6⟩, Q₁, Q₂, HS, HV, HO⟩
  ihave L3 := (lists_intro d t arg3 a3 s3 I) $$ L3
  ihave L4 := (lists_intro d t arg4 a4 s4 J) $$ L4
  ihave L5 := (lists_intro d t arg5 a5 s5 D) $$ L5
  ihave L6 := (rows_intro d t arg6 a6 s6 NT I J D) $$ L6
  isplitl [L3 L4 L5 L6 Q₁ Q₂]
  · isplitl [L3]; · iexact L3
    isplitl [L4]; · iexact L4
    isplitl [L5]; · iexact L5
    isplitl [L6]; · iexact L6
    isplitl [Q₁]; · iexact Q₁
    iexact Q₂
  isplitr [HO]
  · isplitl [F3 G3]
    · iapply (in_close d (coords t) arg3 a3 s3 I)
      isplitl [F3]; · iexact F3
      iexact G3
    isplitl [F4 G4]
    · iapply (in_close d (coords t) arg4 a4 s4 J)
      isplitl [F4]; · iexact F4
      iexact G4
    isplitl [F5 G5]
    · iapply (in_close d (coords t) arg5 a5 s5 D)
      isplitl [F5]; · iexact F5
      iexact G5
    isplitl [F6 G6]
    · iapply (out_close d (coords t) arg6 a6 s6 NT I J D)
      isplitl [F6]; · iexact F6
      iexact G6
    isplitl [HS]; · iexact HS
    iexact HV
  iexact HO

variable {defs : Defs nD τ sig (Elt F) Λ₀} (EC : UEmb Counters (MT nD τ sig Ix (Elt F) Name U Lvl)) (𝒱 : Variants) (bd : Option 𝒱.V)

omit f in
/-- What is proved of a run, from more and for less. -/
theorem wp_weaken {c : Thread nD τ} {α : Type} {p : Prog (TpuEff nD τ sig (Elt F) Λ₀ c.2) α} {P P' : sProp 𝕄} {A B : α → sProp 𝕄}
    (h : P ⊢ wp frame (wpE defs 𝒱 c bd) Set.univ p A) (h₁ : P' ⊢ P) (h₂ : ∀ a, A a ⊢ B a) :
    P' ⊢ wp frame (wpE defs 𝒱 c bd) Set.univ p B := (h₁.trans h).trans (wp_mono frame _ _ h₂)

theorem task_of [Infinite Name] [EC.LandsIn (upEmb : UEmb _ 𝕄)] (hI : ∀ x, (I x).toNat < 100352) (hJ : ∀ x, (J x).toNat < 100352)
    (i : grid1.Coords) (q₁ q₂ : PosShare TreeShare) (P P' : sProp 𝕄)
    (h₁ : P ⊢ iprop(start d i arg2 arg3 arg4 arg5 arg6 arg7 arg8 arg9 arg10 arg11 a3 s3 a4 s4 a5 s5 a6 s6 NT I J D q₁ q₂ ι O W ∗ Transfers.MayWaits (thr d i) ι O))
    (h₂ : finish d i arg2 arg3 arg4 arg5 arg6 arg7 arg8 arg9 arg10 arg11 a3 s3 a4 s4 a5 s5 a6 s6 NT I J D q₁ q₂ ι O W ⊢ P') :
    P ⊢ wp frame (wpE defs 𝒱 (thr d i) bd) Set.univ
        (cc1_stage2 i arg2 harg2 arg3 harg3 arg4 harg4 arg5 harg5 arg6 harg6 arg7 harg7 arg8 harg8 arg9 harg9 arg10 arg11 a3 ha3 s3 a4 ha4 s4 a5 ha5 s5 a6 ha6 s6)
        (fun _ => P') := by
  have hb := @body F _ _ f Ix _ Name _ U _ Lvl _ defs EC 𝒱 bd d i arg2 harg2 arg3 harg3 arg4 harg4 arg5 harg5 arg6 harg6 arg7 harg7 arg8 harg8
    arg9 harg9 arg10 arg11 a3 ha3 s3 a4 ha4 s4 a5 ha5 s5 a6 ha6 s6 NT I J D q₁ q₂ ι O W ‹_› ‹_› hI hJ
  revert hb
  generalize (iprop(start d i arg2 arg3 arg4 arg5 arg6 arg7 arg8 arg9 arg10 arg11 a3 s3 a4 s4 a5 s5 a6 s6 NT I J D q₁ q₂ ι O W
    ∗ Transfers.MayWaits (thr d i) ι O) : sProp 𝕄) = X at h₁ ⊢
  generalize (finish d i arg2 arg3 arg4 arg5 arg6 arg7 arg8 arg9 arg10 arg11 a3 s3 a4 s4 a5 s5 a6 s6 NT I J D q₁ q₂ ι O W : sProp 𝕄) = Y at h₂ ⊢
  generalize cc1_stage2 (F := F) i arg2 harg2 arg3 harg3 arg4 harg4 arg5 harg5 arg6 harg6 arg7 harg7 arg8 harg8 arg9 harg9 arg10 arg11 a3 ha3 s3 a4 ha4 s4 a5 ha5 s5
    a6 ha6 s6 = p
  intro hb
  exact wp_weaken (c := thr d i) 𝒱 bd hb h₁ fun _ => h₂

/-- The task. -/
theorem task [Infinite Name] [EC.LandsIn (upEmb : UEmb _ 𝕄)] (hI : ∀ x, (I x).toNat < 100352) (hJ : ∀ x, (J x).toNat < 100352) :
    (iprop(given d t arg2 arg3 arg4 arg5 arg6 NT I J D q ∗ own d t arg7 arg8 arg9 arg10 arg11 a3 s3 a4 s4 a5 s5 a6 s6
      ∗ owes (thr d (coords t)) O W ∗ Transfers.MayWaits (thr d (coords t)) ι O) : sProp 𝕄)
    ⊢ wp frame (wpE defs 𝒱 (thr d (coords t)) bd) Set.univ
        (cc1_stage2 (coords t) arg2 harg2 arg3 harg3 arg4 harg4 arg5 harg5 arg6 harg6 arg7 harg7 arg8 harg8 arg9 harg9 arg10 arg11 a3 ha3 s3 a4 ha4 s4 a5 ha5 s5 a6 ha6 s6)
        (fun _ => iprop(done d t arg2 arg3 arg4 arg5 arg6 NT I J D q ∗ own d t arg7 arg8 arg9 arg10 arg11 a3 s3 a4 s4 a5 s5 a6 s6
          ∗ Due (thr d (coords t)) ι O W)) := by
  have h₁ : (iprop(given d t arg2 arg3 arg4 arg5 arg6 NT I J D q ∗ own d t arg7 arg8 arg9 arg10 arg11 a3 s3 a4 s4 a5 s5 a6 s6
      ∗ owes (thr d (coords t)) O W ∗ Transfers.MayWaits (thr d (coords t)) ι O) : sProp 𝕄)
      ⊢ iprop(start d (coords t) arg2 arg3 arg4 arg5 arg6 arg7 arg8 arg9 arg10 arg11 a3 s3 a4 s4 a5 s5 a6 s6 NT I J D q.left q.right ι O W
        ∗ Transfers.MayWaits (thr d (coords t)) ι O) := by
    iintro ⟨H₁, H₂, H₃, H₄⟩
    isplitr [H₄]
    · iapply (start_intro d t arg2 arg3 arg4 arg5 arg6 arg7 arg8 arg9 arg10 arg11 a3 s3 a4 s4 a5 s5 a6 s6 NT I J D q ι O W)
      isplitl [H₁]; · iexact H₁
      isplitl [H₂]; · iexact H₂
      iexact H₃
    · iexact H₄
  have h := @task_of F _ _ f Ix _ Name _ U _ Lvl _ d arg2 harg2 arg3 harg3 arg4 harg4 arg5 harg5 arg6 harg6 arg7 harg7 arg8 harg8
    arg9 harg9 arg10 arg11 a3 ha3 s3 a4 ha4 s4 a5 ha5 s5 a6 ha6 s6 NT I J D ι O W ‹_› defs EC 𝒱 bd ‹_› ‹_› hI hJ (coords t) q.left q.right _ _ h₁
    (finish_open d t arg2 arg3 arg4 arg5 arg6 arg7 arg8 arg9 arg10 arg11 a3 s3 a4 s4 a5 s5 a6 s6 NT I J D q ι O W)
  revert h
  generalize (cc1_stage2 (F := F) (coords t) arg2 harg2 arg3 harg3 arg4 harg4 arg5 harg5 arg6 harg6 arg7 harg7 arg8 harg8 arg9 harg9 arg10 arg11 a3 ha3 s3
    a4 ha4 s4 a5 ha5 s5 a6 ha6 s6) = p
  exact id

end Task

end Cert.Proof.Stage2
-- ==== Proof.Tiles.lean ====
/-
  The program's own buffers: each call's arrays, what a tile of a call keeps for itself, and the tasks over them.
-/
module

public import proofs.«01_k».proof.Proof.Deal0
public import proofs.«01_k».proof.Proof.Deal2

@[expose] public section

noncomputable section

namespace Cert.Proof.Tiles

open Idealize.ShloMosaic Cert.KernelIdeal Cert.KernelIdeal.Gen
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.SparseCore (V)
open Idealize.ShloMosaic.SparseCore.Cfg (ownBufs ownSems0)
open Cert.Proof.Rules Cert.Proof.Deal
open Cert.Proof.Stage2 (thr sem)

variable {F : FTy → Type} [FloatOps F] [Named F] {e : EltTy}
variable {Ix : Type} [DecidableEq Ix] {Name : Type} [DecidableEq Name] {U : Type} [URA U] {Lvl : Type} [Preorder Lvl]

local notation "𝕄" => MT nD τ sig Ix (Elt F) Name U Lvl

/-! ### The arrays of a call of the second stage -/

def aI : Fin 5 → Memref sig .scVector .hbm S1x640000 .i32
  | 0 => Memref.whole main_v13_scv | 1 => Memref.whole main_v17_scv | 2 => Memref.whole main_v21_scv
  | 3 => Memref.whole main_v25_scv | 4 => Memref.whole main_v29_scv
def aJ : Fin 5 → Memref sig .scVector .hbm S1x640000 .i32
  | 0 => Memref.whole main_v14_scv | 1 => Memref.whole main_v18_scv | 2 => Memref.whole main_v22_scv
  | 3 => Memref.whole main_v26_scv | 4 => Memref.whole main_v30_scv
def aD : Fin 5 → Memref sig .scVector .hbm S1x640000 .f32
  | 0 => Memref.whole main_v15_scv | 1 => Memref.whole main_v19_scv | 2 => Memref.whole main_v23_scv
  | 3 => Memref.whole main_v27_scv | 4 => Memref.whole main_v31_scv
def aO : Fin 5 → Memref sig .scVector .hbm S640000x27 .f32
  | 0 => Memref.whole main_v16_scv | 1 => Memref.whole main_v20_scv | 2 => Memref.whole main_v24_scv
  | 3 => Memref.whole main_v28_scv | 4 => Memref.whole main_v32_scv
abbrev aN : Memref sig .scVector .hbm S100352x16 .f32 := Memref.whole main_v12_scv
abbrev aT : Memref sig .scVector .hbm S100x16 .f32 := Memref.whole main_v4_scv
abbrev aA : Memref sig .scVector .hbm S1x100352 .i32 := Memref.whole main_v3_scv

/-! ### A tile's own buffers and semaphores -/

def b7 : Fin 5 → Memref sig .scVector .vmem S1024x16 .f32
  | 0 => Memref.whole cc1_scratch0 | 1 => Memref.whole cc2_scratch0 | 2 => Memref.whole cc3_scratch0 | 3 => Memref.whole cc4_scratch0 | 4 => Memref.whole cc5_scratch0
def b8 : Fin 5 → Memref sig .scVector .vmem S1024x16 .f32
  | 0 => Memref.whole cc1_scratch1 | 1 => Memref.whole cc2_scratch1 | 2 => Memref.whole cc3_scratch1 | 3 => Memref.whole cc4_scratch1 | 4 => Memref.whole cc5_scratch1
def b9 : Fin 5 → Memref sig .scVector .vmem S1024 .f32
  | 0 => Memref.whole cc1_scratch2 | 1 => Memref.whole cc2_scratch2 | 2 => Memref.whole cc3_scratch2 | 3 => Memref.whole cc4_scratch2 | 4 => Memref.whole cc5_scratch2
def b3 : Fin 5 → Memref sig .scVector .vmem S2x1x1024 .i32
  | 0 => Memref.whole cc1_scoped0 | 1 => Memref.whole cc2_scoped0 | 2 => Memref.whole cc3_scoped0 | 3 => Memref.whole cc4_scoped0 | 4 => Memref.whole cc5_scoped0
def b4 : Fin 5 → Memref sig .scVector .vmem S2x1x1024 .i32
  | 0 => Memref.whole cc1_scoped2 | 1 => Memref.whole cc2_scoped2 | 2 => Memref.whole cc3_scoped2 | 3 => Memref.whole cc4_scoped2 | 4 => Memref.whole cc5_scoped2
def b5 : Fin 5 → Memref sig .scVector .vmem S2x1x1024 .f32
  | 0 => Memref.whole cc1_scoped4 | 1 => Memref.whole cc2_scoped4 | 2 => Memref.whole cc3_scoped4 | 3 => Memref.whole cc4_scoped4 | 4 => Memref.whole cc5_scoped4
def b6 : Fin 5 → Memref sig .scVector .vmem S2x1024x27 .f32
  | 0 => Memref.whole cc1_scoped6 | 1 => Memref.whole cc2_scoped6 | 2 => Memref.whole cc3_scoped6 | 3 => Memref.whole cc4_scoped6 | 4 => Memref.whole cc5_scoped6
def g0 : Fin 5 → DmaSems sig S_ | 0 => cc1_scratch3 | 1 => cc2_scratch3 | 2 => cc3_scratch3 | 3 => cc4_scratch3 | 4 => cc5_scratch3
def g1 : Fin 5 → DmaSems sig S_ | 0 => cc1_scratch4 | 1 => cc2_scratch4 | 2 => cc3_scratch4 | 3 => cc4_scratch4 | 4 => cc5_scratch4
def s3 : Fin 5 → DmaSems sig S2 | 0 => cc1_scoped1 | 1 => cc2_scoped1 | 2 => cc3_scoped1 | 3 => cc4_scoped1 | 4 => cc5_scoped1
def s4 : Fin 5 → DmaSems sig S2 | 0 => cc1_scoped3 | 1 => cc2_scoped3 | 2 => cc3_scoped3 | 3 => cc4_scoped3 | 4 => cc5_scoped3
def s5 : Fin 5 → DmaSems sig S2 | 0 => cc1_scoped5 | 1 => cc2_scoped5 | 2 => cc3_scoped5 | 3 => cc4_scoped5 | 4 => cc5_scoped5
def s6 : Fin 5 → DmaSems sig S2 | 0 => cc1_scoped7 | 1 => cc2_scoped7 | 2 => cc3_scoped7 | 3 => cc4_scoped7 | 4 => cc5_scoped7

theorem wI (k : Fin 5) : (aI k).IsWhole := by fin_cases k <;> exact Memref.isWhole_whole _
theorem wJ (k : Fin 5) : (aJ k).IsWhole := by fin_cases k <;> exact Memref.isWhole_whole _
theorem wD (k : Fin 5) : (aD k).IsWhole := by fin_cases k <;> exact Memref.isWhole_whole _
theorem wO (k : Fin 5) : (aO k).IsWhole := by fin_cases k <;> exact Memref.isWhole_whole _
theorem w7 (k : Fin 5) : (b7 k).IsWhole := by fin_cases k <;> exact Memref.isWhole_whole _
theorem w8 (k : Fin 5) : (b8 k).IsWhole := by fin_cases k <;> exact Memref.isWhole_whole _
theorem w9 (k : Fin 5) : (b9 k).IsWhole := by fin_cases k <;> exact Memref.isWhole_whole _
theorem w3 (k : Fin 5) : (b3 k).IsWhole := by fin_cases k <;> exact Memref.isWhole_whole _
theorem w4 (k : Fin 5) : (b4 k).IsWhole := by fin_cases k <;> exact Memref.isWhole_whole _
theorem w5 (k : Fin 5) : (b5 k).IsWhole := by fin_cases k <;> exact Memref.isWhole_whole _
theorem w6 (k : Fin 5) : (b6 k).IsWhole := by fin_cases k <;> exact Memref.isWhole_whole _

section Own

variable [∀ e, Nonempty (Elt F e)] (d : Dev nD) (p : Fin τ.nSC) (i : Fin τ.nSub)

omit [FloatOps F] [Named F] in
theorem sep_fin_succ {n : ℕ} (Φ : Fin (n + 1) → sProp 𝕄) :
    bigSep Finset.univ Φ = iprop(Φ 0 ∗ bigSep Finset.univ fun j : Fin n => Φ j.succ) := by
  rw [Fin.univ_succ, Finset.cons_eq_insert, SparseCore.bigSep_insert' (by simp [Fin.succ_ne_zero]), BI.bigSep_map]; rfl
omit [FloatOps F] [Named F] in
theorem sep_fin_one (Φ : Fin 1 → sProp 𝕄) : bigSep Finset.univ Φ = Φ 0 := by
  rw [show (Finset.univ : Finset (Fin 1)) = {0} from rfl, BI.bigSep_singleton]

/-- A whole buffer at some contents, as the launch's pool has it. -/
abbrev held1 (b : Ref sig .scVector) : sProp 𝕄 := iprop(∃ g, (V d p i).loc b ↦{fullShare} g)

omit [FloatOps F] [Named F] in
theorem bufs7 (c₀ c₁ c₂ c₃ c₄ c₅ c₆ : Ref sig .scVector) (hb : Function.Injective ![c₀, c₁, c₂, c₃, c₄, c₅, c₆])
    (ho : ∀ j, ((Proc.scVector p i : Proc τ).devRef (![c₀, c₁, c₂, c₃, c₄, c₅, c₆] j)).owner = .proc (.scVector p i)) :
    (ownBufs (V d p i) : sProp 𝕄) = iprop((held1 d p i c₀ ∗ held1 d p i c₁ ∗ held1 d p i c₂ ∗ held1 d p i c₃ ∗ held1 d p i c₄ ∗ held1 d p i c₅ ∗ held1 d p i c₆)
      ∗ bufRest d p i ![c₀, c₁, c₂, c₃, c₄, c₅, c₆] hb) := by
  rw [bufs_open d p i ![c₀, c₁, c₂, c₃, c₄, c₅, c₆] hb ho]
  rw [sep_fin_succ, sep_fin_succ, sep_fin_succ, sep_fin_succ, sep_fin_succ, sep_fin_succ, sep_fin_one]
  rfl
omit [FloatOps F] [Named F] in
theorem bufs2 (c₀ c₁ : Ref sig .scVector) (hb : Function.Injective ![c₀, c₁])
    (ho : ∀ j, ((Proc.scVector p i : Proc τ).devRef (![c₀, c₁] j)).owner = .proc (.scVector p i)) :
    (ownBufs (V d p i) : sProp 𝕄) = iprop((held1 d p i c₀ ∗ held1 d p i c₁) ∗ bufRest d p i ![c₀, c₁] hb) := by
  rw [bufs_open d p i ![c₀, c₁] hb ho]
  rw [sep_fin_succ, sep_fin_one]
  rfl

abbrev zero1 (v : DmaSem sig) : sProp 𝕄 := semVal (V d p i, SemLoc.dma v) 0

omit [FloatOps F] [Named F] in
theorem sems10 (v₀ v₁ v₂ v₃ v₄ v₅ v₆ v₇ v₈ v₉ : DmaSem sig) (hb : Function.Injective ![v₀, v₁, v₂, v₃, v₄, v₅, v₆, v₇, v₈, v₉])
    (ho : ∀ j, (SemLoc.dma (![v₀, v₁, v₂, v₃, v₄, v₅, v₆, v₇, v₈, v₉] j) : SemLoc sig).isScoped .scVector = true) :
    (ownSems0 (V d p i) : sProp 𝕄) = iprop((zero1 d p i v₀ ∗ zero1 d p i v₁ ∗ zero1 d p i v₂ ∗ zero1 d p i v₃ ∗ zero1 d p i v₄ ∗ zero1 d p i v₅
      ∗ zero1 d p i v₆ ∗ zero1 d p i v₇ ∗ zero1 d p i v₈ ∗ zero1 d p i v₉) ∗ semRest d p i ![v₀, v₁, v₂, v₃, v₄, v₅, v₆, v₇, v₈, v₉] hb) := by
  rw [sems_open d p i _ hb ho]
  rw [sep_fin_succ, sep_fin_succ, sep_fin_succ, sep_fin_succ, sep_fin_succ, sep_fin_succ, sep_fin_succ, sep_fin_succ, sep_fin_succ, sep_fin_one]
  rfl
omit [FloatOps F] [Named F] in
theorem sems5 (v₀ v₁ v₂ v₃ v₄ : DmaSem sig) (hb : Function.Injective ![v₀, v₁, v₂, v₃, v₄])
    (ho : ∀ j, (SemLoc.dma (![v₀, v₁, v₂, v₃, v₄] j) : SemLoc sig).isScoped .scVector = true) :
    (ownSems0 (V d p i) : sProp 𝕄) = iprop((zero1 d p i v₀ ∗ zero1 d p i v₁ ∗ zero1 d p i v₂ ∗ zero1 d p i v₃ ∗ zero1 d p i v₄)
      ∗ semRest d p i ![v₀, v₁, v₂, v₃, v₄] hb) := by
  rw [sems_open d p i _ hb ho]
  rw [sep_fin_succ, sep_fin_succ, sep_fin_succ, sep_fin_succ, sep_fin_one]
  rfl

omit [FloatOps F] [Named F] in
theorem some_whole (c : Thread nD τ) (b : Ref sig c.2.kind) : (iprop(∃ Y, owns c (Memref.whole b) fullShare Y) : sProp 𝕄) = iprop(∃ g, c.loc b ↦{fullShare} g) := by
  simp only [owns_whole]

omit [FloatOps F] [Named F] in
/-- The seven buffers a tile of call `k` keeps, -/
theorem bufs (k : Fin 5) : ∃ R : sProp 𝕄, ownBufs (V d p i) = iprop(((∃ Y, owns (V d p i) (b7 k) fullShare Y) ∗ (∃ Y, owns (V d p i) (b8 k) fullShare Y)
      ∗ (∃ Y, owns (V d p i) (b9 k) fullShare Y) ∗ (∃ Y, owns (V d p i) (b3 k) fullShare Y) ∗ (∃ Y, owns (V d p i) (b4 k) fullShare Y)
      ∗ (∃ Y, owns (V d p i) (b5 k) fullShare Y) ∗ (∃ Y, owns (V d p i) (b6 k) fullShare Y)) ∗ R) := by
  have h : ∀ b : Ref sig .scVector, (held1 d p i b : sProp 𝕄) = iprop(∃ Y, owns (V d p i) (Memref.whole b) fullShare Y) :=
    fun b => (some_whole (V d p i) b).symm
  have key : ∀ c₀ c₁ c₂ c₃ c₄ c₅ c₆ : Ref sig .scVector, Function.Injective ![c₀, c₁, c₂, c₃, c₄, c₅, c₆] →
      (∀ j, ((Proc.scVector p i : Proc τ).devRef (![c₀, c₁, c₂, c₃, c₄, c₅, c₆] j)).owner = .proc (.scVector p i)) →
      ∃ R : sProp 𝕄, ownBufs (V d p i) = iprop(((∃ Y, owns (V d p i) (Memref.whole c₀) fullShare Y) ∗ (∃ Y, owns (V d p i) (Memref.whole c₁) fullShare Y)
        ∗ (∃ Y, owns (V d p i) (Memref.whole c₂) fullShare Y) ∗ (∃ Y, owns (V d p i) (Memref.whole c₃) fullShare Y)
        ∗ (∃ Y, owns (V d p i) (Memref.whole c₄) fullShare Y) ∗ (∃ Y, owns (V d p i) (Memref.whole c₅) fullShare Y)
        ∗ (∃ Y, owns (V d p i) (Memref.whole c₆) fullShare Y)) ∗ R) := fun c₀ c₁ c₂ c₃ c₄ c₅ c₆ hb ho =>
    ⟨bufRest d p i _ hb, by rw [bufs7 d p i c₀ c₁ c₂ c₃ c₄ c₅ c₆ hb ho, h c₀, h c₁, h c₂, h c₃, h c₄, h c₅, h c₆]⟩
  clear h
  match k with
  | 0 => exact key cc1_scratch0 cc1_scratch1 cc1_scratch2 cc1_scoped0 cc1_scoped2 cc1_scoped4 cc1_scoped6 (by decide) (by intro j; fin_cases j <;> rfl)
  | 1 => exact key cc2_scratch0 cc2_scratch1 cc2_scratch2 cc2_scoped0 cc2_scoped2 cc2_scoped4 cc2_scoped6 (by decide) (by intro j; fin_cases j <;> rfl)
  | 2 => exact key cc3_scratch0 cc3_scratch1 cc3_scratch2 cc3_scoped0 cc3_scoped2 cc3_scoped4 cc3_scoped6 (by decide) (by intro j; fin_cases j <;> rfl)
  | 3 => exact key cc4_scratch0 cc4_scratch1 cc4_scratch2 cc4_scoped0 cc4_scoped2 cc4_scoped4 cc4_scoped6 (by decide) (by intro j; fin_cases j <;> rfl)
  | 4 => exact key cc5_scratch0 cc5_scratch1 cc5_scratch2 cc5_scoped0 cc5_scoped2 cc5_scoped4 cc5_scoped6 (by decide) (by intro j; fin_cases j <;> rfl)

omit [FloatOps F] [Named F] in
/-- and its ten semaphores. -/
theorem sems (k : Fin 5) : ∃ R : sProp 𝕄, ownSems0 (V d p i) = iprop((zero1 d p i (g0 k).sem ∗ zero1 d p i (g1 k).sem
      ∗ zero1 d p i (sem (s3 k) 0) ∗ zero1 d p i (sem (s3 k) 1) ∗ zero1 d p i (sem (s4 k) 0) ∗ zero1 d p i (sem (s4 k) 1)
      ∗ zero1 d p i (sem (s5 k) 0) ∗ zero1 d p i (sem (s5 k) 1) ∗ zero1 d p i (sem (s6 k) 0) ∗ zero1 d p i (sem (s6 k) 1)) ∗ R) :=
  ⟨_, sems10 d p i _ _ _ _ _ _ _ _ _ _ (by revert k; decide) (by revert k; decide)⟩

omit [FloatOps F] [Named F] in
theorem bufs_first : ∃ R : sProp 𝕄, ownBufs (V d p i) = iprop(((∃ Y, owns (V d p i) (Memref.whole cc0_scoped0) fullShare Y)
      ∗ (∃ Y, owns (V d p i) (Memref.whole cc0_scoped2) fullShare Y)) ∗ R) := by
  have h : ∀ b : Ref sig .scVector, (held1 d p i b : sProp 𝕄) = iprop(∃ Y, owns (V d p i) (Memref.whole b) fullShare Y) :=
    fun b => (some_whole (V d p i) b).symm
  have key : ∀ c₀ c₁ : Ref sig .scVector, Function.Injective ![c₀, c₁] →
      (∀ j, ((Proc.scVector p i : Proc τ).devRef (![c₀, c₁] j)).owner = .proc (.scVector p i)) →
      ∃ R : sProp 𝕄, ownBufs (V d p i) = iprop(((∃ Y, owns (V d p i) (Memref.whole c₀) fullShare Y)
        ∗ (∃ Y, owns (V d p i) (Memref.whole c₁) fullShare Y)) ∗ R) := fun c₀ c₁ hb ho =>
    ⟨bufRest d p i _ hb, by rw [bufs2 d p i c₀ c₁ hb ho, h c₀, h c₁]⟩
  exact key cc0_scoped0 cc0_scoped2 (by decide) (by intro j; fin_cases j <;> rfl)
omit [FloatOps F] [Named F] in
theorem sems_first : ∃ R : sProp 𝕄, ownSems0 (V d p i) = iprop((zero1 d p i cc0_scoped4.sem ∗ zero1 d p i (sem cc0_scoped1 0) ∗ zero1 d p i (sem cc0_scoped1 1)
      ∗ zero1 d p i (sem cc0_scoped3 0) ∗ zero1 d p i (sem cc0_scoped3 1)) ∗ R) :=
  ⟨_, sems5 d p i _ _ _ _ _ (by decide) (by decide)⟩

end Own

/-! ### The tasks -/

section Task

variable [∀ e, Nonempty (Elt F e)] (d : Dev nD) (t : Tile) (q : PosShare TreeShare) (ι : Ix) (O : CellTallies nD τ sig Ix) (W : Waits sig Ix)
variable {defs : Defs nD τ sig (Elt F) Λ₀} (EC : UEmb Counters (MT nD τ sig Ix (Elt F) Name U Lvl)) (𝒱 : Variants) (bd : Option 𝒱.V)

/-- A tile's program in call `k` of the second stage. -/
def second (F : FTy → Type) [FloatOps F] [Named F] (k : Fin 5) (i : grid1.Coords) :=
  cc1_stage2 (F := F) i aN (Memref.isWhole_whole _) (aI k) (wI k) (aJ k) (wJ k) (aD k) (wD k) (aO k) (wO k) (b7 k) (w7 k) (b8 k) (w8 k) (b9 k) (w9 k)
    (g0 k) (g1 k) (b3 k) (w3 k) (s3 k) (b4 k) (w4 k) (s4 k) (b5 k) (w5 k) (s5 k) (b6 k) (w6 k) (s6 k)
/-- And in the first. -/
def first (F : FTy → Type) [FloatOps F] [Named F] (i : grid0.Coords) :=
  cc0_stage1 (F := F) i aT (Memref.isWhole_whole _) aA (Memref.isWhole_whole _) aN (Memref.isWhole_whole _) (Memref.whole cc0_scoped0) (Memref.isWhole_whole _)
    cc0_scoped1 (Memref.whole cc0_scoped2) (Memref.isWhole_whole _) cc0_scoped3 cc0_scoped4 cc0_scoped5

variable (NT : Vec F S100352x16 .f32) (I J : Vec F S1x640000 .i32) (D : Vec F S1x640000 .f32) (T : Vec F S100x16 .f32) (A : Vec F S1x100352 .i32)

/-- What a tile is given in call `k` of the second stage, and gives back; -/
abbrev given2 (k : Fin 5) : sProp 𝕄 := Stage2.given d t aN (aI k) (aJ k) (aD k) (aO k) NT I J D q
abbrev done2 (k : Fin 5) : sProp 𝕄 := Stage2.done d t aN (aI k) (aJ k) (aD k) (aO k) NT I J D q
/-- and in the first. -/
abbrev given1 : sProp 𝕄 := Stage1.given d t aT aA aN T A q
abbrev done1 : sProp 𝕄 := Stage1.done d t aT aA aN T A q

theorem second_own (k : Fin 5) : ∃ R : sProp 𝕄,
    iprop(ownBufs (thr d (Stage2.coords t)) ∗ ownSems0 (thr d (Stage2.coords t)))
      ⊣⊢ iprop(Stage2.own d t (b7 k) (b8 k) (b9 k) (g0 k) (g1 k) (b3 k) (s3 k) (b4 k) (s4 k) (b5 k) (s5 k) (b6 k) (s6 k) ∗ R) := by
  obtain ⟨R, hR⟩ := bufs (F := F) (Ix := Ix) (Name := Name) (U := U) (Lvl := Lvl) d ((Stage2.coords t 0).castLE hcore1) ((Stage2.coords t 1).castLE hsub1) k
  obtain ⟨R', hR'⟩ := sems (F := F) (Ix := Ix) (Name := Name) (U := U) (Lvl := Lvl) d ((Stage2.coords t 0).castLE hcore1) ((Stage2.coords t 1).castLE hsub1) k
  refine ⟨iprop(R ∗ R'), ?_⟩
  have h : iprop(ownBufs (thr d (Stage2.coords t)) ∗ ownSems0 (thr d (Stage2.coords t)) : sProp 𝕄) = _ := congrArg₂ (fun A B => iprop(A ∗ B)) hR hR'
  rw [h]
  unfold Stage2.own Stage2.idle
  constructor
  · iintro ⟨⟨⟨H7, H8, H9, H3, H4, H5, H6⟩, R⟩, ⟨V0, V1, V2, V3, V4, V5, V6, V7, V8, V9⟩, R'⟩
    isplitr [R R']
    · isplitl [H3 V2 V3]
      · isplitl [H3]; · iexact H3
        isplitl [V2]; · iexact V2
        iexact V3
      isplitl [H4 V4 V5]
      · isplitl [H4]; · iexact H4
        isplitl [V4]; · iexact V4
        iexact V5
      isplitl [H5 V6 V7]
      · isplitl [H5]; · iexact H5
        isplitl [V6]; · iexact V6
        iexact V7
      isplitl [H6 V8 V9]
      · isplitl [H6]; · iexact H6
        isplitl [V8]; · iexact V8
        iexact V9
      isplitl [H7 H8 H9]
      · isplitl [H7]; · iexact H7
        isplitl [H8]; · iexact H8
        iexact H9
      isplitl [V0]; · iexact V0
      iexact V1
    · isplitl [R]; · iexact R
      iexact R'
  · iintro ⟨⟨⟨H3, V2, V3⟩, ⟨H4, V4, V5⟩, ⟨H5, V6, V7⟩, ⟨H6, V8, V9⟩, ⟨H7, H8, H9⟩, V0, V1⟩, R, R'⟩
    isplitl [H3 H4 H5 H6 H7 H8 H9 R]
    · isplitr [R]
      · isplitl [H7]; · iexact H7
        isplitl [H8]; · iexact H8
        isplitl [H9]; · iexact H9
        isplitl [H3]; · iexact H3
        isplitl [H4]; · iexact H4
        isplitl [H5]; · iexact H5
        iexact H6
      · iexact R
    · isplitr [R']
      · isplitl [V0]; · iexact V0
        isplitl [V1]; · iexact V1
        isplitl [V2]; · iexact V2
        isplitl [V3]; · iexact V3
        isplitl [V4]; · iexact V4
        isplitl [V5]; · iexact V5
        isplitl [V6]; · iexact V6
        isplitl [V7]; · iexact V7
        isplitl [V8]; · iexact V8
        iexact V9
      · iexact R'

theorem first_own : ∃ R : sProp 𝕄,
    iprop(ownBufs (thr d (Stage1.coords t)) ∗ ownSems0 (thr d (Stage1.coords t)))
      ⊣⊢ iprop(Stage1.own d t (Memref.whole cc0_scoped0) cc0_scoped1 (Memref.whole cc0_scoped2) cc0_scoped3 cc0_scoped4 ∗ R) := by
  obtain ⟨R, hR⟩ := bufs_first (F := F) (Ix := Ix) (Name := Name) (U := U) (Lvl := Lvl) d ((Stage1.coords t 0).castLE hcore0) ((Stage1.coords t 1).castLE hsub0)
  obtain ⟨R', hR'⟩ := sems_first (F := F) (Ix := Ix) (Name := Name) (U := U) (Lvl := Lvl) d ((Stage1.coords t 0).castLE hcore0) ((Stage1.coords t 1).castLE hsub0)
  refine ⟨iprop(R ∗ R'), ?_⟩
  have h : iprop(ownBufs (thr d (Stage1.coords t)) ∗ ownSems0 (thr d (Stage1.coords t)) : sProp 𝕄) = _ := congrArg₂ (fun A B => iprop(A ∗ B)) hR hR'
  rw [h]
  unfold Stage1.own Stage1.idle
  constructor
  · iintro ⟨⟨⟨H3, H4⟩, R⟩, ⟨V0, V2, V3, V4, V5⟩, R'⟩
    isplitr [R R']
    · isplitl [H3 V2 V3]
      · isplitl [H3]; · iexact H3
        isplitl [V2]; · iexact V2
        iexact V3
      isplitl [H4 V4 V5]
      · isplitl [H4]; · iexact H4
        isplitl [V4]; · iexact V4
        iexact V5
      iexact V0
    · isplitl [R]; · iexact R
      iexact R'
  · iintro ⟨⟨⟨H3, V2, V3⟩, ⟨H4, V4, V5⟩, V0⟩, R, R'⟩
    isplitl [H3 H4 R]
    · isplitr [R]
      · isplitl [H3]; · iexact H3
        iexact H4
      · iexact R
    · isplitr [R']
      · isplitl [V0]; · iexact V0
        isplitl [V2]; · iexact V2
        isplitl [V3]; · iexact V3
        isplitl [V4]; · iexact V4
        iexact V5
      · iexact R'

omit [FloatOps F] [Named F] [∀ e, Nonempty (Elt F e)] in
/-- A task over what its tile keeps is one over the tile's pool. -/
theorem over_pool {c : Thread nD τ} {P P' X B S R M E : sProp 𝕄} {p : Prog (TpuEff nD τ sig (Elt F) Λ₀ c.2) PUnit}
    (hR : iprop(B ∗ S) ⊣⊢ iprop(X ∗ R)) (h : iprop(P ∗ X ∗ M) ⊢ wp frame (wpE defs 𝒱 c bd) Set.univ p fun _ => iprop(P' ∗ X ∗ E)) :
    iprop(P ∗ B ∗ S ∗ M) ⊢ wp frame (wpE defs 𝒱 c bd) Set.univ p fun _ => iprop(P' ∗ B ∗ S ∗ E) := by
  have h₁ : iprop(P ∗ B ∗ S ∗ M) ⊢ iprop((P ∗ X ∗ M) ∗ R) := by
    iintro ⟨HP, HB, HS, HM⟩
    ihave H := hR.1 $$ [HB HS]
    · isplitl [HB]; · iexact HB
      iexact HS
    icases H with ⟨HX, HR⟩
    isplitr [HR]
    · isplitl [HP]; · iexact HP
      isplitl [HX]; · iexact HX
      iexact HM
    · iexact HR
  refine h₁.trans ((sep_mono_left h).trans ((wp_frame_r frame _ _).trans (wp_mono frame _ _ fun _ => ?_)))
  iintro ⟨⟨HP, HX, HE⟩, HR⟩
  ihave H := hR.2 $$ [HX HR]
  · isplitl [HX]; · iexact HX
    iexact HR
  icases H with ⟨HB, HS⟩
  isplitl [HP]; · iexact HP
  isplitl [HB]; · iexact HB
  isplitl [HS]; · iexact HS
  iexact HE

theorem second_task [Infinite Name] [EC.LandsIn (upEmb : UEmb _ 𝕄)] (hI : ∀ x, (I x).toNat < 100352) (hJ : ∀ x, (J x).toNat < 100352) (k : Fin 5) :
    (iprop(given2 d t q NT I J D k ∗ ownBufs (thr d (Stage2.coords t)) ∗ ownSems0 (thr d (Stage2.coords t))
      ∗ owes (thr d (Stage2.coords t)) O W ∗ Transfers.MayWaits (thr d (Stage2.coords t)) ι O) : sProp 𝕄)
    ⊢ wp frame (wpE defs 𝒱 (thr d (Stage2.coords t)) bd) Set.univ (second F k (Stage2.coords t))
        (fun _ => iprop(done2 d t q NT I J D k ∗ ownBufs (thr d (Stage2.coords t)) ∗ ownSems0 (thr d (Stage2.coords t))
          ∗ Due (thr d (Stage2.coords t)) ι O W)) := by
  obtain ⟨R, hR⟩ := second_own (F := F) (Ix := Ix) (Name := Name) (U := U) (Lvl := Lvl) d t k
  have h := @Stage2.task F _ _ Gen.facts₀ Ix _ Name _ U _ Lvl _ d t aN (Memref.isWhole_whole _) (aI k) (wI k) (aJ k) (wJ k) (aD k) (wD k) (aO k) (wO k)
    (b7 k) (w7 k) (b8 k) (w8 k) (b9 k) (w9 k) (g0 k) (g1 k) (b3 k) (w3 k) (s3 k) (b4 k) (w4 k) (s4 k) (b5 k) (w5 k) (s5 k) (b6 k) (w6 k) (s6 k)
    NT I J D q ι O W ‹_› defs EC 𝒱 bd ‹_› ‹_› hI hJ
  unfold second
  revert h
  generalize (cc1_stage2 (F := F) (Stage2.coords t) aN (Memref.isWhole_whole _) (aI k) (wI k) (aJ k) (wJ k) (aD k) (wD k) (aO k) (wO k)
    (b7 k) (w7 k) (b8 k) (w8 k) (b9 k) (w9 k) (g0 k) (g1 k) (b3 k) (w3 k) (s3 k) (b4 k) (w4 k) (s4 k) (b5 k) (w5 k) (s5 k) (b6 k) (w6 k) (s6 k)) = p
  intro h
  exact over_pool (c := thr d (Stage2.coords t)) 𝒱 bd hR h

theorem first_task [Infinite Name] [EC.LandsIn (upEmb : UEmb _ 𝕄)] (hA : ∀ x, (A x).toNat < 100) :
    (iprop(given1 d t q T A ∗ ownBufs (thr d (Stage1.coords t)) ∗ ownSems0 (thr d (Stage1.coords t))
      ∗ owes (thr d (Stage1.coords t)) O W ∗ Transfers.MayWaits (thr d (Stage1.coords t)) ι O) : sProp 𝕄)
    ⊢ wp frame (wpE defs 𝒱 (thr d (Stage1.coords t)) bd) Set.univ (first F (Stage1.coords t))
        (fun _ => iprop(done1 d t q T A ∗ ownBufs (thr d (Stage1.coords t)) ∗ ownSems0 (thr d (Stage1.coords t))
          ∗ Due (thr d (Stage1.coords t)) ι O W)) := by
  obtain ⟨R, hR⟩ := first_own (F := F) (Ix := Ix) (Name := Name) (U := U) (Lvl := Lvl) d t
  have h := @Stage1.task F _ _ Gen.facts₀ Ix _ Name _ U _ Lvl _ d t aT (Memref.isWhole_whole _) aA (Memref.isWhole_whole _) aN (Memref.isWhole_whole _)
    (Memref.whole cc0_scoped0) (Memref.isWhole_whole _) cc0_scoped1 (Memref.whole cc0_scoped2) (Memref.isWhole_whole _) cc0_scoped3 cc0_scoped4 cc0_scoped5
    T A q ι O W ‹_› defs EC 𝒱 bd ‹_› ‹_› hA
  unfold first
  revert h
  generalize (cc0_stage1 (F := F) (Stage1.coords t) aT (Memref.isWhole_whole _) aA (Memref.isWhole_whole _) aN (Memref.isWhole_whole _)
    (Memref.whole cc0_scoped0) (Memref.isWhole_whole _) cc0_scoped1 (Memref.whole cc0_scoped2) (Memref.isWhole_whole _) cc0_scoped3 cc0_scoped4 cc0_scoped5) = p
  intro h
  exact over_pool (c := thr d (Stage1.coords t)) 𝒱 bd hR h

end Task

end Cert.Proof.Tiles
-- ==== Proof.Launch.lean ====
/-
  The launch: what each call hands its tiles, and each tile's obligation.
-/
module

public import proofs.«01_k».proof.Proof.Tiles
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Launch

open Idealize.ShloMosaic Cert.KernelIdeal Cert.KernelIdeal.Gen
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Rules Cert.Proof.Deal Cert.Proof.Tiles
open Cert.Proof.Stage2 (thr)

variable {F : FTy → Type}

/-! ### The program as the launch sees it -/

abbrev ΛP : Labels := Pipeline.Sig Λ₀ (Fin 0) fun p => (pcfgs (F := F) p).Adm
abbrev K : SparseCore.Cfg τ sig (ΛP (F := F)) 6 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 6) (Elt F) ℕ UU ℕ

abbrev EH : Emb UH (MT nD τ sig (HIx 6) (Elt F) ℕ UU ℕ) := embL

/-! ### What the calls are given and give back -/

/-- The arrays the calls read, on each device. -/
structure Data (F : FTy → Type) where
  T : Dev nD → Vec F S100x16 .f32
  A : Dev nD → Vec F S1x100352 .i32
  N : Fin 5 → Dev nD → Vec F S100352x16 .f32
  I : Fin 5 → Dev nD → Vec F S1x640000 .i32
  J : Fin 5 → Dev nD → Vec F S1x640000 .i32
  R : Fin 5 → Dev nD → Vec F S1x640000 .f32

/-- The atom numbers are rows of the table, and the pairs' atoms are atoms. -/
structure Data.Ok (X : Data F) : Prop where
  A : ∀ d x, (X.A d x).toNat < 100
  I : ∀ k d x, (X.I k d x).toNat < 100352
  J : ∀ k d x, (X.J k d x).toNat < 100352

theorem nCore_eq (q : Fin 6) : (K (F := F)).nCore q = 2 := by fin_cases q <;> rfl
theorem nSub_eq (q : Fin 6) : (K (F := F)).nSub q = 16 := by fin_cases q <;> rfl
/-- The tile of a task. -/
def tile (q : Fin 6) (c : Fin ((K (F := F)).nCore q)) (i : Fin ((K (F := F)).nSub q)) : Tile := (Fin.cast (nCore_eq q) c, Fin.cast (nSub_eq q) i)

variable [FloatOps F] [Named F] [∀ e, Nonempty (Elt F e)] (X : Data F)

def goN (q : Fin 6) (d : Dev nD) (t : Tile) : sProp 𝕄 :=
  Fin.cases (motive := fun _ => sProp 𝕄) (given1 d t (share t) (X.T d) (X.A d)) (fun k => given2 d t (share t) (X.N k d) (X.I k d) (X.J k d) (X.R k d) k) q
def tdN (q : Fin 6) (d : Dev nD) (t : Tile) : sProp 𝕄 :=
  Fin.cases (motive := fun _ => sProp 𝕄) (done1 d t (share t) (X.T d) (X.A d)) (fun k => done2 d t (share t) (X.N k d) (X.I k d) (X.J k d) (X.R k d) k) q

instance (q : Fin 6) (d : Dev nD) (t : Tile) : BI.Storable (upEmb : UEmb _ 𝕄) (goN X q d t) := by
  refine Fin.cases ?_ (fun k => ?_) q
  · show BI.Storable (upEmb : UEmb _ 𝕄) (given1 d t (share t) (X.T d) (X.A d))
    unfold given1 Stage1.given Stage1.lists Stage1.room
    infer_instance
  · show BI.Storable (upEmb : UEmb _ 𝕄) (given2 d t (share t) (X.N k d) (X.I k d) (X.J k d) (X.R k d) k)
    unfold given2 Stage2.given Stage2.lists Stage2.room
    infer_instance
instance (q : Fin 6) (d : Dev nD) (t : Tile) : BI.Storable (upEmb : UEmb _ 𝕄) (tdN X q d t) := by
  refine Fin.cases ?_ (fun k => ?_) q
  · show BI.Storable (upEmb : UEmb _ 𝕄) (done1 d t (share t) (X.T d) (X.A d))
    unfold done1 Stage1.done Stage1.lists Stage1.rows
    infer_instance
  · show BI.Storable (upEmb : UEmb _ 𝕄) (done2 d t (share t) (X.N k d) (X.I k d) (X.J k d) (X.R k d) k)
    unfold done2 Stage2.done Stage2.lists Stage2.rows
    infer_instance

/-- What passes between the threads at each call. -/
def P : (K (F := F)).Pay (nD := nD) (Val := Elt F) (Name := ℕ) (U := UU) where
  st q d c := bigSep Finset.univ fun i => goN X q d (tile q c i)
  dn q d c := bigSep Finset.univ fun i => tdN X q d (tile q c i)
  go q d c i := goN X q d (tile q c i)
  td q d c i := tdN X q d (tile q c i)
  x _ _ := iprop(emp)

instance : (P X).IsStorable where
  st _ _ _ := by unfold P; infer_instance
  dn _ _ _ := by unfold P; infer_instance
  go _ _ _ _ := by unfold P; infer_instance
  td _ _ _ _ := by unfold P; infer_instance

theorem vecSplit (q : Fin 6) : (K (F := F)).VecSplit' (P X) q := by
  intro d c
  show (bigSep Finset.univ fun i => goN X q d (tile q c i)) ⊢ |={Set.univ}=> iprop((bigSep Finset.univ fun i => goN X q d (tile q c i))
    ∗ ((bigSep Finset.univ fun i => tdN X q d (tile q c i)) -∗ bigSep Finset.univ fun i => tdN X q d (tile q c i)))
  iintro H; imodintro
  isplitl [H]; · iexact H
  iintro H; iexact H

/-! ### The tiles' programs -/

set_option maxRecDepth 100000 in
theorem fold_2 : @cc2_stage2 F _ _ = @cc1_stage2 F _ _ := rfl
set_option maxRecDepth 100000 in
theorem fold_3 : @cc3_stage2 F _ _ = @cc1_stage2 F _ _ := rfl
set_option maxRecDepth 100000 in
theorem fold_4 : @cc4_stage2 F _ _ = @cc1_stage2 F _ _ := rfl
set_option maxRecDepth 100000 in
theorem fold_5 : @cc5_stage2 F _ _ = @cc1_stage2 F _ _ := rfl

omit [∀ e, Nonempty (Elt F e)] in
theorem on_tile {α : Type} {n m : ℕ} (hn : n ≤ τ.nSC) (hm : m ≤ τ.nSub)
    (body : (c : Fin n) → (s : Fin m) → Prog (TpuEff nD τ sig (Elt F) Λ₀ (.scVector (c.castLE hn) (s.castLE hm))) α) (x : α) (c : Fin n) (s : Fin m) :
    SparseCore.onTile hn hm body x (c.castLE hn) (s.castLE hm) = body c s := by
  unfold SparseCore.onTile
  exact dif_pos ⟨c.isLt, s.isLt⟩

omit [∀ e, Nonempty (Elt F e)] in
theorem defs_first (a : Λ₀.Args 0) (t : Tile) :
    defs₀ (F := F) (.scVector (t.1.castLE hcore1) (t.2.castLE hsub1)) 0 a = first F (Stage1.coords t) := by
  refine Eq.trans ?_ (on_tile hcore1 hsub1 (fun c s => first F (Stage1.coords (c, s))) ⟨⟩ t.1 t.2)
  rfl

omit [∀ e, Nonempty (Elt F e)] in
theorem defs_second (k : Fin 5) (a : Λ₀.Args k.succ) (t : Tile) :
    defs₀ (F := F) (.scVector (t.1.castLE hcore1) (t.2.castLE hsub1)) k.succ a = second F k (Stage2.coords t) := by
  refine Eq.trans ?_ (on_tile hcore1 hsub1 (fun c s => second F k (Stage2.coords (c, s))) ⟨⟩ t.1 t.2)
  match k with
  | 0 => rfl
  | 1 => unfold second; rw [← fold_2]; rfl
  | 2 => unfold second; rw [← fold_3]; rfl
  | 3 => unfold second; rw [← fold_4]; rfl
  | 4 => unfold second; rw [← fold_5]; rfl

/-! ### The tiles' obligations -/

omit [FloatOps F] [Named F] [∀ e, Nonempty (Elt F e)] in
theorem due_weaken {c : Thread nD τ} {A B C : sProp 𝕄} {O : CellTallies nD τ sig (HIx 6)} {W : Waits sig (HIx 6)} {q : Fin 6} :
    iprop(A ∗ B ∗ C ∗ Due c none O W) ⊢ iprop(A ∗ B ∗ C ∗ ∃ W', ⌜∀ p ∈ W', p ∈ W ∨ p.2 = none ∨ p.2 = some q⌝ ∗ owes c O W') := by
  unfold Due
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem run_as {c : Thread nD τ} {p p' : Prog (TpuEff nD τ sig (Elt F) Λ₀ c.2) PUnit} (e : p = p') {A : sProp 𝕄} {B : PUnit → sProp 𝕄}
    (h : A ⊢ wp frame (wpE (D (F := F)) 𝒱 c (some v₀)) Set.univ (Pipeline.liftProg p') B) :
    A ⊢ wp frame (wpE (D (F := F)) 𝒱 c (some v₀)) Set.univ (Pipeline.liftProg p) B := e ▸ h

/-- A call's label runs its program. -/
theorem call_kernel (q : Fin 6) (a : Λ₀.Args q) (c : Thread nD τ) (l : (ΛP (F := F)).Label) (x : (ΛP (F := F)).Args l) (hl : l = Pipeline.kernel q) (hx : HEq x a)
    {A B : sProp 𝕄} (h : A ⊢ wp frame (wpE (D (F := F)) 𝒱 c (some v₀)) Set.univ (Pipeline.liftProg (defs₀ (F := F) c.2 q a)) fun _ => B) :
    A ⊢ wp frame (wpE (D (F := F)) 𝒱 c (some v₀)) Set.univ (D (F := F) c.2 l x) fun _ => B := by
  subst hl
  cases hx
  have e := Pipeline.defs_kernel (pcfgs (F := F)) (defs₀ (F := F)) c.2 q a
  exact h.trans (Entails.of_eq (congrArg (fun p => wp frame (wpE (D (F := F)) 𝒱 c (some v₀)) Set.univ p fun _ => B) e.symm))

/-- A program that does a tile's part of call `q`. -/
def Does (q : Fin 6) (prog : (t : Tile) → Prog (TpuEff nD τ sig (Elt F) Λ₀ (.scVector (t.1.castLE hcore1) (t.2.castLE hsub1))) PUnit) : Prop :=
  ∀ d (t : Tile) O W, iprop(goN X q d t ∗ ownBufs (V d (t.1.castLE hcore1) (t.2.castLE hsub1)) ∗ ownSems0 (V d (t.1.castLE hcore1) (t.2.castLE hsub1))
        ∗ owes (V d (t.1.castLE hcore1) (t.2.castLE hsub1)) O W ∗ Transfers.MayWaits (V d (t.1.castLE hcore1) (t.2.castLE hsub1)) none O)
      ⊢ wp frame (wpE (defs₀ (F := F)) 𝒱₀ (V d (t.1.castLE hcore1) (t.2.castLE hsub1)) none) Set.univ (prog t)
        fun _ => iprop(tdN X q d t ∗ ownBufs (V d (t.1.castLE hcore1) (t.2.castLE hsub1)) ∗ ownSems0 (V d (t.1.castLE hcore1) (t.2.castLE hsub1))
          ∗ Due (V d (t.1.castLE hcore1) (t.2.castLE hsub1)) none O W)

/-- A tile's obligation at call `q`, from its program and the program's task. -/
theorem obl_of (q : Fin 6) (prog : (t : Tile) → Prog (TpuEff nD τ sig (Elt F) Λ₀ (.scVector (t.1.castLE hcore1) (t.2.castLE hsub1))) PUnit)
    (a : Λ₀.Args q) (hd : ∀ t : Tile, defs₀ (F := F) (.scVector (t.1.castLE hcore1) (t.2.castLE hsub1)) q a = prog t)
    (hb : (K (F := F)).body q = Pipeline.kernel q) (ha : HEq ((K (F := F)).args q) a)
    (ht : Does X q prog) :
    (K (F := F)).TileObl (D (F := F)) 𝒱 (P X) v₀ q := by
  intro d c i O W hO _ _
  simp only [show (P X).ox = fun _ _ => 0 from rfl, add_zero]
  refine call_kernel q a _ _ _ hb ha (run_as (hd (tile (F := F) q c i)) (BI.Entails.trans ?_ (Pipeline.wp_liftProg (D (F := F)) (Pipeline.defs_kernel pcfgs defs₀) 𝒱₀ _ Set.univ none _ _)))
  rw [(K (F := F)).scopedBufs_V facts d ((K (F := F)).core q c) ((K (F := F)).sub q i), SparseCore.Cfg.scopedSems0_V (Val := Elt F) d ((K (F := F)).core q c) ((K (F := F)).sub q i)]
  have hm : (levAts (K (F := F)).L (K (F := F)).lev : sProp 𝕄)
      ⊢ Transfers.MayWaits (V d ((K (F := F)).core q c) ((K (F := F)).sub q i)) (default : HIx 6) O :=
    (K (F := F)).mayWaits_none (thr := V d ((K (F := F)).core q c) ((K (F := F)).sub q i)) hO
  refine BI.Entails.trans ?_ ((ht d (tile (F := F) q c i) O W).trans (wp_mono frame _ _ fun _ => due_weaken))
  show iprop(levAts (K (F := F)).L (K (F := F)).lev ∗ emp ∗ goN X q d (tile (F := F) q c i) ∗ _) ⊢ _
  iintro ⟨HL, -, HG, HB, HS, HO⟩
  isplitl [HG]; · iexact HG
  isplitl [HB]; · iexact HB
  isplitl [HS]; · iexact HS
  isplitl [HO]; · iexact HO
  iapply hm $$ HL

abbrev EC : UEmb Counters (MT nD τ sig (HIx 6) (Elt F) ℕ UU ℕ) := countersEmb

theorem goN_zero (d : Dev nD) (t : Tile) : (goN X 0 d t : sProp 𝕄) = given1 d t (share t) (X.T d) (X.A d) := rfl
theorem tdN_zero (d : Dev nD) (t : Tile) : (tdN X 0 d t : sProp 𝕄) = done1 d t (share t) (X.T d) (X.A d) := rfl
theorem goN_succ (k : Fin 5) (d : Dev nD) (t : Tile) : (goN X k.succ d t : sProp 𝕄) = given2 d t (share t) (X.N k d) (X.I k d) (X.J k d) (X.R k d) k := rfl
theorem tdN_succ (k : Fin 5) (d : Dev nD) (t : Tile) : (tdN X k.succ d t : sProp 𝕄) = done2 d t (share t) (X.N k d) (X.I k d) (X.J k d) (X.R k d) k := rfl

theorem does_first (hX : X.Ok) : Does X 0 fun t => first F (Stage1.coords t) := by
  intro d t O W
  have h := @first_task F _ _ (HIx 6) _ ℕ _ UU _ ℕ _ _ d t (share t) (none : HIx 6) O W (defs₀ (F := F)) (EC (F := F)) 𝒱₀ none (X.T d) (X.A d) _ _ (hX.A d)
  beta_reduce
  revert h
  generalize first F (Stage1.coords t) = p
  intro h
  rw [goN_zero, tdN_zero]
  exact h
theorem does_second (hX : X.Ok) (k : Fin 5) : Does X k.succ fun t => second F k (Stage2.coords t) := by
  intro d t O W
  have h := @second_task F _ _ (HIx 6) _ ℕ _ UU _ ℕ _ _ d t (share t) (none : HIx 6) O W (defs₀ (F := F)) (EC (F := F)) 𝒱₀ none
    (X.N k d) (X.I k d) (X.J k d) (X.R k d) _ _ (hX.I k d) (hX.J k d) k
  beta_reduce
  revert h
  generalize second F k (Stage2.coords t) = p
  intro h
  rw [goN_succ, tdN_succ]
  exact h

theorem cases_six (q : Fin 6) : q = 0 ∨ ∃ k : Fin 5, q = k.succ := by revert q; decide

theorem prog_of (hX : X.Ok) (q : Fin 6) (a : Λ₀.Args q) : ∃ prog : (t : Tile) → Prog (TpuEff nD τ sig (Elt F) Λ₀ (.scVector (t.1.castLE hcore1) (t.2.castLE hsub1))) PUnit,
    (∀ t : Tile, defs₀ (F := F) (.scVector (t.1.castLE hcore1) (t.2.castLE hsub1)) q a = prog t) ∧ Does X q prog := by
  rcases cases_six q with h | ⟨k, h⟩
  · subst h
    refine ⟨fun t => first F (Stage1.coords t), ?_, ?_⟩
    · exact @defs_first F _ _ a
    · exact @does_first F _ _ _ X hX
  · subst h
    refine ⟨fun t => second F k (Stage2.coords t), ?_, ?_⟩
    · exact @defs_second F _ _ k a
    · exact @does_second F _ _ _ X hX k

theorem tileObl (hX : X.Ok) (q : Fin 6) : (K (F := F)).TileObl (D (F := F)) 𝒱 (P X) v₀ q := by
  have key : ∀ a : Λ₀.Args q, (K (F := F)).body q = Pipeline.kernel q → HEq ((K (F := F)).args q) a → (K (F := F)).TileObl (D (F := F)) 𝒱 (P X) v₀ q := by
    intro a hb ha
    obtain ⟨prog, hd, h⟩ := @prog_of F _ _ _ X hX q a
    exact @obl_of F _ _ _ X q prog a hd hb ha h
  match q with
  | 0 => exact key ((K (F := F)).args 0) rfl HEq.rfl
  | 1 => exact key ((K (F := F)).args 1) rfl HEq.rfl
  | 2 => exact key ((K (F := F)).args 2) rfl HEq.rfl
  | 3 => exact key ((K (F := F)).args 3) rfl HEq.rfl
  | 4 => exact key ((K (F := F)).args 4) rfl HEq.rfl
  | 5 => exact key ((K (F := F)).args 5) rfl HEq.rfl

/-! ### The launch element of the ghost state -/

theorem sep_emp {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun c : Thread nD τ => bigSep Finset.univ fun q : Fin 6 => (P X).x q c) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [sep_emp]; iempintro
  rw [show (bigSep Finset.univ fun c : Thread nD τ => bigSep Finset.univ fun q : Fin 6 => (P X).x q c) = bigSep Finset.univ fun _ => iprop(emp) from
    bigSep_congr fun _ _ => sep_emp _, sep_emp]
  iempintro

end Cert.Proof.Launch
-- ==== Proof.Host.lean ====
/-
  The host's side of the launch: its operations, the arrays it holds, and what a call takes of them and gives back.
-/
module

public import proofs.«01_k».proof.Proof.Launch

@[expose] public section

noncomputable section

namespace Cert.Proof.Host

open Idealize.ShloMosaic Cert.KernelIdeal Cert.KernelIdeal.Gen
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Cert.Proof.Rules Cert.Proof.Deal Cert.Proof.Tiles Cert.Proof.Launch
open Cert.Proof.Stage2 (thr)

variable {F : FTy → Type}

local notation "𝕄" => MT nD τ sig (HIx 6) (Elt F) ℕ UU ℕ

/-! ### The program -/

/-- The host's operations before the first call, -/
def opsA (F : FTy → Type) [FloatOps F] : List (HloOp τ sig (Elt F)) :=
  [StableHlo.unary main_arg0 main_v0 ((extractStridedSlice S100000x1 ![0, 1] · slices_S100000x2_S100000x1_0_1) : (⟨S100000x2, .i32⟩ : BufTy).Contents (Elt F) → (⟨S100000x1, .i32⟩ : BufTy).Contents (Elt F)),
   StableHlo.reshape main_v0 main_v1 (rfl : (.i32 : EltTy) = .i32) shapeCasts_S100000x1_S100000,
   StableHlo.nullary main_c (constantI S_ 32 0#32),
   StableHlo.unary main_c main_call0_v0 (id : (⟨S_, .i32⟩ : BufTy).Contents (Elt F) → (⟨S_, .i32⟩ : BufTy).Contents (Elt F)),
   StableHlo.binary main_v1 main_call0_v0 main_v2 (fun (x : (⟨S100000, .i32⟩ : BufTy).Contents (Elt F)) (v : (⟨S_, .i32⟩ : BufTy).Contents (Elt F)) => (pad S100352 ![0] ![352] ![0] x v pads_S100000_S100352_03520 h_S_ : (⟨S100352, .i32⟩ : BufTy).Contents (Elt F))),
   StableHlo.reshape main_v2 main_v3 (rfl : (.i32 : EltTy) = .i32) shapeCasts_S100352_S1x100352,
   StableHlo.nullary main_c_0 (constantI S_ 32 0#32),
   StableHlo.unary main_c_0 main_call1_v0 (sitofp .f32 : (⟨S_, .i32⟩ : BufTy).Contents (Elt F) → (⟨S_, .f32⟩ : BufTy).Contents (Elt F)),
   StableHlo.binary main_arg1 main_call1_v0 main_v4 (fun (x : (⟨S100x12, .f32⟩ : BufTy).Contents (Elt F)) (v : (⟨S_, .f32⟩ : BufTy).Contents (Elt F)) => (pad S100x16 ![0, 0] ![0, 4] ![0, 0] x v pads_S100x12_S100x16_000_040 h_S_ : (⟨S100x16, .f32⟩ : BufTy).Contents (Elt F))),
   StableHlo.unary main_arg2 main_v5 ((extractStridedSlice S3200000x1 ![0, 0] · slices_S3200000x2_S3200000x1_0_0) : (⟨S3200000x2, .i32⟩ : BufTy).Contents (Elt F) → (⟨S3200000x1, .i32⟩ : BufTy).Contents (Elt F)),
   StableHlo.reshape main_v5 main_v6 (rfl : (.i32 : EltTy) = .i32) shapeCasts_S3200000x1_S3200000,
   StableHlo.reshape main_v6 main_v7 (rfl : (.i32 : EltTy) = .i32) shapeCasts_S3200000_S1x3200000,
   StableHlo.unary main_arg2 main_v8 ((extractStridedSlice S3200000x1 ![0, 1] · slices_S3200000x2_S3200000x1_0_1) : (⟨S3200000x2, .i32⟩ : BufTy).Contents (Elt F) → (⟨S3200000x1, .i32⟩ : BufTy).Contents (Elt F)),
   StableHlo.reshape main_v8 main_v9 (rfl : (.i32 : EltTy) = .i32) shapeCasts_S3200000x1_S3200000,
   StableHlo.reshape main_v9 main_v10 (rfl : (.i32 : EltTy) = .i32) shapeCasts_S3200000_S1x3200000,
   StableHlo.reshape main_arg3 main_v11 (rfl : (.f32 : EltTy) = .f32) shapeCasts_S3200000_S1x3200000]

/-- before each call of the second stage, -/
def opsK (F : FTy → Type) : Fin 5 → List (HloOp τ sig (Elt F))
  | 0 => [StableHlo.unary main_v7 main_v13 ((extractStridedSlice S1x640000 ![0, 0] · slices_S1x3200000_S1x640000_0_0) : (⟨S1x3200000, .i32⟩ : BufTy).Contents (Elt F) → (⟨S1x640000, .i32⟩ : BufTy).Contents (Elt F)),
   StableHlo.unary main_v10 main_v14 ((extractStridedSlice S1x640000 ![0, 0] · slices_S1x3200000_S1x640000_0_0) : (⟨S1x3200000, .i32⟩ : BufTy).Contents (Elt F) → (⟨S1x640000, .i32⟩ : BufTy).Contents (Elt F)),
   StableHlo.unary main_v11 main_v15 ((extractStridedSlice S1x640000 ![0, 0] · slices_S1x3200000_S1x640000_0_0) : (⟨S1x3200000, .f32⟩ : BufTy).Contents (Elt F) → (⟨S1x640000, .f32⟩ : BufTy).Contents (Elt F))]
  | 1 => [StableHlo.unary main_v7 main_v17 ((extractStridedSlice S1x640000 ![0, 640000] · slices_S1x3200000_S1x640000_0_640000) : (⟨S1x3200000, .i32⟩ : BufTy).Contents (Elt F) → (⟨S1x640000, .i32⟩ : BufTy).Contents (Elt F)),
   StableHlo.unary main_v10 main_v18 ((extractStridedSlice S1x640000 ![0, 640000] · slices_S1x3200000_S1x640000_0_640000) : (⟨S1x3200000, .i32⟩ : BufTy).Contents (Elt F) → (⟨S1x640000, .i32⟩ : BufTy).Contents (Elt F)),
   StableHlo.unary main_v11 main_v19 ((extractStridedSlice S1x640000 ![0, 640000] · slices_S1x3200000_S1x640000_0_640000) : (⟨S1x3200000, .f32⟩ : BufTy).Contents (Elt F) → (⟨S1x640000, .f32⟩ : BufTy).Contents (Elt F))]
  | 2 => [StableHlo.unary main_v7 main_v21 ((extractStridedSlice S1x640000 ![0, 1280000] · slices_S1x3200000_S1x640000_0_1280000) : (⟨S1x3200000, .i32⟩ : BufTy).Contents (Elt F) → (⟨S1x640000, .i32⟩ : BufTy).Contents (Elt F)),
   StableHlo.unary main_v10 main_v22 ((extractStridedSlice S1x640000 ![0, 1280000] · slices_S1x3200000_S1x640000_0_1280000) : (⟨S1x3200000, .i32⟩ : BufTy).Contents (Elt F) → (⟨S1x640000, .i32⟩ : BufTy).Contents (Elt F)),
   StableHlo.unary main_v11 main_v23 ((extractStridedSlice S1x640000 ![0, 1280000] · slices_S1x3200000_S1x640000_0_1280000) : (⟨S1x3200000, .f32⟩ : BufTy).Contents (Elt F) → (⟨S1x640000, .f32⟩ : BufTy).Contents (Elt F))]
  | 3 => [StableHlo.unary main_v7 main_v25 ((extractStridedSlice S1x640000 ![0, 1920000] · slices_S1x3200000_S1x640000_0_1920000) : (⟨S1x3200000, .i32⟩ : BufTy).Contents (Elt F) → (⟨S1x640000, .i32⟩ : BufTy).Contents (Elt F)),
   StableHlo.unary main_v10 main_v26 ((extractStridedSlice S1x640000 ![0, 1920000] · slices_S1x3200000_S1x640000_0_1920000) : (⟨S1x3200000, .i32⟩ : BufTy).Contents (Elt F) → (⟨S1x640000, .i32⟩ : BufTy).Contents (Elt F)),
   StableHlo.unary main_v11 main_v27 ((extractStridedSlice S1x640000 ![0, 1920000] · slices_S1x3200000_S1x640000_0_1920000) : (⟨S1x3200000, .f32⟩ : BufTy).Contents (Elt F) → (⟨S1x640000, .f32⟩ : BufTy).Contents (Elt F))]
  | 4 => [StableHlo.unary main_v7 main_v29 ((extractStridedSlice S1x640000 ![0, 2560000] · slices_S1x3200000_S1x640000_0_2560000) : (⟨S1x3200000, .i32⟩ : BufTy).Contents (Elt F) → (⟨S1x640000, .i32⟩ : BufTy).Contents (Elt F)),
   StableHlo.unary main_v10 main_v30 ((extractStridedSlice S1x640000 ![0, 2560000] · slices_S1x3200000_S1x640000_0_2560000) : (⟨S1x3200000, .i32⟩ : BufTy).Contents (Elt F) → (⟨S1x640000, .i32⟩ : BufTy).Contents (Elt F)),
   StableHlo.unary main_v11 main_v31 ((extractStridedSlice S1x640000 ![0, 2560000] · slices_S1x3200000_S1x640000_0_2560000) : (⟨S1x3200000, .f32⟩ : BufTy).Contents (Elt F) → (⟨S1x640000, .f32⟩ : BufTy).Contents (Elt F))]

/-- and after the last. -/
def opsZ (F : FTy → Type) : List (HloOp τ sig (Elt F)) :=
  [StableHlo.nary ![main_v16, main_v20, main_v24, main_v28, main_v32] main_v33 (fun u => (concatenate S3200000x27 0 [⟨S640000x27, (u 0 : (⟨S640000x27, .f32⟩ : BufTy).Contents (Elt F))⟩, ⟨S640000x27, (u 1 : (⟨S640000x27, .f32⟩ : BufTy).Contents (Elt F))⟩, ⟨S640000x27, (u 2 : (⟨S640000x27, .f32⟩ : BufTy).Contents (Elt F))⟩, ⟨S640000x27, (u 3 : (⟨S640000x27, .f32⟩ : BufTy).Contents (Elt F))⟩, ⟨S640000x27, (u 4 : (⟨S640000x27, .f32⟩ : BufTy).Contents (Elt F))⟩] concatenates_S640000x27_S640000x27_S640000x27_S640000x27_S640000x27_S3200000x27_d0 : (⟨S3200000x27, .f32⟩ : BufTy).Contents (Elt F))),
   StableHlo.unary main_arg2 main_v34 ((extractStridedSlice S3200000x1 ![0, 0] · slices_S3200000x2_S3200000x1_0_0) : (⟨S3200000x2, .i32⟩ : BufTy).Contents (Elt F) → (⟨S3200000x1, .i32⟩ : BufTy).Contents (Elt F)),
   StableHlo.reshape main_v34 main_v35 (rfl : (.i32 : EltTy) = .i32) shapeCasts_S3200000x1_S3200000]

variable [FloatOps F] [Named F]

/-- The program runs these in turn. -/
theorem main_eq (d : Dev nD) : main (F := F) d
    = (seq (opsA F) >>= fun _ => sc.run d 0 >>= fun _ => seq (opsK F 0) >>= fun _ => sc.run d 1 >>= fun _ => seq (opsK F 1) >>= fun _ => sc.run d 2
      >>= fun _ => seq (opsK F 2) >>= fun _ => sc.run d 3 >>= fun _ => seq (opsK F 3) >>= fun _ => sc.run d 4
      >>= fun _ => seq (opsK F 4) >>= fun _ => sc.run d 5 >>= fun _ => seq (opsZ F)) := rfl

/-! ### The arrays the host holds -/

/-- A device's array under the host's name. -/
abbrev dr (b : Ref sig .tc) : DevRef τ sig := Proc.devRef .tc b

theorem all_unscoped (b : Ref sig .tc) : b.isScoped = false := by revert b; decide

/-- The launch's contents of device `d`, as a valuation. -/
def V0 (m : (ℓ : Loc nD τ sig) → Buf (Elt F) ℓ) (d : Dev nD) : Valuation τ sig (Elt F) := fun b => m (d, b)

theorem unscoped_held (m : (ℓ : Loc nD τ sig) → Buf (Elt F) ℓ) (d : Dev nD) :
    (unscopedBufs d (fun b => m ((SparseCore.T d).loc b)) : sProp 𝕄) = held (SparseCore.T d) (tcRefs τ sig) (V0 m d) := by
  unfold unscopedBufs held tcRefs
  rw [Finset.filter_true_of_mem (fun b _ => by simp [all_unscoped b]), BI.bigSep_map]
  rfl

theorem sep_assoc_eq (A B C : sProp 𝕄) : iprop((A ∗ B) ∗ C) = iprop(A ∗ B ∗ C) := BI.Entails.antisymm sep_assoc sep_assoc'

theorem both {I : Type} (s : Finset I) (A B : I → sProp 𝕄) : (bigSep s fun i => iprop(A i ∗ B i)) = iprop(bigSep s A ∗ bigSep s B) := BI.bigSep_sep s A B

/-- Five of the arrays out of those held. -/
theorem held_five (d : Dev nD) (a b c e o : Ref sig .tc) (h : [dr o, dr a, dr b, dr c, dr e].Nodup) (W : Valuation τ sig (Elt F)) (Y : Buf (Elt F) ((SparseCore.T d).loc o)) :
    (held (SparseCore.T d) (tcRefs τ sig) (Function.update W (dr o) Y) : sProp 𝕄)
      = iprop(((SparseCore.T d).loc a ↦{fullShare} W (dr a)) ∗ ((SparseCore.T d).loc b ↦{fullShare} W (dr b)) ∗ ((SparseCore.T d).loc c ↦{fullShare} W (dr c)) ∗ ((SparseCore.T d).loc e ↦{fullShare} W (dr e))
        ∗ ((SparseCore.T d).loc o ↦{fullShare} Y) ∗ held (SparseCore.T d) (tcRefs τ sig \ {dr a, dr b, dr c, dr e, dr o}) W) := by
  simp only [List.nodup_cons, List.mem_cons, List.not_mem_nil, or_false, not_or] at h
  obtain ⟨⟨ha, hb, hc, he⟩, ⟨hab, hac, hae⟩, ⟨hbc, hbe⟩, hce, -⟩ := h
  rw [held_sub_split (SparseCore.T d) (T := {dr a, dr b, dr c, dr e, dr o}) (by
      intro x hx; simp only [Finset.mem_insert, Finset.mem_singleton] at hx
      rcases hx with rfl | rfl | rfl | rfl | rfl <;> exact devRef_mem_tcRefs _),
    held_congr (SparseCore.T d) (S := tcRefs τ sig \ {dr a, dr b, dr c, dr e, dr o}) (V' := W) (fun x hx => Function.update_of_ne (by
      rintro rfl; simp at hx) _ _)]
  unfold held
  rw [SparseCore.bigSep_insert' (by simp [hab, hac, hae, Ne.symm ha]), SparseCore.bigSep_insert' (by simp [hbc, hbe, Ne.symm hb]),
    SparseCore.bigSep_insert' (by simp [hce, Ne.symm hc]), SparseCore.bigSep_insert' (by simp [Ne.symm he]), bigSep_singleton,
    Function.update_of_ne (Ne.symm ha), Function.update_of_ne (Ne.symm hb), Function.update_of_ne (Ne.symm hc), Function.update_of_ne (Ne.symm he), Function.update_self]
  simp only [sep_assoc_eq]

/-- Three of them. -/
theorem held_three (d : Dev nD) (a b o : Ref sig .tc) (h : [dr o, dr a, dr b].Nodup) (W : Valuation τ sig (Elt F)) (Y : Buf (Elt F) ((SparseCore.T d).loc o)) :
    (held (SparseCore.T d) (tcRefs τ sig) (Function.update W (dr o) Y) : sProp 𝕄)
      = iprop(((SparseCore.T d).loc a ↦{fullShare} W (dr a)) ∗ ((SparseCore.T d).loc b ↦{fullShare} W (dr b))
        ∗ ((SparseCore.T d).loc o ↦{fullShare} Y) ∗ held (SparseCore.T d) (tcRefs τ sig \ {dr a, dr b, dr o}) W) := by
  simp only [List.nodup_cons, List.mem_cons, List.not_mem_nil, or_false, not_or] at h
  obtain ⟨⟨ha, hb⟩, hab, -⟩ := h
  rw [held_sub_split (SparseCore.T d) (T := {dr a, dr b, dr o}) (by
      intro x hx; simp only [Finset.mem_insert, Finset.mem_singleton] at hx
      rcases hx with rfl | rfl | rfl <;> exact devRef_mem_tcRefs _),
    held_congr (SparseCore.T d) (S := tcRefs τ sig \ {dr a, dr b, dr o}) (V' := W) (fun x hx => Function.update_of_ne (by
      rintro rfl; simp at hx) _ _)]
  unfold held
  rw [SparseCore.bigSep_insert' (by simp [hab, Ne.symm ha]), SparseCore.bigSep_insert' (by simp [Ne.symm hb]), bigSep_singleton,
    Function.update_of_ne (Ne.symm ha), Function.update_of_ne (Ne.symm hb), Function.update_self]
  simp only [sep_assoc_eq]

/-- The tasks of a call are the tiles. -/
theorem all_tiles (q : Fin 6) (Φ : Tile → sProp 𝕄) :
    (bigSep Finset.univ fun c : Fin ((K (F := F)).nCore q) => bigSep Finset.univ fun i : Fin ((K (F := F)).nSub q) => Φ (tile q c i)) = bigSep Finset.univ Φ := by
  rw [BI.bigSep_univ_prod Φ, BI.bigSep_univ_equiv (finCongr (nCore_eq (F := F) q))]
  refine BI.bigSep_congr fun c _ => ?_
  rw [BI.bigSep_univ_equiv (finCongr (nSub_eq (F := F) q))]
  rfl

theorem st_eq (X : Data F) [∀ e, Nonempty (Elt F e)] (q : Fin 6) (d : Dev nD) :
    (bigSep Finset.univ fun c : Fin ((K (F := F)).nCore q) => (P X).st q d c) = bigSep Finset.univ fun t => goN X q d t := all_tiles q fun t => goN X q d t
theorem dn_eq (X : Data F) [∀ e, Nonempty (Elt F e)] (q : Fin 6) (d : Dev nD) :
    (bigSep Finset.univ fun c : Fin ((K (F := F)).nCore q) => (P X).dn q d c) = bigSep Finset.univ fun t => tdN X q d t := all_tiles q fun t => tdN X q d t

/-! ### What a call takes and gives back, dealt among its tiles -/

abbrev t₀ : Tile := (0, 0)

/-- The neighbour table, dealt to the tiles in two halves each. -/
theorem deal_halves (d : Dev nD) (N : Vec F S100352x16 .f32) :
    (owns (thr d (Stage2.coords t₀)) aN fullShare N : sProp 𝕄)
      = iprop((bigSep Finset.univ fun t => owns (thr d (Stage2.coords t)) aN (share t).left N) ∗ bigSep Finset.univ fun t => owns (thr d (Stage2.coords t)) aN (share t).right N) := by
  rw [← both, show (owns (thr d (Stage2.coords t₀)) aN fullShare N : sProp 𝕄) = ((SparseCore.T d).loc main_v12 ↦{fullShare} N) from owns_whole _ _ _ _, table_deal]
  refine BI.bigSep_congr fun t _ => ?_
  rw [halves]
  exact (congrArg₂ (fun A B => iprop(A ∗ B)) (owns_whole (thr d (Stage2.coords t)) main_v12_scv _ _) (owns_whole (thr d (Stage2.coords t)) main_v12_scv _ _)).symm

theorem same_I (k : Fin 5) (d : Dev nD) (t : Tile) (b : ℕ) (Z : S1x1024.Idx → Elt F .i32) :
    (owns (thr d (Stage2.coords t₀)) (Stage2.blk (aI k) b) fullShare Z : sProp 𝕄) = owns (thr d (Stage2.coords t)) (Stage2.blk (aI k) b) fullShare Z := by
  fin_cases k <;> rfl
theorem same_J (k : Fin 5) (d : Dev nD) (t : Tile) (b : ℕ) (Z : S1x1024.Idx → Elt F .i32) :
    (owns (thr d (Stage2.coords t₀)) (Stage2.blk (aJ k) b) fullShare Z : sProp 𝕄) = owns (thr d (Stage2.coords t)) (Stage2.blk (aJ k) b) fullShare Z := by
  fin_cases k <;> rfl
theorem same_D (k : Fin 5) (d : Dev nD) (t : Tile) (b : ℕ) (Z : S1x1024.Idx → Elt F .f32) :
    (owns (thr d (Stage2.coords t₀)) (Stage2.blk (aD k) b) fullShare Z : sProp 𝕄) = owns (thr d (Stage2.coords t)) (Stage2.blk (aD k) b) fullShare Z := by
  fin_cases k <;> rfl
theorem same_O (k : Fin 5) (d : Dev nD) (t : Tile) (b : ℕ) (Z : Vec F S1024x27 .f32) :
    (owns (thr d (Stage2.coords t₀)) (Stage2.oblk (aO k) b) fullShare Z : sProp 𝕄) = owns (thr d (Stage2.coords t)) (Stage2.oblk (aO k) b) fullShare Z := by
  fin_cases k <;> rfl

section Second

variable (k : Fin 5) (d : Dev nD) (N : Vec F S100352x16 .f32) (I J : Vec F S1x640000 .i32) (R : Vec F S1x640000 .f32) (Y : Vec F S640000x27 .f32)

/-- The arrays of a call of the second stage, the result's at `Y`. -/
def arrays2 : sProp 𝕄 :=
  iprop(owns (thr d (Stage2.coords t₀)) (aI k) fullShare I ∗ owns (thr d (Stage2.coords t₀)) (aJ k) fullShare J ∗ owns (thr d (Stage2.coords t₀)) (aD k) fullShare R
    ∗ owns (thr d (Stage2.coords t₀)) (aO k) fullShare Y ∗ owns (thr d (Stage2.coords t₀)) aN fullShare N)

theorem deal2 : (arrays2 k d N I J R Y : sProp 𝕄) ⊢ bigSep Finset.univ fun t => given2 d t (share t) N I J R k := by
  unfold arrays2 given2 Stage2.given
  simp only [both]
  rw [Stage2.deal_lists d (aI k) I (same_I k d), Stage2.deal_lists d (aJ k) J (same_J k d), Stage2.deal_lists d (aD k) R (same_D k d), deal_halves]
  exact sep_mono_right (sep_mono_right (sep_mono_right (sep_mono_left (Stage2.deal_room d (aO k) Y (same_O k d)))))

theorem collect2 : (bigSep Finset.univ fun t => done2 d t (share t) N I J R k : sProp 𝕄) = arrays2 k d N I J R (Stage2.result N I J R) := by
  unfold arrays2 done2 Stage2.done
  simp only [both]
  rw [Stage2.deal_lists d (aI k) I (same_I k d), Stage2.deal_lists d (aJ k) J (same_J k d), Stage2.deal_lists d (aD k) R (same_D k d), deal_halves,
    Stage2.deal_rows d (aO k) _ (same_O k d)]

end Second

theorem same_A (d : Dev nD) (t : Tile) (b : ℕ) (Z : S1x512.Idx → Elt F .i32) :
    (owns (thr d (Stage1.coords t₀)) (Stage1.blk aA b) fullShare Z : sProp 𝕄) = owns (thr d (Stage1.coords t)) (Stage1.blk aA b) fullShare Z := rfl
theorem same_N (d : Dev nD) (t : Tile) (b : ℕ) (Z : Vec F S512x16 .f32) :
    (owns (thr d (Stage1.coords t₀)) (Stage1.oblk aN b) fullShare Z : sProp 𝕄) = owns (thr d (Stage1.coords t)) (Stage1.oblk aN b) fullShare Z := rfl

section First

variable (d : Dev nD) (T : Vec F S100x16 .f32) (A : Vec F S1x100352 .i32) (Y : Vec F S100352x16 .f32)

/-- The table, dealt to the tiles. -/
theorem deal_table : (owns (thr d (Stage1.coords t₀)) aT fullShare T : sProp 𝕄) = bigSep Finset.univ fun t => owns (thr d (Stage1.coords t)) aT (share t) T := by
  rw [show (owns (thr d (Stage1.coords t₀)) aT fullShare T : sProp 𝕄) = ((SparseCore.T d).loc main_v4 ↦{fullShare} T) from owns_whole _ _ _ _, table_deal]
  exact BI.bigSep_congr fun t _ => (owns_whole (thr d (Stage1.coords t)) main_v4_scv _ _).symm

/-- The arrays of the first stage's call, the result's at `Y`. -/
def arrays1 : sProp 𝕄 :=
  iprop(owns (thr d (Stage1.coords t₀)) aA fullShare A ∗ owns (thr d (Stage1.coords t₀)) aN fullShare Y ∗ owns (thr d (Stage1.coords t₀)) aT fullShare T)

theorem deal1 : (arrays1 d T A Y : sProp 𝕄) ⊢ bigSep Finset.univ fun t => given1 d t (share t) T A := by
  unfold arrays1 given1 Stage1.given
  simp only [both]
  rw [Stage1.deal_lists d aA A (same_A d), deal_table]
  exact sep_mono_right (sep_mono_left (Stage1.deal_room d aN Y (same_N d)))

theorem collect1 : (bigSep Finset.univ fun t => done1 d t (share t) T A : sProp 𝕄) = arrays1 d T A (Stage1.result T A) := by
  unfold arrays1 done1 Stage1.done
  simp only [both]
  rw [Stage1.deal_lists d aA A (same_A d), deal_table, Stage1.deal_rows d aN _ (same_N d)]

end First

/-! ### The same arrays under the host's names -/

def vI (W : Valuation τ sig (Elt F)) : Fin 5 → Vec F S1x640000 .i32
  | 0 => W (dr main_v13) | 1 => W (dr main_v17) | 2 => W (dr main_v21) | 3 => W (dr main_v25) | 4 => W (dr main_v29)
def vJ (W : Valuation τ sig (Elt F)) : Fin 5 → Vec F S1x640000 .i32
  | 0 => W (dr main_v14) | 1 => W (dr main_v18) | 2 => W (dr main_v22) | 3 => W (dr main_v26) | 4 => W (dr main_v30)
def vR (W : Valuation τ sig (Elt F)) : Fin 5 → Vec F S1x640000 .f32
  | 0 => W (dr main_v15) | 1 => W (dr main_v19) | 2 => W (dr main_v23) | 3 => W (dr main_v27) | 4 => W (dr main_v31)
def vO (W : Valuation τ sig (Elt F)) : Fin 5 → Vec F S640000x27 .f32
  | 0 => W (dr main_v16) | 1 => W (dr main_v20) | 2 => W (dr main_v24) | 3 => W (dr main_v28) | 4 => W (dr main_v32)
def vN (W : Valuation τ sig (Elt F)) : Vec F S100352x16 .f32 := W (dr main_v12)
def vT (W : Valuation τ sig (Elt F)) : Vec F S100x16 .f32 := W (dr main_v4)
def vA (W : Valuation τ sig (Elt F)) : Vec F S1x100352 .i32 := W (dr main_v3)

/-- The result of a call of the second stage set, -/
def put (W : Valuation τ sig (Elt F)) (Y : Vec F S640000x27 .f32) : Fin 5 → Valuation τ sig (Elt F)
  | 0 => Function.update W (dr main_v16) Y | 1 => Function.update W (dr main_v20) Y | 2 => Function.update W (dr main_v24) Y
  | 3 => Function.update W (dr main_v28) Y | 4 => Function.update W (dr main_v32) Y
/-- and of the first's. -/
def putN (W : Valuation τ sig (Elt F)) (Y : Vec F S100352x16 .f32) : Valuation τ sig (Elt F) := Function.update W (dr main_v12) Y

theorem put_same (W : Valuation τ sig (Elt F)) (k : Fin 5) : put W (vO W k) k = W := by
  fin_cases k <;> exact Function.update_eq_self _ _
theorem putN_same (W : Valuation τ sig (Elt F)) : putN W (vN W) = W := Function.update_eq_self _ _

/-- What the call leaves alone. -/
def rest (d : Dev nD) (W : Valuation τ sig (Elt F)) : Fin 5 → sProp 𝕄
  | 0 => held (SparseCore.T d) (tcRefs τ sig \ {dr main_v13, dr main_v14, dr main_v15, dr main_v12, dr main_v16}) W
  | 1 => held (SparseCore.T d) (tcRefs τ sig \ {dr main_v17, dr main_v18, dr main_v19, dr main_v12, dr main_v20}) W
  | 2 => held (SparseCore.T d) (tcRefs τ sig \ {dr main_v21, dr main_v22, dr main_v23, dr main_v12, dr main_v24}) W
  | 3 => held (SparseCore.T d) (tcRefs τ sig \ {dr main_v25, dr main_v26, dr main_v27, dr main_v12, dr main_v28}) W
  | 4 => held (SparseCore.T d) (tcRefs τ sig \ {dr main_v29, dr main_v30, dr main_v31, dr main_v12, dr main_v32}) W

theorem swap_last {A B C E O A' B' C' E' O' R : sProp 𝕄} (hA : A' = A) (hB : B' = B) (hC : C' = C) (hO : O' = O) (hE : E' = E) :
    iprop(A ∗ B ∗ C ∗ E ∗ O ∗ R) = iprop((A' ∗ B' ∗ C' ∗ O' ∗ E') ∗ R) := by
  subst hA hB hC hO hE
  refine BI.Entails.antisymm ?_ ?_
  · show iprop(A' ∗ B' ∗ C' ∗ E' ∗ O' ∗ R) ⊢ iprop((A' ∗ B' ∗ C' ∗ O' ∗ E') ∗ R)
    iintro ⟨HA, HB, HC, HE, HO, HR⟩
    isplitr [HR]
    · isplitl [HA]; · iexact HA
      isplitl [HB]; · iexact HB
      isplitl [HC]; · iexact HC
      isplitl [HO]; · iexact HO
      iexact HE
    iexact HR
  · show iprop((A' ∗ B' ∗ C' ∗ O' ∗ E') ∗ R) ⊢ iprop(A' ∗ B' ∗ C' ∗ E' ∗ O' ∗ R)
    iintro ⟨⟨HA, HB, HC, HO, HE⟩, HR⟩
    isplitl [HA]; · iexact HA
    isplitl [HB]; · iexact HB
    isplitl [HC]; · iexact HC
    isplitl [HE]; · iexact HE
    isplitl [HO]; · iexact HO
    iexact HR

theorem take2 (d : Dev nD) (W : Valuation τ sig (Elt F)) (Y : Vec F S640000x27 .f32) (k : Fin 5) :
    (held (SparseCore.T d) (tcRefs τ sig) (put W Y k) : sProp 𝕄) = iprop(arrays2 k d (vN W) (vI W k) (vJ W k) (vR W k) Y ∗ rest d W k) := by
  unfold arrays2
  fin_cases k
  · exact (held_five d main_v13 main_v14 main_v15 main_v12 main_v16 (by decide) W Y).trans
      (swap_last (owns_whole _ _ _ _) (owns_whole _ _ _ _) (owns_whole _ _ _ _) (owns_whole _ _ _ _) (owns_whole _ _ _ _))
  · exact (held_five d main_v17 main_v18 main_v19 main_v12 main_v20 (by decide) W Y).trans
      (swap_last (owns_whole _ _ _ _) (owns_whole _ _ _ _) (owns_whole _ _ _ _) (owns_whole _ _ _ _) (owns_whole _ _ _ _))
  · exact (held_five d main_v21 main_v22 main_v23 main_v12 main_v24 (by decide) W Y).trans
      (swap_last (owns_whole _ _ _ _) (owns_whole _ _ _ _) (owns_whole _ _ _ _) (owns_whole _ _ _ _) (owns_whole _ _ _ _))
  · exact (held_five d main_v25 main_v26 main_v27 main_v12 main_v28 (by decide) W Y).trans
      (swap_last (owns_whole _ _ _ _) (owns_whole _ _ _ _) (owns_whole _ _ _ _) (owns_whole _ _ _ _) (owns_whole _ _ _ _))
  · exact (held_five d main_v29 main_v30 main_v31 main_v12 main_v32 (by decide) W Y).trans
      (swap_last (owns_whole _ _ _ _) (owns_whole _ _ _ _) (owns_whole _ _ _ _) (owns_whole _ _ _ _) (owns_whole _ _ _ _))

theorem swap_three {A B O A' B' O' R : sProp 𝕄} (hA : A' = A) (hO : O' = O) (hB : B' = B) :
    iprop(A ∗ B ∗ O ∗ R) = iprop((A' ∗ O' ∗ B') ∗ R) := by
  subst hA hB hO
  refine BI.Entails.antisymm ?_ ?_
  · show iprop(A' ∗ B' ∗ O' ∗ R) ⊢ iprop((A' ∗ O' ∗ B') ∗ R)
    iintro ⟨HA, HB, HO, HR⟩
    isplitr [HR]
    · isplitl [HA]; · iexact HA
      isplitl [HO]; · iexact HO
      iexact HB
    iexact HR
  · show iprop((A' ∗ O' ∗ B') ∗ R) ⊢ iprop(A' ∗ B' ∗ O' ∗ R)
    iintro ⟨⟨HA, HO, HB⟩, HR⟩
    isplitl [HA]; · iexact HA
    isplitl [HB]; · iexact HB
    isplitl [HO]; · iexact HO
    iexact HR

theorem take1 (d : Dev nD) (W : Valuation τ sig (Elt F)) (Y : Vec F S100352x16 .f32) :
    (held (SparseCore.T d) (tcRefs τ sig) (putN W Y) : sProp 𝕄)
      = iprop(arrays1 d (vT W) (vA W) Y ∗ held (SparseCore.T d) (tcRefs τ sig \ {dr main_v3, dr main_v4, dr main_v12}) W) :=
  (held_three d main_v3 main_v4 main_v12 (by decide) W Y).trans (swap_three (owns_whole _ _ _ _) (owns_whole _ _ _ _) (owns_whole _ _ _ _))
-- ==== Proof.Main.lean ====
/-
  The host's run of the whole program: each call from the arrays held, and what is held at the end.
-/
module

public import proofs.«01_k».proof.Proof.Host
public import Idealize.ShloMosaic.Lib.SparseCore.Quiescent

@[expose] public section

noncomputable section

namespace Cert.Proof.Main

open Idealize.ShloMosaic Cert.KernelIdeal Cert.KernelIdeal.Gen
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Cert.Proof.Rules Cert.Proof.Deal Cert.Proof.Tiles Cert.Proof.Launch Cert.Proof.Host
open Cert.Proof.Stage2 (thr)

variable {F : FTy → Type} [FloatOps F] [Named F] [∀ e, Nonempty (Elt F e)]

local notation "𝕄" => MT nD τ sig (HIx 6) (Elt F) ℕ UU ℕ

/-- The host's arrays held at a valuation. -/
abbrev all (d : Dev nD) (W : Valuation τ sig (Elt F)) : sProp 𝕄 := held (SparseCore.T d) (tcRefs τ sig) W

/-! ### One call -/

theorem run2 (X : Data F) (κ : GSem nD τ sig → ℕ) (d : Dev nD) (k : Fin 5) (W : Valuation τ sig (Elt F))
    (hN : X.N k d = vN W) (hI : X.I k d = vI W k) (hJ : X.J k d = vJ W k) (hR : X.R k d = vR W k) (Φ : PUnit → sProp 𝕄) :
    iprop((K (F := F)).ctx EH (P X) κ ∗ (K (F := F)).tcSt EH d k.succ.val ∗ all d W
        ∗ (((K (F := F)).tcSt EH d (k.succ.val + 1) ∗ all d (put W (Stage2.result (vN W) (vI W k) (vJ W k) (vR W k)) k)) -∗ Φ ⟨⟩))
      ⊢ wp frame (wpE ((K (F := F)).defs (D (F := F))) 𝒱 (SparseCore.T d) none) Set.univ ((K (F := F)).run d k.succ) Φ := by
  have e : (all d W : sProp 𝕄) = iprop(arrays2 k d (vN W) (vI W k) (vJ W k) (vR W k) (vO W k) ∗ rest d W k) := by
    rw [← take2 d W (vO W k) k, put_same]
  have hst : (arrays2 k d (vN W) (vI W k) (vJ W k) (vR W k) (vO W k) : sProp 𝕄)
      ⊢ bigSep Finset.univ fun c : Fin ((K (F := F)).nCore k.succ) => (P X).st k.succ d c := by
    rw [st_eq]
    simp only [goN_succ, hN, hI, hJ, hR]
    exact deal2 k d _ _ _ _ _
  have hdn : (bigSep Finset.univ fun c : Fin ((K (F := F)).nCore k.succ) => (P X).dn k.succ d c)
      = (arrays2 k d (vN W) (vI W k) (vJ W k) (vR W k) (Stage2.result (vN W) (vI W k) (vJ W k) (vR W k)) : sProp 𝕄) := by
    rw [dn_eq]
    simp only [tdN_succ, hN, hI, hJ, hR]
    exact collect2 k d _ _ _ _
  have e' : (all d (put W (Stage2.result (vN W) (vI W k) (vJ W k) (vR W k)) k) : sProp 𝕄) = _ := take2 d W _ k
  rw [e', e]
  iintro ⟨#Hctx, Hst, ⟨Ha, Hr⟩, Hk⟩
  iapply ((K (F := F)).wp_run (D (F := F)) 𝒱 (EH := EH) (P := P X) κ d k.succ) $$ [Hst Ha Hr Hk]
  isplitr; · iexact Hctx
  isplitl [Hst]; · iexact Hst
  isplitl [Ha]
  · iapply hst; iexact Ha
  iintro ⟨Hst, Hdn⟩
  ihave Ha := (Entails.of_eq hdn) $$ Hdn
  iapply Hk
  isplitl [Hst]; · iexact Hst
  isplitl [Ha]; · iexact Ha
  iexact Hr

theorem run1 (X : Data F) (κ : GSem nD τ sig → ℕ) (d : Dev nD) (W : Valuation τ sig (Elt F))
    (hT : X.T d = vT W) (hA : X.A d = vA W) (Φ : PUnit → sProp 𝕄) :
    iprop((K (F := F)).ctx EH (P X) κ ∗ (K (F := F)).tcSt EH d (0 : Fin 6).val ∗ all d W
        ∗ (((K (F := F)).tcSt EH d ((0 : Fin 6).val + 1) ∗ all d (putN W (Stage1.result (vT W) (vA W)))) -∗ Φ ⟨⟩))
      ⊢ wp frame (wpE ((K (F := F)).defs (D (F := F))) 𝒱 (SparseCore.T d) none) Set.univ ((K (F := F)).run d 0) Φ := by
  have e : (all d W : sProp 𝕄) = iprop(arrays1 d (vT W) (vA W) (vN W) ∗ held (SparseCore.T d) (tcRefs τ sig \ {dr main_v3, dr main_v4, dr main_v12}) W) := by
    rw [← take1 d W (vN W), putN_same]
  have hst : (arrays1 d (vT W) (vA W) (vN W) : sProp 𝕄)
      ⊢ bigSep Finset.univ fun c : Fin ((K (F := F)).nCore 0) => (P X).st 0 d c := by
    rw [st_eq]
    simp only [goN_zero, hT, hA]
    exact deal1 d _ _ _
  have hdn : (bigSep Finset.univ fun c : Fin ((K (F := F)).nCore 0) => (P X).dn 0 d c)
      = (arrays1 d (vT W) (vA W) (Stage1.result (vT W) (vA W)) : sProp 𝕄) := by
    rw [dn_eq]
    simp only [tdN_zero, hT, hA]
    exact collect1 d _ _
  have e' : (all d (putN W (Stage1.result (vT W) (vA W))) : sProp 𝕄) = _ := take1 d W _
  rw [e', e]
  iintro ⟨#Hctx, Hst, ⟨Ha, Hr⟩, Hk⟩
  iapply ((K (F := F)).wp_run (D (F := F)) 𝒱 (EH := EH) (P := P X) κ d 0) $$ [Hst Ha Hr Hk]
  isplitr; · iexact Hctx
  isplitl [Hst]; · iexact Hst
  isplitl [Ha]
  · iapply hst; iexact Ha
  iintro ⟨Hst, Hdn⟩
  ihave Ha := (Entails.of_eq hdn) $$ Hdn
  iapply Hk
  isplitl [Hst]; · iexact Hst
  isplitl [Ha]; · iexact Ha
  iexact Hr

/-! ### The host's operations and a call -/

theorem bufs_A : ∀ op ∈ opsA F, op.bufs ⊆ tcRefs τ sig := by
  unfold opsA
  simp only [List.forall_mem_cons, List.not_mem_nil, false_imp_iff, implies_true, and_true, unary_bufs_sub, binary_bufs_sub, nullary_bufs_sub, reshape_bufs_sub]
theorem fresh_A : ∀ op ∈ opsA F, op.fresh = ∅ := by
  unfold opsA
  simp only [List.forall_mem_cons, List.not_mem_nil, false_imp_iff, implies_true, and_true]
  exact ⟨rfl, rfl, rfl, rfl, rfl, rfl, rfl, rfl, rfl, rfl, rfl, rfl, rfl, rfl, rfl, rfl⟩
theorem bufs_K (k : Fin 5) : ∀ op ∈ opsK F k, op.bufs ⊆ tcRefs τ sig := by
  fin_cases k <;>
    simp only [opsK, List.forall_mem_cons, List.not_mem_nil, false_imp_iff, implies_true, and_true, unary_bufs_sub, _root_.and_self]
theorem fresh_K (k : Fin 5) : ∀ op ∈ opsK F k, op.fresh = ∅ := by
  fin_cases k <;> (simp only [opsK, List.forall_mem_cons, List.not_mem_nil, false_imp_iff, implies_true, and_true]; exact ⟨rfl, rfl, rfl⟩)
theorem bufs_Z : ∀ op ∈ opsZ F, op.bufs ⊆ tcRefs τ sig := by
  unfold opsZ
  simp only [List.forall_mem_cons, List.not_mem_nil, false_imp_iff, implies_true, and_true, unary_bufs_sub, reshape_bufs_sub]
  exact nary_bufs_sub _ _ _ _ _
theorem fresh_Z : ∀ op ∈ opsZ F, op.fresh = ∅ := by
  unfold opsZ
  simp only [List.forall_mem_cons, List.not_mem_nil, false_imp_iff, implies_true, and_true]
  exact ⟨rfl, rfl, rfl⟩

/-- What is held before a call of the second stage, -/
def mid (W : Valuation τ sig (Elt F)) (k : Fin 5) : Valuation τ sig (Elt F) := after (opsK F k) W
/-- and after it. -/
def step (W : Valuation τ sig (Elt F)) (k : Fin 5) : Valuation τ sig (Elt F) :=
  put (mid W k) (Stage2.result (vN (mid W k)) (vI (mid W k) k) (vJ (mid W k) k) (vR (mid W k) k)) k

theorem go2 (X : Data F) (κ : GSem nD τ sig → ℕ) (d : Dev nD) (k : Fin 5) (W : Valuation τ sig (Elt F))
    (hN : X.N k d = vN (mid W k)) (hI : X.I k d = vI (mid W k) k) (hJ : X.J k d = vJ (mid W k) k) (hR : X.R k d = vR (mid W k) k)
    (g : PUnit → Prog (TpuEff nD τ sig (Elt F) (SparseCore.Sig (ΛP (F := F)) 6) .tc) PUnit) (Φ : PUnit → sProp 𝕄) :
    iprop((K (F := F)).ctx EH (P X) κ ∗ (K (F := F)).tcSt EH d k.succ.val ∗ boundary (SparseCore.T d) ∗ all d W
        ∗ (((K (F := F)).tcSt EH d (k.succ.val + 1) ∗ boundary (SparseCore.T d) ∗ all d (step W k))
          -∗ wp frame (wpE ((K (F := F)).defs (D (F := F))) 𝒱 (SparseCore.T d) none) Set.univ (g ⟨⟩) Φ))
      ⊢ wp frame (wpE ((K (F := F)).defs (D (F := F))) 𝒱 (SparseCore.T d) none) Set.univ
        (seq (opsK F k) >>= fun _ => (K (F := F)).run d k.succ >>= g) Φ := by
  iintro ⟨#Hctx, Hst, Hb, Ha, Hk⟩
  iapply (wp_seq 𝒱 none Set.univ d (tcRefs τ sig) _ (opsK F k) (bufs_K k) (fresh_K k) W) $$ [Hb Ha]
  · isplitl [Hb]; · iexact Hb
    iexact Ha
  iintro ⟨Hb, Ha⟩
  rw [wp_bind]
  iapply (run2 X κ d k (mid W k) hN hI hJ hR _) $$ [Hst Ha Hb Hk]
  isplitr; · iexact Hctx
  isplitl [Hst]; · iexact Hst
  isplitl [Ha]; · iexact Ha
  iintro ⟨Hst, Ha⟩
  iapply Hk
  isplitl [Hst]; · iexact Hst
  isplitl [Hb]; · iexact Hb
  iexact Ha

/-- What is held after the first stage. -/
def start (W : Valuation τ sig (Elt F)) : Valuation τ sig (Elt F) := putN (after (opsA F) W) (Stage1.result (vT (after (opsA F) W)) (vA (after (opsA F) W)))

theorem go1 (X : Data F) (κ : GSem nD τ sig → ℕ) (d : Dev nD) (W : Valuation τ sig (Elt F))
    (hT : X.T d = vT (after (opsA F) W)) (hA : X.A d = vA (after (opsA F) W))
    (g : PUnit → Prog (TpuEff nD τ sig (Elt F) (SparseCore.Sig (ΛP (F := F)) 6) .tc) PUnit) (Φ : PUnit → sProp 𝕄) :
    iprop((K (F := F)).ctx EH (P X) κ ∗ (K (F := F)).tcSt EH d (0 : Fin 6).val ∗ boundary (SparseCore.T d) ∗ all d W
        ∗ (((K (F := F)).tcSt EH d ((0 : Fin 6).val + 1) ∗ boundary (SparseCore.T d) ∗ all d (start W))
          -∗ wp frame (wpE ((K (F := F)).defs (D (F := F))) 𝒱 (SparseCore.T d) none) Set.univ (g ⟨⟩) Φ))
      ⊢ wp frame (wpE ((K (F := F)).defs (D (F := F))) 𝒱 (SparseCore.T d) none) Set.univ
        (seq (opsA F) >>= fun _ => (K (F := F)).run d 0 >>= g) Φ := by
  iintro ⟨#Hctx, Hst, Hb, Ha, Hk⟩
  iapply (wp_seq 𝒱 none Set.univ d (tcRefs τ sig) _ (opsA F) bufs_A fresh_A W) $$ [Hb Ha]
  · isplitl [Hb]; · iexact Hb
    iexact Ha
  iintro ⟨Hb, Ha⟩
  rw [wp_bind]
  iapply (run1 X κ d (after (opsA F) W) hT hA _) $$ [Hst Ha Hb Hk]
  isplitr; · iexact Hctx
  isplitl [Hst]; · iexact Hst
  isplitl [Ha]; · iexact Ha
  iintro ⟨Hst, Ha⟩
  iapply Hk
  isplitl [Hst]; · iexact Hst
  isplitl [Hb]; · iexact Hb
  iexact Ha

variable (m : (ℓ : Loc nD τ sig) → Buf (Elt F) ℓ) (ρ : Dev nD → PrngReg)

/-- What is held before the second stage's call `k`'s operations; at 5, after them all. -/
def chain (d : Dev nD) : Fin 6 → Valuation τ sig (Elt F) := Fin.induction (motive := fun _ => Valuation τ sig (Elt F)) (start (V0 m d)) fun k W => step W k
theorem chain_succ (d : Dev nD) (k : Fin 5) : chain m d k.succ = step (chain m d k.castSucc) k := Fin.induction_succ ..
theorem chain_zero (d : Dev nD) : chain m d 0 = start (V0 m d) := rfl

/-- What the calls read. -/
def data : Data F where
  T d := vT (after (opsA F) (V0 m d))
  A d := vA (after (opsA F) (V0 m d))
  N k d := vN (mid (chain m d k.castSucc) k)
  I k d := vI (mid (chain m d k.castSucc) k) k
  J k d := vJ (mid (chain m d k.castSucc) k) k
  R k d := vR (mid (chain m d k.castSucc) k) k

/-- What the program leaves. -/
def last (d : Dev nD) : Valuation τ sig (Elt F) := after (opsZ F) (chain m d 5)

/-- A call of the second stage and what follows it, -/
theorem peel2 (X : Data F) (κ : GSem nD τ sig → ℕ) (d : Dev nD) (k : Fin 5) (W : Valuation τ sig (Elt F))
    (hN : X.N k d = vN (mid W k)) (hI : X.I k d = vI (mid W k) k) (hJ : X.J k d = vJ (mid W k) k) (hR : X.R k d = vR (mid W k) k)
    {g : PUnit → Prog (TpuEff nD τ sig (Elt F) (SparseCore.Sig (ΛP (F := F)) 6) .tc) PUnit} {Φ : PUnit → sProp 𝕄} {R : sProp 𝕄}
    (h : iprop((K (F := F)).ctx EH (P X) κ ∗ (K (F := F)).tcSt EH d (k.succ.val + 1) ∗ boundary (SparseCore.T d) ∗ all d (step W k) ∗ R)
      ⊢ wp frame (wpE ((K (F := F)).defs (D (F := F))) 𝒱 (SparseCore.T d) none) Set.univ (g ⟨⟩) Φ) :
    iprop((K (F := F)).ctx EH (P X) κ ∗ (K (F := F)).tcSt EH d k.succ.val ∗ boundary (SparseCore.T d) ∗ all d W ∗ R)
      ⊢ wp frame (wpE ((K (F := F)).defs (D (F := F))) 𝒱 (SparseCore.T d) none) Set.univ
        (seq (opsK F k) >>= fun _ => (K (F := F)).run d k.succ >>= g) Φ := by
  iintro ⟨#Hctx, Hst, Hb, Ha, HR⟩
  iapply (go2 X κ d k W hN hI hJ hR g Φ) $$ [Hst Hb Ha HR]
  isplitr; · iexact Hctx
  isplitl [Hst]; · iexact Hst
  isplitl [Hb]; · iexact Hb
  isplitl [Ha]; · iexact Ha
  iintro ⟨Hst, Hb, Ha⟩
  iapply h
  isplitr; · iexact Hctx
  isplitl [Hst]; · iexact Hst
  isplitl [Hb]; · iexact Hb
  isplitl [Ha]; · iexact Ha
  iexact HR

/-- and the first's. -/
theorem peel1 (X : Data F) (κ : GSem nD τ sig → ℕ) (d : Dev nD) (W : Valuation τ sig (Elt F))
    (hT : X.T d = vT (after (opsA F) W)) (hA : X.A d = vA (after (opsA F) W))
    {g : PUnit → Prog (TpuEff nD τ sig (Elt F) (SparseCore.Sig (ΛP (F := F)) 6) .tc) PUnit} {Φ : PUnit → sProp 𝕄} {R : sProp 𝕄}
    (h : iprop((K (F := F)).ctx EH (P X) κ ∗ (K (F := F)).tcSt EH d ((0 : Fin 6).val + 1) ∗ boundary (SparseCore.T d) ∗ all d (start W) ∗ R)
      ⊢ wp frame (wpE ((K (F := F)).defs (D (F := F))) 𝒱 (SparseCore.T d) none) Set.univ (g ⟨⟩) Φ) :
    iprop((K (F := F)).ctx EH (P X) κ ∗ (K (F := F)).tcSt EH d (0 : Fin 6).val ∗ boundary (SparseCore.T d) ∗ all d W ∗ R)
      ⊢ wp frame (wpE ((K (F := F)).defs (D (F := F))) 𝒱 (SparseCore.T d) none) Set.univ
        (seq (opsA F) >>= fun _ => (K (F := F)).run d 0 >>= g) Φ := by
  iintro ⟨#Hctx, Hst, Hb, Ha, HR⟩
  iapply (go1 X κ d W hT hA g Φ) $$ [Hst Hb Ha HR]
  isplitr; · iexact Hctx
  isplitl [Hst]; · iexact Hst
  isplitl [Hb]; · iexact Hb
  isplitl [Ha]; · iexact Ha
  iintro ⟨Hst, Hb, Ha⟩
  iapply h
  isplitr; · iexact Hctx
  isplitl [Hst]; · iexact Hst
  isplitl [Hb]; · iexact Hb
  isplitl [Ha]; · iexact Ha
  iexact HR

/-- The operations after the last call. -/
theorem finish (X : Data F) (κ : GSem nD τ sig → ℕ) (d : Dev nD) (W : Valuation τ sig (Elt F)) :
    iprop((K (F := F)).ctx EH (P X) κ ∗ (K (F := F)).tcSt EH d 6 ∗ boundary (SparseCore.T d) ∗ all d W ∗ (K (F := F)).tcSems0 d)
      ⊢ wp frame (wpE ((K (F := F)).defs (D (F := F))) 𝒱 (SparseCore.T d) none) Set.univ (seq (opsZ F))
          fun _ => iprop((K (F := F)).tcSt EH d 6 ∗ all d (after (opsZ F) W) ∗ (K (F := F)).tcEnd d) := by
  unfold SparseCore.Cfg.tcEnd
  rw [← bind_pure (seq (opsZ F))]
  iintro ⟨-, Hst, Hb, Ha, Hts⟩
  iapply (wp_seq 𝒱 none Set.univ d (tcRefs τ sig) pure (opsZ F) bufs_Z fresh_Z W) $$ [Hb Ha]
  · isplitl [Hb]; · iexact Hb
    iexact Ha
  iintro ⟨Hb, Ha⟩
  rw [wp_pure]
  imodintro
  isplitl [Hst]; · iexact Hst
  isplitl [Ha]; · iexact Ha
  isplitl [Hb]; · iexact Hb
  iexact Hts

theorem peel (κ : GSem nD τ sig → ℕ) (d : Dev nD) (k : Fin 5) {n n' : ℕ} {i i' : Fin 6} (hn : n = k.succ.val) (hn' : n' = k.succ.val + 1) (hi : i = k.castSucc) (hi' : i' = k.succ)
    {g : PUnit → Prog (TpuEff nD τ sig (Elt F) (SparseCore.Sig (ΛP (F := F)) 6) .tc) PUnit} {Φ : PUnit → sProp 𝕄} {R : sProp 𝕄}
    (h : iprop((K (F := F)).ctx EH (P (data m)) κ ∗ (K (F := F)).tcSt EH d n' ∗ boundary (SparseCore.T d) ∗ all d (chain m d i') ∗ R)
      ⊢ wp frame (wpE ((K (F := F)).defs (D (F := F))) 𝒱 (SparseCore.T d) none) Set.univ (g ⟨⟩) Φ) :
    iprop((K (F := F)).ctx EH (P (data m)) κ ∗ (K (F := F)).tcSt EH d n ∗ boundary (SparseCore.T d) ∗ all d (chain m d i) ∗ R)
      ⊢ wp frame (wpE ((K (F := F)).defs (D (F := F))) 𝒱 (SparseCore.T d) none) Set.univ
        (seq (opsK F k) >>= fun _ => (K (F := F)).run d k.succ >>= g) Φ := by
  subst hn hn' hi hi'
  rw [chain_succ] at h
  exact peel2 (data m) κ d k (chain m d k.castSucc) rfl rfl rfl rfl h

theorem entry (X : Data F) (κ : GSem nD τ sig → ℕ) (d : Dev nD) {Z : sProp 𝕄}
    (h : iprop((K (F := F)).ctx EH (P X) κ ∗ (K (F := F)).tcSt EH d 0 ∗ boundary (SparseCore.T d) ∗ all d (V0 m d) ∗ (K (F := F)).tcSems0 d) ⊢ Z) :
    iprop((K (F := F)).ctx EH (P X) κ ∗ (K (F := F)).tcSt EH d 0 ∗ (K (F := F)).tcRes m ρ d ∗ emp) ⊢ Z := by
  unfold SparseCore.Cfg.tcRes
  rw [unscoped_held]
  iintro ⟨#Hctx, Hst, ⟨Hb, Ha, Hts, -⟩, -⟩
  iapply h
  isplitr; · iexact Hctx
  isplitl [Hst]; · iexact Hst
  isplitl [Hb]; · iexact Hb
  isplitl [Ha]; · iexact Ha
  iexact Hts

/-- The host's program: everything held ends at `last`. -/
theorem hmain (κ : GSem nD τ sig → ℕ) (d : Dev nD) :
    iprop((K (F := F)).ctx EH (P (data m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 6 ∗ all d (last m d) ∗ (K (F := F)).tcEnd d) := by
  rw [main_eq]
  refine entry m ρ (data m) κ d ?_
  refine peel1 (data m) κ d (V0 m d) rfl rfl ?_
  refine peel m κ d 0 (n := 1) (n' := 2) (i := 0) (i' := 1) rfl rfl rfl rfl ?_
  refine peel m κ d 1 (n := 2) (n' := 3) (i := 1) (i' := 2) rfl rfl rfl rfl ?_
  refine peel m κ d 2 (n := 3) (n' := 4) (i := 2) (i' := 3) rfl rfl rfl rfl ?_
  refine peel m κ d 3 (n := 4) (n' := 5) (i := 3) (i' := 4) rfl rfl rfl rfl ?_
  refine peel m κ d 4 (n := 5) (n' := 6) (i := 4) (i' := 5) rfl rfl rfl rfl ?_
  exact finish (data m) κ d (chain m d 5)

/-- The host's arrays are at `last`. -/
def fq (d : Dev nD) (s' : Phys nD τ sig (Elt F)) : Prop := ∀ b : Ref sig .tc, s'.mem.mem ((SparseCore.T d).loc b) = last m d (dr b)

theorem hfin (d : Dev nD) (s' : Phys nD τ sig (Elt F)) : iprop(all d (last m d) ∗ SI s') ⊢ (⌜fq m d s'⌝ : sProp 𝕄) := by
  refine (Laws.forall_intro fun b : Ref sig .tc => ?_).trans Laws.pure_forall.2
  rw [show (all d (last m d) : sProp 𝕄) = _ from held_sub_split (SparseCore.T d) (T := {dr b}) (Finset.singleton_subset_iff.mpr (devRef_mem_tcRefs b)) (last m d)]
  rw [show (held (SparseCore.T d) {dr b} (last m d) : sProp 𝕄) = ((SparseCore.T d).loc b ↦{fullShare} last m d (dr b)) from bigSep_singleton ..]
  iintro ⟨⟨Hb, -⟩, HSI⟩
  ihave H := (SI_pointsTo_agree (st := s') (ℓ := (SparseCore.T d).loc b) (I := Finset.univ) (q := fullShare) (f := last m d (dr b))) $$ [HSI Hb]
  · isplitl [HSI] <;> iassumption
  icases H with %h
  ipureintro; exact funext fun i => h i (Finset.mem_univ i)

/-- The program's run: the host's arrays end at `last`, the semaphores at zero. -/
theorem run_main (hX : (data m).Ok) :
    θ_run (Cert.KernelIdeal.defs (F := F)) (Cert.KernelIdeal.threads (F := F)) ⟨m, fun _ => 0, ρ⟩
      (fun r => (∀ (d : Dev nD) (b : Ref sig .tc), r.2.mem ((SparseCore.T d).loc b) = last m d (dr b)) ∧ r.2.sem = fun _ => 0) :=
  SparseCore.Cfg.θ_run_sc_quiescent (K := K (F := F)) (D := D (F := F)) (𝒱 := 𝒱) (EH := EH) (P := P (data m)) (A := ∅) facts v₀
    (fun q hq => absurd hq (by fin_cases q <;> exact nofun))
    (fun q _ => tileObl (data m) hX q)
    (fun q _ => SparseCore.Cfg.VecSplit.of_plain (vecSplit (data m) q))
    m ρ main (fun _ => iprop(emp)) (fun d => all d (last m d)) (u₀ (F := F)) (sep_elim_left.trans (hu₀ (data m))) (hmain m ρ) (fq m) (hfin m)
    (fun r => (∀ (d : Dev nD) (b : Ref sig .tc), r.2.mem ((SparseCore.T d).loc b) = last m d (dr b)) ∧ r.2.sem = fun _ => 0) (fun _ h hz => ⟨h, hz⟩)
-- ==== Proof.Values.lean ====
/-
  What the program leaves, entry by entry.
-/
module

public import proofs.«01_k».proof.Proof.Main
public import Idealize.ShloMosaic.Lib.Pipeline.Value
public import Idealize.ShloMosaic.Lib.KernelVsHost

@[expose] public section

noncomputable section

namespace Cert.Proof.Values

open Idealize.ShloMosaic Cert.KernelIdeal Cert.KernelIdeal.Gen
open Idealize.ShloMosaic.StableHlo
open Cert.Proof.Deal Cert.Proof.Launch Cert.Proof.Host Cert.Proof.Main
open Cert.Proof.Stage2 (at2)

variable {F : FTy → Type} [FloatOps F] [Named F] [∀ e, Nonempty (Elt F e)]

/-! ### What no operation writes keeps its contents -/

/-- The arrays written before the first call, and by it; -/
def early : List (Ref sig .tc) :=
  [main_v0, main_v1, main_c, main_call0_v0, main_v2, main_v3, main_c_0, main_call1_v0, main_v4, main_v5, main_v6, main_v7, main_v8, main_v9, main_v10, main_v11]
/-- those written before a call of the second stage, -/
def lists : Fin 5 → List (Ref sig .tc)
  | 0 => [main_v13, main_v14, main_v15] | 1 => [main_v17, main_v18, main_v19] | 2 => [main_v21, main_v22, main_v23]
  | 3 => [main_v25, main_v26, main_v27] | 4 => [main_v29, main_v30, main_v31]
/-- and by it; -/
def out : Fin 5 → Ref sig .tc | 0 => main_v16 | 1 => main_v20 | 2 => main_v24 | 3 => main_v28 | 4 => main_v32
/-- and after the last. -/
def late : List (Ref sig .tc) := [main_v33, main_v34, main_v35]

theorem keep_A (W : Valuation τ sig (Elt F)) (r : Ref sig .tc) (h : r ∉ early) : after (opsA F) W (dr r) = W (dr r) :=
  after_of_writes_sub (opsA F) W (W := early) (by
    unfold opsA
    simp only [List.forall_cons, List.Forall, unary_writes, binary_writes, nullary_writes, reshape_writes, nary_writes]
    decide) h

theorem keep_K (W : Valuation τ sig (Elt F)) (k : Fin 5) (r : Ref sig .tc) (h : r ∉ lists k) : mid W k (dr r) = W (dr r) :=
  after_of_writes_sub (opsK F k) W (W := lists k) (by
    fin_cases k <;> (simp only [opsK, List.forall_cons, List.Forall, unary_writes]; decide)) h

theorem keep_Z (W : Valuation τ sig (Elt F)) (r : Ref sig .tc) (h : r ∉ late) : after (opsZ F) W (dr r) = W (dr r) :=
  after_of_writes_sub (opsZ F) W (W := late) (by
    unfold opsZ
    simp only [List.forall_cons, List.Forall, unary_writes, binary_writes, nullary_writes, reshape_writes, nary_writes]
    decide) h

theorem keep_start (W : Valuation τ sig (Elt F)) (r : Ref sig .tc) (h : r ∉ early) (h' : r ≠ main_v12) : start W (dr r) = W (dr r) :=
  (Function.update_of_ne (fun e => h' (Proc.devRef_injective _ e)) _ _).trans (keep_A W r h)

theorem keep_put (W : Valuation τ sig (Elt F)) (Y : Vec F S640000x27 .f32) (k : Fin 5) (r : Ref sig .tc) (h : r ≠ out k) : put W Y k (dr r) = W (dr r) := by
  fin_cases k <;> exact Function.update_of_ne (fun e => h (Proc.devRef_injective _ e)) _ _

theorem keep_step (W : Valuation τ sig (Elt F)) (k : Fin 5) (r : Ref sig .tc) (h : r ∉ lists k) (h' : r ≠ out k) : step W k (dr r) = W (dr r) :=
  (keep_put _ _ k r h').trans (keep_K W k r h)

variable (m : (ℓ : Loc nD τ sig) → Buf (Elt F) ℓ) (d : Dev nD)

/-- Nothing of the second stage writes `r`. -/
abbrev Apart (r : Ref sig .tc) : Prop := ∀ k, r ∉ lists k ∧ r ≠ out k

theorem keep_chain (r : Ref sig .tc) (h : Apart r) (i : Fin 6) : chain m d i (dr r) = start (V0 m d) (dr r) := by
  induction i using Fin.induction with
  | zero => rfl
  | succ k ih => rw [chain_succ, keep_step _ k r (h k).1 (h k).2, ih]

set_option maxRecDepth 10000 in
/-- An argument ends at what it was. -/
theorem keep_all (r : Ref sig .tc) (h : r ∉ early) (h' : r ≠ main_v12) (h2 : Apart r) (hz : r ∉ late) : last m d (dr r) = m ((SparseCore.T d).loc r) := by
  unfold last
  rw [keep_Z _ r hz, keep_chain m d r h2, keep_start _ r h h']
  rfl

/-! ### What the calls read -/

/-- The index of one coordinate. -/
def at1 {A : ℕ} (a : ℕ) (ha : a < A) : (⟨1, ![A]⟩ : Shape).Idx := fun k => match k with | ⟨0, _⟩ => ⟨a, ha⟩

/-- An entry of a row made of a column of pairs. -/
theorem row_of_column (c : ℕ) (hc : c < 2) (x : Vec F S3200000x2 .i32) (hs : S3200000x2.Slices ![0, c] S3200000x1) (y : S1x3200000.Idx) :
    shapeCast S1x3200000 (shapeCast S3200000 (extractStridedSlice S3200000x1 ![0, c] x hs) shapeCasts_S3200000x1_S3200000) shapeCasts_S3200000_S1x3200000 y
      = x (at2 (y 1).val c (y 1).isLt hc) := by
  have h0 : (y 0).val = 0 := by have := (y 0).isLt; simpa using this
  rw [shapeCast_apply _ _ y (at1 (y 1).val (y 1).isLt : S3200000.Idx) (by
      rw [Shape.rowMajor_val_one, Shape.rowMajor_val_two, h0, Nat.zero_mul, Nat.zero_add]; rfl),
    shapeCast_apply _ _ _ (at2 (y 1).val 0 (y 1).isLt (by decide) : S3200000x1.Idx) (by
      rw [Shape.rowMajor_val_one, Shape.rowMajor_val_two]
      show (y 1).val * 1 + 0 = (y 1).val
      omega),
    extractStridedSlice_apply _ _ hs _ (at2 (y 1).val c (y 1).isLt hc) (by
      intro a; fin_cases a
      · show (y 1).val = 0 + (y 1).val; omega
      · show c = c + 0; omega)]

theorem firsts (W : Valuation τ sig (Elt F)) (y : S1x3200000.Idx) :
    (after (opsA F) W (dr main_v7) : Vec F S1x3200000 .i32) y = (W (dr main_arg2) : Vec F S3200000x2 .i32) (at2 (y 1).val 0 (y 1).isLt (by decide)) := by
  rw [show (after (opsA F) W (dr main_v7) : Vec F S1x3200000 .i32)
      = shapeCast S1x3200000 (shapeCast S3200000 (extractStridedSlice S3200000x1 ![0, 0] (W (dr main_arg2) : Vec F S3200000x2 .i32) slices_S3200000x2_S3200000x1_0_0)
        shapeCasts_S3200000x1_S3200000) shapeCasts_S3200000_S1x3200000 by
    unfold opsA
    after_results_simp
    rfl]
  exact row_of_column 0 (by decide) _ _ y

theorem seconds (W : Valuation τ sig (Elt F)) (y : S1x3200000.Idx) :
    (after (opsA F) W (dr main_v10) : Vec F S1x3200000 .i32) y = (W (dr main_arg2) : Vec F S3200000x2 .i32) (at2 (y 1).val 1 (y 1).isLt (by decide)) := by
  rw [show (after (opsA F) W (dr main_v10) : Vec F S1x3200000 .i32)
      = shapeCast S1x3200000 (shapeCast S3200000 (extractStridedSlice S3200000x1 ![0, 1] (W (dr main_arg2) : Vec F S3200000x2 .i32) slices_S3200000x2_S3200000x1_0_1)
        shapeCasts_S3200000x1_S3200000) shapeCasts_S3200000_S1x3200000 by
    unfold opsA
    after_results_simp
    rfl]
  exact row_of_column 1 (by decide) _ _ y

theorem dists (W : Valuation τ sig (Elt F)) (y : S1x3200000.Idx) :
    (after (opsA F) W (dr main_v11) : Vec F S1x3200000 .f32) y = (W (dr main_arg3) : Vec F S3200000 .f32) (at1 (y 1).val (y 1).isLt) := by
  rw [show (after (opsA F) W (dr main_v11) : Vec F S1x3200000 .f32)
      = shapeCast S1x3200000 (W (dr main_arg3) : Vec F S3200000 .f32) shapeCasts_S3200000_S1x3200000 by
    unfold opsA
    after_results_simp
    rfl]
  have h0 : (y 0).val = 0 := by have := (y 0).isLt; simpa using this
  exact shapeCast_apply _ _ y (at1 (y 1).val (y 1).isLt : S3200000.Idx) (by
      rw [Shape.rowMajor_val_one, Shape.rowMajor_val_two, h0, Nat.zero_mul, Nat.zero_add]; rfl)

/-- An atom's number, padded with zeros. -/
theorem atoms (W : Valuation τ sig (Elt F)) (y : S1x100352.Idx) :
    vA (after (opsA F) W) y = if h : (y 1).val < 100000 then (W (dr main_arg0) : Vec F S100000x2 .i32) (at2 (y 1).val 1 h (by decide)) else 0#32 := by
  unfold vA
  rw [show (after (opsA F) W (dr main_v3) : Vec F S1x100352 .i32)
      = shapeCast S1x100352 (pad S100352 ![0] ![352] ![0] (shapeCast S100000 (extractStridedSlice S100000x1 ![0, 1] (W (dr main_arg0) : Vec F S100000x2 .i32) slices_S100000x2_S100000x1_0_1)
        shapeCasts_S100000x1_S100000) (constantI S_ 32 0#32) pads_S100000_S100352_03520 h_S_) shapeCasts_S100352_S1x100352 by
    unfold opsA
    after_results_simp
    rfl]
  have h0 : (y 0).val = 0 := by have := (y 0).isLt; simpa using this
  rw [shapeCast_apply _ _ y (at1 (y 1).val (y 1).isLt : S100352.Idx) (by
      rw [Shape.rowMajor_val_one, Shape.rowMajor_val_two, h0, Nat.zero_mul, Nat.zero_add]; rfl)]
  by_cases h : (y 1).val < 100000
  · rw [dif_pos h, pad_apply_of_inside _ _ _ _ _ _ _ _ (at1 (y 1).val h : S100000.Idx) (by
        intro a; fin_cases a; show (y 1).val = 0 + (y 1).val * (0 + 1); omega),
      shapeCast_apply _ _ _ (at2 (y 1).val 0 h (by decide) : S100000x1.Idx) (by
        rw [Shape.rowMajor_val_one, Shape.rowMajor_val_two]
        show (y 1).val * 1 + 0 = (y 1).val
        omega),
      extractStridedSlice_apply _ _ _ _ (at2 (y 1).val 1 h (by decide)) (by
        intro a; fin_cases a
        · show (y 1).val = 0 + (y 1).val; omega
        · show 1 = 1 + 0; omega)]
  · rw [dif_neg h, pad_apply_of_not_inside _ _ _ _ _ _ _ _ (0 : Fin 1) (by
        show ¬(0 ≤ (y 1).val ∧ ((y 1).val - 0) % (0 + 1) = 0 ∧ ((y 1).val - 0) / (0 + 1) < 100000)
        simp only [Nat.sub_zero, Nat.zero_add, Nat.div_one]
        omega)]
    rfl

/-- An entry of the table, inside it. -/
theorem table (W : Valuation τ sig (Elt F)) (a c : ℕ) (ha : a < 100) (hc : c < 12) :
    vT (after (opsA F) W) (at2 a c ha (by omega)) = (W (dr main_arg1) : Vec F S100x12 .f32) (at2 a c ha hc) := by
  unfold vT
  rw [show (after (opsA F) W (dr main_v4) : Vec F S100x16 .f32)
      = pad S100x16 ![0, 0] ![0, 4] ![0, 0] (W (dr main_arg1) : Vec F S100x12 .f32) (sitofp .f32 (constantI S_ 32 0#32)) pads_S100x12_S100x16_000_040 h_S_ by
    unfold opsA
    after_results_simp]
  exact pad_apply_of_inside _ _ _ _ _ _ _ _ (at2 a c ha hc : S100x12.Idx) (by
    intro b; fin_cases b
    · show a = 0 + a * (0 + 1); omega
    · show c = 0 + c * (0 + 1); omega)

/-! ### What each call reads -/

/-- An entry of the part of a row that a call is given. -/
theorem part_of_row {e : EltTy} (o : ℕ) (ho : o + 640000 ≤ 3200000) (x : Vec F S1x3200000 e) (hs : S1x3200000.Slices ![0, o] S1x640000) (y : S1x640000.Idx) :
    extractStridedSlice S1x640000 ![0, o] x hs y = x (at2 0 (o + (y 1).val) (by decide) (lt_of_lt_of_le (Nat.add_lt_add_left (y 1).isLt o) ho)) :=
  extractStridedSlice_apply _ _ hs _ _ (by
    intro a; fin_cases a
    · show 0 = 0 + (y 0).val; have h := (y 0).isLt; change (y 0).val < 1 at h; omega
    · rfl)

/-- The pair that entry `i` of call `k`'s lists is. -/
theorem pair_lt (k : Fin 5) {i : ℕ} (hi : i < 640000) : 640000 * k.val + i < 3200000 := by have := k.isLt; omega

theorem given_I (W : Valuation τ sig (Elt F)) (k : Fin 5) (y : S1x640000.Idx) :
    vI (mid W k) k y = (W (dr main_v7) : Vec F S1x3200000 .i32) (at2 0 (640000 * k.val + (y 1).val) (by decide) (pair_lt k (y 1).isLt)) := by
  unfold mid
  fin_cases k <;> (simp only [vI, opsK]; after_results_simp; exact part_of_row _ (by decide) _ _ y)
theorem given_J (W : Valuation τ sig (Elt F)) (k : Fin 5) (y : S1x640000.Idx) :
    vJ (mid W k) k y = (W (dr main_v10) : Vec F S1x3200000 .i32) (at2 0 (640000 * k.val + (y 1).val) (by decide) (pair_lt k (y 1).isLt)) := by
  unfold mid
  fin_cases k <;> (simp only [vJ, opsK]; after_results_simp; exact part_of_row _ (by decide) _ _ y)
theorem given_R (W : Valuation τ sig (Elt F)) (k : Fin 5) (y : S1x640000.Idx) :
    vR (mid W k) k y = (W (dr main_v11) : Vec F S1x3200000 .f32) (at2 0 (640000 * k.val + (y 1).val) (by decide) (pair_lt k (y 1).isLt)) := by
  unfold mid
  fin_cases k <;> (simp only [vR, opsK]; after_results_simp; exact part_of_row _ (by decide) _ _ y)

abbrev arg0 : Vec F S100000x2 .i32 := m ((SparseCore.T d).loc main_arg0)
abbrev arg1 : Vec F S100x12 .f32 := m ((SparseCore.T d).loc main_arg1)
abbrev arg2 : Vec F S3200000x2 .i32 := m ((SparseCore.T d).loc main_arg2)
abbrev arg3 : Vec F S3200000 .f32 := m ((SparseCore.T d).loc main_arg3)

theorem before_second (r : Ref sig .tc) (h : Apart r) (h' : r ≠ main_v12) (i : Fin 6) : chain m d i (dr r) = after (opsA F) (V0 m d) (dr r) := by
  rw [keep_chain m d r h]
  exact Function.update_of_ne (fun e => h' (Proc.devRef_injective _ e)) _ _

theorem data_I (k : Fin 5) (y : S1x640000.Idx) :
    (data m).I k d y = arg2 m d (at2 (640000 * k.val + (y 1).val) 0 (pair_lt k (y 1).isLt) (by decide)) := by
  show vI (mid (chain m d k.castSucc) k) k y = _
  rw [given_I, before_second m d main_v7 (by unfold Apart; decide) (by decide), firsts]
  rfl
theorem data_J (k : Fin 5) (y : S1x640000.Idx) :
    (data m).J k d y = arg2 m d (at2 (640000 * k.val + (y 1).val) 1 (pair_lt k (y 1).isLt) (by decide)) := by
  show vJ (mid (chain m d k.castSucc) k) k y = _
  rw [given_J, before_second m d main_v10 (by unfold Apart; decide) (by decide), seconds]
  rfl
theorem data_R (k : Fin 5) (y : S1x640000.Idx) :
    (data m).R k d y = arg3 m d (at1 (640000 * k.val + (y 1).val) (pair_lt k (y 1).isLt)) := by
  show vR (mid (chain m d k.castSucc) k) k y = _
  rw [given_R, before_second m d main_v11 (by unfold Apart; decide) (by decide), dists]
  rfl
theorem data_A (y : S1x100352.Idx) :
    (data m).A d y = if h : (y 1).val < 100000 then arg0 m d (at2 (y 1).val 1 h (by decide)) else 0#32 := atoms (V0 m d) y
theorem data_T (a c : ℕ) (ha : a < 100) (hc : c < 12) : (data m).T d (at2 a c ha (by omega)) = arg1 m d (at2 a c ha hc) := table (V0 m d) a c ha hc
theorem data_N (k : Fin 5) : (data m).N k d = Stage1.result ((data m).T d) ((data m).A d) := by
  show mid (chain m d k.castSucc) k (dr main_v12) = _
  rw [keep_K _ k main_v12 (by revert k; decide), keep_chain m d main_v12 (by unfold Apart; decide)]
  show Function.update (after (opsA F) (V0 m d)) (dr main_v12) _ (dr main_v12) = _
  rw [Function.update_self]
  rfl

/-- What is asked of the arguments: atom numbers below 100, atoms below 100000. -/
structure InRange : Prop where
  A : ∀ d x, (arg0 m d x).toNat < 100
  P : ∀ d x, (arg2 m d x).toNat < 100000

theorem ok_of_range (h : InRange m) : (data m).Ok where
  A d y := by
    rw [data_A]
    split
    · exact h.A d _
    · decide
  I k d y := by rw [data_I]; exact lt_trans (h.P d _) (by decide)
  J k d y := by rw [data_J]; exact lt_trans (h.P d _) (by decide)

/-! ### What is left -/

theorem put_self (W : Valuation τ sig (Elt F)) (Y : Vec F S640000x27 .f32) (k : Fin 5) : vO (put W Y k) k = Y := by
  fin_cases k
  · exact Function.update_self (dr main_v16) Y W
  · exact Function.update_self (dr main_v20) Y W
  · exact Function.update_self (dr main_v24) Y W
  · exact Function.update_self (dr main_v28) Y W
  · exact Function.update_self (dr main_v32) Y W

theorem out_apart : ∀ k j : Fin 5, ¬k = j → out k ∉ lists j ∧ out k ≠ out j := by decide

/-- The result of each call stays. -/
theorem out_at (k : Fin 5) (i : Fin 6) (hi : k.castSucc < i) :
    vO (chain m d i) k = Stage2.result ((data m).N k d) ((data m).I k d) ((data m).J k d) ((data m).R k d) := by
  induction i using Fin.induction with
  | zero => exact absurd hi (Fin.not_lt_zero _)
  | succ j ih =>
    rw [chain_succ]
    by_cases hk : k = j
    · subst hk
      exact put_self _ _ k
    · have hlt : k.castSucc < j.castSucc := by
        rw [Fin.lt_def] at hi ⊢
        have : k.val ≠ j.val := fun e => hk (Fin.ext e)
        simp only [Fin.val_castSucc, Fin.val_succ] at hi ⊢
        omega
      rw [← ih hlt]
      have e := keep_step (chain m d j.castSucc) j (out k) (out_apart k j hk).1 (out_apart k j hk).2
      revert e
      fin_cases k <;> exact id

/-- The calls' results, in their order. -/
abbrev pieces (W : Valuation τ sig (Elt F)) : List ((s : Shape) × (s.Idx → F .f32)) :=
  [⟨S640000x27, vO W 0⟩, ⟨S640000x27, vO W 1⟩, ⟨S640000x27, vO W 2⟩, ⟨S640000x27, vO W 3⟩, ⟨S640000x27, vO W 4⟩]

theorem left_joined (W : Valuation τ sig (Elt F)) : (after (opsZ F) W (dr main_v33) : Vec F S3200000x27 .f32)
    = concatenate S3200000x27 0 (pieces W) concatenates_S640000x27_S640000x27_S640000x27_S640000x27_S640000x27_S3200000x27_d0 := by
  unfold opsZ
  after_results_simp
  rfl

theorem length_of_pieces (W : Valuation τ sig (Elt F)) : (pieces W).length = 5 := rfl

/-- Row `p` of the whole is row `p % 640000` of call `p / 640000`. -/
theorem joined (W : Valuation τ sig (Elt F)) (x : S3200000x27.Idx) (k : Fin 5) (i : ℕ) (hi : i < 640000) (hx : (x 0).val = 640000 * k.val + i) :
    (after (opsZ F) W (dr main_v33) : Vec F S3200000x27 .f32) x = vO W k (at2 i (x 1).val hi (x 1).isLt) := by
  rw [left_joined]
  have hl : ∀ b : Fin 2, b.cast rfl ≠ (0 : Fin 2) → ((at2 i (x 1).val hi (x 1).isLt : S640000x27.Idx) b).val = (x b).val := by
    intro b hb; fin_cases b
    · exact absurd rfl hb
    · rfl
  have hp : ∀ k : Fin 5, (pieces W)[k.val]'(by rw [length_of_pieces]; exact k.isLt) = ⟨S640000x27, vO W k⟩ := by
    intro k; fin_cases k <;> rfl
  have hs : ∀ k : Fin 5, ((((pieces W).take k.val).map (·.1)).map fun s => if h : s.rank = S3200000x27.rank then s.size ((0 : Fin 2).cast h.symm) else 0).sum = 640000 * k.val := by
    intro k; fin_cases k <;> simp [pieces]
  exact concatenate_apply_piece (t := S3200000x27) (0 : Fin 2) (pieces W) _ x k.val (by rw [length_of_pieces]; exact k.isLt) S640000x27 (vO W k) (hp k) rfl (640000 * k.val) (hs k)
    (at2 i (x 1).val hi (x 1).isLt) hl hx.symm

/-- The first result's entries. -/
theorem rows_left (x : S3200000x27.Idx) :
    (last m d (dr main_v33) : Vec F S3200000x27 .f32) x
      = Stage2.cell (Stage1.result ((data m).T d) ((data m).A d)) (arg2 m d (at2 (x 0).val 0 (x 0).isLt (by decide))) (arg2 m d (at2 (x 0).val 1 (x 0).isLt (by decide)))
        (arg3 m d (at1 (x 0).val (x 0).isLt)) (x 1).val := by
  have hx : (x 0).val < 3200000 := (x 0).isLt
  have e : 640000 * ((x 0).val / 640000) + (x 0).val % 640000 = (x 0).val := Nat.div_add_mod ..
  have hk : (x 0).val / 640000 < 5 := by omega
  unfold last
  rw [joined (chain m d 5) x ⟨(x 0).val / 640000, hk⟩ ((x 0).val % 640000) (Nat.mod_lt _ (by decide)) e.symm, out_at m d _ 5 (by
    rw [Fin.lt_def]; exact hk)]
  unfold Stage2.result
  rw [data_N, data_I, data_J, data_R]
  have h2 : ∀ (c : ℕ) (hc : c < 2) (h : 640000 * ((x 0).val / 640000) + (x 0).val % 640000 < 3200000),
      (at2 (640000 * ((x 0).val / 640000) + (x 0).val % 640000) c h hc : S3200000x2.Idx) = at2 (x 0).val c (x 0).isLt hc := by
    intro c hc h; revert h; rw [e]; intro _; rfl
  have h1 : ∀ (h : 640000 * ((x 0).val / 640000) + (x 0).val % 640000 < 3200000),
      (at1 (640000 * ((x 0).val / 640000) + (x 0).val % 640000) h : S3200000.Idx) = at1 (x 0).val (x 0).isLt := by
    intro h; revert h; rw [e]; intro _; rfl
  exact congr (congr (congr (congrArg _ (congrArg _ (h2 0 _ _))) (congrArg _ (h2 1 _ _))) (congrArg _ (h1 _))) rfl

/-- The second result's. -/
theorem firsts_left (y : S3200000.Idx) :
    (last m d (dr main_v35) : Vec F S3200000 .i32) y = arg2 m d (at2 (y 0).val 0 (y 0).isLt (by decide)) := by
  unfold last
  rw [show (after (opsZ F) (chain m d 5) (dr main_v35) : Vec F S3200000 .i32)
      = shapeCast S3200000 (extractStridedSlice S3200000x1 ![0, 0] (chain m d 5 (dr main_arg2) : Vec F S3200000x2 .i32) slices_S3200000x2_S3200000x1_0_0) shapeCasts_S3200000x1_S3200000 by
    unfold opsZ
    after_results_simp
    rfl,
    shapeCast_apply _ _ _ (at2 (y 0).val 0 (y 0).isLt (by decide) : S3200000x1.Idx) (by
      rw [Shape.rowMajor_val_one, Shape.rowMajor_val_two]
      show (y 0).val * 1 + 0 = (y 0).val
      omega)]
  refine (extractStridedSlice_apply _ _ slices_S3200000x2_S3200000x1_0_0 _ (at2 (y 0).val 0 (y 0).isLt (by decide)) (by
      intro a; fin_cases a
      · show (y 0).val = 0 + (y 0).val; omega
      · rfl)).trans ?_
  rw [keep_chain m d main_arg2 (by unfold Apart; decide), keep_start _ main_arg2 (by decide) (by decide)]
  rfl

/-- An atom's feature, in the table. -/
theorem feature_of (h : InRange m) (a : BitVec 32) (ha : a.toNat < 100000) (c : ℕ) (hc : c < 12) :
    Stage2.feature (Stage1.result ((data m).T d) ((data m).A d)) a c
      = arg1 m d (at2 (arg0 m d (at2 a.toNat 1 ha (by decide))).toNat c (h.A d _) hc) := by
  unfold Stage2.feature Stage1.result
  have hA : (data m).A d (Stage1.atomOf (at2 (a.toNat % 100352) (c % 16) (Nat.mod_lt _ (by decide)) (Nat.mod_lt _ (by decide)))) = arg0 m d (at2 a.toNat 1 ha (by decide)) := by
    rw [data_A]
    have e : a.toNat % 100352 = a.toNat := Nat.mod_eq_of_lt (by omega)
    have hlt : a.toNat % 100352 < 100000 := by omega
    rw [dif_pos (show ((Stage1.atomOf (at2 (a.toNat % 100352) (c % 16) (Nat.mod_lt _ (by decide)) (Nat.mod_lt _ (by decide)))) 1).val < 100000 from hlt)]
    refine congrArg _ (funext fun b => ?_)
    fin_cases b
    · exact Fin.ext e
    · rfl
  rw [hA]
  unfold Stage1.entry
  rw [← data_T m d _ c (h.A d _) hc]
  refine congrArg _ (funext fun b => ?_)
  fin_cases b
  · exact Fin.ext (Nat.mod_eq_of_lt (h.A d _))
  · refine Fin.ext ?_
    show (c % 16) % 16 = c
    omega
-- ==== Proof.Pre.lean ====
/-
  What the preconditions say of the arguments.
-/
module

public import proofs.«01_k».proof.Pre_in_range
public import proofs.«01_k».proof.Pre_apart
public import Idealize.ShloMosaic.Lib.ReduceAll
public import Idealize.ShloMosaic.PureOps.Ideal
public import Idealize.ShloMosaic.PureOps.BitExact

@[expose] public section

noncomputable section

namespace Cert.Proof.Pre

open Idealize.ShloMosaic

instance in_range_facts : Cert.Pre_in_range.Facts where
  bcast_S_S100000x2 := by decide
  reducesTo_S100000x2_S_d0_1 := by decide
  h_S_ := by decide
  bcast_S_S3200000x2 := by decide
  reducesTo_S3200000x2_S_d0_1 := by decide

instance apart_facts : Cert.Pre_apart.Facts where
  bcast_S_S100000x2 := by decide
  reducesTo_S100000x2_S_d0_1 := by decide
  h_S_ := by decide
  bcast_S_S3200000x2 := by decide
  reducesTo_S3200000x2_S_d0_1 := by decide
  bcast_S_S3200000 := by decide
  reducesTo_S3200000_S_d0 := by decide

theorem both_one {a b : BitVec 1} (h : IntOp.andi a b = 1#1) : a = 1#1 ∧ b = 1#1 := by
  revert a b; decide

instance : Subsingleton Cert.Pre_in_range.S_.Idx := ⟨fun _ _ => funext fun i => i.elim0⟩
instance : Subsingleton Cert.Pre_apart.S_.Idx := ⟨fun _ _ => funext fun i => i.elim0⟩

/-- A word at least zero and below `n`, both as signed, is below `n`. -/
theorem below {v : BitVec 32} {n : ℕ} (hn : n < 2 ^ 31) (h0 : IntOp.cmpi .sge v 0#32 = 1#1) (h1 : IntOp.cmpi .slt v (BitVec.ofNat 32 n) = 1#1) : v.toNat < n := by
  have a := IntOp.cmpi_sge.1 h0
  have b := IntOp.cmpi_slt.1 h1
  rw [BitVec.toInt_ofNat'] at a b
  rw [BitVec.toInt_eq_toNat_cond] at a b
  have l := v.isLt
  have e : (n % 2 ^ 32) = n := Nat.mod_eq_of_lt (by omega)
  simp only [Int.bmod, e] at a b
  split at b <;> omega

variable {F : FTy → Type} [FloatOps F] (a0 : IVec Cert.Pre_in_range.S100000x2 32) (a1 : FVec F Cert.Pre_in_range.S100x12 .f32)
  (a2 : IVec Cert.Pre_in_range.S3200000x2 32) (a3 : FVec F Cert.Pre_in_range.S3200000 .f32)

theorem of_in_range (h : Cert.Pre_in_range.fn a0 a1 a2 a3 = fun _ => 1#1) : (∀ x, (a0 x).toNat < 100) ∧ ∀ x, (a2 x).toNat < 100000 := by
  have e := congrFun h default
  simp only [Cert.Pre_in_range.fn, andi] at e
  obtain ⟨e, h4⟩ := both_one e
  obtain ⟨e, h3⟩ := both_one e
  obtain ⟨h1, h2⟩ := both_one e
  exact ⟨fun x => below (by decide) (Host.reduce_andi_all _ _ _ _ _ h1 x) (Host.reduce_andi_all _ _ _ _ _ h2 x),
    fun x => below (by decide) (Host.reduce_andi_all _ _ _ _ _ h3 x) (Host.reduce_andi_all _ _ _ _ _ h4 x)⟩

theorem range_of_apart (h : Cert.Pre_apart.fn a0 a1 a2 a3 = fun _ => 1#1) : Cert.Pre_in_range.fn a0 a1 a2 a3 = fun _ => 1#1 := by
  funext j
  exact (both_one (congrFun h j)).1

theorem une_of_apart (h : Cert.Pre_apart.fn a0 a1 a2 a3 = fun _ => 1#1) (x : Cert.Pre_in_range.S3200000.Idx) :
    FloatOps.cmpf .une (a3 x) (Scalar.ofBits .f32 0x00000000#32 : F .f32) = 1#1 :=
  Host.reduce_andi_all _ _ _ _ _ (both_one (congrFun h default)).2 x
-- ==== Proof.Frames.lean ====
/-
  The frames of the kernel: over any numbers, then over words and over the extended reals.
-/
module

public import proofs.«01_k».proof.Defs
public import proofs.«01_k».proof.Proof.Values
public import proofs.«01_k».proof.Proof.Pre

@[expose] public section

noncomputable section

namespace Cert.Proof.Frames

open Idealize.ShloMosaic Cert.KernelIdeal Cert.KernelIdeal.Gen
open Cert.Proof.Host Cert.Proof.Main Cert.Proof.Values

variable {F : FTy → Type} [FloatOps F] [Named F] [∀ e, Nonempty (Elt F e)]
variable (m : (ℓ : Loc nD τ sig) → Buf (Elt F) ℓ) (ρ : Dev nD → PrngReg)

theorem kept (d : Dev nD) : last m d (dr main_arg0) = m ((SparseCore.T d).loc main_arg0)
    ∧ last m d (dr main_arg1) = m ((SparseCore.T d).loc main_arg1)
    ∧ last m d (dr main_arg2) = m ((SparseCore.T d).loc main_arg2)
    ∧ last m d (dr main_arg3) = m ((SparseCore.T d).loc main_arg3) :=
  ⟨keep_all m d _ (by decide) (by decide) (by unfold Apart; decide) (by decide),
    keep_all m d _ (by decide) (by decide) (by unfold Apart; decide) (by decide),
    keep_all m d _ (by decide) (by decide) (by unfold Apart; decide) (by decide),
    keep_all m d _ (by decide) (by decide) (by unfold Apart; decide) (by decide)⟩

/-- The arguments keep their contents and every counter ends at zero. -/
theorem frame (h : InRange m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run _ _ _).mono (fun r hr => ⟨fun c => ?_, hr.2⟩) (run_main m ρ (ok_of_range m h))
  obtain ⟨h0, h1, h2, h3⟩ := kept m c
  exact ⟨(hr.1 c main_arg0).trans h0, (hr.1 c main_arg1).trans h1, (hr.1 c main_arg2).trans h2, (hr.1 c main_arg3).trans h3⟩

theorem range_of (h : ∀ c : Dev nD, Cert.Pre_in_range.fn (m ((c.tc : Thread nD τ).loc main_arg0)) (m ((c.tc : Thread nD τ).loc main_arg1))
    (m ((c.tc : Thread nD τ).loc main_arg2)) (m ((c.tc : Thread nD τ).loc main_arg3)) = fun _ => 1#1) : InRange m where
  A d x := (Pre.of_in_range _ _ _ _ (h d)).1 x
  P d x := (Pre.of_in_range _ _ _ _ (h d)).2 x

theorem frame_ideal : Cert.quiescent_KernelIdeal := fun m g h => frame m g (range_of m h)

theorem frame_apart : Cert.quiescent_KernelIdeal_pre_apart := fun m g h =>
  frame m g (range_of m fun c => Pre.range_of_apart _ _ _ _ (h c))

end Cert.Proof.Frames
-- ==== Proof.Words.lean ====
/-
  The frame of the kernel over words: the program printed for words is the program printed for the
  extended reals, read at words with a named constant the word it stands for.
-/
module

public import proofs.«01_k».proof.Proof.Frames
public import proofs.«01_k».proof.Proof.Gen.Kernel

@[expose] public section

set_option maxRecDepth 100000
set_option maxHeartbeats 4000000

noncomputable section

namespace Cert.Proof.Words

open Idealize.ShloMosaic Cert.Kernel.Gen Cert.KernelIdeal.Gen

/-- A named constant over words is the word as it is printed. -/
instance named_bits : Named Bits where
  named _ _ {φ} bits := FloatOps.ofBits φ bits

/-! ### The tiles' programs -/

theorem same_stage1 : Cert.Kernel.cc0_stage1 (F := Bits) = Cert.KernelIdeal.cc0_stage1 (F := Bits) := rfl

/-- The second kernel; its other calls run the same program. -/
theorem same_stage2 : Cert.Kernel.cc1_stage2 (F := Bits) = Cert.KernelIdeal.cc1_stage2 (F := Bits) := rfl

theorem fold_2 : Cert.Kernel.cc2_stage2 (F := Bits) = Cert.Kernel.cc1_stage2 (F := Bits) := rfl
theorem fold_3 : Cert.Kernel.cc3_stage2 (F := Bits) = Cert.Kernel.cc1_stage2 (F := Bits) := rfl
theorem fold_4 : Cert.Kernel.cc4_stage2 (F := Bits) = Cert.Kernel.cc1_stage2 (F := Bits) := rfl
theorem fold_5 : Cert.Kernel.cc5_stage2 (F := Bits) = Cert.Kernel.cc1_stage2 (F := Bits) := rfl

theorem same_2 : Cert.Kernel.cc2_stage2 (F := Bits) = Cert.KernelIdeal.cc2_stage2 (F := Bits) :=
  fold_2.trans (same_stage2.trans (congrFun (Launch.fold_2 (F := Bits)) Cert.KernelIdeal.Gen.facts).symm)
theorem same_3 : Cert.Kernel.cc3_stage2 (F := Bits) = Cert.KernelIdeal.cc3_stage2 (F := Bits) :=
  fold_3.trans (same_stage2.trans (congrFun (Launch.fold_3 (F := Bits)) Cert.KernelIdeal.Gen.facts).symm)
theorem same_4 : Cert.Kernel.cc4_stage2 (F := Bits) = Cert.KernelIdeal.cc4_stage2 (F := Bits) :=
  fold_4.trans (same_stage2.trans (congrFun (Launch.fold_4 (F := Bits)) Cert.KernelIdeal.Gen.facts).symm)
theorem same_5 : Cert.Kernel.cc5_stage2 (F := Bits) = Cert.KernelIdeal.cc5_stage2 (F := Bits) :=
  fold_5.trans (same_stage2.trans (congrFun (Launch.fold_5 (F := Bits)) Cert.KernelIdeal.Gen.facts).symm)

/-! ### The tables of bodies and the threads -/

theorem same_bodies : Cert.Kernel.defs₀ (F := Bits) = Cert.KernelIdeal.defs₀ (F := Bits) := by
  funext p l a
  cases p
  · rfl
  · rfl
  · unfold Cert.Kernel.defs₀
    dsimp only
    rw [same_stage1, same_stage2, same_2, same_3, same_4, same_5]
    rfl

theorem same_defs : Cert.Kernel.defs (F := Bits) = Cert.KernelIdeal.defs (F := Bits) := by
  unfold Cert.Kernel.defs
  rw [same_bodies]
  rfl

theorem same_threads : Cert.Kernel.threads (F := Bits) = Cert.KernelIdeal.threads (F := Bits) := rfl

/-! ### The frame -/

theorem frame_words : Cert.quiescent_Kernel := fun m g h => by
  rw [same_defs, same_threads]
  exact Frames.frame (F := Bits) m g (Frames.range_of m h)

end Cert.Proof.Words
-- ==== Proof.Ref.lean ====
/-
  The reference's run: a straight line of host operations, and what it leaves.
-/
module

public import proofs.«01_k».proof.Defs
public import Idealize.ShloMosaic.Lib.StableHlo.Run
public import Idealize.ShloMosaic.Lib.Quiescent
public import proofs.«01_k».proof.Proof.Gen.ReferenceIdeal
public import proofs.«01_k».proof.Proof.Pre

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- The operations that read the atoms’ numbers; -/
abbrev opsA : List (HloOp τ sig (Elt F)) :=
  [ nullary main_c (constantI S_ 32 0#32),
    unary main_c main_v0 (broadcastInDim S3200000x2 ![] bcast_S_S3200000x2 : (⟨S_, .i32⟩ : BufTy).Contents (Elt F) → (⟨S3200000x2, .i32⟩ : BufTy).Contents (Elt F)),
    binary main_arg2 main_v0 main_v1 (cmpi .slt : (⟨S3200000x2, .i32⟩ : BufTy).Contents (Elt F) → (⟨S3200000x2, .i32⟩ : BufTy).Contents (Elt F) → (⟨S3200000x2, .i1⟩ : BufTy).Contents (Elt F)),
    nullary main_c_0 (constantI S_ 32 100000#32),
    unary main_c_0 main_v2 (broadcastInDim S3200000x2 ![] bcast_S_S3200000x2 : (⟨S_, .i32⟩ : BufTy).Contents (Elt F) → (⟨S3200000x2, .i32⟩ : BufTy).Contents (Elt F)),
    binary main_arg2 main_v2 main_v3 (addi : (⟨S3200000x2, .i32⟩ : BufTy).Contents (Elt F) → (⟨S3200000x2, .i32⟩ : BufTy).Contents (Elt F) → (⟨S3200000x2, .i32⟩ : BufTy).Contents (Elt F)),
    ternary main_v1 main_v3 main_arg2 main_v4 (select : (⟨S3200000x2, .i1⟩ : BufTy).Contents (Elt F) → (⟨S3200000x2, .i32⟩ : BufTy).Contents (Elt F) → (⟨S3200000x2, .i32⟩ : BufTy).Contents (Elt F) → (⟨S3200000x2, .i32⟩ : BufTy).Contents (Elt F)),
    nullary main_c_1 (constantI S_ 32 1#32),
    unary main_c_1 main_v5 (broadcastInDim S3200000x2 ![] bcast_S_S3200000x2 : (⟨S_, .i32⟩ : BufTy).Contents (Elt F) → (⟨S3200000x2, .i32⟩ : BufTy).Contents (Elt F)),
    unary main_v5 main_v6 (id : (⟨S3200000x2, .i32⟩ : BufTy).Contents (Elt F) → (⟨S3200000x2, .i32⟩ : BufTy).Contents (Elt F)),
    unary main_v4 main_v7 (broadcastInDim S3200000x2x1 ![0, 1] bcast_S3200000x2_S3200000x2x1_0_1 : (⟨S3200000x2, .i32⟩ : BufTy).Contents (Elt F) → (⟨S3200000x2x1, .i32⟩ : BufTy).Contents (Elt F)),
    unary main_v6 main_v8 (broadcastInDim S3200000x2x1 ![0, 1] bcast_S3200000x2_S3200000x2x1_0_1 : (⟨S3200000x2, .i32⟩ : BufTy).Contents (Elt F) → (⟨S3200000x2x1, .i32⟩ : BufTy).Contents (Elt F)),
    binary main_v7 main_v8 main_v9 ((fun a b => concatenate S3200000x2x2 2 [⟨S3200000x2x1, a⟩, ⟨S3200000x2x1, b⟩] concatenates_S3200000x2x1_S3200000x2x1_S3200000x2x2_d2) : (⟨S3200000x2x1, .i32⟩ : BufTy).Contents (Elt F) → (⟨S3200000x2x1, .i32⟩ : BufTy).Contents (Elt F) → (⟨S3200000x2x2, .i32⟩ : BufTy).Contents (Elt F)),
    binary main_arg0 main_v9 main_v10 ((fun x i => Host.gather gather_S100000x2_S3200000x2x2_S3200000x2_n_01_n_n_01_2_11 x i) : (⟨S100000x2, .i32⟩ : BufTy).Contents (Elt F) → (⟨S3200000x2x2, .i32⟩ : BufTy).Contents (Elt F) → (⟨S3200000x2, .i32⟩ : BufTy).Contents (Elt F)) ]

/-- those of the take; -/
abbrev opsT : List (HloOp τ sig (Elt F)) :=
  [ TRef.nullary main_call0.c (constantI S_ 32 0#32),
    TRef.unary main_call0.c main_call0.v0 (broadcastInDim S3200000x2 ![] bcast_S_S3200000x2),
    TRef.binary (.of main_v10) main_call0.v0 main_call0.v1 (cmpi .slt),
    TRef.nullary main_call0.c_0 (constantI S_ 32 100#32),
    TRef.unary main_call0.c_0 main_call0.v2 (broadcastInDim S3200000x2 ![] bcast_S_S3200000x2),
    TRef.binary (.of main_v10) main_call0.v2 main_call0.v3 addi,
    TRef.ternary main_call0.v1 main_call0.v3 (.of main_v10) main_call0.call0.v0 select,
    TRef.unary main_call0.call0.v0 main_call0.v5 (broadcastInDim S3200000x2x1 ![0, 1] bcast_S3200000x2_S3200000x2x1_0_1),
    TRef.nullary main_call0.c_1 (constantI S1 32 99#32),
    TRef.nullary main_call0.c_2 (constantI S_ 32 0#32),
    TRef.unary main_call0.c_2 main_call0.v6 (broadcastInDim S3200000x2x1 ![] bcast_S_S3200000x2x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S3200000x2x1 ![0, 1, 2] bcast_S1x1x1_S3200000x2x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S3200000x2x1_S3200000x2_d2 h_S_),
    TRef.binary (.of main_arg1) main_call0.v5 main_call0.v13 (fun x i => Host.gather gather_S100x12_S3200000x2x1_S3200000x2x12_2_0_n_n_0_2_112 x i),
    TRef.unary main_call0.v12 main_call0.v14 (broadcastInDim S3200000x2x12 ![0, 1] bcast_S3200000x2_S3200000x2x12_0_1),
    TRef.nullary main_call0.cst (constant S_ .f32 0x7FC00000#32),
    TRef.unary main_call0.cst main_call0.v15 (broadcastInDim S3200000x2x12 ![] bcast_S_S3200000x2x12),
    TRef.ternary main_call0.v14 main_call0.v13 main_call0.v15 main_call0.v16 select ]

/-- those that compute the pieces of a row; -/
abbrev opsB : List (HloOp τ sig (Elt F)) :=
  [ unary main_arg3 main_v12 (broadcastInDim S3200000x1 ![0] bcast_S3200000_S3200000x1_0 : (⟨S3200000, .f32⟩ : BufTy).Contents (Elt F) → (⟨S3200000x1, .f32⟩ : BufTy).Contents (Elt F)),
    unary main_v11 main_v13 ((extractStridedSlice S3200000x1x12 ![0, 1, 0] · slices_S3200000x2x12_S3200000x1x12_0_1_0) : (⟨S3200000x2x12, .f32⟩ : BufTy).Contents (Elt F) → (⟨S3200000x1x12, .f32⟩ : BufTy).Contents (Elt F)),
    reshape main_v13 main_v14 (rfl : (.f32 : EltTy) = .f32) shapeCasts_S3200000x1x12_S3200000x12,
    unary main_v12 main_v15 (broadcastInDim S3200000x12 ![0, 1] bcast_S3200000x1_S3200000x12_0_1 : (⟨S3200000x1, .f32⟩ : BufTy).Contents (Elt F) → (⟨S3200000x12, .f32⟩ : BufTy).Contents (Elt F)),
    binary main_v14 main_v15 main_v16 (Host.divf : (⟨S3200000x12, .f32⟩ : BufTy).Contents (Elt F) → (⟨S3200000x12, .f32⟩ : BufTy).Contents (Elt F) → (⟨S3200000x12, .f32⟩ : BufTy).Contents (Elt F)),
    nullary main_c_2 (constantI S_ 32 1#32),
    unary main_c_2 main_v17 (broadcastInDim S1 ![] bcast_S_S1 : (⟨S_, .i32⟩ : BufTy).Contents (Elt F) → (⟨S1, .i32⟩ : BufTy).Contents (Elt F)),
    ternary main_v11 main_v17 main_v16 main_v18 ((fun x i u => Host.scatter scatter_S3200000x2x12_S1_S3200000x12_01_1_1_0 (fun _ b => b) x i u) : (⟨S3200000x2x12, .f32⟩ : BufTy).Contents (Elt F) → (⟨S1, .i32⟩ : BufTy).Contents (Elt F) → (⟨S3200000x12, .f32⟩ : BufTy).Contents (Elt F) → (⟨S3200000x2x12, .f32⟩ : BufTy).Contents (Elt F)),
    reshape main_v18 main_v19 (rfl : (.f32 : EltTy) = .f32) shapeCasts_S3200000x2x12_S3200000x24,
    binary main_v12 main_v12 main_v20 (mulf : (⟨S3200000x1, .f32⟩ : BufTy).Contents (Elt F) → (⟨S3200000x1, .f32⟩ : BufTy).Contents (Elt F) → (⟨S3200000x1, .f32⟩ : BufTy).Contents (Elt F)),
    nullary main_cst (constant S_ .f32 0x40A00000#32),
    unary main_cst main_v21 (broadcastInDim S3200000x1 ![] bcast_S_S3200000x1 : (⟨S_, .f32⟩ : BufTy).Contents (Elt F) → (⟨S3200000x1, .f32⟩ : BufTy).Contents (Elt F)),
    binary main_v20 main_v21 main_v22 (Host.divf : (⟨S3200000x1, .f32⟩ : BufTy).Contents (Elt F) → (⟨S3200000x1, .f32⟩ : BufTy).Contents (Elt F) → (⟨S3200000x1, .f32⟩ : BufTy).Contents (Elt F)),
    nullary main_cst_3 (constant S_ .f32 0x40A00000#32),
    unary main_cst_3 main_v23 (broadcastInDim S3200000x1 ![] bcast_S_S3200000x1 : (⟨S_, .f32⟩ : BufTy).Contents (Elt F) → (⟨S3200000x1, .f32⟩ : BufTy).Contents (Elt F)),
    binary main_v23 main_v12 main_v24 (Host.divf : (⟨S3200000x1, .f32⟩ : BufTy).Contents (Elt F) → (⟨S3200000x1, .f32⟩ : BufTy).Contents (Elt F) → (⟨S3200000x1, .f32⟩ : BufTy).Contents (Elt F)) ]

/-- and those that join them, and the second result. -/
abbrev opsC : List (HloOp τ sig (Elt F)) :=
  [ nary ![main_v12, main_v19, main_v22, main_v24] main_v25 (fun u => (concatenate S3200000x27 1 [⟨S3200000x1, (u 0 : (⟨S3200000x1, .f32⟩ : BufTy).Contents (Elt F))⟩, ⟨S3200000x24, (u 1 : (⟨S3200000x24, .f32⟩ : BufTy).Contents (Elt F))⟩, ⟨S3200000x1, (u 2 : (⟨S3200000x1, .f32⟩ : BufTy).Contents (Elt F))⟩, ⟨S3200000x1, (u 3 : (⟨S3200000x1, .f32⟩ : BufTy).Contents (Elt F))⟩] concatenates_S3200000x1_S3200000x24_S3200000x1_S3200000x1_S3200000x27_d1 : (⟨S3200000x27, .f32⟩ : BufTy).Contents (Elt F))),
    unary main_arg2 main_v26 ((extractStridedSlice S3200000x1 ![0, 0] · slices_S3200000x2_S3200000x1_0_0) : (⟨S3200000x2, .i32⟩ : BufTy).Contents (Elt F) → (⟨S3200000x1, .i32⟩ : BufTy).Contents (Elt F)),
    reshape main_v26 main_v27 (rfl : (.i32 : EltTy) = .i32) shapeCasts_S3200000x1_S3200000 ]

/-- The operations of the reference, in order. -/
abbrev ops : List (HloOp τ sig (Elt F)) := opsA ++ (opsT ++ (opsB ++ opsC))

set_option maxRecDepth 4096 in
theorem main_eq (c : Dev nD) : main (F := F) c = seq ops := by
  simp only [main, fn_take.body, fn_where.body, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    nullary_bufs_sub .., unary_bufs_sub .., unary_bufs_sub .., unary_bufs_sub .., unary_bufs_sub .., binary_bufs_sub .., binary_bufs_sub ..,
    nullary_bufs_sub .., unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub .., nullary_bufs_sub ..,
    unary_bufs_sub .., ternary_bufs_sub .., unary_bufs_sub .., unary_bufs_sub .., reshape_bufs_sub .., unary_bufs_sub .., binary_bufs_sub ..,
    nullary_bufs_sub .., unary_bufs_sub .., ternary_bufs_sub .., reshape_bufs_sub .., binary_bufs_sub .., nullary_bufs_sub .., unary_bufs_sub ..,
    binary_bufs_sub .., nullary_bufs_sub .., unary_bufs_sub .., binary_bufs_sub .., nary_bufs_sub .., unary_bufs_sub .., reshape_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem arg_kept (V : Valuation τ sig (Elt F)) : after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig) := by
  simp only [after_cons, after_nil, List.cons_append, List.nil_append]
  exact ⟨rfl, rfl, rfl, rfl⟩

/-- The arguments keep their contents and every counter ends at zero. -/
theorem frame (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run _ _ _).mono (fun r hr => ⟨fun c => ?_, sem_eq_zero_of_no_sems (by decide) r.2⟩) (run_main m ρ)
  obtain ⟨h0, h1, h2, h3⟩ := arg_kept (launchContents m c)
  exact ⟨(hr c main_arg0).trans h0, (hr c main_arg1).trans h1, (hr c main_arg2).trans h2, (hr c main_arg3).trans h3⟩

theorem frame_plain : Cert.quiescent_ReferenceIdeal := fun m g _ => frame m g

theorem frame_apart : Cert.quiescent_ReferenceIdeal_pre_apart (hPre_apart := Pre.apart_facts) := fun m g _ => frame m g

/-! ### The results -/

/-- An array's rank-two index, wrapped: a negative word counts from `n`. -/
def wrap (n : BitVec 32) (P : IVec S3200000x2 32) : IVec S3200000x2 32 :=
  select (cmpi .slt P (broadcastInDim S3200000x2 ![] bcast_S_S3200000x2 (constantI S_ 32 0#32)))
    (addi P (broadcastInDim S3200000x2 ![] bcast_S_S3200000x2 (constantI S_ 32 n))) P

/-- The places read of the first array: a row and column one. -/
def pairs (P : IVec S3200000x2 32) : IVec S3200000x2x2 32 :=
  concatenate S3200000x2x2 2 [⟨S3200000x2x1, broadcastInDim S3200000x2x1 ![0, 1] bcast_S3200000x2_S3200000x2x1_0_1 (wrap 100000#32 P)⟩,
    ⟨S3200000x2x1, broadcastInDim S3200000x2x1 ![0, 1] bcast_S3200000x2_S3200000x2x1_0_1
      (broadcastInDim S3200000x2 ![] bcast_S_S3200000x2 (constantI S_ 32 1#32))⟩] concatenates_S3200000x2x1_S3200000x2x1_S3200000x2x2_d2

def nums (A : IVec S100000x2 32) (P : IVec S3200000x2 32) : IVec S3200000x2 32 :=
  Host.gather gather_S100000x2_S3200000x2x2_S3200000x2_n_01_n_n_01_2_11 A (pairs P)

/-- The rows' indices of a take, as a column. -/
def rows (N : IVec S3200000x2 32) : IVec S3200000x2x1 32 := broadcastInDim S3200000x2x1 ![0, 1] bcast_S3200000x2_S3200000x2x1_0_1 (wrap 100#32 N)

/-- Which of a take's indices are inside the table. -/
def inside (N : IVec S3200000x2 32) : IVec S3200000x2 1 :=
  Host.reduce IntOp.andi
    (andi (cmpi .sge (rows N) (broadcastInDim S3200000x2x1 ![] bcast_S_S3200000x2x1 (constantI S_ 32 0#32)))
      (cmpi .sle (rows N) (broadcastInDim S3200000x2x1 ![0, 1, 2] bcast_S1x1x1_S3200000x2x1_0_1_2 (broadcastInDim S1x1x1 ![2] bcast_S1_S1x1x1_2 (constantI S1 32 99#32)))))
    (constantI S_ 1 1#1) reducesTo_S3200000x2x1_S3200000x2_d2 h_S_

/-- The take: a table's row per index, and a number that is none where the index is outside. -/
def taken (T : FVec F S100x12 .f32) (N : IVec S3200000x2 32) : FVec F S3200000x2x12 .f32 :=
  select (broadcastInDim S3200000x2x12 ![0, 1] bcast_S3200000x2_S3200000x2x12_0_1 (inside N))
    (Host.gather gather_S100x12_S3200000x2x1_S3200000x2x12_2_0_n_n_0_2_112 T (rows N))
    (broadcastInDim S3200000x2x12 ![] bcast_S_S3200000x2x12 (constant S_ .f32 0x7FC00000#32))

/-- The distances as a column. -/
def dist (D : FVec F S3200000 .f32) : FVec F S3200000x1 .f32 := broadcastInDim S3200000x1 ![0] bcast_S3200000_S3200000x1_0 D

/-- The second neighbour's features over the distance. -/
def quotient (N : FVec F S3200000x2x12 .f32) (D : FVec F S3200000 .f32) : FVec F S3200000x12 .f32 :=
  Host.divf (shapeCast S3200000x12 (extractStridedSlice S3200000x1x12 ![0, 1, 0] N slices_S3200000x2x12_S3200000x1x12_0_1_0) shapeCasts_S3200000x1x12_S3200000x12)
    (broadcastInDim S3200000x12 ![0, 1] bcast_S3200000x1_S3200000x12_0_1 (dist D))

/-- Both neighbours' features, the second's replaced. -/
def replaced (N : FVec F S3200000x2x12 .f32) (U : FVec F S3200000x12 .f32) : FVec F S3200000x2x12 .f32 :=
  Host.scatter scatter_S3200000x2x12_S1_S3200000x12_01_1_1_0 (fun _ b => b) N (broadcastInDim S1 ![] bcast_S_S1 (constantI S_ 32 1#32)) U

def five : FVec F S3200000x1 .f32 := broadcastInDim S3200000x1 ![] bcast_S_S3200000x1 (constant S_ .f32 0x40A00000#32)

def joined (a : FVec F S3200000x1 .f32) (b : FVec F S3200000x24 .f32) (c d : FVec F S3200000x1 .f32) : FVec F S3200000x27 .f32 :=
  concatenate S3200000x27 1 [⟨S3200000x1, a⟩, ⟨S3200000x24, b⟩, ⟨S3200000x1, c⟩, ⟨S3200000x1, d⟩] concatenates_S3200000x1_S3200000x24_S3200000x1_S3200000x1_S3200000x27_d1

/-- The first result. -/
def rad (A : IVec S100000x2 32) (T : FVec F S100x12 .f32) (P : IVec S3200000x2 32) (D : FVec F S3200000 .f32) : FVec F S3200000x27 .f32 :=
  joined (dist D)
    (shapeCast S3200000x24 (replaced (taken T (nums A P)) (quotient (taken T (nums A P)) D)) shapeCasts_S3200000x2x12_S3200000x24)
    (Host.divf (mulf (dist D) (dist D)) five) (Host.divf five (dist D))

/-- The second result. -/
def firsts (P : IVec S3200000x2 32) : IVec S3200000 32 :=
  shapeCast S3200000 (extractStridedSlice S3200000x1 ![0, 0] P slices_S3200000x2_S3200000x1_0_0) shapeCasts_S3200000x1_S3200000

theorem numbers (V : Valuation τ sig (Elt F)) : after opsA V (main_v10 : DevRef τ sig) = nums (V (main_arg0 : DevRef τ sig)) (V (main_arg2 : DevRef τ sig)) := by
  after_results_simp
  rfl

set_option maxRecDepth 100000 in
theorem take (V : Valuation τ sig (Elt F)) : after opsT V (main_v11 : DevRef τ sig) = taken (V (main_arg1 : DevRef τ sig)) (V (main_v10 : DevRef τ sig)) := by
  after_results_simp
  simp only [TRef.ofBuf_toBuf]
  have e : ∀ v, (TRef.of main_v10 : TRef sig ⟨S3200000x2, .i32⟩).ofBuf (Val := Elt F) v = v := fun _ => rfl
  have e' : ∀ v, (TRef.of main_arg1 : TRef sig ⟨S100x12, .f32⟩).ofBuf (Val := Elt F) v = v := fun _ => rfl
  have e'' : ∀ v, (TRef.of main_v11 : TRef sig ⟨S3200000x2x12, .f32⟩).toBuf (Val := Elt F) v = v := fun _ => rfl
  rw [e'', e']
  simp only [e]
  unfold taken inside rows wrap
  with_reducible rfl

theorem piece_0 (V : Valuation τ sig (Elt F)) : after opsB V (main_v12 : DevRef τ sig) = dist (V (main_arg3 : DevRef τ sig)) := by
  after_results_simp
  rfl

theorem piece_1 (V : Valuation τ sig (Elt F)) : after opsB V (main_v19 : DevRef τ sig)
    = shapeCast S3200000x24 (replaced (V (main_v11 : DevRef τ sig)) (quotient (V (main_v11 : DevRef τ sig)) (V (main_arg3 : DevRef τ sig)))) shapeCasts_S3200000x2x12_S3200000x24 := by
  after_results_simp
  rfl

theorem piece_2 (V : Valuation τ sig (Elt F)) : after opsB V (main_v22 : DevRef τ sig)
    = Host.divf (mulf (dist (V (main_arg3 : DevRef τ sig))) (dist (V (main_arg3 : DevRef τ sig)))) five := by
  after_results_simp
  rfl

theorem piece_3 (V : Valuation τ sig (Elt F)) : after opsB V (main_v24 : DevRef τ sig) = Host.divf five (dist (V (main_arg3 : DevRef τ sig))) := by
  after_results_simp
  rfl

theorem join (V : Valuation τ sig (Elt F)) : after opsC V (main_v25 : DevRef τ sig)
    = joined (V (main_v12 : DevRef τ sig)) (V (main_v19 : DevRef τ sig)) (V (main_v22 : DevRef τ sig)) (V (main_v24 : DevRef τ sig)) := by
  simp only [after_cons, after_nil]
  rfl

theorem after_two (l₁ l₂ : List (HloOp τ sig (Elt F))) (V : Valuation τ sig (Elt F)) : after (l₁ ++ l₂) V = after l₂ (after l₁ V) := by
  induction l₁ generalizing V with
  | nil => rfl
  | cons o l ih => exact ih _

theorem out_rad (V : Valuation τ sig (Elt F)) : after ops V (main_v25 : DevRef τ sig)
    = rad (V (main_arg0 : DevRef τ sig)) (V (main_arg1 : DevRef τ sig)) (V (main_arg2 : DevRef τ sig)) (V (main_arg3 : DevRef τ sig)) := by
  have a1 : after opsA V (main_arg1 : DevRef τ sig) = V (main_arg1 : DevRef τ sig) := by after_results_simp
  have a3 : after opsA V (main_arg3 : DevRef τ sig) = V (main_arg3 : DevRef τ sig) := by after_results_simp
  have t3 : ∀ W : Valuation τ sig (Elt F), after opsT W (main_arg3 : DevRef τ sig) = W (main_arg3 : DevRef τ sig) := fun W => by after_results_simp
  unfold rad
  rw [after_two, after_two, after_two, join, piece_0, piece_1, piece_2, piece_3, take, t3, numbers, a1, a3]

theorem out_firsts (V : Valuation τ sig (Elt F)) : after ops V (main_v27 : DevRef τ sig) = firsts (V (main_arg2 : DevRef τ sig)) := by
  simp only [after_cons, after_nil, List.cons_append, List.nil_append]
  rfl

end Cert.Proof.Ref
-- ==== Proof.RefValues.lean ====
/-
  The reference's first result, entry by entry.
-/
module

public import Idealize.ShloMosaic.Lib.ValueIdxCore
public import Idealize.ShloMosaic.Lib.Pipeline.Value
public import Idealize.ShloMosaic.Lib.KernelVsHost
public import Idealize.ShloMosaic.Lib.ReduceAll
public import proofs.«01_k».proof.Proof.Ref

@[expose] public section

noncomputable section

namespace Cert.Proof.Ref

open Idealize.ShloMosaic Idealize.ShloMosaic.ValueIdx
open Cert.ReferenceIdeal Cert.ReferenceIdeal.Gen

variable {F : FTy → Type} [FloatOps F]

/-! ### An update written at places apart from one another -/

section Writes

variable {α ι κ : Type} [DecidableEq ι]

/-- A place no write names keeps its entry. -/
theorem writes_off (g : κ → ι) (v : κ → α) (i : ι) (L : List κ) (h : ∀ n ∈ L, i ≠ g n) (x : ι → α) :
    L.foldl (fun r n => fun i' => if i' = g n then v n else r i') x i = x i := by
  induction L generalizing x with
  | nil => rfl
  | cons a L ih =>
    rw [List.foldl_cons, ih fun n hn => h n (List.mem_cons_of_mem a hn)]
    exact if_neg (h a (List.mem_cons_self))

/-- A place one write names takes what it writes. -/
theorem writes_on (g : κ → ι) (hg : Function.Injective g) (v : κ → α) (n : κ) (L : List κ) (hn : n ∈ L) (x : ι → α) :
    L.foldl (fun r n => fun i' => if i' = g n then v n else r i') x (g n) = v n := by
  induction L generalizing x with
  | nil => exact absurd hn List.not_mem_nil
  | cons a L ih =>
    rw [List.foldl_cons]
    by_cases hL : n ∈ L
    · exact ih hL _
    · have ha : n = a := (List.mem_cons.1 hn).resolve_right hL
      rw [writes_off g v (g n) L fun k hk e => hL (hg e ▸ hk)]
      subst ha
      exact if_pos rfl

end Writes

section Scattered

variable {α : Type} {s si u : Shape} {w : ℕ}

theorem scatter_on (d : ScatterDims s si u) (x : s.Idx → α) (idx : IVec si w) (upd : u.Idx → α) (land : u.Idx → s.Idx)
    (hl : ∀ j, d.resultIdx? j idx = some (land j)) (hi : Function.Injective land) (j : u.Idx) :
    Host.scatter d (fun _ b => b) x idx upd (land j) = upd j := by
  unfold Host.scatter
  simp only [hl]
  have h := writes_on (fun n => land (u.rowMajor.symm n)) (hi.comp u.rowMajor.symm.injective) (fun n => upd (u.rowMajor.symm n))
    (u.rowMajor j) _ (List.mem_finRange _) x
  simp only [Equiv.symm_apply_apply] at h
  exact h

theorem scatter_off (d : ScatterDims s si u) (x : s.Idx → α) (idx : IVec si w) (upd : u.Idx → α) (land : u.Idx → s.Idx)
    (hl : ∀ j, d.resultIdx? j idx = some (land j)) (i : s.Idx) (h : ∀ j, i ≠ land j) :
    Host.scatter d (fun _ b => b) x idx upd i = x i := by
  unfold Host.scatter
  simp only [hl]
  exact writes_off (fun n => land (u.rowMajor.symm n)) (fun n => upd (u.rowMajor.symm n)) i _ (fun n _ => h _) x

end Scattered

/-- Where the replacement's entry lands: at the second neighbour. -/
def second (j : S3200000x12.Idx) : S3200000x2x12.Idx := ix3 (j 0) (1 : Fin 2) (j 1)

theorem second_injective : Function.Injective second := fun a b h => by
  have h0 := congrFun h 0
  have h2 := congrFun h 2
  rw [eq_ix2 a, eq_ix2 b]
  exact congr (congrArg ix2 h0) h2

theorem lands (j : S3200000x12.Idx) :
    scatter_S3200000x2x12_S1_S3200000x12_01_1_1_0.resultIdx? j (broadcastInDim S1 ![] bcast_S_S1 (constantI S_ 32 1#32)) = some (second j) := by
  have e : ∀ a : Fin 3, scatter_S3200000x2x12_S1_S3200000x12_01_1_1_0.start j (broadcastInDim S1 ![] bcast_S_S1 (constantI S_ 32 1#32)) a
      + (scatter_S3200000x2x12_S1_S3200000x12_01_1_1_0.window j a : Int) = ((second j a).val : Int) := by
    intro a
    match a with
    | ⟨0, _⟩ => exact Int.zero_add _
    | ⟨1, _⟩ => rfl
    | ⟨2, _⟩ => exact Int.zero_add _
  unfold ScatterDims.resultIdx?
  rw [dif_pos fun a => by rw [e a]; exact ⟨Int.natCast_nonneg _, Int.ofNat_lt.2 (second j a).isLt⟩]
  refine congrArg some (funext fun a => Fin.ext ?_)
  show (_ + _ : Int).toNat = _
  rw [e a]
  exact Int.toNat_natCast _

theorem replaced_first (N : FVec F S3200000x2x12 .f32) (U : FVec F S3200000x12 .f32) (r : Fin 3200000) (c : Fin 12) :
    replaced N U (ix3 r (0 : Fin 2) c) = N (ix3 r (0 : Fin 2) c) :=
  scatter_off _ _ _ _ second lands _ fun j h => absurd (congrFun h 1) (by
    show ¬((0 : Fin 2) = (1 : Fin 2))
    decide)

theorem replaced_second (N : FVec F S3200000x2x12 .f32) (U : FVec F S3200000x12 .f32) (r : Fin 3200000) (c : Fin 12) :
    replaced N U (ix3 r (1 : Fin 2) c) = U (ix2 r c) :=
  scatter_on _ _ _ _ second lands second_injective (ix2 r c)

/-! ### Indices in their range -/

theorem toInt_of_lt {P : BitVec 32} {n : ℕ} (hn : n ≤ 2147483648) (h : P.toNat < n) : P.toInt = P.toNat :=
  BitVec.toInt_eq_toNat_of_lt (by omega)

theorem wrap_apply (n : BitVec 32) (P : IVec S3200000x2 32) (x : S3200000x2.Idx) (h : (P x).toNat < 2147483648) : wrap n P x = P x := by
  show Scalar.select (IntOp.cmpi .slt (P x) 0#32) (P x + n) (P x) = P x
  have e : IntOp.cmpi .slt (P x) 0#32 = 0#1 := eq_zero_of_ne_one fun e => by
    have := IntOp.cmpi_slt.1 e
    rw [toInt_of_lt le_rfl h] at this
    simp at this
    omega
  rw [e]
  rfl

/-- A pair's place in the column of rows. -/
abbrev col (x : S3200000x2.Idx) : S3200000x2x1.Idx := ix3 (x 0) (x 1) (0 : Fin 1)

theorem columns {α : Type} (z : S3200000x2.Idx → α) (x : S3200000x2.Idx) :
    broadcastInDim S3200000x2x1 ![0, 1] bcast_S3200000x2_S3200000x2x1_0_1 z (col x) = z x :=
  broadcastInDim_apply _ _ _ _ _ fun a => by
    match a with
    | ⟨0, _⟩ => rfl
    | ⟨1, _⟩ => rfl

section Both

variable (a b : IVec S3200000x2x1 32) (x : S3200000x2.Idx)

theorem both_first : concatenate S3200000x2x2 2 [⟨S3200000x2x1, a⟩, ⟨S3200000x2x1, b⟩] concatenates_S3200000x2x1_S3200000x2x1_S3200000x2x2_d2
    (ix3 (x 0) (x 1) (0 : Fin 2)) = a (col x) := by
  refine concatenate_apply_piece (t := S3200000x2x2) 2 [⟨S3200000x2x1, a⟩, ⟨S3200000x2x1, b⟩] _ _ 0 (by decide : 0 < 2) S3200000x2x1 a rfl rfl 0 rfl (col x) ?_ rfl
  intro b hb
  match b with
  | ⟨0, _⟩ => rfl
  | ⟨1, _⟩ => rfl
  | ⟨2, _⟩ => exact absurd rfl hb

theorem both_second : concatenate S3200000x2x2 2 [⟨S3200000x2x1, a⟩, ⟨S3200000x2x1, b⟩] concatenates_S3200000x2x1_S3200000x2x1_S3200000x2x2_d2
    (ix3 (x 0) (x 1) (1 : Fin 2)) = b (col x) := by
  refine concatenate_apply_piece (t := S3200000x2x2) 2 [⟨S3200000x2x1, a⟩, ⟨S3200000x2x1, b⟩] _ _ 1 (by decide : 1 < 2) S3200000x2x1 b rfl rfl 1 rfl (col x) ?_ rfl
  intro b hb
  match b with
  | ⟨0, _⟩ => rfl
  | ⟨1, _⟩ => rfl
  | ⟨2, _⟩ => exact absurd rfl hb

end Both

theorem pairs_row (P : IVec S3200000x2 32) (x : S3200000x2.Idx) (h : (P x).toNat < 2147483648) : pairs P (ix3 (x 0) (x 1) (0 : Fin 2)) = P x :=
  (both_first _ _ x).trans ((columns _ x).trans (wrap_apply _ P x h))

theorem pairs_column (P : IVec S3200000x2 32) (x : S3200000x2.Idx) : pairs P (ix3 (x 0) (x 1) (1 : Fin 2)) = 1#32 :=
  (both_second _ _ x).trans (columns _ x)

/-- An atom's number: the second word of its row. -/
theorem nums_apply (A : IVec S100000x2 32) (P : IVec S3200000x2 32) (x : S3200000x2.Idx) (h : (P x).toNat < 100000) :
    nums A P x = A (ix2 (⟨(P x).toNat, h⟩ : Fin 100000) (1 : Fin 2)) := by
  unfold nums Host.gather
  refine congrArg A (funext fun a => Fin.ext ?_)
  show gather_S100000x2_S3200000x2x2_S3200000x2_n_01_n_n_01_2_11.start x (pairs P) a
    + gather_S100000x2_S3200000x2x2_S3200000x2_n_01_n_n_01_2_11.batchCoord x a
    + gather_S100000x2_S3200000x2x2_S3200000x2_n_01_n_n_01_2_11.offCoord x a = _
  have ha : a ∈ ([0, 1] : List (Fin 2)) := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ fun h => ((GatherDims.mem_sKept _ _).mp h).1 ha]
  unfold GatherDims.start
  rw [dif_pos (show a ∈ gather_S100000x2_S3200000x2x2_S3200000x2_n_01_n_n_01_2_11.startIndexMap from ha)]
  match a with
  | ⟨0, _⟩ =>
    have hs : gather_S100000x2_S3200000x2x2_S3200000x2_n_01_n_n_01_2_11.siIdx x
        ⟨List.idxOf (0 : Fin 2) gather_S100000x2_S3200000x2x2_S3200000x2_n_01_n_n_01_2_11.startIndexMap,
          List.idxOf_lt_length_iff.2 ha⟩ = ix3 (x 0) (x 1) (0 : Fin 2) := by
      funext b
      refine Fin.ext ?_
      match b with
      | ⟨0, _⟩ => rfl
      | ⟨1, _⟩ => rfl
      | ⟨2, _⟩ => rfl
    show min (pairs P (gather_S100000x2_S3200000x2x2_S3200000x2_n_01_n_n_01_2_11.siIdx x
        ⟨List.idxOf (0 : Fin 2) gather_S100000x2_S3200000x2x2_S3200000x2_n_01_n_n_01_2_11.startIndexMap,
          List.idxOf_lt_length_iff.2 ha⟩)).toInt.toNat 99999 + 0 + 0 = (P x).toNat
    refine (congrArg (fun w : BitVec 32 => min w.toInt.toNat 99999 + 0 + 0) ((congrArg (pairs P) hs).trans (pairs_row P x (by omega)))).trans ?_
    show min (P x).toInt.toNat 99999 + 0 + 0 = (P x).toNat
    rw [toInt_of_lt (by decide) h]
    simp only [Int.toNat_natCast]
    omega
  | ⟨1, _⟩ =>
    have hs : gather_S100000x2_S3200000x2x2_S3200000x2_n_01_n_n_01_2_11.siIdx x
        ⟨List.idxOf (1 : Fin 2) gather_S100000x2_S3200000x2x2_S3200000x2_n_01_n_n_01_2_11.startIndexMap,
          List.idxOf_lt_length_iff.2 ha⟩ = ix3 (x 0) (x 1) (1 : Fin 2) := by
      funext b
      refine Fin.ext ?_
      match b with
      | ⟨0, _⟩ => rfl
      | ⟨1, _⟩ => rfl
      | ⟨2, _⟩ => rfl
    show min (pairs P (gather_S100000x2_S3200000x2x2_S3200000x2_n_01_n_n_01_2_11.siIdx x
        ⟨List.idxOf (1 : Fin 2) gather_S100000x2_S3200000x2x2_S3200000x2_n_01_n_n_01_2_11.startIndexMap,
          List.idxOf_lt_length_iff.2 ha⟩)).toInt.toNat 1 + 0 + 0 = 1
    exact congrArg (fun w : BitVec 32 => min w.toInt.toNat 1 + 0 + 0) ((congrArg (pairs P) hs).trans (pairs_column P x))

theorem inside_one (N : IVec S3200000x2 32) (h : ∀ x, (N x).toNat < 100) (x : S3200000x2.Idx) : inside N x = 1#1 := by
  unfold inside
  refine Host.reduce_andi_one _ _ _ _ _ rfl fun i => ?_
  have hi : i = col (ix2 (i 0) (i 1)) := by
    rw [eq_ix3 i]
    exact congrArg (ix3 _ _) (Subsingleton.elim (α := Fin 1) _ _)
  have hr : rows N i = N (ix2 (i 0) (i 1)) := by
    rw [hi]
    exact (columns _ (ix2 (i 0) (i 1))).trans (wrap_apply _ N _ ((h _).trans (by decide)))
  have hn := toInt_of_lt (by decide) (h (ix2 (i 0) (i 1)))
  show IntOp.andi (IntOp.cmpi .sge (rows N i) 0#32) (IntOp.cmpi .sle (rows N i) 99#32) = 1#1
  have h0 : IntOp.cmpi .sge (rows N i) 0#32 = 1#1 := IntOp.cmpi_sge.2 (by
    rw [hr, hn]
    exact Int.natCast_nonneg _)
  have h1 : IntOp.cmpi .sle (rows N i) 99#32 = 1#1 := IntOp.cmpi_sle.2 (by
    rw [hr, hn]
    have := h (ix2 (i 0) (i 1))
    show ((N (ix2 (i 0) (i 1))).toNat : Int) ≤ 99
    omega)
  rw [h0, h1]
  rfl

/-- A neighbour's feature: the table's, of the row its number names. -/
theorem taken_apply (T : FVec F S100x12 .f32) (N : IVec S3200000x2 32) (h : ∀ x, (N x).toNat < 100) (r : Fin 3200000) (k : Fin 2) (c : Fin 12) :
    taken T N (ix3 r k c) = T (ix2 (⟨(N (ix2 r k)).toNat, h _⟩ : Fin 100) c) := by
  unfold taken
  rw [select_apply, broadcastInDim_apply _ _ (inside N) (ix3 r k c) (ix2 r k) fun a => by
    match a with
    | ⟨0, _⟩ => rfl
    | ⟨1, _⟩ => rfl, inside_one N h, select_one]
  unfold Host.gather
  refine congrArg T (funext fun a => Fin.ext ?_)
  show gather_S100x12_S3200000x2x1_S3200000x2x12_2_0_n_n_0_2_112.start (ix3 r k c) (rows N) a
    + gather_S100x12_S3200000x2x1_S3200000x2x12_2_0_n_n_0_2_112.batchCoord (ix3 r k c) a
    + gather_S100x12_S3200000x2x1_S3200000x2x12_2_0_n_n_0_2_112.offCoord (ix3 r k c) a = _
  rw [GatherDims.batchCoord_eq_zero _ _ _ List.not_mem_nil]
  match a with
  | ⟨0, _⟩ =>
    have ha : (0 : Fin 2) ∈ ([0] : List (Fin 2)) := List.mem_cons_self
    have ho : gather_S100x12_S3200000x2x1_S3200000x2x12_2_0_n_n_0_2_112.offCoord (ix3 r k c) (0 : Fin 2) = 0 :=
      GatherDims.offCoord_eq_zero _ _ _ fun h => ((GatherDims.mem_sKept _ _).mp h).1 ha
    have hs : gather_S100x12_S3200000x2x1_S3200000x2x12_2_0_n_n_0_2_112.siIdx (ix3 r k c)
        ⟨List.idxOf (0 : Fin 2) gather_S100x12_S3200000x2x1_S3200000x2x12_2_0_n_n_0_2_112.startIndexMap,
          List.idxOf_lt_length_iff.2 ha⟩ = col (ix2 r k) := by
      funext b
      refine Fin.ext ?_
      match b with
      | ⟨0, _⟩ => rfl
      | ⟨1, _⟩ => rfl
      | ⟨2, _⟩ => rfl
    have hr : rows N (col (ix2 r k)) = N (ix2 r k) :=
      (columns _ (ix2 r k)).trans (wrap_apply _ N _ ((h _).trans (by decide)))
    have hst : gather_S100x12_S3200000x2x1_S3200000x2x12_2_0_n_n_0_2_112.start (ix3 r k c) (rows N) (0 : Fin 2) = (N (ix2 r k)).toNat := by
      unfold GatherDims.start
      rw [dif_pos (show (0 : Fin 2) ∈ gather_S100x12_S3200000x2x1_S3200000x2x12_2_0_n_n_0_2_112.startIndexMap from ha), hs, hr,
        toInt_of_lt (by decide) (h (ix2 r k)), Int.toNat_natCast]
      have := h (ix2 r k)
      show min (N (ix2 r k)).toNat 99 = _
      omega
    show gather_S100x12_S3200000x2x1_S3200000x2x12_2_0_n_n_0_2_112.start (ix3 r k c) (rows N) (0 : Fin 2) + 0
      + gather_S100x12_S3200000x2x1_S3200000x2x12_2_0_n_n_0_2_112.offCoord (ix3 r k c) (0 : Fin 2) = (N (ix2 r k)).toNat
    rw [hst, ho]
    rfl
  | ⟨1, _⟩ =>
    have hst : gather_S100x12_S3200000x2x1_S3200000x2x12_2_0_n_n_0_2_112.start (ix3 r k c) (rows N) (1 : Fin 2) = 0 := by
      unfold GatherDims.start
      exact dif_neg (show (1 : Fin 2) ∉ ([0] : List (Fin 2)) by decide)
    show gather_S100x12_S3200000x2x1_S3200000x2x12_2_0_n_n_0_2_112.start (ix3 r k c) (rows N) (1 : Fin 2) + 0
      + gather_S100x12_S3200000x2x1_S3200000x2x12_2_0_n_n_0_2_112.offCoord (ix3 r k c) (1 : Fin 2) = c.val
    rw [hst]
    exact Nat.zero_add _

/-! ### The columns -/

theorem dist_apply (D : FVec F S3200000 .f32) (r : Fin 3200000) : dist D (ix2 r (0 : Fin 1)) = D (ix1 r) :=
  broadcastInDim_apply _ _ _ _ _ fun a => by
    match a with
    | ⟨0, _⟩ => rfl

theorem quotient_apply (N : FVec F S3200000x2x12 .f32) (D : FVec F S3200000 .f32) (r : Fin 3200000) (c : Fin 12) :
    quotient N D (ix2 r c) = FloatOps.hostDivf (N (ix3 r (1 : Fin 2) c)) (D (ix1 r)) := by
  show FloatOps.hostDivf (shapeCast S3200000x12 _ _ (ix2 r c)) (broadcastInDim S3200000x12 ![0, 1] bcast_S3200000x1_S3200000x12_0_1 (dist D) (ix2 r c)) = _
  congr 1
  · refine (shapeCast_apply _ _ _ (ix3 r (0 : Fin 1) c) ?_).trans (extractStridedSlice_apply _ _ _ _ _ fun a => ?_)
    · rw [Shape.rowMajor_val_three, Shape.rowMajor_val_two]
      show (r.val * 1 + 0) * 12 + c.val = r.val * 12 + c.val
      omega
    · match a with
      | ⟨0, _⟩ => exact (Nat.zero_add _).symm
      | ⟨1, _⟩ => rfl
      | ⟨2, _⟩ => exact (Nat.zero_add _).symm
  · exact (broadcastInDim_apply _ _ _ _ (ix2 r (0 : Fin 1)) fun a => by
      match a with
      | ⟨0, _⟩ => rfl
      | ⟨1, _⟩ => rfl).trans (dist_apply D r)

/-- The features' row, flat. -/
theorem flat (N : FVec F S3200000x2x12 .f32) (r : Fin 3200000) (k : Fin 2) (c : Fin 12) (e : Fin 24) (he : e.val = k.val * 12 + c.val) :
    shapeCast S3200000x24 N shapeCasts_S3200000x2x12_S3200000x24 (ix2 r e) = N (ix3 r k c) :=
  shapeCast_apply _ _ _ _ (by
    rw [Shape.rowMajor_val_three, Shape.rowMajor_val_two]
    show (r.val * 2 + k.val) * 12 + c.val = r.val * 24 + e.val
    omega)

section Joined

variable (a : FVec F S3200000x1 .f32) (b : FVec F S3200000x24 .f32) (c d : FVec F S3200000x1 .f32) (r : Fin 3200000)

theorem joined_0 : joined a b c d (ix2 r (0 : Fin 27)) = a (ix2 r (0 : Fin 1)) := by
  unfold joined
  refine concatenate_apply_piece (t := S3200000x27) 1 [⟨S3200000x1, a⟩, ⟨S3200000x24, b⟩, ⟨S3200000x1, c⟩, ⟨S3200000x1, d⟩] _ _ 0 (by decide : 0 < 4) S3200000x1 a rfl rfl 0 rfl (ix2 r (0 : Fin 1)) ?_ rfl
  intro b hb
  match b with
  | ⟨0, _⟩ => rfl
  | ⟨1, _⟩ => exact absurd rfl hb

theorem joined_1 (e : Fin 24) (k : Fin 27) (hk : k.val = 1 + e.val) : joined a b c d (ix2 r k) = b (ix2 r e) := by
  unfold joined
  refine concatenate_apply_piece (t := S3200000x27) 1 [⟨S3200000x1, a⟩, ⟨S3200000x24, b⟩, ⟨S3200000x1, c⟩, ⟨S3200000x1, d⟩] _ _ 1 (by decide : 1 < 4) S3200000x24 b rfl rfl 1 rfl (ix2 r e) ?_ ?_
  · intro b hb
    match b with
    | ⟨0, _⟩ => rfl
    | ⟨1, _⟩ => exact absurd rfl hb
  · exact hk.symm

theorem joined_25 : joined a b c d (ix2 r (25 : Fin 27)) = c (ix2 r (0 : Fin 1)) := by
  unfold joined
  refine concatenate_apply_piece (t := S3200000x27) 1 [⟨S3200000x1, a⟩, ⟨S3200000x24, b⟩, ⟨S3200000x1, c⟩, ⟨S3200000x1, d⟩] _ _ 2 (by decide : 2 < 4) S3200000x1 c rfl rfl 25 rfl (ix2 r (0 : Fin 1)) ?_ rfl
  intro b hb
  match b with
  | ⟨0, _⟩ => rfl
  | ⟨1, _⟩ => exact absurd rfl hb

theorem joined_26 : joined a b c d (ix2 r (26 : Fin 27)) = d (ix2 r (0 : Fin 1)) := by
  unfold joined
  refine concatenate_apply_piece (t := S3200000x27) 1 [⟨S3200000x1, a⟩, ⟨S3200000x24, b⟩, ⟨S3200000x1, c⟩, ⟨S3200000x1, d⟩] _ _ 3 (by decide : 3 < 4) S3200000x1 d rfl rfl 26 rfl (ix2 r (0 : Fin 1)) ?_ rfl
  intro b hb
  match b with
  | ⟨0, _⟩ => rfl
  | ⟨1, _⟩ => exact absurd rfl hb

end Joined

/-! ### The first result's columns -/

section Rad

variable (A : IVec S100000x2 32) (T : FVec F S100x12 .f32) (P : IVec S3200000x2 32) (D : FVec F S3200000 .f32) (r : Fin 3200000)

theorem rad_0 : rad A T P D (ix2 r (0 : Fin 27)) = D (ix1 r) := (joined_0 _ _ _ _ r).trans (dist_apply D r)

theorem rad_25 : rad A T P D (ix2 r (25 : Fin 27))
    = FloatOps.hostDivf (FloatOps.mulf (D (ix1 r)) (D (ix1 r))) (Scalar.ofBits .f32 0x40A00000#32 : F .f32) := by
  refine (joined_25 _ _ _ _ r).trans ?_
  show FloatOps.hostDivf (FloatOps.mulf (dist D (ix2 r (0 : Fin 1))) (dist D (ix2 r (0 : Fin 1)))) _ = _
  rw [dist_apply]
  rfl

theorem rad_26 : rad A T P D (ix2 r (26 : Fin 27)) = FloatOps.hostDivf (Scalar.ofBits .f32 0x40A00000#32 : F .f32) (D (ix1 r)) := by
  refine (joined_26 _ _ _ _ r).trans ?_
  show FloatOps.hostDivf _ (dist D (ix2 r (0 : Fin 1))) = _
  rw [dist_apply]
  rfl

variable (hP : ∀ x, (P x).toNat < 100000) (hA : ∀ x, (A x).toNat < 100)
include hP hA

theorem nums_lt (x : S3200000x2.Idx) : (nums A P x).toNat < 100 := by
  rw [nums_apply A P x (hP x)]
  exact hA _

/-- The feature of the neighbour a pair names. -/
theorem feature (k : Fin 2) (c : Fin 12) : taken T (nums A P) (ix3 r k c)
    = T (ix2 (⟨(A (ix2 (⟨(P (ix2 r k)).toNat, hP _⟩ : Fin 100000) (1 : Fin 2))).toNat, hA _⟩ : Fin 100) c) := by
  refine (taken_apply T (nums A P) (nums_lt A P hP hA) r k c).trans (congrArg (fun n => T (ix2 n c)) (Fin.ext ?_))
  exact congrArg BitVec.toNat (nums_apply A P (ix2 r k) (hP _))

theorem rad_first (c : Fin 12) (k : Fin 27) (hk : k.val = 1 + c.val) : rad A T P D (ix2 r k)
    = T (ix2 (⟨(A (ix2 (⟨(P (ix2 r (0 : Fin 2))).toNat, hP _⟩ : Fin 100000) (1 : Fin 2))).toNat, hA _⟩ : Fin 100) c) :=
  (joined_1 _ _ _ _ r ⟨c.val, by omega⟩ k hk).trans ((flat _ r 0 c _ (Nat.zero_add _).symm).trans
    ((replaced_first _ _ r c).trans (feature A T P r hP hA 0 c)))

theorem rad_second (c : Fin 12) (k : Fin 27) (hk : k.val = 13 + c.val) : rad A T P D (ix2 r k)
    = FloatOps.hostDivf (T (ix2 (⟨(A (ix2 (⟨(P (ix2 r (1 : Fin 2))).toNat, hP _⟩ : Fin 100000) (1 : Fin 2))).toNat, hA _⟩ : Fin 100) c)) (D (ix1 r)) :=
  (joined_1 _ _ _ _ r ⟨12 + c.val, by omega⟩ k (by rw [hk]; show 13 + c.val = 1 + (12 + c.val); omega)).trans ((flat _ r 1 c _ rfl).trans
    ((replaced_second _ _ r c).trans ((quotient_apply _ D r c).trans
      (congrArg (fun f => FloatOps.hostDivf f (D (ix1 r))) (feature A T P r hP hA 1 c)))))

end Rad

end Cert.Proof.Ref
-- ==== Proof.Algebraic.lean ====
/-
  Over the extended reals the kernel leaves what the reference leaves.
-/
module

public import Idealize.ShloMosaic.Lib.IdealHost
public import proofs.«01_k».proof.Proof.Frames
public import proofs.«01_k».proof.Proof.RefValues

@[expose] public section

noncomputable section

namespace Cert.Proof.Algebraic

open Idealize.ShloMosaic Idealize.ShloMosaic.TcCoe Idealize.ShloMosaic.ValueIdx Idealize.ShloMosaic.StableHlo
open Cert.KernelIdeal Cert.KernelIdeal.Gen
open Cert.Proof.Host Cert.Proof.Main Cert.Proof.Values
open Cert.Proof.Stage2 (at2)

/-- The constant the kernel names is the constant it stands for. -/
theorem named_fifth : Cert.preserves_Kernel_KernelIdeal :=
  IdealRules.named_const.statement _ _ _ _ _ rfl

/-! ### Quotients, as the kernel takes them -/

theorem five_eq : (Scalar.ofBits .f32 0x40A00000#32 : Ideal .f32) = ((5 : ℝ) : EReal) := by
  show Ideal.ofBits .f32 0x40A00000#32 = ((5 : ℝ) : EReal)
  simp [Ideal.ofBits, Ideal.ieee, -EReal.coe_mul]; norm_num

theorem fifth_eq : (Named.named κ "fifth" 0x3E4CCCCD#32 : Ideal .f32) = ((5⁻¹ : ℝ) : EReal) :=
  IdealRules.named_const.ideal_named_scalar _ _ _ _ rfl

theorem zero_eq : (Scalar.ofBits .f32 0x00000000#32 : Ideal .f32) = (0 : EReal) := by
  show Ideal.ofBits .f32 0x00000000#32 = (0 : EReal)
  simp [Ideal.ofBits, Ideal.ieee]

theorem over_eq (d : Ideal .f32) (hd : (d : EReal) ≠ 0) : (Stage2.over d : EReal) = (d : EReal)⁻¹ := by
  show Ideal.div (Ideal.ofBits .f32 0x3F800000#32) d = _
  rw [Ideal.ofBits_one_f32, Ideal.div, if_neg hd, one_mul]

/-- A product with the reciprocal is the quotient. -/
theorem mul_over (f d : Ideal .f32) (hd : (d : EReal) ≠ 0) : FloatOps.mulf f (Stage2.over d) = FloatOps.hostDivf f d := by
  show (f : EReal) * (Stage2.over d : EReal) = Ideal.div f d
  rw [over_eq d hd, Ideal.div, if_neg hd]

/-- A product with the named fifth is the quotient by five. -/
theorem mul_fifth (f : Ideal .f32) :
    FloatOps.mulf f (Named.named κ "fifth" 0x3E4CCCCD#32 : Ideal .f32) = FloatOps.hostDivf f (Scalar.ofBits .f32 0x40A00000#32 : Ideal .f32) := by
  rw [fifth_eq, five_eq]
  show (f : EReal) * ((5⁻¹ : ℝ) : EReal) = Ideal.div f ((5 : ℝ) : EReal)
  rw [Ideal.div, if_neg (by norm_num), EReal.coe_inv]

/-! ### The results -/

theorem at2_eq {A B : ℕ} (a b : ℕ) (ha : a < A) (hb : b < B) : (at2 a b ha hb : (⟨2, ![A, B]⟩ : Shape).Idx) = ix2 ⟨a, ha⟩ ⟨b, hb⟩ := by
  funext k
  match k with
  | ⟨0, _⟩ => rfl
  | ⟨1, _⟩ => rfl

theorem at1_eq {A : ℕ} (a : ℕ) (ha : a < A) : (at1 a ha : (⟨1, ![A]⟩ : Shape).Idx) = ix1 ⟨a, ha⟩ := by
  funext k
  match k with
  | ⟨0, _⟩ => rfl

variable (m : (ℓ : Loc nD τ sig) → Buf (Elt Ideal) ℓ) (d : Dev nD)

/-- The feature of the neighbour `k` of a pair, by its coordinates. -/
theorem feature_at (h : InRange m) (r : Fin 3200000) (k : Fin 2) (c : Fin 12) :
    Stage2.feature (Stage1.result ((data m).T d) ((data m).A d)) (arg2 m d (ix2 r k)) c.val
      = arg1 m d (ix2 (⟨(arg0 m d (ix2 (⟨(arg2 m d (ix2 r k)).toNat, h.P d _⟩ : Fin 100000) (1 : Fin 2))).toNat, h.A d _⟩ : Fin 100) c) := by
  rw [feature_of m d h _ (h.P d _) c.val c.isLt, at2_eq]
  refine congrArg (fun n => arg1 m d (ix2 n c)) (Fin.ext ?_)
  exact congrArg (fun x => (arg0 m d x).toNat) (at2_eq _ _ _ _)

theorem rows_eq (h : InRange m) (hd : ∀ x, (arg3 m d x : EReal) ≠ 0) :
    (last m d (dr main_v33) : Vec Ideal S3200000x27 .f32) = Ref.rad (arg0 m d) (arg1 m d) (arg2 m d) (arg3 m d) := by
  funext x
  obtain ⟨r, c, rfl⟩ : ∃ r c, x = ix2 r c := ⟨_, _, eq_ix2 x⟩
  refine (rows_left m d (ix2 r c)).trans ?_
  have e0 : (at2 r.val 0 r.isLt (by decide) : S3200000x2.Idx) = ix2 r (0 : Fin 2) := at2_eq _ _ _ _
  have e1 : (at2 r.val 1 r.isLt (by decide) : S3200000x2.Idx) = ix2 r (1 : Fin 2) := at2_eq _ _ _ _
  have e2 : (at1 r.val r.isLt : S3200000.Idx) = ix1 r := at1_eq _ _
  show Stage2.cell (Stage1.result ((data m).T d) ((data m).A d)) (arg2 m d (at2 r.val 0 r.isLt (by decide))) (arg2 m d (at2 r.val 1 r.isLt (by decide)))
    (arg3 m d (at1 r.val r.isLt)) c.val = _
  rw [e0, e1, e2]
  unfold Stage2.cell
  have hc : c.val < 27 := c.isLt
  split_ifs with h0 h13 h25 h26
  · rw [show c = (0 : Fin 27) from Fin.ext h0]
    exact (Ref.rad_0 (F := Ideal) (arg0 m d) (arg1 m d) (arg2 m d) (arg3 m d) r).symm
  · refine (feature_at m d h r 0 ⟨c.val - 1, by omega⟩).trans ?_
    exact (Ref.rad_first (F := Ideal) (arg0 m d) (arg1 m d) (arg2 m d) (arg3 m d) r (h.P d) (h.A d) ⟨c.val - 1, by omega⟩ c (by show c.val = 1 + (c.val - 1); omega)).symm
  · refine (mul_over _ _ (hd _)).trans ?_
    refine (congrArg (fun f => FloatOps.hostDivf f (arg3 m d (ix1 r))) (feature_at m d h r 1 ⟨c.val - 13, by omega⟩)).trans ?_
    exact (Ref.rad_second (F := Ideal) (arg0 m d) (arg1 m d) (arg2 m d) (arg3 m d) r (h.P d) (h.A d) ⟨c.val - 13, by omega⟩ c (by show c.val = 13 + (c.val - 13); omega)).symm
  · rw [show c = (25 : Fin 27) from Fin.ext h26]
    exact (mul_fifth _).trans (Ref.rad_25 (F := Ideal) (arg0 m d) (arg1 m d) (arg2 m d) (arg3 m d) r).symm
  · rw [show c = (26 : Fin 27) from Fin.ext (by show c.val = 26; omega)]
    exact (mul_over _ _ (hd _)).trans (Ref.rad_26 (F := Ideal) (arg0 m d) (arg1 m d) (arg2 m d) (arg3 m d) r).symm

theorem firsts_eq : (last m d (dr main_v35) : Vec Ideal S3200000 .i32) = Ref.firsts (arg2 m d) := by
  funext y
  obtain ⟨r, rfl⟩ : ∃ r, y = ix1 r := ⟨_, eq_ix1 y⟩
  refine (firsts_left m d (ix1 r)).trans (Eq.trans (congrArg (arg2 m d) (at2_eq _ _ _ _)) (Eq.symm ?_))
  refine (shapeCast_apply _ _ _ (ix2 r (0 : Fin 1)) ?_).trans (extractStridedSlice_apply _ _ _ _ _ fun a => ?_)
  · rw [Shape.rowMajor_val_two, Shape.rowMajor_val_one]
    show r.val * 1 + 0 = r.val
    omega
  · match a with
    | ⟨0, _⟩ => exact (Nat.zero_add _).symm
    | ⟨1, _⟩ => rfl

theorem ne_zero (h : Cert.Pre_apart.fn (F := Ideal) (arg0 m d) (arg1 m d) (arg2 m d) (arg3 m d) = fun _ => 1#1) (x : S3200000.Idx) :
    (arg3 m d x : EReal) ≠ 0 := by
  have e := Pre.une_of_apart _ _ _ _ h x
  rw [zero_eq] at e
  intro hx
  have e' : Ideal.cmp .une (arg3 m d x) 0 = 1#1 := e
  simp [Ideal.cmp, hx] at e'

theorem algebraic : Cert.algebraic_KernelIdeal_ReferenceIdeal_pre_apart (hPre_apart := Pre.apart_facts) := by
  intro m g m' g' h hm
  have hr : InRange m := Frames.range_of m fun c => Pre.range_of_apart _ _ _ _ (h c)
  refine ⟨fun c => last m c (dr main_v33), fun c => last m c (dr main_v35), ?_, ?_⟩
  · refine (θ_run _ _ _).mono (fun r h' c => ?_) (run_main m g (ok_of_range m hr))
    obtain ⟨h0, h1, h2, h3⟩ := Frames.kept m c
    exact ⟨h'.1 c main_v33, h'.1 c main_v35, (h'.1 c main_arg0).trans h0, (h'.1 c main_arg1).trans h1, (h'.1 c main_arg2).trans h2, (h'.1 c main_arg3).trans h3⟩
  · refine (θ_run _ _ _).mono (fun r h' c => ?_) (Ref.run_main m' g')
    obtain ⟨h0, h1, h2, h3⟩ := Ref.arg_kept (launchContents m' c)
    obtain ⟨k0, k1, k2, k3⟩ := hm c
    refine ⟨(h' c _).trans ((Ref.out_rad _).trans ?_), (h' c _).trans ((Ref.out_firsts _).trans ?_), (h' c _).trans h0, (h' c _).trans h1,
      (h' c _).trans h2, (h' c _).trans h3⟩
    · refine Eq.trans ?_ (rows_eq m c hr (ne_zero m c (h c))).symm
      have l0 : launchContents m' c (Cert.ReferenceIdeal.main_arg0 : DevRef Cert.ReferenceIdeal.τ Cert.ReferenceIdeal.sig) = arg0 m c := k0
      have l1 : launchContents m' c (Cert.ReferenceIdeal.main_arg1 : DevRef Cert.ReferenceIdeal.τ Cert.ReferenceIdeal.sig) = arg1 m c := k1
      have l2 : launchContents m' c (Cert.ReferenceIdeal.main_arg2 : DevRef Cert.ReferenceIdeal.τ Cert.ReferenceIdeal.sig) = arg2 m c := k2
      have l3 : launchContents m' c (Cert.ReferenceIdeal.main_arg3 : DevRef Cert.ReferenceIdeal.τ Cert.ReferenceIdeal.sig) = arg3 m c := k3
      rw [l0, l1, l2, l3]
    · refine Eq.trans ?_ (firsts_eq m c).symm
      exact congrArg Ref.firsts k2

end Cert.Proof.Algebraic
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Words
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Pre.in_range_facts, Pre.apart_facts,
    Words.frame_words, Frames.frame_ideal, Frames.frame_apart, Ref.frame_plain, Ref.frame_apart, Algebraic.named_fifth, Algebraic.algebraic⟩

end Cert.Proof

end
